-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite [hPre_finite : Cert.Pre_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite [hPre_finite : Cert.Pre_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Kernel3Ideal_pre_finite [hKernel3Ideal : Cert.Kernel3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Reference3Ideal_pre_finite [hReference3Ideal : Cert.Reference3Ideal.Facts] [hPre_finite : Cert.Pre_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_v75) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v5_0)) (v1 : (c : Dev Cert.Kernel2Ideal.nD) → Buf (Elt Ideal) ((c.tc : Thread Cert.Kernel2Ideal.nD Cert.Kernel2Ideal.τ).loc Cert.Kernel2Ideal.main_v5_1)) (v2 : (c : Dev Cert.Kernel2Ideal.nD) → Buf (Elt Ideal) ((c.tc : Thread Cert.Kernel2Ideal.nD Cert.Kernel2Ideal.τ).loc Cert.Kernel2Ideal.main_v5_2)) (v3 : (c : Dev Cert.Kernel2Ideal.nD) → Buf (Elt Ideal) ((c.tc : Thread Cert.Kernel2Ideal.nD Cert.Kernel2Ideal.τ).loc Cert.Kernel2Ideal.main_v5_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_0) = v0 c
          ∧ r.2.mem ((c.tc : Thread Cert.Kernel2Ideal.nD Cert.Kernel2Ideal.τ).loc Cert.Kernel2Ideal.main_v5_1) = v1 c
          ∧ r.2.mem ((c.tc : Thread Cert.Kernel2Ideal.nD Cert.Kernel2Ideal.τ).loc Cert.Kernel2Ideal.main_v5_2) = v2 c
          ∧ r.2.mem ((c.tc : Thread Cert.Kernel2Ideal.nD Cert.Kernel2Ideal.τ).loc Cert.Kernel2Ideal.main_v5_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v53) = v0 c
          ∧ r.2.mem ((c.tc : Thread Cert.Reference2Ideal.nD Cert.Reference2Ideal.τ).loc Cert.Reference2Ideal.main_v55) = v1 c
          ∧ r.2.mem ((c.tc : Thread Cert.Reference2Ideal.nD Cert.Reference2Ideal.τ).loc Cert.Reference2Ideal.main_v36) = v2 c
          ∧ r.2.mem ((c.tc : Thread Cert.Reference2Ideal.nD Cert.Reference2Ideal.τ).loc Cert.Reference2Ideal.main_v57) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_finite [hKernel3Ideal : Cert.Kernel3Ideal.Facts] [hReference3Ideal : Cert.Reference3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v31_0)) (v1 : (c : Dev Cert.Kernel3Ideal.nD) → Buf (Elt Ideal) ((c.tc : Thread Cert.Kernel3Ideal.nD Cert.Kernel3Ideal.τ).loc Cert.Kernel3Ideal.main_v31_1)) (v2 : (c : Dev Cert.Kernel3Ideal.nD) → Buf (Elt Ideal) ((c.tc : Thread Cert.Kernel3Ideal.nD Cert.Kernel3Ideal.τ).loc Cert.Kernel3Ideal.main_v31_2)) (v3 : (c : Dev Cert.Kernel3Ideal.nD) → Buf (Elt Ideal) ((c.tc : Thread Cert.Kernel3Ideal.nD Cert.Kernel3Ideal.τ).loc Cert.Kernel3Ideal.main_v31_3)) (v4 : (c : Dev Cert.Kernel3Ideal.nD) → Buf (Elt Ideal) ((c.tc : Thread Cert.Kernel3Ideal.nD Cert.Kernel3Ideal.τ).loc Cert.Kernel3Ideal.main_v31_4)) (v5 : (c : Dev Cert.Kernel3Ideal.nD) → Buf (Elt Ideal) ((c.tc : Thread Cert.Kernel3Ideal.nD Cert.Kernel3Ideal.τ).loc Cert.Kernel3Ideal.main_v31_5)) (v6 : (c : Dev Cert.Kernel3Ideal.nD) → Buf (Elt Ideal) ((c.tc : Thread Cert.Kernel3Ideal.nD Cert.Kernel3Ideal.τ).loc Cert.Kernel3Ideal.main_v31_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v31_0) = v0 c
          ∧ r.2.mem ((c.tc : Thread Cert.Kernel3Ideal.nD Cert.Kernel3Ideal.τ).loc Cert.Kernel3Ideal.main_v31_1) = v1 c
          ∧ r.2.mem ((c.tc : Thread Cert.Kernel3Ideal.nD Cert.Kernel3Ideal.τ).loc Cert.Kernel3Ideal.main_v31_2) = v2 c
          ∧ r.2.mem ((c.tc : Thread Cert.Kernel3Ideal.nD Cert.Kernel3Ideal.τ).loc Cert.Kernel3Ideal.main_v31_3) = v3 c
          ∧ r.2.mem ((c.tc : Thread Cert.Kernel3Ideal.nD Cert.Kernel3Ideal.τ).loc Cert.Kernel3Ideal.main_v31_4) = v4 c
          ∧ r.2.mem ((c.tc : Thread Cert.Kernel3Ideal.nD Cert.Kernel3Ideal.τ).loc Cert.Kernel3Ideal.main_v31_5) = v5 c
          ∧ r.2.mem ((c.tc : Thread Cert.Kernel3Ideal.nD Cert.Kernel3Ideal.τ).loc Cert.Kernel3Ideal.main_v31_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v104) = v0 c
          ∧ r.2.mem ((c.tc : Thread Cert.Reference3Ideal.nD Cert.Reference3Ideal.τ).loc Cert.Reference3Ideal.main_v105) = v1 c
          ∧ r.2.mem ((c.tc : Thread Cert.Reference3Ideal.nD Cert.Reference3Ideal.τ).loc Cert.Reference3Ideal.main_v106) = v2 c
          ∧ r.2.mem ((c.tc : Thread Cert.Reference3Ideal.nD Cert.Reference3Ideal.τ).loc Cert.Reference3Ideal.main_v49) = v3 c
          ∧ r.2.mem ((c.tc : Thread Cert.Reference3Ideal.nD Cert.Reference3Ideal.τ).loc Cert.Reference3Ideal.main_v74) = v4 c
          ∧ r.2.mem ((c.tc : Thread Cert.Reference3Ideal.nD Cert.Reference3Ideal.τ).loc Cert.Reference3Ideal.main_v71) = v5 c
          ∧ r.2.mem ((c.tc : Thread Cert.Reference3Ideal.nD Cert.Reference3Ideal.τ).loc Cert.Reference3Ideal.main_v102) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v10)) (v1 : (c : Dev Cert.Kernel4Ideal.nD) → Buf (Elt Ideal) ((c.tc : Thread Cert.Kernel4Ideal.nD Cert.Kernel4Ideal.τ).loc Cert.Kernel4Ideal.main_v6_0)) (v2 : (c : Dev Cert.Kernel4Ideal.nD) → Buf (Elt Ideal) ((c.tc : Thread Cert.Kernel4Ideal.nD Cert.Kernel4Ideal.τ).loc Cert.Kernel4Ideal.main_v6_1)) (v3 : (c : Dev Cert.Kernel4Ideal.nD) → Buf (Elt Ideal) ((c.tc : Thread Cert.Kernel4Ideal.nD Cert.Kernel4Ideal.τ).loc Cert.Kernel4Ideal.main_v6_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10) = v0 c
          ∧ r.2.mem ((c.tc : Thread Cert.Kernel4Ideal.nD Cert.Kernel4Ideal.τ).loc Cert.Kernel4Ideal.main_v6_0) = v1 c
          ∧ r.2.mem ((c.tc : Thread Cert.Kernel4Ideal.nD Cert.Kernel4Ideal.τ).loc Cert.Kernel4Ideal.main_v6_1) = v2 c
          ∧ r.2.mem ((c.tc : Thread Cert.Kernel4Ideal.nD Cert.Kernel4Ideal.τ).loc Cert.Kernel4Ideal.main_v6_2) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v17) = v0 c
          ∧ r.2.mem ((c.tc : Thread Cert.Reference4Ideal.nD Cert.Reference4Ideal.τ).loc Cert.Reference4Ideal.main_v19) = v1 c
          ∧ r.2.mem ((c.tc : Thread Cert.Reference4Ideal.nD Cert.Reference4Ideal.τ).loc Cert.Reference4Ideal.main_v21) = v2 c
          ∧ r.2.mem ((c.tc : Thread Cert.Reference4Ideal.nD Cert.Reference4Ideal.τ).loc Cert.Reference4Ideal.main_v23) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v12_0)) (v1 : (c : Dev Cert.Kernel5Ideal.nD) → Buf (Elt Ideal) ((c.tc : Thread Cert.Kernel5Ideal.nD Cert.Kernel5Ideal.τ).loc Cert.Kernel5Ideal.main_v12_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v12_0) = v0 c
          ∧ r.2.mem ((c.tc : Thread Cert.Kernel5Ideal.nD Cert.Kernel5Ideal.τ).loc Cert.Kernel5Ideal.main_v12_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v40) = v0 c
          ∧ r.2.mem ((c.tc : Thread Cert.Reference5Ideal.nD Cert.Reference5Ideal.τ).loc Cert.Reference5Ideal.main_v22) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v9_0)) (v1 : (c : Dev Cert.Kernel6Ideal.nD) → Buf (Elt Ideal) ((c.tc : Thread Cert.Kernel6Ideal.nD Cert.Kernel6Ideal.τ).loc Cert.Kernel6Ideal.main_v9_1)) (v2 : (c : Dev Cert.Kernel6Ideal.nD) → Buf (Elt Ideal) ((c.tc : Thread Cert.Kernel6Ideal.nD Cert.Kernel6Ideal.τ).loc Cert.Kernel6Ideal.main_v9_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v9_0) = v0 c
          ∧ r.2.mem ((c.tc : Thread Cert.Kernel6Ideal.nD Cert.Kernel6Ideal.τ).loc Cert.Kernel6Ideal.main_v9_1) = v1 c
          ∧ r.2.mem ((c.tc : Thread Cert.Kernel6Ideal.nD Cert.Kernel6Ideal.τ).loc Cert.Kernel6Ideal.main_v9_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v41) = v0 c
          ∧ r.2.mem ((c.tc : Thread Cert.Reference6Ideal.nD Cert.Reference6Ideal.τ).loc Cert.Reference6Ideal.main_v20) = v1 c
          ∧ r.2.mem ((c.tc : Thread Cert.Reference6Ideal.nD Cert.Reference6Ideal.τ).loc Cert.Reference6Ideal.main_v38) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v4_0)) (v1 : (c : Dev Cert.Kernel7Ideal.nD) → Buf (Elt Ideal) ((c.tc : Thread Cert.Kernel7Ideal.nD Cert.Kernel7Ideal.τ).loc Cert.Kernel7Ideal.main_v4_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4_0) = v0 c
          ∧ r.2.mem ((c.tc : Thread Cert.Kernel7Ideal.nD Cert.Kernel7Ideal.τ).loc Cert.Kernel7Ideal.main_v4_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v14) = v0 c
          ∧ r.2.mem ((c.tc : Thread Cert.Reference7Ideal.nD Cert.Reference7Ideal.τ).loc Cert.Reference7Ideal.main_v16) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)) →
    ∃ (v0 : (c : Dev Cert.Kernel8Ideal.nD) → Buf (Elt Ideal) ((c.tc : Thread Cert.Kernel8Ideal.nD Cert.Kernel8Ideal.τ).loc Cert.Kernel8Ideal.main_v5_0)) (v1 : (c : Dev Cert.Kernel8Ideal.nD) → Buf (Elt Ideal) ((c.tc : Thread Cert.Kernel8Ideal.nD Cert.Kernel8Ideal.τ).loc Cert.Kernel8Ideal.main_v5_1)) (v2 : (c : Dev Cert.Kernel8Ideal.nD) → Buf (Elt Ideal) ((c.tc : Thread Cert.Kernel8Ideal.nD Cert.Kernel8Ideal.τ).loc Cert.Kernel8Ideal.main_v5_2)) (v3 : (c : Dev Cert.Kernel8Ideal.nD) → Buf (Elt Ideal) ((c.tc : Thread Cert.Kernel8Ideal.nD Cert.Kernel8Ideal.τ).loc Cert.Kernel8Ideal.main_v5_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v5_0) = v0 c
          ∧ r.2.mem ((c.tc : Thread Cert.Kernel8Ideal.nD Cert.Kernel8Ideal.τ).loc Cert.Kernel8Ideal.main_v5_1) = v1 c
          ∧ r.2.mem ((c.tc : Thread Cert.Kernel8Ideal.nD Cert.Kernel8Ideal.τ).loc Cert.Kernel8Ideal.main_v5_2) = v2 c
          ∧ r.2.mem ((c.tc : Thread Cert.Kernel8Ideal.nD Cert.Kernel8Ideal.τ).loc Cert.Kernel8Ideal.main_v5_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v44) = v0 c
          ∧ r.2.mem ((c.tc : Thread Cert.Reference8Ideal.nD Cert.Reference8Ideal.τ).loc Cert.Reference8Ideal.main_v30) = v1 c
          ∧ r.2.mem ((c.tc : Thread Cert.Reference8Ideal.nD Cert.Reference8Ideal.τ).loc Cert.Reference8Ideal.main_v43) = v2 c
          ∧ r.2.mem ((c.tc : Thread Cert.Reference8Ideal.nD Cert.Reference8Ideal.τ).loc Cert.Reference8Ideal.main_v57) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v2_0)) (v1 : (c : Dev Cert.Kernel9Ideal.nD) → Buf (Elt Ideal) ((c.tc : Thread Cert.Kernel9Ideal.nD Cert.Kernel9Ideal.τ).loc Cert.Kernel9Ideal.main_v2_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2_0) = v0 c
          ∧ r.2.mem ((c.tc : Thread Cert.Kernel9Ideal.nD Cert.Kernel9Ideal.τ).loc Cert.Kernel9Ideal.main_v2_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v30) = v0 c
          ∧ r.2.mem ((c.tc : Thread Cert.Reference9Ideal.nD Cert.Reference9Ideal.τ).loc Cert.Reference9Ideal.main_v46) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts) (hPre_finite4 : Cert.Pre_finite4.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite (hKernel3Ideal := hKernel3Ideal) (hPre_finite := hPre_finite)
    ∧ quiescent_Reference3Ideal (hReference3Ideal := hReference3Ideal)
    ∧ quiescent_Reference3Ideal_pre_finite (hReference3Ideal := hReference3Ideal) (hPre_finite := hPre_finite)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite (hKernel3Ideal := hKernel3Ideal) (hReference3Ideal := hReference3Ideal) (hPre_finite := hPre_finite)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite.lean ====
abbrev S2064x512 : Shape := ⟨2, ![2064, 512]⟩
abbrev S1x512 : Shape := ⟨2, ![1, 512]⟩
abbrev S1024x1024 : Shape := ⟨2, ![1024, 1024]⟩
abbrev S1x1024 : Shape := ⟨2, ![1, 1024]⟩
abbrev S2064x1024 : Shape := ⟨2, ![2064, 1024]⟩
abbrev S_ : Shape := ⟨0, ![]⟩

class Facts : Prop where
  bcast_S_S1x512 : S_.BroadcastsInDim S1x512 (![] : Fin 0 → Fin S1x512.rank)
  reducesTo_S1x512_S_d0_1 : S1x512.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S2064x1024 : S_.BroadcastsInDim S2064x1024 (![] : Fin 0 → Fin S2064x1024.rank)
  reducesTo_S2064x1024_S_d0_1 : S2064x1024.ReducesTo [0, 1] S_

variable [Facts]

def fn_part1 {F : FTy → Type} [FloatOps F] (main_v13 : IVec S_ 1) (main_v16 : IVec S2064x1024 1) : IVec S_ 1 :=
  let main_c_5 : IVec S_ 1 := constantI S_ 1 1#1
  let main_v17 : IVec S_ 1 := (fun x v => Host.reduce IntOp.andi x v reducesTo_S2064x1024_S_d0_1 h_S_) main_v16 main_c_5
  let main_v18 : IVec S_ 1 := andi main_v13 main_v17
  main_v18

def fn {F : FTy → Type} [FloatOps F] (main_arg0 : FVec F S2064x512 .f32) (main_arg1 : FVec F S2064x512 .f32) (main_arg2 : FVec F S1x512 .f32) (main_arg3 : FVec F S1x512 .f32) (main_arg4 : FVec F S1x512 .f32) (main_arg5 : FVec F S1024x1024 .f32) (main_arg6 : FVec F S1x1024 .f32) (main_arg7 : FVec F S2064x1024 .f32) : IVec S_ 1 :=
  let main_v0 : FVec F S1x512 .f32 := Host.absf main_arg3
  let main_cst : FVec F S_ .f32 := constant S_ .f32 0x7F800000#32
  let main_v1 : FVec F S1x512 .f32 := broadcastInDim S1x512 ![] bcast_S_S1x512 main_cst
  let main_v2 : IVec S1x512 1 := cmpf .olt main_v0 main_v1
  let main_c : IVec S_ 1 := constantI S_ 1 1#1
  let main_v3 : IVec S_ 1 := (fun x v => Host.reduce IntOp.andi x v reducesTo_S1x512_S_d0_1 h_S_) main_v2 main_c
  let main_v4 : FVec F S1024x1024 .f32 := Host.absf main_arg5
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x1024 .f32 := Host.absf main_arg6
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S2064x1024 .f32 := Host.absf main_arg7
  let main_cst_4 : FVec F S_ .f32 := constant S_ .f32 0x7F800000#32
  let main_v15 : FVec F S2064x1024 .f32 := broadcastInDim S2064x1024 ![] bcast_S_S2064x1024 main_cst_4
  let main_v16 : IVec S2064x1024 1 := cmpf .olt main_v14 main_v15
  fn_part1 (F := F) main_v13 main_v16
-- ==== Pre_finite4.lean ====
abbrev S2064x1024 : Shape := ⟨2, ![2064, 1024]⟩
abbrev S1024x2816 : Shape := ⟨2, ![1024, 2816]⟩
abbrev S2816x1024 : Shape := ⟨2, ![2816, 1024]⟩
abbrev S_ : Shape := ⟨0, ![]⟩

class Facts : Prop where
  bcast_S_S2064x1024 : S_.BroadcastsInDim S2064x1024 (![] : Fin 0 → Fin S2064x1024.rank)
  reducesTo_S2064x1024_S_d0_1 : S2064x1024.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2064x1024 .f32) (main_v13 : IVec S_ 1) (main_v16 : IVec S2816x1024 1) : IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : IVec S_ 1 := andi main_v13 main_v17
  let main_v19 : FVec F S2064x1024 .f32 := Host.absf main_arg4
  let main_cst_6 : FVec F S_ .f32 := constant S_ .f32 0x7F800000#32
  let main_v20 : FVec F S2064x1024 .f32 := broadcastInDim S2064x1024 ![] bcast_S_S2064x1024 main_cst_6
  let main_v21 : IVec S2064x1024 1 := cmpf .olt main_v19 main_v20
  let main_c_7 : IVec S_ 1 := constantI S_ 1 1#1
  let main_v22 : IVec S_ 1 := (fun x v => Host.reduce IntOp.andi x v reducesTo_S2064x1024_S_d0_1 h_S_) main_v21 main_c_7
  let main_v23 : IVec S_ 1 := andi main_v18 main_v22
  main_v23

def fn {F : FTy → Type} [FloatOps F] (main_arg0 : FVec F S2064x1024 .f32) (main_arg1 : FVec F S1024x2816 .f32) (main_arg2 : FVec F S1024x2816 .f32) (main_arg3 : FVec F S2816x1024 .f32) (main_arg4 : FVec F S2064x1024 .f32) : IVec S_ 1 :=
  let main_v0 : FVec F S2064x1024 .f32 := Host.absf main_arg0
  let main_cst : FVec F S_ .f32 := constant S_ .f32 0x7F800000#32
  let main_v1 : FVec F S2064x1024 .f32 := broadcastInDim S2064x1024 ![] bcast_S_S2064x1024 main_cst
  let main_v2 : IVec S2064x1024 1 := cmpf .olt main_v0 main_v1
  let main_c : IVec S_ 1 := constantI S_ 1 1#1
  let main_v3 : IVec S_ 1 := (fun x v => Host.reduce IntOp.andi x v reducesTo_S2064x1024_S_d0_1 h_S_) main_v2 main_c
  let main_v4 : FVec F S1024x2816 .f32 := Host.absf main_arg1
  let main_cst_0 : FVec F S_ .f32 := constant S_ .f32 0x7F800000#32
  let main_v5 : FVec F S1024x2816 .f32 := broadcastInDim S1024x2816 ![] bcast_S_S1024x2816 main_cst_0
  let main_v6 : IVec S1024x2816 1 := cmpf .olt main_v4 main_v5
  let main_c_1 : IVec S_ 1 := constantI S_ 1 1#1
  let main_v7 : IVec S_ 1 := (fun x v => Host.reduce IntOp.andi x v reducesTo_S1024x2816_S_d0_1 h_S_) main_v6 main_c_1
  let main_v8 : IVec S_ 1 := andi main_v3 main_v7
  let main_v9 : FVec F S1024x2816 .f32 := Host.absf main_arg2
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S2816x1024 .f32 := Host.absf main_arg3
  let main_cst_4 : FVec F S_ .f32 := constant S_ .f32 0x7F800000#32
  let main_v15 : FVec F S2816x1024 .f32 := broadcastInDim S2816x1024 ![] bcast_S_S2816x1024 main_cst_4
  let main_v16 : IVec S2816x1024 1 := cmpf .olt main_v14 main_v15
  fn_part1 (F := F) main_arg4 main_v13 main_v16
-- ==== Kernel.lean ====
abbrev S2064x2560 : Shape := ⟨2, ![2064, 2560]⟩
abbrev S2064x512 : Shape := ⟨2, ![2064, 512]⟩
abbrev S3x512 : Shape := ⟨2, ![3, 512]⟩
abbrev S31x512 : Shape := ⟨2, ![31, 512]⟩
abbrev S_ : Shape := ⟨0, ![]⟩
abbrev S2176x2560 : Shape := ⟨2, ![2176, 2560]⟩
abbrev S2176x512 : Shape := ⟨2, ![2176, 512]⟩
abbrev S5x2176x512 : Shape := ⟨3, ![5, 2176, 512]⟩
abbrev S8x512 : Shape := ⟨2, ![8, 512]⟩
abbrev S32x512 : Shape := ⟨2, ![32, 512]⟩
abbrev S2176x128 : Shape := ⟨2, ![2176, 128]⟩
abbrev S3x128 : Shape := ⟨2, ![3, 128]⟩
abbrev S31x128 : Shape := ⟨2, ![31, 128]⟩
abbrev S5x2176x128 : Shape := ⟨3, ![5, 2176, 128]⟩
abbrev S8x128 : Shape := ⟨2, ![8, 128]⟩
abbrev S32x128 : Shape := ⟨2, ![32, 128]⟩
abbrev S2216x128 : Shape := ⟨2, ![2216, 128]⟩
abbrev S8x2208x128 : Shape := ⟨3, ![8, 2208, 128]⟩
abbrev S32x8x128 : Shape := ⟨3, ![32, 8, 128]⟩
abbrev S40x128 : Shape := ⟨2, ![40, 128]⟩
abbrev S64x128 : Shape := ⟨2, ![64, 128]⟩
abbrev S2208x128 : Shape := ⟨2, ![2208, 128]⟩
abbrev S1x2208x128 : Shape := ⟨3, ![1, 2208, 128]⟩
abbrev S1x128 : Shape := ⟨2, ![1, 128]⟩
abbrev S1x64x128 : Shape := ⟨3, ![1, 64, 128]⟩
abbrev S1x8x128 : Shape := ⟨3, ![1, 8, 128]⟩
abbrev S128 : Shape := ⟨1, ![128]⟩
abbrev S5x128 : Shape := ⟨2, ![5, 128]⟩
abbrev S5x2064x512 : Shape := ⟨3, ![5, 2064, 512]⟩

abbrev nBuf : Space → Nat
  | .hbm => 18
  | .vmem => 30
  | .smem => 0
  | _ => 0

abbrev bufTy : (tb : Table) → Fin (tcTables nBuf tb) → BufTy
  | .hbm, ⟨0, _⟩ => ⟨S2064x2560, .f32⟩
  | .hbm, ⟨1, _⟩ => ⟨S2064x512, .f32⟩
  | .hbm, ⟨2, _⟩ => ⟨S2064x512, .f32⟩
  | .hbm, ⟨3, _⟩ => ⟨S3x512, .f32⟩
  | .hbm, ⟨4, _⟩ => ⟨S31x512, .f32⟩
  | .hbm, ⟨5, _⟩ => ⟨S_, .i32⟩
  | .hbm, ⟨6, _⟩ => ⟨S_, .f32⟩
  | .hbm, ⟨7, _⟩ => ⟨S2176x2560, .f32⟩
  | .hbm, ⟨8, _⟩ => ⟨S_, .i32⟩
  | .hbm, ⟨9, _⟩ => ⟨S_, .f32⟩
  | .hbm, ⟨10, _⟩ => ⟨S2176x512, .f32⟩
  | .hbm, ⟨11, _⟩ => ⟨S_, .i32⟩
  | .hbm, ⟨12, _⟩ => ⟨S_, .f32⟩
  | .hbm, ⟨13, _⟩ => ⟨S2176x512, .f32⟩
  | .hbm, ⟨14, _⟩ => ⟨S5x2176x512, .bf16⟩
  | .hbm, ⟨15, _⟩ => ⟨S8x512, .f32⟩
  | .hbm, ⟨16, _⟩ => ⟨S32x512, .f32⟩
  | .hbm, ⟨17, _⟩ => ⟨S5x2064x512, .bf16⟩
  | .local _ .vmem, ⟨0, _⟩ => ⟨S2176x128, .f32⟩
  | .local _ .vmem, ⟨1, _⟩ => ⟨S2176x128, .f32⟩
  | .local _ .vmem, ⟨2, _⟩ => ⟨S2176x128, .f32⟩
  | .local _ .vmem, ⟨3, _⟩ => ⟨S2176x128, .f32⟩
  | .local _ .vmem, ⟨4, _⟩ => ⟨S2176x128, .f32⟩
  | .local _ .vmem, ⟨5, _⟩ => ⟨S2176x128, .f32⟩
  | .local _ .vmem, ⟨6, _⟩ => ⟨S2176x128, .f32⟩
  | .local _ .vmem, ⟨7, _⟩ => ⟨S2176x128, .f32⟩
  | .local _ .vmem, ⟨8, _⟩ => ⟨S2176x128, .f32⟩
  | .local _ .vmem, ⟨9, _⟩ => ⟨S2176x128, .f32⟩
  | .local _ .vmem, ⟨10, _⟩ => ⟨S2176x128, .f32⟩
  | .local _ .vmem, ⟨11, _⟩ => ⟨S2176x128, .f32⟩
  | .local _ .vmem, ⟨12, _⟩ => ⟨S2176x128, .f32⟩
  | .local _ .vmem, ⟨13, _⟩ => ⟨S2176x128, .f32⟩
  | .local _ .vmem, ⟨14, _⟩ => ⟨S3x128, .f32⟩
  | .local _ .vmem, ⟨15, _⟩ => ⟨S3x128, .f32⟩
  | .local _ .vmem, ⟨16, _⟩ => ⟨S31x128, .f32⟩
  | .local _ .vmem, ⟨17, _⟩ => ⟨S31x128, .f32⟩
  | .local _ .vmem, ⟨18, _⟩ => ⟨S5x2176x128, .bf16⟩
  | .local _ .vmem, ⟨19, _⟩ => ⟨S5x2176x128, .bf16⟩
  | .local _ .vmem, ⟨20, _⟩ => ⟨S8x128, .f32⟩
  | .local _ .vmem, ⟨21, _⟩ => ⟨S8x128, .f32⟩
  | .local _ .vmem, ⟨22, _⟩ => ⟨S32x128, .f32⟩
  | .local _ .vmem, ⟨23, _⟩ => ⟨S32x128, .f32⟩
  | .local _ .vmem, ⟨24, _⟩ => ⟨S2216x128, .f32⟩
  | .local _ .vmem, ⟨25, _⟩ => ⟨S8x2208x128, .f32⟩
  | .local _ .vmem, ⟨26, _⟩ => ⟨S2216x128, .f32⟩
  | .local _ .vmem, ⟨27, _⟩ => ⟨S8x2208x128, .f32⟩
  | .local _ .vmem, ⟨28, _⟩ => ⟨S2176x128, .f32⟩
  | .local _ .vmem, ⟨29, _⟩ => ⟨S32x8x128, .f32⟩
  | _, _ => ⟨S2064x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_c_0 : Ref sig .tc := ⟨.hbm, 8, rfl⟩
abbrev main_call1_v0 : Ref sig .tc := ⟨.hbm, 9, rfl⟩
abbrev main_v1 : Ref sig .tc := ⟨.hbm, 10, rfl⟩
abbrev main_c_1 : Ref sig .tc := ⟨.hbm, 11, rfl⟩
abbrev main_call2_v0 : Ref sig .tc := ⟨.hbm, 12, rfl⟩
abbrev main_v2 : Ref sig .tc := ⟨.hbm, 13, rfl⟩
abbrev main_v3_0 : Ref sig .tc := ⟨.hbm, 14, rfl⟩
abbrev main_v3_1 : Ref sig .tc := ⟨.hbm, 15, rfl⟩
abbrev main_v3_2 : Ref sig .tc := ⟨.hbm, 16, rfl⟩
abbrev main_v4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c34_i32 : BitVec 32 := 34#32
  let v12 : BitVec 32 := Scalar.addi c0_i32 c34_i32
  let c1_i32 : BitVec 32 := 1#32
  ⟨c0_i32, v12, c1_i32⟩
def k0_mult1 (k0_t1 : Fin k0_t1_loop.trips) : BitVec 32 :=
  let c0_i32 : BitVec 32 := 0#32
  let c1_i32 : BitVec 32 := 1#32
  let arg19 : BitVec 32 := Scf.iv c0_i32 c1_i32 k0_t1
  let c64_i32 : BitVec 32 := 64#32
  let v437 : BitVec 32 := Scalar.muli arg19 c64_i32
  v437
def k0_off1 (k0_t1 : Fin k0_t1_loop.trips) : Fin 2 → Nat :=
  let c0_i32 : BitVec 32 := 0#32
  let c1_i32 : BitVec 32 := 1#32
  let arg19 : BitVec 32 := Scf.iv c0_i32 c1_i32 k0_t1
  let c64_i32 : BitVec 32 := 64#32
  let v437 : BitVec 32 := Scalar.muli arg19 c64_i32
  let v438 : BitVec 32 := v437
  let v439 : Index := Scalar.indexCast v438
  let c0_400 : Index := 0#32
  ![v439.toNat, 0]
def k0_off2 (k0_t1 : Fin k0_t1_loop.trips) : Fin 2 → Nat :=
  let c32_i32 : BitVec 32 := 32#32
  let c0_i32 : BitVec 32 := 0#32
  let c1_i32 : BitVec 32 := 1#32
  let arg19 : BitVec 32 := Scf.iv c0_i32 c1_i32 k0_t1
  let c64_i32 : BitVec 32 := 64#32
  let v437 : BitVec 32 := Scalar.muli arg19 c64_i32
  let v438 : BitVec 32 := v437
  let v446 : BitVec 32 := Scalar.addi c32_i32 v438
  let v447 : Index := Scalar.indexCast v446
  let c0_402 : Index := 0#32
  ![v447.toNat, 0]
def k0_off3 (k0_t1 : Fin k0_t1_loop.trips) : Fin 2 → Nat :=
  let c0_i32 : BitVec 32 := 0#32
  let c1_i32 : BitVec 32 := 1#32
  let arg19 : BitVec 32 := Scf.iv c0_i32 c1_i32 k0_t1
  let c64_i32 : BitVec 32 := 64#32
  let v437 : BitVec 32 := Scalar.muli arg19 c64_i32
  let v438 : BitVec 32 := v437
  let v458 : Index := Scalar.indexCast v438
  let c0_405 : Index := 0#32
  ![v458.toNat, 0]
@[reducible] def k0_t2_loop : Scf.Loop 32 :=
  let c0_i32_22 : BitVec 32 := 0#32
  let c34_i32_23 : BitVec 32 := 34#32
  let v29 : BitVec 32 := Scalar.addi c0_i32_22 c34_i32_23
  let c1_i32_24 : BitVec 32 := 1#32
  ⟨c0_i32_22, v29, c1_i32_24⟩
def k0_mult2 (k0_t2 : Fin k0_t2_loop.trips) : BitVec 32 :=
  let c0_i32_22 : BitVec 32 := 0#32
  let c1_i32_24 : BitVec 32 := 1#32
  let arg19 : BitVec 32 := Scf.iv c0_i32_22 c1_i32_24 k0_t2
  let c64_i32 : BitVec 32 := 64#32
  let v437 : BitVec 32 := Scalar.muli arg19 c64_i32
  v437
def k0_off4 (k0_t2 : Fin k0_t2_loop.trips) : Fin 2 → Nat :=
  let c0_i32_22 : BitVec 32 := 0#32
  let c1_i32_24 : BitVec 32 := 1#32
  let arg19 : BitVec 32 := Scf.iv c0_i32_22 c1_i32_24 k0_t2
  let c64_i32 : BitVec 32 := 64#32
  let v437 : BitVec 32 := Scalar.muli arg19 c64_i32
  let v438 : BitVec 32 := v437
  let v439 : Index := Scalar.indexCast v438
  let c0_400 : Index := 0#32
  ![v439.toNat, 0]
def k0_off5 (k0_t2 : Fin k0_t2_loop.trips) : Fin 3 → Nat :=
  let c6_403 : Index := 6#32
  let c0_i32_22 : BitVec 32 := 0#32
  let c1_i32_24 : BitVec 32 := 1#32
  let arg19 : BitVec 32 := Scf.iv c0_i32_22 c1_i32_24 k0_t2
  let c64_i32 : BitVec 32 := 64#32
  let v437 : BitVec 32 := Scalar.muli arg19 c64_i32
  let v438 : BitVec 32 := v437
  let c24_i32 : BitVec 32 := 24#32
  let v443 : BitVec 32 := Scalar.addi v438 c24_i32
  let v444 : Index := Scalar.indexCast v443
  let c0_404 : Index := 0#32
  ![6, v444.toNat, 0]
def k0_off6 (k0_t2 : Fin k0_t2_loop.trips) : Fin 3 → Nat :=
  let c7_408 : Index := 7#32
  let c0_i32_22 : BitVec 32 := 0#32
  let c1_i32_24 : BitVec 32 := 1#32
  let arg19 : BitVec 32 := Scf.iv c0_i32_22 c1_i32_24 k0_t2
  let c64_i32 : BitVec 32 := 64#32
  let v437 : BitVec 32 := Scalar.muli arg19 c64_i32
  let v438 : BitVec 32 := v437
  let c24_i32_407 : BitVec 32 := 24#32
  let v450 : BitVec 32 := Scalar.addi v438 c24_i32_407
  let v451 : Index := Scalar.indexCast v450
  let c0_409 : Index := 0#32
  ![7, v451.toNat, 0]
def k0_off7 (k0_t2 : Fin k0_t2_loop.trips) : Fin 2 → Nat :=
  let c0_i32_22 : BitVec 32 := 0#32
  let c1_i32_24 : BitVec 32 := 1#32
  let arg19 : BitVec 32 := Scf.iv c0_i32_22 c1_i32_24 k0_t2
  let c64_i32 : BitVec 32 := 64#32
  let v437 : BitVec 32 := Scalar.muli arg19 c64_i32
  let v438 : BitVec 32 := v437
  let c32_i32 : BitVec 32 := 32#32
  let v458 : BitVec 32 := Scalar.addi v438 c32_i32
  let v459 : Index := Scalar.indexCast v458
  let c0_412 : Index := 0#32
  ![v459.toNat, 0]
def k0_off8 (k0_t2 : Fin k0_t2_loop.trips) : Fin 3 → Nat :=
  let c0_413 : Index := 0#32
  let c0_i32_22 : BitVec 32 := 0#32
  let c1_i32_24 : BitVec 32 := 1#32
  let arg19 : BitVec 32 := Scf.iv c0_i32_22 c1_i32_24 k0_t2
  let c64_i32 : BitVec 32 := 64#32
  let v437 : BitVec 32 := Scalar.muli arg19 c64_i32
  let v438 : BitVec 32 := v437
  let v466 : Index := Scalar.indexCast v438
  let c0_414 : Index := 0#32
  ![0, v466.toNat, 0]
@[reducible] def k0_t3_loop : Scf.Loop 32 :=
  let c0_i32_44 : BitVec 32 := 0#32
  let c68_i32 : BitVec 32 := 68#32
  let v51 : BitVec 32 := Scalar.addi c0_i32_44 c68_i32
  let c1_i32_45 : BitVec 32 := 1#32
  ⟨c0_i32_44, v51, c1_i32_45⟩
def k0_mult3 (k0_t3 : Fin k0_t3_loop.trips) : BitVec 32 :=
  let c0_i32_44 : BitVec 32 := 0#32
  let c1_i32_45 : BitVec 32 := 1#32
  let arg19 : BitVec 32 := Scf.iv c0_i32_44 c1_i32_45 k0_t3
  let c32_i32 : BitVec 32 := 32#32
  let v437 : BitVec 32 := Scalar.muli arg19 c32_i32
  v437
def k0_off9 (k0_t3 : Fin k0_t3_loop.trips) (c0_i32_400 : BitVec 32) : Fin 2 → Nat :=
  let c0_i32_44 : BitVec 32 := 0#32
  let c1_i32_45 : BitVec 32 := 1#32
  let arg19 : BitVec 32 := Scf.iv c0_i32_44 c1_i32_45 k0_t3
  let c32_i32 : BitVec 32 := 32#32
  let v437 : BitVec 32 := Scalar.muli arg19 c32_i32
  let v438 : BitVec 32 := v437
  let v439 : BitVec 32 := Scalar.addi v438 c0_i32_400
  let v440 : Index := Scalar.indexCast v439
  let c0_401 : Index := 0#32
  ![v440.toNat, 0]
def k0_off10 (k0_t3 : Fin k0_t3_loop.trips) (c24_i32_405 : BitVec 32) : Fin 3 → Nat :=
  let c6_406 : Index := 6#32
  let c0_i32_44 : BitVec 32 := 0#32
  let c1_i32_45 : BitVec 32 := 1#32
  let arg19 : BitVec 32 := Scf.iv c0_i32_44 c1_i32_45 k0_t3
  let c32_i32 : BitVec 32 := 32#32
  let v437 : BitVec 32 := Scalar.muli arg19 c32_i32
  let v438 : BitVec 32 := v437
  let v451 : BitVec 32 := Scalar.addi v438 c24_i32_405
  let v452 : Index := Scalar.indexCast v451
  let c0_407 : Index := 0#32
  ![6, v452.toNat, 0]
def k0_off11 (k0_t3 : Fin k0_t3_loop.trips) (c24_i32_415 : BitVec 32) : Fin 3 → Nat :=
  let c7_416 : Index := 7#32
  let c0_i32_44 : BitVec 32 := 0#32
  let c1_i32_45 : BitVec 32 := 1#32
  let arg19 : BitVec 32 := Scf.iv c0_i32_44 c1_i32_45 k0_t3
  let c32_i32 : BitVec 32 := 32#32
  let v437 : BitVec 32 := Scalar.muli arg19 c32_i32
  let v438 : BitVec 32 := v437
  let v475 : BitVec 32 := Scalar.addi v438 c24_i32_415
  let v476 : Index := Scalar.indexCast v475
  let c0_417 : Index := 0#32
  ![7, v476.toNat, 0]
def k0_off12 (k0_t3 : Fin k0_t3_loop.trips) (c0_i32_434 : BitVec 32) : Fin 3 → Nat :=
  let c2_435 : Index := 2#32
  let c0_i32_44 : BitVec 32 := 0#32
  let c1_i32_45 : BitVec 32 := 1#32
  let arg19 : BitVec 32 := Scf.iv c0_i32_44 c1_i32_45 k0_t3
  let c32_i32 : BitVec 32 := 32#32
  let v437 : BitVec 32 := Scalar.muli arg19 c32_i32
  let v438 : BitVec 32 := v437
  let v519 : BitVec 32 := Scalar.addi v438 c0_i32_434
  let v520 : Index := Scalar.indexCast v519
  let c0_436 : Index := 0#32
  ![2, v520.toNat, 0]
def k0_off13 (k0_t3 : Fin k0_t3_loop.trips) (c0_i32_449 : BitVec 32) : Fin 3 → Nat :=
  let c1_450 : Index := 1#32
  let c0_i32_44 : BitVec 32 := 0#32
  let c1_i32_45 : BitVec 32 := 1#32
  let arg19 : BitVec 32 := Scf.iv c0_i32_44 c1_i32_45 k0_t3
  let c32_i32 : BitVec 32 := 32#32
  let v437 : BitVec 32 := Scalar.muli arg19 c32_i32
  let v438 : BitVec 32 := v437
  let v541 : BitVec 32 := Scalar.addi v438 c0_i32_449
  let v542 : Index := Scalar.indexCast v541
  let c0_451 : Index := 0#32
  ![1, v542.toNat, 0]
def k0_off14 (k0_t3 : Fin k0_t3_loop.trips) (c0_i32_475 : BitVec 32) : Fin 2 → Nat :=
  let c0_i32_44 : BitVec 32 := 0#32
  let c1_i32_45 : BitVec 32 := 1#32
  let arg19 : BitVec 32 := Scf.iv c0_i32_44 c1_i32_45 k0_t3
  let c32_i32 : BitVec 32 := 32#32
  let v437 : BitVec 32 := Scalar.muli arg19 c32_i32
  let v438 : BitVec 32 := v437
  let v589 : BitVec 32 := Scalar.addi v438 c0_i32_475
  let v590 : Index := Scalar.indexCast v589
  let c0_476 : Index := 0#32
  ![v590.toNat, 0]
@[reducible] def k0_t4_loop : Scf.Loop 32 :=
  let c0_i32_58 : BitVec 32 := 0#32
  let c34_i32_59 : BitVec 32 := 34#32
  let v64 : BitVec 32 := Scalar.addi c0_i32_58 c34_i32_59
  let c1_i32_60 : BitVec 32 := 1#32
  ⟨c0_i32_58, v64, c1_i32_60⟩
def k0_mult4 (k0_t4 : Fin k0_t4_loop.trips) : BitVec 32 :=
  let c0_i32_58 : BitVec 32 := 0#32
  let c1_i32_60 : BitVec 32 := 1#32
  let arg19 : BitVec 32 := Scf.iv c0_i32_58 c1_i32_60 k0_t4
  let c64_i32 : BitVec 32 := 64#32
  let v437 : BitVec 32 := Scalar.muli arg19 c64_i32
  v437
def k0_off15 (k0_t4 : Fin k0_t4_loop.trips) : Fin 2 → Nat :=
  let c0_i32_58 : BitVec 32 := 0#32
  let c1_i32_60 : BitVec 32 := 1#32
  let arg19 : BitVec 32 := Scf.iv c0_i32_58 c1_i32_60 k0_t4
  let c64_i32 : BitVec 32 := 64#32
  let v437 : BitVec 32 := Scalar.muli arg19 c64_i32
  let v438 : BitVec 32 := v437
  let v439 : Index := Scalar.indexCast v438
  let c0_400 : Index := 0#32
  ![v439.toNat, 0]
def k0_off16 (k0_t4 : Fin k0_t4_loop.trips) : Fin 3 → Nat :=
  let c1_402 : Index := 1#32
  let c0_i32_58 : BitVec 32 := 0#32
  let c1_i32_60 : BitVec 32 := 1#32
  let arg19 : BitVec 32 := Scf.iv c0_i32_58 c1_i32_60 k0_t4
  let c64_i32 : BitVec 32 := 64#32
  let v437 : BitVec 32 := Scalar.muli arg19 c64_i32
  let v438 : BitVec 32 := v437
  let v446 : Index := Scalar.indexCast v438
  let c0_403 : Index := 0#32
  ![1, v446.toNat, 0]
def k0_off17 (k0_t4 : Fin k0_t4_loop.trips) : Fin 3 → Nat :=
  let c2_405 : Index := 2#32
  let c0_i32_58 : BitVec 32 := 0#32
  let c1_i32_60 : BitVec 32 := 1#32
  let arg19 : BitVec 32 := Scf.iv c0_i32_58 c1_i32_60 k0_t4
  let c64_i32 : BitVec 32 := 64#32
  let v437 : BitVec 32 := Scalar.muli arg19 c64_i32
  let v438 : BitVec 32 := v437
  let v455 : Index := Scalar.indexCast v438
  let c0_406 : Index := 0#32
  ![2, v455.toNat, 0]
@[reducible] def k0_t5_loop : Scf.Loop 32 :=
  let c0_i32_62 : BitVec 32 := 0#32
  let c34_i32_63 : BitVec 32 := 34#32
  let v65 : BitVec 32 := Scalar.addi c0_i32_62 c34_i32_63
  let c1_i32_64 : BitVec 32 := 1#32
  ⟨c0_i32_62, v65, c1_i32_64⟩
def k0_mult5 (k0_t5 : Fin k0_t5_loop.trips) : BitVec 32 :=
  let c0_i32_62 : BitVec 32 := 0#32
  let c1_i32_64 : BitVec 32 := 1#32
  let arg19 : BitVec 32 := Scf.iv c0_i32_62 c1_i32_64 k0_t5
  let c64_i32 : BitVec 32 := 64#32
  let v437 : BitVec 32 := Scalar.muli arg19 c64_i32
  v437
def k0_off18 (k0_t5 : Fin k0_t5_loop.trips) : Fin 2 → Nat :=
  let c0_i32_62 : BitVec 32 := 0#32
  let c1_i32_64 : BitVec 32 := 1#32
  let arg19 : BitVec 32 := Scf.iv c0_i32_62 c1_i32_64 k0_t5
  let c64_i32 : BitVec 32 := 64#32
  let v437 : BitVec 32 := Scalar.muli arg19 c64_i32
  let v438 : BitVec 32 := v437
  let v439 : Index := Scalar.indexCast v438
  let c0_400 : Index := 0#32
  ![v439.toNat, 0]
def k0_off19 (k0_t5 : Fin k0_t5_loop.trips) : Fin 2 → Nat :=
  let c32_i32 : BitVec 32 := 32#32
  let c0_i32_62 : BitVec 32 := 0#32
  let c1_i32_64 : BitVec 32 := 1#32
  let arg19 : BitVec 32 := Scf.iv c0_i32_62 c1_i32_64 k0_t5
  let c64_i32 : BitVec 32 := 64#32
  let v437 : BitVec 32 := Scalar.muli arg19 c64_i32
  let v438 : BitVec 32 := v437
  let v447 : BitVec 32 := Scalar.addi c32_i32 v438
  let v448 : Index := Scalar.indexCast v447
  let c0_402 : Index := 0#32
  ![v448.toNat, 0]
def k0_off20 (k0_t5 : Fin k0_t5_loop.trips) : Fin 2 → Nat :=
  let c0_i32_62 : BitVec 32 := 0#32
  let c1_i32_64 : BitVec 32 := 1#32
  let arg19 : BitVec 32 := Scf.iv c0_i32_62 c1_i32_64 k0_t5
  let c64_i32 : BitVec 32 := 64#32
  let v437 : BitVec 32 := Scalar.muli arg19 c64_i32
  let v438 : BitVec 32 := v437
  let v455 : Index := Scalar.indexCast v438
  let c0_404 : Index := 0#32
  ![v455.toNat, 0]
@[reducible] def k0_t6_loop : Scf.Loop 32 :=
  let c0_i32_297 : BitVec 32 := 0#32
  let c68_i32_298 : BitVec 32 := 68#32
  let v339 : BitVec 32 := Scalar.addi c0_i32_297 c68_i32_298
  let c1_i32_299 : BitVec 32 := 1#32
  ⟨c0_i32_297, v339, c1_i32_299⟩
def k0_mult6 (k0_t6 : Fin k0_t6_loop.trips) : BitVec 32 :=
  let c0_i32_297 : BitVec 32 := 0#32
  let c1_i32_299 : BitVec 32 := 1#32
  let arg19 : BitVec 32 := Scf.iv c0_i32_297 c1_i32_299 k0_t6
  let c32_i32 : BitVec 32 := 32#32
  let v437 : BitVec 32 := Scalar.muli arg19 c32_i32
  v437
def k0_off21 (k0_t6 : Fin k0_t6_loop.trips) (c0_i32_400 : BitVec 32) : Fin 2 → Nat :=
  let c0_i32_297 : BitVec 32 := 0#32
  let c1_i32_299 : BitVec 32 := 1#32
  let arg19 : BitVec 32 := Scf.iv c0_i32_297 c1_i32_299 k0_t6
  let c32_i32 : BitVec 32 := 32#32
  let v437 : BitVec 32 := Scalar.muli arg19 c32_i32
  let v438 : BitVec 32 := v437
  let v439 : BitVec 32 := Scalar.addi v438 c0_i32_400
  let v440 : Index := Scalar.indexCast v439
  let c0_401 : Index := 0#32
  ![v440.toNat, 0]
def k0_off22 (k0_t6 : Fin k0_t6_loop.trips) (c0_i32_405 : BitVec 32) : Fin 3 → Nat :=
  let c2_406 : Index := 2#32
  let c0_i32_297 : BitVec 32 := 0#32
  let c1_i32_299 : BitVec 32 := 1#32
  let arg19 : BitVec 32 := Scf.iv c0_i32_297 c1_i32_299 k0_t6
  let c32_i32 : BitVec 32 := 32#32
  let v437 : BitVec 32 := Scalar.muli arg19 c32_i32
  let v438 : BitVec 32 := v437
  let v451 : BitVec 32 := Scalar.addi v438 c0_i32_405
  let v452 : Index := Scalar.indexCast v451
  let c0_407 : Index := 0#32
  ![2, v452.toNat, 0]
def k0_off23 (k0_t6 : Fin k0_t6_loop.trips) (c0_i32_424 : BitVec 32) : Fin 3 → Nat :=
  let c3_425 : Index := 3#32
  let c0_i32_297 : BitVec 32 := 0#32
  let c1_i32_299 : BitVec 32 := 1#32
  let arg19 : BitVec 32 := Scf.iv c0_i32_297 c1_i32_299 k0_t6
  let c32_i32 : BitVec 32 := 32#32
  let v437 : BitVec 32 := Scalar.muli arg19 c32_i32
  let v438 : BitVec 32 := v437
  let v511 : BitVec 32 := Scalar.addi v438 c0_i32_424
  let v512 : Index := Scalar.indexCast v511
  let c0_426 : Index := 0#32
  ![3, v512.toNat, 0]
def k0_off24 (k0_t6 : Fin k0_t6_loop.trips) (c0_i32_445 : BitVec 32) : Fin 3 → Nat :=
  let c4_446 : Index := 4#32
  let c0_i32_297 : BitVec 32 := 0#32
  let c1_i32_299 : BitVec 32 := 1#32
  let arg19 : BitVec 32 := Scf.iv c0_i32_297 c1_i32_299 k0_t6
  let c32_i32 : BitVec 32 := 32#32
  let v437 : BitVec 32 := Scalar.muli arg19 c32_i32
  let v438 : BitVec 32 := v437
  let v571 : BitVec 32 := Scalar.addi v438 c0_i32_445
  let v572 : Index := Scalar.indexCast v571
  let c0_447 : Index := 0#32
  ![4, v572.toNat, 0]
def k0_off25 (k0_t6 : Fin k0_t6_loop.trips) (c0_i32_466 : BitVec 32) : Fin 3 → Nat :=
  let c5_467 : Index := 5#32
  let c0_i32_297 : BitVec 32 := 0#32
  let c1_i32_299 : BitVec 32 := 1#32
  let arg19 : BitVec 32 := Scf.iv c0_i32_297 c1_i32_299 k0_t6
  let c32_i32 : BitVec 32 := 32#32
  let v437 : BitVec 32 := Scalar.muli arg19 c32_i32
  let v438 : BitVec 32 := v437
  let v631 : BitVec 32 := Scalar.addi v438 c0_i32_466
  let v632 : Index := Scalar.indexCast v631
  let c0_468 : Index := 0#32
  ![5, v632.toNat, 0]
def k0_off26 (k0_t6 : Fin k0_t6_loop.trips) (c0_i32_487 : BitVec 32) : Fin 3 → Nat :=
  let c6_488 : Index := 6#32
  let c0_i32_297 : BitVec 32 := 0#32
  let c1_i32_299 : BitVec 32 := 1#32
  let arg19 : BitVec 32 := Scf.iv c0_i32_297 c1_i32_299 k0_t6
  let c32_i32 : BitVec 32 := 32#32
  let v437 : BitVec 32 := Scalar.muli arg19 c32_i32
  let v438 : BitVec 32 := v437
  let v691 : BitVec 32 := Scalar.addi v438 c0_i32_487
  let v692 : Index := Scalar.indexCast v691
  let c0_489 : Index := 0#32
  ![6, v692.toNat, 0]
def k0_off27 (k0_t6 : Fin k0_t6_loop.trips) (c0_i32_508 : BitVec 32) : Fin 3 → Nat :=
  let c7_509 : Index := 7#32
  let c0_i32_297 : BitVec 32 := 0#32
  let c1_i32_299 : BitVec 32 := 1#32
  let arg19 : BitVec 32 := Scf.iv c0_i32_297 c1_i32_299 k0_t6
  let c32_i32 : BitVec 32 := 32#32
  let v437 : BitVec 32 := Scalar.muli arg19 c32_i32
  let v438 : BitVec 32 := v437
  let v751 : BitVec 32 := Scalar.addi v438 c0_i32_508
  let v752 : Index := Scalar.indexCast v751
  let c0_510 : Index := 0#32
  ![7, v752.toNat, 0]
def k0_off28 (k0_t6 : Fin k0_t6_loop.trips) (c8_i32_542 : BitVec 32) : Fin 3 → Nat :=
  let c1_543 : Index := 1#32
  let c0_i32_297 : BitVec 32 := 0#32
  let c1_i32_299 : BitVec 32 := 1#32
  let arg19 : BitVec 32 := Scf.iv c0_i32_297 c1_i32_299 k0_t6
  let c32_i32 : BitVec 32 := 32#32
  let v437 : BitVec 32 := Scalar.muli arg19 c32_i32
  let v438 : BitVec 32 := v437
  let v864 : BitVec 32 := Scalar.addi v438 c8_i32_542
  let v865 : Index := Scalar.indexCast v864
  let c0_544 : Index := 0#32
  ![1, v865.toNat, 0]
def k0_off29 (k0_t6 : Fin k0_t6_loop.trips) (c0_i32_811 : BitVec 32) : Fin 2 → Nat :=
  let c0_i32_297 : BitVec 32 := 0#32
  let c1_i32_299 : BitVec 32 := 1#32
  let arg19 : BitVec 32 := Scf.iv c0_i32_297 c1_i32_299 k0_t6
  let c32_i32 : BitVec 32 := 32#32
  let v437 : BitVec 32 := Scalar.muli arg19 c32_i32
  let v438 : BitVec 32 := v437
  let v1431 : BitVec 32 := Scalar.addi v438 c0_i32_811
  let v1432 : Index := Scalar.indexCast v1431
  let c0_812 : Index := 0#32
  ![v1432.toNat, 0]
@[reducible] def k0_t7_loop : Scf.Loop 32 :=
  let c0_i32_396 : BitVec 32 := 0#32
  let c34_i32_397 : BitVec 32 := 34#32
  let v436 : BitVec 32 := Scalar.addi c0_i32_396 c34_i32_397
  let c1_i32_398 : BitVec 32 := 1#32
  ⟨c0_i32_396, v436, c1_i32_398⟩
def k0_mult7 (k0_t7 : Fin k0_t7_loop.trips) : BitVec 32 :=
  let c0_i32_396 : BitVec 32 := 0#32
  let c1_i32_398 : BitVec 32 := 1#32
  let arg19 : BitVec 32 := Scf.iv c0_i32_396 c1_i32_398 k0_t7
  let c64_i32 : BitVec 32 := 64#32
  let v437 : BitVec 32 := Scalar.muli arg19 c64_i32
  v437
def k0_off30 (k0_t7 : Fin k0_t7_loop.trips) : Fin 2 → Nat :=
  let c0_i32_396 : BitVec 32 := 0#32
  let c1_i32_398 : BitVec 32 := 1#32
  let arg19 : BitVec 32 := Scf.iv c0_i32_396 c1_i32_398 k0_t7
  let c64_i32 : BitVec 32 := 64#32
  let v437 : BitVec 32 := Scalar.muli arg19 c64_i32
  let v438 : BitVec 32 := v437
  let v439 : Index := Scalar.indexCast v438
  let c0_400 : Index := 0#32
  ![v439.toNat, 0]
def k0_off31 (k0_t7 : Fin k0_t7_loop.trips) : Fin 3 → Nat :=
  let c3_402 : Index := 3#32
  let c0_i32_396 : BitVec 32 := 0#32
  let c1_i32_398 : BitVec 32 := 1#32
  let arg19 : BitVec 32 := Scf.iv c0_i32_396 c1_i32_398 k0_t7
  let c64_i32 : BitVec 32 := 64#32
  let v437 : BitVec 32 := Scalar.muli arg19 c64_i32
  let v438 : BitVec 32 := v437
  let v447 : Index := Scalar.indexCast v438
  let c0_403 : Index := 0#32
  ![3, v447.toNat, 0]
def k0_off32 (k0_t7 : Fin k0_t7_loop.trips) : Fin 3 → Nat :=
  let c4_406 : Index := 4#32
  let c0_i32_396 : BitVec 32 := 0#32
  let c1_i32_398 : BitVec 32 := 1#32
  let arg19 : BitVec 32 := Scf.iv c0_i32_396 c1_i32_398 k0_t7
  let c64_i32 : BitVec 32 := 64#32
  let v437 : BitVec 32 := Scalar.muli arg19 c64_i32
  let v438 : BitVec 32 := v437
  let v460 : Index := Scalar.indexCast v438
  let c0_407 : Index := 0#32
  ![4, v460.toNat, 0]
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2176x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2176x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2176x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2176x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2176x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2176x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2176x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S3x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S31x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S5x2176x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S32x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S2064x2560 : Shape := ⟨2, ![2064, 2560]⟩
abbrev S2064x512 : Shape := ⟨2, ![2064, 512]⟩
abbrev S3x512 : Shape := ⟨2, ![3, 512]⟩
abbrev S31x512 : Shape := ⟨2, ![31, 512]⟩
abbrev S3x2064x2064 : Shape := ⟨3, ![3, 2064, 2064]⟩
abbrev S_ : Shape := ⟨0, ![]⟩
abbrev S3x1x512 : Shape := ⟨3, ![3, 1, 512]⟩
abbrev S3x2064x512 : Shape := ⟨3, ![3, 2064, 512]⟩
abbrev S31x2064x2064 : Shape := ⟨3, ![31, 2064, 2064]⟩
abbrev S31x1x512 : Shape := ⟨3, ![31, 1, 512]⟩
abbrev S31x2064x512 : Shape := ⟨3, ![31, 2064, 512]⟩
abbrev S512x2064 : Shape := ⟨2, ![512, 2064]⟩
abbrev S2064x5x512 : Shape := ⟨3, ![2064, 5, 512]⟩
abbrev S5x2064x512 : Shape := ⟨3, ![5, 2064, 512]⟩
abbrev S8x512 : Shape := ⟨2, ![8, 512]⟩
abbrev S32x512 : Shape := ⟨2, ![32, 512]⟩

abbrev nBuf : Space → Nat
  | .hbm => 104
  | .vmem => 0
  | .smem => 0
  | _ => 0

abbrev bufTy : (tb : Table) → Fin (tcTables nBuf tb) → BufTy
  | .hbm, ⟨0, _⟩ => ⟨S2064x2560, .f32⟩
  | .hbm, ⟨1, _⟩ => ⟨S2064x512, .f32⟩
  | .hbm, ⟨2, _⟩ => ⟨S2064x512, .f32⟩
  | .hbm, ⟨3, _⟩ => ⟨S3x512, .f32⟩
  | .hbm, ⟨4, _⟩ => ⟨S31x512, .f32⟩
  | .hbm, ⟨5, _⟩ => ⟨S2064x512, .f32⟩
  | .hbm, ⟨6, _⟩ => ⟨S2064x512, .f32⟩
  | .hbm, ⟨7, _⟩ => ⟨S2064x512, .f32⟩
  | .hbm, ⟨8, _⟩ => ⟨S2064x512, .f32⟩
  | .hbm, ⟨9, _⟩ => ⟨S2064x512, .f32⟩
  | .hbm, ⟨10, _⟩ => ⟨S2064x512, .f32⟩
  | .hbm, ⟨11, _⟩ => ⟨S3x2064x2064, .i32⟩
  | .hbm, ⟨12, _⟩ => ⟨S3x2064x2064, .i32⟩
  | .hbm, ⟨13, _⟩ => ⟨S3x2064x2064, .i32⟩
  | .hbm, ⟨14, _⟩ => ⟨S_, .i32⟩
  | .hbm, ⟨15, _⟩ => ⟨S3x2064x2064, .i32⟩
  | .hbm, ⟨16, _⟩ => ⟨S3x2064x2064, .i32⟩
  | .hbm, ⟨17, _⟩ => ⟨S3x2064x2064, .i32⟩
  | .hbm, ⟨18, _⟩ => ⟨S3x2064x2064, .i1⟩
  | .hbm, ⟨19, _⟩ => ⟨S_, .f32⟩
  | .hbm, ⟨20, _⟩ => ⟨S_, .f32⟩
  | .hbm, ⟨21, _⟩ => ⟨S3x2064x2064, .f32⟩
  | .hbm, ⟨22, _⟩ => ⟨S3x2064x2064, .f32⟩
  | .hbm, ⟨23, _⟩ => ⟨S3x2064x2064, .f32⟩
  | .hbm, ⟨24, _⟩ => ⟨S3x2064x2064, .f32⟩
  | .hbm, ⟨25, _⟩ => ⟨S3x1x512, .f32⟩
  | .hbm, ⟨26, _⟩ => ⟨S3x2064x512, .f32⟩
  | .hbm, ⟨27, _⟩ => ⟨S3x2064x512, .f32⟩
  | .hbm, ⟨28, _⟩ => ⟨S3x2064x512, .f32⟩
  | .hbm, ⟨29, _⟩ => ⟨S_, .f32⟩
  | .hbm, ⟨30, _⟩ => ⟨S2064x512, .f32⟩
  | .hbm, ⟨31, _⟩ => ⟨S2064x512, .f32⟩
  | .hbm, ⟨32, _⟩ => ⟨S2064x512, .f32⟩
  | .hbm, ⟨33, _⟩ => ⟨S2064x512, .f32⟩
  | .hbm, ⟨34, _⟩ => ⟨S_, .f32⟩
  | .hbm, ⟨35, _⟩ => ⟨S2064x512, .f32⟩
  | .hbm, ⟨36, _⟩ => ⟨S2064x512, .f32⟩
  | .hbm, ⟨37, _⟩ => ⟨S_, .f32⟩
  | .hbm, ⟨38, _⟩ => ⟨S2064x512, .f32⟩
  | .hbm, ⟨39, _⟩ => ⟨S2064x512, .f32⟩
  | .hbm, ⟨40, _⟩ => ⟨S_, .f32⟩
  | .hbm, ⟨41, _⟩ => ⟨S2064x512, .f32⟩
  | .hbm, ⟨42, _⟩ => ⟨S2064x512, .f32⟩
  | .hbm, ⟨43, _⟩ => ⟨S2064x512, .f32⟩
  | .hbm, ⟨44, _⟩ => ⟨S2064x512, .f32⟩
  | .hbm, ⟨45, _⟩ => ⟨S31x2064x2064, .i32⟩
  | .hbm, ⟨46, _⟩ => ⟨S31x2064x2064, .i32⟩
  | .hbm, ⟨47, _⟩ => ⟨S31x2064x2064, .i32⟩
  | .hbm, ⟨48, _⟩ => ⟨S_, .i32⟩
  | .hbm, ⟨49, _⟩ => ⟨S31x2064x2064, .i32⟩
  | .hbm, ⟨50, _⟩ => ⟨S31x2064x2064, .i32⟩
  | .hbm, ⟨51, _⟩ => ⟨S31x2064x2064, .i32⟩
  | .hbm, ⟨52, _⟩ => ⟨S31x2064x2064, .i1⟩
  | .hbm, ⟨53, _⟩ => ⟨S_, .f32⟩
  | .hbm, ⟨54, _⟩ => ⟨S_, .f32⟩
  | .hbm, ⟨55, _⟩ => ⟨S31x2064x2064, .f32⟩
  | .hbm, ⟨56, _⟩ => ⟨S31x2064x2064, .f32⟩
  | .hbm, ⟨57, _⟩ => ⟨S31x2064x2064, .f32⟩
  | .hbm, ⟨58, _⟩ => ⟨S31x2064x2064, .f32⟩
  | .hbm, ⟨59, _⟩ => ⟨S31x1x512, .f32⟩
  | .hbm, ⟨60, _⟩ => ⟨S31x2064x512, .f32⟩
  | .hbm, ⟨61, _⟩ => ⟨S31x2064x512, .f32⟩
  | .hbm, ⟨62, _⟩ => ⟨S31x2064x512, .f32⟩
  | .hbm, ⟨63, _⟩ => ⟨S_, .f32⟩
  | .hbm, ⟨64, _⟩ => ⟨S2064x512, .f32⟩
  | .hbm, ⟨65, _⟩ => ⟨S31x2064x512, .f32⟩
  | .hbm, ⟨66, _⟩ => ⟨S31x2064x512, .f32⟩
  | .hbm, ⟨67, _⟩ => ⟨S31x2064x512, .f32⟩
  | .hbm, ⟨68, _⟩ => ⟨S31x2064x512, .f32⟩
  | .hbm, ⟨69, _⟩ => ⟨S_, .f32⟩
  | .hbm, ⟨70, _⟩ => ⟨S31x512, .f32⟩
  | .hbm, ⟨71, _⟩ => ⟨S31x1x512, .f32⟩
  | .hbm, ⟨72, _⟩ => ⟨S512x2064, .f32⟩
  | .hbm, ⟨73, _⟩ => ⟨S2064x512, .f32⟩
  | .hbm, ⟨74, _⟩ => ⟨S_, .f32⟩
  | .hbm, ⟨75, _⟩ => ⟨S31x512, .f32⟩
  | .hbm, ⟨76, _⟩ => ⟨S2064x512, .f32⟩
  | .hbm, ⟨77, _⟩ => ⟨S2064x512, .f32⟩
  | .hbm, ⟨78, _⟩ => ⟨S2064x512, .f32⟩
  | .hbm, ⟨79, _⟩ => ⟨S2064x512, .f32⟩
  | .hbm, ⟨80, _⟩ => ⟨S2064x512, .f32⟩
  | .hbm, ⟨81, _⟩ => ⟨S3x2064x512, .f32⟩
  | .hbm, ⟨82, _⟩ => ⟨S3x2064x512, .f32⟩
  | .hbm, ⟨83, _⟩ => ⟨S3x2064x512, .f32⟩
  | .hbm, ⟨84, _⟩ => ⟨S3x2064x512, .f32⟩
  | .hbm, ⟨85, _⟩ => ⟨S_, .f32⟩
  | .hbm, ⟨86, _⟩ => ⟨S3x512, .f32⟩
  | .hbm, ⟨87, _⟩ => ⟨S3x1x512, .f32⟩
  | .hbm, ⟨88, _⟩ => ⟨S512x2064, .f32⟩
  | .hbm, ⟨89, _⟩ => ⟨S2064x512, .f32⟩
  | .hbm, ⟨90, _⟩ => ⟨S_, .f32⟩
  | .hbm, ⟨91, _⟩ => ⟨S3x512, .f32⟩
  | .hbm, ⟨92, _⟩ => ⟨S2064x512, .f32⟩
  | .hbm, ⟨93, _⟩ => ⟨S2064x512, .f32⟩
  | .hbm, ⟨94, _⟩ => ⟨S2064x2560, .f32⟩
  | .hbm, ⟨95, _⟩ => ⟨S2064x2560, .bf16⟩
  | .hbm, ⟨96, _⟩ => ⟨S2064x5x512, .bf16⟩
  | .hbm, ⟨97, _⟩ => ⟨S5x2064x512, .bf16⟩
  | .hbm, ⟨98, _⟩ => ⟨S_, .i32⟩
  | .hbm, ⟨99, _⟩ => ⟨S_, .f32⟩
  | .hbm, ⟨100, _⟩ => ⟨S8x512, .f32⟩
  | .hbm, ⟨101, _⟩ => ⟨S_, .i32⟩
  | .hbm, ⟨102, _⟩ => ⟨S_, .f32⟩
  | .hbm, ⟨103, _⟩ => ⟨S32x512, .f32⟩
  | _, _ => ⟨S2064x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_5 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_cst_7 : Ref sig .tc := ⟨.hbm, 54, rfl⟩
abbrev main_call1_v0 : Ref sig .tc := ⟨.hbm, 55, rfl⟩
abbrev main_call1_v1 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_9 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_10 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_11 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_12 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_c_13 : Ref sig .tc := ⟨.hbm, 98, rfl⟩
abbrev main_call2_v0 : Ref sig .tc := ⟨.hbm, 99, rfl⟩
abbrev main_v74 : Ref sig .tc := ⟨.hbm, 100, rfl⟩
abbrev main_c_14 : Ref sig .tc := ⟨.hbm, 101, rfl⟩
abbrev main_call3_v0 : Ref sig .tc := ⟨.hbm, 102, rfl⟩
abbrev main_v75 : Ref sig .tc := ⟨.hbm, 103, rfl⟩

abbrev nD : Nat := 1
abbrev τ : Topo := Topo.v7x

variable {F : FTy → Type} [FloatOps F]
-- ==== Kernel2.lean ====
abbrev S2064x2816 : Shape := ⟨2, ![2064, 2816]⟩
abbrev S2816x1024 : Shape := ⟨2, ![2816, 1024]⟩
abbrev S2064x1024 : Shape := ⟨2, ![2064, 1024]⟩
abbrev S2048x1024 : Shape := ⟨2, ![2048, 1024]⟩
abbrev S1x1024 : Shape := ⟨2, ![1, 1024]⟩
abbrev S_ : Shape := ⟨0, ![]⟩
abbrev S2176x2816 : Shape := ⟨2, ![2176, 2816]⟩
abbrev S2176x1024 : Shape := ⟨2, ![2176, 1024]⟩
abbrev S544x2816 : Shape := ⟨2, ![544, 2816]⟩
abbrev S544x1024 : Shape := ⟨2, ![544, 1024]⟩
abbrev S544 : Shape := ⟨1, ![544]⟩
abbrev S544x1 : Shape := ⟨2, ![544, 1]⟩
abbrev S1024 : Shape := ⟨1, ![1024]⟩

abbrev nBuf : Space → Nat
  | .hbm => 20
  | .vmem => 14
  | .smem => 0
  | _ => 0

abbrev bufTy : (tb : Table) → Fin (tcTables nBuf tb) → BufTy
  | .hbm, ⟨0, _⟩ => ⟨S2064x2816, .f32⟩
  | .hbm, ⟨1, _⟩ => ⟨S2816x1024, .f32⟩
  | .hbm, ⟨2, _⟩ => ⟨S2064x1024, .f32⟩
  | .hbm, ⟨3, _⟩ => ⟨S2048x1024, .f32⟩
  | .hbm, ⟨4, _⟩ => ⟨S1x1024, .f32⟩
  | .hbm, ⟨5, _⟩ => ⟨S_, .i32⟩
  | .hbm, ⟨6, _⟩ => ⟨S_, .f32⟩
  | .hbm, ⟨7, _⟩ => ⟨S2176x2816, .f32⟩
  | .hbm, ⟨8, _⟩ => ⟨S2176x2816, .bf16⟩
  | .hbm, ⟨9, _⟩ => ⟨S2816x1024, .bf16⟩
  | .hbm, ⟨10, _⟩ => ⟨S_, .i32⟩
  | .hbm, ⟨11, _⟩ => ⟨S_, .f32⟩
  | .hbm, ⟨12, _⟩ => ⟨S2176x1024, .f32⟩
  | .hbm, ⟨13, _⟩ => ⟨S_, .i32⟩
  | .hbm, ⟨14, _⟩ => ⟨S_, .f32⟩
  | .hbm, ⟨15, _⟩ => ⟨S2176x1024, .f32⟩
  | .hbm, ⟨16, _⟩ => ⟨S2176x1024, .f32⟩
  | .hbm, ⟨17, _⟩ => ⟨S2176x1024, .bf16⟩
  | .hbm, ⟨18, _⟩ => ⟨S1x1024, .f32⟩
  | .hbm, ⟨19, _⟩ => ⟨S1x1024, .f32⟩
  | .local _ .vmem, ⟨0, _⟩ => ⟨S544x2816, .bf16⟩
  | .local _ .vmem, ⟨1, _⟩ => ⟨S544x2816, .bf16⟩
  | .local _ .vmem, ⟨2, _⟩ => ⟨S2816x1024, .bf16⟩
  | .local _ .vmem, ⟨3, _⟩ => ⟨S544x1024, .f32⟩
  | .local _ .vmem, ⟨4, _⟩ => ⟨S544x1024, .f32⟩
  | .local _ .vmem, ⟨5, _⟩ => ⟨S544x1024, .f32⟩
  | .local _ .vmem, ⟨6, _⟩ => ⟨S544x1024, .f32⟩
  | .local _ .vmem, ⟨7, _⟩ => ⟨S1x1024, .f32⟩
  | .local _ .vmem, ⟨8, _⟩ => ⟨S544x1024, .f32⟩
  | .local _ .vmem, ⟨9, _⟩ => ⟨S544x1024, .f32⟩
  | .local _ .vmem, ⟨10, _⟩ => ⟨S544x1024, .bf16⟩
  | .local _ .vmem, ⟨11, _⟩ => ⟨S544x1024, .bf16⟩
  | .local _ .vmem, ⟨12, _⟩ => ⟨S1x1024, .f32⟩
  | .local _ .vmem, ⟨13, _⟩ => ⟨S1x1024, .f32⟩
  | _, _ => ⟨S2064x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_c_1 : Ref sig .tc := ⟨.hbm, 13, rfl⟩
abbrev main_call2_v0 : Ref sig .tc := ⟨.hbm, 14, rfl⟩
abbrev main_v4 : Ref sig .tc := ⟨.hbm, 15, rfl⟩
abbrev main_v5_0 : Ref sig .tc := ⟨.hbm, 16, rfl⟩
abbrev main_v5_1 : Ref sig .tc := ⟨.hbm, 17, rfl⟩
abbrev main_v5_2 : Ref sig .tc := ⟨.hbm, 18, rfl⟩
abbrev main_v5_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v52 : BitVec 1 := Scalar.cmpi .eq arg0 c0_i32
  let v55 : BitVec 32 := Scalar.extui v52
  let c0_i32_21 : BitVec 32 := 0#32
  let v56 : BitVec 1 := Scalar.cmpi .ne v55 c0_i32_21
  v56

def k0_cond2 (i : grid0.Coords) : BitVec 1 :=
  let arg0 : BitVec 32 := BitVec.ofNat 32 (i 0).val
  let c0_i32 : BitVec 32 := 0#32
  let v52 : BitVec 1 := Scalar.cmpi .eq arg0 c0_i32
  let v_true : BitVec 1 := 1#1
  let v57 : BitVec 1 := Scalar.xori v52 v_true
  let v58 : BitVec 32 := Scalar.extui v57
  let c0_i32_22 : BitVec 32 := 0#32
  let v59 : BitVec 1 := Scalar.cmpi .ne v58 c0_i32_22
  v59

def k0_cond3 (i : grid0.Coords) : BitVec 1 :=
  let arg0 : BitVec 32 := BitVec.ofNat 32 (i 0).val
  let c0_i32_23 : BitVec 32 := 0#32
  let v61 : BitVec 1 := Scalar.cmpi .eq arg0 c0_i32_23
  let v64 : BitVec 32 := Scalar.extui v61
  let c0_i32_25 : BitVec 32 := 0#32
  let v65 : BitVec 1 := Scalar.cmpi .ne v64 c0_i32_25
  v65

def k0_cond4 (i : grid0.Coords) : BitVec 1 :=
  let arg0 : BitVec 32 := BitVec.ofNat 32 (i 0).val
  let c0_i32_23 : BitVec 32 := 0#32
  let v61 : BitVec 1 := Scalar.cmpi .eq arg0 c0_i32_23
  let true_26 : BitVec 1 := 1#1
  let v66 : BitVec 1 := Scalar.xori v61 true_26
  let v67 : BitVec 32 := Scalar.extui v66
  let c0_i32_27 : BitVec 32 := 0#32
  let v68 : BitVec 1 := Scalar.cmpi .ne v67 c0_i32_27
  v68

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S544x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S544x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S544x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S544x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference2Ideal.lean ====
abbrev S2064x2816 : Shape := ⟨2, ![2064, 2816]⟩
abbrev S2816x1024 : Shape := ⟨2, ![2816, 1024]⟩
abbrev S2064x1024 : Shape := ⟨2, ![2064, 1024]⟩
abbrev S2048x1024 : Shape := ⟨2, ![2048, 1024]⟩
abbrev S1x1024 : Shape := ⟨2, ![1, 1024]⟩
abbrev S_ : Shape := ⟨0, ![]⟩
abbrev S2064 : Shape := ⟨1, ![2064]⟩
abbrev S2064x1 : Shape := ⟨2, ![2064, 1]⟩
abbrev S2048 : Shape := ⟨1, ![2048]⟩
abbrev S1024 : Shape := ⟨1, ![1024]⟩
abbrev S2176x1024 : Shape := ⟨2, ![2176, 1024]⟩

abbrev nBuf : Space → Nat
  | .hbm => 85
  | .vmem => 0
  | .smem => 0
  | _ => 0

abbrev bufTy : (tb : Table) → Fin (tcTables nBuf tb) → BufTy
  | .hbm, ⟨0, _⟩ => ⟨S2064x2816, .f32⟩
  | .hbm, ⟨1, _⟩ => ⟨S2816x1024, .f32⟩
  | .hbm, ⟨2, _⟩ => ⟨S2064x1024, .f32⟩
  | .hbm, ⟨3, _⟩ => ⟨S2048x1024, .f32⟩
  | .hbm, ⟨4, _⟩ => ⟨S1x1024, .f32⟩
  | .hbm, ⟨5, _⟩ => ⟨S2064x1024, .f32⟩
  | .hbm, ⟨6, _⟩ => ⟨S2064x1024, .f32⟩
  | .hbm, ⟨7, _⟩ => ⟨S_, .f32⟩
  | .hbm, ⟨8, _⟩ => ⟨S2064, .f32⟩
  | .hbm, ⟨9, _⟩ => ⟨S2064x1, .f32⟩
  | .hbm, ⟨10, _⟩ => ⟨S_, .f32⟩
  | .hbm, ⟨11, _⟩ => ⟨S2064x1, .f32⟩
  | .hbm, ⟨12, _⟩ => ⟨S2064x1, .f32⟩
  | .hbm, ⟨13, _⟩ => ⟨S_, .f32⟩
  | .hbm, ⟨14, _⟩ => ⟨S2064x1, .f32⟩
  | .hbm, ⟨15, _⟩ => ⟨S2064x1, .f32⟩
  | .hbm, ⟨16, _⟩ => ⟨S2064x1, .f32⟩
  | .hbm, ⟨17, _⟩ => ⟨S2064x1, .f32⟩
  | .hbm, ⟨18, _⟩ => ⟨S_, .f32⟩
  | .hbm, ⟨19, _⟩ => ⟨S2064x1, .f32⟩
  | .hbm, ⟨20, _⟩ => ⟨S2064x1, .f32⟩
  | .hbm, ⟨21, _⟩ => ⟨S2064x1024, .f32⟩
  | .hbm, ⟨22, _⟩ => ⟨S2064x1024, .f32⟩
  | .hbm, ⟨23, _⟩ => ⟨S2064x1024, .f32⟩
  | .hbm, ⟨24, _⟩ => ⟨S2064x1024, .f32⟩
  | .hbm, ⟨25, _⟩ => ⟨S2064x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S2048, .f32⟩
  | .hbm, ⟨34, _⟩ => ⟨S_, .f32⟩
  | .hbm, ⟨35, _⟩ => ⟨S2048, .f32⟩
  | .hbm, ⟨36, _⟩ => ⟨S2048, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S2048, .f32⟩
  | .hbm, ⟨45, _⟩ => ⟨S_, .f32⟩
  | .hbm, ⟨46, _⟩ => ⟨S2048, .f32⟩
  | .hbm, ⟨47, _⟩ => ⟨S2048, .f32⟩
  | .hbm, ⟨48, _⟩ => ⟨S2048x1024, .f32⟩
  | .hbm, ⟨49, _⟩ => ⟨S2048x1024, .f32⟩
  | .hbm, ⟨50, _⟩ => ⟨S_, .f32⟩
  | .hbm, ⟨51, _⟩ => ⟨S2064x1024, .f32⟩
  | .hbm, ⟨52, _⟩ => ⟨S2064x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S2064x1024, .f32⟩
  | .hbm, ⟨57, _⟩ => ⟨S2064x1024, .f32⟩
  | .hbm, ⟨58, _⟩ => ⟨S2064x1024, .f32⟩
  | .hbm, ⟨59, _⟩ => ⟨S_, .f32⟩
  | .hbm, ⟨60, _⟩ => ⟨S2064, .f32⟩
  | .hbm, ⟨61, _⟩ => ⟨S2064x1, .f32⟩
  | .hbm, ⟨62, _⟩ => ⟨S2064x1024, .f32⟩
  | .hbm, ⟨63, _⟩ => ⟨S2064x1024, .f32⟩
  | .hbm, ⟨64, _⟩ => ⟨S2064x1, .f32⟩
  | .hbm, ⟨65, _⟩ => ⟨S_, .f32⟩
  | .hbm, ⟨66, _⟩ => ⟨S2064x1, .f32⟩
  | .hbm, ⟨67, _⟩ => ⟨S2064x1, .f32⟩
  | .hbm, ⟨68, _⟩ => ⟨S_, .f32⟩
  | .hbm, ⟨69, _⟩ => ⟨S2064, .f32⟩
  | .hbm, ⟨70, _⟩ => ⟨S2064x1024, .f32⟩
  | .hbm, ⟨71, _⟩ => ⟨S2064x1024, .f32⟩
  | .hbm, ⟨72, _⟩ => ⟨S2064x1024, .f32⟩
  | .hbm, ⟨73, _⟩ => ⟨S2064x1024, .f32⟩
  | .hbm, ⟨74, _⟩ => ⟨S2064x1024, .f32⟩
  | .hbm, ⟨75, _⟩ => ⟨S_, .i32⟩
  | .hbm, ⟨76, _⟩ => ⟨S_, .f32⟩
  | .hbm, ⟨77, _⟩ => ⟨S2176x1024, .f32⟩
  | .hbm, ⟨78, _⟩ => ⟨S_, .i32⟩
  | .hbm, ⟨79, _⟩ => ⟨S_, .f32⟩
  | .hbm, ⟨80, _⟩ => ⟨S2176x1024, .f32⟩
  | .hbm, ⟨81, _⟩ => ⟨S2176x1024, .bf16⟩
  | .hbm, ⟨82, _⟩ => ⟨S_, .f32⟩
  | .hbm, ⟨83, _⟩ => ⟨S1024, .f32⟩
  | .hbm, ⟨84, _⟩ => ⟨S1x1024, .f32⟩
  | _, _ => ⟨S2064x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_cst_8 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩
abbrev main_cst_10 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_11 : Ref sig .tc := ⟨.hbm, 50, rfl⟩
abbrev main_v33 : Ref sig .tc := ⟨.hbm, 51, rfl⟩
abbrev main_v34 : Ref sig .tc := ⟨.hbm, 52, rfl⟩
abbrev main_cst_12 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_13 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_14 : Ref sig .tc := ⟨.hbm, 65, rfl⟩
abbrev main_v45 : Ref sig .tc := ⟨.hbm, 66, rfl⟩
abbrev main_v46 : Ref sig .tc := ⟨.hbm, 67, rfl⟩
abbrev main_cst_15 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_c : Ref sig .tc := ⟨.hbm, 75, rfl⟩
abbrev main_call0_v0 : Ref sig .tc := ⟨.hbm, 76, rfl⟩
abbrev main_v53 : Ref sig .tc := ⟨.hbm, 77, rfl⟩
abbrev main_c_16 : Ref sig .tc := ⟨.hbm, 78, rfl⟩
abbrev main_call1_v0 : Ref sig .tc := ⟨.hbm, 79, rfl⟩
abbrev main_v54 : Ref sig .tc := ⟨.hbm, 80, rfl⟩
abbrev main_v55 : Ref sig .tc := ⟨.hbm, 81, rfl⟩
abbrev main_cst_17 : Ref sig .tc := ⟨.hbm, 82, rfl⟩
abbrev main_v56 : Ref sig .tc := ⟨.hbm, 83, rfl⟩
abbrev main_v57 : Ref sig .tc := ⟨.hbm, 84, rfl⟩

abbrev nD : Nat := 1
abbrev τ : Topo := Topo.v7x

variable {F : FTy → Type} [FloatOps F]
-- ==== Kernel3.lean ====
abbrev S2064x512 : Shape := ⟨2, ![2064, 512]⟩
abbrev S1x512 : Shape := ⟨2, ![1, 512]⟩
abbrev S1024x1024 : Shape := ⟨2, ![1024, 1024]⟩
abbrev S1x1024 : Shape := ⟨2, ![1, 1024]⟩
abbrev S2064x1024 : Shape := ⟨2, ![2064, 1024]⟩
abbrev S_ : Shape := ⟨0, ![]⟩
abbrev S2176x512 : Shape := ⟨2, ![2176, 512]⟩
abbrev S2176 : Shape := ⟨1, ![2176]⟩
abbrev S2176x1 : Shape := ⟨2, ![2176, 1]⟩
abbrev S2176x1024 : Shape := ⟨2, ![2176, 1024]⟩
abbrev S544x1024 : Shape := ⟨2, ![544, 1024]⟩
abbrev S544x512 : Shape := ⟨2, ![544, 512]⟩
abbrev S544 : Shape := ⟨1, ![544]⟩
abbrev S544x1 : Shape := ⟨2, ![544, 1]⟩
abbrev S1024 : Shape := ⟨1, ![1024]⟩
abbrev S512 : Shape := ⟨1, ![512]⟩

abbrev nBuf : Space → Nat
  | .hbm => 65
  | .vmem => 20
  | .smem => 0
  | _ => 0

abbrev bufTy : (tb : Table) → Fin (tcTables nBuf tb) → BufTy
  | .hbm, ⟨0, _⟩ => ⟨S2064x512, .f32⟩
  | .hbm, ⟨1, _⟩ => ⟨S2064x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1024x1024, .f32⟩
  | .hbm, ⟨6, _⟩ => ⟨S1x1024, .f32⟩
  | .hbm, ⟨7, _⟩ => ⟨S2064x1024, .f32⟩
  | .hbm, ⟨8, _⟩ => ⟨S_, .i32⟩
  | .hbm, ⟨9, _⟩ => ⟨S_, .f32⟩
  | .hbm, ⟨10, _⟩ => ⟨S2176x512, .f32⟩
  | .hbm, ⟨11, _⟩ => ⟨S2176x512, .f32⟩
  | .hbm, ⟨12, _⟩ => ⟨S2176x512, .f32⟩
  | .hbm, ⟨13, _⟩ => ⟨S_, .i32⟩
  | .hbm, ⟨14, _⟩ => ⟨S_, .f32⟩
  | .hbm, ⟨15, _⟩ => ⟨S2176x512, .f32⟩
  | .hbm, ⟨16, _⟩ => ⟨S_, .f32⟩
  | .hbm, ⟨17, _⟩ => ⟨S2176, .f32⟩
  | .hbm, ⟨18, _⟩ => ⟨S2176x1, .f32⟩
  | .hbm, ⟨19, _⟩ => ⟨S_, .f32⟩
  | .hbm, ⟨20, _⟩ => ⟨S2176x1, .f32⟩
  | .hbm, ⟨21, _⟩ => ⟨S2176x1, .f32⟩
  | .hbm, ⟨22, _⟩ => ⟨S2176x512, .f32⟩
  | .hbm, ⟨23, _⟩ => ⟨S2176x512, .f32⟩
  | .hbm, ⟨24, _⟩ => ⟨S2176x512, .f32⟩
  | .hbm, ⟨25, _⟩ => ⟨S_, .f32⟩
  | .hbm, ⟨26, _⟩ => ⟨S2176, .f32⟩
  | .hbm, ⟨27, _⟩ => ⟨S2176x1, .f32⟩
  | .hbm, ⟨28, _⟩ => ⟨S_, .f32⟩
  | .hbm, ⟨29, _⟩ => ⟨S2176x1, .f32⟩
  | .hbm, ⟨30, _⟩ => ⟨S2176x1, .f32⟩
  | .hbm, ⟨31, _⟩ => ⟨S2176x512, .f32⟩
  | .hbm, ⟨32, _⟩ => ⟨S2176x512, .f32⟩
  | .hbm, ⟨33, _⟩ => ⟨S_, .f32⟩
  | .hbm, ⟨34, _⟩ => ⟨S2176x1, .f32⟩
  | .hbm, ⟨35, _⟩ => ⟨S2176x1, .f32⟩
  | .hbm, ⟨36, _⟩ => ⟨S2176x1, .f32⟩
  | .hbm, ⟨37, _⟩ => ⟨S2176x512, .f32⟩
  | .hbm, ⟨38, _⟩ => ⟨S2176x512, .f32⟩
  | .hbm, ⟨39, _⟩ => ⟨S2176x512, .f32⟩
  | .hbm, ⟨40, _⟩ => ⟨S2176x512, .f32⟩
  | .hbm, ⟨41, _⟩ => ⟨S2176x512, .f32⟩
  | .hbm, ⟨42, _⟩ => ⟨S2176x512, .f32⟩
  | .hbm, ⟨43, _⟩ => ⟨S2176x512, .f32⟩
  | .hbm, ⟨44, _⟩ => ⟨S2176x512, .f32⟩
  | .hbm, ⟨45, _⟩ => ⟨S_, .f32⟩
  | .hbm, ⟨46, _⟩ => ⟨S2176x512, .f32⟩
  | .hbm, ⟨47, _⟩ => ⟨S2176x512, .f32⟩
  | .hbm, ⟨48, _⟩ => ⟨S_, .f32⟩
  | .hbm, ⟨49, _⟩ => ⟨S2176x512, .f32⟩
  | .hbm, ⟨50, _⟩ => ⟨S2176x512, .f32⟩
  | .hbm, ⟨51, _⟩ => ⟨S2176x512, .f32⟩
  | .hbm, ⟨52, _⟩ => ⟨S2176x1024, .f32⟩
  | .hbm, ⟨53, _⟩ => ⟨S2176x1024, .f32⟩
  | .hbm, ⟨54, _⟩ => ⟨S_, .i32⟩
  | .hbm, ⟨55, _⟩ => ⟨S_, .f32⟩
  | .hbm, ⟨56, _⟩ => ⟨S2176x1024, .f32⟩
  | .hbm, ⟨57, _⟩ => ⟨S1024x1024, .bf16⟩
  | .hbm, ⟨58, _⟩ => ⟨S2176x1024, .bf16⟩
  | .hbm, ⟨59, _⟩ => ⟨S2176x512, .f32⟩
  | .hbm, ⟨60, _⟩ => ⟨S2176x512, .f32⟩
  | .hbm, ⟨61, _⟩ => ⟨S1x1024, .f32⟩
  | .hbm, ⟨62, _⟩ => ⟨S1x512, .f32⟩
  | .hbm, ⟨63, _⟩ => ⟨S1x512, .f32⟩
  | .hbm, ⟨64, _⟩ => ⟨S1x512, .f32⟩
  | .local _ .vmem, ⟨0, _⟩ => ⟨S544x1024, .f32⟩
  | .local _ .vmem, ⟨1, _⟩ => ⟨S544x1024, .f32⟩
  | .local _ .vmem, ⟨2, _⟩ => ⟨S544x1024, .f32⟩
  | .local _ .vmem, ⟨3, _⟩ => ⟨S544x1024, .f32⟩
  | .local _ .vmem, ⟨4, _⟩ => ⟨S1024x1024, .bf16⟩
  | .local _ .vmem, ⟨5, _⟩ => ⟨S1x1024, .f32⟩
  | .local _ .vmem, ⟨6, _⟩ => ⟨S544x512, .f32⟩
  | .local _ .vmem, ⟨7, _⟩ => ⟨S544x512, .f32⟩
  | .local _ .vmem, ⟨8, _⟩ => ⟨S1x512, .f32⟩
  | .local _ .vmem, ⟨9, _⟩ => ⟨S1x512, .f32⟩
  | .local _ .vmem, ⟨10, _⟩ => ⟨S544x1024, .bf16⟩
  | .local _ .vmem, ⟨11, _⟩ => ⟨S544x1024, .bf16⟩
  | .local _ .vmem, ⟨12, _⟩ => ⟨S544x512, .f32⟩
  | .local _ .vmem, ⟨13, _⟩ => ⟨S544x512, .f32⟩
  | .local _ .vmem, ⟨14, _⟩ => ⟨S544x512, .f32⟩
  | .local _ .vmem, ⟨15, _⟩ => ⟨S544x512, .f32⟩
  | .local _ .vmem, ⟨16, _⟩ => ⟨S1x1024, .f32⟩
  | .local _ .vmem, ⟨17, _⟩ => ⟨S1x512, .f32⟩
  | .local _ .vmem, ⟨18, _⟩ => ⟨S1x512, .f32⟩
  | .local _ .vmem, ⟨19, _⟩ => ⟨S1x512, .f32⟩
  | _, _ => ⟨S2064x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_call1_v0 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_4 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_call2_v0 : Ref sig .tc := ⟨.hbm, 43, rfl⟩
abbrev main_call2_v1 : Ref sig .tc := ⟨.hbm, 44, rfl⟩
abbrev main_call2_cst : Ref sig .tc := ⟨.hbm, 45, rfl⟩
abbrev main_call2_v2 : Ref sig .tc := ⟨.hbm, 46, rfl⟩
abbrev main_call2_v3 : Ref sig .tc := ⟨.hbm, 47, rfl⟩
abbrev main_call2_cst_0 : Ref sig .tc := ⟨.hbm, 48, rfl⟩
abbrev main_call2_v4 : Ref sig .tc := ⟨.hbm, 49, rfl⟩
abbrev main_call2_v5 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_c_5 : Ref sig .tc := ⟨.hbm, 54, rfl⟩
abbrev main_call3_v0 : Ref sig .tc := ⟨.hbm, 55, rfl⟩
abbrev main_v29 : Ref sig .tc := ⟨.hbm, 56, rfl⟩
abbrev main_v30 : Ref sig .tc := ⟨.hbm, 57, rfl⟩
abbrev main_v31_0 : Ref sig .tc := ⟨.hbm, 58, rfl⟩
abbrev main_v31_1 : Ref sig .tc := ⟨.hbm, 59, rfl⟩
abbrev main_v31_2 : Ref sig .tc := ⟨.hbm, 60, rfl⟩
abbrev main_v31_3 : Ref sig .tc := ⟨.hbm, 61, rfl⟩
abbrev main_v31_4 : Ref sig .tc := ⟨.hbm, 62, rfl⟩
abbrev main_v31_5 : Ref sig .tc := ⟨.hbm, 63, rfl⟩
abbrev main_v31_6 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v18 : BitVec 32 := Scalar.extui v0
  let c0_i32_6 : BitVec 32 := 0#32
  let v19 : BitVec 1 := Scalar.cmpi .ne v18 c0_i32_6
  v19

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v20 : BitVec 1 := Scalar.xori v0 v_true
  let v21 : BitVec 32 := Scalar.extui v20
  let c0_i32_7 : BitVec 32 := 0#32
  let v22 : BitVec 1 := Scalar.cmpi .ne v21 c0_i32_7
  v22

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v79 : BitVec 32 := Scalar.extui v0
  let c0_i32_33 : BitVec 32 := 0#32
  let v80 : BitVec 1 := Scalar.cmpi .ne v79 c0_i32_33
  v80

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_34 : BitVec 1 := 1#1
  let v81 : BitVec 1 := Scalar.xori v0 true_34
  let v82 : BitVec 32 := Scalar.extui v81
  let c0_i32_35 : BitVec 32 := 0#32
  let v83 : BitVec 1 := Scalar.cmpi .ne v82 c0_i32_35
  v83

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v86 : BitVec 32 := Scalar.extui v0
  let c0_i32_37 : BitVec 32 := 0#32
  let v87 : BitVec 1 := Scalar.cmpi .ne v86 c0_i32_37
  v87

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let true_38 : BitVec 1 := 1#1
  let v88 : BitVec 1 := Scalar.xori v0 true_38
  let v89 : BitVec 32 := Scalar.extui v88
  let c0_i32_39 : BitVec 32 := 0#32
  let v90 : BitVec 1 := Scalar.cmpi .ne v89 c0_i32_39
  v90

def k0_cond7 (i : grid0.Coords) : BitVec 1 :=
  let arg0 : BitVec 32 := BitVec.ofNat 32 (i 0).val
  let c0_i32 : BitVec 32 := 0#32
  let v0 : BitVec 1 := Scalar.cmpi .eq arg0 c0_i32
  let v112 : BitVec 32 := Scalar.extui v0
  let c0_i32_47 : BitVec 32 := 0#32
  let v113 : BitVec 1 := Scalar.cmpi .ne v112 c0_i32_47
  v113

def k0_cond8 (i : grid0.Coords) : BitVec 1 :=
  let arg0 : BitVec 32 := BitVec.ofNat 32 (i 0).val
  let c0_i32 : BitVec 32 := 0#32
  let v0 : BitVec 1 := Scalar.cmpi .eq arg0 c0_i32
  let true_48 : BitVec 1 := 1#1
  let v114 : BitVec 1 := Scalar.xori v0 true_48
  let v115 : BitVec 32 := Scalar.extui v114
  let c0_i32_49 : BitVec 32 := 0#32
  let v116 : BitVec 1 := Scalar.cmpi .ne v115 c0_i32_49
  v116

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S544x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S544x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S544x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S544x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S544x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference3Ideal.lean ====
abbrev S2064x512 : Shape := ⟨2, ![2064, 512]⟩
abbrev S1x512 : Shape := ⟨2, ![1, 512]⟩
abbrev S1024x1024 : Shape := ⟨2, ![1024, 1024]⟩
abbrev S1x1024 : Shape := ⟨2, ![1, 1024]⟩
abbrev S2064x1024 : Shape := ⟨2, ![2064, 1024]⟩
abbrev S_ : Shape := ⟨0, ![]⟩
abbrev S2064 : Shape := ⟨1, ![2064]⟩
abbrev S2064x1 : Shape := ⟨2, ![2064, 1]⟩
abbrev S1024 : Shape := ⟨1, ![1024]⟩
abbrev S512 : Shape := ⟨1, ![512]⟩
abbrev S2176x1024 : Shape := ⟨2, ![2176, 1024]⟩
abbrev S2176x512 : Shape := ⟨2, ![2176, 512]⟩

abbrev nBuf : Space → Nat
  | .hbm => 161
  | .vmem => 0
  | .smem => 0
  | _ => 0

abbrev hbmTy0_0 (i : Nat) : BufTy := match i % 128 with
  | 0 => ⟨S2064x512, .f32⟩
  | 1 => ⟨S2064x512, .f32⟩
  | 2 => ⟨S1x512, .f32⟩
  | 3 => ⟨S1x512, .f32⟩
  | 4 => ⟨S1x512, .f32⟩
  | 5 => ⟨S1024x1024, .f32⟩
  | 6 => ⟨S1x1024, .f32⟩
  | 7 => ⟨S2064x1024, .f32⟩
  | 8 => ⟨S2064x512, .f32⟩
  | 9 => ⟨S2064x512, .f32⟩
  | 10 => ⟨S_, .f32⟩
  | 11 => ⟨S2064, .f32⟩
  | 12 => ⟨S2064x1, .f32⟩
  | 13 => ⟨S_, .f32⟩
  | 14 => ⟨S2064x1, .f32⟩
  | 15 => ⟨S2064x1, .f32⟩
  | 16 => ⟨S2064x512, .f32⟩
  | 17 => ⟨S2064x512, .f32⟩
  | 18 => ⟨S2064x512, .f32⟩
  | 19 => ⟨S_, .f32⟩
  | 20 => ⟨S2064x512, .f32⟩
  | 21 => ⟨S2064x512, .f32⟩
  | 22 => ⟨S_, .f32⟩
  | 23 => ⟨S2064, .f32⟩
  | 24 => ⟨S2064x1, .f32⟩
  | 25 => ⟨S_, .f32⟩
  | 26 => ⟨S2064x1, .f32⟩
  | 27 => ⟨S2064x1, .f32⟩
  | 28 => ⟨S2064x512, .f32⟩
  | 29 => ⟨S2064x512, .f32⟩
  | 30 => ⟨S_, .f32⟩
  | 31 => ⟨S2064x1, .f32⟩
  | 32 => ⟨S2064x1, .f32⟩
  | 33 => ⟨S2064x1, .f32⟩
  | 34 => ⟨S2064x1, .f32⟩
  | 35 => ⟨S_, .f32⟩
  | 36 => ⟨S2064x1, .f32⟩
  | 37 => ⟨S2064x1, .f32⟩
  | 38 => ⟨S2064x512, .f32⟩
  | 39 => ⟨S2064x512, .f32⟩
  | 40 => ⟨S2064x512, .f32⟩
  | 41 => ⟨S2064x512, .f32⟩
  | 42 => ⟨S2064x512, .f32⟩
  | 43 => ⟨S2064x512, .f32⟩
  | 44 => ⟨S2064x512, .f32⟩
  | 45 => ⟨S2064x512, .f32⟩
  | 46 => ⟨S_, .f32⟩
  | 47 => ⟨S2064x512, .f32⟩
  | 48 => ⟨S2064x512, .f32⟩
  | 49 => ⟨S_, .f32⟩
  | 50 => ⟨S2064x512, .f32⟩
  | 51 => ⟨S2064x512, .f32⟩
  | 52 => ⟨S_, .f32⟩
  | 53 => ⟨S2064x512, .f32⟩
  | 54 => ⟨S2064x512, .f32⟩
  | 55 => ⟨S2064x512, .f32⟩
  | 56 => ⟨S2064x512, .f32⟩
  | 57 => ⟨S2064x1024, .f32⟩
  | 58 => ⟨S2064x1024, .f32⟩
  | 59 => ⟨S2064x1024, .f32⟩
  | 60 => ⟨S_, .f32⟩
  | 61 => ⟨S2064, .f32⟩
  | 62 => ⟨S2064x1, .f32⟩
  | 63 => ⟨S_, .f32⟩
  | 64 => ⟨S2064x1, .f32⟩
  | 65 => ⟨S2064x1, .f32⟩
  | 66 => ⟨S_, .f32⟩
  | 67 => ⟨S2064x1, .f32⟩
  | 68 => ⟨S2064x1, .f32⟩
  | 69 => ⟨S2064x1, .f32⟩
  | 70 => ⟨S2064x1, .f32⟩
  | 71 => ⟨S_, .f32⟩
  | 72 => ⟨S2064x1, .f32⟩
  | 73 => ⟨S2064x1, .f32⟩
  | 74 => ⟨S2064x1024, .f32⟩
  | 75 => ⟨S2064x1024, .f32⟩
  | 76 => ⟨S2064x1024, .f32⟩
  | 77 => ⟨S2064x1024, .f32⟩
  | 78 => ⟨S2064x1024, .f32⟩
  | 79 => ⟨S_, .f32⟩
  | 80 => ⟨S1024, .f32⟩
  | 81 => ⟨S1x1024, .f32⟩
  | 82 => ⟨S2064x1024, .f32⟩
  | 83 => ⟨S2064x1024, .f32⟩
  | 84 => ⟨S2064x1024, .f32⟩
  | 85 => ⟨S_, .f32⟩
  | 86 => ⟨S2064, .f32⟩
  | 87 => ⟨S2064x1, .f32⟩
  | 88 => ⟨S2064x1024, .f32⟩
  | 89 => ⟨S2064x1024, .f32⟩
  | 90 => ⟨S2064x1, .f32⟩
  | 91 => ⟨S_, .f32⟩
  | 92 => ⟨S2064x1, .f32⟩
  | 93 => ⟨S2064x1, .f32⟩
  | 94 => ⟨S_, .f32⟩
  | 95 => ⟨S2064, .f32⟩
  | 96 => ⟨S2064x1024, .f32⟩
  | 97 => ⟨S2064x1024, .f32⟩
  | 98 => ⟨S2064x1024, .f32⟩
  | 99 => ⟨S2064x1024, .f32⟩
  | 100 => ⟨S2064x1024, .f32⟩
  | 101 => ⟨S2064x1024, .f32⟩
  | 102 => ⟨S2064x512, .f32⟩
  | 103 => ⟨S2064x512, .f32⟩
  | 104 => ⟨S2064x512, .f32⟩
  | 105 => ⟨S2064x512, .f32⟩
  | 106 => ⟨S2064x512, .f32⟩
  | 107 => ⟨S2064x512, .f32⟩
  | 108 => ⟨S_, .f32⟩
  | 109 => ⟨S512, .f32⟩
  | 110 => ⟨S1x512, .f32⟩
  | 111 => ⟨S2064x512, .f32⟩
  | 112 => ⟨S_, .f32⟩
  | 113 => ⟨S512, .f32⟩
  | 114 => ⟨S1x512, .f32⟩
  | 115 => ⟨S2064x512, .f32⟩
  | 116 => ⟨S2064x512, .f32⟩
  | 117 => ⟨S2064x512, .f32⟩
  | 118 => ⟨S_, .f32⟩
  | 119 => ⟨S2064, .f32⟩
  | 120 => ⟨S2064x1, .f32⟩
  | 121 => ⟨S2064x512, .f32⟩
  | 122 => ⟨S2064x512, .f32⟩
  | 123 => ⟨S2064x1, .f32⟩
  | 124 => ⟨S2064x512, .f32⟩
  | 125 => ⟨S_, .f32⟩
  | 126 => ⟨S2064, .f32⟩
  | 127 => ⟨S2064x1, .f32⟩
  | _ => ⟨S2064x512, .f32⟩

abbrev hbmTy0_1 (i : Nat) : BufTy := match i % 128 with
  | 0 => ⟨S_, .f32⟩
  | 1 => ⟨S2064x1, .f32⟩
  | 2 => ⟨S2064x1, .f32⟩
  | 3 => ⟨S_, .f32⟩
  | 4 => ⟨S2064, .f32⟩
  | 5 => ⟨S2064x512, .f32⟩
  | 6 => ⟨S2064x512, .f32⟩
  | 7 => ⟨S2064x512, .f32⟩
  | 8 => ⟨S_, .f32⟩
  | 9 => ⟨S2064, .f32⟩
  | 10 => ⟨S2064x1, .f32⟩
  | 11 => ⟨S2064x512, .f32⟩
  | 12 => ⟨S2064x1, .f32⟩
  | 13 => ⟨S_, .f32⟩
  | 14 => ⟨S2064x1, .f32⟩
  | 15 => ⟨S2064x1, .f32⟩
  | 16 => ⟨S_, .f32⟩
  | 17 => ⟨S2064, .f32⟩
  | 18 => ⟨S2064x512, .f32⟩
  | 19 => ⟨S2064x512, .f32⟩
  | 20 => ⟨S_, .f32⟩
  | 21 => ⟨S512, .f32⟩
  | 22 => ⟨S1x512, .f32⟩
  | 23 => ⟨S_, .i32⟩
  | 24 => ⟨S_, .f32⟩
  | 25 => ⟨S2176x1024, .f32⟩
  | 26 => ⟨S2176x1024, .bf16⟩
  | 27 => ⟨S_, .i32⟩
  | 28 => ⟨S_, .f32⟩
  | 29 => ⟨S2176x512, .f32⟩
  | 30 => ⟨S_, .i32⟩
  | 31 => ⟨S_, .f32⟩
  | 32 => ⟨S2176x512, .f32⟩
  | _ => ⟨S2064x512, .f32⟩

abbrev hbmTy (i : Nat) : BufTy := match i / 128 with
  | 0 => hbmTy0_0 i
  | 1 => hbmTy0_1 i
  | _ => ⟨S2064x512, .f32⟩

abbrev bufTy : (tb : Table) → Fin (tcTables nBuf tb) → BufTy
  | .hbm, ⟨i, _⟩ => hbmTy i
  | _, _ => ⟨S2064x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_v29_2 : Ref sig .tc := ⟨.hbm, 51, rfl⟩
abbrev main_call0_cst_1 : Ref sig .tc := ⟨.hbm, 52, rfl⟩
abbrev main_call0_v6 : Ref sig .tc := ⟨.hbm, 53, rfl⟩
abbrev main_call0_v7 : Ref sig .tc := ⟨.hbm, 54, rfl⟩
abbrev main_v29_1 : Ref sig .tc := ⟨.hbm, 55, rfl⟩
abbrev main_v29_0 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst_6 : Ref sig .tc := ⟨.hbm, 60, rfl⟩
abbrev main_v33 : Ref sig .tc := ⟨.hbm, 61, rfl⟩
abbrev main_v34 : Ref sig .tc := ⟨.hbm, 62, rfl⟩
abbrev main_cst_7 : Ref sig .tc := ⟨.hbm, 63, rfl⟩
abbrev main_v35 : Ref sig .tc := ⟨.hbm, 64, rfl⟩
abbrev main_v36 : Ref sig .tc := ⟨.hbm, 65, rfl⟩
abbrev main_cst_8 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_cst_9 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_cst_10 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_11 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_cst_12 : Ref sig .tc := ⟨.hbm, 91, rfl⟩
abbrev main_v58 : Ref sig .tc := ⟨.hbm, 92, rfl⟩
abbrev main_v59 : Ref sig .tc := ⟨.hbm, 93, rfl⟩
abbrev main_cst_13 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_call1_v0 : Ref sig .tc := ⟨.hbm, 104, rfl⟩
abbrev main_call1_v1 : Ref sig .tc := ⟨.hbm, 105, rfl⟩
abbrev main_call1_v2 : Ref sig .tc := ⟨.hbm, 106, rfl⟩
abbrev main_v69 : Ref sig .tc := ⟨.hbm, 107, rfl⟩
abbrev main_cst_14 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_cst_15 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_cst_16 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_cst_17 : Ref sig .tc := ⟨.hbm, 125, rfl⟩
abbrev main_v84 : Ref sig .tc := ⟨.hbm, 126, rfl⟩
abbrev main_v85 : Ref sig .tc := ⟨.hbm, 127, rfl⟩
abbrev main_cst_18 : Ref sig .tc := ⟨.hbm, 128, rfl⟩
abbrev main_v86 : Ref sig .tc := ⟨.hbm, 129, rfl⟩
abbrev main_v87 : Ref sig .tc := ⟨.hbm, 130, rfl⟩
abbrev main_cst_19 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_cst_20 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_cst_21 : Ref sig .tc := ⟨.hbm, 141, rfl⟩
abbrev main_v96 : Ref sig .tc := ⟨.hbm, 142, rfl⟩
abbrev main_v97 : Ref sig .tc := ⟨.hbm, 143, rfl⟩
abbrev main_cst_22 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_cst_23 : Ref sig .tc := ⟨.hbm, 148, rfl⟩
abbrev main_v101 : Ref sig .tc := ⟨.hbm, 149, rfl⟩
abbrev main_v102 : Ref sig .tc := ⟨.hbm, 150, rfl⟩
abbrev main_c : Ref sig .tc := ⟨.hbm, 151, rfl⟩
abbrev main_call2_v0 : Ref sig .tc := ⟨.hbm, 152, rfl⟩
abbrev main_v103 : Ref sig .tc := ⟨.hbm, 153, rfl⟩
abbrev main_v104 : Ref sig .tc := ⟨.hbm, 154, rfl⟩
abbrev main_c_24 : Ref sig .tc := ⟨.hbm, 155, rfl⟩
abbrev main_call3_v0 : Ref sig .tc := ⟨.hbm, 156, rfl⟩
abbrev main_v105 : Ref sig .tc := ⟨.hbm, 157, rfl⟩
abbrev main_c_25 : Ref sig .tc := ⟨.hbm, 158, rfl⟩
abbrev main_call4_v0 : Ref sig .tc := ⟨.hbm, 159, rfl⟩
abbrev main_v106 : Ref sig .tc := ⟨.hbm, 160, rfl⟩

abbrev nD : Nat := 1
abbrev τ : Topo := Topo.v7x

variable {F : FTy → Type} [FloatOps F]
-- ==== Kernel4.lean ====
abbrev S2064x1024 : Shape := ⟨2, ![2064, 1024]⟩
abbrev S1024x2816 : Shape := ⟨2, ![1024, 2816]⟩
abbrev S2816x1024 : Shape := ⟨2, ![2816, 1024]⟩
abbrev S_ : Shape := ⟨0, ![]⟩
abbrev S2176x1024 : Shape := ⟨2, ![2176, 1024]⟩
abbrev S2176x2816 : Shape := ⟨2, ![2176, 2816]⟩
abbrev S544x1024 : Shape := ⟨2, ![544, 1024]⟩
abbrev S544x2816 : Shape := ⟨2, ![544, 2816]⟩
abbrev S512x1024 : Shape := ⟨2, ![512, 1024]⟩
abbrev S544x512 : Shape := ⟨2, ![544, 512]⟩
abbrev S256x1024 : Shape := ⟨2, ![256, 1024]⟩
abbrev S544x256 : Shape := ⟨2, ![544, 256]⟩
abbrev S2x2176x2816 : Shape := ⟨3, ![2, 2176, 2816]⟩
abbrev S2x544x2816 : Shape := ⟨3, ![2, 544, 2816]⟩
abbrev S1x544x512 : Shape := ⟨3, ![1, 544, 512]⟩
abbrev S1x544x256 : Shape := ⟨3, ![1, 544, 256]⟩

abbrev nBuf : Space → Nat
  | .hbm => 22
  | .vmem => 19
  | .smem => 0
  | _ => 0

abbrev bufTy : (tb : Table) → Fin (tcTables nBuf tb) → BufTy
  | .hbm, ⟨0, _⟩ => ⟨S2064x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S2064x1024, .f32⟩
  | .hbm, ⟨5, _⟩ => ⟨S_, .i32⟩
  | .hbm, ⟨6, _⟩ => ⟨S_, .f32⟩
  | .hbm, ⟨7, _⟩ => ⟨S2176x1024, .f32⟩
  | .hbm, ⟨8, _⟩ => ⟨S2176x1024, .bf16⟩
  | .hbm, ⟨9, _⟩ => ⟨S2816x1024, .f32⟩
  | .hbm, ⟨10, _⟩ => ⟨S2816x1024, .bf16⟩
  | .hbm, ⟨11, _⟩ => ⟨S2816x1024, .f32⟩
  | .hbm, ⟨12, _⟩ => ⟨S2816x1024, .bf16⟩
  | .hbm, ⟨13, _⟩ => ⟨S2176x2816, .bf16⟩
  | .hbm, ⟨14, _⟩ => ⟨S2176x2816, .bf16⟩
  | .hbm, ⟨15, _⟩ => ⟨S2176x2816, .bf16⟩
  | .hbm, ⟨16, _⟩ => ⟨S_, .i32⟩
  | .hbm, ⟨17, _⟩ => ⟨S_, .f32⟩
  | .hbm, ⟨18, _⟩ => ⟨S2176x1024, .f32⟩
  | .hbm, ⟨19, _⟩ => ⟨S2176x1024, .bf16⟩
  | .hbm, ⟨20, _⟩ => ⟨S2816x1024, .bf16⟩
  | .hbm, ⟨21, _⟩ => ⟨S2x2176x2816, .bf16⟩
  | .local _ .vmem, ⟨0, _⟩ => ⟨S544x1024, .bf16⟩
  | .local _ .vmem, ⟨1, _⟩ => ⟨S544x1024, .bf16⟩
  | .local _ .vmem, ⟨2, _⟩ => ⟨S2816x1024, .bf16⟩
  | .local _ .vmem, ⟨3, _⟩ => ⟨S2816x1024, .bf16⟩
  | .local _ .vmem, ⟨4, _⟩ => ⟨S544x2816, .bf16⟩
  | .local _ .vmem, ⟨5, _⟩ => ⟨S544x2816, .bf16⟩
  | .local _ .vmem, ⟨6, _⟩ => ⟨S544x2816, .bf16⟩
  | .local _ .vmem, ⟨7, _⟩ => ⟨S544x2816, .bf16⟩
  | .local _ .vmem, ⟨8, _⟩ => ⟨S544x2816, .bf16⟩
  | .local _ .vmem, ⟨9, _⟩ => ⟨S544x2816, .bf16⟩
  | .local _ .vmem, ⟨10, _⟩ => ⟨S544x1024, .bf16⟩
  | .local _ .vmem, ⟨11, _⟩ => ⟨S544x1024, .bf16⟩
  | .local _ .vmem, ⟨12, _⟩ => ⟨S2816x1024, .bf16⟩
  | .local _ .vmem, ⟨13, _⟩ => ⟨S544x2816, .bf16⟩
  | .local _ .vmem, ⟨14, _⟩ => ⟨S544x2816, .bf16⟩
  | .local _ .vmem, ⟨15, _⟩ => ⟨S544x2816, .bf16⟩
  | .local _ .vmem, ⟨16, _⟩ => ⟨S544x2816, .bf16⟩
  | .local _ .vmem, ⟨17, _⟩ => ⟨S2x544x2816, .bf16⟩
  | .local _ .vmem, ⟨18, _⟩ => ⟨S2x544x2816, .bf16⟩
  | _, _ => ⟨S2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_c_0 : Ref sig .tc := ⟨.hbm, 16, rfl⟩
abbrev main_call1_v0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S544x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S544x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S544x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S544x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2816x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S544x2816 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S544x2816 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2x544x2816 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== Reference4Ideal.lean ====
abbrev S2064x1024 : Shape := ⟨2, ![2064, 1024]⟩
abbrev S1024x2816 : Shape := ⟨2, ![1024, 2816]⟩
abbrev S2816x1024 : Shape := ⟨2, ![2816, 1024]⟩
abbrev S2064x2816 : Shape := ⟨2, ![2064, 2816]⟩
abbrev S_ : Shape := ⟨0, ![]⟩
abbrev S1x2064x2816 : Shape := ⟨3, ![1, 2064, 2816]⟩
abbrev S2x2064x2816 : Shape := ⟨3, ![2, 2064, 2816]⟩
abbrev S2x2176x2816 : Shape := ⟨3, ![2, 2176, 2816]⟩
abbrev S2176x2816 : Shape := ⟨2, ![2176, 2816]⟩

abbrev nBuf : Space → Nat
  | .hbm => 56
  | .vmem => 0
  | .smem => 0
  | _ => 0

abbrev bufTy : (tb : Table) → Fin (tcTables nBuf tb) → BufTy
  | .hbm, ⟨0, _⟩ => ⟨S2064x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S2064x1024, .f32⟩
  | .hbm, ⟨5, _⟩ => ⟨S2064x2816, .f32⟩
  | .hbm, ⟨6, _⟩ => ⟨S2064x2816, .f32⟩
  | .hbm, ⟨7, _⟩ => ⟨S2064x2816, .f32⟩
  | .hbm, ⟨8, _⟩ => ⟨S2064x2816, .f32⟩
  | .hbm, ⟨9, _⟩ => ⟨S_, .f32⟩
  | .hbm, ⟨10, _⟩ => ⟨S2064x2816, .f32⟩
  | .hbm, ⟨11, _⟩ => ⟨S2064x2816, .f32⟩
  | .hbm, ⟨12, _⟩ => ⟨S_, .f32⟩
  | .hbm, ⟨13, _⟩ => ⟨S2064x2816, .f32⟩
  | .hbm, ⟨14, _⟩ => ⟨S2064x2816, .f32⟩
  | .hbm, ⟨15, _⟩ => ⟨S_, .f32⟩
  | .hbm, ⟨16, _⟩ => ⟨S2064x2816, .f32⟩
  | .hbm, ⟨17, _⟩ => ⟨S2064x2816, .f32⟩
  | .hbm, ⟨18, _⟩ => ⟨S2064x2816, .f32⟩
  | .hbm, ⟨19, _⟩ => ⟨S2064x2816, .f32⟩
  | .hbm, ⟨20, _⟩ => ⟨S2064x2816, .f32⟩
  | .hbm, ⟨21, _⟩ => ⟨S_, .f32⟩
  | .hbm, ⟨22, _⟩ => ⟨S2064x2816, .f32⟩
  | .hbm, ⟨23, _⟩ => ⟨S2064x2816, .f32⟩
  | .hbm, ⟨24, _⟩ => ⟨S2064x2816, .f32⟩
  | .hbm, ⟨25, _⟩ => ⟨S2064x2816, .f32⟩
  | .hbm, ⟨26, _⟩ => ⟨S2064x2816, .f32⟩
  | .hbm, ⟨27, _⟩ => ⟨S2064x2816, .f32⟩
  | .hbm, ⟨28, _⟩ => ⟨S2064x2816, .f32⟩
  | .hbm, ⟨29, _⟩ => ⟨S2064x1024, .f32⟩
  | .hbm, ⟨30, _⟩ => ⟨S2064x2816, .f32⟩
  | .hbm, ⟨31, _⟩ => ⟨S2064x2816, .f32⟩
  | .hbm, ⟨32, _⟩ => ⟨S2064x2816, .f32⟩
  | .hbm, ⟨33, _⟩ => ⟨S2064x2816, .f32⟩
  | .hbm, ⟨34, _⟩ => ⟨S2064x2816, .f32⟩
  | .hbm, ⟨35, _⟩ => ⟨S2064x2816, .f32⟩
  | .hbm, ⟨36, _⟩ => ⟨S2064x2816, .f32⟩
  | .hbm, ⟨37, _⟩ => ⟨S1x2064x2816, .f32⟩
  | .hbm, ⟨38, _⟩ => ⟨S1x2064x2816, .f32⟩
  | .hbm, ⟨39, _⟩ => ⟨S2x2064x2816, .f32⟩
  | .hbm, ⟨40, _⟩ => ⟨S_, .i32⟩
  | .hbm, ⟨41, _⟩ => ⟨S_, .f32⟩
  | .hbm, ⟨42, _⟩ => ⟨S2x2176x2816, .f32⟩
  | .hbm, ⟨43, _⟩ => ⟨S2x2176x2816, .bf16⟩
  | .hbm, ⟨44, _⟩ => ⟨S_, .i32⟩
  | .hbm, ⟨45, _⟩ => ⟨S_, .f32⟩
  | .hbm, ⟨46, _⟩ => ⟨S2176x2816, .f32⟩
  | .hbm, ⟨47, _⟩ => ⟨S2176x2816, .bf16⟩
  | .hbm, ⟨48, _⟩ => ⟨S_, .i32⟩
  | .hbm, ⟨49, _⟩ => ⟨S_, .f32⟩
  | .hbm, ⟨50, _⟩ => ⟨S2176x2816, .f32⟩
  | .hbm, ⟨51, _⟩ => ⟨S2176x2816, .bf16⟩
  | .hbm, ⟨52, _⟩ => ⟨S_, .i32⟩
  | .hbm, ⟨53, _⟩ => ⟨S_, .f32⟩
  | .hbm, ⟨54, _⟩ => ⟨S2176x2816, .f32⟩
  | .hbm, ⟨55, _⟩ => ⟨S2176x2816, .bf16⟩
  | _, _ => ⟨S2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_call2_v0 : Ref sig .tc := ⟨.hbm, 33, rfl⟩
abbrev main_call2_v1 : Ref sig .tc := ⟨.hbm, 34, rfl⟩
abbrev main_call2_v2 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_c : Ref sig .tc := ⟨.hbm, 40, rfl⟩
abbrev main_call3_v0 : Ref sig .tc := ⟨.hbm, 41, rfl⟩
abbrev main_v16 : Ref sig .tc := ⟨.hbm, 42, rfl⟩
abbrev main_v17 : Ref sig .tc := ⟨.hbm, 43, rfl⟩
abbrev main_c_0 : Ref sig .tc := ⟨.hbm, 44, rfl⟩
abbrev main_call4_v0 : Ref sig .tc := ⟨.hbm, 45, rfl⟩
abbrev main_v18 : Ref sig .tc := ⟨.hbm, 46, rfl⟩
abbrev main_v19 : Ref sig .tc := ⟨.hbm, 47, rfl⟩
abbrev main_c_1 : Ref sig .tc := ⟨.hbm, 48, rfl⟩
abbrev main_call5_v0 : Ref sig .tc := ⟨.hbm, 49, rfl⟩
abbrev main_v20 : Ref sig .tc := ⟨.hbm, 50, rfl⟩
abbrev main_v21 : Ref sig .tc := ⟨.hbm, 51, rfl⟩
abbrev main_c_2 : Ref sig .tc := ⟨.hbm, 52, rfl⟩
abbrev main_call6_v0 : Ref sig .tc := ⟨.hbm, 53, rfl⟩
abbrev main_v22 : Ref sig .tc := ⟨.hbm, 54, rfl⟩
abbrev main_v23 : Ref sig .tc := ⟨.hbm, 55, rfl⟩

abbrev nD : Nat := 1
abbrev τ : Topo := Topo.v7x

variable {F : FTy → Type} [FloatOps F]
-- ==== Kernel5.lean ====
abbrev S2064x1024 : Shape := ⟨2, ![2064, 1024]⟩
abbrev S1x1024 : Shape := ⟨2, ![1, 1024]⟩
abbrev S1024x2816 : Shape := ⟨2, ![1024, 2816]⟩
abbrev S2064x2816 : Shape := ⟨2, ![2064, 2816]⟩
abbrev S_ : Shape := ⟨0, ![]⟩
abbrev S2176x2816 : Shape := ⟨2, ![2176, 2816]⟩
abbrev S1x2176x2816 : Shape := ⟨3, ![1, 2176, 2816]⟩
abbrev S2x2176x2816 : Shape := ⟨3, ![2, 2176, 2816]⟩
abbrev S2816x1024 : Shape := ⟨2, ![2816, 1024]⟩
abbrev S2176x1024 : Shape := ⟨2, ![2176, 1024]⟩
abbrev S2x544x2816 : Shape := ⟨3, ![2, 544, 2816]⟩
abbrev S544x1024 : Shape := ⟨2, ![544, 1024]⟩
abbrev S1x544x2816 : Shape := ⟨3, ![1, 544, 2816]⟩
abbrev S544x2816 : Shape := ⟨2, ![544, 2816]⟩
abbrev S544 : Shape := ⟨1, ![544]⟩
abbrev S544x1 : Shape := ⟨2, ![544, 1]⟩
abbrev S1024 : Shape := ⟨1, ![1024]⟩

abbrev nBuf : Space → Nat
  | .hbm => 29
  | .vmem => 12
  | .smem => 0
  | _ => 0

abbrev bufTy : (tb : Table) → Fin (tcTables nBuf tb) → BufTy
  | .hbm, ⟨0, _⟩ => ⟨S2064x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2064x2816, .f32⟩
  | .hbm, ⟨5, _⟩ => ⟨S2064x2816, .f32⟩
  | .hbm, ⟨6, _⟩ => ⟨S2064x1024, .f32⟩
  | .hbm, ⟨7, _⟩ => ⟨S_, .i32⟩
  | .hbm, ⟨8, _⟩ => ⟨S_, .f32⟩
  | .hbm, ⟨9, _⟩ => ⟨S2176x2816, .f32⟩
  | .hbm, ⟨10, _⟩ => ⟨S_, .i32⟩
  | .hbm, ⟨11, _⟩ => ⟨S_, .f32⟩
  | .hbm, ⟨12, _⟩ => ⟨S2176x2816, .f32⟩
  | .hbm, ⟨13, _⟩ => ⟨S1x2176x2816, .f32⟩
  | .hbm, ⟨14, _⟩ => ⟨S1x2176x2816, .f32⟩
  | .hbm, ⟨15, _⟩ => ⟨S2x2176x2816, .f32⟩
  | .hbm, ⟨16, _⟩ => ⟨S2x2176x2816, .bf16⟩
  | .hbm, ⟨17, _⟩ => ⟨S2816x1024, .f32⟩
  | .hbm, ⟨18, _⟩ => ⟨S2816x1024, .bf16⟩
  | .hbm, ⟨19, _⟩ => ⟨S2816x1024, .f32⟩
  | .hbm, ⟨20, _⟩ => ⟨S2816x1024, .bf16⟩
  | .hbm, ⟨21, _⟩ => ⟨S_, .i32⟩
  | .hbm, ⟨22, _⟩ => ⟨S_, .f32⟩
  | .hbm, ⟨23, _⟩ => ⟨S2176x1024, .f32⟩
  | .hbm, ⟨24, _⟩ => ⟨S_, .i32⟩
  | .hbm, ⟨25, _⟩ => ⟨S_, .f32⟩
  | .hbm, ⟨26, _⟩ => ⟨S2176x1024, .f32⟩
  | .hbm, ⟨27, _⟩ => ⟨S2176x1024, .f32⟩
  | .hbm, ⟨28, _⟩ => ⟨S1x1024, .f32⟩
  | .local _ .vmem, ⟨0, _⟩ => ⟨S2x544x2816, .bf16⟩
  | .local _ .vmem, ⟨1, _⟩ => ⟨S2x544x2816, .bf16⟩
  | .local _ .vmem, ⟨2, _⟩ => ⟨S2816x1024, .bf16⟩
  | .local _ .vmem, ⟨3, _⟩ => ⟨S2816x1024, .bf16⟩
  | .local _ .vmem, ⟨4, _⟩ => ⟨S544x1024, .f32⟩
  | .local _ .vmem, ⟨5, _⟩ => ⟨S544x1024, .f32⟩
  | .local _ .vmem, ⟨6, _⟩ => ⟨S544x1024, .f32⟩
  | .local _ .vmem, ⟨7, _⟩ => ⟨S544x1024, .f32⟩
  | .local _ .vmem, ⟨8, _⟩ => ⟨S1x1024, .f32⟩
  | .local _ .vmem, ⟨9, _⟩ => ⟨S544x1024, .f32⟩
  | .local _ .vmem, ⟨10, _⟩ => ⟨S544x1024, .f32⟩
  | .local _ .vmem, ⟨11, _⟩ => ⟨S1x1024, .f32⟩
  | _, _ => ⟨S2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_c_0 : Ref sig .tc := ⟨.hbm, 10, rfl⟩
abbrev main_call1_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_1 : Ref sig .tc := ⟨.hbm, 21, rfl⟩
abbrev main_call2_v0 : Ref sig .tc := ⟨.hbm, 22, rfl⟩
abbrev main_v10 : Ref sig .tc := ⟨.hbm, 23, rfl⟩
abbrev main_c_2 : Ref sig .tc := ⟨.hbm, 24, rfl⟩
abbrev main_call3_v0 : Ref sig .tc := ⟨.hbm, 25, rfl⟩
abbrev main_v11 : Ref sig .tc := ⟨.hbm, 26, rfl⟩
abbrev main_v12_0 : Ref sig .tc := ⟨.hbm, 27, rfl⟩
abbrev main_v12_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v24 : BitVec 1 := Scalar.cmpi .eq arg0 c0_i32
  let v27 : BitVec 32 := Scalar.extui v24
  let c0_i32_15 : BitVec 32 := 0#32
  let v28 : BitVec 1 := Scalar.cmpi .ne v27 c0_i32_15
  v28

def k0_cond2 (i : grid0.Coords) : BitVec 1 :=
  let arg0 : BitVec 32 := BitVec.ofNat 32 (i 0).val
  let c0_i32 : BitVec 32 := 0#32
  let v24 : BitVec 1 := Scalar.cmpi .eq arg0 c0_i32
  let v_true : BitVec 1 := 1#1
  let v29 : BitVec 1 := Scalar.xori v24 v_true
  let v30 : BitVec 32 := Scalar.extui v29
  let c0_i32_16 : BitVec 32 := 0#32
  let v31 : BitVec 1 := Scalar.cmpi .ne v30 c0_i32_16
  v31

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x544x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S544x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S544x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S544x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference5Ideal.lean ====
abbrev S2064x1024 : Shape := ⟨2, ![2064, 1024]⟩
abbrev S1x1024 : Shape := ⟨2, ![1, 1024]⟩
abbrev S1024x2816 : Shape := ⟨2, ![1024, 2816]⟩
abbrev S2064x2816 : Shape := ⟨2, ![2064, 2816]⟩
abbrev S_ : Shape := ⟨0, ![]⟩
abbrev S2064 : Shape := ⟨1, ![2064]⟩
abbrev S2064x1 : Shape := ⟨2, ![2064, 1]⟩
abbrev S1024 : Shape := ⟨1, ![1024]⟩
abbrev S2176x1024 : Shape := ⟨2, ![2176, 1024]⟩

abbrev nBuf : Space → Nat
  | .hbm => 58
  | .vmem => 0
  | .smem => 0
  | _ => 0

abbrev bufTy : (tb : Table) → Fin (tcTables nBuf tb) → BufTy
  | .hbm, ⟨0, _⟩ => ⟨S2064x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2064x2816, .f32⟩
  | .hbm, ⟨5, _⟩ => ⟨S2064x2816, .f32⟩
  | .hbm, ⟨6, _⟩ => ⟨S2064x1024, .f32⟩
  | .hbm, ⟨7, _⟩ => ⟨S2064x1024, .f32⟩
  | .hbm, ⟨8, _⟩ => ⟨S_, .f32⟩
  | .hbm, ⟨9, _⟩ => ⟨S2064, .f32⟩
  | .hbm, ⟨10, _⟩ => ⟨S2064x1, .f32⟩
  | .hbm, ⟨11, _⟩ => ⟨S_, .f32⟩
  | .hbm, ⟨12, _⟩ => ⟨S2064x1, .f32⟩
  | .hbm, ⟨13, _⟩ => ⟨S2064x1, .f32⟩
  | .hbm, ⟨14, _⟩ => ⟨S_, .f32⟩
  | .hbm, ⟨15, _⟩ => ⟨S2064x1, .f32⟩
  | .hbm, ⟨16, _⟩ => ⟨S2064x1, .f32⟩
  | .hbm, ⟨17, _⟩ => ⟨S2064x1, .f32⟩
  | .hbm, ⟨18, _⟩ => ⟨S2064x1, .f32⟩
  | .hbm, ⟨19, _⟩ => ⟨S_, .f32⟩
  | .hbm, ⟨20, _⟩ => ⟨S2064x1, .f32⟩
  | .hbm, ⟨21, _⟩ => ⟨S2064x1, .f32⟩
  | .hbm, ⟨22, _⟩ => ⟨S2064x1024, .f32⟩
  | .hbm, ⟨23, _⟩ => ⟨S2064x1024, .f32⟩
  | .hbm, ⟨24, _⟩ => ⟨S2064x1024, .f32⟩
  | .hbm, ⟨25, _⟩ => ⟨S2064x1024, .f32⟩
  | .hbm, ⟨26, _⟩ => ⟨S2064x2816, .f32⟩
  | .hbm, ⟨27, _⟩ => ⟨S2064x2816, .f32⟩
  | .hbm, ⟨28, _⟩ => ⟨S2064x1024, .f32⟩
  | .hbm, ⟨29, _⟩ => ⟨S2064x1024, .f32⟩
  | .hbm, ⟨30, _⟩ => ⟨S2064x1024, .f32⟩
  | .hbm, ⟨31, _⟩ => ⟨S2064x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S2064x1024, .f32⟩
  | .hbm, ⟨36, _⟩ => ⟨S2064x1024, .f32⟩
  | .hbm, ⟨37, _⟩ => ⟨S2064x1024, .f32⟩
  | .hbm, ⟨38, _⟩ => ⟨S_, .f32⟩
  | .hbm, ⟨39, _⟩ => ⟨S2064, .f32⟩
  | .hbm, ⟨40, _⟩ => ⟨S2064x1, .f32⟩
  | .hbm, ⟨41, _⟩ => ⟨S2064x1024, .f32⟩
  | .hbm, ⟨42, _⟩ => ⟨S2064x1024, .f32⟩
  | .hbm, ⟨43, _⟩ => ⟨S2064x1024, .f32⟩
  | .hbm, ⟨44, _⟩ => ⟨S2064x1, .f32⟩
  | .hbm, ⟨45, _⟩ => ⟨S_, .f32⟩
  | .hbm, ⟨46, _⟩ => ⟨S2064x1, .f32⟩
  | .hbm, ⟨47, _⟩ => ⟨S2064x1, .f32⟩
  | .hbm, ⟨48, _⟩ => ⟨S_, .f32⟩
  | .hbm, ⟨49, _⟩ => ⟨S2064, .f32⟩
  | .hbm, ⟨50, _⟩ => ⟨S2064x1024, .f32⟩
  | .hbm, ⟨51, _⟩ => ⟨S2064x1024, .f32⟩
  | .hbm, ⟨52, _⟩ => ⟨S2064x1024, .f32⟩
  | .hbm, ⟨53, _⟩ => ⟨S2064x1024, .f32⟩
  | .hbm, ⟨54, _⟩ => ⟨S2064x1024, .f32⟩
  | .hbm, ⟨55, _⟩ => ⟨S_, .i32⟩
  | .hbm, ⟨56, _⟩ => ⟨S_, .f32⟩
  | .hbm, ⟨57, _⟩ => ⟨S2176x1024, .f32⟩
  | _, _ => ⟨S2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c : Ref sig .tc := ⟨.hbm, 55, rfl⟩
abbrev main_call0_v0 : Ref sig .tc := ⟨.hbm, 56, rfl⟩
abbrev main_v40 : Ref sig .tc := ⟨.hbm, 57, rfl⟩

abbrev nD : Nat := 1
abbrev τ : Topo := Topo.v7x

variable {F : FTy → Type} [FloatOps F]
-- ==== Kernel6.lean ====
abbrev S16x1024 : Shape := ⟨2, ![16, 1024]⟩
abbrev S2048x1024 : Shape := ⟨2, ![2048, 1024]⟩
abbrev S1x1024 : Shape := ⟨2, ![1, 1024]⟩
abbrev S1024x2560 : Shape := ⟨2, ![1024, 2560]⟩
abbrev S2064x2560 : Shape := ⟨2, ![2064, 2560]⟩
abbrev S2064x1024 : Shape := ⟨2, ![2064, 1024]⟩
abbrev S_ : Shape := ⟨0, ![]⟩
abbrev S2176x2560 : Shape := ⟨2, ![2176, 2560]⟩
abbrev S2176x5x512 : Shape := ⟨3, ![2176, 5, 512]⟩
abbrev S5x2176x512 : Shape := ⟨3, ![5, 2176, 512]⟩
abbrev S2560x1024 : Shape := ⟨2, ![2560, 1024]⟩
abbrev S2176x1024 : Shape := ⟨2, ![2176, 1024]⟩
abbrev S5x544x512 : Shape := ⟨3, ![5, 544, 512]⟩
abbrev S544x1024 : Shape := ⟨2, ![544, 1024]⟩
abbrev S1x544x512 : Shape := ⟨3, ![1, 544, 512]⟩
abbrev S544x512 : Shape := ⟨2, ![544, 512]⟩
abbrev S512x1024 : Shape := ⟨2, ![512, 1024]⟩
abbrev S544 : Shape := ⟨1, ![544]⟩
abbrev S544x1 : Shape := ⟨2, ![544, 1]⟩
abbrev S1024 : Shape := ⟨1, ![1024]⟩

abbrev nBuf : Space → Nat
  | .hbm => 24
  | .vmem => 12
  | .smem => 0
  | _ => 0

abbrev bufTy : (tb : Table) → Fin (tcTables nBuf tb) → BufTy
  | .hbm, ⟨0, _⟩ => ⟨S16x1024, .f32⟩
  | .hbm, ⟨1, _⟩ => ⟨S2048x1024, .f32⟩
  | .hbm, ⟨2, _⟩ => ⟨S1x1024, .f32⟩
  | .hbm, ⟨3, _⟩ => ⟨S1024x2560, .f32⟩
  | .hbm, ⟨4, _⟩ => ⟨S2064x2560, .f32⟩
  | .hbm, ⟨5, _⟩ => ⟨S2064x1024, .f32⟩
  | .hbm, ⟨6, _⟩ => ⟨S_, .i32⟩
  | .hbm, ⟨7, _⟩ => ⟨S_, .f32⟩
  | .hbm, ⟨8, _⟩ => ⟨S2176x2560, .f32⟩
  | .hbm, ⟨9, _⟩ => ⟨S2176x2560, .bf16⟩
  | .hbm, ⟨10, _⟩ => ⟨S2176x5x512, .bf16⟩
  | .hbm, ⟨11, _⟩ => ⟨S5x2176x512, .bf16⟩
  | .hbm, ⟨12, _⟩ => ⟨S2560x1024, .f32⟩
  | .hbm, ⟨13, _⟩ => ⟨S2560x1024, .bf16⟩
  | .hbm, ⟨14, _⟩ => ⟨S2064x1024, .f32⟩
  | .hbm, ⟨15, _⟩ => ⟨S_, .i32⟩
  | .hbm, ⟨16, _⟩ => ⟨S_, .f32⟩
  | .hbm, ⟨17, _⟩ => ⟨S2176x1024, .f32⟩
  | .hbm, ⟨18, _⟩ => ⟨S_, .i32⟩
  | .hbm, ⟨19, _⟩ => ⟨S_, .f32⟩
  | .hbm, ⟨20, _⟩ => ⟨S2176x1024, .f32⟩
  | .hbm, ⟨21, _⟩ => ⟨S2176x1024, .f32⟩
  | .hbm, ⟨22, _⟩ => ⟨S1x1024, .f32⟩
  | .hbm, ⟨23, _⟩ => ⟨S16x1024, .f32⟩
  | .local _ .vmem, ⟨0, _⟩ => ⟨S5x544x512, .bf16⟩
  | .local _ .vmem, ⟨1, _⟩ => ⟨S5x544x512, .bf16⟩
  | .local _ .vmem, ⟨2, _⟩ => ⟨S2560x1024, .bf16⟩
  | .local _ .vmem, ⟨3, _⟩ => ⟨S544x1024, .f32⟩
  | .local _ .vmem, ⟨4, _⟩ => ⟨S544x1024, .f32⟩
  | .local _ .vmem, ⟨5, _⟩ => ⟨S544x1024, .f32⟩
  | .local _ .vmem, ⟨6, _⟩ => ⟨S544x1024, .f32⟩
  | .local _ .vmem, ⟨7, _⟩ => ⟨S1x1024, .f32⟩
  | .local _ .vmem, ⟨8, _⟩ => ⟨S544x1024, .f32⟩
  | .local _ .vmem, ⟨9, _⟩ => ⟨S544x1024, .f32⟩
  | .local _ .vmem, ⟨10, _⟩ => ⟨S1x1024, .f32⟩
  | .local _ .vmem, ⟨11, _⟩ => ⟨S16x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_call1_v0 : Ref sig .tc := ⟨.hbm, 16, rfl⟩
abbrev main_v7 : Ref sig .tc := ⟨.hbm, 17, rfl⟩
abbrev main_c_1 : Ref sig .tc := ⟨.hbm, 18, rfl⟩
abbrev main_call2_v0 : Ref sig .tc := ⟨.hbm, 19, rfl⟩
abbrev main_v8 : Ref sig .tc := ⟨.hbm, 20, rfl⟩
abbrev main_v9_0 : Ref sig .tc := ⟨.hbm, 21, rfl⟩
abbrev main_v9_1 : Ref sig .tc := ⟨.hbm, 22, rfl⟩
abbrev main_v9_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v42 : BitVec 1 := Scalar.cmpi .eq arg0 c0_i32
  let v45 : BitVec 32 := Scalar.extui v42
  let c0_i32_26 : BitVec 32 := 0#32
  let v46 : BitVec 1 := Scalar.cmpi .ne v45 c0_i32_26
  v46

def k0_cond2 (i : grid0.Coords) : BitVec 1 :=
  let arg0 : BitVec 32 := BitVec.ofNat 32 (i 0).val
  let c0_i32 : BitVec 32 := 0#32
  let v42 : BitVec 1 := Scalar.cmpi .eq arg0 c0_i32
  let v_true : BitVec 1 := 1#1
  let v47 : BitVec 1 := Scalar.xori v42 v_true
  let v48 : BitVec 32 := Scalar.extui v47
  let c0_i32_27 : BitVec 32 := 0#32
  let v49 : BitVec 1 := Scalar.cmpi .ne v48 c0_i32_27
  v49

def k0_cond3 (i : grid0.Coords) : BitVec 1 :=
  let arg0 : BitVec 32 := BitVec.ofNat 32 (i 0).val
  let c0_i32_36 : BitVec 32 := 0#32
  let v67 : BitVec 1 := Scalar.cmpi .eq arg0 c0_i32_36
  let v68 : BitVec 32 := Scalar.extui v67
  let c0_i32_37 : BitVec 32 := 0#32
  let v69 : BitVec 1 := Scalar.cmpi .ne v68 c0_i32_37
  v69

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5x544x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2560x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S544x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S544x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference6Ideal.lean ====
abbrev S16x1024 : Shape := ⟨2, ![16, 1024]⟩
abbrev S2048x1024 : Shape := ⟨2, ![2048, 1024]⟩
abbrev S1x1024 : Shape := ⟨2, ![1, 1024]⟩
abbrev S1024x2560 : Shape := ⟨2, ![1024, 2560]⟩
abbrev S2064x2560 : Shape := ⟨2, ![2064, 2560]⟩
abbrev S2064x1024 : Shape := ⟨2, ![2064, 1024]⟩
abbrev S_ : Shape := ⟨0, ![]⟩
abbrev S2064 : Shape := ⟨1, ![2064]⟩
abbrev S2064x1 : Shape := ⟨2, ![2064, 1]⟩
abbrev S1024 : Shape := ⟨1, ![1024]⟩
abbrev S2176x1024 : Shape := ⟨2, ![2176, 1024]⟩

abbrev nBuf : Space → Nat
  | .hbm => 58
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S2048x1024, .f32⟩
  | .hbm, ⟨2, _⟩ => ⟨S1x1024, .f32⟩
  | .hbm, ⟨3, _⟩ => ⟨S1024x2560, .f32⟩
  | .hbm, ⟨4, _⟩ => ⟨S2064x2560, .f32⟩
  | .hbm, ⟨5, _⟩ => ⟨S2064x1024, .f32⟩
  | .hbm, ⟨6, _⟩ => ⟨S2064x1024, .f32⟩
  | .hbm, ⟨7, _⟩ => ⟨S2064x1024, .f32⟩
  | .hbm, ⟨8, _⟩ => ⟨S_, .f32⟩
  | .hbm, ⟨9, _⟩ => ⟨S2064, .f32⟩
  | .hbm, ⟨10, _⟩ => ⟨S2064x1, .f32⟩
  | .hbm, ⟨11, _⟩ => ⟨S_, .f32⟩
  | .hbm, ⟨12, _⟩ => ⟨S2064x1, .f32⟩
  | .hbm, ⟨13, _⟩ => ⟨S2064x1, .f32⟩
  | .hbm, ⟨14, _⟩ => ⟨S_, .f32⟩
  | .hbm, ⟨15, _⟩ => ⟨S2064x1, .f32⟩
  | .hbm, ⟨16, _⟩ => ⟨S2064x1, .f32⟩
  | .hbm, ⟨17, _⟩ => ⟨S2064x1, .f32⟩
  | .hbm, ⟨18, _⟩ => ⟨S2064x1, .f32⟩
  | .hbm, ⟨19, _⟩ => ⟨S_, .f32⟩
  | .hbm, ⟨20, _⟩ => ⟨S2064x1, .f32⟩
  | .hbm, ⟨21, _⟩ => ⟨S2064x1, .f32⟩
  | .hbm, ⟨22, _⟩ => ⟨S2064x1024, .f32⟩
  | .hbm, ⟨23, _⟩ => ⟨S2064x1024, .f32⟩
  | .hbm, ⟨24, _⟩ => ⟨S2064x1024, .f32⟩
  | .hbm, ⟨25, _⟩ => ⟨S2064x1024, .f32⟩
  | .hbm, ⟨26, _⟩ => ⟨S2064x2560, .f32⟩
  | .hbm, ⟨27, _⟩ => ⟨S2064x1024, .f32⟩
  | .hbm, ⟨28, _⟩ => ⟨S2064x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S2064x1024, .f32⟩
  | .hbm, ⟨33, _⟩ => ⟨S2064x1024, .f32⟩
  | .hbm, ⟨34, _⟩ => ⟨S2064x1024, .f32⟩
  | .hbm, ⟨35, _⟩ => ⟨S_, .f32⟩
  | .hbm, ⟨36, _⟩ => ⟨S2064, .f32⟩
  | .hbm, ⟨37, _⟩ => ⟨S2064x1, .f32⟩
  | .hbm, ⟨38, _⟩ => ⟨S2064x1024, .f32⟩
  | .hbm, ⟨39, _⟩ => ⟨S2064x1024, .f32⟩
  | .hbm, ⟨40, _⟩ => ⟨S2064x1024, .f32⟩
  | .hbm, ⟨41, _⟩ => ⟨S2064x1, .f32⟩
  | .hbm, ⟨42, _⟩ => ⟨S_, .f32⟩
  | .hbm, ⟨43, _⟩ => ⟨S2064x1, .f32⟩
  | .hbm, ⟨44, _⟩ => ⟨S2064x1, .f32⟩
  | .hbm, ⟨45, _⟩ => ⟨S_, .f32⟩
  | .hbm, ⟨46, _⟩ => ⟨S2064, .f32⟩
  | .hbm, ⟨47, _⟩ => ⟨S2064x1024, .f32⟩
  | .hbm, ⟨48, _⟩ => ⟨S2064x1024, .f32⟩
  | .hbm, ⟨49, _⟩ => ⟨S2064x1024, .f32⟩
  | .hbm, ⟨50, _⟩ => ⟨S2064x1024, .f32⟩
  | .hbm, ⟨51, _⟩ => ⟨S2064x1024, .f32⟩
  | .hbm, ⟨52, _⟩ => ⟨S16x1024, .f32⟩
  | .hbm, ⟨53, _⟩ => ⟨S2048x1024, .f32⟩
  | .hbm, ⟨54, _⟩ => ⟨S2064x1024, .f32⟩
  | .hbm, ⟨55, _⟩ => ⟨S_, .i32⟩
  | .hbm, ⟨56, _⟩ => ⟨S_, .f32⟩
  | .hbm, ⟨57, _⟩ => ⟨S2176x1024, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c : Ref sig .tc := ⟨.hbm, 55, rfl⟩
abbrev main_call0_v0 : Ref sig .tc := ⟨.hbm, 56, rfl⟩
abbrev main_v41 : Ref sig .tc := ⟨.hbm, 57, rfl⟩

abbrev nD : Nat := 1
abbrev τ : Topo := Topo.v7x

variable {F : FTy → Type} [FloatOps F]
-- ==== Kernel7.lean ====
abbrev S16x1024 : Shape := ⟨2, ![16, 1024]⟩
abbrev S2048x1024 : Shape := ⟨2, ![2048, 1024]⟩
abbrev S1x1024 : Shape := ⟨2, ![1, 1024]⟩
abbrev S1024x2560 : Shape := ⟨2, ![1024, 2560]⟩
abbrev S2064x1024 : Shape := ⟨2, ![2064, 1024]⟩
abbrev S_ : Shape := ⟨0, ![]⟩
abbrev S2176x1024 : Shape := ⟨2, ![2176, 1024]⟩
abbrev S2560x1024 : Shape := ⟨2, ![2560, 1024]⟩
abbrev S2176x2560 : Shape := ⟨2, ![2176, 2560]⟩
abbrev S544x1024 : Shape := ⟨2, ![544, 1024]⟩
abbrev S544x2560 : Shape := ⟨2, ![544, 2560]⟩
abbrev S544 : Shape := ⟨1, ![544]⟩
abbrev S544x1 : Shape := ⟨2, ![544, 1]⟩
abbrev S512x1024 : Shape := ⟨2, ![512, 1024]⟩
abbrev S544x512 : Shape := ⟨2, ![544, 512]⟩

abbrev nBuf : Space → Nat
  | .hbm => 12
  | .vmem => 8
  | .smem => 0
  | _ => 0

abbrev bufTy : (tb : Table) → Fin (tcTables nBuf tb) → BufTy
  | .hbm, ⟨0, _⟩ => ⟨S16x1024, .f32⟩
  | .hbm, ⟨1, _⟩ => ⟨S2048x1024, .f32⟩
  | .hbm, ⟨2, _⟩ => ⟨S1x1024, .f32⟩
  | .hbm, ⟨3, _⟩ => ⟨S1024x2560, .f32⟩
  | .hbm, ⟨4, _⟩ => ⟨S2064x1024, .f32⟩
  | .hbm, ⟨5, _⟩ => ⟨S_, .i32⟩
  | .hbm, ⟨6, _⟩ => ⟨S_, .f32⟩
  | .hbm, ⟨7, _⟩ => ⟨S2176x1024, .f32⟩
  | .hbm, ⟨8, _⟩ => ⟨S2560x1024, .f32⟩
  | .hbm, ⟨9, _⟩ => ⟨S2560x1024, .bf16⟩
  | .hbm, ⟨10, _⟩ => ⟨S2176x1024, .bf16⟩
  | .hbm, ⟨11, _⟩ => ⟨S2176x2560, .f32⟩
  | .local _ .vmem, ⟨0, _⟩ => ⟨S544x1024, .f32⟩
  | .local _ .vmem, ⟨1, _⟩ => ⟨S544x1024, .f32⟩
  | .local _ .vmem, ⟨2, _⟩ => ⟨S1x1024, .f32⟩
  | .local _ .vmem, ⟨3, _⟩ => ⟨S2560x1024, .bf16⟩
  | .local _ .vmem, ⟨4, _⟩ => ⟨S544x1024, .bf16⟩
  | .local _ .vmem, ⟨5, _⟩ => ⟨S544x1024, .bf16⟩
  | .local _ .vmem, ⟨6, _⟩ => ⟨S544x2560, .f32⟩
  | .local _ .vmem, ⟨7, _⟩ => ⟨S544x2560, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2560x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S544x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S544x2560 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference7Ideal.lean ====
abbrev S16x1024 : Shape := ⟨2, ![16, 1024]⟩
abbrev S2048x1024 : Shape := ⟨2, ![2048, 1024]⟩
abbrev S1x1024 : Shape := ⟨2, ![1, 1024]⟩
abbrev S1024x2560 : Shape := ⟨2, ![1024, 2560]⟩
abbrev S2064x1024 : Shape := ⟨2, ![2064, 1024]⟩
abbrev S_ : Shape := ⟨0, ![]⟩
abbrev S2064 : Shape := ⟨1, ![2064]⟩
abbrev S2064x1 : Shape := ⟨2, ![2064, 1]⟩
abbrev S2176x1024 : Shape := ⟨2, ![2176, 1024]⟩
abbrev S2064x2560 : Shape := ⟨2, ![2064, 2560]⟩
abbrev S2176x2560 : Shape := ⟨2, ![2176, 2560]⟩

abbrev nBuf : Space → Nat
  | .hbm => 28
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S2048x1024, .f32⟩
  | .hbm, ⟨2, _⟩ => ⟨S1x1024, .f32⟩
  | .hbm, ⟨3, _⟩ => ⟨S1024x2560, .f32⟩
  | .hbm, ⟨4, _⟩ => ⟨S2064x1024, .f32⟩
  | .hbm, ⟨5, _⟩ => ⟨S2064x1024, .f32⟩
  | .hbm, ⟨6, _⟩ => ⟨S_, .f32⟩
  | .hbm, ⟨7, _⟩ => ⟨S2064, .f32⟩
  | .hbm, ⟨8, _⟩ => ⟨S2064x1, .f32⟩
  | .hbm, ⟨9, _⟩ => ⟨S_, .f32⟩
  | .hbm, ⟨10, _⟩ => ⟨S2064x1, .f32⟩
  | .hbm, ⟨11, _⟩ => ⟨S2064x1, .f32⟩
  | .hbm, ⟨12, _⟩ => ⟨S_, .f32⟩
  | .hbm, ⟨13, _⟩ => ⟨S2064x1, .f32⟩
  | .hbm, ⟨14, _⟩ => ⟨S2064x1, .f32⟩
  | .hbm, ⟨15, _⟩ => ⟨S2064x1, .f32⟩
  | .hbm, ⟨16, _⟩ => ⟨S2064x1024, .f32⟩
  | .hbm, ⟨17, _⟩ => ⟨S2064x1024, .f32⟩
  | .hbm, ⟨18, _⟩ => ⟨S2064x1024, .f32⟩
  | .hbm, ⟨19, _⟩ => ⟨S2064x1024, .f32⟩
  | .hbm, ⟨20, _⟩ => ⟨S_, .i32⟩
  | .hbm, ⟨21, _⟩ => ⟨S_, .f32⟩
  | .hbm, ⟨22, _⟩ => ⟨S2176x1024, .f32⟩
  | .hbm, ⟨23, _⟩ => ⟨S2176x1024, .bf16⟩
  | .hbm, ⟨24, _⟩ => ⟨S2064x2560, .f32⟩
  | .hbm, ⟨25, _⟩ => ⟨S_, .i32⟩
  | .hbm, ⟨26, _⟩ => ⟨S_, .f32⟩
  | .hbm, ⟨27, _⟩ => ⟨S2176x2560, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_call0_v0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_call1_v0 : Ref sig .tc := ⟨.hbm, 26, rfl⟩
abbrev main_v16 : Ref sig .tc := ⟨.hbm, 27, rfl⟩

abbrev nD : Nat := 1
abbrev τ : Topo := Topo.v7x

variable {F : FTy → Type} [FloatOps F]
-- ==== Kernel8.lean ====
abbrev S2064x512 : Shape := ⟨2, ![2064, 512]⟩
abbrev S1x512 : Shape := ⟨2, ![1, 512]⟩
abbrev S1024x1024 : Shape := ⟨2, ![1024, 1024]⟩
abbrev S2064x1024 : Shape := ⟨2, ![2064, 1024]⟩
abbrev S1x1024 : Shape := ⟨2, ![1, 1024]⟩
abbrev S_ : Shape := ⟨0, ![]⟩
abbrev S2176x512 : Shape := ⟨2, ![2176, 512]⟩
abbrev S2176x1024 : Shape := ⟨2, ![2176, 1024]⟩
abbrev S1088x512 : Shape := ⟨2, ![1088, 512]⟩
abbrev S1088x1024 : Shape := ⟨2, ![1088, 1024]⟩
abbrev S1088 : Shape := ⟨1, ![1088]⟩
abbrev S1088x1 : Shape := ⟨2, ![1088, 1]⟩

abbrev nBuf : Space → Nat
  | .hbm => 23
  | .vmem => 19
  | .smem => 0
  | _ => 0

abbrev bufTy : (tb : Table) → Fin (tcTables nBuf tb) → BufTy
  | .hbm, ⟨0, _⟩ => ⟨S2064x512, .f32⟩
  | .hbm, ⟨1, _⟩ => ⟨S2064x512, .f32⟩
  | .hbm, ⟨2, _⟩ => ⟨S1x512, .f32⟩
  | .hbm, ⟨3, _⟩ => ⟨S1x512, .f32⟩
  | .hbm, ⟨4, _⟩ => ⟨S1024x1024, .f32⟩
  | .hbm, ⟨5, _⟩ => ⟨S2064x1024, .f32⟩
  | .hbm, ⟨6, _⟩ => ⟨S1x1024, .f32⟩
  | .hbm, ⟨7, _⟩ => ⟨S1x1024, .f32⟩
  | .hbm, ⟨8, _⟩ => ⟨S_, .i32⟩
  | .hbm, ⟨9, _⟩ => ⟨S_, .f32⟩
  | .hbm, ⟨10, _⟩ => ⟨S2176x512, .f32⟩
  | .hbm, ⟨11, _⟩ => ⟨S2176x512, .bf16⟩
  | .hbm, ⟨12, _⟩ => ⟨S_, .i32⟩
  | .hbm, ⟨13, _⟩ => ⟨S_, .f32⟩
  | .hbm, ⟨14, _⟩ => ⟨S2176x512, .f32⟩
  | .hbm, ⟨15, _⟩ => ⟨S1024x1024, .bf16⟩
  | .hbm, ⟨16, _⟩ => ⟨S_, .i32⟩
  | .hbm, ⟨17, _⟩ => ⟨S_, .f32⟩
  | .hbm, ⟨18, _⟩ => ⟨S2176x1024, .f32⟩
  | .hbm, ⟨19, _⟩ => ⟨S2176x1024, .bf16⟩
  | .hbm, ⟨20, _⟩ => ⟨S2176x1024, .f32⟩
  | .hbm, ⟨21, _⟩ => ⟨S2176x1024, .f32⟩
  | .hbm, ⟨22, _⟩ => ⟨S2176x1024, .bf16⟩
  | .local _ .vmem, ⟨0, _⟩ => ⟨S1088x512, .bf16⟩
  | .local _ .vmem, ⟨1, _⟩ => ⟨S1088x512, .bf16⟩
  | .local _ .vmem, ⟨2, _⟩ => ⟨S1088x512, .f32⟩
  | .local _ .vmem, ⟨3, _⟩ => ⟨S1088x512, .f32⟩
  | .local _ .vmem, ⟨4, _⟩ => ⟨S1x512, .f32⟩
  | .local _ .vmem, ⟨5, _⟩ => ⟨S1x512, .f32⟩
  | .local _ .vmem, ⟨6, _⟩ => ⟨S1024x1024, .bf16⟩
  | .local _ .vmem, ⟨7, _⟩ => ⟨S1088x1024, .f32⟩
  | .local _ .vmem, ⟨8, _⟩ => ⟨S1088x1024, .f32⟩
  | .local _ .vmem, ⟨9, _⟩ => ⟨S1x1024, .f32⟩
  | .local _ .vmem, ⟨10, _⟩ => ⟨S1x1024, .f32⟩
  | .local _ .vmem, ⟨11, _⟩ => ⟨S1088x1024, .bf16⟩
  | .local _ .vmem, ⟨12, _⟩ => ⟨S1088x1024, .bf16⟩
  | .local _ .vmem, ⟨13, _⟩ => ⟨S1088x1024, .f32⟩
  | .local _ .vmem, ⟨14, _⟩ => ⟨S1088x1024, .f32⟩
  | .local _ .vmem, ⟨15, _⟩ => ⟨S1088x1024, .f32⟩
  | .local _ .vmem, ⟨16, _⟩ => ⟨S1088x1024, .f32⟩
  | .local _ .vmem, ⟨17, _⟩ => ⟨S1088x1024, .bf16⟩
  | .local _ .vmem, ⟨18, _⟩ => ⟨S1088x1024, .bf16⟩
  | _, _ => ⟨S2064x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_call1_v0 : Ref sig .tc := ⟨.hbm, 13, rfl⟩
abbrev main_v2 : Ref sig .tc := ⟨.hbm, 14, rfl⟩
abbrev main_v3 : Ref sig .tc := ⟨.hbm, 15, rfl⟩
abbrev main_c_1 : Ref sig .tc := ⟨.hbm, 16, rfl⟩
abbrev main_call2_v0 : Ref sig .tc := ⟨.hbm, 17, rfl⟩
abbrev main_v4 : Ref sig .tc := ⟨.hbm, 18, rfl⟩
abbrev main_v5_0 : Ref sig .tc := ⟨.hbm, 19, rfl⟩
abbrev main_v5_1 : Ref sig .tc := ⟨.hbm, 20, rfl⟩
abbrev main_v5_2 : Ref sig .tc := ⟨.hbm, 21, rfl⟩
abbrev main_v5_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1088x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1088x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1088x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1088x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1088x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1088x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1088x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference8Ideal.lean ====
abbrev S2064x512 : Shape := ⟨2, ![2064, 512]⟩
abbrev S1x512 : Shape := ⟨2, ![1, 512]⟩
abbrev S1024x1024 : Shape := ⟨2, ![1024, 1024]⟩
abbrev S2064x1024 : Shape := ⟨2, ![2064, 1024]⟩
abbrev S1x1024 : Shape := ⟨2, ![1, 1024]⟩
abbrev S_ : Shape := ⟨0, ![]⟩
abbrev S112x512 : Shape := ⟨2, ![112, 512]⟩
abbrev S2176x512 : Shape := ⟨2, ![2176, 512]⟩
abbrev S112x1024 : Shape := ⟨2, ![112, 1024]⟩
abbrev S2176x1024 : Shape := ⟨2, ![2176, 1024]⟩
abbrev S2176 : Shape := ⟨1, ![2176]⟩
abbrev S2176x1 : Shape := ⟨2, ![2176, 1]⟩

abbrev nBuf : Space → Nat
  | .hbm => 88
  | .vmem => 0
  | .smem => 0
  | _ => 0

abbrev bufTy : (tb : Table) → Fin (tcTables nBuf tb) → BufTy
  | .hbm, ⟨0, _⟩ => ⟨S2064x512, .f32⟩
  | .hbm, ⟨1, _⟩ => ⟨S2064x512, .f32⟩
  | .hbm, ⟨2, _⟩ => ⟨S1x512, .f32⟩
  | .hbm, ⟨3, _⟩ => ⟨S1x512, .f32⟩
  | .hbm, ⟨4, _⟩ => ⟨S1024x1024, .f32⟩
  | .hbm, ⟨5, _⟩ => ⟨S2064x1024, .f32⟩
  | .hbm, ⟨6, _⟩ => ⟨S1x1024, .f32⟩
  | .hbm, ⟨7, _⟩ => ⟨S1x1024, .f32⟩
  | .hbm, ⟨8, _⟩ => ⟨S_, .f32⟩
  | .hbm, ⟨9, _⟩ => ⟨S112x512, .f32⟩
  | .hbm, ⟨10, _⟩ => ⟨S2176x512, .f32⟩
  | .hbm, ⟨11, _⟩ => ⟨S_, .f32⟩
  | .hbm, ⟨12, _⟩ => ⟨S112x512, .f32⟩
  | .hbm, ⟨13, _⟩ => ⟨S2176x512, .f32⟩
  | .hbm, ⟨14, _⟩ => ⟨S_, .f32⟩
  | .hbm, ⟨15, _⟩ => ⟨S112x1024, .f32⟩
  | .hbm, ⟨16, _⟩ => ⟨S2176x1024, .f32⟩
  | .hbm, ⟨17, _⟩ => ⟨S_, .f32⟩
  | .hbm, ⟨18, _⟩ => ⟨S2176, .f32⟩
  | .hbm, ⟨19, _⟩ => ⟨S2176x1, .f32⟩
  | .hbm, ⟨20, _⟩ => ⟨S_, .f32⟩
  | .hbm, ⟨21, _⟩ => ⟨S2176x1, .f32⟩
  | .hbm, ⟨22, _⟩ => ⟨S2176x1, .f32⟩
  | .hbm, ⟨23, _⟩ => ⟨S2176x512, .f32⟩
  | .hbm, ⟨24, _⟩ => ⟨S2176x512, .f32⟩
  | .hbm, ⟨25, _⟩ => ⟨S2176x512, .f32⟩
  | .hbm, ⟨26, _⟩ => ⟨S_, .f32⟩
  | .hbm, ⟨27, _⟩ => ⟨S2176, .f32⟩
  | .hbm, ⟨28, _⟩ => ⟨S2176x1, .f32⟩
  | .hbm, ⟨29, _⟩ => ⟨S_, .f32⟩
  | .hbm, ⟨30, _⟩ => ⟨S2176x1, .f32⟩
  | .hbm, ⟨31, _⟩ => ⟨S2176x1, .f32⟩
  | .hbm, ⟨32, _⟩ => ⟨S2176x512, .f32⟩
  | .hbm, ⟨33, _⟩ => ⟨S2176x512, .f32⟩
  | .hbm, ⟨34, _⟩ => ⟨S_, .f32⟩
  | .hbm, ⟨35, _⟩ => ⟨S2176x1, .f32⟩
  | .hbm, ⟨36, _⟩ => ⟨S2176x1, .f32⟩
  | .hbm, ⟨37, _⟩ => ⟨S2176x1, .f32⟩
  | .hbm, ⟨38, _⟩ => ⟨S2176x512, .f32⟩
  | .hbm, ⟨39, _⟩ => ⟨S2176x512, .f32⟩
  | .hbm, ⟨40, _⟩ => ⟨S2176x512, .f32⟩
  | .hbm, ⟨41, _⟩ => ⟨S2176x512, .f32⟩
  | .hbm, ⟨42, _⟩ => ⟨S2176x512, .f32⟩
  | .hbm, ⟨43, _⟩ => ⟨S2176x512, .f32⟩
  | .hbm, ⟨44, _⟩ => ⟨S2176x512, .f32⟩
  | .hbm, ⟨45, _⟩ => ⟨S2176x512, .f32⟩
  | .hbm, ⟨46, _⟩ => ⟨S_, .f32⟩
  | .hbm, ⟨47, _⟩ => ⟨S2176x512, .f32⟩
  | .hbm, ⟨48, _⟩ => ⟨S2176x512, .f32⟩
  | .hbm, ⟨49, _⟩ => ⟨S_, .f32⟩
  | .hbm, ⟨50, _⟩ => ⟨S2176x512, .f32⟩
  | .hbm, ⟨51, _⟩ => ⟨S2176x512, .f32⟩
  | .hbm, ⟨52, _⟩ => ⟨S2176x512, .f32⟩
  | .hbm, ⟨53, _⟩ => ⟨S2176x1024, .f32⟩
  | .hbm, ⟨54, _⟩ => ⟨S2176x1024, .f32⟩
  | .hbm, ⟨55, _⟩ => ⟨S2176x1024, .f32⟩
  | .hbm, ⟨56, _⟩ => ⟨S_, .f32⟩
  | .hbm, ⟨57, _⟩ => ⟨S2176, .f32⟩
  | .hbm, ⟨58, _⟩ => ⟨S2176x1, .f32⟩
  | .hbm, ⟨59, _⟩ => ⟨S_, .f32⟩
  | .hbm, ⟨60, _⟩ => ⟨S2176x1, .f32⟩
  | .hbm, ⟨61, _⟩ => ⟨S2176x1, .f32⟩
  | .hbm, ⟨62, _⟩ => ⟨S_, .f32⟩
  | .hbm, ⟨63, _⟩ => ⟨S2176x1, .f32⟩
  | .hbm, ⟨64, _⟩ => ⟨S2176x1, .f32⟩
  | .hbm, ⟨65, _⟩ => ⟨S2176x1, .f32⟩
  | .hbm, ⟨66, _⟩ => ⟨S2176x1024, .f32⟩
  | .hbm, ⟨67, _⟩ => ⟨S2176x1024, .f32⟩
  | .hbm, ⟨68, _⟩ => ⟨S2176x1024, .f32⟩
  | .hbm, ⟨69, _⟩ => ⟨S2176x1024, .f32⟩
  | .hbm, ⟨70, _⟩ => ⟨S2176x1024, .f32⟩
  | .hbm, ⟨71, _⟩ => ⟨S2176x1024, .bf16⟩
  | .hbm, ⟨72, _⟩ => ⟨S2176x1024, .f32⟩
  | .hbm, ⟨73, _⟩ => ⟨S_, .f32⟩
  | .hbm, ⟨74, _⟩ => ⟨S2176, .f32⟩
  | .hbm, ⟨75, _⟩ => ⟨S2176x1, .f32⟩
  | .hbm, ⟨76, _⟩ => ⟨S_, .f32⟩
  | .hbm, ⟨77, _⟩ => ⟨S2176x1, .f32⟩
  | .hbm, ⟨78, _⟩ => ⟨S2176x1, .f32⟩
  | .hbm, ⟨79, _⟩ => ⟨S_, .f32⟩
  | .hbm, ⟨80, _⟩ => ⟨S2176x1, .f32⟩
  | .hbm, ⟨81, _⟩ => ⟨S2176x1, .f32⟩
  | .hbm, ⟨82, _⟩ => ⟨S2176x1, .f32⟩
  | .hbm, ⟨83, _⟩ => ⟨S2176x1024, .f32⟩
  | .hbm, ⟨84, _⟩ => ⟨S2176x1024, .f32⟩
  | .hbm, ⟨85, _⟩ => ⟨S2176x1024, .f32⟩
  | .hbm, ⟨86, _⟩ => ⟨S2176x1024, .f32⟩
  | .hbm, ⟨87, _⟩ => ⟨S2176x1024, .bf16⟩
  | _, _ => ⟨S2064x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_cst_2 : Ref sig .tc := ⟨.hbm, 17, rfl⟩
abbrev main_v6 : Ref sig .tc := ⟨.hbm, 18, rfl⟩
abbrev main_v7 : Ref sig .tc := ⟨.hbm, 19, rfl⟩
abbrev main_cst_3 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_cst_5 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_7 : Ref sig .tc := ⟨.hbm, 56, rfl⟩
abbrev main_v32 : Ref sig .tc := ⟨.hbm, 57, rfl⟩
abbrev main_v33 : Ref sig .tc := ⟨.hbm, 58, rfl⟩
abbrev main_cst_8 : Ref sig .tc := ⟨.hbm, 59, rfl⟩
abbrev main_v34 : Ref sig .tc := ⟨.hbm, 60, rfl⟩
abbrev main_v35 : Ref sig .tc := ⟨.hbm, 61, rfl⟩
abbrev main_cst_9 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_10 : Ref sig .tc := ⟨.hbm, 73, rfl⟩
abbrev main_v46 : Ref sig .tc := ⟨.hbm, 74, rfl⟩
abbrev main_v47 : Ref sig .tc := ⟨.hbm, 75, rfl⟩
abbrev main_cst_11 : Ref sig .tc := ⟨.hbm, 76, rfl⟩
abbrev main_v48 : Ref sig .tc := ⟨.hbm, 77, rfl⟩
abbrev main_v49 : Ref sig .tc := ⟨.hbm, 78, rfl⟩
abbrev main_cst_12 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩

abbrev nD : Nat := 1
abbrev τ : Topo := Topo.v7x

variable {F : FTy → Type} [FloatOps F]
-- ==== Kernel9.lean ====
abbrev S2064x2560 : Shape := ⟨2, ![2064, 2560]⟩
abbrev S3x512 : Shape := ⟨2, ![3, 512]⟩
abbrev S31x512 : Shape := ⟨2, ![31, 512]⟩
abbrev S1x512 : Shape := ⟨2, ![1, 512]⟩
abbrev S_ : Shape := ⟨0, ![]⟩
abbrev S112x2560 : Shape := ⟨2, ![112, 2560]⟩
abbrev S2176x2560 : Shape := ⟨2, ![2176, 2560]⟩
abbrev S2176x512 : Shape := ⟨2, ![2176, 512]⟩
abbrev S2176x128 : Shape := ⟨2, ![2176, 128]⟩
abbrev S3x128 : Shape := ⟨2, ![3, 128]⟩
abbrev S31x128 : Shape := ⟨2, ![31, 128]⟩
abbrev S1x128 : Shape := ⟨2, ![1, 128]⟩
abbrev S2216x128 : Shape := ⟨2, ![2216, 128]⟩
abbrev S8x2208x128 : Shape := ⟨3, ![8, 2208, 128]⟩
abbrev S32x128 : Shape := ⟨2, ![32, 128]⟩
abbrev S8x128 : Shape := ⟨2, ![8, 128]⟩
abbrev S64x128 : Shape := ⟨2, ![64, 128]⟩
abbrev S2208x128 : Shape := ⟨2, ![2208, 128]⟩
abbrev S1x2208x128 : Shape := ⟨3, ![1, 2208, 128]⟩
abbrev S1x64x128 : Shape := ⟨3, ![1, 64, 128]⟩

abbrev nBuf : Space → Nat
  | .hbm => 9
  | .vmem => 22
  | .smem => 0
  | _ => 0

abbrev bufTy : (tb : Table) → Fin (tcTables nBuf tb) → BufTy
  | .hbm, ⟨0, _⟩ => ⟨S2064x2560, .f32⟩
  | .hbm, ⟨1, _⟩ => ⟨S3x512, .f32⟩
  | .hbm, ⟨2, _⟩ => ⟨S31x512, .f32⟩
  | .hbm, ⟨3, _⟩ => ⟨S1x512, .f32⟩
  | .hbm, ⟨4, _⟩ => ⟨S_, .f32⟩
  | .hbm, ⟨5, _⟩ => ⟨S112x2560, .f32⟩
  | .hbm, ⟨6, _⟩ => ⟨S2176x2560, .f32⟩
  | .hbm, ⟨7, _⟩ => ⟨S2176x512, .bf16⟩
  | .hbm, ⟨8, _⟩ => ⟨S2176x512, .f32⟩
  | .local _ .vmem, ⟨0, _⟩ => ⟨S2176x128, .f32⟩
  | .local _ .vmem, ⟨1, _⟩ => ⟨S2176x128, .f32⟩
  | .local _ .vmem, ⟨2, _⟩ => ⟨S2176x128, .f32⟩
  | .local _ .vmem, ⟨3, _⟩ => ⟨S2176x128, .f32⟩
  | .local _ .vmem, ⟨4, _⟩ => ⟨S2176x128, .f32⟩
  | .local _ .vmem, ⟨5, _⟩ => ⟨S2176x128, .f32⟩
  | .local _ .vmem, ⟨6, _⟩ => ⟨S2176x128, .f32⟩
  | .local _ .vmem, ⟨7, _⟩ => ⟨S2176x128, .f32⟩
  | .local _ .vmem, ⟨8, _⟩ => ⟨S2176x128, .f32⟩
  | .local _ .vmem, ⟨9, _⟩ => ⟨S2176x128, .f32⟩
  | .local _ .vmem, ⟨10, _⟩ => ⟨S3x128, .f32⟩
  | .local _ .vmem, ⟨11, _⟩ => ⟨S3x128, .f32⟩
  | .local _ .vmem, ⟨12, _⟩ => ⟨S31x128, .f32⟩
  | .local _ .vmem, ⟨13, _⟩ => ⟨S31x128, .f32⟩
  | .local _ .vmem, ⟨14, _⟩ => ⟨S1x128, .f32⟩
  | .local _ .vmem, ⟨15, _⟩ => ⟨S1x128, .f32⟩
  | .local _ .vmem, ⟨16, _⟩ => ⟨S2176x128, .bf16⟩
  | .local _ .vmem, ⟨17, _⟩ => ⟨S2176x128, .bf16⟩
  | .local _ .vmem, ⟨18, _⟩ => ⟨S2176x128, .f32⟩
  | .local _ .vmem, ⟨19, _⟩ => ⟨S2176x128, .f32⟩
  | .local _ .vmem, ⟨20, _⟩ => ⟨S2216x128, .f32⟩
  | .local _ .vmem, ⟨21, _⟩ => ⟨S8x2208x128, .f32⟩
  | _, _ => ⟨S2064x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c34_i32 : BitVec 32 := 34#32
  let v8 : BitVec 32 := Scalar.addi c0_i32 c34_i32
  let c1_i32 : BitVec 32 := 1#32
  ⟨c0_i32, v8, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32 : BitVec 32 := 64#32
  let v48 : BitVec 32 := Scalar.muli arg13 c64_i32
  v48
def k0_off1 (k0_t1 : Fin k0_t1_loop.trips) : Fin 2 → Nat :=
  let c0_i32 : BitVec 32 := 0#32
  let c1_i32 : BitVec 32 := 1#32
  let arg13 : BitVec 32 := Scf.iv c0_i32 c1_i32 k0_t1
  let c64_i32 : BitVec 32 := 64#32
  let v48 : BitVec 32 := Scalar.muli arg13 c64_i32
  let v49 : BitVec 32 := v48
  let v50 : Index := Scalar.indexCast v49
  let c0_54 : Index := 0#32
  ![v50.toNat, 0]
def k0_off2 (k0_t1 : Fin k0_t1_loop.trips) : Fin 2 → Nat :=
  let c32_i32 : BitVec 32 := 32#32
  let c0_i32 : BitVec 32 := 0#32
  let c1_i32 : BitVec 32 := 1#32
  let arg13 : BitVec 32 := Scf.iv c0_i32 c1_i32 k0_t1
  let c64_i32 : BitVec 32 := 64#32
  let v48 : BitVec 32 := Scalar.muli arg13 c64_i32
  let v49 : BitVec 32 := v48
  let v57 : BitVec 32 := Scalar.addi c32_i32 v49
  let v58 : Index := Scalar.indexCast v57
  let c0_56 : Index := 0#32
  ![v58.toNat, 0]
@[reducible] def k0_t2_loop : Scf.Loop 32 :=
  let c0_i32_12 : BitVec 32 := 0#32
  let c34_i32_13 : BitVec 32 := 34#32
  let v17 : BitVec 32 := Scalar.addi c0_i32_12 c34_i32_13
  let c1_i32_14 : BitVec 32 := 1#32
  ⟨c0_i32_12, v17, c1_i32_14⟩
def k0_mult2 (k0_t2 : Fin k0_t2_loop.trips) : BitVec 32 :=
  let c0_i32_12 : BitVec 32 := 0#32
  let c1_i32_14 : BitVec 32 := 1#32
  let arg13 : BitVec 32 := Scf.iv c0_i32_12 c1_i32_14 k0_t2
  let c64_i32 : BitVec 32 := 64#32
  let v48 : BitVec 32 := Scalar.muli arg13 c64_i32
  v48
def k0_off3 (k0_t2 : Fin k0_t2_loop.trips) : Fin 2 → Nat :=
  let c0_i32_12 : BitVec 32 := 0#32
  let c1_i32_14 : BitVec 32 := 1#32
  let arg13 : BitVec 32 := Scf.iv c0_i32_12 c1_i32_14 k0_t2
  let c64_i32 : BitVec 32 := 64#32
  let v48 : BitVec 32 := Scalar.muli arg13 c64_i32
  let v49 : BitVec 32 := v48
  let v50 : Index := Scalar.indexCast v49
  let c0_54 : Index := 0#32
  ![v50.toNat, 0]
def k0_off4 (k0_t2 : Fin k0_t2_loop.trips) : Fin 3 → Nat :=
  let c6_57 : Index := 6#32
  let c0_i32_12 : BitVec 32 := 0#32
  let c1_i32_14 : BitVec 32 := 1#32
  let arg13 : BitVec 32 := Scf.iv c0_i32_12 c1_i32_14 k0_t2
  let c64_i32 : BitVec 32 := 64#32
  let v48 : BitVec 32 := Scalar.muli arg13 c64_i32
  let v49 : BitVec 32 := v48
  let c24_i32 : BitVec 32 := 24#32
  let v54 : BitVec 32 := Scalar.addi v49 c24_i32
  let v55 : Index := Scalar.indexCast v54
  let c0_58 : Index := 0#32
  ![6, v55.toNat, 0]
def k0_off5 (k0_t2 : Fin k0_t2_loop.trips) : Fin 3 → Nat :=
  let c7_62 : Index := 7#32
  let c0_i32_12 : BitVec 32 := 0#32
  let c1_i32_14 : BitVec 32 := 1#32
  let arg13 : BitVec 32 := Scf.iv c0_i32_12 c1_i32_14 k0_t2
  let c64_i32 : BitVec 32 := 64#32
  let v48 : BitVec 32 := Scalar.muli arg13 c64_i32
  let v49 : BitVec 32 := v48
  let c24_i32_61 : BitVec 32 := 24#32
  let v61 : BitVec 32 := Scalar.addi v49 c24_i32_61
  let v62 : Index := Scalar.indexCast v61
  let c0_63 : Index := 0#32
  ![7, v62.toNat, 0]
def k0_off6 (k0_t2 : Fin k0_t2_loop.trips) : Fin 2 → Nat :=
  let c0_i32_12 : BitVec 32 := 0#32
  let c1_i32_14 : BitVec 32 := 1#32
  let arg13 : BitVec 32 := Scf.iv c0_i32_12 c1_i32_14 k0_t2
  let c64_i32 : BitVec 32 := 64#32
  let v48 : BitVec 32 := Scalar.muli arg13 c64_i32
  let v49 : BitVec 32 := v48
  let c32_i32 : BitVec 32 := 32#32
  let v69 : BitVec 32 := Scalar.addi v49 c32_i32
  let v70 : Index := Scalar.indexCast v69
  let c0_66 : Index := 0#32
  ![v70.toNat, 0]
@[reducible] def k0_t3_loop : Scf.Loop 32 :=
  let c0_i32_16 : BitVec 32 := 0#32
  let c34_i32_17 : BitVec 32 := 34#32
  let v18 : BitVec 32 := Scalar.addi c0_i32_16 c34_i32_17
  let c1_i32_18 : BitVec 32 := 1#32
  ⟨c0_i32_16, v18, c1_i32_18⟩
def k0_mult3 (k0_t3 : Fin k0_t3_loop.trips) : BitVec 32 :=
  let c0_i32_16 : BitVec 32 := 0#32
  let c1_i32_18 : BitVec 32 := 1#32
  let arg13 : BitVec 32 := Scf.iv c0_i32_16 c1_i32_18 k0_t3
  let c64_i32 : BitVec 32 := 64#32
  let v48 : BitVec 32 := Scalar.muli arg13 c64_i32
  v48
def k0_off7 (k0_t3 : Fin k0_t3_loop.trips) : Fin 2 → Nat :=
  let c0_i32_16 : BitVec 32 := 0#32
  let c1_i32_18 : BitVec 32 := 1#32
  let arg13 : BitVec 32 := Scf.iv c0_i32_16 c1_i32_18 k0_t3
  let c64_i32 : BitVec 32 := 64#32
  let v48 : BitVec 32 := Scalar.muli arg13 c64_i32
  let v49 : BitVec 32 := v48
  let v50 : Index := Scalar.indexCast v49
  let c0_54 : Index := 0#32
  ![v50.toNat, 0]
def k0_off8 (k0_t3 : Fin k0_t3_loop.trips) : Fin 2 → Nat :=
  let c32_i32 : BitVec 32 := 32#32
  let c0_i32_16 : BitVec 32 := 0#32
  let c1_i32_18 : BitVec 32 := 1#32
  let arg13 : BitVec 32 := Scf.iv c0_i32_16 c1_i32_18 k0_t3
  let c64_i32 : BitVec 32 := 64#32
  let v48 : BitVec 32 := Scalar.muli arg13 c64_i32
  let v49 : BitVec 32 := v48
  let v58 : BitVec 32 := Scalar.addi c32_i32 v49
  let v59 : Index := Scalar.indexCast v58
  let c0_56 : Index := 0#32
  ![v59.toNat, 0]
@[reducible] def k0_t4_loop : Scf.Loop 32 :=
  let c0_i32_50 : BitVec 32 := 0#32
  let c34_i32_51 : BitVec 32 := 34#32
  let v47 : BitVec 32 := Scalar.addi c0_i32_50 c34_i32_51
  let c1_i32_52 : BitVec 32 := 1#32
  ⟨c0_i32_50, v47, c1_i32_52⟩
def k0_mult4 (k0_t4 : Fin k0_t4_loop.trips) : BitVec 32 :=
  let c0_i32_50 : BitVec 32 := 0#32
  let c1_i32_52 : BitVec 32 := 1#32
  let arg13 : BitVec 32 := Scf.iv c0_i32_50 c1_i32_52 k0_t4
  let c64_i32 : BitVec 32 := 64#32
  let v48 : BitVec 32 := Scalar.muli arg13 c64_i32
  v48
def k0_off9 (k0_t4 : Fin k0_t4_loop.trips) (c0_i32_56 : BitVec 32) : Fin 3 → Nat :=
  let c2_57 : Index := 2#32
  let c0_i32_50 : BitVec 32 := 0#32
  let c1_i32_52 : BitVec 32 := 1#32
  let arg13 : BitVec 32 := Scf.iv c0_i32_50 c1_i32_52 k0_t4
  let c64_i32 : BitVec 32 := 64#32
  let v48 : BitVec 32 := Scalar.muli arg13 c64_i32
  let v49 : BitVec 32 := v48
  let v51 : BitVec 32 := Scalar.addi v49 c0_i32_56
  let v52 : Index := Scalar.indexCast v51
  let c0_58 : Index := 0#32
  ![2, v52.toNat, 0]
def k0_off10 (k0_t4 : Fin k0_t4_loop.trips) (c0_i32_61 : BitVec 32) : Fin 3 → Nat :=
  let c3_62 : Index := 3#32
  let c0_i32_50 : BitVec 32 := 0#32
  let c1_i32_52 : BitVec 32 := 1#32
  let arg13 : BitVec 32 := Scf.iv c0_i32_50 c1_i32_52 k0_t4
  let c64_i32 : BitVec 32 := 64#32
  let v48 : BitVec 32 := Scalar.muli arg13 c64_i32
  let v49 : BitVec 32 := v48
  let v58 : BitVec 32 := Scalar.addi v49 c0_i32_61
  let v59 : Index := Scalar.indexCast v58
  let c0_63 : Index := 0#32
  ![3, v59.toNat, 0]
def k0_off11 (k0_t4 : Fin k0_t4_loop.trips) (c0_i32_66 : BitVec 32) : Fin 3 → Nat :=
  let c4_67 : Index := 4#32
  let c0_i32_50 : BitVec 32 := 0#32
  let c1_i32_52 : BitVec 32 := 1#32
  let arg13 : BitVec 32 := Scf.iv c0_i32_50 c1_i32_52 k0_t4
  let c64_i32 : BitVec 32 := 64#32
  let v48 : BitVec 32 := Scalar.muli arg13 c64_i32
  let v49 : BitVec 32 := v48
  let v66 : BitVec 32 := Scalar.addi v49 c0_i32_66
  let v67 : Index := Scalar.indexCast v66
  let c0_68 : Index := 0#32
  ![4, v67.toNat, 0]
def k0_off12 (k0_t4 : Fin k0_t4_loop.trips) (c0_i32_71 : BitVec 32) : Fin 3 → Nat :=
  let c5_72 : Index := 5#32
  let c0_i32_50 : BitVec 32 := 0#32
  let c1_i32_52 : BitVec 32 := 1#32
  let arg13 : BitVec 32 := Scf.iv c0_i32_50 c1_i32_52 k0_t4
  let c64_i32 : BitVec 32 := 64#32
  let v48 : BitVec 32 := Scalar.muli arg13 c64_i32
  let v49 : BitVec 32 := v48
  let v74 : BitVec 32 := Scalar.addi v49 c0_i32_71
  let v75 : Index := Scalar.indexCast v74
  let c0_73 : Index := 0#32
  ![5, v75.toNat, 0]
def k0_off13 (k0_t4 : Fin k0_t4_loop.trips) (c0_i32_76 : BitVec 32) : Fin 3 → Nat :=
  let c6_77 : Index := 6#32
  let c0_i32_50 : BitVec 32 := 0#32
  let c1_i32_52 : BitVec 32 := 1#32
  let arg13 : BitVec 32 := Scf.iv c0_i32_50 c1_i32_52 k0_t4
  let c64_i32 : BitVec 32 := 64#32
  let v48 : BitVec 32 := Scalar.muli arg13 c64_i32
  let v49 : BitVec 32 := v48
  let v82 : BitVec 32 := Scalar.addi v49 c0_i32_76
  let v83 : Index := Scalar.indexCast v82
  let c0_78 : Index := 0#32
  ![6, v83.toNat, 0]
def k0_off14 (k0_t4 : Fin k0_t4_loop.trips) (c0_i32_81 : BitVec 32) : Fin 3 → Nat :=
  let c7_82 : Index := 7#32
  let c0_i32_50 : BitVec 32 := 0#32
  let c1_i32_52 : BitVec 32 := 1#32
  let arg13 : BitVec 32 := Scf.iv c0_i32_50 c1_i32_52 k0_t4
  let c64_i32 : BitVec 32 := 64#32
  let v48 : BitVec 32 := Scalar.muli arg13 c64_i32
  let v49 : BitVec 32 := v48
  let v90 : BitVec 32 := Scalar.addi v49 c0_i32_81
  let v91 : Index := Scalar.indexCast v90
  let c0_83 : Index := 0#32
  ![7, v91.toNat, 0]
def k0_off15 (k0_t4 : Fin k0_t4_loop.trips) (c8_i32 : BitVec 32) : Fin 2 → Nat :=
  let c0_i32_50 : BitVec 32 := 0#32
  let c1_i32_52 : BitVec 32 := 1#32
  let arg13 : BitVec 32 := Scf.iv c0_i32_50 c1_i32_52 k0_t4
  let c64_i32 : BitVec 32 := 64#32
  let v48 : BitVec 32 := Scalar.muli arg13 c64_i32
  let v49 : BitVec 32 := v48
  let v98 : BitVec 32 := Scalar.addi v49 c8_i32
  let v99 : Index := Scalar.indexCast v98
  let c0_86 : Index := 0#32
  ![v99.toNat, 0]
def k0_off16 (k0_t4 : Fin k0_t4_loop.trips) (c8_i32_89 : BitVec 32) : Fin 3 → Nat :=
  let c1_90 : Index := 1#32
  let c0_i32_50 : BitVec 32 := 0#32
  let c1_i32_52 : BitVec 32 := 1#32
  let arg13 : BitVec 32 := Scf.iv c0_i32_50 c1_i32_52 k0_t4
  let c64_i32 : BitVec 32 := 64#32
  let v48 : BitVec 32 := Scalar.muli arg13 c64_i32
  let v49 : BitVec 32 := v48
  let v105 : BitVec 32 := Scalar.addi v49 c8_i32_89
  let v106 : Index := Scalar.indexCast v105
  let c0_91 : Index := 0#32
  ![1, v106.toNat, 0]
def k0_off17 (k0_t4 : Fin k0_t4_loop.trips) : Fin 2 → Nat :=
  let c0_i32_50 : BitVec 32 := 0#32
  let c1_i32_52 : BitVec 32 := 1#32
  let arg13 : BitVec 32 := Scf.iv c0_i32_50 c1_i32_52 k0_t4
  let c64_i32 : BitVec 32 := 64#32
  let v48 : BitVec 32 := Scalar.muli arg13 c64_i32
  let v49 : BitVec 32 := v48
  let v296 : Index := Scalar.indexCast v49
  let c0_180 : Index := 0#32
  ![v296.toNat, 0]
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2176x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2176x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2176x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2176x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2176x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S31x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2176x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2176x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference9Ideal.lean ====
abbrev S2064x2560 : Shape := ⟨2, ![2064, 2560]⟩
abbrev S3x512 : Shape := ⟨2, ![3, 512]⟩
abbrev S31x512 : Shape := ⟨2, ![31, 512]⟩
abbrev S1x512 : Shape := ⟨2, ![1, 512]⟩
abbrev S_ : Shape := ⟨0, ![]⟩
abbrev S112x2560 : Shape := ⟨2, ![112, 2560]⟩
abbrev S2176x2560 : Shape := ⟨2, ![2176, 2560]⟩
abbrev S2176x512 : Shape := ⟨2, ![2176, 512]⟩
abbrev S3x2176x2176 : Shape := ⟨3, ![3, 2176, 2176]⟩
abbrev S3x1x512 : Shape := ⟨3, ![3, 1, 512]⟩
abbrev S3x2176x512 : Shape := ⟨3, ![3, 2176, 512]⟩
abbrev S31x2176x2176 : Shape := ⟨3, ![31, 2176, 2176]⟩
abbrev S31x1x512 : Shape := ⟨3, ![31, 1, 512]⟩
abbrev S31x2176x512 : Shape := ⟨3, ![31, 2176, 512]⟩

abbrev nBuf : Space → Nat
  | .hbm => 66
  | .vmem => 0
  | .smem => 0
  | _ => 0

abbrev bufTy : (tb : Table) → Fin (tcTables nBuf tb) → BufTy
  | .hbm, ⟨0, _⟩ => ⟨S2064x2560, .f32⟩
  | .hbm, ⟨1, _⟩ => ⟨S3x512, .f32⟩
  | .hbm, ⟨2, _⟩ => ⟨S31x512, .f32⟩
  | .hbm, ⟨3, _⟩ => ⟨S1x512, .f32⟩
  | .hbm, ⟨4, _⟩ => ⟨S_, .f32⟩
  | .hbm, ⟨5, _⟩ => ⟨S112x2560, .f32⟩
  | .hbm, ⟨6, _⟩ => ⟨S2176x2560, .f32⟩
  | .hbm, ⟨7, _⟩ => ⟨S2176x512, .f32⟩
  | .hbm, ⟨8, _⟩ => ⟨S2176x512, .f32⟩
  | .hbm, ⟨9, _⟩ => ⟨S2176x512, .f32⟩
  | .hbm, ⟨10, _⟩ => ⟨S2176x512, .f32⟩
  | .hbm, ⟨11, _⟩ => ⟨S2176x512, .f32⟩
  | .hbm, ⟨12, _⟩ => ⟨S2176x512, .f32⟩
  | .hbm, ⟨13, _⟩ => ⟨S3x2176x2176, .i32⟩
  | .hbm, ⟨14, _⟩ => ⟨S3x2176x2176, .i32⟩
  | .hbm, ⟨15, _⟩ => ⟨S3x2176x2176, .i32⟩
  | .hbm, ⟨16, _⟩ => ⟨S_, .i32⟩
  | .hbm, ⟨17, _⟩ => ⟨S3x2176x2176, .i32⟩
  | .hbm, ⟨18, _⟩ => ⟨S3x2176x2176, .i32⟩
  | .hbm, ⟨19, _⟩ => ⟨S3x2176x2176, .i32⟩
  | .hbm, ⟨20, _⟩ => ⟨S3x2176x2176, .i1⟩
  | .hbm, ⟨21, _⟩ => ⟨S_, .f32⟩
  | .hbm, ⟨22, _⟩ => ⟨S_, .f32⟩
  | .hbm, ⟨23, _⟩ => ⟨S3x2176x2176, .f32⟩
  | .hbm, ⟨24, _⟩ => ⟨S3x2176x2176, .f32⟩
  | .hbm, ⟨25, _⟩ => ⟨S3x2176x2176, .f32⟩
  | .hbm, ⟨26, _⟩ => ⟨S3x2176x2176, .f32⟩
  | .hbm, ⟨27, _⟩ => ⟨S3x1x512, .f32⟩
  | .hbm, ⟨28, _⟩ => ⟨S3x2176x512, .f32⟩
  | .hbm, ⟨29, _⟩ => ⟨S3x2176x512, .f32⟩
  | .hbm, ⟨30, _⟩ => ⟨S3x2176x512, .f32⟩
  | .hbm, ⟨31, _⟩ => ⟨S_, .f32⟩
  | .hbm, ⟨32, _⟩ => ⟨S2176x512, .f32⟩
  | .hbm, ⟨33, _⟩ => ⟨S2176x512, .f32⟩
  | .hbm, ⟨34, _⟩ => ⟨S2176x512, .f32⟩
  | .hbm, ⟨35, _⟩ => ⟨S2176x512, .f32⟩
  | .hbm, ⟨36, _⟩ => ⟨S_, .f32⟩
  | .hbm, ⟨37, _⟩ => ⟨S2176x512, .f32⟩
  | .hbm, ⟨38, _⟩ => ⟨S2176x512, .f32⟩
  | .hbm, ⟨39, _⟩ => ⟨S_, .f32⟩
  | .hbm, ⟨40, _⟩ => ⟨S2176x512, .f32⟩
  | .hbm, ⟨41, _⟩ => ⟨S2176x512, .f32⟩
  | .hbm, ⟨42, _⟩ => ⟨S2176x512, .f32⟩
  | .hbm, ⟨43, _⟩ => ⟨S2176x512, .bf16⟩
  | .hbm, ⟨44, _⟩ => ⟨S31x2176x2176, .i32⟩
  | .hbm, ⟨45, _⟩ => ⟨S31x2176x2176, .i32⟩
  | .hbm, ⟨46, _⟩ => ⟨S31x2176x2176, .i32⟩
  | .hbm, ⟨47, _⟩ => ⟨S_, .i32⟩
  | .hbm, ⟨48, _⟩ => ⟨S31x2176x2176, .i32⟩
  | .hbm, ⟨49, _⟩ => ⟨S31x2176x2176, .i32⟩
  | .hbm, ⟨50, _⟩ => ⟨S31x2176x2176, .i32⟩
  | .hbm, ⟨51, _⟩ => ⟨S31x2176x2176, .i1⟩
  | .hbm, ⟨52, _⟩ => ⟨S_, .f32⟩
  | .hbm, ⟨53, _⟩ => ⟨S_, .f32⟩
  | .hbm, ⟨54, _⟩ => ⟨S31x2176x2176, .f32⟩
  | .hbm, ⟨55, _⟩ => ⟨S31x2176x2176, .f32⟩
  | .hbm, ⟨56, _⟩ => ⟨S31x2176x2176, .f32⟩
  | .hbm, ⟨57, _⟩ => ⟨S31x2176x2176, .f32⟩
  | .hbm, ⟨58, _⟩ => ⟨S31x1x512, .f32⟩
  | .hbm, ⟨59, _⟩ => ⟨S31x2176x512, .f32⟩
  | .hbm, ⟨60, _⟩ => ⟨S31x2176x512, .f32⟩
  | .hbm, ⟨61, _⟩ => ⟨S31x2176x512, .f32⟩
  | .hbm, ⟨62, _⟩ => ⟨S_, .f32⟩
  | .hbm, ⟨63, _⟩ => ⟨S2176x512, .f32⟩
  | .hbm, ⟨64, _⟩ => ⟨S2176x512, .f32⟩
  | .hbm, ⟨65, _⟩ => ⟨S2176x512, .f32⟩
  | _, _ => ⟨S2064x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c_5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_cst_7 : Ref sig .tc := ⟨.hbm, 53, rfl⟩
abbrev main_call1_v0 : Ref sig .tc := ⟨.hbm, 54, rfl⟩
abbrev main_call1_v1 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_8 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩

abbrev nD : Nat := 1
abbrev τ : Topo := Topo.v7x

variable {F : FTy → Type} [FloatOps F]
-- ==== Proof.Reads.lean ====
module

public import proofs.«01_k».proof.Proof.Gen.KernelIdeal.Loops
public import Idealize.ShloMosaic.Lib.VecWindow
public import Idealize.ShloMosaic.Lib.ValueLayout
public import Idealize.ShloMosaic.Lib.Pointwise

@[expose] public section

set_option maxRecDepth 16384

noncomputable section

namespace Cert.ConvBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The values of a kernel buffer with 128 lanes, as a function of a row number and a lane. -/
abbrev Rows (F : FTy → Type) := ℕ → Fin 128 → F .f32

/-- The view's contents, row by row. -/
def Reads {n : ℕ} (v : View sig .tc .vmem (⟨2, ![n, 128]⟩ : Shape) .f32) (f : BufTy.Contents (Elt F) v.ty) (U : Rows F) : Prop :=
  ∀ (r : Fin n) (l : Fin 128), v.read (Elt F) f (ix2 r l) = U r.val l

/-- Shifted copies: slice `g` of the view holds the rows of `U` from row `g` on, for the slices in `P`. -/
def Shifted (P : ℕ → Prop) {n : ℕ} (v : View sig .tc .vmem (⟨3, ![8, n, 128]⟩ : Shape) .f32) (f : BufTy.Contents (Elt F) v.ty) (U : Rows F) : Prop :=
  ∀ (g : Fin 8) (r : Fin n) (l : Fin 128), P g.val → v.read (Elt F) f (ix3 g r l) = U (g.val + r.val) l

/-- The first `K` slices of the view repeat one row each on the eight sublanes. -/
def Repeats (K : ℕ) (v : View sig .tc .vmem (⟨3, ![32, 8, 128]⟩ : Shape) .f32) (f : BufTy.Contents (Elt F) v.ty) (W : Rows F) : Prop :=
  ∀ (t : Fin 32) (s : Fin 8) (l : Fin 128), t.val < K → v.read (Elt F) f (ix3 t s l) = W t.val l

/-- A load of `m` whole rows from row `b` on. -/
theorem load_rows {n m : ℕ} (v : View sig .tc .vmem (⟨2, ![n, 128]⟩ : Shape) .f32) (f : BufTy.Contents (Elt F) v.ty) (U : Rows F) (hU : Reads v f U)
    {off : Fin 2 → ℕ} {b : ℕ} (inb : ∀ a, off a + (![m, 128] : Fin 2 → ℕ) a ≤ (⟨2, ![n, 128]⟩ : Shape).size a) (h : off = ![b, 0]) (r : Fin m) (l : Fin 128) :
    v.readAt (Elt F) (Rect.unit (s := ⟨2, ![n, 128]⟩) off ![m, 128] inb).toLoadRect f (ix2 r l) = U (b + r.val) l := by
  subst h
  have hb : b + m ≤ n := inb 0
  have := hU ⟨b + r.val, by omega⟩ l
  rw [← this]
  refine congrArg (v.read (Elt F) f) (funext fun a => Fin.ext ?_)
  match a with
  | ⟨0, _⟩ => show b + 1 * r.val = b + r.val; omega
  | ⟨1, _⟩ => show 0 + 1 * l.val = l.val; omega

/-- A load of `m` rows of one slice of the shifted copies. -/
theorem load_shifted {P : ℕ → Prop} {n m : ℕ} (v : View sig .tc .vmem (⟨3, ![8, n, 128]⟩ : Shape) .f32) (f : BufTy.Contents (Elt F) v.ty) (U : Rows F)
    (hU : Shifted P v f U) {off : Fin 3 → ℕ} {g b : ℕ} (inb : ∀ a, off a + (![1, m, 128] : Fin 3 → ℕ) a ≤ (⟨3, ![8, n, 128]⟩ : Shape).size a)
    (h : off = ![g, b, 0]) (hg : P g) (u : Fin 1) (r : Fin m) (l : Fin 128) :
    v.readAt (Elt F) (Rect.unit (s := ⟨3, ![8, n, 128]⟩) off ![1, m, 128] inb).toLoadRect f (ix3 u r l) = U (g + (b + r.val)) l := by
  subst h
  have hg8 : g + 1 ≤ 8 := inb 0
  have hb : b + m ≤ n := inb 1
  have hu := u.isLt
  have := hU ⟨g, by omega⟩ ⟨b + r.val, by omega⟩ l hg
  rw [← this]
  refine congrArg (v.read (Elt F) f) (funext fun a => Fin.ext ?_)
  match a with
  | ⟨0, _⟩ => show g + 1 * u.val = g; omega
  | ⟨1, _⟩ => show b + 1 * r.val = b + r.val; omega
  | ⟨2, _⟩ => show 0 + 1 * l.val = l.val; omega

/-- A load of one repeated row. -/
theorem load_repeated {K : ℕ} (v : View sig .tc .vmem (⟨3, ![32, 8, 128]⟩ : Shape) .f32) (f : BufTy.Contents (Elt F) v.ty) (W : Rows F)
    (hW : Repeats K v f W) {t : ℕ} (inb : ∀ a, (![t, 0, 0] : Fin 3 → ℕ) a + (![1, 8, 128] : Fin 3 → ℕ) a ≤ (⟨3, ![32, 8, 128]⟩ : Shape).size a)
    (ht : t < K) (u : Fin 1) (s : Fin 8) (l : Fin 128) :
    v.readAt (Elt F) (Rect.unit (s := ⟨3, ![32, 8, 128]⟩) ![t, 0, 0] ![1, 8, 128] inb).toLoadRect f (ix3 u s l) = W t l := by
  have hg8 : t + 1 ≤ 32 := inb 0
  have hu := u.isLt
  have := hW ⟨t, by omega⟩ s l ht
  rw [← this]
  refine congrArg (v.read (Elt F) f) (funext fun a => Fin.ext ?_)
  match a with
  | ⟨0, _⟩ => show t + 1 * u.val = t; omega
  | ⟨1, _⟩ => show 0 + 1 * s.val = s.val; omega
  | ⟨2, _⟩ => show 0 + 1 * l.val = l.val; omega

/-- Storing rows over rows: the newest rows read the payload, the others what was there. -/
theorem reads_cons {n m : ℕ} (v : View sig .tc .vmem (⟨2, ![n, 128]⟩ : Shape) .f32) (f : BufTy.Contents (Elt F) v.ty)
    {off : Fin 2 → ℕ} {b : ℕ} (inb : ∀ a, off a + (![m, 128] : Fin 2 → ℕ) a ≤ (⟨2, ![n, 128]⟩ : Shape).size a)
    (w : (Rect.unit (s := ⟨2, ![n, 128]⟩) off ![m, 128] inb).shape.Idx → Elt F .f32) (L : List (View.Piece (Elt F) (⟨2, ![n, 128]⟩ : Shape) .f32))
    (h : off = ![b, 0]) (U : Rows F)
    (hw : ∀ (r : Fin m) (l : Fin 128), w (ix2 r l) = U (b + r.val) l) (r : Fin n) (l : Fin 128)
    (hL : r.val < b ∨ b + m ≤ r.val → v.read (Elt F) (v.writes (Elt F) f L) (ix2 r l) = U r.val l) :
    v.read (Elt F) (v.writes (Elt F) f (⟨Rect.unit off ![m, 128] inb, w⟩ :: L)) (ix2 r l) = U r.val l := by
  by_cases hr : r.val < b ∨ b + m ≤ r.val
  · rw [View.read_writes_cons_rows_of_not_mem (o := b) (W := m) v f inb w L (ix2 r l) h rfl hr]
    exact hL hr
  · rw [View.read_writes_cons_rows_of_mem (o := b) v f inb w L (ix2 r l) (ix2 (⟨r.val - b, by omega⟩ : Fin m) l) h
      (show r.val = b + (r.val - b) by omega) rfl]
    rw [hw]
    exact congrArg (U · l) (show b + (r.val - b) = r.val by omega)

/-- Storing rows of one slice of a stack: the newest rows read the payload, the others what was there. -/
theorem reads_cons_slice {e : EltTy} {N n m : ℕ} (v : View sig .tc .vmem (⟨3, ![N, n, 128]⟩ : Shape) e) (f : BufTy.Contents (Elt F) v.ty)
    {off : Fin 3 → ℕ} {g b : ℕ} (inb : ∀ a, off a + (![1, m, 128] : Fin 3 → ℕ) a ≤ (⟨3, ![N, n, 128]⟩ : Shape).size a)
    (w : (Rect.unit (s := ⟨3, ![N, n, 128]⟩) off ![1, m, 128] inb).shape.Idx → Elt F e) (L : List (View.Piece (Elt F) (⟨3, ![N, n, 128]⟩ : Shape) e))
    (h : off = ![g, b, 0]) (U : ℕ → ℕ → Fin 128 → Elt F e)
    (hw : ∀ (u : Fin 1) (r : Fin m) (l : Fin 128), w (ix3 u r l) = U g (b + r.val) l) (a : Fin N) (r : Fin n) (l : Fin 128)
    (hL : ¬ (a.val = g ∧ b ≤ r.val ∧ r.val < b + m) → v.read (Elt F) (v.writes (Elt F) f L) (ix3 a r l) = U a.val r.val l) :
    v.read (Elt F) (v.writes (Elt F) f (⟨Rect.unit off ![1, m, 128] inb, w⟩ :: L)) (ix3 a r l) = U a.val r.val l := by
  by_cases hr : a.val = g ∧ b ≤ r.val ∧ r.val < b + m
  · rw [View.read_writes_cons_unit_of_mem v f inb w L (ix3 a r l) (ix3 (0 : Fin 1) (⟨r.val - b, by omega⟩ : Fin m) l) h (fun x => by
      match x with
      | ⟨0, _⟩ => show a.val = g + 0; omega
      | ⟨1, _⟩ => show r.val = b + (r.val - b); omega
      | ⟨2, _⟩ => show l.val = 0 + l.val; omega), hw]
    rw [show b + (⟨r.val - b, by omega⟩ : Fin m).val = r.val from (by show b + (r.val - b) = r.val; omega), hr.1]
  · refine Eq.trans ?_ (hL hr)
    by_cases ha : a.val = g
    · exact View.read_writes_cons_unit_of_not_mem v f inb w L (ix3 a r l) h 1 (by
        show r.val < b ∨ b + m ≤ r.val; omega)
    · exact View.read_writes_cons_unit_of_not_mem v f inb w L (ix3 a r l) h 0 (by
        show a.val < g ∨ g + 1 ≤ a.val; omega)

/-- An array of rows as a function of a row number and a lane, zero beyond its rows. -/
def inp {n : ℕ} (x : Vec F (⟨2, ![n, 128]⟩ : Shape) .f32) : Rows F := fun r l => if h : r < n then x (ix2 ⟨r, h⟩ l) else Scalar.ofBits .f32 0#32

theorem reads_inp {n : ℕ} (v : View sig .tc .vmem (⟨2, ![n, 128]⟩ : Shape) .f32) (f : BufTy.Contents (Elt F) v.ty) : Reads v f (inp (v.read (Elt F) f)) :=
  fun r l => by unfold inp; rw [dif_pos r.isLt]

/-- Rows behind 32 rows of zeros (and eight more after them). -/
def behind (f : Rows F) : Rows F := fun r l => if 32 ≤ r ∧ r < 2208 then f (r - 32) l else Scalar.ofBits .f32 0#32

/-- Rows before 40 rows of zeros. -/
def before (f : Rows F) : Rows F := fun r l => if r < 2176 then f r l else Scalar.ofBits .f32 0#32

theorem rows_at2 {k b s : ℕ} : 32 * k + b + s = 32 * k + (s + b) := by omega
theorem rows_at3 {k b s g : ℕ} : g + (32 * k + (s + b)) = 32 * k + (s + (b + g)) := by omega

/-- A word that counts eights from `a` on, below 128. -/
theorem ofNat8 (w : BitVec 32) (a n : ℕ) (hn : a + 8 * n ≤ 128) (h : ∃ r : Fin n, w = BitVec.ofNat 32 (a + 8 * r.val)) :
    ∃ r : Fin n, w = BitVec.ofNat 32 (a + 8 * r.val) ∧ a + 8 * r.val = w.toNat := by
  obtain ⟨r, rfl⟩ := h
  exact ⟨r, rfl, by rw [BitVec.toNat_ofNat]; omega⟩

/-- The sum of the eight-row products of a trip of 32 rows at shift `o`, in the order the kernel adds them. -/
def tapSum (D U : Rows F) (o b : ℕ) : FVec F S8x128 .f32 := fun y =>
  let term (j : ℕ) : F .f32 := FloatOps.mulf (D (b + ((y 0).val + j)) (y 1)) (U (b + ((y 0).val + (j + o))) (y 1))
  FloatOps.addf (FloatOps.addf (FloatOps.addf (term 0) (term 8)) (term 16)) (term 24)

/-- The accumulator of a tap after `k` trips. -/
def tapAcc (D U : Rows F) (o : ℕ) : ℕ → FVec F S8x128 .f32
  | 0 => broadcast S8x128 (Scalar.ofBits .f32 0#32)
  | k + 1 => addf (tapAcc D U o k) (tapSum D U o (32 * k))

/-- The weighted sum of shifted rows, over the taps and shifts of a list, in the list's order. -/
def tapFold (W D : Rows F) (r : ℕ) (l : Fin 128) : F .f32 → List (ℕ × ℕ) → F .f32
  | a, [] => a
  | a, (k, o) :: L => tapFold W D r l (FloatOps.addf a (FloatOps.mulf (W k l) (D (r + o) l))) L

/-- The same from its first term. -/
def tapRows (W D : Rows F) : List (ℕ × ℕ) → Rows F
  | [], _, _ => Scalar.ofBits .f32 0#32
  | (k, o) :: L, r, l => tapFold W D r l (FloatOps.mulf (W k l) (D (r + o) l)) L

/-- The taps of the 31-tap convolution in the order in which its input gradient adds them, each with its shift. -/
def taps31 : List (ℕ × ℕ) :=
  [0, 8, 16, 24, 1, 9, 17, 25, 2, 10, 18, 26, 3, 11, 19, 27, 4, 12, 20, 28, 5, 13, 21, 29, 6, 14, 22, 30, 7, 15, 23].map fun k => (k, 30 - k)

/-- The taps of the 3-tap convolution with their shifts, in the order of its input gradient. -/
def taps3 : List (ℕ × ℕ) := [(0, 2), (1, 1), (2, 0)]

end Cert.ConvBwd

end

end
-- ==== Proof.Holds.lean ====
module

public import proofs.«01_k».proof.Proof.Reads
public import Idealize.ShloMosaic.Lib.Tactic
public import Idealize.ShloMosaic.Lib.Pipeline.Kit

@[expose] public section

set_option maxRecDepth 16384

noncomputable section

namespace Cert.ConvBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.ValueIdx (shapeCast_1ab_ab_apply shapeCast_ab_1ab_apply)

variable {F : FTy → Type} [FloatOps F]

local notation "𝕄" => MT nD τ sig Unit (Elt F) ℕ (UR sig nD τ) ℕ

/-- The whole buffer, with contents that satisfy `P`. -/
def Holds (c : Dev nD) {s : Shape} {e : EltTy} (m : Memref sig .tc .vmem s e) (P : BufTy.Contents (Elt F) m.view.ty → Prop) : sProp 𝕄 :=
  iprop(∃ f, ⌜P f⌝ ∗ (m.view.loc (c : Thread nD τ) ↦[m.view.set]{fullShare} f))

/-- The rows of a stack of `N` tables of `n` rows, as a function of the table, the row and the lane; only tables satisfying `P` are fixed. -/
def Tables {N n : ℕ} {e : EltTy} (P : ℕ → Prop) (v : View sig .tc .vmem (⟨3, ![N, n, 128]⟩ : Shape) e) (f : BufTy.Contents (Elt F) v.ty)
    (U : ℕ → ℕ → Fin 128 → Elt F e) : Prop :=
  ∀ (a : Fin N) (r : Fin n) (l : Fin 128), P a.val → v.read (Elt F) f (ix3 a r l) = U a.val r.val l

/-- The product of two tables, entry by entry. -/
def prod (A B : Rows F) : Rows F := fun r l => FloatOps.mulf (A r l) (B r l)

/-- The logistic function of a table, entry by entry. -/
def sig1 (A : Rows F) : Rows F := fun r l => FloatOps.logistic (A r l)

/-- The sum over the eight sublanes. -/
def laneSum (a : FVec F S8x128 .f32) : Rows F := fun _ l =>
  multiReduction .add [0] S128 a 0x00000000#32 reduces_S8x128_S128 (.inl rfl) rfl (ix1 l)

/-- The gradients of `n` taps: row `r` is the correlation of `D` with `U` at shift `r + o`. -/
def tapGrads (D U : Rows F) (o n : ℕ) : Rows F := fun r l =>
  if r < n then laneSum (tapAcc D U (r + o) 68) 0 l else Scalar.ofBits .f32 0#32

theorem tapGrads_at (D U : Rows F) (o n b : ℕ) (hb : b < n) (s : Fin 1) (l : Fin 128) :
    tapGrads D U o n (b + s.val) l = laneSum (tapAcc D U (b + o) 68) 0 l := by
  have : s.val = 0 := by omega
  rw [this]; unfold tapGrads; rw [Nat.add_zero, if_pos hb]

/-- The five bf16 results of the backward convolution: the gradients of the two gates and of the value of the first branch, and of the value and the
gate of the second. -/
def outRows (V1 V2 V3 V4 V5 V6 V7 V8 V9 : Rows F) (a r : ℕ) (l : Fin 128) : F .bf16 :=
  if a = 0 then FloatOps.truncf .bf16 bitsLt_bf16_f32 (FloatOps.mulf (V6 r l)
    (FloatOps.addf (FloatOps.addf (FloatOps.mulf (V8 0 l) (behind (prod V2 V3) (r + 30) l)) (FloatOps.mulf (V8 1 l) (behind (prod V2 V3) (r + 31) l)))
      (FloatOps.mulf (V8 2 l) (behind (prod V2 V3) (r + 32) l))))
  else if a = 1 then FloatOps.truncf .bf16 bitsLt_bf16_f32 (FloatOps.mulf (tapRows V8 (before (prod V6 V1)) taps3 r l) (V3 r l))
  else if a = 2 then FloatOps.truncf .bf16 bitsLt_bf16_f32 (FloatOps.mulf (tapRows V8 (before (prod V6 V1)) taps3 r l) (V2 r l))
  else if a = 3 then FloatOps.truncf .bf16 bitsLt_bf16_f32 (FloatOps.mulf (tapRows V9 (before V7) taps31 r l) (FloatOps.logistic (V5 r l)))
  else FloatOps.truncf .bf16 bitsLt_bf16_f32 (FloatOps.mulf (FloatOps.mulf (tapRows V9 (before V7) taps31 r l) (V4 r l))
      (FloatOps.mulf (FloatOps.logistic (V5 r l)) (FloatOps.subf (Scalar.ofBits .f32 0x3F800000#32) (FloatOps.logistic (V5 r l)))))

end Cert.ConvBwd

end

end
-- ==== Proof.LoopsC.lean ====
module

public import proofs.«01_k».proof.Proof.Reads

@[expose] public section

set_option maxRecDepth 16384

noncomputable section

namespace Cert.ConvBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.ValueIdx (shapeCast_1ab_ab_apply shapeCast_ab_1ab_apply)

variable {F : FTy → Type} [FloatOps F]

/-! The loops that carry nothing: the two fills and the three slices of products. -/

variable (c : Dev nD) (i : grid0.Coords)
variable (arg1 : Memref sig .tc .vmem S2176x128 .f32) (harg1 : arg1.IsWhole)
  (arg2 : Memref sig .tc .vmem S2176x128 .f32) (harg2 : arg2.IsWhole)
  (arg3 : Memref sig .tc .vmem S2176x128 .f32) (harg3 : arg3.IsWhole)
  (arg4 : Memref sig .tc .vmem S2176x128 .f32) (harg4 : arg4.IsWhole)
  (arg5 : Memref sig .tc .vmem S2176x128 .f32) (harg5 : arg5.IsWhole)
  (arg6 : Memref sig .tc .vmem S2176x128 .f32) (harg6 : arg6.IsWhole)
  (arg7 : Memref sig .tc .vmem S2176x128 .f32) (harg7 : arg7.IsWhole)
  (arg8 : Memref sig .tc .vmem S3x128 .f32) (harg8 : arg8.IsWhole)
  (arg9 : Memref sig .tc .vmem S31x128 .f32) (harg9 : arg9.IsWhole)
  (arg10 : Memref sig .tc .vmem S5x2176x128 .bf16) (harg10 : arg10.IsWhole)
  (arg11 : Memref sig .tc .vmem S8x128 .f32) (harg11 : arg11.IsWhole)
  (arg12 : Memref sig .tc .vmem S32x128 .f32) (harg12 : arg12.IsWhole)
  (arg13 : Memref sig .tc .vmem S2216x128 .f32) (harg13 : arg13.IsWhole)
  (arg14 : Memref sig .tc .vmem S8x2208x128 .f32) (harg14 : arg14.IsWhole)
  (arg15 : Memref sig .tc .vmem S2216x128 .f32) (harg15 : arg15.IsWhole)
  (arg16 : Memref sig .tc .vmem S8x2208x128 .f32) (harg16 : arg16.IsWhole)
  (arg17 : Memref sig .tc .vmem S2176x128 .f32) (harg17 : arg17.IsWhole)
  (arg18 : Memref sig .tc .vmem S32x8x128 .f32) (harg18 : arg18.IsWhole)
variable (V1 V2 V3 V4 V5 V6 V7 V8 V13 V17 : Rows F)

/-- The fill's rows of the buffer behind the halo. -/
theorem t1_fst  (X1 : BufTy.Contents (Elt F) arg1.view.ty) (X2 : BufTy.Contents (Elt F) arg2.view.ty) (X3 : BufTy.Contents (Elt F) arg3.view.ty) (X6 : BufTy.Contents (Elt F) arg6.view.ty) (h1 : Reads arg1.view X1 V1) (h2 : Reads arg2.view X2 V2) (h3 : Reads arg3.view X3 V3) (h6 : Reads arg6.view X6 V6) (f : BufTy.Contents (Elt F) arg13.view.ty) (L : List (View.Piece (Elt F) S2216x128 .f32)) (U : Rows F)
    (hU : ∀ b l, b < 2176 → U (32 + b) l = FloatOps.mulf (V2 b l) (V3 b l)) (r : Fin 2216) (l : Fin 128) (n : ℕ) (hn : n ≤ k0_t1_loop.trips)
    (hL : ¬ (32 ≤ r.val ∧ r.val < 64 * n + 32) → arg13.view.read (Elt F) (arg13.view.writes (Elt F) f L) (ix2 r l) = U r.val l) :
    arg13.view.read (Elt F) (arg13.view.writes (Elt F) f ((pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18  X1 X2 X3 X6 n).1 ++ L)) (ix2 r l) = U r.val l := by
  induction n with
  | zero => exact hL (by omega)
  | succ n ih =>
    have e := pb_k0_t1_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18  X1 X2 X3 X6 ⟨n, hn⟩
    have h34 : k0_t1_loop.trips ≤ 34 := k0_t1_abs.2.1
    generalize hk : (⟨n, hn⟩ : Fin k0_t1_loop.trips) = k at e
    have hkn : k.val = n := by rw [← hk]
    rw [hkn] at e
    rw [e]
    unfold tripL_k0_t1 trip_k0_t1
    dsimp only
    sl_unfold_run_names
    simp only [List.cons_append, List.nil_append]
    refine reads_cons (m := 64) (b := 64 * k.val + 32) _ _ _ _ _ (k0_off2_eq k) _ ?_ r l fun h => ih (by omega) fun h' => hL (by omega)
    intro s l
    rw [show 64 * k.val + 32 + s.val = 32 + (64 * k.val + s.val) by omega, hU _ _ (by omega)]
    have A1 := fun inb => load_rows (m := 64) _ _ _ h1 inb (k0_off1_eq k)
    have A2 := fun inb => load_rows (m := 64) _ _ _ h2 inb (k0_off1_eq k)
    have A3 := fun inb => load_rows (m := 64) _ _ _ h3 inb (k0_off1_eq k)
    have A6 := fun inb => load_rows (m := 64) _ _ _ h6 inb (k0_off1_eq k)
    unfold_payloads
    simp only [pointwise, A1, A2, A3, A6]

/-- The fill's rows of the buffer before the halo. -/
theorem t1_snd  (X1 : BufTy.Contents (Elt F) arg1.view.ty) (X2 : BufTy.Contents (Elt F) arg2.view.ty) (X3 : BufTy.Contents (Elt F) arg3.view.ty) (X6 : BufTy.Contents (Elt F) arg6.view.ty) (h1 : Reads arg1.view X1 V1) (h2 : Reads arg2.view X2 V2) (h3 : Reads arg3.view X3 V3) (h6 : Reads arg6.view X6 V6) (f : BufTy.Contents (Elt F) arg15.view.ty) (L : List (View.Piece (Elt F) S2216x128 .f32)) (U : Rows F)
    (hU : ∀ b l, b < 2176 → U b l = FloatOps.mulf (V6 b l) (V1 b l)) (r : Fin 2216) (l : Fin 128) (n : ℕ) (hn : n ≤ k0_t1_loop.trips)
    (hL : ¬ (r.val < 64 * n) → arg15.view.read (Elt F) (arg15.view.writes (Elt F) f L) (ix2 r l) = U r.val l) :
    arg15.view.read (Elt F) (arg15.view.writes (Elt F) f ((pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18  X1 X2 X3 X6 n).2 ++ L)) (ix2 r l) = U r.val l := by
  induction n with
  | zero => exact hL (by omega)
  | succ n ih =>
    have e := pb_k0_t1_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18  X1 X2 X3 X6 ⟨n, hn⟩
    have h34 : k0_t1_loop.trips ≤ 34 := k0_t1_abs.2.1
    generalize hk : (⟨n, hn⟩ : Fin k0_t1_loop.trips) = k at e
    have hkn : k.val = n := by rw [← hk]
    rw [hkn] at e
    rw [e]
    unfold tripL_k0_t1 trip_k0_t1
    dsimp only
    sl_unfold_run_names
    simp only [List.cons_append, List.nil_append]
    refine reads_cons (m := 64) (b := 64 * k.val) _ _ _ _ _ (k0_off3_eq k) _ ?_ r l fun h => ih (by omega) fun h' => hL (by omega)
    intro s l
    rw [hU _ _ (by omega)]
    have A1 := fun inb => load_rows (m := 64) _ _ _ h1 inb (k0_off1_eq k)
    have A2 := fun inb => load_rows (m := 64) _ _ _ h2 inb (k0_off1_eq k)
    have A3 := fun inb => load_rows (m := 64) _ _ _ h3 inb (k0_off1_eq k)
    have A6 := fun inb => load_rows (m := 64) _ _ _ h6 inb (k0_off1_eq k)
    unfold_payloads
    simp only [pointwise, A1, A2, A3, A6]

/-- The fill's rows of the buffer behind the halo. -/
theorem t5_fst (v48 v49 v50 : FVec F S8x128 .f32) (w : BitVec 32) (X4 : BufTy.Contents (Elt F) arg4.view.ty) (X5 : BufTy.Contents (Elt F) arg5.view.ty) (X7 : BufTy.Contents (Elt F) arg7.view.ty) (h4 : Reads arg4.view X4 V4) (h5 : Reads arg5.view X5 V5) (h7 : Reads arg7.view X7 V7) (f : BufTy.Contents (Elt F) arg13.view.ty) (L : List (View.Piece (Elt F) S2216x128 .f32)) (U : Rows F)
    (hU : ∀ b l, b < 2176 → U (32 + b) l = FloatOps.mulf (V4 b l) (FloatOps.logistic (V5 b l))) (r : Fin 2216) (l : Fin 128) (n : ℕ) (hn : n ≤ k0_t5_loop.trips)
    (hL : ¬ (32 ≤ r.val ∧ r.val < 64 * n + 32) → arg13.view.read (Elt F) (arg13.view.writes (Elt F) f L) (ix2 r l) = U r.val l) :
    arg13.view.read (Elt F) (arg13.view.writes (Elt F) f ((pb_k0_t5 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v48 v49 v50 w X4 X5 X7 n).1 ++ L)) (ix2 r l) = U r.val l := by
  induction n with
  | zero => exact hL (by omega)
  | succ n ih =>
    have e := pb_k0_t5_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v48 v49 v50 w X4 X5 X7 ⟨n, hn⟩
    have h34 : k0_t5_loop.trips ≤ 34 := k0_t5_abs.2.1
    generalize hk : (⟨n, hn⟩ : Fin k0_t5_loop.trips) = k at e
    have hkn : k.val = n := by rw [← hk]
    rw [hkn] at e
    rw [e]
    unfold tripL_k0_t5 trip_k0_t5
    dsimp only
    sl_unfold_run_names
    simp only [List.cons_append, List.nil_append]
    refine reads_cons (m := 64) (b := 64 * k.val + 32) _ _ _ _ _ (k0_off19_eq k) _ ?_ r l fun h => ih (by omega) fun h' => hL (by omega)
    intro s l
    rw [show 64 * k.val + 32 + s.val = 32 + (64 * k.val + s.val) by omega, hU _ _ (by omega)]
    have A4 := fun inb => load_rows (m := 64) _ _ _ h4 inb (k0_off18_eq k)
    have A5 := fun inb => load_rows (m := 64) _ _ _ h5 inb (k0_off18_eq k)
    have A7 := fun inb => load_rows (m := 64) _ _ _ h7 inb (k0_off18_eq k)
    unfold_payloads
    simp only [pointwise, A4, A5, A7]

/-- The fill's rows of the buffer before the halo. -/
theorem t5_snd (v48 v49 v50 : FVec F S8x128 .f32) (w : BitVec 32) (X4 : BufTy.Contents (Elt F) arg4.view.ty) (X5 : BufTy.Contents (Elt F) arg5.view.ty) (X7 : BufTy.Contents (Elt F) arg7.view.ty) (h4 : Reads arg4.view X4 V4) (h5 : Reads arg5.view X5 V5) (h7 : Reads arg7.view X7 V7) (f : BufTy.Contents (Elt F) arg15.view.ty) (L : List (View.Piece (Elt F) S2216x128 .f32)) (U : Rows F)
    (hU : ∀ b l, b < 2176 → U b l = V7 b l) (r : Fin 2216) (l : Fin 128) (n : ℕ) (hn : n ≤ k0_t5_loop.trips)
    (hL : ¬ (r.val < 64 * n) → arg15.view.read (Elt F) (arg15.view.writes (Elt F) f L) (ix2 r l) = U r.val l) :
    arg15.view.read (Elt F) (arg15.view.writes (Elt F) f ((pb_k0_t5 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v48 v49 v50 w X4 X5 X7 n).2 ++ L)) (ix2 r l) = U r.val l := by
  induction n with
  | zero => exact hL (by omega)
  | succ n ih =>
    have e := pb_k0_t5_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v48 v49 v50 w X4 X5 X7 ⟨n, hn⟩
    have h34 : k0_t5_loop.trips ≤ 34 := k0_t5_abs.2.1
    generalize hk : (⟨n, hn⟩ : Fin k0_t5_loop.trips) = k at e
    have hkn : k.val = n := by rw [← hk]
    rw [hkn] at e
    rw [e]
    unfold tripL_k0_t5 trip_k0_t5
    dsimp only
    sl_unfold_run_names
    simp only [List.cons_append, List.nil_append]
    refine reads_cons (m := 64) (b := 64 * k.val) _ _ _ _ _ (k0_off20_eq k) _ ?_ r l fun h => ih (by omega) fun h' => hL (by omega)
    intro s l
    rw [hU _ _ (by omega)]
    have A4 := fun inb => load_rows (m := 64) _ _ _ h4 inb (k0_off18_eq k)
    have A5 := fun inb => load_rows (m := 64) _ _ _ h5 inb (k0_off18_eq k)
    have A7 := fun inb => load_rows (m := 64) _ _ _ h7 inb (k0_off18_eq k)
    unfold_payloads
    simp only [pointwise, A4, A5, A7]

/-- The slices the loop stores. -/
theorem t4_out (v48 v49 v50 : FVec F S8x128 .f32) (w : BitVec 32) (X2 : BufTy.Contents (Elt F) arg2.view.ty) (X3 : BufTy.Contents (Elt F) arg3.view.ty) (X17 : BufTy.Contents (Elt F) arg17.view.ty) (h2 : Reads arg2.view X2 V2) (h3 : Reads arg3.view X3 V3) (h17 : Reads arg17.view X17 V17) (f : BufTy.Contents (Elt F) arg10.view.ty) (L : List (View.Piece (Elt F) S5x2176x128 .bf16))
    (U : ℕ → ℕ → Fin 128 → Elt F .bf16)
    (hU1 : ∀ b l, b < 2176 → U 1 b l = FloatOps.truncf .bf16 bitsLt_bf16_f32 (FloatOps.mulf (V17 b l) (V3 b l)))
    (hU0 : ∀ b l, b < 2176 → U 2 b l = FloatOps.truncf .bf16 bitsLt_bf16_f32 (FloatOps.mulf (V17 b l) (V2 b l))) (a : Fin 5) (r : Fin 2176) (l : Fin 128) (n : ℕ) (hn : n ≤ k0_t4_loop.trips)
    (hL : ¬ ((a.val = 1 ∨ a.val = 2) ∧ r.val < 64 * n) → arg10.view.read (Elt F) (arg10.view.writes (Elt F) f L) (ix3 a r l) = U a.val r.val l) :
    arg10.view.read (Elt F) (arg10.view.writes (Elt F) f (pb_k0_t4 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v48 v49 v50 w X2 X3 X17 n ++ L)) (ix3 a r l) = U a.val r.val l := by
  induction n with
  | zero => exact hL (by omega)
  | succ n ih =>
    have e := pb_k0_t4_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v48 v49 v50 w X2 X3 X17 ⟨n, hn⟩
    have h34 : k0_t4_loop.trips ≤ 34 := k0_t4_abs.2.1
    generalize hk : (⟨n, hn⟩ : Fin k0_t4_loop.trips) = k at e
    have hkn : k.val = n := by rw [← hk]
    rw [hkn] at e
    rw [e]
    unfold tripL_k0_t4 trip_k0_t4
    dsimp only
    sl_unfold_run_names
    simp only [List.cons_append, List.nil_append]
    refine reads_cons_slice (m := 64) (g := 2) (b := 64 * k.val) _ _ _ _ _ (k0_off17_eq k) _ ?_ a r l fun g0 => ?_
    rotate_left
    refine reads_cons_slice (m := 64) (g := 1) (b := 64 * k.val) _ _ _ _ _ (k0_off16_eq k) _ ?_ a r l fun g1 => ih (by omega) fun h' => hL (by omega)
    all_goals
      intro u s l
      have A2 := fun inb => load_rows (m := 64) _ _ _ h2 inb (k0_off15_eq k)
      have A3 := fun inb => load_rows (m := 64) _ _ _ h3 inb (k0_off15_eq k)
      have A17 := fun inb => load_rows (m := 64) _ _ _ h17 inb (k0_off15_eq k)
      first | rw [hU0 _ _ (by omega)] | rw [hU1 _ _ (by omega)]
      unfold_payloads
      simp only [pointwise, shapeCast_ab_1ab_apply, shapeCast_1ab_ab_apply, A2, A3, A17]

/-- The slices the loop stores. -/
theorem t7_out  (X4 : BufTy.Contents (Elt F) arg4.view.ty) (X5 : BufTy.Contents (Elt F) arg5.view.ty) (X17 : BufTy.Contents (Elt F) arg17.view.ty) (h4 : Reads arg4.view X4 V4) (h5 : Reads arg5.view X5 V5) (h17 : Reads arg17.view X17 V17) (f : BufTy.Contents (Elt F) arg10.view.ty) (L : List (View.Piece (Elt F) S5x2176x128 .bf16))
    (U : ℕ → ℕ → Fin 128 → Elt F .bf16)
    (hU1 : ∀ b l, b < 2176 → U 3 b l = FloatOps.truncf .bf16 bitsLt_bf16_f32 (FloatOps.mulf (V17 b l) (FloatOps.logistic (V5 b l))))
    (hU0 : ∀ b l, b < 2176 → U 4 b l = FloatOps.truncf .bf16 bitsLt_bf16_f32 (FloatOps.mulf (FloatOps.mulf (V17 b l) (V4 b l))
      (FloatOps.mulf (FloatOps.logistic (V5 b l)) (FloatOps.subf (Scalar.ofBits .f32 0x3F800000#32) (FloatOps.logistic (V5 b l)))))) (a : Fin 5) (r : Fin 2176) (l : Fin 128) (n : ℕ) (hn : n ≤ k0_t7_loop.trips)
    (hL : ¬ ((a.val = 3 ∨ a.val = 4) ∧ r.val < 64 * n) → arg10.view.read (Elt F) (arg10.view.writes (Elt F) f L) (ix3 a r l) = U a.val r.val l) :
    arg10.view.read (Elt F) (arg10.view.writes (Elt F) f (pb_k0_t7 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18  X4 X5 X17 n ++ L)) (ix3 a r l) = U a.val r.val l := by
  induction n with
  | zero => exact hL (by omega)
  | succ n ih =>
    have e := pb_k0_t7_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18  X4 X5 X17 ⟨n, hn⟩
    have h34 : k0_t7_loop.trips ≤ 34 := k0_t7_abs.2.1
    generalize hk : (⟨n, hn⟩ : Fin k0_t7_loop.trips) = k at e
    have hkn : k.val = n := by rw [← hk]
    rw [hkn] at e
    rw [e]
    unfold tripL_k0_t7 trip_k0_t7
    dsimp only
    sl_unfold_run_names
    simp only [List.cons_append, List.nil_append]
    refine reads_cons_slice (m := 64) (g := 4) (b := 64 * k.val) _ _ _ _ _ (k0_off32_eq k) _ ?_ a r l fun g0 => ?_
    rotate_left
    refine reads_cons_slice (m := 64) (g := 3) (b := 64 * k.val) _ _ _ _ _ (k0_off31_eq k) _ ?_ a r l fun g1 => ih (by omega) fun h' => hL (by omega)
    all_goals
      intro u s l
      have A4 := fun inb => load_rows (m := 64) _ _ _ h4 inb (k0_off30_eq k)
      have A5 := fun inb => load_rows (m := 64) _ _ _ h5 inb (k0_off30_eq k)
      have A17 := fun inb => load_rows (m := 64) _ _ _ h17 inb (k0_off30_eq k)
      first | rw [hU0 _ _ (by omega)] | rw [hU1 _ _ (by omega)]
      unfold_payloads
      simp only [pointwise, shapeCast_ab_1ab_apply, shapeCast_1ab_ab_apply, A4, A5, A17]

/-- The slices the loop stores. -/
theorem t2_out (v24 : FVec F S1x2208x128 .f32) (X6 : BufTy.Contents (Elt F) arg6.view.ty) (X8 : BufTy.Contents (Elt F) arg8.view.ty) (X13 : BufTy.Contents (Elt F) arg13.view.ty) (X14 : BufTy.Contents (Elt F) arg14.view.ty) (h6 : Reads arg6.view X6 V6) (h8 : Reads arg8.view X8 V8) (h13 : Reads arg13.view X13 V13) (h14 : Shifted (6 ≤ ·) arg14.view X14 V13) (f : BufTy.Contents (Elt F) arg10.view.ty) (L : List (View.Piece (Elt F) S5x2176x128 .bf16))
    (U : ℕ → ℕ → Fin 128 → Elt F .bf16)
    (hU0 : ∀ b l, b < 2176 → U 0 b l = FloatOps.truncf .bf16 bitsLt_bf16_f32 (FloatOps.mulf (V6 b l)
      (FloatOps.addf (FloatOps.addf (FloatOps.mulf (V8 0 l) (V13 (b + 30) l)) (FloatOps.mulf (V8 1 l) (V13 (b + 31) l))) (FloatOps.mulf (V8 2 l) (V13 (b + 32) l))))) (a : Fin 5) (r : Fin 2176) (l : Fin 128) (n : ℕ) (hn : n ≤ k0_t2_loop.trips)
    (hL : ¬ (a.val = 0 ∧ r.val < 64 * n) → arg10.view.read (Elt F) (arg10.view.writes (Elt F) f L) (ix3 a r l) = U a.val r.val l) :
    arg10.view.read (Elt F) (arg10.view.writes (Elt F) f (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v24 X6 X8 X13 X14 n ++ L)) (ix3 a r l) = U a.val r.val l := by
  induction n with
  | zero => exact hL (by omega)
  | succ n ih =>
    have e := pb_k0_t2_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v24 X6 X8 X13 X14 ⟨n, hn⟩
    have h34 : k0_t2_loop.trips ≤ 34 := k0_t2_abs.2.1
    generalize hk : (⟨n, hn⟩ : Fin k0_t2_loop.trips) = k at e
    have hkn : k.val = n := by rw [← hk]
    rw [hkn] at e
    rw [e]
    unfold tripL_k0_t2 trip_k0_t2
    dsimp only
    sl_unfold_run_names
    simp only [List.cons_append, List.nil_append]
    refine reads_cons_slice (m := 64) (g := 0) (b := 64 * k.val) _ _ _ _ _ (k0_off8_eq k) _ ?_ a r l fun g0 => ih (by omega) fun h' => hL (by omega)
    all_goals
      intro u s l
      have A6 := fun inb => load_rows (m := 64) _ _ _ h6 inb (k0_off4_eq k)
      have A13 := fun inb => load_rows (m := 64) _ _ _ h13 inb (k0_off7_eq k)
      have W0 := fun inb => load_rows (m := 1) _ _ _ h8 (off := ![0, 0]) inb rfl
      have W1 := fun inb => load_rows (m := 1) _ _ _ h8 (off := ![1, 0]) inb rfl
      have W2 := fun inb => load_rows (m := 1) _ _ _ h8 (off := ![2, 0]) inb rfl
      have S6 := fun inb => load_shifted (m := 64) _ _ _ h14 inb (k0_off5_eq k) (by decide)
      have S7 := fun inb => load_shifted (m := 64) _ _ _ h14 inb (k0_off6_eq k) (by decide)
      have e30 : 64 * k.val + s.val + 30 = 6 + (64 * k.val + 24 + s.val) := by omega
      have e31 : 64 * k.val + s.val + 31 = 7 + (64 * k.val + 24 + s.val) := by omega
      have e32 : 64 * k.val + s.val + 32 = 64 * k.val + 32 + s.val := by omega
      rw [hU0 _ _ (by omega)]
      unfold_payloads
      simp only [pointwise, shapeCast_ab_1ab_apply, shapeCast_1ab_ab_apply, A6, A13, W0, W1, W2, S6, S7, e30, e31, e32, ↓reduceDIte, Nat.reduceEqDiff, OfNat.ofNat_ne_one, Fin.val_zero, Nat.add_zero]

end Cert.ConvBwd

end

end
-- ==== Proof.StageA.lean ====
module

public import proofs.«01_k».proof.Proof.Holds
public import proofs.«01_k».proof.Proof.LoopsC

@[expose] public section

set_option maxRecDepth 16384

noncomputable section

namespace Cert.ConvBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.ValueIdx (shapeCast_1ab_ab_apply shapeCast_ab_1ab_apply)

variable {F : FTy → Type} [FloatOps F]

local notation "𝕄" => MT nD τ sig Unit (Elt F) ℕ (UR sig nD τ) ℕ

variable (c : Dev nD) (E : Set ℕ) (i : grid0.Coords)
variable (arg1 : Memref sig .tc .vmem S2176x128 .f32) (harg1 : arg1.IsWhole)
  (arg2 : Memref sig .tc .vmem S2176x128 .f32) (harg2 : arg2.IsWhole)
  (arg3 : Memref sig .tc .vmem S2176x128 .f32) (harg3 : arg3.IsWhole)
  (arg4 : Memref sig .tc .vmem S2176x128 .f32) (harg4 : arg4.IsWhole)
  (arg5 : Memref sig .tc .vmem S2176x128 .f32) (harg5 : arg5.IsWhole)
  (arg6 : Memref sig .tc .vmem S2176x128 .f32) (harg6 : arg6.IsWhole)
  (arg7 : Memref sig .tc .vmem S2176x128 .f32) (harg7 : arg7.IsWhole)
  (arg8 : Memref sig .tc .vmem S3x128 .f32) (harg8 : arg8.IsWhole)
  (arg9 : Memref sig .tc .vmem S31x128 .f32) (harg9 : arg9.IsWhole)
  (arg10 : Memref sig .tc .vmem S5x2176x128 .bf16) (harg10 : arg10.IsWhole)
  (arg11 : Memref sig .tc .vmem S8x128 .f32) (harg11 : arg11.IsWhole)
  (arg12 : Memref sig .tc .vmem S32x128 .f32) (harg12 : arg12.IsWhole)
  (arg13 : Memref sig .tc .vmem S2216x128 .f32) (harg13 : arg13.IsWhole)
  (arg14 : Memref sig .tc .vmem S8x2208x128 .f32) (harg14 : arg14.IsWhole)
  (arg15 : Memref sig .tc .vmem S2216x128 .f32) (harg15 : arg15.IsWhole)
  (arg16 : Memref sig .tc .vmem S8x2208x128 .f32) (harg16 : arg16.IsWhole)
  (arg17 : Memref sig .tc .vmem S2176x128 .f32) (harg17 : arg17.IsWhole)
  (arg18 : Memref sig .tc .vmem S32x8x128 .f32) (harg18 : arg18.IsWhole)
variable (V1 V2 V3 V4 V5 V6 V7 V8 V9 : Rows F)

/-- The first part: the padded value of the first branch and its gradient, and two shifted copies of the value. -/
theorem stage29 (rest : FVec F S1x2208x128 .f32 → Prog (TpuEff nD τ sig (Elt F) Λ₀ .tc) PUnit) (Q : PUnit → sProp 𝕄) :
    iprop((Holds c arg1 (Reads arg1.view · V1) ∗ Holds c arg2 (Reads arg2.view · V2) ∗ Holds c arg3 (Reads arg3.view · V3) ∗ Holds c arg6 (Reads arg6.view · V6) ∗ Holds c arg13 (fun _ => True) ∗ Holds c arg14 (fun _ => True) ∗ Holds c arg15 (fun _ => True) ∗ Holds c arg16 (fun _ => True))
      ∗ (∀ v24, ⌜∀ (u : Fin 1) (r : Fin 2208) (l : Fin 128), v24 (ix3 u r l) = before (prod V6 V1) (1 + r.val) l⌝ -∗ (Holds c arg1 (Reads arg1.view · V1) ∗ Holds c arg2 (Reads arg2.view · V2) ∗ Holds c arg3 (Reads arg3.view · V3) ∗ Holds c arg6 (Reads arg6.view · V6) ∗ Holds c arg13 (Reads arg13.view · (behind (prod V2 V3))) ∗ Holds c arg14 (Shifted (6 ≤ ·) arg14.view · (behind (prod V2 V3))) ∗ Holds c arg15 (Reads arg15.view · (before (prod V6 V1))) ∗ Holds c arg16 (fun _ => True)) -∗ wp frame (wpE (defs₀ (F := F)) Variants.none c none) E (rest v24) Q))
     ⊢ wp frame (wpE (defs₀ (F := F)) Variants.none c none) E (k0_part29 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 >>= rest) Q := by
  simp only [k0_part29_eq_skeleton]
  unfold k0_part29_skel Holds
  iintro ⟨⟨⟨%f1, %h1, H1⟩, ⟨%f2, %h2, H2⟩, ⟨%f3, %h3, H3⟩, ⟨%f6, %h6, H6⟩, ⟨%f13, %h13, H13⟩, ⟨%f14, %h14, H14⟩, ⟨%f15, %h15, H15⟩, ⟨%f16, %h16, H16⟩⟩, Hk⟩
  simp only [bind_assoc]
  have h34 : k0_t1_loop.trips = 34 := by decide
  have k13 : Reads arg13.view (arg13.view.writes (Elt F) f13 ((pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f1 f2 f3 f6 k0_t1_loop.trips).1 ++
      [⟨Rect.unit (s := S2216x128) ![2208, 0] S8x128.size inb_S2216x128_S8x128_2208_0, k0_pay233 (F := F)⟩,
        ⟨Rect.unit (s := S2216x128) ![0, 0] S32x128.size inb_S2216x128_S32x128_0_0, k0_pay232 (F := F)⟩])) (behind (prod V2 V3)) := by
    intro r l
    refine t1_fst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 V1 V2 V3 V6 f1 f2 f3 f6 h1 h2 h3 h6 f13 _ _ ?_ r l _ le_rfl fun h => ?_
    · intro b l hb; unfold behind prod; rw [if_pos (by omega), Nat.add_sub_cancel_left]
    · refine reads_cons (m := 8) (b := 2208) _ _ _ _ _ rfl _ ?_ r l fun h' => reads_cons (m := 32) (b := 0) _ _ _ _ _ rfl _ ?_ r l fun h'' => ?_
      · intro s l; unfold behind; rw [if_neg (by omega)]; unfold_payloads; simp only [pointwise]
      · intro s l; unfold behind; rw [if_neg (by omega)]; unfold_payloads; simp only [pointwise]
      · omega
  have k15 : Reads arg15.view (arg15.view.writes (Elt F) f15 ((pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f1 f2 f3 f6 k0_t1_loop.trips).2 ++
      [⟨Rect.unit (s := S2216x128) ![2176, 0] S40x128.size inb_S2216x128_S40x128_2176_0, k0_pay234 (F := F)⟩])) (before (prod V6 V1)) := by
    intro r l
    refine t1_snd c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 V1 V2 V3 V6 f1 f2 f3 f6 h1 h2 h3 h6 f15 _ _ ?_ r l _ le_rfl fun h => ?_
    · intro b l hb; unfold before prod; rw [if_pos hb]
    · refine reads_cons (m := 40) (b := 2176) _ _ _ _ _ rfl _ ?_ r l fun h' => ?_
      · intro s l; unfold before; rw [if_neg (by omega)]; unfold_payloads; simp only [pointwise]
      · omega
  sl_exec
  sl_unfold_run_names
  iapply Hk
  · ipureintro
    intro u r l
    unfold_payloads
    simp only [pointwise, shapeCast_ab_1ab_apply]
    exact load_rows (m := 2208) _ _ _ k15 _ rfl r l
  isplitl [H1]; · iexists _; isplitr [H1]; rotate_left; · iexact H1
                  ipureintro; exact h1
  isplitl [H2]; · iexists _; isplitr [H2]; rotate_left; · iexact H2
                  ipureintro; exact h2
  isplitl [H3]; · iexists _; isplitr [H3]; rotate_left; · iexact H3
                  ipureintro; exact h3
  isplitl [H6]; · iexists _; isplitr [H6]; rotate_left; · iexact H6
                  ipureintro; exact h6
  isplitl [H13]; · iexists _; isplitr [H13]; rotate_left; · iexact H13
                   ipureintro; exact k13
  isplitl [H14]; · iexists _; isplitr [H14]; rotate_left; · iexact H14
                   ipureintro
                   intro g r l hg
                   refine reads_cons_slice (F := F) (e := .f32) (m := 2208) (g := 7) (b := 0) _ _ _ _ _ rfl (fun g r l => behind (prod V2 V3) (g + r) l) ?_ g r l fun h => ?_
                   rotate_left
                   refine reads_cons_slice (F := F) (e := .f32) (m := 2208) (g := 6) (b := 0) _ _ _ _ _ rfl (fun g r l => behind (prod V2 V3) (g + r) l) ?_ g r l fun h' => ?_
                   rotate_left
                   · omega
                   · intro u s l
                     unfold_payloads
                     simp only [pointwise, shapeCast_ab_1ab_apply]
                     rw [Nat.zero_add]
                     exact load_rows (m := 2208) _ _ _ k13 _ rfl s l
                   · intro u s l
                     unfold_payloads
                     simp only [pointwise, shapeCast_ab_1ab_apply]
                     rw [Nat.zero_add]
                     exact load_rows (m := 2208) _ _ _ k13 _ rfl s l
  isplitl [H15]; · iexists _; isplitr [H15]; rotate_left; · iexact H15
                   ipureintro; exact k15
  iexists _; isplitr [H16]; rotate_left; · iexact H16
  ipureintro; trivial

end Cert.ConvBwd

end

end
-- ==== Proof.StageB.lean ====
module

public import proofs.«01_k».proof.Proof.Holds
public import proofs.«01_k».proof.Proof.LoopsC

@[expose] public section

set_option maxRecDepth 16384

noncomputable section

namespace Cert.ConvBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.ValueIdx (shapeCast_1ab_ab_apply shapeCast_ab_1ab_apply)

variable {F : FTy → Type} [FloatOps F]

local notation "𝕄" => MT nD τ sig Unit (Elt F) ℕ (UR sig nD τ) ℕ

variable (c : Dev nD) (E : Set ℕ) (i : grid0.Coords)
variable (arg1 : Memref sig .tc .vmem S2176x128 .f32) (harg1 : arg1.IsWhole)
  (arg2 : Memref sig .tc .vmem S2176x128 .f32) (harg2 : arg2.IsWhole)
  (arg3 : Memref sig .tc .vmem S2176x128 .f32) (harg3 : arg3.IsWhole)
  (arg4 : Memref sig .tc .vmem S2176x128 .f32) (harg4 : arg4.IsWhole)
  (arg5 : Memref sig .tc .vmem S2176x128 .f32) (harg5 : arg5.IsWhole)
  (arg6 : Memref sig .tc .vmem S2176x128 .f32) (harg6 : arg6.IsWhole)
  (arg7 : Memref sig .tc .vmem S2176x128 .f32) (harg7 : arg7.IsWhole)
  (arg8 : Memref sig .tc .vmem S3x128 .f32) (harg8 : arg8.IsWhole)
  (arg9 : Memref sig .tc .vmem S31x128 .f32) (harg9 : arg9.IsWhole)
  (arg10 : Memref sig .tc .vmem S5x2176x128 .bf16) (harg10 : arg10.IsWhole)
  (arg11 : Memref sig .tc .vmem S8x128 .f32) (harg11 : arg11.IsWhole)
  (arg12 : Memref sig .tc .vmem S32x128 .f32) (harg12 : arg12.IsWhole)
  (arg13 : Memref sig .tc .vmem S2216x128 .f32) (harg13 : arg13.IsWhole)
  (arg14 : Memref sig .tc .vmem S8x2208x128 .f32) (harg14 : arg14.IsWhole)
  (arg15 : Memref sig .tc .vmem S2216x128 .f32) (harg15 : arg15.IsWhole)
  (arg16 : Memref sig .tc .vmem S8x2208x128 .f32) (harg16 : arg16.IsWhole)
  (arg17 : Memref sig .tc .vmem S2176x128 .f32) (harg17 : arg17.IsWhole)
  (arg18 : Memref sig .tc .vmem S32x8x128 .f32) (harg18 : arg18.IsWhole)
variable (V1 V2 V3 V4 V5 V6 V7 V8 V9 : Rows F)

/-- The second part: the first of the five results, two shifted copies of the gradient, and the three taps, each repeated over eight sublanes. -/
theorem stage30 (v24 : FVec F S1x2208x128 .f32) (hv : ∀ (u : Fin 1) (r : Fin 2208) (l : Fin 128), v24 (ix3 u r l) = (before (prod V6 V1)) (1 + r.val) l)
    (rest : (Σ' (v48 : FVec F S8x128 .f32) (v49 : FVec F S8x128 .f32) (v50 : FVec F S8x128 .f32), BitVec 32) → Prog (TpuEff nD τ sig (Elt F) Λ₀ .tc) PUnit)
    (Q : PUnit → sProp 𝕄) :
    iprop((Holds c arg6 (Reads arg6.view · V6) ∗ Holds c arg8 (Reads arg8.view · V8) ∗ Holds c arg10 (fun _ => True) ∗ Holds c arg13 (Reads arg13.view · (behind (prod V2 V3))) ∗ Holds c arg14 (Shifted (6 ≤ ·) arg14.view · (behind (prod V2 V3))) ∗ Holds c arg15 (Reads arg15.view · (before (prod V6 V1))) ∗ Holds c arg16 (fun _ => True) ∗ Holds c arg18 (fun _ => True))
      ∗ ((Holds c arg6 (Reads arg6.view · V6) ∗ Holds c arg8 (Reads arg8.view · V8) ∗ Holds c arg10 (Tables (· = 0) arg10.view · (outRows V1 V2 V3 V4 V5 V6 V7 V8 V9)) ∗ Holds c arg13 (Reads arg13.view · (behind (prod V2 V3))) ∗ Holds c arg14 (Shifted (6 ≤ ·) arg14.view · (behind (prod V2 V3))) ∗ Holds c arg15 (Reads arg15.view · (before (prod V6 V1))) ∗ Holds c arg16 (Shifted (fun g => g = 1 ∨ g = 2) arg16.view · (before (prod V6 V1))) ∗ Holds c arg18 (Repeats 3 arg18.view · V8)) -∗ wp frame (wpE (defs₀ (F := F)) Variants.none c none) E (rest ⟨broadcast S8x128 (Scalar.ofBits .f32 0x00000000#32), broadcast S8x128 (Scalar.ofBits .f32 0x00000000#32), broadcast S8x128 (Scalar.ofBits .f32 0x00000000#32), 0#32⟩) Q))
     ⊢ wp frame (wpE (defs₀ (F := F)) Variants.none c none) E (k0_part30 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v24 >>= rest) Q := by
  simp only [k0_part30_eq_skeleton]
  unfold k0_part30_skel Holds
  iintro ⟨⟨⟨%f6, %h6, H6⟩, ⟨%f8, %h8, H8⟩, ⟨%f10, %h10, H10⟩, ⟨%f13, %h13, H13⟩, ⟨%f14, %h14, H14⟩, ⟨%f15, %h15, H15⟩, ⟨%f16, %h16, H16⟩, ⟨%f18, %h18, H18⟩⟩, Hk⟩
  simp only [bind_assoc]
  have h34 : k0_t2_loop.trips = 34 := by decide
  have k10 : Tables (· = 0) arg10.view (arg10.view.writes (Elt F) f10 (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v24 f6 f8 f13 f14 k0_t2_loop.trips)) (outRows V1 V2 V3 V4 V5 V6 V7 V8 V9) := by
    intro a r l ha
    have ha : a.val = 0 := ha
    have := t2_out c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 V6 V8 (behind (prod V2 V3)) v24 f6 f8 f13 f14 h6 h8 h13 h14 f10 [] (outRows V1 V2 V3 V4 V5 V6 V7 V8 V9)
      (fun b l hb => by unfold outRows; rw [if_pos rfl]) a r l _ le_rfl (fun h => absurd ⟨ha, by omega⟩ h)
    rwa [List.append_nil] at this
  sl_exec
  sl_unfold_run_names
  iapply Hk
  isplitl [H6]; · iexists _; isplitr [H6]; rotate_left; · iexact H6
                  ipureintro; exact h6
  isplitl [H8]; · iexists _; isplitr [H8]; rotate_left; · iexact H8
                  ipureintro; exact h8
  isplitl [H10]; · iexists _; isplitr [H10]; rotate_left; · iexact H10
                   ipureintro; exact k10
  isplitl [H13]; · iexists _; isplitr [H13]; rotate_left; · iexact H13
                   ipureintro; exact h13
  isplitl [H14]; · iexists _; isplitr [H14]; rotate_left; · iexact H14
                   ipureintro; exact h14
  isplitl [H15]; · iexists _; isplitr [H15]; rotate_left; · iexact H15
                   ipureintro; exact h15
  isplitl [H16]; · iexists _; isplitr [H16]; rotate_left; · iexact H16
                   ipureintro;
                   intro g r l hg
                   refine reads_cons_slice (F := F) (e := .f32) (m := 2208) (g := 2) (b := 0) _ _ _ _ _ rfl (fun g r l => (before (prod V6 V1)) (g + r) l) ?_ g r l fun h => ?_
                   rotate_left
                   refine reads_cons_slice (F := F) (e := .f32) (m := 2208) (g := 1) (b := 0) _ _ _ _ _ rfl (fun g r l => (before (prod V6 V1)) (g + r) l) ?_ g r l fun h' => ?_
                   rotate_left
                   · omega
                   · intro u s l
                     unfold_payloads
                     simp only [pointwise, shapeCast_ab_1ab_apply]
                     rw [Nat.zero_add]
                     exact load_rows (m := 2208) _ _ _ h15 _ rfl s l
                   · intro u s l
                     rw [Nat.zero_add]
                     exact hv u s l
  iexists _; isplitr [H18]; rotate_left; · iexact H18
  ipureintro; intro t s l ht
  refine reads_cons_slice (F := F) (e := .f32) (m := 8) (g := 2) (b := 0) _ _ _ _ _ rfl (fun g r l => V8 g l) ?_ t s l fun h2 => ?_
  · intro u s l
    unfold_payloads
    simp only [pointwise, shapeCast_ab_1ab_apply, ↓reduceDIte, Nat.reduceEqDiff, OfNat.ofNat_ne_one]
    exact (load_rows (m := 1) _ _ _ h8 _ rfl 0 l).trans (by rfl)
  refine reads_cons_slice (F := F) (e := .f32) (m := 8) (g := 1) (b := 0) _ _ _ _ _ rfl (fun g r l => V8 g l) ?_ t s l fun h1 => ?_
  · intro u s l
    unfold_payloads
    simp only [pointwise, shapeCast_ab_1ab_apply, ↓reduceDIte, Nat.reduceEqDiff, OfNat.ofNat_ne_one]
    exact (load_rows (m := 1) _ _ _ h8 _ rfl 0 l).trans (by rfl)
  refine reads_cons_slice (F := F) (e := .f32) (m := 8) (g := 0) (b := 0) _ _ _ _ _ rfl (fun g r l => V8 g l) ?_ t s l fun h0 => ?_
  · intro u s l
    unfold_payloads
    simp only [pointwise, shapeCast_ab_1ab_apply, ↓reduceDIte, Nat.reduceEqDiff, OfNat.ofNat_ne_one]
    exact (load_rows (m := 1) _ _ _ h8 _ rfl 0 l).trans (by rfl)
  omega

end Cert.ConvBwd

end

end
-- ==== Proof.LoopA.lean ====
module

public import proofs.«01_k».proof.Proof.Reads

@[expose] public section

set_option maxRecDepth 16384

noncomputable section

namespace Cert.ConvBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.ValueIdx (shapeCast_1ab_ab_apply shapeCast_ab_1ab_apply)

variable {F : FTy → Type} [FloatOps F]

/-! The loop of the 3-tap convolution's gradients. -/

section Offsets
variable (k : Fin k0_t3_loop.trips) (w : BitVec 32)

theorem off9 (h : ∃ r : Fin 8, w = BitVec.ofNat 32 (8 * r.val)) : k0_off9 k w = ![32 * k.val + w.toNat, 0] := by
  obtain ⟨r, rfl, e⟩ := ofNat8 w 0 8 (by omega) (by simpa only [Nat.zero_add] using h)
  rw [Nat.zero_add] at e ⊢
  rw [k0_off9_eq k r, ← e]

theorem off10 (h : ∃ r : Fin 4, w = BitVec.ofNat 32 (24 + 8 * r.val)) : k0_off10 k w = ![6, 32 * k.val + w.toNat, 0] := by
  obtain ⟨r, rfl, e⟩ := ofNat8 w 24 4 (by omega) h
  rw [k0_off10_eq k r, ← e, Nat.add_assoc, Nat.add_comm (8 * r.val)]

theorem off11 (h : ∃ r : Fin 4, w = BitVec.ofNat 32 (24 + 8 * r.val)) : k0_off11 k w = ![7, 32 * k.val + w.toNat, 0] := by
  obtain ⟨r, rfl, e⟩ := ofNat8 w 24 4 (by omega) h
  rw [k0_off11_eq k r, ← e, Nat.add_assoc, Nat.add_comm (8 * r.val)]

theorem off12 (h : ∃ r : Fin 4, w = BitVec.ofNat 32 (8 * r.val)) : k0_off12 k w = ![2, 32 * k.val + w.toNat, 0] := by
  obtain ⟨r, rfl, e⟩ := ofNat8 w 0 4 (by omega) (by simpa only [Nat.zero_add] using h)
  rw [Nat.zero_add] at e ⊢
  rw [k0_off12_eq k r, ← e]

theorem off13 (h : ∃ r : Fin 4, w = BitVec.ofNat 32 (8 * r.val)) : k0_off13 k w = ![1, 32 * k.val + w.toNat, 0] := by
  obtain ⟨r, rfl, e⟩ := ofNat8 w 0 4 (by omega) (by simpa only [Nat.zero_add] using h)
  rw [Nat.zero_add] at e ⊢
  rw [k0_off13_eq k r, ← e]

end Offsets

variable (c : Dev nD) (i : grid0.Coords)
variable (arg1 : Memref sig .tc .vmem S2176x128 .f32) (harg1 : arg1.IsWhole)
  (arg2 : Memref sig .tc .vmem S2176x128 .f32) (harg2 : arg2.IsWhole)
  (arg3 : Memref sig .tc .vmem S2176x128 .f32) (harg3 : arg3.IsWhole)
  (arg4 : Memref sig .tc .vmem S2176x128 .f32) (harg4 : arg4.IsWhole)
  (arg5 : Memref sig .tc .vmem S2176x128 .f32) (harg5 : arg5.IsWhole)
  (arg6 : Memref sig .tc .vmem S2176x128 .f32) (harg6 : arg6.IsWhole)
  (arg7 : Memref sig .tc .vmem S2176x128 .f32) (harg7 : arg7.IsWhole)
  (arg8 : Memref sig .tc .vmem S3x128 .f32) (harg8 : arg8.IsWhole)
  (arg9 : Memref sig .tc .vmem S31x128 .f32) (harg9 : arg9.IsWhole)
  (arg10 : Memref sig .tc .vmem S5x2176x128 .bf16) (harg10 : arg10.IsWhole)
  (arg11 : Memref sig .tc .vmem S8x128 .f32) (harg11 : arg11.IsWhole)
  (arg12 : Memref sig .tc .vmem S32x128 .f32) (harg12 : arg12.IsWhole)
  (arg13 : Memref sig .tc .vmem S2216x128 .f32) (harg13 : arg13.IsWhole)
  (arg14 : Memref sig .tc .vmem S8x2208x128 .f32) (harg14 : arg14.IsWhole)
  (arg15 : Memref sig .tc .vmem S2216x128 .f32) (harg15 : arg15.IsWhole)
  (arg16 : Memref sig .tc .vmem S8x2208x128 .f32) (harg16 : arg16.IsWhole)
  (arg17 : Memref sig .tc .vmem S2176x128 .f32) (harg17 : arg17.IsWhole)
  (arg18 : Memref sig .tc .vmem S32x8x128 .f32) (harg18 : arg18.IsWhole)
variable (D U W : Rows F)

/-- 3 values as the tuple the loop carries. -/
def tup3 {α : Type} (f : ℕ → α) :=
  (f 0, f 1, f 2)

set_option maxHeartbeats 4000000 in
/-- A trip adds to each accumulator the tap's sum of products. -/
theorem t3_tripR (v48 v49 v50 : FVec F S8x128 .f32) (w : BitVec 32)
  (X13 : BufTy.Contents (Elt F) arg13.view.ty)
  (X14 : BufTy.Contents (Elt F) arg14.view.ty)
  (X15 : BufTy.Contents (Elt F) arg15.view.ty)
  (X16 : BufTy.Contents (Elt F) arg16.view.ty)
  (X18 : BufTy.Contents (Elt F) arg18.view.ty)
    (h13 : Reads arg13.view X13 U) (h14 : Shifted (6 ≤ ·) arg14.view X14 U) (h15 : Reads arg15.view X15 D)
    (k : Fin k0_t3_loop.trips) (f : ℕ → FVec F S8x128 .f32) :
    tripR_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v48 v49 v50 w X13 X14 X15 X16 X18 k (tup3 f)
      = tup3 fun j => addf (f j) (tapSum D U (j + 30) (32 * k)) := by
  unfold tripR_k0_t3 trip_k0_t3
  have A := fun w (hw : ∃ r : Fin 8, w = BitVec.ofNat 32 (8 * r.val)) inb => load_rows (m := 8) _ _ _ h13 inb (off9 k w hw)
  have B := fun w (hw : ∃ r : Fin 8, w = BitVec.ofNat 32 (8 * r.val)) inb => load_rows (m := 8) _ _ _ h15 inb (off9 k w hw)
  have S6 := fun w (hw : ∃ r : Fin 4, w = BitVec.ofNat 32 (24 + 8 * r.val)) inb => load_shifted (m := 8) _ _ _ h14 inb (off10 k w hw) (by decide)
  have S7 := fun w (hw : ∃ r : Fin 4, w = BitVec.ofNat 32 (24 + 8 * r.val)) inb => load_shifted (m := 8) _ _ _ h14 inb (off11 k w hw) (by decide)
  simp only [rows_at2, rows_at3] at A B S6 S7
  dsimp only [tup3]
  sl_unfold_run_names
  simp only [Prod.mk.injEq]
  refine ⟨?_, ?_, ?_⟩
  all_goals
    funext y
    obtain ⟨s, l, rfl⟩ : ∃ (s : Fin 8) (l : Fin 128), y = ix2 s l := ⟨y 0, y 1, eq_ix2 y⟩
    unfold_payloads
    simp (disch := decide) only [pointwise, shapeCast_1ab_ab_apply, A, B, S6, S7, tapSum, BitVec.reduceToNat, Nat.reduceAdd]

set_option maxHeartbeats 4000000 in
/-- A trip stores its 32 rows of the input gradient. -/
theorem t3_tripL (v48 v49 v50 : FVec F S8x128 .f32) (w : BitVec 32)
  (X13 : BufTy.Contents (Elt F) arg13.view.ty)
  (X14 : BufTy.Contents (Elt F) arg14.view.ty)
  (X15 : BufTy.Contents (Elt F) arg15.view.ty)
  (X16 : BufTy.Contents (Elt F) arg16.view.ty)
  (X18 : BufTy.Contents (Elt F) arg18.view.ty)
    (h15 : Reads arg15.view X15 D) (h16 : Shifted (fun g => g = 1 ∨ g = 2) arg16.view X16 D) (h18 : Repeats 3 arg18.view X18 W)
    (k : Fin k0_t3_loop.trips) acc (L : List (View.Piece (Elt F) S2176x128 .f32)) (f17 : BufTy.Contents (Elt F) arg17.view.ty)
    (r : Fin 2176) (l : Fin 128) (hr : r.val < 32 * (k.val + 1))
    (hL : r.val < 32 * k → arg17.view.read (Elt F) (arg17.view.writes (Elt F) f17 L) (ix2 r l) = tapRows W D taps3 r.val l) :
    arg17.view.read (Elt F) (arg17.view.writes (Elt F) f17 (tripL_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v48 v49 v50 w X13 X14 X15 X16 X18 k acc ++ L)) (ix2 r l)
      = tapRows W D taps3 r.val l := by
  unfold tripL_k0_t3 trip_k0_t3
  have B := fun w (hw : ∃ r : Fin 8, w = BitVec.ofNat 32 (8 * r.val)) inb => load_rows (m := 8) _ _ _ h15 inb (off9 k w hw)
  have S2 := fun w (hw : ∃ r : Fin 4, w = BitVec.ofNat 32 (8 * r.val)) inb => load_shifted (m := 8) _ _ _ h16 inb (off12 k w hw) (by decide)
  have S1 := fun w (hw : ∃ r : Fin 4, w = BitVec.ofNat 32 (8 * r.val)) inb => load_shifted (m := 8) _ _ _ h16 inb (off13 k w hw) (by decide)
  have R := fun t (ht : t < 3) inb => load_repeated _ _ _ h18 inb ht
  simp only [rows_at2, rows_at3] at B S2 S1
  dsimp only
  sl_unfold_run_names
  simp only [List.cons_append, List.nil_append]
  refine reads_cons (m := 8) (b := 32 * k + 24) _ _ _ _ _ (k0_off14_eq k 3) _ ?_ r l fun h3 => ?_
  rotate_left
  refine reads_cons (m := 8) (b := 32 * k + 16) _ _ _ _ _ (k0_off14_eq k 2) _ ?_ r l fun h2 => ?_
  rotate_left
  refine reads_cons (m := 8) (b := 32 * k + 8) _ _ _ _ _ (k0_off14_eq k 1) _ ?_ r l fun h1 => ?_
  rotate_left
  refine reads_cons (m := 8) (b := 32 * k + 0) _ _ _ _ _ (k0_off14_eq k 0) _ ?_ r l fun h0 => hL (by omega)
  all_goals
    intro s l
    rw [rows_at2]
    unfold_payloads
    simp (disch := decide) only [pointwise, shapeCast_1ab_ab_apply, B, S2, S1, R, BitVec.reduceToNat, Nat.reduceAdd,
      taps3, List.map, Nat.reduceSub, tapRows, tapFold, Nat.add_assoc]

/-- Before trip `k`: the accumulators hold the sums over the trips before, and the rows of those trips hold the input gradient. -/
theorem t3_state (v48 v49 v50 : FVec F S8x128 .f32) (w : BitVec 32)
  (X13 : BufTy.Contents (Elt F) arg13.view.ty)
  (X14 : BufTy.Contents (Elt F) arg14.view.ty)
  (X15 : BufTy.Contents (Elt F) arg15.view.ty)
  (X16 : BufTy.Contents (Elt F) arg16.view.ty)
  (X18 : BufTy.Contents (Elt F) arg18.view.ty)
    (h13 : Reads arg13.view X13 U) (h14 : Shifted (6 ≤ ·) arg14.view X14 U) (h15 : Reads arg15.view X15 D)
    (h16 : Shifted (fun g => g = 1 ∨ g = 2) arg16.view X16 D) (h18 : Repeats 3 arg18.view X18 W) (f17 : BufTy.Contents (Elt F) arg17.view.ty) (k : ℕ) (hk : k ≤ k0_t3_loop.trips) :
    (st_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v48 v49 v50 w X13 X14 X15 X16 X18 (tup3 fun j => tapAcc D U (j + 30) 0) k).1 = (tup3 fun j => tapAcc D U (j + 30) k)
      ∧ ∀ (r : Fin 2176) (l : Fin 128), r.val < 32 * k →
        arg17.view.read (Elt F) (arg17.view.writes (Elt F) f17
          (st_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v48 v49 v50 w X13 X14 X15 X16 X18 (tup3 fun j => tapAcc D U (j + 30) 0) k).2) (ix2 r l)
            = tapRows W D taps3 r.val l := by
  induction k with
  | zero => exact ⟨rfl, fun r l h => absurd h (by omega)⟩
  | succ k ih =>
    have ih := ih (by omega)
    have e := st_k0_t3_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v48 v49 v50 w X13 X14 X15 X16 X18 (tup3 fun j => tapAcc D U (j + 30) 0) ⟨k, hk⟩
    dsimp only at e
    rw [e]
    refine ⟨?_, fun r l hr => ?_⟩
    · rw [ih.1]
      exact t3_tripR c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 D U v48 v49 v50 w X13 X14 X15 X16 X18 h13 h14 h15 ⟨k, hk⟩ fun j => tapAcc D U (j + 30) k
    · exact t3_tripL c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 D W v48 v49 v50 w X13 X14 X15 X16 X18 h15 h16 h18 ⟨k, hk⟩ _ _ f17 r l hr (ih.2 r l)

end Cert.ConvBwd

end

end
-- ==== Proof.StageC.lean ====
module

public import proofs.«01_k».proof.Proof.Holds
public import proofs.«01_k».proof.Proof.LoopA
public import proofs.«01_k».proof.Proof.LoopsC

@[expose] public section

set_option maxRecDepth 16384

noncomputable section

namespace Cert.ConvBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.ValueIdx (shapeCast_1ab_ab_apply shapeCast_ab_1ab_apply)

variable {F : FTy → Type} [FloatOps F]

local notation "𝕄" => MT nD τ sig Unit (Elt F) ℕ (UR sig nD τ) ℕ

variable (c : Dev nD) (E : Set ℕ) (i : grid0.Coords)
variable (arg1 : Memref sig .tc .vmem S2176x128 .f32) (harg1 : arg1.IsWhole)
  (arg2 : Memref sig .tc .vmem S2176x128 .f32) (harg2 : arg2.IsWhole)
  (arg3 : Memref sig .tc .vmem S2176x128 .f32) (harg3 : arg3.IsWhole)
  (arg4 : Memref sig .tc .vmem S2176x128 .f32) (harg4 : arg4.IsWhole)
  (arg5 : Memref sig .tc .vmem S2176x128 .f32) (harg5 : arg5.IsWhole)
  (arg6 : Memref sig .tc .vmem S2176x128 .f32) (harg6 : arg6.IsWhole)
  (arg7 : Memref sig .tc .vmem S2176x128 .f32) (harg7 : arg7.IsWhole)
  (arg8 : Memref sig .tc .vmem S3x128 .f32) (harg8 : arg8.IsWhole)
  (arg9 : Memref sig .tc .vmem S31x128 .f32) (harg9 : arg9.IsWhole)
  (arg10 : Memref sig .tc .vmem S5x2176x128 .bf16) (harg10 : arg10.IsWhole)
  (arg11 : Memref sig .tc .vmem S8x128 .f32) (harg11 : arg11.IsWhole)
  (arg12 : Memref sig .tc .vmem S32x128 .f32) (harg12 : arg12.IsWhole)
  (arg13 : Memref sig .tc .vmem S2216x128 .f32) (harg13 : arg13.IsWhole)
  (arg14 : Memref sig .tc .vmem S8x2208x128 .f32) (harg14 : arg14.IsWhole)
  (arg15 : Memref sig .tc .vmem S2216x128 .f32) (harg15 : arg15.IsWhole)
  (arg16 : Memref sig .tc .vmem S8x2208x128 .f32) (harg16 : arg16.IsWhole)
  (arg17 : Memref sig .tc .vmem S2176x128 .f32) (harg17 : arg17.IsWhole)
  (arg18 : Memref sig .tc .vmem S32x8x128 .f32) (harg18 : arg18.IsWhole)
variable (V1 V2 V3 V4 V5 V6 V7 V8 V9 : Rows F)

/-- The third part: the gradients of the three taps, the second and third results, and the padded value of the second branch and its gradient. -/
theorem stage31 (rest : Vec F S2208x128 .f32 → Prog (TpuEff nD τ sig (Elt F) Λ₀ .tc) PUnit)
    (Q : PUnit → sProp 𝕄) :
    iprop((Holds c arg2 (Reads arg2.view · V2) ∗ Holds c arg3 (Reads arg3.view · V3) ∗ Holds c arg4 (Reads arg4.view · V4) ∗ Holds c arg5 (Reads arg5.view · V5) ∗ Holds c arg7 (Reads arg7.view · V7) ∗ Holds c arg10 (Tables (· = 0) arg10.view · (outRows V1 V2 V3 V4 V5 V6 V7 V8 V9)) ∗ Holds c arg11 (fun _ => True) ∗ Holds c arg13 (Reads arg13.view · (behind (prod V2 V3))) ∗ Holds c arg14 (Shifted (6 ≤ ·) arg14.view · (behind (prod V2 V3))) ∗ Holds c arg15 (Reads arg15.view · (before (prod V6 V1))) ∗ Holds c arg16 (Shifted (fun g => g = 1 ∨ g = 2) arg16.view · (before (prod V6 V1))) ∗ Holds c arg17 (fun _ => True) ∗ Holds c arg18 (Repeats 3 arg18.view · V8))
      ∗ (∀ v70, ⌜∀ (r : Fin 2208) (l : Fin 128), v70 (ix2 r l) = (behind (prod V4 (sig1 V5))) (2 + r.val) l⌝ -∗ (Holds c arg2 (Reads arg2.view · V2) ∗ Holds c arg3 (Reads arg3.view · V3) ∗ Holds c arg4 (Reads arg4.view · V4) ∗ Holds c arg5 (Reads arg5.view · V5) ∗ Holds c arg7 (Reads arg7.view · V7) ∗ Holds c arg10 (Tables (· ≤ 2) arg10.view · (outRows V1 V2 V3 V4 V5 V6 V7 V8 V9)) ∗ Holds c arg11 (Reads arg11.view · (tapGrads (before (prod V6 V1)) (behind (prod V2 V3)) 30 3)) ∗ Holds c arg13 (Reads arg13.view · (behind (prod V4 (sig1 V5)))) ∗ Holds c arg14 (Shifted (· = 1) arg14.view · (behind (prod V4 (sig1 V5)))) ∗ Holds c arg15 (Reads arg15.view · (before V7)) ∗ Holds c arg16 (fun _ => True) ∗ Holds c arg17 (fun _ => True) ∗ Holds c arg18 (fun _ => True)) -∗ wp frame (wpE (defs₀ (F := F)) Variants.none c none) E (rest v70) Q))
     ⊢ wp frame (wpE (defs₀ (F := F)) Variants.none c none) E (k0_part31 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (broadcast S8x128 (Scalar.ofBits .f32 0x00000000#32)) (broadcast S8x128 (Scalar.ofBits .f32 0x00000000#32)) (broadcast S8x128 (Scalar.ofBits .f32 0x00000000#32)) 0#32 >>= rest) Q := by
  simp only [k0_part31_eq_skeleton]
  unfold k0_part31_skel Holds
  iintro ⟨⟨⟨%f2, %h2, H2⟩, ⟨%f3, %h3, H3⟩, ⟨%f4, %h4, H4⟩, ⟨%f5, %h5, H5⟩, ⟨%f7, %h7, H7⟩, ⟨%f10, %h10, H10⟩, ⟨%f11, %h11, H11⟩, ⟨%f13, %h13, H13⟩, ⟨%f14, %h14, H14⟩, ⟨%f15, %h15, H15⟩, ⟨%f16, %h16, H16⟩, ⟨%f17, %h17, H17⟩, ⟨%f18, %h18, H18⟩⟩, Hk⟩
  simp only [bind_assoc]
  have h68 : k0_t3_loop.trips = 68 := by decide
  have h4' : k0_t4_loop.trips = 34 := by decide
  have h5' : k0_t5_loop.trips = 34 := by decide
  have S := t3_state c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (before (prod V6 V1)) (behind (prod V2 V3)) V8 (broadcast S8x128 (Scalar.ofBits .f32 0x00000000#32)) (broadcast S8x128 (Scalar.ofBits .f32 0x00000000#32)) (broadcast S8x128 (Scalar.ofBits .f32 0x00000000#32)) 0#32 f13 f14 f15 f16 f18 h13 h14 h15 h16 h18 f17 k0_t3_loop.trips le_rfl
  have kA : (st_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (broadcast S8x128 (Scalar.ofBits .f32 0x00000000#32)) (broadcast S8x128 (Scalar.ofBits .f32 0x00000000#32)) (broadcast S8x128 (Scalar.ofBits .f32 0x00000000#32)) 0#32 f13 f14 f15 f16 f18 (broadcast S8x128 (Scalar.ofBits .f32 0x00000000#32), broadcast S8x128 (Scalar.ofBits .f32 0x00000000#32), broadcast S8x128 (Scalar.ofBits .f32 0x00000000#32)) (Scf.trips k0_t3_loop.lb k0_t3_loop.ub k0_t3_loop.st)).1 = tup3 fun j => tapAcc (before (prod V6 V1)) (behind (prod V2 V3)) (j + 30) 68 := h68 ▸ S.1
  have k17 : Reads arg17.view (arg17.view.writes (Elt F) f17 (st_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (broadcast S8x128 (Scalar.ofBits .f32 0x00000000#32)) (broadcast S8x128 (Scalar.ofBits .f32 0x00000000#32)) (broadcast S8x128 (Scalar.ofBits .f32 0x00000000#32)) 0#32 f13 f14 f15 f16 f18 (broadcast S8x128 (Scalar.ofBits .f32 0x00000000#32), broadcast S8x128 (Scalar.ofBits .f32 0x00000000#32), broadcast S8x128 (Scalar.ofBits .f32 0x00000000#32)) (Scf.trips k0_t3_loop.lb k0_t3_loop.ub k0_t3_loop.st)).2) (tapRows V8 (before (prod V6 V1)) taps3) := fun r l => S.2 r l (by omega)
  have k10 : Tables (· ≤ 2) arg10.view (arg10.view.writes (Elt F) f10 (pb_k0_t4 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (broadcast S8x128 (Scalar.ofBits .f32 0x00000000#32)) (broadcast S8x128 (Scalar.ofBits .f32 0x00000000#32)) (broadcast S8x128 (Scalar.ofBits .f32 0x00000000#32)) 0#32 f2 f3 (arg17.view.writes (Elt F) f17 (st_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (broadcast S8x128 (Scalar.ofBits .f32 0x00000000#32)) (broadcast S8x128 (Scalar.ofBits .f32 0x00000000#32)) (broadcast S8x128 (Scalar.ofBits .f32 0x00000000#32)) 0#32 f13 f14 f15 f16 f18 (broadcast S8x128 (Scalar.ofBits .f32 0x00000000#32), broadcast S8x128 (Scalar.ofBits .f32 0x00000000#32), broadcast S8x128 (Scalar.ofBits .f32 0x00000000#32)) (Scf.trips k0_t3_loop.lb k0_t3_loop.ub k0_t3_loop.st)).2) (Scf.trips k0_t4_loop.lb k0_t4_loop.ub k0_t4_loop.st))) (outRows V1 V2 V3 V4 V5 V6 V7 V8 V9) := by
    intro a r l ha
    have ha : a.val ≤ 2 := ha
    have := t4_out c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 V2 V3 (tapRows V8 (before (prod V6 V1)) taps3) (broadcast S8x128 (Scalar.ofBits .f32 0x00000000#32)) (broadcast S8x128 (Scalar.ofBits .f32 0x00000000#32)) (broadcast S8x128 (Scalar.ofBits .f32 0x00000000#32)) 0#32 f2 f3 _ h2 h3 k17 f10 [] (outRows V1 V2 V3 V4 V5 V6 V7 V8 V9)
      (fun b l hb => by unfold outRows; rw [if_neg (by omega), if_pos rfl])
      (fun b l hb => by unfold outRows; rw [if_neg (by omega), if_neg (by omega), if_pos rfl]) a r l _ le_rfl (fun h => h10 a r l (show a.val = 0 by omega))
    rwa [List.append_nil] at this
  have k13 : Reads arg13.view (arg13.view.writes (Elt F) f13 (pb_k0_t5 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (broadcast S8x128 (Scalar.ofBits .f32 0x00000000#32)) (broadcast S8x128 (Scalar.ofBits .f32 0x00000000#32)) (broadcast S8x128 (Scalar.ofBits .f32 0x00000000#32)) 0#32 f4 f5 f7 (Scf.trips k0_t5_loop.lb k0_t5_loop.ub k0_t5_loop.st)).1) (behind (prod V4 (sig1 V5))) := by
    intro r l
    have := t5_fst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 V4 V5 V7 (broadcast S8x128 (Scalar.ofBits .f32 0x00000000#32)) (broadcast S8x128 (Scalar.ofBits .f32 0x00000000#32)) (broadcast S8x128 (Scalar.ofBits .f32 0x00000000#32)) 0#32 f4 f5 f7 h4 h5 h7 f13 [] (behind (prod V4 (sig1 V5)))
      (fun b l hb => by unfold behind prod sig1; rw [if_pos (by omega), Nat.add_sub_cancel_left]) r l _ le_rfl (fun h => (h13 r l).trans
        (by unfold behind; rw [if_neg (by omega), if_neg (by omega)]))
    rwa [List.append_nil] at this
  have k15 : Reads arg15.view (arg15.view.writes (Elt F) f15 (pb_k0_t5 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (broadcast S8x128 (Scalar.ofBits .f32 0x00000000#32)) (broadcast S8x128 (Scalar.ofBits .f32 0x00000000#32)) (broadcast S8x128 (Scalar.ofBits .f32 0x00000000#32)) 0#32 f4 f5 f7 (Scf.trips k0_t5_loop.lb k0_t5_loop.ub k0_t5_loop.st)).2) (before V7) := by
    intro r l
    have := t5_snd c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 V4 V5 V7 (broadcast S8x128 (Scalar.ofBits .f32 0x00000000#32)) (broadcast S8x128 (Scalar.ofBits .f32 0x00000000#32)) (broadcast S8x128 (Scalar.ofBits .f32 0x00000000#32)) 0#32 f4 f5 f7 h4 h5 h7 f15 [] (before V7)
      (fun b l hb => by unfold before; rw [if_pos hb]) r l _ le_rfl (fun h => (h15 r l).trans
        (by unfold before; rw [if_neg (by omega), if_neg (by omega)]))
    rwa [List.append_nil] at this
  sl_exec
  sl_unfold_run_names
  iapply Hk
  · ipureintro
    intro r l
    exact load_rows (m := 2208) _ _ _ k13 _ rfl r l
  isplitl [H2]; · iexists _; isplitr [H2]; rotate_left; · iexact H2
                  ipureintro; exact h2
  isplitl [H3]; · iexists _; isplitr [H3]; rotate_left; · iexact H3
                  ipureintro; exact h3
  isplitl [H4]; · iexists _; isplitr [H4]; rotate_left; · iexact H4
                  ipureintro; exact h4
  isplitl [H5]; · iexists _; isplitr [H5]; rotate_left; · iexact H5
                  ipureintro; exact h5
  isplitl [H7]; · iexists _; isplitr [H7]; rotate_left; · iexact H7
                  ipureintro; exact h7
  isplitl [H10]; · iexists _; isplitr [H10]; rotate_left; · iexact H10
                   ipureintro; exact k10
  isplitl [H11]; · iexists _; isplitr [H11]; rotate_left; · iexact H11
                   ipureintro; simp only [kA]
                   unfold tup3
                   intro r l
                   refine reads_cons (m := 5) (b := 3) _ _ _ _ _ rfl _ ?_ r l fun h3 => ?_
                   · intro s l; unfold tapGrads; rw [if_neg (by omega)]; unfold_payloads; simp only [pointwise]
                   refine reads_cons (m := 1) (b := 2) _ _ _ _ _ rfl _ ?_ r l fun h2 => ?_
                   · intro s l
                     rw [tapGrads_at _ _ _ _ _ (by omega)]
                     unfold_payloads
                     simp only [pointwise]
                     rfl
                   refine reads_cons (m := 1) (b := 1) _ _ _ _ _ rfl _ ?_ r l fun h1 => ?_
                   · intro s l
                     rw [tapGrads_at _ _ _ _ _ (by omega)]
                     unfold_payloads
                     simp only [pointwise]
                     rfl
                   refine reads_cons (m := 1) (b := 0) _ _ _ _ _ rfl _ ?_ r l fun h0 => ?_
                   · intro s l
                     rw [tapGrads_at _ _ _ _ _ (by omega)]
                     unfold_payloads
                     simp only [pointwise]
                     rfl
                   omega
  isplitl [H13]; · iexists _; isplitr [H13]; rotate_left; · iexact H13
                   ipureintro; exact k13
  isplitl [H14]; · iexists _; isplitr [H14]; rotate_left; · iexact H14
                   ipureintro; intro g r l hg
                   have hg : g.val = 1 := hg
                   refine reads_cons_slice (F := F) (e := .f32) (m := 2208) (g := 1) (b := 0) _ _ _ _ _ rfl (fun g r l => (behind (prod V4 (sig1 V5))) (g + r) l) ?_ g r l fun h => ?_
                   rotate_left
                   · omega
                   · intro u s l
                     unfold_payloads
                     simp only [pointwise, shapeCast_ab_1ab_apply]
                     rw [Nat.zero_add]
                     exact load_rows (m := 2208) _ _ _ k13 _ rfl s l
  isplitl [H15]; · iexists _; isplitr [H15]; rotate_left; · iexact H15
                   ipureintro; exact k15
  isplitl [H16]; · iexists _; isplitr [H16]; rotate_left; · iexact H16
                   ipureintro; trivial
  isplitl [H17]; · iexists _; isplitr [H17]; rotate_left; · iexact H17
                   ipureintro; trivial
  iexists _; isplitr [H18]; rotate_left; · iexact H18
  ipureintro; trivial

end Cert.ConvBwd

end

end
-- ==== Proof.StageD.lean ====
module

public import proofs.«01_k».proof.Proof.Holds

@[expose] public section

set_option maxRecDepth 16384

noncomputable section

namespace Cert.ConvBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.ValueIdx (shapeCast_1ab_ab_apply shapeCast_ab_1ab_apply)

variable {F : FTy → Type} [FloatOps F]

local notation "𝕄" => MT nD τ sig Unit (Elt F) ℕ (UR sig nD τ) ℕ

variable (c : Dev nD) (E : Set ℕ) (i : grid0.Coords)
variable (arg1 : Memref sig .tc .vmem S2176x128 .f32) (harg1 : arg1.IsWhole)
  (arg2 : Memref sig .tc .vmem S2176x128 .f32) (harg2 : arg2.IsWhole)
  (arg3 : Memref sig .tc .vmem S2176x128 .f32) (harg3 : arg3.IsWhole)
  (arg4 : Memref sig .tc .vmem S2176x128 .f32) (harg4 : arg4.IsWhole)
  (arg5 : Memref sig .tc .vmem S2176x128 .f32) (harg5 : arg5.IsWhole)
  (arg6 : Memref sig .tc .vmem S2176x128 .f32) (harg6 : arg6.IsWhole)
  (arg7 : Memref sig .tc .vmem S2176x128 .f32) (harg7 : arg7.IsWhole)
  (arg8 : Memref sig .tc .vmem S3x128 .f32) (harg8 : arg8.IsWhole)
  (arg9 : Memref sig .tc .vmem S31x128 .f32) (harg9 : arg9.IsWhole)
  (arg10 : Memref sig .tc .vmem S5x2176x128 .bf16) (harg10 : arg10.IsWhole)
  (arg11 : Memref sig .tc .vmem S8x128 .f32) (harg11 : arg11.IsWhole)
  (arg12 : Memref sig .tc .vmem S32x128 .f32) (harg12 : arg12.IsWhole)
  (arg13 : Memref sig .tc .vmem S2216x128 .f32) (harg13 : arg13.IsWhole)
  (arg14 : Memref sig .tc .vmem S8x2208x128 .f32) (harg14 : arg14.IsWhole)
  (arg15 : Memref sig .tc .vmem S2216x128 .f32) (harg15 : arg15.IsWhole)
  (arg16 : Memref sig .tc .vmem S8x2208x128 .f32) (harg16 : arg16.IsWhole)
  (arg17 : Memref sig .tc .vmem S2176x128 .f32) (harg17 : arg17.IsWhole)
  (arg18 : Memref sig .tc .vmem S32x8x128 .f32) (harg18 : arg18.IsWhole)
variable (V1 V2 V3 V4 V5 V6 V7 V8 V9 : Rows F)

/-- The fourth part: the shifted copies of the second branch's padded value and gradient, and its 31 taps, each repeated over eight sublanes. -/
theorem stage32 (v70 : Vec F S2208x128 .f32) (hv : ∀ (r : Fin 2208) (l : Fin 128), v70 (ix2 r l) = (behind (prod V4 (sig1 V5))) (2 + r.val) l)
    (z : FVec F S8x128 .f32) (hz : z = broadcast S8x128 (Scalar.ofBits .f32 0x00000000#32))
    (rest : (Σ' (v308 : FVec F S8x128 .f32) (v309 : FVec F S8x128 .f32) (v310 : FVec F S8x128 .f32) (v311 : FVec F S8x128 .f32) (v312 : FVec F S8x128 .f32) (v313 : FVec F S8x128 .f32) (v314 : FVec F S8x128 .f32) (v315 : FVec F S8x128 .f32) (v316 : FVec F S8x128 .f32) (v317 : FVec F S8x128 .f32) (v318 : FVec F S8x128 .f32) (v319 : FVec F S8x128 .f32) (v320 : FVec F S8x128 .f32) (v321 : FVec F S8x128 .f32) (v322 : FVec F S8x128 .f32) (v323 : FVec F S8x128 .f32) (v324 : FVec F S8x128 .f32) (v325 : FVec F S8x128 .f32) (v326 : FVec F S8x128 .f32) (v327 : FVec F S8x128 .f32) (v328 : FVec F S8x128 .f32), FVec F S8x128 .f32) → Prog (TpuEff nD τ sig (Elt F) Λ₀ .tc) PUnit) (Q : PUnit → sProp 𝕄) :
    iprop((Holds c arg9 (Reads arg9.view · V9) ∗ Holds c arg13 (Reads arg13.view · (behind (prod V4 (sig1 V5)))) ∗ Holds c arg14 (Shifted (· = 1) arg14.view · (behind (prod V4 (sig1 V5)))) ∗ Holds c arg15 (Reads arg15.view · (before V7)) ∗ Holds c arg16 (fun _ => True) ∗ Holds c arg18 (fun _ => True))
      ∗ ((Holds c arg9 (Reads arg9.view · V9) ∗ Holds c arg13 (Reads arg13.view · (behind (prod V4 (sig1 V5)))) ∗ Holds c arg14 (Shifted (1 ≤ ·) arg14.view · (behind (prod V4 (sig1 V5)))) ∗ Holds c arg15 (Reads arg15.view · (before V7)) ∗ Holds c arg16 (Shifted (1 ≤ ·) arg16.view · (before V7)) ∗ Holds c arg18 (Repeats 31 arg18.view · V9)) -∗ wp frame (wpE (defs₀ (F := F)) Variants.none c none) E (rest ⟨z, z, z, z, z, z, z, z, z, z, z, z, z, z, z, z, z, z, z, z, z, z⟩) Q))
     ⊢ wp frame (wpE (defs₀ (F := F)) Variants.none c none) E (k0_part32 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v70 >>= fun v94 => k0_part33 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v94 >>= fun v118 => k0_part34 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v118 >>= fun v148 => k0_part35 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v148 >>= fun v178 => k0_part36 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v178 >>= fun v208 => k0_part37 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v208 >>= fun v238 => k0_part38 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v238 >>= fun v268 => k0_part39 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v268 >>= fun v298 => k0_part40 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v298 >>= rest) Q := by
  simp only [k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton]
  unfold k0_part32_skel k0_part33_skel k0_part34_skel k0_part35_skel k0_part36_skel k0_part37_skel k0_part38_skel k0_part39_skel k0_part40_skel Holds
  iintro ⟨⟨⟨%f9, %h9, H9⟩, ⟨%f13, %h13, H13⟩, ⟨%f14, %h14, H14⟩, ⟨%f15, %h15, H15⟩, ⟨%f16, %h16, H16⟩, ⟨%f18, %h18, H18⟩⟩, Hk⟩
  sl_exec
  sl_unfold_run_names
  unfold_payloads
  subst hz
  iapply Hk
  isplitl [H9]; · iexists _; isplitr [H9]; rotate_left; · iexact H9
                  ipureintro; exact h9
  isplitl [H13]; · iexists _; isplitr [H13]; rotate_left; · iexact H13
                   ipureintro; exact h13
  isplitl [H14]; · iexists _; isplitr [H14]; rotate_left; · iexact H14
                   ipureintro; intro g r l hg
                   have hg : 1 ≤ g.val := hg
                   iterate 5
                     refine reads_cons_slice (F := F) (e := .f32) (m := 2208) (b := 0) _ _ _ _ _ rfl (fun g r l => (behind (prod V4 (sig1 V5))) (g + r) l) ?_ g r l fun _ => ?_
                     · intro u s l
                       unfold_payloads
                       simp only [pointwise, shapeCast_ab_1ab_apply]
                       rw [Nat.zero_add]
                       exact load_rows (m := 2208) _ _ _ h13 _ rfl s l
                   refine reads_cons_slice (F := F) (e := .f32) (m := 2208) (b := 0) _ _ _ _ _ rfl (fun g r l => (behind (prod V4 (sig1 V5))) (g + r) l) ?_ g r l fun _ => ?_
                   · intro u s l
                     unfold_payloads
                     simp only [pointwise, shapeCast_ab_1ab_apply]
                     rw [Nat.zero_add]
                     exact hv s l
                   exact h14 g r l (show g.val = 1 by omega)
  isplitl [H15]; · iexists _; isplitr [H15]; rotate_left; · iexact H15
                   ipureintro; exact h15
  isplitl [H16]; · iexists _; isplitr [H16]; rotate_left; · iexact H16
                   ipureintro; intro g r l hg
                   have hg : 1 ≤ g.val := hg
                   iterate 7
                     refine reads_cons_slice (F := F) (e := .f32) (m := 2208) (b := 0) _ _ _ _ _ rfl (fun g r l => (before V7) (g + r) l) ?_ g r l fun _ => ?_
                     · intro u s l
                       unfold_payloads
                       simp only [pointwise, shapeCast_ab_1ab_apply]
                       rw [Nat.zero_add]
                       exact load_rows (m := 2208) _ _ _ h15 _ rfl s l
                   omega
  iexists _; isplitr [H18]; rotate_left; · iexact H18
  ipureintro; intro t s l ht
  iterate 31
    refine reads_cons_slice (F := F) (e := .f32) (m := 8) (b := 0) _ _ _ _ _ rfl (fun g r l => V9 g l) ?_ t s l fun _ => ?_
    · intro u s l
      unfold_payloads
      simp only [pointwise, shapeCast_ab_1ab_apply, ↓reduceDIte, Nat.reduceEqDiff, OfNat.ofNat_ne_one]
      exact (load_rows (m := 1) _ _ _ h9 _ rfl 0 l).trans (by rfl)
  omega

end Cert.ConvBwd

end

end
-- ==== Proof.LoopB.lean ====
module

public import proofs.«01_k».proof.Proof.Reads

@[expose] public section

set_option maxRecDepth 16384

noncomputable section

namespace Cert.ConvBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.ValueIdx (shapeCast_1ab_ab_apply shapeCast_ab_1ab_apply)

variable {F : FTy → Type} [FloatOps F]

/-! The loop of the 31-tap convolution's gradients. -/

section Offsets
variable (k : Fin k0_t6_loop.trips) (w : BitVec 32)

theorem off21 (h : ∃ r : Fin 8, w = BitVec.ofNat 32 (8 * r.val)) : k0_off21 k w = ![32 * k.val + w.toNat, 0] := by
  obtain ⟨r, rfl, e⟩ := ofNat8 w 0 8 (by omega) (by simpa only [Nat.zero_add] using h)
  rw [Nat.zero_add] at e ⊢
  rw [k0_off21_eq k r, ← e]

theorem off22 (h : ∃ r : Fin 7, w = BitVec.ofNat 32 (8 * r.val)) : k0_off22 k w = ![2, 32 * k.val + w.toNat, 0] := by
  obtain ⟨r, rfl, e⟩ := ofNat8 w 0 7 (by omega) (by simpa only [Nat.zero_add] using h)
  rw [Nat.zero_add] at e ⊢
  rw [k0_off22_eq k r, ← e]

theorem off23 (h : ∃ r : Fin 7, w = BitVec.ofNat 32 (8 * r.val)) : k0_off23 k w = ![3, 32 * k.val + w.toNat, 0] := by
  obtain ⟨r, rfl, e⟩ := ofNat8 w 0 7 (by omega) (by simpa only [Nat.zero_add] using h)
  rw [Nat.zero_add] at e ⊢
  rw [k0_off23_eq k r, ← e]

theorem off24 (h : ∃ r : Fin 7, w = BitVec.ofNat 32 (8 * r.val)) : k0_off24 k w = ![4, 32 * k.val + w.toNat, 0] := by
  obtain ⟨r, rfl, e⟩ := ofNat8 w 0 7 (by omega) (by simpa only [Nat.zero_add] using h)
  rw [Nat.zero_add] at e ⊢
  rw [k0_off24_eq k r, ← e]

theorem off25 (h : ∃ r : Fin 7, w = BitVec.ofNat 32 (8 * r.val)) : k0_off25 k w = ![5, 32 * k.val + w.toNat, 0] := by
  obtain ⟨r, rfl, e⟩ := ofNat8 w 0 7 (by omega) (by simpa only [Nat.zero_add] using h)
  rw [Nat.zero_add] at e ⊢
  rw [k0_off25_eq k r, ← e]

theorem off26 (h : ∃ r : Fin 7, w = BitVec.ofNat 32 (8 * r.val)) : k0_off26 k w = ![6, 32 * k.val + w.toNat, 0] := by
  obtain ⟨r, rfl, e⟩ := ofNat8 w 0 7 (by omega) (by simpa only [Nat.zero_add] using h)
  rw [Nat.zero_add] at e ⊢
  rw [k0_off26_eq k r, ← e]

theorem off27 (h : ∃ r : Fin 7, w = BitVec.ofNat 32 (8 * r.val)) : k0_off27 k w = ![7, 32 * k.val + w.toNat, 0] := by
  obtain ⟨r, rfl, e⟩ := ofNat8 w 0 7 (by omega) (by simpa only [Nat.zero_add] using h)
  rw [Nat.zero_add] at e ⊢
  rw [k0_off27_eq k r, ← e]

theorem off28 (h : ∃ r : Fin 7, w = BitVec.ofNat 32 (8 * r.val)) : k0_off28 k w = ![1, 32 * k.val + w.toNat, 0] := by
  obtain ⟨r, rfl, e⟩ := ofNat8 w 0 7 (by omega) (by simpa only [Nat.zero_add] using h)
  rw [Nat.zero_add] at e ⊢
  rw [k0_off28_eq k r, ← e]

end Offsets

variable (c : Dev nD) (i : grid0.Coords)
variable (arg1 : Memref sig .tc .vmem S2176x128 .f32) (harg1 : arg1.IsWhole)
  (arg2 : Memref sig .tc .vmem S2176x128 .f32) (harg2 : arg2.IsWhole)
  (arg3 : Memref sig .tc .vmem S2176x128 .f32) (harg3 : arg3.IsWhole)
  (arg4 : Memref sig .tc .vmem S2176x128 .f32) (harg4 : arg4.IsWhole)
  (arg5 : Memref sig .tc .vmem S2176x128 .f32) (harg5 : arg5.IsWhole)
  (arg6 : Memref sig .tc .vmem S2176x128 .f32) (harg6 : arg6.IsWhole)
  (arg7 : Memref sig .tc .vmem S2176x128 .f32) (harg7 : arg7.IsWhole)
  (arg8 : Memref sig .tc .vmem S3x128 .f32) (harg8 : arg8.IsWhole)
  (arg9 : Memref sig .tc .vmem S31x128 .f32) (harg9 : arg9.IsWhole)
  (arg10 : Memref sig .tc .vmem S5x2176x128 .bf16) (harg10 : arg10.IsWhole)
  (arg11 : Memref sig .tc .vmem S8x128 .f32) (harg11 : arg11.IsWhole)
  (arg12 : Memref sig .tc .vmem S32x128 .f32) (harg12 : arg12.IsWhole)
  (arg13 : Memref sig .tc .vmem S2216x128 .f32) (harg13 : arg13.IsWhole)
  (arg14 : Memref sig .tc .vmem S8x2208x128 .f32) (harg14 : arg14.IsWhole)
  (arg15 : Memref sig .tc .vmem S2216x128 .f32) (harg15 : arg15.IsWhole)
  (arg16 : Memref sig .tc .vmem S8x2208x128 .f32) (harg16 : arg16.IsWhole)
  (arg17 : Memref sig .tc .vmem S2176x128 .f32) (harg17 : arg17.IsWhole)
  (arg18 : Memref sig .tc .vmem S32x8x128 .f32) (harg18 : arg18.IsWhole)
variable (D U W : Rows F)

/-- 31 values as the tuple the loop carries. -/
def tup31 {α : Type} (f : ℕ → α) :=
  (f 0, f 1, f 2, f 3, f 4, f 5, f 6, f 7, f 8, f 9, f 10, f 11, f 12, f 13, f 14, f 15, f 16, f 17, f 18, f 19, f 20, f 21, f 22, f 23, f 24, f 25, f 26, f 27, f 28, f 29, f 30)

set_option maxHeartbeats 4000000 in
/-- A trip adds to each accumulator the tap's sum of products. -/
theorem t6_tripR (v308 v309 v310 v311 v312 v313 v314 v315 v316 v317 v318 v319 v320 v321 v322 v323 v324 v325 v326 v327 v328 v329 : FVec F S8x128 .f32)
  (X13 : BufTy.Contents (Elt F) arg13.view.ty)
  (X14 : BufTy.Contents (Elt F) arg14.view.ty)
  (X15 : BufTy.Contents (Elt F) arg15.view.ty)
  (X16 : BufTy.Contents (Elt F) arg16.view.ty)
  (X18 : BufTy.Contents (Elt F) arg18.view.ty)
    (h13 : Reads arg13.view X13 U) (h14 : Shifted (1 ≤ ·) arg14.view X14 U) (h15 : Reads arg15.view X15 D)
    (k : Fin k0_t6_loop.trips) (f : ℕ → FVec F S8x128 .f32) :
    tripR_k0_t6 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v308 v309 v310 v311 v312 v313 v314 v315 v316 v317 v318 v319 v320 v321 v322 v323 v324 v325 v326 v327 v328 v329 X13 X14 X15 X16 X18 k (tup31 f)
      = tup31 fun j => addf (f j) (tapSum D U (j + 2) (32 * k)) := by
  unfold tripR_k0_t6 trip_k0_t6
  have A := fun w (hw : ∃ r : Fin 8, w = BitVec.ofNat 32 (8 * r.val)) inb => load_rows (m := 8) _ _ _ h13 inb (off21 k w hw)
  have B := fun w (hw : ∃ r : Fin 8, w = BitVec.ofNat 32 (8 * r.val)) inb => load_rows (m := 8) _ _ _ h15 inb (off21 k w hw)
  have S2 := fun w (hw : ∃ r : Fin 7, w = BitVec.ofNat 32 (8 * r.val)) inb => load_shifted (m := 8) _ _ _ h14 inb (off22 k w hw) (by decide)
  have S3 := fun w (hw : ∃ r : Fin 7, w = BitVec.ofNat 32 (8 * r.val)) inb => load_shifted (m := 8) _ _ _ h14 inb (off23 k w hw) (by decide)
  have S4 := fun w (hw : ∃ r : Fin 7, w = BitVec.ofNat 32 (8 * r.val)) inb => load_shifted (m := 8) _ _ _ h14 inb (off24 k w hw) (by decide)
  have S5 := fun w (hw : ∃ r : Fin 7, w = BitVec.ofNat 32 (8 * r.val)) inb => load_shifted (m := 8) _ _ _ h14 inb (off25 k w hw) (by decide)
  have S6 := fun w (hw : ∃ r : Fin 7, w = BitVec.ofNat 32 (8 * r.val)) inb => load_shifted (m := 8) _ _ _ h14 inb (off26 k w hw) (by decide)
  have S7 := fun w (hw : ∃ r : Fin 7, w = BitVec.ofNat 32 (8 * r.val)) inb => load_shifted (m := 8) _ _ _ h14 inb (off27 k w hw) (by decide)
  have S1 := fun w (hw : ∃ r : Fin 7, w = BitVec.ofNat 32 (8 * r.val)) inb => load_shifted (m := 8) _ _ _ h14 inb (off28 k w hw) (by decide)
  simp only [rows_at2, rows_at3] at A B S2 S3 S4 S5 S6 S7 S1
  dsimp only [tup31]
  sl_unfold_run_names
  simp only [Prod.mk.injEq]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals
    funext y
    obtain ⟨s, l, rfl⟩ : ∃ (s : Fin 8) (l : Fin 128), y = ix2 s l := ⟨y 0, y 1, eq_ix2 y⟩
    unfold_payloads
    simp (disch := decide) only [pointwise, shapeCast_1ab_ab_apply, A, B, S2, S3, S4, S5, S6, S7, S1, tapSum, BitVec.reduceToNat, Nat.reduceAdd]

set_option maxHeartbeats 4000000 in
/-- A trip stores its 32 rows of the input gradient. -/
theorem t6_tripL (v308 v309 v310 v311 v312 v313 v314 v315 v316 v317 v318 v319 v320 v321 v322 v323 v324 v325 v326 v327 v328 v329 : FVec F S8x128 .f32)
  (X13 : BufTy.Contents (Elt F) arg13.view.ty)
  (X14 : BufTy.Contents (Elt F) arg14.view.ty)
  (X15 : BufTy.Contents (Elt F) arg15.view.ty)
  (X16 : BufTy.Contents (Elt F) arg16.view.ty)
  (X18 : BufTy.Contents (Elt F) arg18.view.ty)
    (h15 : Reads arg15.view X15 D) (h16 : Shifted (1 ≤ ·) arg16.view X16 D) (h18 : Repeats 31 arg18.view X18 W)
    (k : Fin k0_t6_loop.trips) acc (L : List (View.Piece (Elt F) S2176x128 .f32)) (f17 : BufTy.Contents (Elt F) arg17.view.ty)
    (r : Fin 2176) (l : Fin 128) (hr : r.val < 32 * (k.val + 1))
    (hL : r.val < 32 * k → arg17.view.read (Elt F) (arg17.view.writes (Elt F) f17 L) (ix2 r l) = tapRows W D taps31 r.val l) :
    arg17.view.read (Elt F) (arg17.view.writes (Elt F) f17 (tripL_k0_t6 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v308 v309 v310 v311 v312 v313 v314 v315 v316 v317 v318 v319 v320 v321 v322 v323 v324 v325 v326 v327 v328 v329 X13 X14 X15 X16 X18 k acc ++ L)) (ix2 r l)
      = tapRows W D taps31 r.val l := by
  unfold tripL_k0_t6 trip_k0_t6
  have B := fun w (hw : ∃ r : Fin 8, w = BitVec.ofNat 32 (8 * r.val)) inb => load_rows (m := 8) _ _ _ h15 inb (off21 k w hw)
  have S2 := fun w (hw : ∃ r : Fin 7, w = BitVec.ofNat 32 (8 * r.val)) inb => load_shifted (m := 8) _ _ _ h16 inb (off22 k w hw) (by decide)
  have S3 := fun w (hw : ∃ r : Fin 7, w = BitVec.ofNat 32 (8 * r.val)) inb => load_shifted (m := 8) _ _ _ h16 inb (off23 k w hw) (by decide)
  have S4 := fun w (hw : ∃ r : Fin 7, w = BitVec.ofNat 32 (8 * r.val)) inb => load_shifted (m := 8) _ _ _ h16 inb (off24 k w hw) (by decide)
  have S5 := fun w (hw : ∃ r : Fin 7, w = BitVec.ofNat 32 (8 * r.val)) inb => load_shifted (m := 8) _ _ _ h16 inb (off25 k w hw) (by decide)
  have S6 := fun w (hw : ∃ r : Fin 7, w = BitVec.ofNat 32 (8 * r.val)) inb => load_shifted (m := 8) _ _ _ h16 inb (off26 k w hw) (by decide)
  have S7 := fun w (hw : ∃ r : Fin 7, w = BitVec.ofNat 32 (8 * r.val)) inb => load_shifted (m := 8) _ _ _ h16 inb (off27 k w hw) (by decide)
  have S1 := fun w (hw : ∃ r : Fin 7, w = BitVec.ofNat 32 (8 * r.val)) inb => load_shifted (m := 8) _ _ _ h16 inb (off28 k w hw) (by decide)
  have R := fun t (ht : t < 31) inb => load_repeated _ _ _ h18 inb ht
  simp only [rows_at2, rows_at3] at B S2 S3 S4 S5 S6 S7 S1
  dsimp only
  sl_unfold_run_names
  simp only [List.cons_append, List.nil_append]
  refine reads_cons (m := 8) (b := 32 * k + 24) _ _ _ _ _ (k0_off29_eq k 3) _ ?_ r l fun h3 => ?_
  rotate_left
  refine reads_cons (m := 8) (b := 32 * k + 16) _ _ _ _ _ (k0_off29_eq k 2) _ ?_ r l fun h2 => ?_
  rotate_left
  refine reads_cons (m := 8) (b := 32 * k + 8) _ _ _ _ _ (k0_off29_eq k 1) _ ?_ r l fun h1 => ?_
  rotate_left
  refine reads_cons (m := 8) (b := 32 * k + 0) _ _ _ _ _ (k0_off29_eq k 0) _ ?_ r l fun h0 => hL (by omega)
  all_goals
    intro s l
    rw [rows_at2]
    unfold_payloads
    simp (disch := decide) only [pointwise, shapeCast_1ab_ab_apply, B, S2, S3, S4, S5, S6, S7, S1, R, BitVec.reduceToNat, Nat.reduceAdd,
      taps31, List.map, Nat.reduceSub, tapRows, tapFold, Nat.add_assoc]

/-- Before trip `k`: the accumulators hold the sums over the trips before, and the rows of those trips hold the input gradient. -/
theorem t6_state (v308 v309 v310 v311 v312 v313 v314 v315 v316 v317 v318 v319 v320 v321 v322 v323 v324 v325 v326 v327 v328 v329 : FVec F S8x128 .f32)
  (X13 : BufTy.Contents (Elt F) arg13.view.ty)
  (X14 : BufTy.Contents (Elt F) arg14.view.ty)
  (X15 : BufTy.Contents (Elt F) arg15.view.ty)
  (X16 : BufTy.Contents (Elt F) arg16.view.ty)
  (X18 : BufTy.Contents (Elt F) arg18.view.ty)
    (h13 : Reads arg13.view X13 U) (h14 : Shifted (1 ≤ ·) arg14.view X14 U) (h15 : Reads arg15.view X15 D)
    (h16 : Shifted (1 ≤ ·) arg16.view X16 D) (h18 : Repeats 31 arg18.view X18 W) (f17 : BufTy.Contents (Elt F) arg17.view.ty) (k : ℕ) (hk : k ≤ k0_t6_loop.trips) :
    (st_k0_t6 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v308 v309 v310 v311 v312 v313 v314 v315 v316 v317 v318 v319 v320 v321 v322 v323 v324 v325 v326 v327 v328 v329 X13 X14 X15 X16 X18 (tup31 fun j => tapAcc D U (j + 2) 0) k).1 = (tup31 fun j => tapAcc D U (j + 2) k)
      ∧ ∀ (r : Fin 2176) (l : Fin 128), r.val < 32 * k →
        arg17.view.read (Elt F) (arg17.view.writes (Elt F) f17
          (st_k0_t6 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v308 v309 v310 v311 v312 v313 v314 v315 v316 v317 v318 v319 v320 v321 v322 v323 v324 v325 v326 v327 v328 v329 X13 X14 X15 X16 X18 (tup31 fun j => tapAcc D U (j + 2) 0) k).2) (ix2 r l)
            = tapRows W D taps31 r.val l := by
  induction k with
  | zero => exact ⟨rfl, fun r l h => absurd h (by omega)⟩
  | succ k ih =>
    have ih := ih (by omega)
    have e := st_k0_t6_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v308 v309 v310 v311 v312 v313 v314 v315 v316 v317 v318 v319 v320 v321 v322 v323 v324 v325 v326 v327 v328 v329 X13 X14 X15 X16 X18 (tup31 fun j => tapAcc D U (j + 2) 0) ⟨k, hk⟩
    dsimp only at e
    rw [e]
    refine ⟨?_, fun r l hr => ?_⟩
    · rw [ih.1]
      exact t6_tripR c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 D U v308 v309 v310 v311 v312 v313 v314 v315 v316 v317 v318 v319 v320 v321 v322 v323 v324 v325 v326 v327 v328 v329 X13 X14 X15 X16 X18 h13 h14 h15 ⟨k, hk⟩ fun j => tapAcc D U (j + 2) k
    · exact t6_tripL c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 D W v308 v309 v310 v311 v312 v313 v314 v315 v316 v317 v318 v319 v320 v321 v322 v323 v324 v325 v326 v327 v328 v329 X13 X14 X15 X16 X18 h15 h16 h18 ⟨k, hk⟩ _ _ f17 r l hr (ih.2 r l)

end Cert.ConvBwd

end

end
-- ==== Proof.StageE.lean ====
module

public import proofs.«01_k».proof.Proof.Holds
public import proofs.«01_k».proof.Proof.LoopB

@[expose] public section

set_option maxRecDepth 16384

noncomputable section

namespace Cert.ConvBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.ValueIdx (shapeCast_1ab_ab_apply shapeCast_ab_1ab_apply)

variable {F : FTy → Type} [FloatOps F]

local notation "𝕄" => MT nD τ sig Unit (Elt F) ℕ (UR sig nD τ) ℕ

variable (c : Dev nD) (E : Set ℕ) (i : grid0.Coords)
variable (arg1 : Memref sig .tc .vmem S2176x128 .f32) (harg1 : arg1.IsWhole)
  (arg2 : Memref sig .tc .vmem S2176x128 .f32) (harg2 : arg2.IsWhole)
  (arg3 : Memref sig .tc .vmem S2176x128 .f32) (harg3 : arg3.IsWhole)
  (arg4 : Memref sig .tc .vmem S2176x128 .f32) (harg4 : arg4.IsWhole)
  (arg5 : Memref sig .tc .vmem S2176x128 .f32) (harg5 : arg5.IsWhole)
  (arg6 : Memref sig .tc .vmem S2176x128 .f32) (harg6 : arg6.IsWhole)
  (arg7 : Memref sig .tc .vmem S2176x128 .f32) (harg7 : arg7.IsWhole)
  (arg8 : Memref sig .tc .vmem S3x128 .f32) (harg8 : arg8.IsWhole)
  (arg9 : Memref sig .tc .vmem S31x128 .f32) (harg9 : arg9.IsWhole)
  (arg10 : Memref sig .tc .vmem S5x2176x128 .bf16) (harg10 : arg10.IsWhole)
  (arg11 : Memref sig .tc .vmem S8x128 .f32) (harg11 : arg11.IsWhole)
  (arg12 : Memref sig .tc .vmem S32x128 .f32) (harg12 : arg12.IsWhole)
  (arg13 : Memref sig .tc .vmem S2216x128 .f32) (harg13 : arg13.IsWhole)
  (arg14 : Memref sig .tc .vmem S8x2208x128 .f32) (harg14 : arg14.IsWhole)
  (arg15 : Memref sig .tc .vmem S2216x128 .f32) (harg15 : arg15.IsWhole)
  (arg16 : Memref sig .tc .vmem S8x2208x128 .f32) (harg16 : arg16.IsWhole)
  (arg17 : Memref sig .tc .vmem S2176x128 .f32) (harg17 : arg17.IsWhole)
  (arg18 : Memref sig .tc .vmem S32x8x128 .f32) (harg18 : arg18.IsWhole)
variable (V1 V2 V3 V4 V5 V6 V7 V8 V9 : Rows F)

/-- The fifth part: the loop over the rows of the second branch, and the first five rows of its taps' gradients. -/
theorem stage41 (rest : (Σ' (v5 : FVec F S8x128 .f32) (v6 : FVec F S8x128 .f32) (v7 : FVec F S8x128 .f32) (v8 : FVec F S8x128 .f32) (v9 : FVec F S8x128 .f32) (v10 : FVec F S8x128 .f32) (v11 : FVec F S8x128 .f32) (v12 : FVec F S8x128 .f32) (v13 : FVec F S8x128 .f32) (v14 : FVec F S8x128 .f32) (v15 : FVec F S8x128 .f32) (v16 : FVec F S8x128 .f32) (v17 : FVec F S8x128 .f32) (v18 : FVec F S8x128 .f32) (v19 : FVec F S8x128 .f32) (v20 : FVec F S8x128 .f32) (v21 : FVec F S8x128 .f32) (v22 : FVec F S8x128 .f32) (v23 : FVec F S8x128 .f32) (v24 : FVec F S8x128 .f32) (v25 : FVec F S8x128 .f32) (v26 : FVec F S8x128 .f32) (v27 : FVec F S8x128 .f32) (v28 : FVec F S8x128 .f32) (v29 : FVec F S8x128 .f32), FVec F S8x128 .f32) → Prog (TpuEff nD τ sig (Elt F) Λ₀ .tc) PUnit) (Q : PUnit → sProp 𝕄) :
    iprop((Holds c arg12 (fun _ => True) ∗ Holds c arg13 (Reads arg13.view · (behind (prod V4 (sig1 V5)))) ∗ Holds c arg14 (Shifted (1 ≤ ·) arg14.view · (behind (prod V4 (sig1 V5)))) ∗ Holds c arg15 (Reads arg15.view · (before V7)) ∗ Holds c arg16 (Shifted (1 ≤ ·) arg16.view · (before V7)) ∗ Holds c arg17 (fun _ => True) ∗ Holds c arg18 (Repeats 31 arg18.view · V9))
      ∗ ((Holds c arg12 (fun f => ∀ (r : Fin 32) (l : Fin 128), r.val < 5 → arg12.view.read (Elt F) f (ix2 r l) = tapGrads (before V7) (behind (prod V4 (sig1 V5))) 2 31 r.val l) ∗ Holds c arg13 (Reads arg13.view · (behind (prod V4 (sig1 V5)))) ∗ Holds c arg14 (Shifted (1 ≤ ·) arg14.view · (behind (prod V4 (sig1 V5)))) ∗ Holds c arg15 (Reads arg15.view · (before V7)) ∗ Holds c arg16 (Shifted (1 ≤ ·) arg16.view · (before V7)) ∗ Holds c arg17 (Reads arg17.view · (tapRows V9 (before V7) taps31)) ∗ Holds c arg18 (Repeats 31 arg18.view · V9)) -∗ wp frame (wpE (defs₀ (F := F)) Variants.none c none) E (rest ⟨tapAcc (before V7) (behind (prod V4 (sig1 V5))) (5 + 2) 68, tapAcc (before V7) (behind (prod V4 (sig1 V5))) (6 + 2) 68, tapAcc (before V7) (behind (prod V4 (sig1 V5))) (7 + 2) 68, tapAcc (before V7) (behind (prod V4 (sig1 V5))) (8 + 2) 68, tapAcc (before V7) (behind (prod V4 (sig1 V5))) (9 + 2) 68, tapAcc (before V7) (behind (prod V4 (sig1 V5))) (10 + 2) 68, tapAcc (before V7) (behind (prod V4 (sig1 V5))) (11 + 2) 68, tapAcc (before V7) (behind (prod V4 (sig1 V5))) (12 + 2) 68, tapAcc (before V7) (behind (prod V4 (sig1 V5))) (13 + 2) 68, tapAcc (before V7) (behind (prod V4 (sig1 V5))) (14 + 2) 68, tapAcc (before V7) (behind (prod V4 (sig1 V5))) (15 + 2) 68, tapAcc (before V7) (behind (prod V4 (sig1 V5))) (16 + 2) 68, tapAcc (before V7) (behind (prod V4 (sig1 V5))) (17 + 2) 68, tapAcc (before V7) (behind (prod V4 (sig1 V5))) (18 + 2) 68, tapAcc (before V7) (behind (prod V4 (sig1 V5))) (19 + 2) 68, tapAcc (before V7) (behind (prod V4 (sig1 V5))) (20 + 2) 68, tapAcc (before V7) (behind (prod V4 (sig1 V5))) (21 + 2) 68, tapAcc (before V7) (behind (prod V4 (sig1 V5))) (22 + 2) 68, tapAcc (before V7) (behind (prod V4 (sig1 V5))) (23 + 2) 68, tapAcc (before V7) (behind (prod V4 (sig1 V5))) (24 + 2) 68, tapAcc (before V7) (behind (prod V4 (sig1 V5))) (25 + 2) 68, tapAcc (before V7) (behind (prod V4 (sig1 V5))) (26 + 2) 68, tapAcc (before V7) (behind (prod V4 (sig1 V5))) (27 + 2) 68, tapAcc (before V7) (behind (prod V4 (sig1 V5))) (28 + 2) 68, tapAcc (before V7) (behind (prod V4 (sig1 V5))) (29 + 2) 68, tapAcc (before V7) (behind (prod V4 (sig1 V5))) (30 + 2) 68⟩) Q))
     ⊢ wp frame (wpE (defs₀ (F := F)) Variants.none c none) E (k0_part41 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (broadcast S8x128 (Scalar.ofBits .f32 0x00000000#32)) (broadcast S8x128 (Scalar.ofBits .f32 0x00000000#32)) (broadcast S8x128 (Scalar.ofBits .f32 0x00000000#32)) (broadcast S8x128 (Scalar.ofBits .f32 0x00000000#32)) (broadcast S8x128 (Scalar.ofBits .f32 0x00000000#32)) (broadcast S8x128 (Scalar.ofBits .f32 0x00000000#32)) (broadcast S8x128 (Scalar.ofBits .f32 0x00000000#32)) (broadcast S8x128 (Scalar.ofBits .f32 0x00000000#32)) (broadcast S8x128 (Scalar.ofBits .f32 0x00000000#32)) (broadcast S8x128 (Scalar.ofBits .f32 0x00000000#32)) (broadcast S8x128 (Scalar.ofBits .f32 0x00000000#32)) (broadcast S8x128 (Scalar.ofBits .f32 0x00000000#32)) (broadcast S8x128 (Scalar.ofBits .f32 0x00000000#32)) (broadcast S8x128 (Scalar.ofBits .f32 0x00000000#32)) (broadcast S8x128 (Scalar.ofBits .f32 0x00000000#32)) (broadcast S8x128 (Scalar.ofBits .f32 0x00000000#32)) (broadcast S8x128 (Scalar.ofBits .f32 0x00000000#32)) (broadcast S8x128 (Scalar.ofBits .f32 0x00000000#32)) (broadcast S8x128 (Scalar.ofBits .f32 0x00000000#32)) (broadcast S8x128 (Scalar.ofBits .f32 0x00000000#32)) (broadcast S8x128 (Scalar.ofBits .f32 0x00000000#32)) (broadcast S8x128 (Scalar.ofBits .f32 0x00000000#32)) >>= rest) Q := by
  simp only [k0_part41_eq_skeleton]
  unfold k0_part41_skel Holds
  iintro ⟨⟨⟨%f12, %h12, H12⟩, ⟨%f13, %h13, H13⟩, ⟨%f14, %h14, H14⟩, ⟨%f15, %h15, H15⟩, ⟨%f16, %h16, H16⟩, ⟨%f17, %h17, H17⟩, ⟨%f18, %h18, H18⟩⟩, Hk⟩
  simp only [bind_assoc]
  have h68 : k0_t6_loop.trips = 68 := by decide
  have S := t6_state c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (before V7) (behind (prod V4 (sig1 V5))) V9 (broadcast S8x128 (Scalar.ofBits .f32 0x00000000#32)) (broadcast S8x128 (Scalar.ofBits .f32 0x00000000#32)) (broadcast S8x128 (Scalar.ofBits .f32 0x00000000#32)) (broadcast S8x128 (Scalar.ofBits .f32 0x00000000#32)) (broadcast S8x128 (Scalar.ofBits .f32 0x00000000#32)) (broadcast S8x128 (Scalar.ofBits .f32 0x00000000#32)) (broadcast S8x128 (Scalar.ofBits .f32 0x00000000#32)) (broadcast S8x128 (Scalar.ofBits .f32 0x00000000#32)) (broadcast S8x128 (Scalar.ofBits .f32 0x00000000#32)) (broadcast S8x128 (Scalar.ofBits .f32 0x00000000#32)) (broadcast S8x128 (Scalar.ofBits .f32 0x00000000#32)) (broadcast S8x128 (Scalar.ofBits .f32 0x00000000#32)) (broadcast S8x128 (Scalar.ofBits .f32 0x00000000#32)) (broadcast S8x128 (Scalar.ofBits .f32 0x00000000#32)) (broadcast S8x128 (Scalar.ofBits .f32 0x00000000#32)) (broadcast S8x128 (Scalar.ofBits .f32 0x00000000#32)) (broadcast S8x128 (Scalar.ofBits .f32 0x00000000#32)) (broadcast S8x128 (Scalar.ofBits .f32 0x00000000#32)) (broadcast S8x128 (Scalar.ofBits .f32 0x00000000#32)) (broadcast S8x128 (Scalar.ofBits .f32 0x00000000#32)) (broadcast S8x128 (Scalar.ofBits .f32 0x00000000#32)) (broadcast S8x128 (Scalar.ofBits .f32 0x00000000#32)) f13 f14 f15 f16 f18 h13 h14 h15 h16 h18 f17 k0_t6_loop.trips le_rfl
  have kA : (st_k0_t6 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (broadcast S8x128 (Scalar.ofBits .f32 0x00000000#32)) (broadcast S8x128 (Scalar.ofBits .f32 0x00000000#32)) (broadcast S8x128 (Scalar.ofBits .f32 0x00000000#32)) (broadcast S8x128 (Scalar.ofBits .f32 0x00000000#32)) (broadcast S8x128 (Scalar.ofBits .f32 0x00000000#32)) (broadcast S8x128 (Scalar.ofBits .f32 0x00000000#32)) (broadcast S8x128 (Scalar.ofBits .f32 0x00000000#32)) (broadcast S8x128 (Scalar.ofBits .f32 0x00000000#32)) (broadcast S8x128 (Scalar.ofBits .f32 0x00000000#32)) (broadcast S8x128 (Scalar.ofBits .f32 0x00000000#32)) (broadcast S8x128 (Scalar.ofBits .f32 0x00000000#32)) (broadcast S8x128 (Scalar.ofBits .f32 0x00000000#32)) (broadcast S8x128 (Scalar.ofBits .f32 0x00000000#32)) (broadcast S8x128 (Scalar.ofBits .f32 0x00000000#32)) (broadcast S8x128 (Scalar.ofBits .f32 0x00000000#32)) (broadcast S8x128 (Scalar.ofBits .f32 0x00000000#32)) (broadcast S8x128 (Scalar.ofBits .f32 0x00000000#32)) (broadcast S8x128 (Scalar.ofBits .f32 0x00000000#32)) (broadcast S8x128 (Scalar.ofBits .f32 0x00000000#32)) (broadcast S8x128 (Scalar.ofBits .f32 0x00000000#32)) (broadcast S8x128 (Scalar.ofBits .f32 0x00000000#32)) (broadcast S8x128 (Scalar.ofBits .f32 0x00000000#32)) f13 f14 f15 f16 f18 (broadcast S8x128 (Scalar.ofBits .f32 0x00000000#32), broadcast S8x128 (Scalar.ofBits .f32 0x00000000#32), broadcast S8x128 (Scalar.ofBits .f32 0x00000000#32), broadcast S8x128 (Scalar.ofBits .f32 0x00000000#32), broadcast S8x128 (Scalar.ofBits .f32 0x00000000#32), broadcast S8x128 (Scalar.ofBits .f32 0x00000000#32), broadcast S8x128 (Scalar.ofBits .f32 0x00000000#32), broadcast S8x128 (Scalar.ofBits .f32 0x00000000#32), broadcast S8x128 (Scalar.ofBits .f32 0x00000000#32), broadcast S8x128 (Scalar.ofBits .f32 0x00000000#32), broadcast S8x128 (Scalar.ofBits .f32 0x00000000#32), broadcast S8x128 (Scalar.ofBits .f32 0x00000000#32), broadcast S8x128 (Scalar.ofBits .f32 0x00000000#32), broadcast S8x128 (Scalar.ofBits .f32 0x00000000#32), broadcast S8x128 (Scalar.ofBits .f32 0x00000000#32), broadcast S8x128 (Scalar.ofBits .f32 0x00000000#32), broadcast S8x128 (Scalar.ofBits .f32 0x00000000#32), broadcast S8x128 (Scalar.ofBits .f32 0x00000000#32), broadcast S8x128 (Scalar.ofBits .f32 0x00000000#32), broadcast S8x128 (Scalar.ofBits .f32 0x00000000#32), broadcast S8x128 (Scalar.ofBits .f32 0x00000000#32), broadcast S8x128 (Scalar.ofBits .f32 0x00000000#32), broadcast S8x128 (Scalar.ofBits .f32 0x00000000#32), broadcast S8x128 (Scalar.ofBits .f32 0x00000000#32), broadcast S8x128 (Scalar.ofBits .f32 0x00000000#32), broadcast S8x128 (Scalar.ofBits .f32 0x00000000#32), broadcast S8x128 (Scalar.ofBits .f32 0x00000000#32), broadcast S8x128 (Scalar.ofBits .f32 0x00000000#32), broadcast S8x128 (Scalar.ofBits .f32 0x00000000#32), broadcast S8x128 (Scalar.ofBits .f32 0x00000000#32), broadcast S8x128 (Scalar.ofBits .f32 0x00000000#32)) (Scf.trips k0_t6_loop.lb k0_t6_loop.ub k0_t6_loop.st)).1 = tup31 fun j => tapAcc (before V7) (behind (prod V4 (sig1 V5))) (j + 2) 68 := h68 ▸ S.1
  have k17 : Reads arg17.view (arg17.view.writes (Elt F) f17 (st_k0_t6 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (broadcast S8x128 (Scalar.ofBits .f32 0x00000000#32)) (broadcast S8x128 (Scalar.ofBits .f32 0x00000000#32)) (broadcast S8x128 (Scalar.ofBits .f32 0x00000000#32)) (broadcast S8x128 (Scalar.ofBits .f32 0x00000000#32)) (broadcast S8x128 (Scalar.ofBits .f32 0x00000000#32)) (broadcast S8x128 (Scalar.ofBits .f32 0x00000000#32)) (broadcast S8x128 (Scalar.ofBits .f32 0x00000000#32)) (broadcast S8x128 (Scalar.ofBits .f32 0x00000000#32)) (broadcast S8x128 (Scalar.ofBits .f32 0x00000000#32)) (broadcast S8x128 (Scalar.ofBits .f32 0x00000000#32)) (broadcast S8x128 (Scalar.ofBits .f32 0x00000000#32)) (broadcast S8x128 (Scalar.ofBits .f32 0x00000000#32)) (broadcast S8x128 (Scalar.ofBits .f32 0x00000000#32)) (broadcast S8x128 (Scalar.ofBits .f32 0x00000000#32)) (broadcast S8x128 (Scalar.ofBits .f32 0x00000000#32)) (broadcast S8x128 (Scalar.ofBits .f32 0x00000000#32)) (broadcast S8x128 (Scalar.ofBits .f32 0x00000000#32)) (broadcast S8x128 (Scalar.ofBits .f32 0x00000000#32)) (broadcast S8x128 (Scalar.ofBits .f32 0x00000000#32)) (broadcast S8x128 (Scalar.ofBits .f32 0x00000000#32)) (broadcast S8x128 (Scalar.ofBits .f32 0x00000000#32)) (broadcast S8x128 (Scalar.ofBits .f32 0x00000000#32)) f13 f14 f15 f16 f18 (broadcast S8x128 (Scalar.ofBits .f32 0x00000000#32), broadcast S8x128 (Scalar.ofBits .f32 0x00000000#32), broadcast S8x128 (Scalar.ofBits .f32 0x00000000#32), broadcast S8x128 (Scalar.ofBits .f32 0x00000000#32), broadcast S8x128 (Scalar.ofBits .f32 0x00000000#32), broadcast S8x128 (Scalar.ofBits .f32 0x00000000#32), broadcast S8x128 (Scalar.ofBits .f32 0x00000000#32), broadcast S8x128 (Scalar.ofBits .f32 0x00000000#32), broadcast S8x128 (Scalar.ofBits .f32 0x00000000#32), broadcast S8x128 (Scalar.ofBits .f32 0x00000000#32), broadcast S8x128 (Scalar.ofBits .f32 0x00000000#32), broadcast S8x128 (Scalar.ofBits .f32 0x00000000#32), broadcast S8x128 (Scalar.ofBits .f32 0x00000000#32), broadcast S8x128 (Scalar.ofBits .f32 0x00000000#32), broadcast S8x128 (Scalar.ofBits .f32 0x00000000#32), broadcast S8x128 (Scalar.ofBits .f32 0x00000000#32), broadcast S8x128 (Scalar.ofBits .f32 0x00000000#32), broadcast S8x128 (Scalar.ofBits .f32 0x00000000#32), broadcast S8x128 (Scalar.ofBits .f32 0x00000000#32), broadcast S8x128 (Scalar.ofBits .f32 0x00000000#32), broadcast S8x128 (Scalar.ofBits .f32 0x00000000#32), broadcast S8x128 (Scalar.ofBits .f32 0x00000000#32), broadcast S8x128 (Scalar.ofBits .f32 0x00000000#32), broadcast S8x128 (Scalar.ofBits .f32 0x00000000#32), broadcast S8x128 (Scalar.ofBits .f32 0x00000000#32), broadcast S8x128 (Scalar.ofBits .f32 0x00000000#32), broadcast S8x128 (Scalar.ofBits .f32 0x00000000#32), broadcast S8x128 (Scalar.ofBits .f32 0x00000000#32), broadcast S8x128 (Scalar.ofBits .f32 0x00000000#32), broadcast S8x128 (Scalar.ofBits .f32 0x00000000#32), broadcast S8x128 (Scalar.ofBits .f32 0x00000000#32)) (Scf.trips k0_t6_loop.lb k0_t6_loop.ub k0_t6_loop.st)).2) (tapRows V9 (before V7) taps31) := fun r l => S.2 r l (by omega)
  sl_exec
  sl_unfold_run_names
  unfold_payloads
  simp only [kA]
  iapply Hk
  isplitl [H12]; · iexists _; isplitr [H12]; rotate_left; · iexact H12
                   ipureintro; intro r l hr
                   iterate 5
                     refine reads_cons (m := 1) _ _ _ _ _ rfl _ ?_ r l fun _ => ?_
                     · intro s l
                       rw [tapGrads_at _ _ _ _ _ (by omega)]
                       unfold_payloads
                       simp only [pointwise]
                       rfl
                   omega
  isplitl [H13]; · iexists _; isplitr [H13]; rotate_left; · iexact H13
                   ipureintro; exact h13
  isplitl [H14]; · iexists _; isplitr [H14]; rotate_left; · iexact H14
                   ipureintro; exact h14
  isplitl [H15]; · iexists _; isplitr [H15]; rotate_left; · iexact H15
                   ipureintro; exact h15
  isplitl [H16]; · iexists _; isplitr [H16]; rotate_left; · iexact H16
                   ipureintro; exact h16
  isplitl [H17]; · iexists _; isplitr [H17]; rotate_left; · iexact H17
                   ipureintro; exact k17
  iexists _; isplitr [H18]; rotate_left; · iexact H18
  ipureintro; exact h18

/-- The sixth part: the rows 5 to 29 of the taps' gradients. -/
theorem stage42 (rest : FVec F S1x128 .f32 → Prog (TpuEff nD τ sig (Elt F) Λ₀ .tc) PUnit) (Q : PUnit → sProp 𝕄) :
    iprop((Holds c arg12 (fun f => ∀ (r : Fin 32) (l : Fin 128), r.val < 5 → arg12.view.read (Elt F) f (ix2 r l) = tapGrads (before V7) (behind (prod V4 (sig1 V5))) 2 31 r.val l))
      ∗ (∀ v432, ⌜∀ (s : Fin 1) (l : Fin 128), v432 (ix2 s l) = tapGrads (before V7) (behind (prod V4 (sig1 V5))) 2 31 (30 + s.val) l⌝ -∗ (Holds c arg12 (fun f => ∀ (r : Fin 32) (l : Fin 128), r.val < 30 → arg12.view.read (Elt F) f (ix2 r l) = tapGrads (before V7) (behind (prod V4 (sig1 V5))) 2 31 r.val l)) -∗ wp frame (wpE (defs₀ (F := F)) Variants.none c none) E (rest v432) Q))
     ⊢ wp frame (wpE (defs₀ (F := F)) Variants.none c none) E (k0_part42 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (tapAcc (before V7) (behind (prod V4 (sig1 V5))) (5 + 2) 68) (tapAcc (before V7) (behind (prod V4 (sig1 V5))) (6 + 2) 68) (tapAcc (before V7) (behind (prod V4 (sig1 V5))) (7 + 2) 68) (tapAcc (before V7) (behind (prod V4 (sig1 V5))) (8 + 2) 68) (tapAcc (before V7) (behind (prod V4 (sig1 V5))) (9 + 2) 68) (tapAcc (before V7) (behind (prod V4 (sig1 V5))) (10 + 2) 68) (tapAcc (before V7) (behind (prod V4 (sig1 V5))) (11 + 2) 68) (tapAcc (before V7) (behind (prod V4 (sig1 V5))) (12 + 2) 68) (tapAcc (before V7) (behind (prod V4 (sig1 V5))) (13 + 2) 68) >>= fun v381 => k0_part43 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (tapAcc (before V7) (behind (prod V4 (sig1 V5))) (14 + 2) 68) (tapAcc (before V7) (behind (prod V4 (sig1 V5))) (15 + 2) 68) (tapAcc (before V7) (behind (prod V4 (sig1 V5))) (16 + 2) 68) (tapAcc (before V7) (behind (prod V4 (sig1 V5))) (17 + 2) 68) (tapAcc (before V7) (behind (prod V4 (sig1 V5))) (18 + 2) 68) (tapAcc (before V7) (behind (prod V4 (sig1 V5))) (19 + 2) 68) (tapAcc (before V7) (behind (prod V4 (sig1 V5))) (20 + 2) 68) (tapAcc (before V7) (behind (prod V4 (sig1 V5))) (21 + 2) 68) (tapAcc (before V7) (behind (prod V4 (sig1 V5))) (22 + 2) 68) v381 >>= fun v407 => k0_part44 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (tapAcc (before V7) (behind (prod V4 (sig1 V5))) (23 + 2) 68) (tapAcc (before V7) (behind (prod V4 (sig1 V5))) (24 + 2) 68) (tapAcc (before V7) (behind (prod V4 (sig1 V5))) (25 + 2) 68) (tapAcc (before V7) (behind (prod V4 (sig1 V5))) (26 + 2) 68) (tapAcc (before V7) (behind (prod V4 (sig1 V5))) (27 + 2) 68) (tapAcc (before V7) (behind (prod V4 (sig1 V5))) (28 + 2) 68) (tapAcc (before V7) (behind (prod V4 (sig1 V5))) (29 + 2) 68) (tapAcc (before V7) (behind (prod V4 (sig1 V5))) (30 + 2) 68) v407 >>= rest) Q := by
  simp only [k0_part42_eq_skeleton, k0_part43_eq_skeleton, k0_part44_eq_skeleton]
  unfold k0_part42_skel k0_part43_skel k0_part44_skel Holds
  iintro ⟨⟨%f12, %h12, H12⟩, Hk⟩
  simp only [bind_assoc]
  sl_exec
  sl_unfold_run_names
  iapply Hk
  · ipureintro
    intro s l
    rw [tapGrads_at _ _ _ _ _ (by omega)]
    unfold_payloads
    simp only [pointwise]
    rfl
  iexists _; isplitr [H12]; rotate_left; · iexact H12
  ipureintro; intro r l hr
  iterate 25
    refine reads_cons (m := 1) _ _ _ _ _ rfl _ ?_ r l fun _ => ?_
    · intro s l
      rw [tapGrads_at _ _ _ _ _ (by omega)]
      unfold_payloads
      simp only [pointwise]
      rfl
  exact h12 r l (by omega)

end Cert.ConvBwd

end

end
-- ==== Proof.Body.lean ====
module

public import proofs.«01_k».proof.Proof.StageA
public import proofs.«01_k».proof.Proof.StageB
public import proofs.«01_k».proof.Proof.StageC
public import proofs.«01_k».proof.Proof.StageD
public import proofs.«01_k».proof.Proof.StageE

@[expose] public section

set_option maxRecDepth 16384

noncomputable section

namespace Cert.ConvBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.ValueIdx (shapeCast_1ab_ab_apply shapeCast_ab_1ab_apply)

variable {F : FTy → Type} [FloatOps F]

local notation "𝕄" => MT nD τ sig Unit (Elt F) ℕ (UR sig nD τ) ℕ

variable (c : Dev nD) (E : Set ℕ) (i : grid0.Coords)
variable (arg1 : Memref sig .tc .vmem S2176x128 .f32) (harg1 : arg1.IsWhole)
  (arg2 : Memref sig .tc .vmem S2176x128 .f32) (harg2 : arg2.IsWhole)
  (arg3 : Memref sig .tc .vmem S2176x128 .f32) (harg3 : arg3.IsWhole)
  (arg4 : Memref sig .tc .vmem S2176x128 .f32) (harg4 : arg4.IsWhole)
  (arg5 : Memref sig .tc .vmem S2176x128 .f32) (harg5 : arg5.IsWhole)
  (arg6 : Memref sig .tc .vmem S2176x128 .f32) (harg6 : arg6.IsWhole)
  (arg7 : Memref sig .tc .vmem S2176x128 .f32) (harg7 : arg7.IsWhole)
  (arg8 : Memref sig .tc .vmem S3x128 .f32) (harg8 : arg8.IsWhole)
  (arg9 : Memref sig .tc .vmem S31x128 .f32) (harg9 : arg9.IsWhole)
  (arg10 : Memref sig .tc .vmem S5x2176x128 .bf16) (harg10 : arg10.IsWhole)
  (arg11 : Memref sig .tc .vmem S8x128 .f32) (harg11 : arg11.IsWhole)
  (arg12 : Memref sig .tc .vmem S32x128 .f32) (harg12 : arg12.IsWhole)
  (arg13 : Memref sig .tc .vmem S2216x128 .f32) (harg13 : arg13.IsWhole)
  (arg14 : Memref sig .tc .vmem S8x2208x128 .f32) (harg14 : arg14.IsWhole)
  (arg15 : Memref sig .tc .vmem S2216x128 .f32) (harg15 : arg15.IsWhole)
  (arg16 : Memref sig .tc .vmem S8x2208x128 .f32) (harg16 : arg16.IsWhole)
  (arg17 : Memref sig .tc .vmem S2176x128 .f32) (harg17 : arg17.IsWhole)
  (arg18 : Memref sig .tc .vmem S32x8x128 .f32) (harg18 : arg18.IsWhole)
variable (V1 V2 V3 V4 V5 V6 V7 V8 V9 : Rows F)

/-- The body of the backward convolution: from nine inputs it leaves the five gradients and the two tables of taps' gradients. -/
theorem body (Q : PUnit → sProp 𝕄) :
    iprop((Holds c arg1 (Reads arg1.view · V1) ∗ Holds c arg2 (Reads arg2.view · V2) ∗ Holds c arg3 (Reads arg3.view · V3) ∗ Holds c arg4 (Reads arg4.view · V4) ∗ Holds c arg5 (Reads arg5.view · V5) ∗ Holds c arg6 (Reads arg6.view · V6) ∗ Holds c arg7 (Reads arg7.view · V7) ∗ Holds c arg8 (Reads arg8.view · V8) ∗ Holds c arg9 (Reads arg9.view · V9) ∗ Holds c arg10 (fun _ => True) ∗ Holds c arg11 (fun _ => True) ∗ Holds c arg12 (fun _ => True) ∗ Holds c arg13 (fun _ => True) ∗ Holds c arg14 (fun _ => True) ∗ Holds c arg15 (fun _ => True) ∗ Holds c arg16 (fun _ => True) ∗ Holds c arg17 (fun _ => True) ∗ Holds c arg18 (fun _ => True)) ∗ ((Holds c arg1 (Reads arg1.view · V1) ∗ Holds c arg2 (Reads arg2.view · V2) ∗ Holds c arg3 (Reads arg3.view · V3) ∗ Holds c arg4 (Reads arg4.view · V4) ∗ Holds c arg5 (Reads arg5.view · V5) ∗ Holds c arg6 (Reads arg6.view · V6) ∗ Holds c arg7 (Reads arg7.view · V7) ∗ Holds c arg8 (Reads arg8.view · V8) ∗ Holds c arg9 (Reads arg9.view · V9) ∗ Holds c arg10 (Tables (fun _ => True) arg10.view · (outRows V1 V2 V3 V4 V5 V6 V7 V8 V9)) ∗ Holds c arg11 (Reads arg11.view · (tapGrads (before (prod V6 V1)) (behind (prod V2 V3)) 30 3)) ∗ Holds c arg12 (Reads arg12.view · (tapGrads (before V7) (behind (prod V4 (sig1 V5))) 2 31)) ∗ Holds c arg13 (fun _ => True) ∗ Holds c arg14 (fun _ => True) ∗ Holds c arg15 (fun _ => True) ∗ Holds c arg16 (fun _ => True) ∗ Holds c arg17 (fun _ => True) ∗ Holds c arg18 (fun _ => True)) -∗ Q ⟨⟩))
     ⊢ wp frame (wpE (defs₀ (F := F)) Variants.none c none) E (cc0_mix_conv_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) Q := by
  rw [cc0_mix_conv_bwd_eq_skeleton]
  unfold cc0_mix_conv_bwd_skel
  iintro ⟨⟨H1, H2, H3, H4, H5, H6, H7, H8, H9, H10, H11, H12, H13, H14, H15, H16, H17, H18⟩, Hk⟩
  iapply stage29 (V1 := V1) (V2 := V2) (V3 := V3) (V6 := V6)
  isplitl [H1 H2 H3 H6 H13 H14 H15 H16]
  · isplitl [H1]; · iexact H1
    isplitl [H2]; · iexact H2
    isplitl [H3]; · iexact H3
    isplitl [H6]; · iexact H6
    isplitl [H13]; · iexact H13
    isplitl [H14]; · iexact H14
    isplitl [H15]; · iexact H15
    iexact H16
  iintro %v24 %hv24 ⟨H1, H2, H3, H6, H13, H14, H15, H16⟩
  iapply stage30 (V1 := V1) (V2 := V2) (V3 := V3) (V4 := V4) (V5 := V5) (V6 := V6) (V7 := V7) (V8 := V8) (V9 := V9) (hv := hv24)
  isplitl [H6 H8 H10 H13 H14 H15 H16 H18]
  · isplitl [H6]; · iexact H6
    isplitl [H8]; · iexact H8
    isplitl [H10]; · iexact H10
    isplitl [H13]; · iexact H13
    isplitl [H14]; · iexact H14
    isplitl [H15]; · iexact H15
    isplitl [H16]; · iexact H16
    iexact H18
  iintro ⟨H6, H8, H10, H13, H14, H15, H16, H18⟩
  iapply stage31 (V1 := V1) (V2 := V2) (V3 := V3) (V4 := V4) (V5 := V5) (V6 := V6) (V7 := V7) (V8 := V8) (V9 := V9)
  isplitl [H2 H3 H4 H5 H7 H10 H11 H13 H14 H15 H16 H17 H18]
  · isplitl [H2]; · iexact H2
    isplitl [H3]; · iexact H3
    isplitl [H4]; · iexact H4
    isplitl [H5]; · iexact H5
    isplitl [H7]; · iexact H7
    isplitl [H10]; · iexact H10
    isplitl [H11]; · iexact H11
    isplitl [H13]; · iexact H13
    isplitl [H14]; · iexact H14
    isplitl [H15]; · iexact H15
    isplitl [H16]; · iexact H16
    isplitl [H17]; · iexact H17
    iexact H18
  iintro %v70 %hv70 ⟨H2, H3, H4, H5, H7, H10, H11, H13, H14, H15, H16, H17, H18⟩
  iapply stage32 (V4 := V4) (V5 := V5) (V7 := V7) (V9 := V9) (hv := hv70) (hz := rfl)
  isplitl [H9 H13 H14 H15 H16 H18]
  · isplitl [H9]; · iexact H9
    isplitl [H13]; · iexact H13
    isplitl [H14]; · iexact H14
    isplitl [H15]; · iexact H15
    isplitl [H16]; · iexact H16
    iexact H18
  iintro ⟨H9, H13, H14, H15, H16, H18⟩
  iapply stage41 (V4 := V4) (V5 := V5) (V7 := V7) (V9 := V9)
  isplitl [H12 H13 H14 H15 H16 H17 H18]
  · isplitl [H12]; · iexact H12
    isplitl [H13]; · iexact H13
    isplitl [H14]; · iexact H14
    isplitl [H15]; · iexact H15
    isplitl [H16]; · iexact H16
    isplitl [H17]; · iexact H17
    iexact H18
  iintro ⟨H12, H13, H14, H15, H16, H17, H18⟩
  iapply stage42 (V4 := V4) (V5 := V5) (V7 := V7)
  isplitl [H12]
  · iexact H12
  iintro %v432 %hv432 H12
  unfold Holds
  icases H4 with ⟨%f4, %h4, H4⟩
  icases H5 with ⟨%f5, %h5, H5⟩
  icases H10 with ⟨%f10, %h10, H10⟩
  icases H12 with ⟨%f12, %h12, H12⟩
  icases H17 with ⟨%f17, %h17, H17⟩
  have h34 : k0_t7_loop.trips = 34 := by decide
  have k10 : Tables (fun _ => True) arg10.view (arg10.view.writes (Elt F) f10 (pb_k0_t7 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f17 (Scf.trips k0_t7_loop.lb k0_t7_loop.ub k0_t7_loop.st))) (outRows V1 V2 V3 V4 V5 V6 V7 V8 V9) := by
    intro a r l _
    have := t7_out c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 V4 V5 (tapRows V9 (before V7) taps31) f4 f5 f17 h4 h5 h17 f10 [] (outRows V1 V2 V3 V4 V5 V6 V7 V8 V9)
      (fun b l hb => by unfold outRows; rw [if_neg (by omega), if_neg (by omega), if_neg (by omega), if_pos rfl])
      (fun b l hb => by unfold outRows; rw [if_neg (by omega), if_neg (by omega), if_neg (by omega), if_neg (by omega)])
      a r l _ le_rfl (fun h => h10 a r l (show a.val ≤ 2 by omega))
    rwa [List.append_nil] at this
  sl_exec
  sl_unfold_run_names
  sl_step
  icases H13 with ⟨%f13, %h13, H13⟩
  icases H14 with ⟨%f14, %h14, H14⟩
  icases H15 with ⟨%f15, %h15, H15⟩
  icases H16 with ⟨%f16, %h16, H16⟩
  icases H18 with ⟨%f18, %h18, H18⟩
  iapply Hk
  isplitl [H1]; · iexact H1
  isplitl [H2]; · iexact H2
  isplitl [H3]; · iexact H3
  isplitl [H4]; · iexists _; isplitr [H4]; rotate_left; · iexact H4
                  ipureintro; exact h4
  isplitl [H5]; · iexists _; isplitr [H5]; rotate_left; · iexact H5
                  ipureintro; exact h5
  isplitl [H6]; · iexact H6
  isplitl [H7]; · iexact H7
  isplitl [H8]; · iexact H8
  isplitl [H9]; · iexact H9
  isplitl [H10]; · iexists _; isplitr [H10]; rotate_left; · iexact H10
                   ipureintro; exact k10
  isplitl [H11]; · iexact H11
  isplitl [H12]; · iexists _; isplitr [H12]; rotate_left; · iexact H12
                   ipureintro; intro r l
                   refine reads_cons (m := 1) (b := 31) _ _ _ _ _ rfl _ ?_ r l fun _ => ?_
                   · intro s l; unfold tapGrads; rw [if_neg (by omega)]; unfold_payloads; simp only [pointwise]
                   refine reads_cons (m := 1) (b := 30) _ _ _ _ _ rfl _ ?_ r l fun _ => ?_
                   · intro s l; exact hv432 s l
                   exact h12 r l (by omega)
  isplitl [H13]; · iexists _; isplitr [H13]; rotate_left; · iexact H13
                   ipureintro; trivial
  isplitl [H14]; · iexists _; isplitr [H14]; rotate_left; · iexact H14
                   ipureintro; trivial
  isplitl [H15]; · iexists _; isplitr [H15]; rotate_left; · iexact H15
                   ipureintro; trivial
  isplitl [H16]; · iexists _; isplitr [H16]; rotate_left; · iexact H16
                   ipureintro; trivial
  isplitl [H17]; · iexists _; isplitr [H17]; rotate_left; · iexact H17
                   ipureintro; trivial
  iexists _; isplitr [H18]; rotate_left; · iexact H18
  ipureintro; trivial

end Cert.ConvBwd

end

end
-- ==== Proof.Run.lean ====
module

public import proofs.«01_k».proof.Proof.Body
public import proofs.«01_k».proof.Proof.Gen.KernelIdeal.Frame
public import Idealize.ShloMosaic.Lib.Claim

@[expose] public section

set_option maxRecDepth 16384

noncomputable section

namespace Cert.ConvBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.ValueIdx (shapeCast_1ab_ab_apply shapeCast_ab_1ab_apply)

variable {F : FTy → Type} [FloatOps F]

local notation "𝕄" => MT nD τ sig Unit (Elt F) ℕ (UR sig nD τ) ℕ

open Idealize.ShloMosaic.Pipeline (Dat Cfg Window BodyObligation cellOf)

/-! ## Owned buffers and what they read -/

section
variable (c : Dev nD)

theorem holds_of_owns {n : ℕ} (m : Memref sig .tc .vmem (⟨2, ![n, 128]⟩ : Shape) .f32) (x : Vec F (⟨2, ![n, 128]⟩ : Shape) .f32) :
    (owns (c : Thread nD τ) m fullShare x : sProp 𝕄) ⊢ Holds c m (Reads m.view · (inp x)) := by
  unfold owns Holds
  iintro ⟨%f, %h, H⟩
  iexists f; isplitr; · ipureintro; exact h ▸ reads_inp m.view f
  iexact H

theorem inp_at {n : ℕ} (x : Vec F (⟨2, ![n, 128]⟩ : Shape) .f32) (r : Fin n) (l : Fin 128) : inp x r.val l = x (ix2 r l) := by
  unfold inp; rw [dif_pos r.isLt]

theorem owns_of_holds {n : ℕ} (m : Memref sig .tc .vmem (⟨2, ![n, 128]⟩ : Shape) .f32) (x : Vec F (⟨2, ![n, 128]⟩ : Shape) .f32) (U : Rows F)
    (hx : ∀ (r : Fin n) (l : Fin 128), U r.val l = x (ix2 r l)) :
    (Holds c m (Reads m.view · U) : sProp 𝕄) ⊢ owns (c : Thread nD τ) m fullShare x := by
  unfold owns Holds
  iintro ⟨%f, %h, H⟩
  iexists f; isplitr
  · ipureintro
    funext y
    obtain ⟨r, l, rfl⟩ : ∃ r l, y = ix2 r l := ⟨_, _, eq_ix2 y⟩
    exact (h r l).trans (hx r l)
  iexact H

theorem owns_of_tables {N n : ℕ} {e : EltTy} (m : Memref sig .tc .vmem (⟨3, ![N, n, 128]⟩ : Shape) e) (x : Vec F (⟨3, ![N, n, 128]⟩ : Shape) e)
    (U : ℕ → ℕ → Fin 128 → Elt F e) (hx : ∀ (a : Fin N) (r : Fin n) (l : Fin 128), U a.val r.val l = x (ix3 a r l)) :
    (Holds c m (Tables (fun _ => True) m.view · U) : sProp 𝕄) ⊢ owns (c : Thread nD τ) m fullShare x := by
  unfold owns Holds
  iintro ⟨%f, %h, H⟩
  iexists f; isplitr
  · ipureintro
    funext y
    obtain ⟨a, r, l, rfl⟩ : ∃ a r l, y = ix3 a r l := ⟨_, _, _, eq_ix3 y⟩
    exact (h a r l trivial).trans (hx a r l)
  iexact H

theorem holds_any {s : Shape} {e : EltTy} (m : Memref sig .tc .vmem s e) (x : s.Idx → Elt F e) :
    (owns (c : Thread nD τ) m fullShare x : sProp 𝕄) ⊢ Holds c m (fun _ => True) := by
  unfold owns Holds
  iintro ⟨%f, %h, H⟩
  iexists f; isplitr; · ipureintro; trivial
  iexact H

theorem whole_holds {s : Shape} {e : EltTy} (m : Memref sig .tc .vmem s e) (h : m.view.set = Finset.univ) :
    (iprop(∃ f : Buf (Elt F) (m.view.loc (c : Thread nD τ)), (m.view.loc (c : Thread nD τ)) ↦{fullShare} f) : sProp 𝕄) ⊢ Holds c m (fun _ => True) := by
  unfold Holds; rw [h]
  iintro ⟨%f, H⟩
  iexists f; isplitr; · ipureintro; trivial
  iexact H

theorem holds_whole {s : Shape} {e : EltTy} (m : Memref sig .tc .vmem s e) (h : m.view.set = Finset.univ) :
    (Holds c m (fun _ => True) : sProp 𝕄) ⊢ iprop(∃ f : Buf (Elt F) (m.view.loc (c : Thread nD τ)), (m.view.loc (c : Thread nD τ)) ↦{fullShare} f) := by
  unfold Holds; rw [h]
  iintro ⟨%f, -, H⟩
  iexists f
  iexact H

end

/-! ## What the body leaves in the three results' buffers, from the nine inputs' blocks -/

def grads (x0 : Vec F S2176x128 .f32) (x1 : Vec F S2176x128 .f32) (x2 : Vec F S2176x128 .f32) (x3 : Vec F S2176x128 .f32) (x4 : Vec F S2176x128 .f32) (x5 : Vec F S2176x128 .f32) (x6 : Vec F S2176x128 .f32) (x7 : Vec F S3x128 .f32) (x8 : Vec F S31x128 .f32) : Vec F S5x2176x128 .bf16 :=
  fun y => outRows (inp x0) (inp x1) (inp x2) (inp x3) (inp x4) (inp x5) (inp x6) (inp x7) (inp x8) (y 0).val (y 1).val (y 2)

def gradA (x0 : Vec F S2176x128 .f32) (x1 : Vec F S2176x128 .f32) (x2 : Vec F S2176x128 .f32) (x3 : Vec F S2176x128 .f32) (x4 : Vec F S2176x128 .f32) (x5 : Vec F S2176x128 .f32) (x6 : Vec F S2176x128 .f32) (x7 : Vec F S3x128 .f32) (x8 : Vec F S31x128 .f32) : Vec F S8x128 .f32 :=
  fun y => tapGrads (before (prod (inp x5) (inp x0))) (behind (prod (inp x1) (inp x2))) 30 3 (y 0).val (y 1)

def gradB (x0 : Vec F S2176x128 .f32) (x1 : Vec F S2176x128 .f32) (x2 : Vec F S2176x128 .f32) (x3 : Vec F S2176x128 .f32) (x4 : Vec F S2176x128 .f32) (x5 : Vec F S2176x128 .f32) (x6 : Vec F S2176x128 .f32) (x7 : Vec F S3x128 .f32) (x8 : Vec F S31x128 .f32) : Vec F S32x128 .f32 :=
  fun y => tapGrads (before (inp x6)) (behind (prod (inp x3) (sig1 (inp x4)))) 2 31 (y 0).val (y 1)

/-! ## The pipeline's data -/

section
variable (m : (ℓ : Loc nD τ sig) → Buf (Elt F) ℓ) (ρ : Dev nD → PrngReg)

/-- The arrays as the region finds them; after the body each input's buffer at its block and each result's at the function of the blocks above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => grads (iblk m c 0 t) (iblk m c 1 t) (iblk m c 2 t) (iblk m c 3 t) (iblk m c 4 t) (iblk m c 5 t) (iblk m c 6 t) (iblk m c 7 t) (iblk m c 8 t)
    | ⟨10, _⟩ => gradA (iblk m c 0 t) (iblk m c 1 t) (iblk m c 2 t) (iblk m c 3 t) (iblk m c 4 t) (iblk m c 5 t) (iblk m c 6 t) (iblk m c 7 t) (iblk m c 8 t)
    | ⟨11, _⟩ => gradB (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = grads (iblk m c 0 t) (iblk m c 1 t) (iblk m c 2 t) (iblk m c 3 t) (iblk m c 4 t) (iblk m c 5 t) (iblk m c 6 t) (iblk m c 7 t) (iblk m c 8 t) := by dsimp only [dats]
theorem after0_10 (c : Dev nD) (t : Fin cfg0.N) : (dats m 0 c).after 10 t = gradA (iblk m c 0 t) (iblk m c 1 t) (iblk m c 2 t) (iblk m c 3 t) (iblk m c 4 t) (iblk m c 5 t) (iblk m c 6 t) (iblk m c 7 t) (iblk m c 8 t) := by dsimp only [dats]
theorem after0_11 (c : Dev nD) (t : Fin cfg0.N) : (dats m 0 c).after 11 t = gradB (iblk m c 0 t) (iblk m c 1 t) (iblk m c 2 t) (iblk m c 3 t) (iblk m c 4 t) (iblk m c 5 t) (iblk m c 6 t) (iblk m c 7 t) (iblk m c 8 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body at a point of the grid -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6, after0_7, after0_8, after0_9, after0_10, after0_11]
  unfold Pipeline.ΦA
  rw [scopedRest0_eq]
  iintro ⟨⟨⟨S0, S1, S2, S3, S4, S5⟩, G⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (body c Set.univ (grid0.coords t) _ _ _ _ _ _ _ _ _ _ _ _ _ _ _ _ _ _ _ _ _ _ _ _ _ _ _ _ _ _ _ _ _ _ _ _ (inp (iblk m c 0 t)) (inp (iblk m c 1 t)) (inp (iblk m c 2 t)) (inp (iblk m c 3 t)) (inp (iblk m c 4 t)) (inp (iblk m c 5 t)) (inp (iblk m c 6 t)) (inp (iblk m c 7 t)) (inp (iblk m c 8 t)) _)
  isplitl [H0 H1 H2 H3 H4 H5 H6 H7 H8 H9 H10 H11 S0 S1 S2 S3 S4 S5]
  · isplitl [H0]; · iapply (holds_of_owns c _ _); iexact H0
    isplitl [H1]; · iapply (holds_of_owns c _ _); iexact H1
    isplitl [H2]; · iapply (holds_of_owns c _ _); iexact H2
    isplitl [H3]; · iapply (holds_of_owns c _ _); iexact H3
    isplitl [H4]; · iapply (holds_of_owns c _ _); iexact H4
    isplitl [H5]; · iapply (holds_of_owns c _ _); iexact H5
    isplitl [H6]; · iapply (holds_of_owns c _ _); iexact H6
    isplitl [H7]; · iapply (holds_of_owns c _ _); iexact H7
    isplitl [H8]; · iapply (holds_of_owns c _ _); iexact H8
    isplitl [H9]; · iapply (holds_any c _ _); iexact H9
    isplitl [H10]; · iapply (holds_any c _ _); iexact H10
    isplitl [H11]; · iapply (holds_any c _ _); iexact H11
    isplitl [S0]; · iapply (whole_holds c (Memref.whole cc0_scratch0) (View.set_whole _)); iexact S0
    isplitl [S1]; · iapply (whole_holds c (Memref.whole cc0_scratch1) (View.set_whole _)); iexact S1
    isplitl [S2]; · iapply (whole_holds c (Memref.whole cc0_scratch2) (View.set_whole _)); iexact S2
    isplitl [S3]; · iapply (whole_holds c (Memref.whole cc0_scratch3) (View.set_whole _)); iexact S3
    isplitl [S4]; · iapply (whole_holds c (Memref.whole cc0_scratch4) (View.set_whole _)); iexact S4
    iapply (whole_holds c (Memref.whole cc0_scratch5) (View.set_whole _)); iexact S5
  iintro ⟨H0, H1, H2, H3, H4, H5, H6, H7, H8, H9, H10, H11, S0, S1, S2, S3, S4, S5⟩
  isplitl [S0 S1 S2 S3 S4 S5 G]
  · isplitl [S0 S1 S2 S3 S4 S5]
    · isplitl [S0]; · iapply (holds_whole c (Memref.whole cc0_scratch0) (View.set_whole _)); iexact S0
      isplitl [S1]; · iapply (holds_whole c (Memref.whole cc0_scratch1) (View.set_whole _)); iexact S1
      isplitl [S2]; · iapply (holds_whole c (Memref.whole cc0_scratch2) (View.set_whole _)); iexact S2
      isplitl [S3]; · iapply (holds_whole c (Memref.whole cc0_scratch3) (View.set_whole _)); iexact S3
      isplitl [S4]; · iapply (holds_whole c (Memref.whole cc0_scratch4) (View.set_whole _)); iexact S4
      iapply (holds_whole c (Memref.whole cc0_scratch5) (View.set_whole _)); iexact S5
    iexact G
  isplitl [Ho]; · iexact Ho
  isplitl [H0]; · iapply (owns_of_holds c _ (iblk m c 0 t) _ (fun r l => inp_at _ r l)); iexact H0
  isplitl [H1]; · iapply (owns_of_holds c _ (iblk m c 1 t) _ (fun r l => inp_at _ r l)); iexact H1
  isplitl [H2]; · iapply (owns_of_holds c _ (iblk m c 2 t) _ (fun r l => inp_at _ r l)); iexact H2
  isplitl [H3]; · iapply (owns_of_holds c _ (iblk m c 3 t) _ (fun r l => inp_at _ r l)); iexact H3
  isplitl [H4]; · iapply (owns_of_holds c _ (iblk m c 4 t) _ (fun r l => inp_at _ r l)); iexact H4
  isplitl [H5]; · iapply (owns_of_holds c _ (iblk m c 5 t) _ (fun r l => inp_at _ r l)); iexact H5
  isplitl [H6]; · iapply (owns_of_holds c _ (iblk m c 6 t) _ (fun r l => inp_at _ r l)); iexact H6
  isplitl [H7]; · iapply (owns_of_holds c _ (iblk m c 7 t) _ (fun r l => inp_at _ r l)); iexact H7
  isplitl [H8]; · iapply (owns_of_holds c _ (iblk m c 8 t) _ (fun r l => inp_at _ r l)); iexact H8
  isplitl [H9]; · iapply (owns_of_tables c _ _ _ (fun _ _ _ => rfl)); iexact H9
  isplitl [H10]; · iapply (owns_of_holds c _ _ _ (fun _ _ => rfl)); iexact H10
  iapply (owns_of_holds c _ _ _ (fun _ _ => rfl)); iexact H11

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
theorem run_both : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_shared (Q' := _) cfgs (dats m) (0 : Fin 1) launch₀0 defs₀ Variants.none m ρ main
    (hbody := fun c => (body_obligation m c).loose) (hq := fun _ _ _ => rfl) (howed := fun _ _ => rfl) (V₀ := V0 m) (opss := [hostOps1])
    (hsub := sfx_sub) (hfresh := sfx_fresh) (hkeep := sfx_keeps) (hmain := hmain m Variants.none) (hA := A_eq m) (hΦ := fun _ _ => rfl)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_both m ρ)

theorem args_kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_both m ρ))

end

end Cert.ConvBwd

end

end
-- ==== Proof.Sums.lean ====
module

public import proofs.«01_k».proof.Proof.Holds
public import Idealize.ShloMosaic.PureOps.Ideal.Laws
public import Idealize.ShloMosaic.Lib.IdealHost
public import Idealize.ShloMosaic.Lib.Pointwise.Reduce

@[expose] public section

set_option maxRecDepth 16384

noncomputable section

namespace Cert.ConvBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.ValueIdx (shapeCast_1ab_ab_apply shapeCast_ab_1ab_apply)

variable {F : FTy → Type} [FloatOps F]

open Finset (range sum_range_succ sum_range_zero sum_congr sum_range_add)

/-! ## What the kernel's loops compute, as sums of extended reals -/

/-- The eight partial sums of a tap after `n` trips add up to the sum over the trips' rows. -/
theorem tapAcc_total (D U : Rows Ideal) (o n : ℕ) (l : Fin 128) :
    ∑ s : Fin 8, tapAcc D U o n (ix2 s l) = ∑ r ∈ range (32 * n), (D r l * U (r + o) l : EReal) := by
  induction n with
  | zero =>
    rw [Nat.mul_zero, sum_range_zero]
    exact Finset.sum_eq_zero fun s _ => Ideal.ofBits_zero_f32
  | succ n ih =>
    rw [Nat.mul_succ, sum_range_add, ← ih]
    let trip (i : ℕ) : EReal := D (32 * n + i) l * U (32 * n + (i + o)) l
    have term (s : Fin 8) : tapAcc D U o (n + 1) (ix2 s l) = (tapAcc D U o n (ix2 s l) + (trip (s.val + 0) + trip (s.val + 8) + trip (s.val + 16) + trip (s.val + 24)) : EReal) :=
      congrArg (tapAcc D U o n (ix2 s l) + ·) (by simp only [trip, Nat.add_assoc]; rfl)
    rw [sum_congr rfl fun s _ => term s, Finset.sum_add_distrib]
    refine congrArg (_ + ·) ?_
    have e : (∑ x ∈ range 32, (D (32 * n + x) l * U (32 * n + x + o) l : EReal)) = ∑ x ∈ range 32, trip x :=
      sum_congr rfl fun x _ => by simp only [trip]; rw [Nat.add_assoc (32 * n) x o]
    rw [e, Fin.sum_univ_eq_sum_range (fun s => trip (s + 0) + trip (s + 8) + trip (s + 16) + trip (s + 24)) 8]
    simp only [sum_range_succ, sum_range_zero, Nat.reduceAdd]
    abel

theorem laneSum_eq (a : FVec Ideal S8x128 .f32) (r : ℕ) (l : Fin 128) : laneSum a r l = (∑ s : Fin 8, a (ix2 s l) : EReal) := by
  unfold laneSum
  exact Ideal.reduceAdd_r2_a0 reduces_S8x128_S128 a (ix1 l)

/-- No row below the padding nor beyond the array holds anything but zero. -/
def Padded (U : Rows Ideal) : Prop := ∀ r l, r < 112 ∨ 2176 ≤ r → U r l = (0 : EReal)

theorem before_padded {D : Rows Ideal} (h : Padded D) : before D = D := by
  funext r l
  unfold before
  split
  · rfl
  · rename_i hr
    exact (Ideal.ofBits_zero_f32).trans (h r l (.inr (by omega))).symm

theorem behind_at (U : Rows Ideal) (r : ℕ) (l : Fin 128) (h : r < 2176) : behind U (r + 32) l = U r l := by
  unfold behind
  rw [if_pos ⟨by omega, by omega⟩, Nat.add_sub_cancel]

theorem padded_prod_left {A : Rows Ideal} (B : Rows Ideal) (h : Padded A) : Padded (prod A B) := fun r l hr => by
  show (A r l * B r l : EReal) = 0
  rw [h r l hr, zero_mul]

/-- The gradient of tap `k` of `n`: the correlation of the cotangent's rows with the input's, `n - 1 - k` rows above. -/
theorem tapGrads_eq {D U : Rows Ideal} (hD : Padded D) (n o k : ℕ) (hn : o + n = 33) (hk : k < n) (l : Fin 128) :
    tapGrads (before D) (behind U) o n k l = ∑ t ∈ range 2064, (D (t + 112) l * U (t + 113 + k - n) l : EReal) := by
  unfold tapGrads
  rw [if_pos hk, laneSum_eq, tapAcc_total, before_padded hD, show 32 * 68 = 112 + 2064 from rfl, sum_range_add,
    Finset.sum_eq_zero fun r hr => by rw [hD r l (.inl (Finset.mem_range.mp hr)), zero_mul], zero_add]
  refine sum_congr rfl fun t ht => ?_
  have ht := Finset.mem_range.mp ht
  rw [show 112 + t + (k + o) = (t + 113 + k - n) + 32 by omega, behind_at _ _ _ (by omega), Nat.add_comm 112 t]

theorem tapGrads_beyond (D U : Rows Ideal) (n o k : ℕ) (hk : ¬k < n) (l : Fin 128) : tapGrads D U o n k l = (0 : EReal) := by
  unfold tapGrads
  rw [if_neg hk]
  exact Ideal.ofBits_zero_f32

theorem tapFold_eq (W D : Rows Ideal) (r : ℕ) (l : Fin 128) (L : List (ℕ × ℕ)) (a : EReal) :
    tapFold W D r l a L = (a + (L.map fun p => (W p.1 l * D (r + p.2) l : EReal)).sum : EReal) := by
  induction L generalizing a with
  | nil => exact (add_zero a).symm
  | cons p L ih => exact (ih _).trans (by rw [List.map_cons, List.sum_cons]; exact add_assoc _ _ _)

/-- The weighted sum over a list of taps, whatever their order. -/
theorem tapRows_eq (W D : Rows Ideal) (L : List (ℕ × ℕ)) (n : ℕ) (h : L.Perm ((List.range (n + 1)).map fun k => (k, n - k))) (r : ℕ) (l : Fin 128) :
    tapRows W D L r l = ∑ k ∈ range (n + 1), (W k l * D (r + (n - k)) l : EReal) := by
  have e : tapRows W D L r l = ((L.map fun p => (W p.1 l * D (r + p.2) l : EReal)).sum : EReal) := by
    cases L with
    | nil => exact Ideal.ofBits_zero_f32
    | cons p L => exact tapFold_eq W D r l L _
  rw [e, (h.map _).sum_eq, List.map_map]
  rfl

theorem taps3_perm : taps3.Perm ((List.range (2 + 1)).map fun k => (k, 2 - k)) := by decide
theorem taps31_perm : taps31.Perm ((List.range (30 + 1)).map fun k => (k, 30 - k)) := by decide

end Cert.ConvBwd

end

end
-- ==== Proof.Reference.lean ====
module

public import proofs.«01_k».proof.Proof.Gen.ReferenceIdeal.Read
public import proofs.«01_k».proof.Proof.Sums
public import Idealize.ShloMosaic.Lib.TwoAxisContraction
public import Idealize.ShloMosaic.Lib.WordCmp
public import Idealize.ShloMosaic.Lib.KernelVsHost

@[expose] public section

set_option maxRecDepth 16384

noncomputable section

namespace Cert.ConvBwd

open Cert.ReferenceIdeal Cert.ReferenceIdeal.Gen Cert.ReferenceIdeal.Read
open Idealize.ShloMosaic Idealize.ShloMosaic.TcCoe

/-! ## The reference's values, entry by entry

The reference convolves by a product with a 0/1 matrix `M k t s = 1 ↔ s + n = t + k`. A sum against a row of the matrix
picks one entry, and against a column likewise. -/

/-- The condition of the reference's 0/1 matrix, computed on 32-bit words, is the equation on the numbers. -/
theorem matrix_entry {α : Type} (n k s t : ℕ) (hn : n ≤ 30) (hk : k ≤ 30) (hs : s < 2064) (ht : t < 2064) (a b : α) :
    Scalar.select (IntOp.cmpi .eq (BitVec.ofNat 32 s) (IntOp.addi (IntOp.subi (BitVec.ofNat 32 t) (BitVec.ofNat 32 n)) (BitVec.ofNat 32 k))) a b
      = if s + n = t + k then a else b := by
  have e : (IntOp.cmpi .eq (BitVec.ofNat 32 s) (IntOp.addi (IntOp.subi (BitVec.ofNat 32 t) (BitVec.ofNat 32 n)) (BitVec.ofNat 32 k)) = 1)
      ↔ s + n = t + k := by
    rw [show (1 : BitVec 1) = 1#1 from rfl, IntOp.cmpi_eq]
    unfold IntOp.addi IntOp.subi
    rw [← BitVec.toNat_inj]
    simp only [BitVec.toNat_add, BitVec.toNat_sub, BitVec.toNat_ofNat]
    omega
  unfold Scalar.select
  by_cases h : s + n = t + k
  · rw [if_pos (e.mpr h), if_pos h]
  · rw [if_neg (fun h' => h (e.mp h')), if_neg h]

/-- A row of the 0/1 matrix times a column of data that vanishes before row 112 picks the shifted entry. -/
theorem pick_row (n k : ℕ) (hk : k ≤ n) (hn : n ≤ 112) (P : ℕ → EReal) (hP : ∀ r, r < 112 → P r = 0) (t : ℕ) (ht : t < 2064) :
    ∑ s : Fin 2064, (if s.val + n = t + k then (1 : EReal) else 0) * P (s.val + 112) = P (t + 112 + k - n) := by
  by_cases h : n ≤ t + k
  · rw [Finset.sum_eq_single (⟨t + k - n, by omega⟩ : Fin 2064)]
    · rw [if_pos (show t + k - n + n = t + k by omega), one_mul]
      exact congrArg P (show t + k - n + 112 = t + 112 + k - n by omega)
    · intro s _ hs
      rw [if_neg (fun e => hs (Fin.ext (show s.val = t + k - n by omega))), zero_mul]
    · exact fun h => absurd (Finset.mem_univ _) h
  · rw [hP _ (by omega)]
    refine Finset.sum_eq_zero fun s _ => ?_
    rw [if_neg (by omega), zero_mul]

/-- Weighted data that vanishes from row 2176 on, against a column of the 0/1 matrix, picks the entry shifted the other way. -/
theorem pick_column (n k : ℕ) (hk : k ≤ n) (w : EReal) (P : ℕ → EReal) (hP : ∀ r, 2176 ≤ r → P r = 0) (s : ℕ) (hs : s < 2064) :
    ∑ t : Fin 2064, w * P (t.val + 112) * (if s + n = t.val + k then (1 : EReal) else 0) = w * P (s + 112 + (n - k)) := by
  by_cases h : s + n - k < 2064
  · rw [Finset.sum_eq_single (⟨s + n - k, h⟩ : Fin 2064)]
    · rw [if_pos (show s + n = s + n - k + k by omega), mul_one]
      exact congrArg (fun z => w * P z) (show s + n - k + 112 = s + 112 + (n - k) by omega)
    · intro t _ ht
      rw [if_neg (fun e => ht (Fin.ext (show t.val = s + n - k by omega))), mul_zero]
    · exact fun h => absurd (Finset.mem_univ _) h
  · rw [hP _ (by omega), mul_zero]
    refine Finset.sum_eq_zero fun t _ => ?_
    rw [if_neg (by have := t.isLt; omega), mul_zero]

theorem one_bits : (FloatOps.ofBits (F := Ideal) .f32 0x3F800000#32 : EReal) = 1 := Ideal.ofBits_one_f32

theorem zero_bits : (FloatOps.ofBits (F := Ideal) .f32 0x00000000#32 : EReal) = 0 := Ideal.ofBits_zero_f32

/-- The 3-tap 0/1 matrix. -/
theorem matrix3 (k : Fin 3) (t s : Fin 2064) :
    val_main_v14 (F := Ideal) (ix3 k t s) = if s.val + 2 = t.val + k.val then (1 : EReal) else 0 := by
  rw [val_main_v14_apply, val_main_v13_apply, val_main_v12_apply, val_main_v8_apply, val_main_v11_apply, val_main_v10_apply,
    val_main_v7_apply, val_main_v9_apply, val_main_v6_apply, val_main_c_apply, val_main_call0_v0_apply, val_main_call0_v1_apply,
    val_main_cst_apply, val_main_cst_0_apply, one_bits, zero_bits]
  exact matrix_entry 2 k.val s.val t.val (by omega) (by have := k.isLt; omega) s.isLt t.isLt _ _

/-- The 31-tap 0/1 matrix. -/
theorem matrix31 (k : Fin 31) (t s : Fin 2064) :
    val_main_v39 (F := Ideal) (ix3 k t s) = if s.val + 30 = t.val + k.val then (1 : EReal) else 0 := by
  rw [val_main_v39_apply, val_main_v38_apply, val_main_v37_apply, val_main_v33_apply, val_main_v36_apply, val_main_v35_apply,
    val_main_v32_apply, val_main_v34_apply, val_main_v31_apply, val_main_c_5_apply, val_main_call1_v0_apply, val_main_call1_v1_apply,
    val_main_cst_6_apply, val_main_cst_7_apply, one_bits, zero_bits]
  exact matrix_entry 30 k.val s.val t.val (by omega) (by have := k.isLt; omega) s.isLt t.isLt _ _

section TwoAxes

/-- The 3-tap product over taps and rows at an entry. -/
theorem back3 (A : Vec Ideal S3x2064x512 .f32) (M : Vec Ideal S3x2064x2064 .f32) (q : Fin 512) (s : Fin 2064) :
    Host.dotGeneral (F := Ideal) (φ₁ := .f32) (φ₂ := .f32) dot_S3x2064x512_S3x2064x2064_S512x2064_01_01_2_2_n_n none A M (ix2 q s)
      = ∑ k : Fin 3, ∑ t : Fin 2064, (A (ix3 k t q) * M (ix3 k t s) : EReal) := by
  simp only [Host.dotGeneral]
  rw [Ideal.dotGeneral_apply, ValueIdx.sum_contr2 dot_S3x2064x512_S3x2064x2064_S512x2064_01_01_2_2_n_n 3 2064 rfl rfl rfl]
  refine Finset.sum_congr rfl fun k _ => Finset.sum_congr rfl fun t _ => ?_
  have h0 := ValueIdx.contrEquiv2_symm_val0 dot_S3x2064x512_S3x2064x2064_S512x2064_01_01_2_2_n_n 3 2064 rfl rfl rfl (k, t)
  have h1 := ValueIdx.contrEquiv2_symm_val1 dot_S3x2064x512_S3x2064x2064_S512x2064_01_01_2_2_n_n 3 2064 rfl rfl rfl (k, t)
  refine congrArg₂ (fun a b : EReal => a * b) (congrArg A ?_) (congrArg M ?_)
  · funext a
    refine Fin.ext ?_
    unfold DotDims.lhsIdx
    match a with
    | ⟨0, _⟩ =>
      rw [dif_neg (by decide +revert), dif_neg (by decide +revert)]
      exact h0
    | ⟨1, _⟩ =>
      rw [dif_neg (by decide +revert), dif_neg (by decide +revert)]
      exact h1
    | ⟨2, _⟩ =>
      rw [dif_neg (by decide +revert), dif_pos (by decide +revert)]
      rfl
  · funext a
    refine Fin.ext ?_
    unfold DotDims.rhsIdx
    match a with
    | ⟨0, _⟩ =>
      rw [dif_neg (by decide +revert), dif_neg (by decide +revert)]
      exact h0
    | ⟨1, _⟩ =>
      rw [dif_neg (by decide +revert), dif_neg (by decide +revert)]
      exact h1
    | ⟨2, _⟩ =>
      rw [dif_neg (by decide +revert), dif_pos (by decide +revert)]
      rfl

/-- The 31-tap product over taps and rows at an entry. -/
theorem back31 (A : Vec Ideal S31x2064x512 .f32) (M : Vec Ideal S31x2064x2064 .f32) (q : Fin 512) (s : Fin 2064) :
    Host.dotGeneral (F := Ideal) (φ₁ := .f32) (φ₂ := .f32) dot_S31x2064x512_S31x2064x2064_S512x2064_01_01_2_2_n_n none A M (ix2 q s)
      = ∑ k : Fin 31, ∑ t : Fin 2064, (A (ix3 k t q) * M (ix3 k t s) : EReal) := by
  simp only [Host.dotGeneral]
  rw [Ideal.dotGeneral_apply, ValueIdx.sum_contr2 dot_S31x2064x512_S31x2064x2064_S512x2064_01_01_2_2_n_n 31 2064 rfl rfl rfl]
  refine Finset.sum_congr rfl fun k _ => Finset.sum_congr rfl fun t _ => ?_
  have h0 := ValueIdx.contrEquiv2_symm_val0 dot_S31x2064x512_S31x2064x2064_S512x2064_01_01_2_2_n_n 31 2064 rfl rfl rfl (k, t)
  have h1 := ValueIdx.contrEquiv2_symm_val1 dot_S31x2064x512_S31x2064x2064_S512x2064_01_01_2_2_n_n 31 2064 rfl rfl rfl (k, t)
  refine congrArg₂ (fun a b : EReal => a * b) (congrArg A ?_) (congrArg M ?_)
  · funext a
    refine Fin.ext ?_
    unfold DotDims.lhsIdx
    match a with
    | ⟨0, _⟩ =>
      rw [dif_neg (by decide +revert), dif_neg (by decide +revert)]
      exact h0
    | ⟨1, _⟩ =>
      rw [dif_neg (by decide +revert), dif_neg (by decide +revert)]
      exact h1
    | ⟨2, _⟩ =>
      rw [dif_neg (by decide +revert), dif_pos (by decide +revert)]
      rfl
  · funext a
    refine Fin.ext ?_
    unfold DotDims.rhsIdx
    match a with
    | ⟨0, _⟩ =>
      rw [dif_neg (by decide +revert), dif_neg (by decide +revert)]
      exact h0
    | ⟨1, _⟩ =>
      rw [dif_neg (by decide +revert), dif_neg (by decide +revert)]
      exact h1
    | ⟨2, _⟩ =>
      rw [dif_neg (by decide +revert), dif_pos (by decide +revert)]
      rfl

end TwoAxes

/-! ## A column block of the step's arrays and the reference's values on it -/

/-- The rows `V` hold 128 columns of `x`, one column `q l` per lane, below 112 rows of zeros. -/
structure Column (V : Rows Ideal) (x : Vec Ideal (⟨2, ![2064, 512]⟩ : Shape) .f32) (q : Fin 128 → Fin 512) : Prop where
  zeros : Padded V
  entry : ∀ (t : Fin 2064) (l : Fin 128), V (t.val + 112) l = x (ix2 t (q l))

section Block
variable {q : Fin 128 → Fin 512} {x0 : Vec Ideal (⟨2, ![2064, 2560]⟩ : Shape) .f32} {x1 x2 : Vec Ideal (⟨2, ![2064, 512]⟩ : Shape) .f32}
  {x3 : Vec Ideal (⟨2, ![3, 512]⟩ : Shape) .f32} {x4 : Vec Ideal (⟨2, ![31, 512]⟩ : Shape) .f32}

theorem gate_entry (t : Fin 2064) (p : Fin 512) :
    val_main_v26 (F := Ideal) x0 (ix2 t p) = Ideal.logistic (val_main_v4 (F := Ideal) x0 (ix2 t p)) := by
  rw [val_main_v26_apply, val_main_v25_apply, val_main_cst_3_apply, val_main_v24_apply, val_main_v23_apply, val_main_cst_2_apply,
    val_main_v22_apply, val_main_v21_apply, one_bits]
  rfl

theorem column_short {V2 V3 : Rows Ideal} (h2 : Column V2 (val_main_v1 (F := Ideal) x0) q) (h3 : Column V3 (val_main_v2 (F := Ideal) x0) q) :
    Column (prod V2 V3) (val_main_v5 (F := Ideal) x0) q :=
  ⟨padded_prod_left _ h2.zeros, fun t l => by
    rw [val_main_v5_apply, ← h2.entry, ← h3.entry]; rfl⟩

theorem column_long {V4 V5 : Rows Ideal} (h4 : Column V4 (val_main_v3 (F := Ideal) x0) q) (h5 : Column V5 (val_main_v4 (F := Ideal) x0) q) :
    Column (prod V4 (sig1 V5)) (val_main_v30 (F := Ideal) x0) q :=
  ⟨padded_prod_left _ h4.zeros, fun t l => by
    rw [val_main_v30_apply, gate_entry, ← h4.entry, ← h5.entry]; rfl⟩

theorem column_cotangent {V1 V6 : Rows Ideal} (h1 : Column V1 (val_main_v0 (F := Ideal) x0) q) (h6 : Column V6 x1 q) :
    Column (prod V6 V1) (val_main_v57 (F := Ideal) x0 x1) q :=
  ⟨padded_prod_left _ h6.zeros, fun t l => by
    rw [val_main_v57_apply, ← h1.entry, ← h6.entry]; exact mul_comm (G := EReal) _ _⟩

/-- The reference's 3-tap windows read the shifted rows. -/
theorem window3 {U : Rows Ideal} (h : Column U (val_main_v5 (F := Ideal) x0) q) (k : Fin 3) (t : Fin 2064) (l : Fin 128) :
    val_main_v16 (F := Ideal) x0 (ix3 k t (q l)) = U (t.val + 112 + k.val - 2) l := by
  rw [val_main_v16_apply]
  refine Eq.trans (Finset.sum_congr rfl fun s _ => ?_)
    (pick_row 2 k.val (by have := k.isLt; omega) (by omega) (fun r => U r l) (fun r hr => h.zeros r l (Or.inl hr)) t.val t.isLt)
  refine congrArg₂ (fun a b : EReal => a * b) ?_ ?_
  · exact (congrArg (val_main_v14 (F := Ideal)) (eq_ix3 (lidx_main_v16 (ix3 k t (q l)) s))).trans (matrix3 k t s)
  · exact (congrArg (val_main_v5 (F := Ideal) x0) (eq_ix2 (ridx_main_v16 (ix3 k t (q l)) s))).trans (h.entry s l).symm

/-- The reference's 31-tap windows read the shifted rows. -/
theorem window31 {U : Rows Ideal} (h : Column U (val_main_v30 (F := Ideal) x0) q) (k : Fin 31) (t : Fin 2064) (l : Fin 128) :
    val_main_v41 (F := Ideal) x0 (ix3 k t (q l)) = U (t.val + 112 + k.val - 30) l := by
  rw [val_main_v41_apply]
  refine Eq.trans (Finset.sum_congr rfl fun s _ => ?_)
    (pick_row 30 k.val (by have := k.isLt; omega) (by omega) (fun r => U r l) (fun r hr => h.zeros r l (Or.inl hr)) t.val t.isLt)
  refine congrArg₂ (fun a b : EReal => a * b) ?_ ?_
  · exact (congrArg (val_main_v39 (F := Ideal)) (eq_ix3 (lidx_main_v41 (ix3 k t (q l)) s))).trans (matrix31 k t s)
  · exact (congrArg (val_main_v30 (F := Ideal) x0) (eq_ix2 (ridx_main_v41 (ix3 k t (q l)) s))).trans (h.entry s l).symm

/-- The reference's gradient of the short convolution's input. -/
theorem input3 {D W : Rows Ideal} (h : Column D (val_main_v57 (F := Ideal) x0 x1) q)
    (hw : ∀ (k : Fin 3) (l : Fin 128), W k.val l = x3 (ix2 k (q l))) (s : Fin 2064) (l : Fin 128) :
    val_main_v66 (F := Ideal) x0 x1 x3 (ix2 s (q l)) = tapRows W D taps3 (s.val + 112) l := by
  rw [val_main_v66_apply, tapRows_eq W D taps3 2 taps3_perm, ← Fin.sum_univ_eq_sum_range (fun k => (W k l * D (s.val + 112 + (2 - k)) l : EReal)) 3]
  refine (congrArg (val_main_v65 (F := Ideal) x0 x1 x3) (eq_ix2 _)).trans ((back3 _ _ (q l) s).trans (Finset.sum_congr rfl fun k _ => ?_))
  refine Eq.trans (Finset.sum_congr rfl fun t _ => ?_)
    (pick_column 2 k.val (by have := k.isLt; omega) (W k.val l) (fun r => D r l) (fun r hr => h.zeros r l (Or.inr hr)) s.val s.isLt)
  refine congrArg₂ (fun a b : EReal => a * b) ?_ (matrix3 k t s)
  rw [val_main_v61_apply, val_main_v60_apply, val_main_v15_apply, val_main_v59_apply]
  refine congrArg₂ (fun a b : EReal => a * b) ?_ ?_
  · exact (congrArg x3 (eq_ix2 _)).trans (hw k l).symm
  · exact (congrArg (val_main_v57 (F := Ideal) x0 x1) (eq_ix2 _)).trans (h.entry t l).symm

/-- The reference's gradient of the long convolution's input. -/
theorem input31 {D W : Rows Ideal} (h : Column D x2 q)
    (hw : ∀ (k : Fin 31) (l : Fin 128), W k.val l = x4 (ix2 k (q l))) (s : Fin 2064) (l : Fin 128) :
    val_main_v52 (F := Ideal) x2 x4 (ix2 s (q l)) = tapRows W D taps31 (s.val + 112) l := by
  rw [val_main_v52_apply, tapRows_eq W D taps31 30 taps31_perm, ← Fin.sum_univ_eq_sum_range (fun k => (W k l * D (s.val + 112 + (30 - k)) l : EReal)) 31]
  refine (congrArg (val_main_v51 (F := Ideal) x2 x4) (eq_ix2 _)).trans ((back31 _ _ (q l) s).trans (Finset.sum_congr rfl fun k _ => ?_))
  refine Eq.trans (Finset.sum_congr rfl fun t _ => ?_)
    (pick_column 30 k.val (by have := k.isLt; omega) (W k.val l) (fun r => D r l) (fun r hr => h.zeros r l (Or.inr hr)) s.val s.isLt)
  refine congrArg₂ (fun a b : EReal => a * b) ?_ (matrix31 k t s)
  rw [val_main_v47_apply, val_main_v46_apply, val_main_v40_apply, val_main_v45_apply]
  refine congrArg₂ (fun a b : EReal => a * b) ?_ ?_
  · exact (congrArg x4 (eq_ix2 _)).trans (hw k l).symm
  · exact (congrArg x2 (eq_ix2 _)).trans (h.entry t l).symm

/-- The reference's short convolution. -/
theorem forward3 {U W : Rows Ideal} (h : Column U (val_main_v5 (F := Ideal) x0) q)
    (hw : ∀ (k : Fin 3) (l : Fin 128), W k.val l = x3 (ix2 k (q l))) (t : Fin 2064) (l : Fin 128) :
    val_main_v19 (F := Ideal) x0 x3 (ix2 t (q l)) = W 0 l * U (t.val + 112 - 2) l + W 1 l * U (t.val + 112 - 1) l + W 2 l * U (t.val + 112) l := by
  have e : ∀ k : Fin 3, val_main_v18 (F := Ideal) x0 x3 (idx_main_v19 (ix2 t (q l)) k) = (W k.val l * U (t.val + 112 + k.val - 2) l : EReal) := fun k => by
    rw [val_main_v18_apply, val_main_v17_apply, val_main_v15_apply]
    refine congrArg₂ (fun a b : EReal => a * b) ?_ ?_
    · exact (congrArg x3 (eq_ix2 _)).trans (hw k l).symm
    · exact (congrArg (val_main_v16 (F := Ideal) x0) (eq_ix3 _)).trans (window3 h k t l)
  rw [val_main_v19_apply, val_main_cst_1_apply, zero_bits, zero_add, Fin.sum_univ_three, e 0, e 1, e 2]
  rfl

/-- The reference's gradient of the short convolution's taps. -/
theorem taps3_entry {D U : Rows Ideal} (hD : Column D (val_main_v57 (F := Ideal) x0 x1) q) (hU : Column U (val_main_v5 (F := Ideal) x0) q)
    (k : Fin 3) (l : Fin 128) :
    val_main_v67 (F := Ideal) x0 x1 (ix2 k (q l)) = ∑ t ∈ Finset.range 2064, (D (t + 112) l * U (t + 113 + k.val - 3) l : EReal) := by
  rw [val_main_v67_apply, val_main_cst_12_apply, zero_bits, zero_add, Fin.sum_univ_one, val_main_v64_apply,
    ← Fin.sum_univ_eq_sum_range (fun t => (D (t + 112) l * U (t + 113 + k.val - 3) l : EReal)) 2064]
  have hq := (q l).isLt
  have hk := k.isLt
  refine (congrArg (val_main_v63 (F := Ideal) x0 x1) (?_ : _ = ix2 k (q l))).trans ?_
  · refine (eq_ix2 _).trans (congrArg₂ ix2 (Fin.ext ?_) (Fin.ext ?_))
    · show ((k.val * 1 + 0) * 512 + (q l).val) / 512 = k.val
      omega
    · show ((k.val * 1 + 0) * 512 + (q l).val) % 512 = (q l).val
      omega
  rw [val_main_v63_apply, val_main_cst_11_apply, zero_bits, zero_add]
  refine Finset.sum_congr rfl fun t _ => ?_
  rw [val_main_v62_apply, val_main_v59_apply]
  refine congrArg₂ (fun a b : EReal => a * b) ?_ ?_
  · exact (congrArg (val_main_v57 (F := Ideal) x0 x1) (eq_ix2 _)).trans (hD.entry t l).symm
  · refine (congrArg (val_main_v16 (F := Ideal) x0) (eq_ix3 _)).trans ((window3 hU k t l).trans ?_)
    exact congrArg (fun r => U r l) (show t.val + 112 + k.val - 2 = t.val + 113 + k.val - 3 by omega)

/-- The reference's gradient of the long convolution's taps. -/
theorem taps31_entry {D U : Rows Ideal} (hD : Column D x2 q) (hU : Column U (val_main_v30 (F := Ideal) x0) q)
    (k : Fin 31) (l : Fin 128) :
    val_main_v53 (F := Ideal) x0 x2 (ix2 k (q l)) = ∑ t ∈ Finset.range 2064, (D (t + 112) l * U (t + 113 + k.val - 31) l : EReal) := by
  rw [val_main_v53_apply, val_main_cst_10_apply, zero_bits, zero_add, Fin.sum_univ_one, val_main_v50_apply,
    ← Fin.sum_univ_eq_sum_range (fun t => (D (t + 112) l * U (t + 113 + k.val - 31) l : EReal)) 2064]
  have hq := (q l).isLt
  have hk := k.isLt
  refine (congrArg (val_main_v49 (F := Ideal) x0 x2) (?_ : _ = ix2 k (q l))).trans ?_
  · refine (eq_ix2 _).trans (congrArg₂ ix2 (Fin.ext ?_) (Fin.ext ?_))
    · show ((k.val * 1 + 0) * 512 + (q l).val) / 512 = k.val
      omega
    · show ((k.val * 1 + 0) * 512 + (q l).val) % 512 = (q l).val
      omega
  rw [val_main_v49_apply, val_main_cst_9_apply, zero_bits, zero_add]
  refine Finset.sum_congr rfl fun t _ => ?_
  rw [val_main_v48_apply, val_main_v45_apply]
  refine congrArg₂ (fun a b : EReal => a * b) ?_ ?_
  · exact (congrArg x2 (eq_ix2 _)).trans (hD.entry t l).symm
  · refine (congrArg (val_main_v41 (F := Ideal) x0) (eq_ix3 _)).trans ((window31 hU k t l).trans ?_)
    exact congrArg (fun r => U r l) (show t.val + 112 + k.val - 30 = t.val + 113 + k.val - 31 by omega)

/-! ### The three results on a column block -/

section Agree
variable {V1 V2 V3 V4 V5 V6 V7 V8 V9 : Rows Ideal}

/-- Part `a` of the gradient of the mixer's input, as rows, before rounding. -/
theorem part_entry (a : Fin 5) (t : Fin 2064) (p : Fin 512) :
    val_main_v73 (F := Ideal) x0 x1 x2 x3 x4 (ix3 a t p)
      = val_main_v70 (F := Ideal) x0 x1 x2 x3 x4 (ix2 t ⟨512 * a.val + p.val, by have := a.isLt; have := p.isLt; omega⟩) := by
  have ha := a.isLt
  have hp := p.isLt
  rw [val_main_v73_apply, val_main_v72_apply, val_main_v71_apply]
  refine (congrArg (val_main_v70 (F := Ideal) x0 x1 x2 x3 x4) (?_ : _ = ix2 t ⟨512 * a.val + p.val, _⟩))
  refine (eq_ix2 _).trans (congrArg₂ ix2 (Fin.ext ?_) (Fin.ext ?_))
  · show ((t.val * 5 + a.val) * 512 + p.val) / 2560 = t.val
    omega
  · show ((t.val * 5 + a.val) * 512 + p.val) % 2560 = 512 * a.val + p.val
    omega

theorem concat_entry (y : Fin 5 → Vec Ideal (⟨2, ![2064, 512]⟩ : Shape) .f32)
    (h : Shape.Concatenates (([⟨S2064x512, y 0⟩, ⟨S2064x512, y 1⟩, ⟨S2064x512, y 2⟩, ⟨S2064x512, y 3⟩, ⟨S2064x512, y 4⟩] :
      List ((s : Shape) × (s.Idx → EReal))).map (·.1)) S2064x2560 1)
    (a : Fin 5) (t : Fin 2064) (p : Fin 512) (hb : 512 * a.val + p.val < 2560) :
    concatenate S2064x2560 1 ([⟨S2064x512, y 0⟩, ⟨S2064x512, y 1⟩, ⟨S2064x512, y 2⟩, ⟨S2064x512, y 3⟩, ⟨S2064x512, y 4⟩] :
      List ((s : Shape) × (s.Idx → EReal))) h (ix2 t ⟨512 * a.val + p.val, hb⟩) = y a (ix2 t p) := by
  refine concatenate_apply_piece (t := S2064x2560) 1 _ h (ix2 t ⟨512 * a.val + p.val, hb⟩) a.val a.isLt S2064x512 (y a) ?_ rfl (512 * a.val) ?_ (ix2 t p) ?_ ?_
  · fin_cases a <;> rfl
  · fin_cases a <;> rfl
  · intro b hb'
    match b with
    | ⟨0, _⟩ => rfl
    | ⟨1, _⟩ => exact absurd rfl hb'
  · rfl

theorem v70_entry (a : Fin 5) (t : Fin 2064) (p : Fin 512) (hb : 512 * a.val + p.val < 2560) :
    val_main_v70 (F := Ideal) x0 x1 x2 x3 x4 (ix2 t ⟨512 * a.val + p.val, hb⟩)
      = (![val_main_v58 (F := Ideal) x0 x1 x3, val_main_v69 (F := Ideal) x0 x1 x3, val_main_v68 (F := Ideal) x0 x1 x3,
          val_main_v55 (F := Ideal) x0 x2 x4, val_main_v56 (F := Ideal) x0 x2 x4] a) (ix2 t p) :=
  concat_entry ![val_main_v58 (F := Ideal) x0 x1 x3, val_main_v69 (F := Ideal) x0 x1 x3, val_main_v68 (F := Ideal) x0 x1 x3,
          val_main_v55 (F := Ideal) x0 x2 x4, val_main_v56 (F := Ideal) x0 x2 x4] _ a t p hb

theorem agree_rows (h1 : Column V1 (val_main_v0 (F := Ideal) x0) q) (h2 : Column V2 (val_main_v1 (F := Ideal) x0) q)
    (h3 : Column V3 (val_main_v2 (F := Ideal) x0) q) (h4 : Column V4 (val_main_v3 (F := Ideal) x0) q)
    (h5 : Column V5 (val_main_v4 (F := Ideal) x0) q) (h6 : Column V6 x1 q) (h7 : Column V7 x2 q)
    (h8 : ∀ (k : Fin 3) (l : Fin 128), V8 k.val l = x3 (ix2 k (q l))) (h9 : ∀ (k : Fin 31) (l : Fin 128), V9 k.val l = x4 (ix2 k (q l)))
    (a : Fin 5) (t : Fin 2064) (l : Fin 128) :
    outRows V1 V2 V3 V4 V5 V6 V7 V8 V9 a.val (t.val + 112) l = val_main_v73 (F := Ideal) x0 x1 x2 x3 x4 (ix3 a t (q l)) := by
  have ht := t.isLt
  have hU := column_short h2 h3
  have hD := column_cotangent h1 h6
  rw [part_entry, v70_entry]
  unfold outRows
  rw [before_padded hD.zeros, before_padded h7.zeros, ← input3 hD h8 t l, ← input31 h7 h9 t l, h2.entry, h3.entry, h4.entry, h5.entry, h6.entry]
  match a with
  | ⟨0, _⟩ =>
    rw [if_pos rfl]
    have b : ∀ j, j ≤ 2 → behind (prod V2 V3) (t.val + 112 + (30 + j)) l = prod V2 V3 (t.val + 112 + j - 2) l := fun j hj => by
      rw [show t.val + 112 + (30 + j) = (t.val + 112 + j - 2) + 32 by omega]
      exact behind_at _ _ _ (by omega)
    show (_ : EReal) = val_main_v58 (F := Ideal) x0 x1 x3 (ix2 t (q l))
    rw [val_main_v58_apply, forward3 hU h8]
    rw [show t.val + 112 + 30 = t.val + 112 + (30 + 0) from rfl, show t.val + 112 + 31 = t.val + 112 + (30 + 1) from rfl,
      show t.val + 112 + 32 = t.val + 112 + (30 + 2) from rfl, b 0 (by omega), b 1 (by omega), b 2 (by omega)]
    rfl
  | ⟨1, _⟩ =>
    rw [if_neg (by simp), if_pos rfl]
    show (_ : EReal) = val_main_v69 (F := Ideal) x0 x1 x3 (ix2 t (q l))
    rw [val_main_v69_apply]; rfl
  | ⟨2, _⟩ =>
    rw [if_neg (by simp), if_neg (by simp), if_pos rfl]
    show (_ : EReal) = val_main_v68 (F := Ideal) x0 x1 x3 (ix2 t (q l))
    rw [val_main_v68_apply]; exact mul_comm (G := EReal) _ _
  | ⟨3, _⟩ =>
    rw [if_neg (by simp), if_neg (by simp), if_neg (by simp), if_pos rfl]
    show (_ : EReal) = val_main_v55 (F := Ideal) x0 x2 x4 (ix2 t (q l))
    rw [val_main_v55_apply, gate_entry]; rfl
  | ⟨4, _⟩ =>
    rw [if_neg (by simp), if_neg (by simp), if_neg (by simp), if_neg (by simp)]
    show (_ : EReal) = val_main_v56 (F := Ideal) x0 x2 x4 (ix2 t (q l))
    rw [val_main_v56_apply, val_main_v54_apply, val_main_v29_apply, val_main_v28_apply, val_main_v27_apply, val_main_cst_4_apply, gate_entry]
    exact congrArg (fun z : EReal => z * _) (mul_comm (G := EReal) _ _)

theorem agree_taps3 (h1 : Column V1 (val_main_v0 (F := Ideal) x0) q) (h2 : Column V2 (val_main_v1 (F := Ideal) x0) q)
    (h3 : Column V3 (val_main_v2 (F := Ideal) x0) q) (h6 : Column V6 x1 q) (k : Fin 8) (l : Fin 128) :
    tapGrads (before (prod V6 V1)) (behind (prod V2 V3)) 30 3 k.val l = val_main_v74 (F := Ideal) x0 x1 (ix2 k (q l)) := by
  have hU := column_short h2 h3
  have hD := column_cotangent h1 h6
  unfold val_main_v74
  by_cases hk : k.val < 3
  · rw [pad_apply_of_inside _ _ _ _ _ _ _ (ix2 k (q l)) (ix2 (⟨k.val, hk⟩ : Fin 3) (q l)) (fun a => by
      match a with
      | ⟨0, _⟩ => show k.val = 0 + k.val * (0 + 1); omega
      | ⟨1, _⟩ => show (q l).val = 0 + (q l).val * (0 + 1); omega)]
    rw [taps3_entry hD hU ⟨k.val, hk⟩ l]
    exact tapGrads_eq hD.zeros 3 30 k.val (by omega) hk l
  · rw [pad_apply_of_not_inside _ _ _ _ _ _ _ (ix2 k (q l)) ⟨0, by decide⟩ (fun h => hk (by
      have h3 : (k.val - 0) / (0 + 1) < 3 := h.2.2
      omega))]
    rw [val_main_call2_v0_apply, val_main_c_13_apply, tapGrads_beyond _ _ _ _ _ hk]
    exact (sitofp_zero (φ := .f32)).symm

theorem agree_taps31 (h4 : Column V4 (val_main_v3 (F := Ideal) x0) q) (h5 : Column V5 (val_main_v4 (F := Ideal) x0) q) (h7 : Column V7 x2 q)
    (k : Fin 32) (l : Fin 128) :
    tapGrads (before V7) (behind (prod V4 (sig1 V5))) 2 31 k.val l = val_main_v75 (F := Ideal) x0 x2 (ix2 k (q l)) := by
  have hU := column_long h4 h5
  unfold val_main_v75
  by_cases hk : k.val < 31
  · rw [pad_apply_of_inside _ _ _ _ _ _ _ (ix2 k (q l)) (ix2 (⟨k.val, hk⟩ : Fin 31) (q l)) (fun a => by
      match a with
      | ⟨0, _⟩ => show k.val = 0 + k.val * (0 + 1); omega
      | ⟨1, _⟩ => show (q l).val = 0 + (q l).val * (0 + 1); omega)]
    rw [taps31_entry h7 hU ⟨k.val, hk⟩ l]
    exact tapGrads_eq h7.zeros 31 2 k.val (by omega) hk l
  · rw [pad_apply_of_not_inside _ _ _ _ _ _ _ (ix2 k (q l)) ⟨0, by decide⟩ (fun h => hk (by
      have h3 : (k.val - 0) / (0 + 1) < 31 := h.2.2
      omega))]
    rw [val_main_call3_v0_apply, val_main_c_14_apply, tapGrads_beyond _ _ _ _ _ hk]
    exact (sitofp_zero (φ := .f32)).symm

end Agree

end Block

end Cert.ConvBwd

end
-- ==== Proof.Value.lean ====
module

public import proofs.«01_k».proof.Proof.Run
public import proofs.«01_k».proof.Proof.Reference
public import Idealize.ShloMosaic.Lib.Pipeline.ValueKit.Geometry

@[expose] public section

set_option maxRecDepth 16384

noncomputable section

namespace Cert.ConvBwd

open Cert.KernelIdeal Cert.KernelIdeal.Gen
open Idealize.ShloMosaic Idealize.ShloMosaic.TcCoe Idealize.ShloMosaic.Tactic
open Idealize.SL.Sem
open Cert.ReferenceIdeal.Read (val_main_v0 val_main_v1 val_main_v2 val_main_v3 val_main_v4 val_main_v73 val_main_v74 val_main_v75)

variable (m : (ℓ : Loc nD τ sig) → Buf (Elt Ideal) ℓ) (ρ : Dev nD → PrngReg)

/-! ## What each grid point reads -/

/-- The column of a 512-column array that lane `l` of grid point `t` works on. -/
def lane (t : Fin cfg0.N) (l : Fin 128) : Fin 512 := ⟨128 * t.val + l.val, by have := t.isLt; have h : cfg0.N = 4 := rfl; omega⟩

/-- An array with 112 zero rows on top, of `C` columns. -/
def Topped {C : ℕ} (x : Vec Ideal (⟨2, ![2064, C]⟩ : Shape) .f32) (X : Vec Ideal (⟨2, ![2176, C]⟩ : Shape) .f32) : Prop :=
  (∀ (r : Fin 2176) (p : Fin C), r.val < 112 → X (ix2 r p) = (0 : EReal))
    ∧ ∀ (t : Fin 2064) (p : Fin C), X (ix2 (⟨t.val + 112, by omega⟩ : Fin 2176) p) = x (ix2 t p)

theorem topped_pad {C : ℕ} (x : Vec Ideal (⟨2, ![2064, C]⟩ : Shape) .f32)
    (h : (⟨2, ![2064, C]⟩ : Shape).Pads (![112, 0] : Fin 2 → Nat) ![0, 0] ![0, 0] (⟨2, ![2176, C]⟩ : Shape))
    (z : Vec Ideal (⟨0, ![]⟩ : Shape) .f32) (hz : ∀ i, z i = (0 : EReal)) (h0 : 0 < (⟨0, ![]⟩ : Shape).numel) :
    Topped x (pad (⟨2, ![2176, C]⟩ : Shape) ![112, 0] ![0, 0] ![0, 0] x z h h0) := by
  refine ⟨fun r p hr => ?_, fun t p => ?_⟩
  · rw [pad_apply_of_not_inside _ _ _ _ _ _ _ (ix2 r p) (0 : Fin 2) (fun hin => by
      have h3 : 112 ≤ r.val := hin.1
      omega)]
    exact hz _
  · exact pad_apply_of_inside _ _ _ _ _ _ _ (ix2 (⟨t.val + 112, by omega⟩ : Fin 2176) p) (ix2 t p) (fun a => by
      match a with
      | ⟨0, _⟩ => show t.val + 112 = 112 + t.val * (0 + 1); omega
      | ⟨1, _⟩ => show p.val = 0 + p.val * (0 + 1); omega)

theorem topped_v0 (c : Dev nD) : Topped (m ((c : Thread nD τ).loc main_arg0)) (V m c main_v0) := by
  have h : V m c main_v0 = pad S2176x2560 ![112, 0] ![0, 0] ![0, 0] (m ((c : Thread nD τ).loc main_arg0) : Vec Ideal S2064x2560 .f32)
      (sitofp (F := Ideal) .f32 (constantI S_ 32 0#32)) pads_S2064x2560_S2176x2560_11200_000 h_S_ := by
    show V0 m c (Proc.devRef .tc _) = _
    simp only [V0, hostOps0, hostOps0_1, hostOps0_2, hostOps0_3, hostOps0_4, hostOps0_5, List.flatten_cons, List.flatten_nil, List.append_nil,
      List.cons_append, List.nil_append]
    after_results
    rfl
  rw [h]
  exact topped_pad _ _ _ (fun i => sitofp_zero (φ := .f32)) _

theorem topped_v1 (c : Dev nD) : Topped (m ((c : Thread nD τ).loc main_arg1)) (V m c main_v1) := by
  have h : V m c main_v1 = pad S2176x512 ![112, 0] ![0, 0] ![0, 0] (m ((c : Thread nD τ).loc main_arg1) : Vec Ideal S2064x512 .f32)
      (sitofp (F := Ideal) .f32 (constantI S_ 32 0#32)) pads_S2064x512_S2176x512_11200_000 h_S_ := by
    show V0 m c (Proc.devRef .tc _) = _
    simp only [V0, hostOps0, hostOps0_1, hostOps0_2, hostOps0_3, hostOps0_4, hostOps0_5, List.flatten_cons, List.flatten_nil, List.append_nil,
      List.cons_append, List.nil_append]
    after_results
    rfl
  rw [h]
  exact topped_pad _ _ _ (fun i => sitofp_zero (φ := .f32)) _

theorem topped_v2 (c : Dev nD) : Topped (m ((c : Thread nD τ).loc main_arg2)) (V m c main_v2) := by
  have h : V m c main_v2 = pad S2176x512 ![112, 0] ![0, 0] ![0, 0] (m ((c : Thread nD τ).loc main_arg2) : Vec Ideal S2064x512 .f32)
      (sitofp (F := Ideal) .f32 (constantI S_ 32 0#32)) pads_S2064x512_S2176x512_11200_000 h_S_ := by
    show V0 m c (Proc.devRef .tc _) = _
    simp only [V0, hostOps0, hostOps0_1, hostOps0_2, hostOps0_3, hostOps0_4, hostOps0_5, List.flatten_cons, List.flatten_nil, List.append_nil,
      List.cons_append, List.nil_append]
    after_results
    rfl
  rw [h]
  exact topped_pad _ _ _ (fun i => sitofp_zero (φ := .f32)) _

/-- A block of columns of an array with zero rows on top, as the rows the gradient is written over. -/
theorem column_of {C : ℕ} {x : Vec Ideal (⟨2, ![2064, C]⟩ : Shape) .f32} {X : Vec Ideal (⟨2, ![2176, C]⟩ : Shape) .f32} (h : Topped x X)
    (p : Fin 128 → Fin C) (q : Fin 128 → Fin 512) (B : Vec Ideal (⟨2, ![2176, 128]⟩ : Shape) .f32) (Y : Vec Ideal (⟨2, ![2064, 512]⟩ : Shape) .f32)
    (hB : ∀ r l, B (ix2 r l) = X (ix2 r (p l))) (hY : ∀ t l, Y (ix2 t (q l)) = x (ix2 t (p l))) : Column (inp B) Y q where
  zeros := fun r l hr => by
    by_cases hlt : r < 2176
    · exact (inp_at B ⟨r, hlt⟩ l).trans ((hB _ _).trans (h.1 _ _ (by show r < 112; omega)))
    · exact (dif_neg hlt).trans zero_bits
  entry := fun t l => (inp_at B ⟨t.val + 112, by omega⟩ l).trans ((hB _ _).trans ((h.2 _ _).trans (hY _ _).symm))

theorem grid4 : cfg0.N = 4 := rfl

theorem index0_0 : ∀ t : Fin cfg0.N, win0_0.index t = ![0, 0 + t.val] := (by decide +kernel : ∀ t : Fin grid0.N, _)
theorem index0_1 : ∀ t : Fin cfg0.N, win0_1.index t = ![0, 4 + t.val] := (by decide +kernel : ∀ t : Fin grid0.N, _)
theorem index0_2 : ∀ t : Fin cfg0.N, win0_2.index t = ![0, 8 + t.val] := (by decide +kernel : ∀ t : Fin grid0.N, _)
theorem index0_3 : ∀ t : Fin cfg0.N, win0_3.index t = ![0, 12 + t.val] := (by decide +kernel : ∀ t : Fin grid0.N, _)
theorem index0_4 : ∀ t : Fin cfg0.N, win0_4.index t = ![0, 16 + t.val] := (by decide +kernel : ∀ t : Fin grid0.N, _)
theorem index0_5 : ∀ t : Fin cfg0.N, win0_5.index t = ![0, 0 + t.val] := (by decide +kernel : ∀ t : Fin grid0.N, _)
theorem index0_6 : ∀ t : Fin cfg0.N, win0_6.index t = ![0, 0 + t.val] := (by decide +kernel : ∀ t : Fin grid0.N, _)
theorem index0_7 : ∀ t : Fin cfg0.N, win0_7.index t = ![0, t.val] := (by decide +kernel : ∀ t : Fin grid0.N, _)
theorem index0_8 : ∀ t : Fin cfg0.N, win0_8.index t = ![0, t.val] := (by decide +kernel : ∀ t : Fin grid0.N, _)

theorem column0 (c : Dev nD) (t : Fin cfg0.N) :
    Column (inp (iblk m c 0 t)) (val_main_v0 (F := Ideal) (m ((c : Thread nD τ).loc main_arg0))) (lane t) :=
  column_of (topped_v0 m c) (fun l => ⟨0 + (lane t l).val, by omega⟩) (lane t) _ _ (fun r l => by
    blk_simp [iblk]
    blk_ext [lane, index0_0]) (fun r l => by
    rw [Cert.ReferenceIdeal.Read.val_main_v0_apply]
    blk_ext)

theorem column1 (c : Dev nD) (t : Fin cfg0.N) :
    Column (inp (iblk m c 1 t)) (val_main_v1 (F := Ideal) (m ((c : Thread nD τ).loc main_arg0))) (lane t) :=
  column_of (topped_v0 m c) (fun l => ⟨512 + (lane t l).val, by omega⟩) (lane t) _ _ (fun r l => by
    blk_simp [iblk]
    blk_ext [lane, index0_1]) (fun r l => by
    rw [Cert.ReferenceIdeal.Read.val_main_v1_apply]
    blk_ext)

theorem column2 (c : Dev nD) (t : Fin cfg0.N) :
    Column (inp (iblk m c 2 t)) (val_main_v2 (F := Ideal) (m ((c : Thread nD τ).loc main_arg0))) (lane t) :=
  column_of (topped_v0 m c) (fun l => ⟨1024 + (lane t l).val, by omega⟩) (lane t) _ _ (fun r l => by
    blk_simp [iblk]
    blk_ext [lane, index0_2]) (fun r l => by
    rw [Cert.ReferenceIdeal.Read.val_main_v2_apply]
    blk_ext)

theorem column3 (c : Dev nD) (t : Fin cfg0.N) :
    Column (inp (iblk m c 3 t)) (val_main_v3 (F := Ideal) (m ((c : Thread nD τ).loc main_arg0))) (lane t) :=
  column_of (topped_v0 m c) (fun l => ⟨1536 + (lane t l).val, by omega⟩) (lane t) _ _ (fun r l => by
    blk_simp [iblk]
    blk_ext [lane, index0_3]) (fun r l => by
    rw [Cert.ReferenceIdeal.Read.val_main_v3_apply]
    blk_ext)

theorem column4 (c : Dev nD) (t : Fin cfg0.N) :
    Column (inp (iblk m c 4 t)) (val_main_v4 (F := Ideal) (m ((c : Thread nD τ).loc main_arg0))) (lane t) :=
  column_of (topped_v0 m c) (fun l => ⟨2048 + (lane t l).val, by omega⟩) (lane t) _ _ (fun r l => by
    blk_simp [iblk]
    blk_ext [lane, index0_4]) (fun r l => by
    rw [Cert.ReferenceIdeal.Read.val_main_v4_apply]
    blk_ext)

theorem column5 (c : Dev nD) (t : Fin cfg0.N) : Column (inp (iblk m c 5 t)) (m ((c : Thread nD τ).loc main_arg1)) (lane t) :=
  column_of (topped_v1 m c) (lane t) (lane t) _ _ (fun r l => by
    blk_simp [iblk]
    blk_ext [lane, index0_5]) (fun r l => rfl)

theorem column6 (c : Dev nD) (t : Fin cfg0.N) : Column (inp (iblk m c 6 t)) (m ((c : Thread nD τ).loc main_arg2)) (lane t) :=
  column_of (topped_v2 m c) (lane t) (lane t) _ _ (fun r l => by
    blk_simp [iblk]
    blk_ext [lane, index0_6]) (fun r l => rfl)

theorem taps7 (c : Dev nD) (t : Fin cfg0.N) (k : Fin 3) (l : Fin 128) :
    inp (iblk m c 7 t) k.val l = (m ((c : Thread nD τ).loc main_arg3) : Vec Ideal S3x512 .f32) (ix2 k (lane t l)) := by
  rw [← V_main_arg3 m c]
  refine (inp_at (iblk m c 7 t) k l).trans ?_
  blk_simp [iblk]
  blk_ext [lane, index0_7]

theorem taps8 (c : Dev nD) (t : Fin cfg0.N) (k : Fin 31) (l : Fin 128) :
    inp (iblk m c 8 t) k.val l = (m ((c : Thread nD τ).loc main_arg4) : Vec Ideal S31x512 .f32) (ix2 k (lane t l)) := by
  rw [← V_main_arg4 m c]
  refine (inp_at (iblk m c 8 t) k l).trans ?_
  blk_simp [iblk]
  blk_ext [lane, index0_8]

theorem index0_9 : ∀ t : Fin cfg0.N, win0_9.index t = ![0, 0, t.val] := (by decide +kernel : ∀ t : Fin grid0.N, _)
theorem index0_10 : ∀ t : Fin cfg0.N, win0_10.index t = ![0, t.val] := (by decide +kernel : ∀ t : Fin grid0.N, _)
theorem index0_11 : ∀ t : Fin cfg0.N, win0_11.index t = ![0, t.val] := (by decide +kernel : ∀ t : Fin grid0.N, _)

/-- The gradient of the short taps, as the launch leaves it. -/
theorem array10 (c : Dev nD) : (dats m 0 c).arrAt 10 cfg0.N
    = val_main_v74 (F := Ideal) (m ((c : Thread nD τ).loc main_arg0)) (m ((c : Thread nD τ).loc main_arg1)) := by
  refine (dats m 0 c).arrAt_eq_of_covers 10 _ (by decide +kernel) fun t hf y => ?_
  blk_simp
  rw [after0_10]
  refine (agree_taps3 (column0 m c t) (column1 m c t) (column2 m c t) (column5 m c t) (y 0) (y 1)).trans ?_
  blk_ext [lane, index0_10]

/-- The gradient of the long taps, as the launch leaves it. -/
theorem array11 (c : Dev nD) : (dats m 0 c).arrAt 11 cfg0.N
    = val_main_v75 (F := Ideal) (m ((c : Thread nD τ).loc main_arg0)) (m ((c : Thread nD τ).loc main_arg2)) := by
  refine (dats m 0 c).arrAt_eq_of_covers 11 _ (by decide +kernel) fun t hf y => ?_
  blk_simp
  rw [after0_11]
  refine (agree_taps31 (column3 m c t) (column4 m c t) (column6 m c t) (y 0) (y 1)).trans ?_
  blk_ext [lane, index0_11]

/-- The gradient of the mixer's input, as the launch leaves it below the 112 rows put on top. -/
theorem array9 (c : Dev nD) (a : Fin 5) (t : Fin 2064) (p : Fin 512) :
    ((dats m 0 c).arrAt 9 cfg0.N : Vec Ideal S5x2176x512 .bf16) (ix3 a (⟨t.val + 112, by omega⟩ : Fin 2176) p)
    = val_main_v73 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (ix3 a t p) := by
  refine (dats m 0 c).arrAt_forall_of_covers 9 (fun i v => ∀ (a : Fin 5) (t : Fin 2064) (p : Fin 512), (i : S5x2176x512.Idx) = ix3 a (⟨t.val + 112, by omega⟩ : Fin 2176) p →
    v = val_main_v73 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (ix3 a t p)) (by decide +kernel) (fun g hf y a t p hi => ?_) _ (by exact Memref.isWhole_whole _) a t p rfl
  have e0 := congrArg (fun i : S5x2176x512.Idx => (i 0).val) hi
  have e1 := congrArg (fun i : S5x2176x512.Idx => (i 1).val) hi
  have e2 := congrArg (fun i : S5x2176x512.Idx => (i 2).val) hi
  blk_simp [index0_9] at e0 e1 e2
  blk_simp
  rw [after0_9]
  have hy1 : (y 1).val = t.val + 112 := by omega
  have hp : lane g (y 2) = p := Fin.ext (by show 128 * g.val + (y 2).val = p.val; omega)
  have ha : y 0 = a := Fin.ext (by omega)
  have h := agree_rows (column0 m c g) (column1 m c g) (column2 m c g) (column3 m c g) (column4 m c g) (column5 m c g) (column6 m c g)
    (taps7 m c g) (taps8 m c g) (y 0) t (y 2)
  rw [hp, ha, ← hy1] at h
  rw [← ha] at h ⊢
  exact h

/-- What the host keeps of the gradient of the mixer's input. -/
theorem result4 (c : Dev nD) : Pipeline.afterTail₀ cfgs (dats m) 0 (V0 m) [hostOps1] c main_v4
    = val_main_v73 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) := by
  have h : Pipeline.afterTail₀ cfgs (dats m) 0 (V0 m) [hostOps1] c main_v4
      = extractStridedSlice S5x2064x512 ![0, 112, 0] ((dats m 0 c).arrAt 9 cfg0.N : Vec Ideal S5x2176x512 .bf16) slices_S5x2176x512_S5x2064x512_0_112_0 := by
    unfold Pipeline.afterTail₀
    simp only [hostOps1, List.flatten_cons, List.flatten_nil, List.append_nil, List.cons_append, List.nil_append]
    after_results
    have e := (dats m 0 c).withArrays_arrAt sharedIn0 (V0 m c) (A_eq m c) 9
    exact congrArg (fun X : Vec Ideal S5x2176x512 .bf16 => extractStridedSlice S5x2064x512 ![0, 112, 0] X slices_S5x2176x512_S5x2064x512_0_112_0) e
  rw [h]
  funext i
  rw [eq_ix3 i]
  refine (extractStridedSlice_apply ![0, 112, 0] _ slices_S5x2176x512_S5x2064x512_0_112_0 (ix3 (i 0) (i 1) (i 2))
    (ix3 (i 0) (⟨(i 1).val + 112, by idx_bounds i; omega⟩ : Fin 2176) (i 2)) (fun a => by
      match a with
      | ⟨0, _⟩ => show (i 0).val = 0 + (i 0).val; omega
      | ⟨1, _⟩ => show (i 1).val + 112 = 112 + (i 1).val; omega
      | ⟨2, _⟩ => show (i 2).val = 0 + (i 2).val; omega)).trans ?_
  exact array9 m c (i 0) (i 1) (i 2)

/-- The launch ends with the reference's three gradients and its arguments as they were. -/
theorem run_values : θ_run defs (onTc (τ := τ) (main (F := Ideal))) ⟨m, fun _ => 0, ρ⟩ (fun r => ∀ c : Dev nD,
      r.2.mem ((c.tc : Thread nD τ).loc main_v4)
        = val_main_v73 (F := Ideal) (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c.tc : Thread nD τ).loc main_v3_1)
        = val_main_v74 (F := Ideal) (m ((c : Thread nD τ).loc main_arg0)) (m ((c : Thread nD τ).loc main_arg1))
      ∧ r.2.mem ((c.tc : Thread nD τ).loc main_v3_2)
        = val_main_v75 (F := Ideal) (m ((c : Thread nD τ).loc main_arg0)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨((h.1 c).2 main_v4 (Pipeline.mem_restRefs_of main_v4 (by decide) (by decide))).trans (result4 m c),
      ((h.1 c).1 10).trans (array10 m c), ((h.1 c).1 11).trans (array11 m c), h.2.1 c⟩)
    (θ_run_and (run_main m ρ) (args_kept m ρ))

end Cert.ConvBwd

end

end
-- ==== Proof.Norm.lean ====
module

public import Idealize.ShloMosaic.PureOps.Ideal.Laws
public import Idealize.ShloMosaic.Lib.IdealHost

@[expose] public section

noncomputable section

namespace Cert.Norm

open Idealize.ShloMosaic
open Finset (sum_congr)

/-! ## Sums and products of extended reals -/

theorem coe_sum {ι : Type*} (s : Finset ι) (f : ι → ℝ) : ((∑ i ∈ s, f i : ℝ) : EReal) = ∑ i ∈ s, (f i : EReal) := by
  classical
  induction s using Finset.induction_on with
  | empty => rfl
  | insert a s h ih => rw [Finset.sum_insert h, Finset.sum_insert h, EReal.coe_add, ih]

/-- A nonnegative real factor goes into a sum, whatever the terms. -/
theorem mul_sum_of_nonneg {ι : Type*} {c : ℝ} (hc : 0 ≤ c) (s : Finset ι) (f : ι → EReal) :
    (c : EReal) * ∑ i ∈ s, f i = ∑ i ∈ s, (c : EReal) * f i := by
  classical
  induction s using Finset.induction_on with
  | empty => exact mul_zero _
  | insert a s h ih =>
    rw [Finset.sum_insert h, Finset.sum_insert h, ← ih]
    exact EReal.left_distrib_of_nonneg_of_ne_top (EReal.coe_nonneg.mpr hc) (EReal.coe_ne_top c) _ _

/-- Twice a real multiple, whatever the multiplied value. -/
theorem twice (q : ℝ) (S : EReal) : (q : EReal) * S + (q : EReal) * S = ((q + q : ℝ) : EReal) * S := by
  rw [EReal.coe_add]
  rcases le_total 0 q with h | h
  · exact (EReal.right_distrib_of_nonneg (EReal.coe_nonneg.mpr h) (EReal.coe_nonneg.mpr h)).symm
  · have h' : (0 : EReal) ≤ ((-q : ℝ) : EReal) := EReal.coe_nonneg.mpr (by linarith)
    have e : ((-q : ℝ) : EReal) * (-S) = (q : EReal) * S := by rw [EReal.coe_neg, neg_mul_neg]
    have d := EReal.right_distrib_of_nonneg (c := -S) h' h'
    rw [e] at d
    rw [← d, ← EReal.coe_add, ← EReal.coe_add, show -q + -q = -(q + q) by ring, EReal.coe_neg, neg_mul_neg]

theorem div_real {N : ℝ} (h : N ≠ 0) (x : EReal) : Ideal.div x (N : EReal) = x * ((N⁻¹ : ℝ) : EReal) := by
  rw [Ideal.div_coe h, one_div]

/-- A square is nonnegative, and infinite when its root is. -/
theorem square_nonneg (x : EReal) : 0 ≤ x * x := by
  induction x using EReal.rec with
  | bot => exact le_of_lt (by rw [EReal.bot_mul_bot]; exact EReal.zero_lt_top)
  | coe r => rw [← EReal.coe_mul]; exact EReal.coe_nonneg.mpr (mul_self_nonneg r)
  | top => exact le_of_lt (by rw [EReal.top_mul_top]; exact EReal.zero_lt_top)

theorem sum_squares_top {n : ℕ} (x : Fin n → EReal) (k : Fin n) (h : x k * x k = ⊤) : ∑ j, x j * x j = ⊤ := by
  refine top_le_iff.mp ?_
  rw [← h]
  exact Finset.single_le_sum (f := fun j => x j * x j) (fun j _ => square_nonneg (x j)) (Finset.mem_univ k)

/-- Either every entry of a row is a real number, or one of them has an infinite square. -/
theorem real_or_infinite {n : ℕ} (x : Fin n → EReal) : (∃ a : Fin n → ℝ, x = fun j => (a j : EReal)) ∨ ∃ k, x k * x k = ⊤ := by
  by_cases h : ∀ j, x j ≠ ⊤ ∧ x j ≠ ⊥
  · exact .inl ⟨fun j => (x j).toReal, funext fun j => (EReal.coe_toReal (h j).1 (h j).2).symm⟩
  · simp only [not_forall, not_and_or, not_not] at h
    obtain ⟨k, hk | hk⟩ := h
    · exact .inr ⟨k, by rw [hk]; exact EReal.top_mul_top⟩
    · exact .inr ⟨k, by rw [hk]; exact EReal.bot_mul_bot⟩

/-! ## The gradient of a root-mean-square normalization -/

/-- The mean square of a row plus a stabilizer. -/
def meanSq {n : ℕ} (N e : EReal) (x : Fin n → EReal) : EReal := Ideal.div (∑ j, x j * x j) N + e

theorem meanSq_real {n : ℕ} {N e : ℝ} (hN : 0 < N) (a : Fin n → ℝ) :
    meanSq (N : EReal) (e : EReal) (fun j => (a j : EReal)) = (((∑ j, a j * a j) * N⁻¹ + e : ℝ) : EReal) := by
  unfold meanSq
  rw [div_real hN.ne', EReal.coe_add, EReal.coe_mul, coe_sum]
  simp only [EReal.coe_mul]

theorem meanSq_top {n : ℕ} {N e : ℝ} (hN : 0 < N) {x : Fin n → EReal} (k : Fin n) (h : x k * x k = ⊤) :
    meanSq (N : EReal) (e : EReal) x = ⊤ := by
  unfold meanSq
  rw [sum_squares_top x k h, div_real hN.ne', EReal.top_mul_coe_of_pos (inv_pos.mpr hN), EReal.top_add_coe]

theorem rsqrt_pos {σ : ℝ} (h : 0 < σ) : Ideal.rsqrt (σ : EReal) = (((Real.sqrt σ)⁻¹ : ℝ) : EReal) := by
  rw [Ideal.rsqrt_coe, if_neg (not_lt.mpr h.le), if_neg h.ne']

/-- The gradient as the kernel writes it, through the normalized row, is the one that differentiating the normalization gives. -/
theorem rms_grad {n : ℕ} {N e : ℝ} (hN : 0 < N) (he : 0 < e) (x D : Fin n → EReal) (k : Fin n) :
    Ideal.rsqrt (meanSq N e x) * (D k - x k * Ideal.rsqrt (meanSq N e x)
        * Ideal.div (∑ j, D j * (x j * Ideal.rsqrt (meanSq N e x))) N)
      = D k * Ideal.rsqrt (meanSq N e x)
        + x k * Ideal.div ((∑ j, x j * D j) * (((-(1 / 2) : ℝ) : EReal) * Ideal.div (Ideal.rsqrt (meanSq N e x)) (meanSq N e x))) N
        + Ideal.div ((∑ j, x j * D j) * (((-(1 / 2) : ℝ) : EReal) * Ideal.div (Ideal.rsqrt (meanSq N e x)) (meanSq N e x))) N * x k := by
  rcases real_or_infinite x with ⟨a, rfl⟩ | ⟨i, hi⟩
  · set σ : ℝ := (∑ j, a j * a j) * N⁻¹ + e with hσ
    have hpos : 0 < σ := by
      have h : 0 ≤ ∑ j, a j * a j := Finset.sum_nonneg fun j _ => mul_self_nonneg (a j)
      have := mul_nonneg h (inv_pos.mpr hN).le
      linarith
    set ρ : ℝ := (Real.sqrt σ)⁻¹ with hρ
    have hr : 0 ≤ ρ := inv_nonneg.mpr (Real.sqrt_nonneg σ)
    have hcube : ρ * σ⁻¹ = ρ * ρ * ρ := by
      have : σ⁻¹ = ρ * ρ := by rw [hρ, ← mul_inv, Real.mul_self_sqrt hpos.le]
      rw [this]; ring
    rw [meanSq_real hN, ← hσ, rsqrt_pos hpos, ← hρ]
    set S : EReal := ∑ j, (a j : EReal) * D j with hS
    have e1 : ∑ j, D j * ((a j : EReal) * (ρ : EReal)) = (ρ : EReal) * S := by
      rw [hS, mul_sum_of_nonneg hr]
      exact sum_congr rfl fun j _ => by rw [mul_comm (a j : EReal), mul_left_comm, mul_comm (D j)]
    have e2 : (ρ : EReal) * (D k - (a k : EReal) * ρ * ((ρ : EReal) * S * ((N⁻¹ : ℝ) : EReal)))
        = ρ * D k + ((-(a k * ρ * ρ * ρ * N⁻¹) : ℝ) : EReal) * S := by
      rw [sub_eq_add_neg, EReal.left_distrib_of_nonneg_of_ne_top (EReal.coe_nonneg.mpr hr) (EReal.coe_ne_top ρ)]
      congr 1
      simp only [EReal.coe_neg, EReal.coe_mul, neg_mul, mul_neg]
      congr 1
      ac_rfl
    have e3 : (S * (((-(1 / 2) : ℝ) : EReal) * ((ρ : EReal) * ((σ⁻¹ : ℝ) : EReal))) * ((N⁻¹ : ℝ) : EReal))
        = ((-(1 / 2) * (ρ * ρ * ρ) * N⁻¹ : ℝ) : EReal) * S := by
      rw [← hcube]
      simp only [EReal.coe_mul]
      ac_rfl
    rw [div_real hN.ne', div_real hN.ne', div_real hpos.ne', e1, e2, e3, add_assoc, mul_comm (D k)]
    congr 1
    rw [mul_comm _ (a k : EReal), ← mul_assoc, ← EReal.coe_mul, twice]
    congr 2
    ring
  · have h := meanSq_top (e := e) hN i hi
    have hd : Ideal.div (0 : EReal) ⊤ = 0 := by
      unfold Ideal.div
      rw [if_neg (by decide), zero_mul]
    rw [h, Ideal.rsqrt_top, hd]
    simp only [mul_zero, zero_mul, div_real hN.ne', add_zero]

end Cert.Norm

end

end
-- ==== Proof.Padding.lean ====
module

public import Idealize.ShloMosaic.PureOps.Ideal.Laws
public import Idealize.ShloMosaic.Lib.IdealHost
public import Idealize.ShloMosaic.Lib.Pointwise
public import proofs.«01_k».proof.Proof.Norm

@[expose] public section

noncomputable section

namespace Cert.Norm

open Idealize.ShloMosaic

/-! ## Rows below zero rows -/

/-- Row `r` of an array that has zero rows above its first one. -/
def below {n C : ℕ} (o : ℕ) (x : Fin n → Fin C → EReal) (r : ℕ) (p : Fin C) : EReal :=
  if h : o ≤ r ∧ r - o < n then x ⟨r - o, h.2⟩ p else 0

theorem below_in {n C : ℕ} {o : ℕ} (x : Fin n → Fin C → EReal) {r : ℕ} (p : Fin C) (h : o ≤ r) (hn : r - o < n) :
    below o x r p = x ⟨r - o, hn⟩ p := dif_pos ⟨h, hn⟩

theorem below_out {n C : ℕ} {o : ℕ} (x : Fin n → Fin C → EReal) {r : ℕ} (p : Fin C) (h : r < o) : below o x r p = 0 :=
  dif_neg fun hin => absurd hin.1 (by omega)

/-- Summing the rows below the zero rows, one block of rows after the other, sums the rows. -/
theorem sum_below {n : ℕ} (o N : ℕ) (hN : o + n = N) (f : ℕ → EReal) (h : ∀ r, r < o → f r = 0) :
    ∑ r ∈ Finset.range N, f r = ∑ t : Fin n, f (t.val + o) := by
  subst hN
  rw [Finset.sum_range_add, Finset.sum_eq_zero fun r hr => h r (Finset.mem_range.mp hr), zero_add,
    Fin.sum_univ_eq_sum_range (fun t => f (t + o)) n]
  exact Finset.sum_congr rfl fun t _ => by rw [Nat.add_comm o t]

/-! ## The constants of the program -/

theorem int_zero : (FloatOps.sitofp (F := Ideal) .f32 0#32 : EReal) = 0 := by
  show ((((0#32 : BitVec 32).toInt : ℤ) : ℝ) : EReal) = 0
  simp

theorem bits_1024 : Ideal.ofBits .f32 0x44800000#32 = ((1024 : ℝ) : EReal) := by
  simp [Ideal.ofBits, Ideal.ieee, -EReal.coe_mul]; norm_num

theorem bits_512 : Ideal.ofBits .f32 0x44000000#32 = ((512 : ℝ) : EReal) := by
  simp [Ideal.ofBits, Ideal.ieee, -EReal.coe_mul]; norm_num

theorem bits_two : Ideal.ofBits .f32 0x40000000#32 = ((2 : ℝ) : EReal) := by
  simp [Ideal.ofBits, Ideal.ieee, -EReal.coe_mul]; norm_num

theorem bits_half : Ideal.ofBits .f32 0x3F000000#32 = ((1 / 2 : ℝ) : EReal) := by
  simp [Ideal.ofBits, Ideal.ieee, -EReal.coe_mul]; norm_num

theorem bits_neg_half : Ideal.ofBits .f32 0xBF000000#32 = ((-(1 / 2) : ℝ) : EReal) := by
  simp [Ideal.ofBits, Ideal.ieee, -EReal.coe_mul, -EReal.coe_neg]; norm_num

/-- The stabilizer of the root-mean-square normalization. -/
def rmsEps : ℝ := 8796093 / 8796093022208

theorem rmsEps_pos : 0 < rmsEps := by norm_num [rmsEps]

theorem bits_rmsEps : Ideal.ofBits .f32 0x358637BD#32 = ((rmsEps : ℝ) : EReal) := by
  simp [Ideal.ofBits, Ideal.ieee, -EReal.coe_mul, rmsEps]; norm_num

end Cert.Norm

end

end
-- ==== Proof.DownBlock.lean ====
module

public import proofs.«01_k».proof.Proof.Padding
public import proofs.«01_k».proof.Proof.Gen.Kernel2Ideal.Value
public import proofs.«01_k».proof.Proof.Gen.Reference2Ideal.Read
public import Idealize.ShloMosaic.Lib.Pipeline.ValueKit
public import Idealize.ShloMosaic.Lib.Pointwise

@[expose] public section

set_option maxRecDepth 16384

noncomputable section

namespace Cert.DownLoss

open Cert.Kernel2Ideal Cert.Kernel2Ideal.Gen Cert.Norm
open Cert.Reference2Ideal.Read
open Idealize.ShloMosaic Idealize.ShloMosaic.TcCoe Idealize.ShloMosaic.Tactic
open Idealize.SL.Sem

variable (m : (ℓ : Loc nD τ sig) → Buf (Elt Ideal) ℓ) (ρ : Dev nD → PrngReg) (c : Dev nD)

/-! ## The arguments -/

abbrev argS : Vec Ideal S2064x2816 .f32 := m ((c : Thread nD τ).loc main_arg0)
abbrev argW : Vec Ideal S2816x1024 .f32 := m ((c : Thread nD τ).loc main_arg1)
abbrev argH : Vec Ideal S2064x1024 .f32 := m ((c : Thread nD τ).loc main_arg2)
abbrev argT : Vec Ideal S2048x1024 .f32 := m ((c : Thread nD τ).loc main_arg3)
abbrev argG : Vec Ideal S1x1024 .f32 := m ((c : Thread nD τ).loc main_arg4)

/-! ## What the host hands to the kernel -/

theorem host_s : V m c main_v1 = truncf .bf16 (pad S2176x2816 ![112, 0] ![0, 0] ![0, 0] (argS m c) (sitofp (F := Ideal) .f32 (constantI S_ 32 0#32))
    pads_S2064x2816_S2176x2816_11200_000 h_S_) bitsLt_bf16_f32 := by
  show StableHlo.after _ (fun b => m (c, b)) (Proc.devRef .tc _) = _
  simp only [hostOps0, hostOps0_1, hostOps0_2, hostOps0_3, hostOps0_4, hostOps0_5, List.flatten_cons, List.flatten_nil, List.append_nil,
    List.cons_append, List.nil_append]
  after_results
  rfl

theorem host_w : V m c main_v2 = (truncf .bf16 (argW m c) bitsLt_bf16_f32 : FVec Ideal S2816x1024 .bf16) := by
  show StableHlo.after _ (fun b => m (c, b)) (Proc.devRef .tc _) = _
  simp only [hostOps0, hostOps0_1, hostOps0_2, hostOps0_3, hostOps0_4, hostOps0_5, List.flatten_cons, List.flatten_nil, List.append_nil,
    List.cons_append, List.nil_append]
  after_results

theorem host_h : V m c main_v3 = pad S2176x1024 ![112, 0] ![0, 0] ![0, 0] (argH m c) (sitofp (F := Ideal) .f32 (constantI S_ 32 0#32))
    pads_S2064x1024_S2176x1024_11200_000 h_S_ := by
  show StableHlo.after _ (fun b => m (c, b)) (Proc.devRef .tc _) = _
  simp only [hostOps0, hostOps0_1, hostOps0_2, hostOps0_3, hostOps0_4, hostOps0_5, List.flatten_cons, List.flatten_nil, List.append_nil,
    List.cons_append, List.nil_append]
  after_results
  rfl

theorem host_t : V m c main_v4 = pad S2176x1024 ![128, 0] ![0, 0] ![0, 0] (argT m c) (sitofp (F := Ideal) .f32 (constantI S_ 32 0#32))
    pads_S2048x1024_S2176x1024_12800_000 h_S_ := by
  show StableHlo.after _ (fun b => m (c, b)) (Proc.devRef .tc _) = _
  simp only [hostOps0, hostOps0_1, hostOps0_2, hostOps0_3, hostOps0_4, hostOps0_5, List.flatten_cons, List.flatten_nil, List.append_nil,
    List.cons_append, List.nil_append]
  after_results
  rfl

/-! ## What a grid point reads: a block of 544 rows -/

theorem grid_points : cfg0.N = 4 := rfl

/-- The row of the padded arrays that row `p` of grid point `t` is. -/
def row (t : Fin cfg0.N) (p : Fin 544) : Fin 2176 := ⟨544 * t.val + p.val, by have := t.isLt; have := grid_points; omega⟩

theorem index_0 : ∀ t : Fin cfg0.N, win0_0.index t = ![t.val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![t.val, 0] := (by decide +kernel : ∀ t : Fin grid0.N, _)
theorem index_3 : ∀ t : Fin cfg0.N, win0_3.index t = ![t.val, 0] := (by decide +kernel : ∀ t : Fin grid0.N, _)
theorem index_4 : ∀ t : Fin cfg0.N, win0_4.index t = ![0, 0] := (by decide +kernel : ∀ t : Fin grid0.N, _)
theorem index_5 : ∀ t : Fin cfg0.N, win0_5.index t = ![t.val, 0] := (by decide +kernel : ∀ t : Fin grid0.N, _)
theorem index_6 : ∀ t : Fin cfg0.N, win0_6.index t = ![t.val, 0] := (by decide +kernel : ∀ t : Fin grid0.N, _)

theorem read_s (t : Fin cfg0.N) (p : Fin 544) (x : Fin 2816) :
    (iblk m c 0 t (ix2 p x) : EReal) = below 112 (fun a b => argS m c (ix2 a b)) (row t p).val x := by
  have h : iblk m c 0 t (ix2 p x) = V m c main_v1 (ix2 (row t p) x) := by
    blk_simp [iblk]
    blk_ext [row, index_0]
  rw [h, host_s]
  pointwise [int_zero]
  rfl

theorem read_w (t : Fin cfg0.N) (x : Fin 2816) (k : Fin 1024) : (iblk m c 1 t (ix2 x k) : EReal) = argW m c (ix2 x k) := by
  have h : iblk m c 1 t (ix2 x k) = V m c main_v2 (ix2 x k) := by
    blk_simp [iblk]
    blk_ext [index_1]
  rw [h, host_w]
  rfl

theorem read_h (t : Fin cfg0.N) (p : Fin 544) (k : Fin 1024) :
    (iblk m c 2 t (ix2 p k) : EReal) = below 112 (fun a b => argH m c (ix2 a b)) (row t p).val k := by
  have h : iblk m c 2 t (ix2 p k) = V m c main_v3 (ix2 (row t p) k) := by
    blk_simp [iblk]
    blk_ext [row, index_2]
  rw [h, host_h]
  pointwise [int_zero]
  rfl

theorem read_t (t : Fin cfg0.N) (p : Fin 544) (k : Fin 1024) :
    (iblk m c 3 t (ix2 p k) : EReal) = below 128 (fun a b => argT m c (ix2 a b)) (row t p).val k := by
  have h : iblk m c 3 t (ix2 p k) = V m c main_v4 (ix2 (row t p) k) := by
    blk_simp [iblk]
    blk_ext [row, index_3]
  rw [h, host_t]
  pointwise [int_zero]
  rfl

theorem read_g (t : Fin cfg0.N) (k : Fin 1024) : (iblk m c 4 t (ix2 0 k) : EReal) = argG m c (ix2 0 k) := by
  have h : iblk m c 4 t (ix2 0 k) = V m c main_arg4 (ix2 0 k) := by
    blk_simp [iblk]
    blk_ext [index_4]
  rw [h, V_main_arg4]

end Cert.DownLoss
end
end
-- ==== Proof.DownRows.lean ====
module

public import proofs.«01_k».proof.Proof.DownBlock

@[expose] public section

set_option maxRecDepth 16384

noncomputable section

namespace Cert.DownLoss

open Cert.Kernel2Ideal Cert.Kernel2Ideal.Gen Cert.Norm
open Cert.Reference2Ideal.Read
open Idealize.ShloMosaic Idealize.ShloMosaic.TcCoe Idealize.ShloMosaic.Tactic
open Idealize.SL.Sem

variable (m : (ℓ : Loc nD τ sig) → Buf (Elt Ideal) ℓ) (ρ : Dev nD → PrngReg) (c : Dev nD)

/-! ## The reference's rows, with zero rows above them -/

/-- The FFN's output before its normalization. -/
def ff (r : ℕ) (k : Fin 1024) : EReal := below 112 (fun a b => val_main_v0 (F := Ideal) (argS m c) (argW m c) (ix2 a b)) r k

/-- The gradient of the residual stream. -/
def dh (r : ℕ) (k : Fin 1024) : EReal :=
  below 112 (fun a b => val_main_v33 (F := Ideal) (argS m c) (argW m c) (argH m c) (argT m c) (argG m c) (ix2 a b)) r k

/-- The difference of the stream and the target. -/
def diff (r : ℕ) (k : Fin 1024) : EReal :=
  below 128 (fun a b => val_main_v18 (F := Ideal) (argS m c) (argW m c) (argH m c) (argT m c) (argG m c) (ix2 a b)) r k

/-- The reciprocal root mean square of a row. -/
def rstd (r : ℕ) : EReal := Ideal.rsqrt (meanSq ((1024 : ℝ) : EReal) (rmsEps : EReal) (ff m c r))

/-! ## What the kernel computes of a row -/

theorem row_ff (t : Fin cfg0.N) (p : Fin 544) (k : Fin 1024) :
    k0_pay6 (F := Ideal) (iblk m c 0 t) (iblk m c 1 t) (ix2 p k) = ff m c (row t p).val k := by
  unfold ff
  have hr := (row t p).isLt
  pointwise [k0_pay6]
  simp only [read_s, read_w]
  by_cases h : 112 ≤ (row t p).val
  · have hn : (row t p).val - 112 < 2064 := by omega
    rw [below_in _ _ h hn]
    pointwise [val_main_v0]
    exact Finset.sum_congr rfl fun x _ => by rw [below_in _ _ h hn]
  · rw [below_out _ _ (by omega)]
    exact Finset.sum_eq_zero fun x _ => by rw [below_out _ _ (by omega), zero_mul]

theorem row_rstd (t : Fin cfg0.N) (p : Fin 544) :
    k0_pay7 (F := Ideal) (iblk m c 0 t) (iblk m c 1 t) (ix2 p 0) = rstd m c (row t p).val := by
  unfold rstd meanSq
  pointwise [k0_pay7]
  simp only [row_ff, bits_1024, bits_rmsEps]

theorem row_normed (t : Fin cfg0.N) (p : Fin 544) (k : Fin 1024) :
    k0_pay8 (F := Ideal) (iblk m c 0 t) (iblk m c 1 t) (ix2 p k) = ff m c (row t p).val k * rstd m c (row t p).val := by
  pointwise [k0_pay8]
  rw [row_ff, row_rstd]

/-- Of the padded rows, those before row 128 enter neither the loss nor its gradient. -/
theorem mask : ∀ (t : Fin grid0.N) (p : Fin 544),
    IntOp.cmpi .sge (IntOp.addi (Scalar.muli (BitVec.ofNat 32 (grid0.coords t 0).val) 544#32) (BitVec.ofNat 32 p.val)) 128#32
      = if 128 ≤ 544 * t.val + p.val then 1#1 else 0#1 := by decide +kernel

theorem ref_meanSq (a : Fin 2064) (r : ℕ) (h : r = a.val + 112) :
    val_main_v7 (F := Ideal) (argS m c) (argW m c) (ix2 a 0) = meanSq ((1024 : ℝ) : EReal) (rmsEps : EReal) (ff m c r) := by
  subst h
  unfold meanSq ff
  pointwise [val_main_v7, val_main_v6, val_main_v5, val_main_v4, val_main_v3, val_main_v2, val_main_v1, val_main_cst, val_main_cst_0, val_main_cst_1]
  simp only [below_in _ _ (Nat.le_add_left 112 a.val) (show a.val + 112 - 112 < 2064 by omega), bits_1024, bits_rmsEps, Ideal.ofBits_zero_f32, zero_add,
    Nat.add_sub_cancel]

theorem ref_rstd (a : Fin 2064) (r : ℕ) (h : r = a.val + 112) :
    val_main_v8 (F := Ideal) (argS m c) (argW m c) (ix2 a 0) = rstd m c r := by
  unfold rstd
  pointwise [val_main_v8]
  rw [ref_meanSq m c a r h]

theorem row_diff (t : Fin cfg0.N) (p : Fin 544) (k : Fin 1024) :
    k0_pay9 (F := Ideal) (grid0.coords t) (iblk m c 0 t) (iblk m c 1 t) (iblk m c 4 t) (iblk m c 2 t) (iblk m c 3 t) (ix2 p k)
      = diff m c (row t p).val k := by
  unfold diff
  have hr := (row t p).isLt
  pointwise [k0_pay9]
  rw [mask, row_normed, read_h, read_t, read_g]
  by_cases h : 128 ≤ (row t p).val
  · have hn : (row t p).val - 128 < 2048 := by omega
    rw [if_pos (show 128 ≤ 544 * t.val + p.val from h), below_in _ _ h hn, below_in _ _ h hn, below_in _ _ (by omega : 112 ≤ (row t p).val) (by omega)]
    pointwise [val_main_v18, val_main_v17, val_main_v16, val_main_v15, val_main_v14, val_main_v13, val_main_v12]
    rw [ref_rstd m c _ (row t p).val (by show (row t p).val = 16 + ((row t p).val - 128) + 112; omega)]
    unfold ff
    rw [below_in _ _ (by omega : 112 ≤ (row t p).val) (by omega)]
    have e : (⟨(row t p).val - 112, by omega⟩ : Fin 2064) = ⟨16 + ((row t p).val - 128), by omega⟩ := Fin.ext (by show (row t p).val - 112 = 16 + ((row t p).val - 128); omega)
    rw [e]
  · rw [if_neg (show ¬128 ≤ 544 * t.val + p.val from h), below_out _ _ (by omega : (row t p).val < 128), below_out _ _ (by omega : (row t p).val < 128)]
    rfl

theorem div_zero_1024 : Ideal.div 0 ((1024 : ℝ) : EReal) = 0 := by rw [div_real (by norm_num), zero_mul]

/-- Half the derivative of a mean of squares is the mean. -/
theorem mean_grad (x : EReal) : Ideal.div ((1 / 2 : ℝ) : EReal) ((1024 : ℝ) : EReal) * (((2 : ℝ) : EReal) * x) = Ideal.div x ((1024 : ℝ) : EReal) := by
  rw [div_real (by norm_num), div_real (by norm_num), ← mul_assoc, ← EReal.coe_mul, ← EReal.coe_mul, mul_comm x]
  norm_num

theorem row_dh (t : Fin cfg0.N) (p : Fin 544) (k : Fin 1024) :
    k0_pay10 (F := Ideal) (grid0.coords t) (iblk m c 0 t) (iblk m c 1 t) (iblk m c 4 t) (iblk m c 2 t) (iblk m c 3 t) (ix2 p k)
      = dh m c (row t p).val k := by
  have hr := (row t p).isLt
  pointwise [k0_pay10]
  rw [row_diff, bits_1024]
  unfold dh diff
  by_cases h : 128 ≤ (row t p).val
  · have hn : (row t p).val - 128 < 2048 := by omega
    rw [below_in _ _ h hn, below_in _ _ (by omega : 112 ≤ (row t p).val) (by omega)]
    pointwise [val_main_v33]
    have e : (⟨(row t p).val - 112 - 16, by omega⟩ : Fin 2048) = ⟨(row t p).val - 128, hn⟩ := Fin.ext (by show (row t p).val - 112 - 16 = (row t p).val - 128; omega)
    rw [dif_pos ⟨by omega, by omega⟩, e]
    pointwise [val_main_v32, val_main_v31, val_main_v30, val_main_v29, val_main_v28, val_main_v27, val_main_v26, val_main_v25, val_main_v24, val_main_v23, val_main_v22, val_main_v21, val_main_v20,
      val_main_cst_3, val_main_cst_7, val_main_cst_8, val_main_cst_9, val_main_cst_10]
    rw [bits_half, bits_two, bits_1024]
    exact (mean_grad _).symm
  · rw [below_out (o := 128) _ _ (by omega), div_zero_1024]
    by_cases h' : 112 ≤ (row t p).val
    · rw [below_in _ _ h' (by omega)]
      pointwise [val_main_v33]
      rw [dif_neg (by omega)]
      exact Ideal.ofBits_zero_f32.symm
    · rw [below_out _ _ (by omega)]

/-- The gradient of the FFN's output. -/
theorem row_dff (t : Fin cfg0.N) (p : Fin 544) (k : Fin 1024) :
    k0_pay1 (F := Ideal) (k0_pay7 (iblk m c 0 t) (iblk m c 1 t)) (k0_pay8 (iblk m c 0 t) (iblk m c 1 t))
        (k0_pay10 (grid0.coords t) (iblk m c 0 t) (iblk m c 1 t) (iblk m c 4 t) (iblk m c 2 t) (iblk m c 3 t)) (k0_pay11 (iblk m c 4 t)) (ix2 p k)
      = below 112 (fun a b => val_main_v52 (F := Ideal) (argS m c) (argW m c) (argH m c) (argT m c) (argG m c) (ix2 a b)) (row t p).val k := by
  have hr := (row t p).isLt
  have hg (j : Fin 1024) : k0_pay11 (F := Ideal) (iblk m c 4 t) (ix2 p j) = argG m c (ix2 0 j) := by
    pointwise [k0_pay11]
    exact read_g m c t j
  pointwise [k0_pay1]
  simp only [row_rstd, row_normed, row_dh, hg, bits_1024]
  refine (rms_grad (N := 1024) (by norm_num) rmsEps_pos (ff m c (row t p).val) (fun j => dh m c (row t p).val j * argG m c (ix2 0 j)) k).trans ?_
  by_cases h : 112 ≤ (row t p).val
  · have hn : (row t p).val - 112 < 2064 := by omega
    rw [below_in _ _ h hn]
    pointwise [val_main_v52, val_main_v51, val_main_v50, val_main_v49, val_main_v48, val_main_v47, val_main_v46, val_main_v45, val_main_v44, val_main_v43,
      val_main_v42, val_main_v41, val_main_v40, val_main_v39, val_main_v38, val_main_v37, val_main_v11, val_main_v10, val_main_v9,
      val_main_cst_2, val_main_cst_13, val_main_cst_14, val_main_cst_15]
    simp only [Fin.sum_univ_one, Ideal.ofBits_zero_f32, zero_add, bits_1024, bits_neg_half]
    rw [ref_rstd m c _ (row t p).val (by show (row t p).val = (row t p).val - 112 + 112; omega),
      ref_meanSq m c _ (row t p).val (by show (row t p).val = (row t p).val - 112 + 112; omega)]
    have ed (j : Fin 1024) : dh m c (row t p).val j = val_main_v33 (F := Ideal) (argS m c) (argW m c) (argH m c) (argT m c) (argG m c) (ix2 ⟨(row t p).val - 112, hn⟩ j) :=
      below_in _ _ h hn
    have ef (j : Fin 1024) : ff m c (row t p).val j = val_main_v0 (F := Ideal) (argS m c) (argW m c) (ix2 ⟨(row t p).val - 112, hn⟩ j) := below_in _ _ h hn
    simp only [← ed, ← ef]
    rfl
  · rw [below_out _ _ (by omega)]
    have e : ∀ j, dh m c (row t p).val j = 0 := fun j => below_out _ _ (by omega)
    simp only [e, zero_mul, mul_zero, Finset.sum_const_zero, add_zero, div_zero_1024]

end Cert.DownLoss
end
end
-- ==== Proof.DownValue.lean ====
module

public import proofs.«01_k».proof.Proof.DownRows

@[expose] public section

set_option maxRecDepth 16384

noncomputable section

namespace Cert.DownLoss

open Cert.Kernel2Ideal Cert.Kernel2Ideal.Gen Cert.Norm
open Cert.Reference2Ideal.Read
open Idealize.ShloMosaic Idealize.ShloMosaic.TcCoe Idealize.ShloMosaic.Tactic
open Idealize.SL.Sem

variable (m : (ℓ : Loc nD τ sig) → Buf (Elt Ideal) ℓ) (ρ : Dev nD → PrngReg) (c : Dev nD)

/-! ## What the grid points leave in the output buffers -/

theorem after5 (t : Fin cfg0.N) :
    (outsAt0 m c t.val t.isLt).1 = k0_pay10 (grid0.coords t) (iblk m c 0 t) (iblk m c 1 t) (iblk m c 4 t) (iblk m c 2 t) (iblk m c 3 t) := by
  by_cases h0 : t.val % 4 = 0
  · have h1 : ¬1 ≤ t.val := by have := t.isLt; have := grid_points; omega
    rw [outsAt0_A m c t h0 h1 h0 h1]
    frame_out
  · have h1 : 1 ≤ t.val := by omega
    rw [outsAt0_B m c t h0 h1 h0 h1]
    frame_out

theorem after6 (t : Fin cfg0.N) :
    (outsAt0 m c t.val t.isLt).2.1 = k0_pay1 (k0_pay7 (iblk m c 0 t) (iblk m c 1 t)) (k0_pay8 (iblk m c 0 t) (iblk m c 1 t))
        (k0_pay10 (grid0.coords t) (iblk m c 0 t) (iblk m c 1 t) (iblk m c 4 t) (iblk m c 2 t) (iblk m c 3 t)) (k0_pay11 (iblk m c 4 t)) := by
  by_cases h0 : t.val % 4 = 0
  · have h1 : ¬1 ≤ t.val := by have := t.isLt; have := grid_points; omega
    rw [outsAt0_A m c t h0 h1 h0 h1]
    frame_out
  · have h1 : 1 ≤ t.val := by omega
    rw [outsAt0_B m c t h0 h1 h0 h1]
    frame_out

/-- The point's own share of the gradient of the normalization's gain. -/
theorem share7 (t : Fin cfg0.N) (k : Fin 1024) :
    k0_pay2 (F := Ideal) (k0_pay8 (iblk m c 0 t) (iblk m c 1 t))
        (k0_pay10 (grid0.coords t) (iblk m c 0 t) (iblk m c 1 t) (iblk m c 4 t) (iblk m c 2 t) (iblk m c 3 t)) (ix2 0 k)
      = ∑ p ∈ Finset.range 544, dh m c (544 * t.val + p) k * (ff m c (544 * t.val + p) k * rstd m c (544 * t.val + p)) := by
  pointwise [k0_pay2]
  simp only [row_dh, row_normed]
  exact Fin.sum_univ_eq_sum_range (fun p => dh m c (544 * t.val + p) k * (ff m c (544 * t.val + p) k * rstd m c (544 * t.val + p))) 544

/-- The point's own share of the loss. -/
theorem share8 (t : Fin cfg0.N) (k : Fin 1024) :
    k0_pay4 (F := Ideal) (k0_pay9 (grid0.coords t) (iblk m c 0 t) (iblk m c 1 t) (iblk m c 4 t) (iblk m c 2 t) (iblk m c 3 t)) (ix2 0 k)
      = ∑ p ∈ Finset.range 544, diff m c (544 * t.val + p) k * diff m c (544 * t.val + p) k := by
  pointwise [k0_pay4]
  simp only [row_diff]
  exact Fin.sum_univ_eq_sum_range (fun p => diff m c (544 * t.val + p) k * diff m c (544 * t.val + p) k) 544

theorem first7 (t : Fin cfg0.N) (h0 : t.val % 4 = 0) : (outsAt0 m c t.val t.isLt).2.2.1 = k0_pay2 (k0_pay8 (iblk m c 0 t) (iblk m c 1 t)) (k0_pay10 (grid0.coords t) (iblk m c 0 t) (iblk m c 1 t) (iblk m c 4 t) (iblk m c 2 t) (iblk m c 3 t)) := by
  have h1 : ¬1 ≤ t.val := by have := t.isLt; have := grid_points; omega
  rw [outsAt0_A m c t h0 h1 h0 h1]
  frame_out

theorem next7 (t : Fin cfg0.N) (h0 : ¬t.val % 4 = 0) : (outsAt0 m c t.val t.isLt).2.2.1
    = k0_pay3 (k0_pay8 (iblk m c 0 t) (iblk m c 1 t)) (k0_pay10 (grid0.coords t) (iblk m c 0 t) (iblk m c 1 t) (iblk m c 4 t) (iblk m c 2 t) (iblk m c 3 t)) (outsAt0 m c (t.val - 1) (Nat.lt_of_le_of_lt (Nat.sub_le t.val 1) t.isLt)).2.2.1 := by
  have h1 : 1 ≤ t.val := by omega
  rw [outsAt0_B m c t h0 h1 h0 h1]
  frame_out

theorem first8 (t : Fin cfg0.N) (h0 : t.val % 4 = 0) : (outsAt0 m c t.val t.isLt).2.2.2 = k0_pay4 (k0_pay9 (grid0.coords t) (iblk m c 0 t) (iblk m c 1 t) (iblk m c 4 t) (iblk m c 2 t) (iblk m c 3 t)) := by
  have h1 : ¬1 ≤ t.val := by have := t.isLt; have := grid_points; omega
  rw [outsAt0_A m c t h0 h1 h0 h1]
  frame_out

theorem next8 (t : Fin cfg0.N) (h0 : ¬t.val % 4 = 0) : (outsAt0 m c t.val t.isLt).2.2.2
    = k0_pay5 (k0_pay9 (grid0.coords t) (iblk m c 0 t) (iblk m c 1 t) (iblk m c 4 t) (iblk m c 2 t) (iblk m c 3 t)) (outsAt0 m c (t.val - 1) (Nat.lt_of_le_of_lt (Nat.sub_le t.val 1) t.isLt)).2.2.2 := by
  have h1 : 1 ≤ t.val := by omega
  rw [outsAt0_B m c t h0 h1 h0 h1]
  frame_out

theorem after7 (k : Fin 1024) : ∀ (n : ℕ) (h : n < cfg0.N), ((outsAt0 m c n h).2.2.1 (ix2 0 k) : EReal) = ∑ r ∈ Finset.range (544 * (n + 1)), dh m c r k * (ff m c r k * rstd m c r)
  | 0, h => (congrFun (first7 m c ⟨0, h⟩ rfl) (ix2 0 k)).trans ((share7 m c ⟨0, h⟩ k).trans (by simp only [Nat.mul_zero, Nat.zero_add, Nat.mul_one]))
  | n + 1, h => by
    have hN := grid_points
    refine (congrFun (next7 m c ⟨n + 1, h⟩ (by show ¬(n + 1) % 4 = 0; omega)) (ix2 0 k)).trans ?_
    pointwise [k0_pay3]
    rw [share7, Nat.mul_succ 544 (n + 1), Finset.sum_range_add]
    exact congrArg (· + _) (after7 k n (Nat.lt_of_succ_lt h))

theorem after8 (k : Fin 1024) : ∀ (n : ℕ) (h : n < cfg0.N), ((outsAt0 m c n h).2.2.2 (ix2 0 k) : EReal) = ∑ r ∈ Finset.range (544 * (n + 1)), diff m c r k * diff m c r k
  | 0, h => (congrFun (first8 m c ⟨0, h⟩ rfl) (ix2 0 k)).trans ((share8 m c ⟨0, h⟩ k).trans (by simp only [Nat.mul_zero, Nat.zero_add, Nat.mul_one]))
  | n + 1, h => by
    have hN := grid_points
    refine (congrFun (next8 m c ⟨n + 1, h⟩ (by show ¬(n + 1) % 4 = 0; omega)) (ix2 0 k)).trans ?_
    pointwise [k0_pay5]
    rw [share8, Nat.mul_succ 544 (n + 1), Finset.sum_range_add]
    exact congrArg (· + _) (after8 k n (Nat.lt_of_succ_lt h))

/-! ## The arrays after the run -/

theorem array5 : (dats m 0 c).arrAt 5 cfg0.N = val_main_v53 (F := Ideal) (argS m c) (argW m c) (argH m c) (argT m c) (argG m c) := by
  refine (dats m 0 c).arrAt_eq_of_covers 5 _ (by decide +kernel) fun t hf y => ?_
  obtain ⟨p, k, rfl⟩ : ∃ (p : Fin 544) (k : Fin 1024), y = ix2 p k := ⟨y 0, y 1, eq_ix2 y⟩
  blk_simp
  rw [after0_5, after5]
  have e : (win0_5.blk t).view.emb (ix2 p k) = ix2 (row t p) k := by
    blk_ext [row, index_5]
  rw [e, row_dh]
  pointwise [val_main_v53, val_main_call0_v0, val_main_c, int_zero]
  rfl

theorem array6 : (dats m 0 c).arrAt 6 cfg0.N = val_main_v55 (F := Ideal) (argS m c) (argW m c) (argH m c) (argT m c) (argG m c) := by
  refine (dats m 0 c).arrAt_eq_of_covers 6 _ (by decide +kernel) fun t hf y => ?_
  obtain ⟨p, k, rfl⟩ : ∃ (p : Fin 544) (k : Fin 1024), y = ix2 p k := ⟨y 0, y 1, eq_ix2 y⟩
  blk_simp
  rw [after0_6, after6]
  have e : (win0_6.blk t).view.emb (ix2 p k) = ix2 (row t p) k := by
    blk_ext [row, index_6]
  rw [e, row_dff]
  pointwise [val_main_v55, val_main_v54, val_main_call1_v0, val_main_c_16, int_zero]
  rfl

theorem array7 : (dats m 0 c).arrAt 7 cfg0.N = val_main_v36 (F := Ideal) (argS m c) (argW m c) (argH m c) (argT m c) (argG m c) := by
  refine (dats m 0 c).arrAt_eq_of_after_last 7 t0_3 (by decide +kernel) _ fun j => ?_
  obtain ⟨k, rfl⟩ : ∃ k : Fin 1024, j = ix2 0 k := ⟨j 1, by blk_ext⟩
  blk_simp
  rw [after0_7]
  refine (after7 m c k 3 (by decide)).trans ?_
  rw [sum_below (n := 2064) 112 (544 * (3 + 1)) (by norm_num) _ fun r hr => by
    rw [show dh m c r k = 0 from below_out _ _ hr, zero_mul]]
  pointwise [val_main_v36, val_main_v35, val_main_v34, val_main_v13, val_main_v12, val_main_cst_12]
  refine Finset.sum_congr rfl fun x _ => ?_
  rw [ref_rstd m c x _ rfl]
  unfold dh ff
  rw [below_in _ _ (by omega : 112 ≤ x.val + 112) (by omega : x.val + 112 - 112 < 2064), below_in _ _ (by omega : 112 ≤ x.val + 112) (by omega : x.val + 112 - 112 < 2064)]
  simp only [Nat.add_sub_cancel]
  exact mul_comm (G := EReal) _ _

theorem array8 : (dats m 0 c).arrAt 8 cfg0.N = val_main_v57 (F := Ideal) (argS m c) (argW m c) (argH m c) (argT m c) (argG m c) := by
  refine (dats m 0 c).arrAt_eq_of_after_last 8 t0_3 (by decide +kernel) _ fun j => ?_
  obtain ⟨k, rfl⟩ : ∃ k : Fin 1024, j = ix2 0 k := ⟨j 1, by blk_ext⟩
  blk_simp
  rw [after0_8]
  refine (after8 m c k 3 (by decide)).trans ?_
  rw [sum_below (n := 2048) 128 (544 * (3 + 1)) (by norm_num) _ fun r hr => by
    rw [show diff m c r k = 0 from below_out _ _ hr, zero_mul]]
  pointwise [val_main_v57, val_main_v56, val_main_v19, val_main_cst_17]
  refine Finset.sum_congr rfl fun x _ => ?_
  unfold diff
  rw [below_in _ _ (by omega : 128 ≤ x.val + 128) (by omega : x.val + 128 - 128 < 2048)]
  simp only [Nat.add_sub_cancel]

end Cert.DownLoss
end
end
-- ==== Proof.LayerNorm.lean ====
module

public import proofs.«01_k».proof.Proof.Padding

@[expose] public section

noncomputable section

namespace Cert.Norm

open Idealize.ShloMosaic
open Finset (sum_congr)

/-- The stabilizer of the layer normalization. -/
def lnEps : ℝ := 10995116 / 1099511627776

theorem lnEps_pos : 0 < lnEps := by norm_num [lnEps]

theorem bits_lnEps : Ideal.ofBits .f32 0x3727C5AC#32 = ((lnEps : ℝ) : EReal) := by
  simp [Ideal.ofBits, Ideal.ieee, -EReal.coe_mul, lnEps]; norm_num

/-! ## A row without its mean -/

/-- A row with its mean taken off. -/
def centred {n : ℕ} (N : EReal) (z : Fin n → EReal) (k : Fin n) : EReal := z k - Ideal.div (∑ j, z j) N

theorem centred_real {n : ℕ} {N : ℝ} (hN : 0 < N) (a : Fin n → ℝ) :
    centred (N : EReal) (fun j => (a j : EReal)) = fun k => ((a k - (∑ j, a j) * N⁻¹ : ℝ) : EReal) := by
  funext k
  unfold centred
  rw [div_real hN.ne', ← coe_sum, ← EReal.coe_mul, ← EReal.coe_sub]

theorem sum_ne_bot {ι : Type*} (s : Finset ι) (z : ι → EReal) (h : ∀ i ∈ s, z i ≠ ⊥) : ∑ i ∈ s, z i ≠ ⊥ := by
  classical
  induction s using Finset.induction_on with
  | empty => exact EReal.zero_ne_bot
  | insert a s ha ih =>
    rw [Finset.sum_insert ha]
    intro e
    rcases EReal.add_eq_bot_iff.mp e with e | e
    · exact h a (Finset.mem_insert_self a s) e
    · exact ih (fun i hi => h i (Finset.mem_insert_of_mem hi)) e

/-- A row with an infinite entry has an entry whose distance from the mean is infinite. -/
theorem centred_top {n : ℕ} {N : ℝ} (hN : 0 < N) (z : Fin n → EReal) (k : Fin n) (h : z k * z k = ⊤) :
    ∃ i, centred (N : EReal) z i * centred (N : EReal) z i = ⊤ := by
  have hp : (0 : ℝ) < N⁻¹ := inv_pos.mpr hN
  by_cases hb : ∃ i, z i = ⊥
  · obtain ⟨i, hi⟩ := hb
    refine ⟨i, ?_⟩
    unfold centred
    rw [hi, EReal.bot_sub, EReal.bot_mul_bot]
  · have hb' : ∀ i, z i ≠ ⊥ := fun i hi => hb ⟨i, hi⟩
    have hk : z k = ⊤ := by
      have hk' := hb' k
      revert h hk'
      generalize z k = y
      induction y using EReal.rec with
      | bot => exact fun _ h => absurd rfl h
      | coe r => exact fun h _ => absurd ((EReal.coe_mul r r).trans h) (EReal.coe_ne_top _)
      | top => exact fun _ _ => rfl
    have hs : ∑ j, z j = ⊤ := by
      rw [← Finset.add_sum_erase _ _ (Finset.mem_univ k), hk]
      exact EReal.top_add_of_ne_bot (sum_ne_bot _ z fun i _ => hb' i)
    refine ⟨k, ?_⟩
    unfold centred
    rw [hs, div_real hN.ne', EReal.top_mul_coe_of_pos hp, hk, EReal.sub_top, EReal.bot_mul_bot]

/-! ## The gradient of a layer normalization -/

/-- The gradient as the kernel writes it, through the normalized row, is the one that differentiating the normalization
    gives, where the cotangent is real. -/
theorem ln_grad {n : ℕ} {N e : ℝ} (hN : 0 < N) (hn : N = n) (he : 0 < e) (z : Fin n → EReal) (D : Fin n → ℝ) (k : Fin n)
    (x : Fin n → EReal) (hx : x = centred (N : EReal) z) (r C : EReal) (hr : r = Ideal.rsqrt (meanSq N e x))
    (hC : C = Ideal.div ((∑ j, x j * (D j : EReal)) * (((-(1 / 2) : ℝ) : EReal) * Ideal.div r (meanSq N e x))) N) :
    r * ((D k : EReal) - Ideal.div (∑ j, (D j : EReal)) N - x k * r * Ideal.div (∑ j, (D j : EReal) * (x j * r)) N)
      = ((D k : EReal) * r + C * (((2 : ℝ) : EReal) * x k))
        + Ideal.div (∑ j, -((D j : EReal) * r) + ∑ j, -(C * (((2 : ℝ) : EReal) * x j))) N := by
  rcases real_or_infinite z with ⟨a, rfl⟩ | ⟨i, hi⟩
  · rw [centred_real hN] at hx
    obtain ⟨b, hb⟩ : ∃ b : Fin n → ℝ, b = fun j => a j - (∑ j, a j) * N⁻¹ := ⟨_, rfl⟩
    have hb0 : ∑ j, b j = 0 := by
      rw [hb, Finset.sum_sub_distrib, Finset.sum_const, Finset.card_univ, Fintype.card_fin, nsmul_eq_mul, ← hn]
      field_simp
      ring
    have hxb : x = fun j => (b j : EReal) := by rw [hx, hb]
    clear hx hb
    subst hxb
    obtain ⟨σ, hσ⟩ : ∃ σ : ℝ, σ = (∑ j, b j * b j) * N⁻¹ + e := ⟨_, rfl⟩
    have hpos : 0 < σ := by
      have h : 0 ≤ ∑ j, b j * b j := Finset.sum_nonneg fun j _ => mul_self_nonneg (b j)
      have := mul_nonneg h (inv_pos.mpr hN).le
      linarith
    rw [meanSq_real hN, ← hσ] at hr hC
    rw [rsqrt_pos hpos] at hr
    obtain ⟨ρ, hρ⟩ : ∃ ρ : ℝ, ρ = (Real.sqrt σ)⁻¹ := ⟨_, rfl⟩
    rw [← hρ] at hr
    have hinv : σ⁻¹ = ρ * ρ := by rw [hρ, ← mul_inv, Real.mul_self_sqrt hpos.le]
    subst hr
    have hC' : C = ((((∑ j, b j * D j) * (-(1 / 2) * (ρ * σ⁻¹)) * N⁻¹ : ℝ)) : EReal) := by
      rw [hC, div_real hN.ne', div_real hpos.ne']
      simp only [EReal.coe_mul, coe_sum]
    obtain ⟨q, hq⟩ : ∃ q : ℝ, q = (∑ j, b j * D j) * (-(1 / 2) * (ρ * σ⁻¹)) * N⁻¹ := ⟨_, rfl⟩
    rw [← hq] at hC'
    subst hC'
    rw [div_real hN.ne', div_real hN.ne', div_real hN.ne']
    simp only [← EReal.coe_mul, ← EReal.coe_neg, ← coe_sum, ← EReal.coe_add, ← EReal.coe_sub]
    congr 1
    have s1 : ∑ j, D j * (b j * ρ) = (∑ j, b j * D j) * ρ := by
      rw [Finset.sum_mul]
      exact sum_congr rfl fun j _ => by ring
    have s2 : ∑ j, -(D j * ρ) = -((∑ j, D j) * ρ) := by rw [Finset.sum_neg_distrib, Finset.sum_mul]
    have s3 : ∑ j, -(q * (2 * b j)) = 0 := by
      rw [Finset.sum_neg_distrib, ← Finset.mul_sum, ← Finset.mul_sum, hb0, mul_zero, mul_zero, neg_zero]
    rw [s1, s2, s3, hq, hinv]
    ring
  · obtain ⟨i', hi'⟩ := centred_top hN z i hi
    rw [← hx] at hi'
    rw [meanSq_top hN i' hi'] at hr hC
    rw [Ideal.rsqrt_top] at hr
    subst hr
    have hd : Ideal.div (0 : EReal) ⊤ = 0 := by
      unfold Ideal.div
      rw [if_neg (by decide), zero_mul]
    rw [hd, mul_zero, mul_zero, div_real hN.ne', zero_mul] at hC
    subst hC
    simp only [mul_zero, zero_mul, div_real hN.ne', add_zero, neg_zero, Finset.sum_const_zero]

/-! ## The gradient of swish -/

/-- The derivative of swish, as the kernel writes it. -/
def swishGrad (a : EReal) : EReal := Ideal.logistic a * (1 + a * (1 - Ideal.logistic a))

theorem swishGrad_real (a : EReal) : ∃ w : ℝ, swishGrad a = (w : EReal) := by
  unfold swishGrad
  induction a using EReal.rec with
  | bot => exact ⟨0, by rw [Ideal.logistic_bot, zero_mul]; rfl⟩
  | coe r => exact ⟨_, by rw [Ideal.logistic_coe, ← EReal.coe_one, ← EReal.coe_sub, ← EReal.coe_mul, ← EReal.coe_add, ← EReal.coe_mul]⟩
  | top => exact ⟨1, by rw [Ideal.logistic_top, ← EReal.coe_one, ← EReal.coe_sub, sub_self, EReal.coe_zero, mul_zero, add_zero, EReal.coe_one, one_mul]⟩

/-- It is the one that differentiating swish gives, at every argument, where the cotangent is real. -/
theorem swish_grad (a : EReal) (d : ℝ) :
    (d : EReal) * swishGrad a
      = (d : EReal) * Ideal.logistic a + a * (d : EReal) * (Ideal.logistic a * (1 - Ideal.logistic a)) := by
  unfold swishGrad
  induction a using EReal.rec with
  | bot => simp only [Ideal.logistic_bot, zero_mul, mul_zero, add_zero]
  | coe r =>
    simp only [Ideal.logistic_coe]
    rw [← EReal.coe_one]
    simp only [← EReal.coe_sub, ← EReal.coe_mul, ← EReal.coe_add]
    congr 1
    ring
  | top =>
    have h : (1 : EReal) - 1 = 0 := by rw [← EReal.coe_one, ← EReal.coe_sub, sub_self, EReal.coe_zero]
    rw [Ideal.logistic_top, h, mul_zero, mul_zero, mul_zero, add_zero, add_zero, one_mul]

/-! ## Where the root-mean-square gradient is real -/

/-- With a real cotangent the gradient of the root-mean-square normalization is real, whatever the row. -/
theorem rms_grad_real {n : ℕ} {N e : ℝ} (hN : 0 < N) (he : 0 < e) (x : Fin n → EReal) (D : Fin n → ℝ) (k : Fin n) :
    ∃ w : ℝ, Ideal.rsqrt (meanSq N e x) * ((D k : EReal) - x k * Ideal.rsqrt (meanSq N e x)
        * Ideal.div (∑ j, (D j : EReal) * (x j * Ideal.rsqrt (meanSq N e x))) N) = (w : EReal) := by
  rcases real_or_infinite x with ⟨a, rfl⟩ | ⟨i, hi⟩
  · have h : 0 ≤ ∑ j, a j * a j := Finset.sum_nonneg fun j _ => mul_self_nonneg (a j)
    have hpos : 0 < (∑ j, a j * a j) * N⁻¹ + e := by
      have := mul_nonneg h (inv_pos.mpr hN).le
      linarith
    rw [meanSq_real hN, rsqrt_pos hpos, div_real hN.ne']
    simp only [← EReal.coe_mul, ← coe_sum, ← EReal.coe_sub]
    exact ⟨_, rfl⟩
  · rw [meanSq_top hN i hi, Ideal.rsqrt_top, zero_mul]
    exact ⟨0, rfl⟩

end Cert.Norm

end

end
-- ==== Proof.OutBlock.lean ====
module

public import proofs.«01_k».proof.Proof.LayerNorm
public import proofs.«01_k».proof.Proof.Gen.Kernel3Ideal.Value
public import proofs.«01_k».proof.Proof.Gen.Reference3Ideal.Read
public import Idealize.ShloMosaic.Lib.Pipeline.ValueKit
public import Idealize.ShloMosaic.Lib.Pointwise

@[expose] public section

set_option maxRecDepth 16384

noncomputable section

namespace Cert.OutProj

open Cert.Kernel3Ideal Cert.Kernel3Ideal.Gen Cert.Norm
open Cert.Reference3Ideal.Read
open Idealize.ShloMosaic Idealize.ShloMosaic.TcCoe Idealize.ShloMosaic.Tactic
open Idealize.SL.Sem

variable (m : (ℓ : Loc nD τ sig) → Buf (Elt Ideal) ℓ) (ρ : Dev nD → PrngReg) (c : Dev nD)

/-! ## The arguments -/

abbrev argA : Vec Ideal S2064x512 .f32 := m ((c : Thread nD τ).loc main_arg0)
abbrev argB : Vec Ideal S2064x512 .f32 := m ((c : Thread nD τ).loc main_arg1)
abbrev argBias : Vec Ideal S1x512 .f32 := m ((c : Thread nD τ).loc main_arg2)
abbrev argLg : Vec Ideal S1x512 .f32 := m ((c : Thread nD τ).loc main_arg3)
abbrev argLb : Vec Ideal S1x512 .f32 := m ((c : Thread nD τ).loc main_arg4)
abbrev argW : Vec Ideal S1024x1024 .f32 := m ((c : Thread nD τ).loc main_arg5)
abbrev argG : Vec Ideal S1x1024 .f32 := m ((c : Thread nD τ).loc main_arg6)
abbrev argD : Vec Ideal S2064x1024 .f32 := m ((c : Thread nD τ).loc main_arg7)

/-! ## What the host computes for the kernel -/

section Host

variable (x0 x1 : Vec Ideal S2064x512 .f32) (x2 x3 x4 : Vec Ideal S1x512 .f32) (x5 : Vec Ideal S1024x1024 .f32)

/-- The second convolution's rows with their bias. -/
def hostZ : FVec Ideal S2176x512 .f32 :=
  addf (pad S2176x512 ![112, 0] ![0, 0] ![0, 0] x1 (sitofp (F := Ideal) .f32 (constantI S_ 32 0#32)) pads_S2064x512_S2176x512_11200_000 h_S_)
    (broadcastInDim S2176x512 ![0, 1] bcast_S1x512_S2176x512_0_1 x2)

def hostMean : FVec Ideal S2176x1 .f32 :=
  Host.divf (broadcastInDim S2176x1 ![0] bcast_S2176_S2176x1_0
      (Host.reduceAdd (hostZ x1 x2) (constant S_ .f32 0x00000000#32) reducesTo_S2176x512_S2176_d1 h_S_))
    (broadcastInDim S2176x1 ![] bcast_S_S2176x1 (constant S_ .f32 0x44000000#32))

def hostCentred : FVec Ideal S2176x512 .f32 :=
  subf (hostZ x1 x2) (broadcastInDim S2176x512 ![0, 1] bcast_S2176x1_S2176x512_0_1 (hostMean x1 x2))

def hostRstd : FVec Ideal S2176x1 .f32 :=
  Host.rsqrt (addf (Host.divf (broadcastInDim S2176x1 ![0] bcast_S2176_S2176x1_0
      (Host.reduceAdd (mulf (hostCentred x1 x2) (hostCentred x1 x2)) (constant S_ .f32 0x00000000#32) reducesTo_S2176x512_S2176_d1 h_S_))
    (broadcastInDim S2176x1 ![] bcast_S_S2176x1 (constant S_ .f32 0x44000000#32)))
    (broadcastInDim S2176x1 ![] bcast_S_S2176x1 (constant S_ .f32 0x3727C5AC#32)))

/-- The layer normalization. -/
def hostLn : FVec Ideal S2176x512 .f32 :=
  addf (mulf (mulf (hostCentred x1 x2) (broadcastInDim S2176x512 ![0, 1] bcast_S2176x1_S2176x512_0_1 (hostRstd x1 x2)))
    (broadcastInDim S2176x512 ![0, 1] bcast_S1x512_S2176x512_0_1 x3)) (broadcastInDim S2176x512 ![0, 1] bcast_S1x512_S2176x512_0_1 x4)

/-- Swish of it. -/
def hostSwish : FVec Ideal S2176x512 .f32 :=
  mulf (hostLn x1 x2 x3 x4) (Host.divf (broadcastInDim S2176x512 ![] bcast_S_S2176x512 (constant S_ .f32 0x3F800000#32))
    (addf (broadcastInDim S2176x512 ![] bcast_S_S2176x512 (constant S_ .f32 0x3F800000#32)) (Host.exp (Host.negf (hostLn x1 x2 x3 x4)))))

/-- The output projection. -/
def hostMix : FVec Ideal S2176x1024 .f32 :=
  Host.dotGeneral (φ₁ := .f32) (φ₂ := .f32) dot_S2176x1024_S1024x1024_S2176x1024_1_0_0_1_n_n none
    (concatenate S2176x1024 1 [⟨S2176x512, pad S2176x512 ![112, 0] ![0, 0] ![0, 0] x0 (sitofp (F := Ideal) .f32 (constantI S_ 32 0#32))
        pads_S2064x512_S2176x512_11200_000 h_S_⟩, ⟨S2176x512, hostSwish x1 x2 x3 x4⟩] concatenates_S2176x512_S2176x512_S2176x1024_d1) x5

end Host

theorem host_z : V m c main_v2 = hostZ (argB m c) (argBias m c) := by
  show StableHlo.after _ (fun b => m (c, b)) (Proc.devRef .tc _) = _
  simp only [hostOps0, hostOps0_1, hostOps0_2, hostOps0_3, hostOps0_4, hostOps0_5, hostOps0_6, hostOps0_7, hostOps0_8, List.flatten_cons, List.flatten_nil, List.append_nil,
    List.cons_append, List.nil_append]
  after_results
  rfl

theorem host_w : V m c main_v30 = (truncf .bf16 (argW m c) bitsLt_bf16_f32 : FVec Ideal S1024x1024 .bf16) := by
  show StableHlo.after _ (fun b => m (c, b)) (Proc.devRef .tc _) = _
  simp only [hostOps0, hostOps0_1, hostOps0_2, hostOps0_3, hostOps0_4, hostOps0_5, hostOps0_6, hostOps0_7, hostOps0_8, List.flatten_cons, List.flatten_nil, List.append_nil,
    List.cons_append, List.nil_append]
  after_results

theorem host_d : V m c main_v29 = pad S2176x1024 ![112, 0] ![0, 0] ![0, 0] (argD m c) (sitofp (F := Ideal) .f32 (constantI S_ 32 0#32))
    pads_S2064x1024_S2176x1024_11200_000 h_S_ := by
  show StableHlo.after _ (fun b => m (c, b)) (Proc.devRef .tc _) = _
  simp only [hostOps0, hostOps0_1, hostOps0_2, hostOps0_3, hostOps0_4, hostOps0_5, hostOps0_6, hostOps0_7, hostOps0_8, List.flatten_cons, List.flatten_nil, List.append_nil,
    List.cons_append, List.nil_append]
  after_results
  rfl

theorem host_mix : V m c main_v28 = hostMix (argA m c) (argB m c) (argBias m c) (argLg m c) (argLb m c) (argW m c) := by
  show StableHlo.after _ (fun b => m (c, b)) (Proc.devRef .tc _) = _
  simp only [hostOps0, hostOps0_1, hostOps0_2, hostOps0_3, hostOps0_4, hostOps0_5, hostOps0_6, hostOps0_7, hostOps0_8, List.flatten_cons, List.flatten_nil, List.append_nil,
    List.cons_append, List.nil_append]
  after_results
  unfold hostMix hostSwish hostLn hostRstd hostCentred hostMean hostZ
  rfl

/-! ## What a grid point reads: a block of 544 rows -/

theorem grid_points : cfg0.N = 4 := rfl

/-- The row of the padded arrays that row `p` of grid point `t` is. -/
def row (t : Fin cfg0.N) (p : Fin 544) : Fin 2176 := ⟨544 * t.val + p.val, by have := t.isLt; have := grid_points; omega⟩

theorem index_0 : ∀ t : Fin cfg0.N, win0_0.index t = ![t.val, 0] := (by decide +kernel : ∀ t : Fin grid0.N, _)
theorem index_1 : ∀ t : Fin cfg0.N, win0_1.index t = ![t.val, 0] := (by decide +kernel : ∀ t : Fin grid0.N, _)
theorem index_2 : ∀ t : Fin cfg0.N, win0_2.index t = ![0, 0] := (by decide +kernel : ∀ t : Fin grid0.N, _)
theorem index_3 : ∀ t : Fin cfg0.N, win0_3.index t = ![0, 0] := (by decide +kernel : ∀ t : Fin grid0.N, _)
theorem index_4 : ∀ t : Fin cfg0.N, win0_4.index t = ![t.val, 0] := (by decide +kernel : ∀ t : Fin grid0.N, _)
theorem index_5 : ∀ t : Fin cfg0.N, win0_5.index t = ![0, 0] := (by decide +kernel : ∀ t : Fin grid0.N, _)
theorem index_6 : ∀ t : Fin cfg0.N, win0_6.index t = ![0, 0] := (by decide +kernel : ∀ t : Fin grid0.N, _)
theorem index_7 : ∀ t : Fin cfg0.N, win0_7.index t = ![t.val, 0] := (by decide +kernel : ∀ t : Fin grid0.N, _)
theorem index_8 : ∀ t : Fin cfg0.N, win0_8.index t = ![t.val, 0] := (by decide +kernel : ∀ t : Fin grid0.N, _)
theorem index_9 : ∀ t : Fin cfg0.N, win0_9.index t = ![t.val, 0] := (by decide +kernel : ∀ t : Fin grid0.N, _)

theorem read_d (t : Fin cfg0.N) (p : Fin 544) (k : Fin 1024) :
    (iblk m c 0 t (ix2 p k) : EReal) = below 112 (fun a b => argD m c (ix2 a b)) (row t p).val k := by
  have h : iblk m c 0 t (ix2 p k) = V m c main_v29 (ix2 (row t p) k) := by
    blk_simp [iblk]
    blk_ext [row, index_0]
  rw [h, host_d]
  pointwise [int_zero]
  rfl

theorem read_mix (t : Fin cfg0.N) (p : Fin 544) (k : Fin 1024) :
    (iblk m c 1 t (ix2 p k) : EReal) = hostMix (argA m c) (argB m c) (argBias m c) (argLg m c) (argLb m c) (argW m c) (ix2 (row t p) k) := by
  have h : iblk m c 1 t (ix2 p k) = V m c main_v28 (ix2 (row t p) k) := by
    blk_simp [iblk]
    blk_ext [row, index_1]
  rw [h, host_mix]

theorem read_w (t : Fin cfg0.N) (x k : Fin 1024) : (iblk m c 2 t (ix2 x k) : EReal) = argW m c (ix2 x k) := by
  have h : iblk m c 2 t (ix2 x k) = V m c main_v30 (ix2 x k) := by
    blk_simp [iblk]
    blk_ext [index_2]
  rw [h, host_w]
  rfl

theorem read_g (t : Fin cfg0.N) (k : Fin 1024) : (iblk m c 3 t (ix2 0 k) : EReal) = argG m c (ix2 0 k) := by
  have h : iblk m c 3 t (ix2 0 k) = V m c main_arg6 (ix2 0 k) := by
    blk_simp [iblk]
    blk_ext [index_3]
  rw [h, V_main_arg6]

theorem read_z (t : Fin cfg0.N) (p : Fin 544) (k : Fin 512) :
    (iblk m c 4 t (ix2 p k) : EReal) = hostZ (argB m c) (argBias m c) (ix2 (row t p) k) := by
  have h : iblk m c 4 t (ix2 p k) = V m c main_v2 (ix2 (row t p) k) := by
    blk_simp [iblk]
    blk_ext [row, index_4]
  rw [h, host_z]

theorem read_lg (t : Fin cfg0.N) (k : Fin 512) : (iblk m c 5 t (ix2 0 k) : EReal) = argLg m c (ix2 0 k) := by
  have h : iblk m c 5 t (ix2 0 k) = V m c main_arg3 (ix2 0 k) := by
    blk_simp [iblk]
    blk_ext [index_5]
  rw [h, V_main_arg3]

theorem read_lb (t : Fin cfg0.N) (k : Fin 512) : (iblk m c 6 t (ix2 0 k) : EReal) = argLb m c (ix2 0 k) := by
  have h : iblk m c 6 t (ix2 0 k) = V m c main_arg4 (ix2 0 k) := by
    blk_simp [iblk]
    blk_ext [index_6]
  rw [h, V_main_arg4]

/-! ## The host's rows below the zero rows are the reference's -/

section Rows

variable (x0 x1 : Vec Ideal S2064x512 .f32) (x2 x3 x4 : Vec Ideal S1x512 .f32) (x5 : Vec Ideal S1024x1024 .f32)

theorem hostZ_row (r : Fin 2176) (a : Fin 2064) (h : r.val = a.val + 112) (k : Fin 512) :
    hostZ x1 x2 (ix2 r k) = val_main_v1 (F := Ideal) x1 x2 (ix2 a k) := by
  have hlt := a.isLt
  pointwise [hostZ, val_main_v1, val_main_v0]
  rw [dif_pos ⟨by omega, by omega⟩]
  have e : (⟨r.val - 112, by omega⟩ : Fin 2064) = a := Fin.ext (by show r.val - 112 = a.val; omega)
  rw [e]

theorem hostCentred_row (r : Fin 2176) (a : Fin 2064) (h : r.val = a.val + 112) (k : Fin 512) :
    hostCentred x1 x2 (ix2 r k) = val_main_v16 (F := Ideal) x1 x2 (ix2 a k) := by
  pointwise [hostCentred, hostMean, val_main_v16, val_main_v15, val_main_v5, val_main_v4, val_main_v3, val_main_v2, val_main_cst, val_main_cst_0]
  simp only [hostZ_row x1 x2 r a h]

theorem hostRstd_row (r : Fin 2176) (a : Fin 2064) (h : r.val = a.val + 112) :
    hostRstd x1 x2 (ix2 r 0) = val_main_v19 (F := Ideal) x1 x2 (ix2 a 0) := by
  pointwise [hostRstd, val_main_v19, val_main_v18, val_main_v17, val_main_v14, val_main_v13, val_main_v12, val_main_v11, val_main_v8, val_main_cst_2, val_main_cst_3, val_main_cst_4]
  simp only [hostCentred_row x1 x2 r a h]
  rfl

theorem hostLn_row (r : Fin 2176) (a : Fin 2064) (h : r.val = a.val + 112) (k : Fin 512) :
    hostLn x1 x2 x3 x4 (ix2 r k) = val_main_v28 (F := Ideal) x1 x2 x3 x4 (ix2 a k) := by
  pointwise [hostLn, val_main_v28, val_main_v27, val_main_v26, val_main_v25, val_main_v24, val_main_v23]
  rw [hostCentred_row x1 x2 r a h, hostRstd_row x1 x2 r a h]

theorem hostSwish_row (r : Fin 2176) (a : Fin 2064) (h : r.val = a.val + 112) (k : Fin 512) :
    hostSwish x1 x2 x3 x4 (ix2 r k) = val_main_v29_0 (F := Ideal) x1 x2 x3 x4 (ix2 a k) := by
  pointwise [hostSwish, val_main_v29_0, val_main_v29_2, val_main_call0_v0, val_main_call0_v1, val_main_call0_v2, val_main_call0_v3, val_main_call0_v4,
    val_main_call0_cst, val_main_call0_cst_0]
  rw [hostLn_row x1 x2 x3 x4 r a h]

theorem hostMix_row (r : Fin 2176) (a : Fin 2064) (h : r.val = a.val + 112) (k : Fin 1024) :
    hostMix x0 x1 x2 x3 x4 x5 (ix2 r k) = val_main_v31 (F := Ideal) x0 x1 x2 x3 x4 x5 (ix2 a k) := by
  have hlt := a.isLt
  have e : (⟨r.val - 112, by omega⟩ : Fin 2064) = a := Fin.ext (by show r.val - 112 = a.val; omega)
  pointwise [hostMix, val_main_v31, val_main_v30]
  simp only [hostSwish_row x1 x2 x3 x4 r a h, dif_pos (show 112 ≤ r.val ∧ r.val - 112 < 2064 from ⟨by omega, by omega⟩), e]

end Rows

end Cert.OutProj
end
end
-- ==== Proof.OutRows.lean ====
module

public import proofs.«01_k».proof.Proof.OutBlock

@[expose] public section

set_option maxRecDepth 16384

noncomputable section

namespace Cert.OutProj

open Cert.Kernel3Ideal Cert.Kernel3Ideal.Gen Cert.Norm
open Cert.Reference3Ideal.Read
open Idealize.ShloMosaic Idealize.ShloMosaic.TcCoe Idealize.ShloMosaic.Tactic
open Idealize.SL.Sem

variable (m : (ℓ : Loc nD τ sig) → Buf (Elt Ideal) ℓ) (ρ : Dev nD → PrngReg) (c : Dev nD)

/-! ## A row of a grid point is a zero row or one of the reference's -/

/-- The array's row that row `p` of grid point `t` is, where it is none of the zero rows. -/
def refRow (t : Fin cfg0.N) (p : Fin 544) (h : 112 ≤ (row t p).val) : Fin 2064 := ⟨(row t p).val - 112, by have := (row t p).isLt; omega⟩

theorem row_eq (t : Fin cfg0.N) (p : Fin 544) (h : 112 ≤ (row t p).val) : (row t p).val = (refRow t p h).val + 112 := by
  show (row t p).val = (row t p).val - 112 + 112
  omega

theorem below_ref {n : ℕ} (f : Fin 2064 → Fin n → EReal) (t : Fin cfg0.N) (p : Fin 544) (h : 112 ≤ (row t p).val) (k : Fin n) :
    below 112 f (row t p).val k = f (refRow t p h) k := below_in _ _ h (refRow t p h).isLt

/-! ## The gradient of the root-mean-square normalization -/

/-- The root mean square's reciprocal. -/
def rstd (x : Fin 1024 → EReal) : EReal := Ideal.rsqrt (meanSq ((1024 : ℝ) : EReal) (rmsEps : EReal) x)

/-- A row of the output projection, as the kernel is handed it. -/
def mixRow (r : Fin 2176) (k : Fin 1024) : EReal := hostMix (argA m c) (argB m c) (argBias m c) (argLg m c) (argLb m c) (argW m c) (ix2 r k)

theorem row_mix (t : Fin cfg0.N) (p : Fin 544) (k : Fin 1024) : k0_pay2 (F := Ideal) (iblk m c 1 t) (ix2 p k) = mixRow m c (row t p) k := by
  pointwise [k0_pay2]
  exact read_mix m c t p k

theorem row_rstd (t : Fin cfg0.N) (p : Fin 544) : k0_pay3 (F := Ideal) (iblk m c 1 t) (ix2 p 0) = rstd (mixRow m c (row t p)) := by
  unfold rstd meanSq
  pointwise [k0_pay3]
  simp only [row_mix, bits_1024, bits_rmsEps]

theorem row_normed (t : Fin cfg0.N) (p : Fin 544) (k : Fin 1024) :
    k0_pay4 (F := Ideal) (iblk m c 1 t) (ix2 p k) = mixRow m c (row t p) k * rstd (mixRow m c (row t p)) := by
  pointwise [k0_pay4]
  rw [row_mix, row_rstd]

theorem row_cot (t : Fin cfg0.N) (p : Fin 544) (k : Fin 1024) :
    k0_pay5 (F := Ideal) (iblk m c 0 t) (ix2 p k) = below 112 (fun a b => argD m c (ix2 a b)) (row t p).val k := by
  pointwise [k0_pay5]
  exact read_d m c t p k

theorem ref_mix (t : Fin cfg0.N) (p : Fin 544) (h : 112 ≤ (row t p).val) (k : Fin 1024) :
    val_main_v31 (F := Ideal) (argA m c) (argB m c) (argBias m c) (argLg m c) (argLb m c) (argW m c) (ix2 (refRow t p h) k) = mixRow m c (row t p) k :=
  (hostMix_row _ _ _ _ _ _ (row t p) (refRow t p h) (row_eq t p h) k).symm

theorem ref_meanSq (t : Fin cfg0.N) (p : Fin 544) (h : 112 ≤ (row t p).val) :
    val_main_v38 (F := Ideal) (argA m c) (argB m c) (argBias m c) (argLg m c) (argLb m c) (argW m c) (ix2 (refRow t p h) 0)
      = meanSq ((1024 : ℝ) : EReal) (rmsEps : EReal) (mixRow m c (row t p)) := by
  unfold meanSq
  pointwise [val_main_v38, val_main_v37, val_main_v36, val_main_v35, val_main_v34, val_main_v33, val_main_v32, val_main_cst_5, val_main_cst_6, val_main_cst_7,
    val_main_cst_8]
  simp only [ref_mix, bits_1024, bits_rmsEps, Ideal.ofBits_zero_f32, zero_add]

theorem ref_rstd (t : Fin cfg0.N) (p : Fin 544) (h : 112 ≤ (row t p).val) :
    val_main_v39 (F := Ideal) (argA m c) (argB m c) (argBias m c) (argLg m c) (argLb m c) (argW m c) (ix2 (refRow t p h) 0) = rstd (mixRow m c (row t p)) := by
  unfold rstd
  pointwise [val_main_v39]
  rw [ref_meanSq]

/-- The share of a row in the gradient of the gain. -/
theorem row_gain (t : Fin cfg0.N) (p : Fin 544) (k : Fin 1024) :
    k0_pay5 (F := Ideal) (iblk m c 0 t) (ix2 p k) * k0_pay4 (F := Ideal) (iblk m c 1 t) (ix2 p k)
      = below 112 (fun a b => val_main_v47 (F := Ideal) (argA m c) (argB m c) (argBias m c) (argLg m c) (argLb m c) (argW m c) (argD m c) (ix2 a b)) (row t p).val k := by
  rw [row_cot, row_normed]
  by_cases h : 112 ≤ (row t p).val
  · rw [below_ref _ t p h, below_ref _ t p h]
    pointwise [val_main_v47, val_main_v44, val_main_v43]
    rw [ref_mix, ref_rstd]
    exact mul_comm (G := EReal) _ _
  · rw [below_out _ _ (by omega), below_out _ _ (by omega), zero_mul]

theorem div_zero_1024 : Ideal.div 0 ((1024 : ℝ) : EReal) = 0 := by rw [div_real (by norm_num), zero_mul]

theorem div_zero_512 : Ideal.div 0 ((512 : ℝ) : EReal) = 0 := by rw [div_real (by norm_num), zero_mul]

/-- What a row's cotangent is once the gain is on it. -/
def cotRow (r : ℕ) (k : Fin 1024) : EReal := below 112 (fun a b => argD m c (ix2 a b)) r k * argG m c (ix2 0 k)

theorem row_dmix_formula (t : Fin cfg0.N) (p : Fin 544) (k : Fin 1024) :
    k0_pay8 (F := Ideal) (iblk m c 1 t) (iblk m c 0 t) (iblk m c 3 t) (ix2 p k)
      = rstd (mixRow m c (row t p)) * (cotRow m c (row t p).val k - mixRow m c (row t p) k * rstd (mixRow m c (row t p))
        * Ideal.div (∑ j, cotRow m c (row t p).val j * (mixRow m c (row t p) j * rstd (mixRow m c (row t p)))) ((1024 : ℝ) : EReal)) := by
  unfold cotRow
  pointwise [k0_pay8]
  simp only [row_rstd, row_normed, row_cot, read_g, bits_1024]

theorem row_dmix (t : Fin cfg0.N) (p : Fin 544) (k : Fin 1024) :
    k0_pay8 (F := Ideal) (iblk m c 1 t) (iblk m c 0 t) (iblk m c 3 t) (ix2 p k)
      = below 112 (fun a b => val_main_v65 (F := Ideal) (argA m c) (argB m c) (argBias m c) (argLg m c) (argLb m c) (argW m c) (argG m c) (argD m c) (ix2 a b)) (row t p).val k := by
  rw [row_dmix_formula]
  refine (rms_grad (N := 1024) (by norm_num) rmsEps_pos (mixRow m c (row t p)) (cotRow m c (row t p).val) k).trans ?_
  by_cases h : 112 ≤ (row t p).val
  · rw [below_ref _ t p h]
    pointwise [val_main_v65, val_main_v64, val_main_v63, val_main_v62, val_main_v61, val_main_v60, val_main_v59, val_main_v58, val_main_v57, val_main_v56,
      val_main_v55, val_main_v54, val_main_v53, val_main_v52, val_main_v51, val_main_v50, val_main_v42, val_main_v41, val_main_v40,
      val_main_cst_8, val_main_cst_9, val_main_cst_10, val_main_cst_11, val_main_cst_12, val_main_cst_13]
    simp only [Fin.sum_univ_one, Ideal.ofBits_zero_f32, zero_add, bits_1024, bits_neg_half, ref_rstd, ref_meanSq, ref_mix]
    have ed (j : Fin 1024) : cotRow m c (row t p).val j = argD m c (ix2 (refRow t p h) j) * argG m c (ix2 0 j) := by
      unfold cotRow
      rw [below_ref _ t p h]
    simp only [ed]
    rfl
  · rw [below_out _ _ (by omega)]
    have e : ∀ j, cotRow m c (row t p).val j = 0 := fun j => by
      unfold cotRow
      rw [below_out _ _ (by omega), zero_mul]
    simp only [e, zero_mul, mul_zero, Finset.sum_const_zero, add_zero, div_zero_1024]

/-! ## Through the projection -/

theorem row_dy (t : Fin cfg0.N) (p : Fin 544) (k : Fin 1024) :
    k0_pay9 (F := Ideal) (k0_pay8 (iblk m c 1 t) (iblk m c 0 t) (iblk m c 3 t)) (iblk m c 2 t) (ix2 p k)
      = below 112 (fun a b => val_main_v66 (F := Ideal) (argA m c) (argB m c) (argBias m c) (argLg m c) (argLb m c) (argW m c) (argG m c) (argD m c) (ix2 a b)) (row t p).val k := by
  pointwise [k0_pay9]
  simp only [row_dmix, read_w]
  by_cases h : 112 ≤ (row t p).val
  · simp only [below_ref _ t p h]
    pointwise [val_main_v66]
  · rw [below_out _ _ (by omega)]
    exact Finset.sum_eq_zero fun x _ => by rw [below_out _ _ (by omega), zero_mul]

theorem row_dya (t : Fin cfg0.N) (p : Fin 544) (k : Fin 512) :
    k0_pay10 (F := Ideal) (k0_pay8 (iblk m c 1 t) (iblk m c 0 t) (iblk m c 3 t)) (iblk m c 2 t) (ix2 p k)
      = below 112 (fun a b => val_main_v67 (F := Ideal) (argA m c) (argB m c) (argBias m c) (argLg m c) (argLb m c) (argW m c) (argG m c) (argD m c) (ix2 a b)) (row t p).val k := by
  pointwise [k0_pay10]
  rw [row_dy]
  by_cases h : 112 ≤ (row t p).val
  · rw [below_ref _ t p h, below_ref _ t p h]
    pointwise [val_main_v67]
  · rw [below_out _ _ (by omega), below_out _ _ (by omega)]

/-! ## The layer normalization -/

/-- A row of the second convolution with its bias. -/
def zRow (r : Fin 2176) (k : Fin 512) : EReal := hostZ (argB m c) (argBias m c) (ix2 r k)

def xRow (r : Fin 2176) : Fin 512 → EReal := centred ((512 : ℝ) : EReal) (zRow m c r)

def lnRstd (r : Fin 2176) : EReal := Ideal.rsqrt (meanSq ((512 : ℝ) : EReal) (lnEps : EReal) (xRow m c r))

theorem row_x (t : Fin cfg0.N) (p : Fin 544) (k : Fin 512) : k0_pay11 (F := Ideal) (iblk m c 4 t) (ix2 p k) = xRow m c (row t p) k := by
  unfold xRow centred zRow
  pointwise [k0_pay11]
  simp only [read_z, bits_512]

theorem row_lnRstd (t : Fin cfg0.N) (p : Fin 544) : k0_pay12 (F := Ideal) (iblk m c 4 t) (ix2 p 0) = lnRstd m c (row t p) := by
  unfold lnRstd meanSq
  pointwise [k0_pay12]
  simp only [row_x, bits_512, bits_lnEps]

theorem row_zh (t : Fin cfg0.N) (p : Fin 544) (k : Fin 512) :
    k0_pay13 (F := Ideal) (iblk m c 4 t) (ix2 p k) = xRow m c (row t p) k * lnRstd m c (row t p) := by
  pointwise [k0_pay13]
  rw [row_x, row_lnRstd]

theorem ref_x (t : Fin cfg0.N) (p : Fin 544) (h : 112 ≤ (row t p).val) (k : Fin 512) :
    val_main_v16 (F := Ideal) (argB m c) (argBias m c) (ix2 (refRow t p h) k) = xRow m c (row t p) k := by
  unfold xRow centred zRow
  pointwise [val_main_v16, val_main_v15, val_main_v5, val_main_v4, val_main_v3, val_main_v2, val_main_cst, val_main_cst_0]
  simp only [hostZ_row _ _ (row t p) (refRow t p h) (row_eq t p h), Ideal.ofBits_zero_f32, zero_add, bits_512]

theorem ref_x7 (t : Fin cfg0.N) (p : Fin 544) (h : 112 ≤ (row t p).val) (k : Fin 512) :
    val_main_v7 (F := Ideal) (argB m c) (argBias m c) (ix2 (refRow t p h) k) = xRow m c (row t p) k := by
  rw [← ref_x m c t p h k]
  pointwise [val_main_v7, val_main_v6, val_main_v16, val_main_v15]

theorem ref_lnMeanSq (t : Fin cfg0.N) (p : Fin 544) (h : 112 ≤ (row t p).val) :
    val_main_v18 (F := Ideal) (argB m c) (argBias m c) (ix2 (refRow t p h) 0) = meanSq ((512 : ℝ) : EReal) (lnEps : EReal) (xRow m c (row t p)) := by
  unfold meanSq
  pointwise [val_main_v18, val_main_v17, val_main_v14, val_main_v13, val_main_v12, val_main_v11, val_main_v8, val_main_cst_2, val_main_cst_3, val_main_cst_4]
  simp only [ref_x7, Ideal.ofBits_zero_f32, zero_add, bits_512, bits_lnEps]

theorem ref_lnRstd (t : Fin cfg0.N) (p : Fin 544) (h : 112 ≤ (row t p).val) :
    val_main_v19 (F := Ideal) (argB m c) (argBias m c) (ix2 (refRow t p h) 0) = lnRstd m c (row t p) := by
  unfold lnRstd
  pointwise [val_main_v19]
  rw [ref_lnMeanSq]

theorem ref_zh (t : Fin cfg0.N) (p : Fin 544) (h : 112 ≤ (row t p).val) (k : Fin 512) :
    val_main_v24 (F := Ideal) (argB m c) (argBias m c) (ix2 (refRow t p h) k) = xRow m c (row t p) k * lnRstd m c (row t p) := by
  pointwise [val_main_v24, val_main_v23]
  rw [ref_x, ref_lnRstd]

/-! ## The cotangent of the second half is real -/

/-- Every entry of the arrays that have to be is a real number. -/
structure Real : Prop where
  lg : ∀ k, ∃ w : ℝ, argLg m c (ix2 0 k) = (w : EReal)
  w : ∀ j k, ∃ w : ℝ, argW m c (ix2 j k) = (w : EReal)
  g : ∀ k, ∃ w : ℝ, argG m c (ix2 0 k) = (w : EReal)
  d : ∀ a k, ∃ w : ℝ, argD m c (ix2 a k) = (w : EReal)

variable {m c}

theorem cotRow_real (H : Real m c) (r : ℕ) : ∃ D : Fin 1024 → ℝ, cotRow m c r = fun k => (D k : EReal) := by
  have h : ∀ k, ∃ w : ℝ, cotRow m c r k = (w : EReal) := fun k => by
    obtain ⟨g, hg⟩ := H.g k
    unfold cotRow
    rw [hg]
    by_cases h : 112 ≤ r ∧ r - 112 < 2064
    · rw [below_in _ _ h.1 h.2]
      obtain ⟨d, hd⟩ := H.d ⟨r - 112, h.2⟩ k
      exact ⟨d * g, by rw [hd, EReal.coe_mul]⟩
    · unfold below
      rw [dif_neg h]
      exact ⟨0, by rw [zero_mul]; rfl⟩
  choose D hD using h
  exact ⟨D, funext hD⟩

theorem dmix_real (H : Real m c) (t : Fin cfg0.N) (p : Fin 544) (k : Fin 1024) :
    ∃ w : ℝ, k0_pay8 (F := Ideal) (iblk m c 1 t) (iblk m c 0 t) (iblk m c 3 t) (ix2 p k) = (w : EReal) := by
  rw [row_dmix_formula]
  obtain ⟨D, hD⟩ := cotRow_real H (row t p).val
  rw [hD]
  exact rms_grad_real (N := 1024) (by norm_num) rmsEps_pos (mixRow m c (row t p)) D k

theorem dy_real (H : Real m c) (t : Fin cfg0.N) (p : Fin 544) (k : Fin 1024) :
    ∃ w : ℝ, k0_pay9 (F := Ideal) (k0_pay8 (iblk m c 1 t) (iblk m c 0 t) (iblk m c 3 t)) (iblk m c 2 t) (ix2 p k) = (w : EReal) := by
  pointwise [k0_pay9]
  choose D hD using fun k => dmix_real H t p k
  choose W hW using fun j k => H.w j k
  simp only [hD, read_w, hW, ← EReal.coe_mul, ← coe_sum]
  exact ⟨_, rfl⟩

variable (m c)

/-! ## Swish -/

theorem row_dln_formula (t : Fin cfg0.N) (p : Fin 544) (k : Fin 512) :
    k0_pay14 (F := Ideal) (k0_pay8 (iblk m c 1 t) (iblk m c 0 t) (iblk m c 3 t)) (iblk m c 2 t) (iblk m c 5 t) (iblk m c 4 t) (iblk m c 6 t) (ix2 p k)
      = k0_pay9 (F := Ideal) (k0_pay8 (iblk m c 1 t) (iblk m c 0 t) (iblk m c 3 t)) (iblk m c 2 t) (ix2 p (⟨512 + k.val, by omega⟩ : Fin 1024))
        * swishGrad (xRow m c (row t p) k * lnRstd m c (row t p) * argLg m c (ix2 0 k) + argLb m c (ix2 0 k)) := by
  unfold swishGrad
  pointwise [k0_pay14]
  simp only [row_zh, read_lg, read_lb, Ideal.ofBits_one_f32]

theorem ref_ln (t : Fin cfg0.N) (p : Fin 544) (h : 112 ≤ (row t p).val) (k : Fin 512) :
    val_main_v28 (F := Ideal) (argB m c) (argBias m c) (argLg m c) (argLb m c) (ix2 (refRow t p h) k)
      = xRow m c (row t p) k * lnRstd m c (row t p) * argLg m c (ix2 0 k) + argLb m c (ix2 0 k) := by
  pointwise [val_main_v28, val_main_v27, val_main_v26, val_main_v25]
  rw [ref_zh]

theorem ref_sig (t : Fin cfg0.N) (p : Fin 544) (h : 112 ≤ (row t p).val) (k : Fin 512) :
    val_main_v29_2 (F := Ideal) (argB m c) (argBias m c) (argLg m c) (argLb m c) (ix2 (refRow t p h) k)
      = Ideal.logistic (xRow m c (row t p) k * lnRstd m c (row t p) * argLg m c (ix2 0 k) + argLb m c (ix2 0 k)) := by
  unfold Ideal.logistic
  pointwise [val_main_v29_2, val_main_call0_v0, val_main_call0_v1, val_main_call0_v2, val_main_call0_v3, val_main_call0_v4, val_main_call0_cst, val_main_call0_cst_0]
  rw [ref_ln]

/-- The gradient at the layer normalization's result. -/
theorem row_dln (H : Real m c) (t : Fin cfg0.N) (p : Fin 544) (k : Fin 512) :
    k0_pay14 (F := Ideal) (k0_pay8 (iblk m c 1 t) (iblk m c 0 t) (iblk m c 3 t)) (iblk m c 2 t) (iblk m c 5 t) (iblk m c 4 t) (iblk m c 6 t) (ix2 p k)
      = below 112 (fun a b => val_main_v69 (F := Ideal) (argA m c) (argB m c) (argBias m c) (argLg m c) (argLb m c) (argW m c) (argG m c) (argD m c) (ix2 a b)) (row t p).val k := by
  rw [row_dln_formula]
  by_cases h : 112 ≤ (row t p).val
  · obtain ⟨d, hd⟩ := dy_real H t p (⟨512 + k.val, by omega⟩ : Fin 1024)
    have e := row_dy m c t p (⟨512 + k.val, by omega⟩ : Fin 1024)
    rw [below_ref _ t p h, hd] at e
    rw [below_ref _ t p h, hd, swish_grad]
    pointwise [val_main_v69, val_main_call1_v0, val_main_call1_v1, val_main_call1_v2, val_main_v68, val_main_v29_1, val_main_call0_v6, val_main_call0_v7, val_main_call0_cst_1]
    rw [ref_sig, ref_ln, ← e]
  · rw [row_dy, below_out _ _ (by omega), below_out _ _ (by omega), zero_mul]

theorem dln_real (H : Real m c) (t : Fin cfg0.N) (p : Fin 544) (k : Fin 512) :
    ∃ w : ℝ, k0_pay14 (F := Ideal) (k0_pay8 (iblk m c 1 t) (iblk m c 0 t) (iblk m c 3 t)) (iblk m c 2 t) (iblk m c 5 t) (iblk m c 4 t) (iblk m c 6 t) (ix2 p k)
      = (w : EReal) := by
  rw [row_dln_formula]
  obtain ⟨d, hd⟩ := dy_real H t p (⟨512 + k.val, by omega⟩ : Fin 1024)
  obtain ⟨s, hs⟩ := swishGrad_real (xRow m c (row t p) k * lnRstd m c (row t p) * argLg m c (ix2 0 k) + argLb m c (ix2 0 k))
  exact ⟨d * s, by rw [hd, hs, EReal.coe_mul]⟩

/-- The share of a row in the gradient of the layer normalization's gain. -/
theorem row_dlg (H : Real m c) (t : Fin cfg0.N) (p : Fin 544) (k : Fin 512) :
    k0_pay14 (F := Ideal) (k0_pay8 (iblk m c 1 t) (iblk m c 0 t) (iblk m c 3 t)) (iblk m c 2 t) (iblk m c 5 t) (iblk m c 4 t) (iblk m c 6 t) (ix2 p k)
        * k0_pay13 (F := Ideal) (iblk m c 4 t) (ix2 p k)
      = below 112 (fun a b => val_main_v72 (F := Ideal) (argA m c) (argB m c) (argBias m c) (argLg m c) (argLb m c) (argW m c) (argG m c) (argD m c) (ix2 a b)) (row t p).val k := by
  rw [row_dln m c H, row_zh]
  by_cases h : 112 ≤ (row t p).val
  · rw [below_ref _ t p h, below_ref _ t p h]
    pointwise [val_main_v72]
    rw [ref_zh]
    exact mul_comm (G := EReal) _ _
  · rw [below_out _ _ (by omega), below_out _ _ (by omega), zero_mul]

/-- The gradient at the layer normalization's input. -/
theorem row_dz (H : Real m c) (t : Fin cfg0.N) (p : Fin 544) (k : Fin 512) :
    k0_pay20 (F := Ideal) (iblk m c 5 t) (k0_pay12 (iblk m c 4 t)) (k0_pay13 (iblk m c 4 t))
        (k0_pay14 (k0_pay8 (iblk m c 1 t) (iblk m c 0 t) (iblk m c 3 t)) (iblk m c 2 t) (iblk m c 5 t) (iblk m c 4 t) (iblk m c 6 t)) (ix2 p k)
      = below 112 (fun a b => val_main_v100 (F := Ideal) (argA m c) (argB m c) (argBias m c) (argLg m c) (argLb m c) (argW m c) (argG m c) (argD m c) (ix2 a b)) (row t p).val k := by
  choose L hL using H.lg
  choose E hE using fun j => dln_real m c H t p j
  pointwise [k0_pay20]
  simp only [row_lnRstd, row_zh, read_lg, bits_512]
  by_cases h : 112 ≤ (row t p).val
  · have ed (j : Fin 512) : val_main_v69 (F := Ideal) (argA m c) (argB m c) (argBias m c) (argLg m c) (argLb m c) (argW m c) (argG m c) (argD m c) (ix2 (refRow t p h) j) = (E j : EReal) := by
      rw [← hE, row_dln m c H, below_ref _ t p h]
    rw [below_ref _ t p h]
    simp only [hE, hL, ← EReal.coe_mul]
    refine (ln_grad (n := 512) (N := 512) (by norm_num) (by norm_num) lnEps_pos (zRow m c (row t p)) (fun j => E j * L j) k (xRow m c (row t p)) rfl
      (lnRstd m c (row t p)) _ rfl rfl).trans ?_
    pointwise [val_main_v100, val_main_v99, val_main_v98, val_main_v97, val_main_v96, val_main_v95, val_main_v94, val_main_v93, val_main_v92, val_main_v91, val_main_v90, val_main_v89,
      val_main_v88, val_main_v87, val_main_v86, val_main_v85, val_main_v84, val_main_v83, val_main_v82, val_main_v81, val_main_v80, val_main_v79, val_main_v78, val_main_v77, val_main_v76,
      val_main_v75, val_main_v22, val_main_v21, val_main_v20, val_main_v10, val_main_v9, val_main_cst_1, val_main_cst_2, val_main_cst_4, val_main_cst_5, val_main_cst_14, val_main_cst_15, val_main_cst_16, val_main_cst_17,
      val_main_cst_18, val_main_cst_19, val_main_cst_20, val_main_cst_21, val_main_cst_22, val_main_cst_23]
    simp only [Fin.sum_univ_one, Ideal.ofBits_zero_f32, zero_add, bits_512, bits_neg_half, bits_two, ref_lnRstd, ref_lnMeanSq, ref_x, ref_x7, ed, hL, ← EReal.coe_mul]
  · rw [below_out _ _ (by omega)]
    have e : ∀ j, E j = 0 := fun j => EReal.coe_eq_zero.mp (by rw [← hE, row_dln m c H, below_out _ _ (by omega)])
    simp only [hE, e, EReal.coe_zero, zero_mul, mul_zero, Finset.sum_const_zero, div_zero_512, sub_zero]

end Cert.OutProj
end
end
-- ==== Proof.OutFinite.lean ====
module

public import proofs.«01_k».proof.Defs
public import proofs.«01_k».proof.Proof.OutRows
public import proofs.«01_k».proof.Proof.Gen.Pre_finite
public import Idealize.ShloMosaic.Lib.ReduceAll

@[expose] public section

noncomputable section

namespace Cert.OutProj

open Cert.Kernel3Ideal
open Idealize.ShloMosaic Idealize.ShloMosaic.TcCoe
open Idealize.SL.Sem

/-- A magnitude below positive infinity is a real number's. -/
theorem real_of_lt (x y : EReal) (hy : y = Ideal.ofBits .f32 0x7F800000#32)
    (h : FloatOps.cmpf (F := Ideal) (φ := .f32) .olt (FloatOps.absf (F := Ideal) (φ := .f32) x) y = 1#1) : ∃ w : ℝ, x = (w : EReal) := by
  have htop : Ideal.ofBits .f32 0x7F800000#32 = ⊤ := by simp [Ideal.ofBits, Ideal.ieee]
  rw [hy, htop] at h
  refine ⟨x.toReal, (EReal.coe_toReal ?_ ?_).symm⟩ <;> rintro rfl
  · have e : max (⊤ : EReal) (-⊤) = ⊤ := by simp
    change Ideal.cmp .olt (max (⊤ : EReal) (-⊤)) ⊤ = 1#1 at h
    rw [e] at h
    simp [Ideal.cmp] at h
  · have e : max (⊥ : EReal) (-⊥) = ⊤ := by simp
    change Ideal.cmp .olt (max (⊥ : EReal) (-⊥)) ⊤ = 1#1 at h
    rw [e] at h
    simp [Ideal.cmp] at h

instance : Subsingleton (Shape.Idx Cert.Pre_finite.S_) := ⟨fun a b => funext fun i => i.elim0⟩

/-- What the precondition says of the arguments. -/
theorem real_of_finite (m : (ℓ : Loc nD τ sig) → Buf (Elt Ideal) ℓ)
    (h : Cert.Pre_Kernel3Ideal_finite (hPre_finite := Cert.Pre_finite.Gen.facts) m) (c : Dev nD) : Real m c := by
  have h' := congrFun (h c) ix0
  unfold Cert.Pre_finite.fn Cert.Pre_finite.fn_part1 at h'
  obtain ⟨h', hd⟩ := IntOp.andi_eq_one.1 h'
  obtain ⟨h', hg⟩ := IntOp.andi_eq_one.1 h'
  obtain ⟨hl, hw⟩ := IntOp.andi_eq_one.1 h'
  exact ⟨fun k => real_of_lt _ _ rfl (Host.reduce_andi_all _ _ _ _ _ hl (ix2 0 k)),
    fun j k => real_of_lt _ _ rfl (Host.reduce_andi_all _ _ _ _ _ hw (ix2 j k)),
    fun k => real_of_lt _ _ rfl (Host.reduce_andi_all _ _ _ _ _ hg (ix2 0 k)),
    fun a k => real_of_lt _ _ rfl (Host.reduce_andi_all _ _ _ _ _ hd (ix2 a k))⟩

end Cert.OutProj
end
end
-- ==== Proof.OutValue.lean ====
module

public import proofs.«01_k».proof.Proof.OutRows

@[expose] public section

set_option maxRecDepth 16384

noncomputable section

namespace Cert.OutProj

open Cert.Kernel3Ideal Cert.Kernel3Ideal.Gen Cert.Norm
open Cert.Reference3Ideal.Read
open Idealize.ShloMosaic Idealize.ShloMosaic.TcCoe Idealize.ShloMosaic.Tactic
open Idealize.SL.Sem

variable (m : (ℓ : Loc nD τ sig) → Buf (Elt Ideal) ℓ) (ρ : Dev nD → PrngReg) (c : Dev nD)

/-! ## What the grid points leave in the output buffers -/

/-- A grid point's block of the gradient at the projection's result. -/
abbrev dmixBlock (t : Fin cfg0.N) : FVec Ideal S544x1024 .bf16 := k0_pay8 (iblk m c 1 t) (iblk m c 0 t) (iblk m c 3 t)

/-- A grid point's block of the gradient at the layer normalization's result. -/
abbrev dlnBlock (t : Fin cfg0.N) : FVec Ideal S544x512 .f32 := k0_pay14 (dmixBlock m c t) (iblk m c 2 t) (iblk m c 5 t) (iblk m c 4 t) (iblk m c 6 t)

theorem after7 (t : Fin cfg0.N) : (outsAt0 m c t.val t.isLt).1 = dmixBlock m c t := by
  by_cases h0 : t.val % 4 = 0
  · have h1 : ¬1 ≤ t.val := by have := t.isLt; have := grid_points; omega
    rw [outsAt0_A m c t h0 h1 h0 h1 h0 h1 h0 h1]
    frame_out
  · have h1 : 1 ≤ t.val := by omega
    rw [outsAt0_B m c t h0 h1 h0 h1 h0 h1 h0 h1]
    frame_out

theorem after8 (t : Fin cfg0.N) : (outsAt0 m c t.val t.isLt).2.1 = k0_pay10 (dmixBlock m c t) (iblk m c 2 t) := by
  by_cases h0 : t.val % 4 = 0
  · have h1 : ¬1 ≤ t.val := by have := t.isLt; have := grid_points; omega
    rw [outsAt0_A m c t h0 h1 h0 h1 h0 h1 h0 h1]
    frame_out
  · have h1 : 1 ≤ t.val := by omega
    rw [outsAt0_B m c t h0 h1 h0 h1 h0 h1 h0 h1]
    frame_out

theorem after9 (t : Fin cfg0.N) :
    (outsAt0 m c t.val t.isLt).2.2.1 = k0_pay20 (iblk m c 5 t) (k0_pay12 (iblk m c 4 t)) (k0_pay13 (iblk m c 4 t)) (dlnBlock m c t) := by
  by_cases h0 : t.val % 4 = 0
  · have h1 : ¬1 ≤ t.val := by have := t.isLt; have := grid_points; omega
    rw [outsAt0_A m c t h0 h1 h0 h1 h0 h1 h0 h1]
    frame_out
  · have h1 : 1 ≤ t.val := by omega
    rw [outsAt0_B m c t h0 h1 h0 h1 h0 h1 h0 h1]
    frame_out

theorem first10 (t : Fin cfg0.N) (h0 : t.val % 4 = 0) : (outsAt0 m c t.val t.isLt).2.2.2.1 = k0_pay6 (iblk m c 1 t) (iblk m c 0 t) := by
  have h1 : ¬1 ≤ t.val := by have := t.isLt; have := grid_points; omega
  rw [outsAt0_A m c t h0 h1 h0 h1 h0 h1 h0 h1]
  frame_out

theorem next10 (t : Fin cfg0.N) (h0 : ¬t.val % 4 = 0) : (outsAt0 m c t.val t.isLt).2.2.2.1
    = k0_pay7 (iblk m c 1 t) (iblk m c 0 t) (outsAt0 m c (t.val - 1) (Nat.lt_of_le_of_lt (Nat.sub_le t.val 1) t.isLt)).2.2.2.1 := by
  have h1 : 1 ≤ t.val := by omega
  rw [outsAt0_B m c t h0 h1 h0 h1 h0 h1 h0 h1]
  frame_out

theorem first11 (t : Fin cfg0.N) (h0 : t.val % 4 = 0) : (outsAt0 m c t.val t.isLt).2.2.2.2.1
    = k0_pay16 (k0_pay15 (dmixBlock m c t) (iblk m c 2 t) (iblk m c 5 t) (iblk m c 4 t) (iblk m c 6 t)) := by
  have h1 : ¬1 ≤ t.val := by have := t.isLt; have := grid_points; omega
  rw [outsAt0_A m c t h0 h1 h0 h1 h0 h1 h0 h1]
  frame_out

theorem next11 (t : Fin cfg0.N) (h0 : ¬t.val % 4 = 0) : (outsAt0 m c t.val t.isLt).2.2.2.2.1
    = k0_pay17 (k0_pay15 (dmixBlock m c t) (iblk m c 2 t) (iblk m c 5 t) (iblk m c 4 t) (iblk m c 6 t))
      (outsAt0 m c (t.val - 1) (Nat.lt_of_le_of_lt (Nat.sub_le t.val 1) t.isLt)).2.2.2.2.1 := by
  have h1 : 1 ≤ t.val := by omega
  rw [outsAt0_B m c t h0 h1 h0 h1 h0 h1 h0 h1]
  frame_out

theorem first12 (t : Fin cfg0.N) (h0 : t.val % 4 = 0) : (outsAt0 m c t.val t.isLt).2.2.2.2.2.1 = k0_pay18 (dlnBlock m c t) := by
  have h1 : ¬1 ≤ t.val := by have := t.isLt; have := grid_points; omega
  rw [outsAt0_A m c t h0 h1 h0 h1 h0 h1 h0 h1]
  frame_out

theorem next12 (t : Fin cfg0.N) (h0 : ¬t.val % 4 = 0) : (outsAt0 m c t.val t.isLt).2.2.2.2.2.1
    = k0_pay19 (dlnBlock m c t) (outsAt0 m c (t.val - 1) (Nat.lt_of_le_of_lt (Nat.sub_le t.val 1) t.isLt)).2.2.2.2.2.1 := by
  have h1 : 1 ≤ t.val := by omega
  rw [outsAt0_B m c t h0 h1 h0 h1 h0 h1 h0 h1]
  frame_out

theorem first13 (t : Fin cfg0.N) (h0 : t.val % 4 = 0) : (outsAt0 m c t.val t.isLt).2.2.2.2.2.2
    = k0_pay21 (iblk m c 5 t) (k0_pay12 (iblk m c 4 t)) (k0_pay13 (iblk m c 4 t)) (dlnBlock m c t) := by
  have h1 : ¬1 ≤ t.val := by have := t.isLt; have := grid_points; omega
  rw [outsAt0_A m c t h0 h1 h0 h1 h0 h1 h0 h1]
  frame_out

theorem next13 (t : Fin cfg0.N) (h0 : ¬t.val % 4 = 0) : (outsAt0 m c t.val t.isLt).2.2.2.2.2.2
    = k0_pay1 (k0_pay21 (iblk m c 5 t) (k0_pay12 (iblk m c 4 t)) (k0_pay13 (iblk m c 4 t)) (dlnBlock m c t))
      (outsAt0 m c (t.val - 1) (Nat.lt_of_le_of_lt (Nat.sub_le t.val 1) t.isLt)).2.2.2.2.2.2 := by
  have h1 : 1 ≤ t.val := by omega
  rw [outsAt0_B m c t h0 h1 h0 h1 h0 h1 h0 h1]
  frame_out

/-! ## The sums over the grid points -/

/-- The rows whose sums the kernel accumulates, zero rows first. -/
def gainRow : ℕ → Fin 1024 → EReal :=
  below 112 (fun a b => val_main_v47 (F := Ideal) (argA m c) (argB m c) (argBias m c) (argLg m c) (argLb m c) (argW m c) (argD m c) (ix2 a b))

def dlgRow : ℕ → Fin 512 → EReal :=
  below 112 (fun a b => val_main_v72 (F := Ideal) (argA m c) (argB m c) (argBias m c) (argLg m c) (argLb m c) (argW m c) (argG m c) (argD m c) (ix2 a b))

def dlnRow : ℕ → Fin 512 → EReal :=
  below 112 (fun a b => val_main_v69 (F := Ideal) (argA m c) (argB m c) (argBias m c) (argLg m c) (argLb m c) (argW m c) (argG m c) (argD m c) (ix2 a b))

def dzRow : ℕ → Fin 512 → EReal :=
  below 112 (fun a b => val_main_v100 (F := Ideal) (argA m c) (argB m c) (argBias m c) (argLg m c) (argLb m c) (argW m c) (argG m c) (argD m c) (ix2 a b))

theorem share10 (t : Fin cfg0.N) (k : Fin 1024) :
    k0_pay6 (F := Ideal) (iblk m c 1 t) (iblk m c 0 t) (ix2 0 k) = ∑ p ∈ Finset.range 544, gainRow m c (544 * t.val + p) k := by
  pointwise [k0_pay6]
  simp only [row_gain]
  exact Fin.sum_univ_eq_sum_range (fun p => gainRow m c (544 * t.val + p) k) 544

theorem share11 (H : Real m c) (t : Fin cfg0.N) (k : Fin 512) :
    k0_pay15 (F := Ideal) (dmixBlock m c t) (iblk m c 2 t) (iblk m c 5 t) (iblk m c 4 t) (iblk m c 6 t) (ix1 k)
      = ∑ p ∈ Finset.range 544, dlgRow m c (544 * t.val + p) k := by
  pointwise [k0_pay15]
  simp only [row_dlg m c H]
  exact Fin.sum_univ_eq_sum_range (fun p => dlgRow m c (544 * t.val + p) k) 544

theorem share12 (H : Real m c) (t : Fin cfg0.N) (k : Fin 512) :
    k0_pay18 (F := Ideal) (dlnBlock m c t) (ix2 0 k) = ∑ p ∈ Finset.range 544, dlnRow m c (544 * t.val + p) k := by
  pointwise [k0_pay18]
  simp only [row_dln m c H]
  exact Fin.sum_univ_eq_sum_range (fun p => dlnRow m c (544 * t.val + p) k) 544

theorem share13 (H : Real m c) (t : Fin cfg0.N) (k : Fin 512) :
    k0_pay21 (F := Ideal) (iblk m c 5 t) (k0_pay12 (iblk m c 4 t)) (k0_pay13 (iblk m c 4 t)) (dlnBlock m c t) (ix2 0 k)
      = ∑ p ∈ Finset.range 544, dzRow m c (544 * t.val + p) k := by
  pointwise [k0_pay21]
  simp only [row_dz m c H]
  exact Fin.sum_univ_eq_sum_range (fun p => dzRow m c (544 * t.val + p) k) 544

theorem after10 (k : Fin 1024) : ∀ (n : ℕ) (h : n < cfg0.N), ((outsAt0 m c n h).2.2.2.1 (ix2 0 k) : EReal) = ∑ r ∈ Finset.range (544 * (n + 1)), gainRow m c r k
  | 0, h => (congrFun (first10 m c ⟨0, h⟩ rfl) (ix2 0 k)).trans ((share10 m c ⟨0, h⟩ k).trans (by simp only [Nat.mul_zero, Nat.zero_add, Nat.mul_one]))
  | n + 1, h => by
    have hN := grid_points
    refine (congrFun (next10 m c ⟨n + 1, h⟩ (by show ¬(n + 1) % 4 = 0; omega)) (ix2 0 k)).trans ?_
    pointwise [k0_pay7]
    rw [share10, Nat.mul_succ 544 (n + 1), Finset.sum_range_add]
    exact congrArg (· + _) (after10 k n (Nat.lt_of_succ_lt h))

theorem after11 (H : Real m c) (k : Fin 512) : ∀ (n : ℕ) (h : n < cfg0.N),
    ((outsAt0 m c n h).2.2.2.2.1 (ix2 0 k) : EReal) = ∑ r ∈ Finset.range (544 * (n + 1)), dlgRow m c r k
  | 0, h => by
    refine (congrFun (first11 m c ⟨0, h⟩ rfl) (ix2 0 k)).trans ?_
    pointwise [k0_pay16]
    exact (share11 m c H ⟨0, h⟩ k).trans (by simp only [Nat.mul_zero, Nat.zero_add, Nat.mul_one])
  | n + 1, h => by
    have hN := grid_points
    refine (congrFun (next11 m c ⟨n + 1, h⟩ (by show ¬(n + 1) % 4 = 0; omega)) (ix2 0 k)).trans ?_
    pointwise [k0_pay17, k0_pay16]
    rw [share11 m c H, Nat.mul_succ 544 (n + 1), Finset.sum_range_add]
    exact congrArg (· + _) (after11 H k n (Nat.lt_of_succ_lt h))

theorem after12 (H : Real m c) (k : Fin 512) : ∀ (n : ℕ) (h : n < cfg0.N),
    ((outsAt0 m c n h).2.2.2.2.2.1 (ix2 0 k) : EReal) = ∑ r ∈ Finset.range (544 * (n + 1)), dlnRow m c r k
  | 0, h => (congrFun (first12 m c ⟨0, h⟩ rfl) (ix2 0 k)).trans ((share12 m c H ⟨0, h⟩ k).trans (by simp only [Nat.mul_zero, Nat.zero_add, Nat.mul_one]))
  | n + 1, h => by
    have hN := grid_points
    refine (congrFun (next12 m c ⟨n + 1, h⟩ (by show ¬(n + 1) % 4 = 0; omega)) (ix2 0 k)).trans ?_
    pointwise [k0_pay19]
    rw [share12 m c H, Nat.mul_succ 544 (n + 1), Finset.sum_range_add]
    exact congrArg (· + _) (after12 H k n (Nat.lt_of_succ_lt h))

theorem after13 (H : Real m c) (k : Fin 512) : ∀ (n : ℕ) (h : n < cfg0.N),
    ((outsAt0 m c n h).2.2.2.2.2.2 (ix2 0 k) : EReal) = ∑ r ∈ Finset.range (544 * (n + 1)), dzRow m c r k
  | 0, h => (congrFun (first13 m c ⟨0, h⟩ rfl) (ix2 0 k)).trans ((share13 m c H ⟨0, h⟩ k).trans (by simp only [Nat.mul_zero, Nat.zero_add, Nat.mul_one]))
  | n + 1, h => by
    have hN := grid_points
    refine (congrFun (next13 m c ⟨n + 1, h⟩ (by show ¬(n + 1) % 4 = 0; omega)) (ix2 0 k)).trans ?_
    pointwise [k0_pay1]
    rw [share13 m c H, Nat.mul_succ 544 (n + 1), Finset.sum_range_add]
    exact congrArg (· + _) (after13 H k n (Nat.lt_of_succ_lt h))

/-! ## The arrays after the run -/

theorem array7 : (dats m 0 c).arrAt 7 cfg0.N = val_main_v104 (F := Ideal) (argA m c) (argB m c) (argBias m c) (argLg m c) (argLb m c) (argW m c) (argG m c) (argD m c) := by
  refine (dats m 0 c).arrAt_eq_of_covers 7 _ (by decide +kernel) fun t hf y => ?_
  obtain ⟨p, k, rfl⟩ : ∃ (p : Fin 544) (k : Fin 1024), y = ix2 p k := ⟨y 0, y 1, eq_ix2 y⟩
  blk_simp
  rw [after0_7, after7]
  have e : (win0_7.blk t).view.emb (ix2 p k) = ix2 (row t p) k := by
    blk_ext [row, index_7]
  rw [e, show dmixBlock m c t (ix2 p k) = _ from row_dmix m c t p k]
  pointwise [val_main_v104, val_main_v103, val_main_call2_v0, val_main_c, int_zero]
  rfl

theorem array8 : (dats m 0 c).arrAt 8 cfg0.N = val_main_v105 (F := Ideal) (argA m c) (argB m c) (argBias m c) (argLg m c) (argLb m c) (argW m c) (argG m c) (argD m c) := by
  refine (dats m 0 c).arrAt_eq_of_covers 8 _ (by decide +kernel) fun t hf y => ?_
  obtain ⟨p, k, rfl⟩ : ∃ (p : Fin 544) (k : Fin 512), y = ix2 p k := ⟨y 0, y 1, eq_ix2 y⟩
  blk_simp
  rw [after0_8, after8]
  have e : (win0_8.blk t).view.emb (ix2 p k) = ix2 (row t p) k := by
    blk_ext [row, index_8]
  rw [e, row_dya]
  pointwise [val_main_v105, val_main_call3_v0, val_main_c_24, int_zero]
  rfl

theorem array9 (H : Real m c) : (dats m 0 c).arrAt 9 cfg0.N = val_main_v106 (F := Ideal) (argA m c) (argB m c) (argBias m c) (argLg m c) (argLb m c) (argW m c) (argG m c) (argD m c) := by
  refine (dats m 0 c).arrAt_eq_of_covers 9 _ (by decide +kernel) fun t hf y => ?_
  obtain ⟨p, k, rfl⟩ : ∃ (p : Fin 544) (k : Fin 512), y = ix2 p k := ⟨y 0, y 1, eq_ix2 y⟩
  blk_simp
  rw [after0_9, after9]
  have e : (win0_9.blk t).view.emb (ix2 p k) = ix2 (row t p) k := by
    blk_ext [row, index_9]
  rw [e, row_dz m c H]
  pointwise [val_main_v106, val_main_call4_v0, val_main_c_25, int_zero]
  rfl

/-- A sum over all rows, the zero rows among them, is the sum over the array's. -/
theorem sum_rows {n : ℕ} (f : Fin 2064 → Fin n → EReal) (k : Fin n) : ∑ r ∈ Finset.range (544 * (3 + 1)), below 112 f r k = ∑ a, f a k := by
  rw [sum_below (n := 2064) 112 (544 * (3 + 1)) (by norm_num) _ fun r hr => below_out _ _ hr]
  refine Finset.sum_congr rfl fun x _ => ?_
  rw [below_in _ _ (by omega : 112 ≤ x.val + 112) (by omega : x.val + 112 - 112 < 2064)]
  simp only [Nat.add_sub_cancel]

theorem array10 : (dats m 0 c).arrAt 10 cfg0.N = val_main_v49 (F := Ideal) (argA m c) (argB m c) (argBias m c) (argLg m c) (argLb m c) (argW m c) (argD m c) := by
  refine (dats m 0 c).arrAt_eq_of_after_last 10 t0_3 (by decide +kernel) _ fun j => ?_
  obtain ⟨k, rfl⟩ : ∃ k : Fin 1024, j = ix2 0 k := ⟨j 1, by blk_ext⟩
  blk_simp
  rw [after0_10]
  refine ((after10 m c k 3 (by decide)).trans (sum_rows _ k)).trans ?_
  pointwise [val_main_v49, val_main_v48, val_main_cst_10]

theorem array11 (H : Real m c) : (dats m 0 c).arrAt 11 cfg0.N = val_main_v74 (F := Ideal) (argA m c) (argB m c) (argBias m c) (argLg m c) (argLb m c) (argW m c) (argG m c) (argD m c) := by
  refine (dats m 0 c).arrAt_eq_of_after_last 11 t0_3 (by decide +kernel) _ fun j => ?_
  obtain ⟨k, rfl⟩ : ∃ k : Fin 512, j = ix2 0 k := ⟨j 1, by blk_ext⟩
  blk_simp
  rw [after0_11]
  refine ((after11 m c H k 3 (by decide)).trans (sum_rows _ k)).trans ?_
  pointwise [val_main_v74, val_main_v73, val_main_cst_15]

theorem array12 (H : Real m c) : (dats m 0 c).arrAt 12 cfg0.N = val_main_v71 (F := Ideal) (argA m c) (argB m c) (argBias m c) (argLg m c) (argLb m c) (argW m c) (argG m c) (argD m c) := by
  refine (dats m 0 c).arrAt_eq_of_after_last 12 t0_3 (by decide +kernel) _ fun j => ?_
  obtain ⟨k, rfl⟩ : ∃ k : Fin 512, j = ix2 0 k := ⟨j 1, by blk_ext⟩
  blk_simp
  rw [after0_12]
  refine ((after12 m c H k 3 (by decide)).trans (sum_rows _ k)).trans ?_
  pointwise [val_main_v71, val_main_v70, val_main_cst_14]

theorem array13 (H : Real m c) : (dats m 0 c).arrAt 13 cfg0.N = val_main_v102 (F := Ideal) (argA m c) (argB m c) (argBias m c) (argLg m c) (argLb m c) (argW m c) (argG m c) (argD m c) := by
  refine (dats m 0 c).arrAt_eq_of_after_last 13 t0_3 (by decide +kernel) _ fun j => ?_
  obtain ⟨k, rfl⟩ : ∃ k : Fin 512, j = ix2 0 k := ⟨j 1, by blk_ext⟩
  blk_simp
  rw [after0_13]
  refine ((after13 m c H k 3 (by decide)).trans (sum_rows _ k)).trans ?_
  pointwise [val_main_v102, val_main_v101, val_main_cst_23]

end Cert.OutProj
end
end
-- ==== Proof.SwigluBlock.lean ====
module

public import proofs.«01_k».proof.Proof.Padding
public import proofs.«01_k».proof.Proof.Gen.Kernel4Ideal.Frame
public import proofs.«01_k».proof.Proof.Gen.Reference4Ideal.Read
public import Idealize.ShloMosaic.Lib.Pipeline.ValueKit
public import Idealize.ShloMosaic.Lib.Pointwise

@[expose] public section

set_option maxRecDepth 16384

noncomputable section

namespace Cert.Swiglu

open Cert.Kernel4Ideal Cert.Kernel4Ideal.Gen Cert.Norm
open Cert.Reference4Ideal.Read
open Idealize.ShloMosaic Idealize.ShloMosaic.TcCoe Idealize.ShloMosaic.Tactic
open Idealize.SL.Sem

variable (m : (ℓ : Loc nD τ sig) → Buf (Elt Ideal) ℓ) (ρ : Dev nD → PrngReg) (c : Dev nD)

/-! ## What a grid point leaves in the output buffers, column by column -/

section Blocks

variable (x : Vec Ideal S544x1024 .bf16) (wg wu : Vec Ideal S2816x1024 .bf16)

/-- Row `p` of the block times column `f` of the weights. -/
def dot (w : Vec Ideal S2816x1024 .bf16) (p : Fin 544) (f : Fin 2816) : EReal := ∑ k : Fin 1024, (x (ix2 p k) : EReal) * (w (ix2 f k) : EReal)

/-- The gate times its sigmoid. -/
def silu (a : EReal) : EReal := a * Ideal.logistic a

/-- What the forward call saves for the gate's gradient. -/
def gateFactor (a u : EReal) : EReal := (u - silu a * u) * Ideal.logistic a + silu a * u

/-- A piece of columns agrees with a table when its columns are the table's from the piece's first one. -/
theorem columns_agree {o n : ℕ} (inb : ∀ a, (![0, o] : Fin 2 → ℕ) a + (![544, n] : Fin 2 → ℕ) a ≤ S544x2816.size a)
    (w : (Rect.unit (s := S544x2816) ![0, o] ![544, n] inb).shape.Idx → EReal) (G : Fin 544 → Fin 2816 → EReal)
    (h : ∀ (p : Fin 544) (f : Fin n) (hf : o + f.val < 2816), w (ix2 p f) = G p ⟨o + f.val, hf⟩) (y : (Rect.unit (s := S544x2816) ![0, o] ![544, n] inb).shape.Idx) :
    w y = G ((Rect.unit (s := S544x2816) ![0, o] ![544, n] inb).emb y 0) ((Rect.unit (s := S544x2816) ![0, o] ![544, n] inb).emb y 1) := by
  obtain ⟨p, f, rfl⟩ : ∃ (p : Fin 544) (f : Fin n), y = ix2 p f := ⟨y 0, y 1, eq_ix2 y⟩
  have hb : o + n ≤ 2816 := inb 1
  have hf : o + f.val < 2816 := by have := f.isLt; omega
  rw [h p f hf]
  refine congrArg₂ G (Fin.ext ?_) (Fin.ext ?_)
  · show p.val = 0 + 1 * p.val
    omega
  · show o + f.val = o + 1 * f.val
    omega

theorem out0 (c : Dev nD) (t : Fin cfg0.N) (p : Fin 544) (f : Fin 2816) :
    out0_A_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) x wg wu (ix2 p f)
        = gateFactor (dot x wg p f) (dot x wu p f)
      ∧ out0_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) x wg wu (ix2 p f)
        = silu (dot x wg p f)
      ∧ out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) x wg wu (ix2 p f)
        = silu (dot x wg p f) * dot x wu p f := by
  unfold out0_A_3 out0_A_4 out0_A_5
  refine ⟨View.read_writes_apply_of_pieces (Val := Elt Ideal) VO0_3 _ (fun y => gateFactor (dot x wg (y 0) (y 1)) (dot x wu (y 0) (y 1))) _ ?_ _ (cover0_A_3 c _ _ _ _ _ _ _ _ _ _ _ _ _ _ _ _ _),
    View.read_writes_apply_of_pieces (Val := Elt Ideal) VO0_4 _ (fun y => silu (dot x wg (y 0) (y 1))) _ ?_ _ (cover0_A_4 c _ _ _ _ _ _ _ _ _ _ _ _ _ _ _ _ _),
    View.read_writes_apply_of_pieces (Val := Elt Ideal) VO0_5 _ (fun y => silu (dot x wg (y 0) (y 1)) * dot x wu (y 0) (y 1)) _ ?_ _ (cover0_A_5 c _ _ _ _ _ _ _ _ _ _ _ _ _ _ _ _ _)⟩
  on_goal 1 => iterate 6 (refine List.forall_mem_cons.2 ⟨fun y => columns_agree ?_ _ (fun p f => gateFactor (dot x wg p f) (dot x wu p f)) (fun p f hf => ?_) y, ?_⟩; pick_goal 3)
  on_goal 14 => iterate 6 (refine List.forall_mem_cons.2 ⟨fun y => columns_agree ?_ _ (fun p f => silu (dot x wg p f)) (fun p f hf => ?_) y, ?_⟩; pick_goal 3)
  on_goal 27 => iterate 6 (refine List.forall_mem_cons.2 ⟨fun y => columns_agree ?_ _ (fun p f => silu (dot x wg p f) * dot x wu p f) (fun p f hf => ?_) y, ?_⟩; pick_goal 3)
  all_goals first | exact List.forall_mem_nil _ | decide | skip
  all_goals
    frame_out
    pointwise [k0_pay1, k0_pay2, k0_pay3, k0_pay4, k0_pay5, k0_pay6, k0_pay7, k0_pay8, k0_pay9, k0_pay10, k0_pay11, k0_pay12, k0_pay13, k0_pay14, k0_pay15, k0_pay16,
      k0_pay17, k0_pay18, k0_pay19, k0_pay20, k0_pay21, k0_pay22, k0_pay23, k0_pay24, k0_pay25, k0_pay26, k0_pay27, k0_pay28, k0_pay29, k0_pay30,
      k0_pay31, k0_pay32, k0_pay33, k0_pay34, k0_pay35, k0_pay36, k0_pay37, k0_pay38, k0_pay39, k0_pay40, k0_pay41, k0_pay42, k0_pay43, k0_pay44,
      k0_pay45, k0_pay46, k0_pay47, k0_pay48, k0_pay49, k0_pay50, k0_pay51]
    rfl

variable (d : Vec Ideal S544x1024 .bf16) (wd : Vec Ideal S2816x1024 .bf16) (ga gu : Vec Ideal S544x2816 .bf16)

/-- A piece of one plane's columns agrees with a table when its columns are the table's from the piece's first one. -/
theorem plane_agree {a o n : ℕ} (inb : ∀ b, (![a, 0, o] : Fin 3 → ℕ) b + (![1, 544, n] : Fin 3 → ℕ) b ≤ S2x544x2816.size b)
    (w : (Rect.unit (s := S2x544x2816) ![a, 0, o] ![1, 544, n] inb).shape.Idx → EReal) (G : Fin 2 → Fin 544 → Fin 2816 → EReal)
    (h : ∀ (p : Fin 544) (f : Fin n) (ha : a < 2) (hf : o + f.val < 2816), w (ix3 0 p f) = G ⟨a, ha⟩ p ⟨o + f.val, hf⟩)
    (y : (Rect.unit (s := S2x544x2816) ![a, 0, o] ![1, 544, n] inb).shape.Idx) :
    w y = G ((Rect.unit (s := S2x544x2816) ![a, 0, o] ![1, 544, n] inb).emb y 0) ((Rect.unit (s := S2x544x2816) ![a, 0, o] ![1, 544, n] inb).emb y 1)
      ((Rect.unit (s := S2x544x2816) ![a, 0, o] ![1, 544, n] inb).emb y 2) := by
  obtain ⟨z, p, f, rfl⟩ : ∃ (z : Fin 1) (p : Fin 544) (f : Fin n), y = ix3 z p f := ⟨y 0, y 1, y 2, eq_ix3 y⟩
  obtain rfl : z = 0 := Subsingleton.elim _ _
  have ha : a + 1 ≤ 2 := inb 0
  have hb : o + n ≤ 2816 := inb 2
  have hf : o + f.val < 2816 := by have := f.isLt; omega
  rw [h p f ha hf]
  have e0 : (⟨a, ha⟩ : Fin 2) = (Rect.unit (s := S2x544x2816) ![a, 0, o] ![1, 544, n] inb).emb (ix3 0 p f) 0 := Fin.ext rfl
  have e1 : p = (Rect.unit (s := S2x544x2816) ![a, 0, o] ![1, 544, n] inb).emb (ix3 0 p f) 1 := Fin.ext (by show p.val = 0 + 1 * p.val; omega)
  have e2 : (⟨o + f.val, hf⟩ : Fin 2816) = (Rect.unit (s := S2x544x2816) ![a, 0, o] ![1, 544, n] inb).emb (ix3 0 p f) 2 := Fin.ext (by show o + f.val = o + 1 * f.val; omega)
  exact congr (congrArg₂ G e0 e1) e2

/-- The factor of plane `a`: the gate's gradient first, the up projection's second. -/
def factor (a : Fin 2) (p : Fin 544) (f : Fin 2816) : EReal := if a.val = 0 then ga (ix2 p f) else gu (ix2 p f)

theorem out1 (c : Dev nD) (t : Fin cfg1.N) (a : Fin 2) (p : Fin 544) (f : Fin 2816) :
    out1_A_4 (F := Ideal) c (grid1.coords t) (ms1_0 t) (hs1_0 t) (ms1_1 t) (hs1_1 t) (ms1_2 t) (hs1_2 t) (ms1_3 t) (hs1_3 t) (ms1_4 t) (hs1_4 t) d wd ga gu (ix3 a p f)
      = dot d wd p f * factor ga gu a p f := by
  unfold out1_A_4
  refine View.read_writes_apply_of_pieces (Val := Elt Ideal) VO1_4 _ (fun y => dot d wd (y 1) (y 2) * factor ga gu (y 0) (y 1) (y 2)) _ ?_ _ (cover1_A_4 c _ _ _ _ _ _ _ _ _ _ _ _ _ _ _ _)
  iterate 12 (refine List.forall_mem_cons.2 ⟨fun y => plane_agree ?_ _ (fun a p f => dot d wd p f * factor ga gu a p f) (fun p f ha hf => ?_) y, ?_⟩; pick_goal 3)
  all_goals first | exact List.forall_mem_nil _ | decide | skip
  all_goals
    frame_out
    pointwise [k1_pay1, k1_pay2, k1_pay3, k1_pay4, k1_pay5, k1_pay6, k1_pay7, k1_pay8, k1_pay9, k1_pay10, k1_pay11, k1_pay12, k1_pay13, k1_pay14, k1_pay15, k1_pay16,
      k1_pay17, k1_pay18, k1_pay19, k1_pay20]
    rfl

end Blocks

end Cert.Swiglu
end
end
-- ==== Proof.SwigluValue.lean ====
module

public import proofs.«01_k».proof.Proof.SwigluBlock

@[expose] public section

set_option maxRecDepth 16384

noncomputable section

namespace Cert.Swiglu

open Cert.Kernel4Ideal Cert.Kernel4Ideal.Gen Cert.Norm
open Cert.Reference4Ideal.Read
open Idealize.ShloMosaic Idealize.ShloMosaic.TcCoe Idealize.ShloMosaic.Tactic
open Idealize.SL.Sem

variable (m : (ℓ : Loc nD τ sig) → Buf (Elt Ideal) ℓ) (ρ : Dev nD → PrngReg) (c : Dev nD)

/-! ## The arguments -/

abbrev argX : Vec Ideal S2064x1024 .f32 := m ((c : Thread nD τ).loc main_arg0)
abbrev argWg : Vec Ideal S1024x2816 .f32 := m ((c : Thread nD τ).loc main_arg1)
abbrev argWu : Vec Ideal S1024x2816 .f32 := m ((c : Thread nD τ).loc main_arg2)
abbrev argWd : Vec Ideal S2816x1024 .f32 := m ((c : Thread nD τ).loc main_arg3)
abbrev argD : Vec Ideal S2064x1024 .f32 := m ((c : Thread nD τ).loc main_arg4)

/-! ## What the host hands to the two kernels -/

/-- Rows below zero rows. -/
abbrev padded (x : Vec Ideal S2064x1024 .f32) : FVec Ideal S2176x1024 .f32 :=
  pad S2176x1024 ![112, 0] ![0, 0] ![0, 0] x (sitofp (F := Ideal) .f32 (constantI S_ 32 0#32)) pads_S2064x1024_S2176x1024_11200_000 h_S_

theorem host_x : V3 m ρ c main_v1 = (truncf .bf16 (padded (argX m c)) bitsLt_bf16_f32 : FVec Ideal S2176x1024 .bf16) := by
  show StableHlo.after hostOps0_2 (StableHlo.after hostOps0_1 (StableHlo.after hostOps0 (W0 m ρ c))) (Proc.devRef .tc main_v1) = _
  simp only [hostOps0, hostOps0_1, hostOps0_2]
  after_results
  rfl

theorem host_wg : V3 m ρ c main_v3 = (truncf .bf16 (transpose S2816x1024 [1, 0] (argWg m c : FVec Ideal S1024x2816 .f32) transposes_S1024x2816_S2816x1024_1_0) bitsLt_bf16_f32 : FVec Ideal S2816x1024 .bf16) := by
  show StableHlo.after hostOps0_2 (W2 m ρ c) (Proc.devRef .tc main_v3) = _
  simp only [hostOps0_2]
  after_results

theorem host_wu : V3 m ρ c main_v5 = (truncf .bf16 (transpose S2816x1024 [1, 0] (argWu m c : FVec Ideal S1024x2816 .f32) transposes_S1024x2816_S2816x1024_1_0) bitsLt_bf16_f32 : FVec Ideal S2816x1024 .bf16) := by
  show StableHlo.after hostOps0_2 (W2 m ρ c) (Proc.devRef .tc main_v5) = _
  simp only [hostOps0_2]
  after_results

theorem host_d : V7 m ρ c main_v8 = (truncf .bf16 (padded (argD m c)) bitsLt_bf16_f32 : FVec Ideal S2176x1024 .bf16) := by
  show StableHlo.after hostOps1_2 (StableHlo.after hostOps1_1 (StableHlo.after hostOps1 (W4 m ρ c))) (Proc.devRef .tc main_v8) = _
  simp only [hostOps1, hostOps1_1, hostOps1_2]
  after_results
  rw [W4_args m ρ c main_arg4 (by decide)]
  rfl

theorem host_wd : V7 m ρ c main_v9 = (truncf .bf16 (argWd m c) bitsLt_bf16_f32 : FVec Ideal S2816x1024 .bf16) := by
  show StableHlo.after hostOps1_2 (W6 m ρ c) (Proc.devRef .tc main_v9) = _
  simp only [hostOps1_2]
  after_results
  rw [W4_args m ρ c main_arg3 (by decide)]

theorem host_ga : V7 m ρ c main_v6_0 = (dat0 (V3 m ρ) c).arrAt 3 cfg0.N :=
  (W7_of m ρ c main_v6_0 (by decide)).trans ((W6_of m ρ c main_v6_0 (by decide)).trans ((W5_of m ρ c main_v6_0 (by decide)).trans (W4_arr m ρ c 3)))

theorem host_gu : V7 m ρ c main_v6_1 = (dat0 (V3 m ρ) c).arrAt 4 cfg0.N :=
  (W7_of m ρ c main_v6_1 (by decide)).trans ((W6_of m ρ c main_v6_1 (by decide)).trans ((W5_of m ρ c main_v6_1 (by decide)).trans (W4_arr m ρ c 4)))

/-! ## What a grid point reads: a block of 544 rows -/

theorem grid_points0 : cfg0.N = 4 := rfl
theorem grid_points1 : cfg1.N = 4 := rfl

/-- The row of the padded arrays that row `p` of block `t` is. -/
def row (t : ℕ) (h : t < 4) (p : Fin 544) : Fin 2176 := ⟨544 * t + p.val, by omega⟩

theorem index0_0 : ∀ t : Fin cfg0.N, win0_0.index t = ![t.val, 0] := (by decide +kernel : ∀ t : Fin grid0.N, _)
theorem index0_1 : ∀ t : Fin cfg0.N, win0_1.index t = ![0, 0] := (by decide +kernel : ∀ t : Fin grid0.N, _)
theorem index0_2 : ∀ t : Fin cfg0.N, win0_2.index t = ![0, 0] := (by decide +kernel : ∀ t : Fin grid0.N, _)
theorem index0_3 : ∀ t : Fin cfg0.N, win0_3.index t = ![t.val, 0] := (by decide +kernel : ∀ t : Fin grid0.N, _)
theorem index0_4 : ∀ t : Fin cfg0.N, win0_4.index t = ![t.val, 0] := (by decide +kernel : ∀ t : Fin grid0.N, _)
theorem index0_5 : ∀ t : Fin cfg0.N, win0_5.index t = ![t.val, 0] := (by decide +kernel : ∀ t : Fin grid0.N, _)
theorem index1_0 : ∀ t : Fin cfg1.N, win1_0.index t = ![t.val, 0] := (by decide +kernel : ∀ t : Fin grid1.N, _)
theorem index1_1 : ∀ t : Fin cfg1.N, win1_1.index t = ![0, 0] := (by decide +kernel : ∀ t : Fin grid1.N, _)
theorem index1_2 : ∀ t : Fin cfg1.N, win1_2.index t = ![t.val, 0] := (by decide +kernel : ∀ t : Fin grid1.N, _)
theorem index1_3 : ∀ t : Fin cfg1.N, win1_3.index t = ![t.val, 0] := (by decide +kernel : ∀ t : Fin grid1.N, _)
theorem index1_4 : ∀ t : Fin cfg1.N, win1_4.index t = ![0, t.val, 0] := (by decide +kernel : ∀ t : Fin grid1.N, _)

theorem read_x (t : Fin cfg0.N) (p : Fin 544) (k : Fin 1024) :
    (iblk0 (V3 m ρ) c 0 t (ix2 p k) : EReal) = below 112 (fun a b => argX m c (ix2 a b)) (row t.val t.isLt p).val k := by
  have h : iblk0 (V3 m ρ) c 0 t (ix2 p k) = V3 m ρ c main_v1 (ix2 (row t.val t.isLt p) k) := by
    blk_simp [iblk0]
    blk_ext [row, index0_0]
  rw [h, host_x]
  pointwise [int_zero]
  rfl

theorem read_wg (t : Fin cfg0.N) (f : Fin 2816) (k : Fin 1024) : (iblk0 (V3 m ρ) c 1 t (ix2 f k) : EReal) = argWg m c (ix2 k f) := by
  have h : iblk0 (V3 m ρ) c 1 t (ix2 f k) = V3 m ρ c main_v3 (ix2 f k) := by
    blk_simp [iblk0]
    blk_ext [index0_1]
  rw [h, host_wg]
  pointwise

theorem read_wu (t : Fin cfg0.N) (f : Fin 2816) (k : Fin 1024) : (iblk0 (V3 m ρ) c 2 t (ix2 f k) : EReal) = argWu m c (ix2 k f) := by
  have h : iblk0 (V3 m ρ) c 2 t (ix2 f k) = V3 m ρ c main_v5 (ix2 f k) := by
    blk_simp [iblk0]
    blk_ext [index0_2]
  rw [h, host_wu]
  pointwise

theorem read_d (t : Fin cfg1.N) (p : Fin 544) (k : Fin 1024) :
    (iblk1 (V7 m ρ) c 0 t (ix2 p k) : EReal) = below 112 (fun a b => argD m c (ix2 a b)) (row t.val t.isLt p).val k := by
  have h : iblk1 (V7 m ρ) c 0 t (ix2 p k) = V7 m ρ c main_v8 (ix2 (row t.val t.isLt p) k) := by
    blk_simp [iblk1]
    blk_ext [row, index1_0]
  rw [h, host_d]
  pointwise [int_zero]
  rfl

theorem read_wd (t : Fin cfg1.N) (f : Fin 2816) (k : Fin 1024) : (iblk1 (V7 m ρ) c 1 t (ix2 f k) : EReal) = argWd m c (ix2 f k) := by
  have h : iblk1 (V7 m ρ) c 1 t (ix2 f k) = V7 m ρ c main_v9 (ix2 f k) := by
    blk_simp [iblk1]
    blk_ext [index1_1]
  rw [h, host_wd]
  pointwise

/-! ## The arrays after the two runs -/

/-- The gate before its activation, the up projection, and what the down projection hands back, at row `r` of the padded arrays. -/
def gate (r : ℕ) (f : Fin 2816) : EReal := ∑ k : Fin 1024, below 112 (fun a b => argX m c (ix2 a b)) r k * argWg m c (ix2 k f)
def up (r : ℕ) (f : Fin 2816) : EReal := ∑ k : Fin 1024, below 112 (fun a b => argX m c (ix2 a b)) r k * argWu m c (ix2 k f)
def ds (r : ℕ) (f : Fin 2816) : EReal := ∑ k : Fin 1024, below 112 (fun a b => argD m c (ix2 a b)) r k * argWd m c (ix2 f k)

theorem dot_gate (t : Fin cfg0.N) (p : Fin 544) (f : Fin 2816) : dot (iblk0 (V3 m ρ) c 0 t) (iblk0 (V3 m ρ) c 1 t) p f = gate m c (row t.val t.isLt p).val f :=
  Finset.sum_congr rfl fun k _ => congrArg₂ (· * ·) (read_x m ρ c t p k) (read_wg m ρ c t f k)

theorem dot_up (t : Fin cfg0.N) (p : Fin 544) (f : Fin 2816) : dot (iblk0 (V3 m ρ) c 0 t) (iblk0 (V3 m ρ) c 2 t) p f = up m c (row t.val t.isLt p).val f :=
  Finset.sum_congr rfl fun k _ => congrArg₂ (· * ·) (read_x m ρ c t p k) (read_wu m ρ c t f k)

theorem dot_ds (t : Fin cfg1.N) (p : Fin 544) (f : Fin 2816) : dot (iblk1 (V7 m ρ) c 0 t) (iblk1 (V7 m ρ) c 1 t) p f = ds m c (row t.val t.isLt p).val f :=
  Finset.sum_congr rfl fun k _ => congrArg₂ (· * ·) (read_d m ρ c t p k) (read_wd m ρ c t f k)

/-- The two tables the forward call saves. -/
def savedGate : Vec Ideal S2176x2816 .bf16 := fun y => gateFactor (gate m c (y 0).val (y 1)) (up m c (y 0).val (y 1))
def savedUp : Vec Ideal S2176x2816 .bf16 := fun y => silu (gate m c (y 0).val (y 1))

theorem outs_3 (t : Fin cfg0.N) (p : Fin 544) (f : Fin 2816) : ((outsAt0 (V3 m ρ) c t).1 (ix2 p f) : EReal) = gateFactor (gate m c (row t.val t.isLt p).val f) (up m c (row t.val t.isLt p).val f) := by
  have h := (out0 (iblk0 (V3 m ρ) c 0 t) (iblk0 (V3 m ρ) c 1 t) (iblk0 (V3 m ρ) c 2 t) c t p f).1
  rw [dot_gate, dot_up] at h
  exact (congrFun (by unfold outsAt0; rfl) _).trans h

theorem array3 : (dat0 (V3 m ρ) c).arrAt 3 cfg0.N = savedGate m c := by
  refine (dat0 (V3 m ρ) c).arrAt_eq_of_covers 3 _ (by decide +kernel) fun t hf y => ?_
  obtain ⟨p, f, rfl⟩ : ∃ (p : Fin 544) (f : Fin 2816), y = ix2 p f := ⟨y 0, y 1, eq_ix2 y⟩
  blk_simp
  rw [after0_3]
  refine (outs_3 m ρ c t p f).trans ?_
  have e : (win0_3.blk t).view.emb (ix2 p f) = ix2 (row t.val t.isLt p) f := by
    blk_ext [row, index0_3]
  rw [e]
  rfl

theorem outs_4 (t : Fin cfg0.N) (p : Fin 544) (f : Fin 2816) : ((outsAt0 (V3 m ρ) c t).2.1 (ix2 p f) : EReal) = silu (gate m c (row t.val t.isLt p).val f) := by
  have h := (out0 (iblk0 (V3 m ρ) c 0 t) (iblk0 (V3 m ρ) c 1 t) (iblk0 (V3 m ρ) c 2 t) c t p f).2.1
  rw [dot_gate] at h
  exact (congrFun (by unfold outsAt0; rfl) _).trans h

theorem array4 : (dat0 (V3 m ρ) c).arrAt 4 cfg0.N = savedUp m c := by
  refine (dat0 (V3 m ρ) c).arrAt_eq_of_covers 4 _ (by decide +kernel) fun t hf y => ?_
  obtain ⟨p, f, rfl⟩ : ∃ (p : Fin 544) (f : Fin 2816), y = ix2 p f := ⟨y 0, y 1, eq_ix2 y⟩
  blk_simp
  rw [after0_4]
  refine (outs_4 m ρ c t p f).trans ?_
  have e : (win0_4.blk t).view.emb (ix2 p f) = ix2 (row t.val t.isLt p) f := by
    blk_ext [row, index0_4]
  rw [e]
  rfl

/-- The activated gate times the up projection. -/
def product : Vec Ideal S2176x2816 .bf16 := fun y => silu (gate m c (y 0).val (y 1)) * up m c (y 0).val (y 1)

theorem outs_5 (t : Fin cfg0.N) (p : Fin 544) (f : Fin 2816) :
    ((outsAt0 (V3 m ρ) c t).2.2 (ix2 p f) : EReal) = silu (gate m c (row t.val t.isLt p).val f) * up m c (row t.val t.isLt p).val f := by
  have h := (out0 (iblk0 (V3 m ρ) c 0 t) (iblk0 (V3 m ρ) c 1 t) (iblk0 (V3 m ρ) c 2 t) c t p f).2.2
  rw [dot_gate, dot_up] at h
  exact (congrFun (by unfold outsAt0; rfl) _).trans h

theorem array_product : (dat0 (V3 m ρ) c).arrAt 5 cfg0.N = product m c := by
  refine (dat0 (V3 m ρ) c).arrAt_eq_of_covers 5 _ (by decide +kernel) fun t hf y => ?_
  obtain ⟨p, f, rfl⟩ : ∃ (p : Fin 544) (f : Fin 2816), y = ix2 p f := ⟨y 0, y 1, eq_ix2 y⟩
  blk_simp
  rw [after0_5]
  refine (outs_5 m ρ c t p f).trans ?_
  have e : (win0_5.blk t).view.emb (ix2 p f) = ix2 (row t.val t.isLt p) f := by
    blk_ext [row, index0_5]
  rw [e]
  rfl

theorem read_ga (t : Fin cfg1.N) (p : Fin 544) (f : Fin 2816) :
    (iblk1 (V7 m ρ) c 2 t (ix2 p f) : EReal) = gateFactor (gate m c (row t.val t.isLt p).val f) (up m c (row t.val t.isLt p).val f) := by
  have h : iblk1 (V7 m ρ) c 2 t (ix2 p f) = V7 m ρ c main_v6_0 (ix2 (row t.val t.isLt p) f) := by
    blk_simp [iblk1]
    blk_ext [row, index1_2]
  rw [h, host_ga, array3]
  rfl

theorem read_gu (t : Fin cfg1.N) (p : Fin 544) (f : Fin 2816) : (iblk1 (V7 m ρ) c 3 t (ix2 p f) : EReal) = silu (gate m c (row t.val t.isLt p).val f) := by
  have h : iblk1 (V7 m ρ) c 3 t (ix2 p f) = V7 m ρ c main_v6_1 (ix2 (row t.val t.isLt p) f) := by
    blk_simp [iblk1]
    blk_ext [row, index1_3]
  rw [h, host_gu, array4]
  rfl

/-- The arguments are real numbers. -/
structure Real : Prop where
  x : ∀ a b, ∃ v : ℝ, argX m c (ix2 a b) = (v : EReal)
  wg : ∀ a b, ∃ v : ℝ, argWg m c (ix2 a b) = (v : EReal)
  wu : ∀ a b, ∃ v : ℝ, argWu m c (ix2 a b) = (v : EReal)
  wd : ∀ a b, ∃ v : ℝ, argWd m c (ix2 a b) = (v : EReal)
  d : ∀ a b, ∃ v : ℝ, argD m c (ix2 a b) = (v : EReal)

/-- A sum of products of real numbers is a real number. -/
theorem real_dot {n : ℕ} (x y : Fin n → EReal) (hx : ∀ k, ∃ v : ℝ, x k = (v : EReal)) (hy : ∀ k, ∃ v : ℝ, y k = (v : EReal)) :
    ∃ v : ℝ, ∑ k, x k * y k = (v : EReal) := by
  choose a ha using hx
  choose b hb using hy
  refine ⟨∑ k, a k * b k, ?_⟩
  simp only [ha, hb, ← EReal.coe_mul, coe_sum]

/-- The sigmoid of a real number is a real number. -/
theorem real_logistic (a : ℝ) : ∃ s : ℝ, Ideal.div 1 (1 + Ideal.exp (-(a : EReal))) = (s : EReal) := by
  have h : (1 : EReal) + Ideal.exp (-(a : EReal)) = ((1 + Real.exp (-a) : ℝ) : EReal) := by
    rw [← EReal.coe_neg, Ideal.exp_coe]
    norm_cast
  have hp : (1 + Real.exp (-a) : ℝ) ≠ 0 := by positivity
  rw [h, Ideal.div_coe hp]
  exact ⟨_, one_mul _⟩

/-- What is saved for the gate times what comes back is the product rule's two terms. -/
theorem product_rule (a u d : ℝ) :
    (d : EReal) * gateFactor a u
      = d * u * Ideal.div 1 (1 + Ideal.exp (-(a : EReal)))
        + a * (d * u) * (Ideal.div 1 (1 + Ideal.exp (-(a : EReal))) * (1 - Ideal.div 1 (1 + Ideal.exp (-(a : EReal))))) := by
  unfold gateFactor silu Ideal.logistic
  obtain ⟨s, hs⟩ := real_logistic a
  rw [hs, ← EReal.coe_one]
  norm_cast
  ring

/-- A row of zeros hands nothing back. -/
theorem ds_zero {r : ℕ} (h : r < 112) (f : Fin 2816) : ds m c r f = 0 :=
  Finset.sum_eq_zero fun k _ => by rw [below_out _ _ h, zero_mul]

theorem array5 (hr : Real m c) : (dat1 (V7 m ρ) c).arrAt 4 cfg1.N = val_main_v17 (F := Ideal) (argX m c) (argWg m c) (argWu m c) (argWd m c) (argD m c) := by
  refine (dat1 (V7 m ρ) c).arrAt_eq_of_covers 4 _ (by decide +kernel) fun t hf y => ?_
  obtain ⟨a, p, f, rfl⟩ : ∃ (a : Fin 2) (p : Fin 544) (f : Fin 2816), y = ix3 a p f := ⟨y 0, y 1, y 2, eq_ix3 y⟩
  blk_simp
  rw [after1_4]
  unfold outsAt1
  refine (out1 _ _ _ _ c t a p f).trans ?_
  rw [dot_ds]
  have e : (win1_4.blk t).view.emb (ix3 a p f) = ix3 a (row t.val t.isLt p) f := by
    blk_ext [row, index1_4]
  rw [e]
  unfold factor
  rw [read_ga, read_gu]
  generalize row t.val t.isLt p = r
  fin_cases a <;>
  · pointwise [val_main_v17, val_main_v16, val_main_v15, val_main_v14, val_main_v13, val_main_v12, val_main_v11, val_main_v10, val_main_v9, val_main_call2_v0,
     val_main_call2_v1, val_main_call2_v2, val_main_v2_0, val_main_v2_1, val_main_v2_2, val_main_call0_v0, val_main_call0_v1, val_main_call0_v2, val_main_call0_v3,
     val_main_call0_v4, val_main_call0_v6, val_main_call0_v7, val_main_call0_cst, val_main_call0_cst_0, val_main_call0_cst_1, val_main_v0, val_main_v1,
     val_main_call3_v0, val_main_c, int_zero]
    split
    · rename_i h
      unfold ds gate
      try unfold up
      simp only [below_in _ _ h.1 h.2]
      obtain ⟨a, ha⟩ := real_dot _ _ (hr.x ⟨r.val - 112, h.2⟩) (fun k => hr.wg k f)
      obtain ⟨u, hu⟩ := real_dot _ _ (hr.x ⟨r.val - 112, h.2⟩) (fun k => hr.wu k f)
      obtain ⟨d, hd⟩ := real_dot _ _ (hr.d ⟨r.val - 112, h.2⟩) (hr.wd f)
      rw [ha, hd]
      first
        | exact mul_comm (G := EReal) _ _
        | rw [hu]; exact product_rule a u d
    · rename_i h
      rw [ds_zero m c (by omega), zero_mul]

/-- A row of zeros has a gate and an up projection of zero. -/
theorem gate_zero {r : ℕ} (h : r < 112) (f : Fin 2816) : gate m c r f = 0 :=
  Finset.sum_eq_zero fun k _ => by rw [below_out _ _ h, zero_mul]

theorem up_zero {r : ℕ} (h : r < 112) (f : Fin 2816) : up m c r f = 0 :=
  Finset.sum_eq_zero fun k _ => by rw [below_out _ _ h, zero_mul]

theorem silu_zero : silu 0 = 0 := zero_mul _

theorem factor_zero : gateFactor 0 0 = 0 := by
  unfold gateFactor
  rw [silu_zero, zero_mul, sub_zero, zero_mul, add_zero]

/-- The factor of the gate is the derivative of the activated product by the gate. -/
theorem savedGate_eq (hr : Real m c) : savedGate m c = val_main_v19 (F := Ideal) (argX m c) (argWg m c) (argWu m c) := by
  funext y
  obtain ⟨r, f, rfl⟩ : ∃ (r : Fin 2176) (f : Fin 2816), y = ix2 r f := ⟨y 0, y 1, eq_ix2 y⟩
  show gateFactor (gate m c r.val f) (up m c r.val f) = _
  pointwise [val_main_v19, val_main_v18, val_main_v7, val_main_v6, val_main_v4, val_main_call1_v0, val_main_call1_v1, val_main_call1_v2, val_main_v2_1, val_main_v2_2,
    val_main_call0_v0, val_main_call0_v1, val_main_call0_v2, val_main_call0_v3, val_main_call0_v4, val_main_call0_v6, val_main_call0_v7, val_main_call0_cst,
    val_main_call0_cst_0, val_main_call0_cst_1, val_main_v0, val_main_v1, val_main_call4_v0, val_main_c_0, val_main_cst, int_zero]
  split
  · rename_i h
    unfold gate up
    simp only [below_in _ _ h.1 h.2]
    obtain ⟨a, ha⟩ := real_dot _ _ (hr.x ⟨r.val - 112, h.2⟩) (fun k => hr.wg k f)
    obtain ⟨u, hu⟩ := real_dot _ _ (hr.x ⟨r.val - 112, h.2⟩) (fun k => hr.wu k f)
    rw [ha, hu]
    have h1 := product_rule a u 1
    simp only [EReal.coe_one, one_mul] at h1
    exact h1
  · rename_i h
    rw [gate_zero m c (by omega), up_zero m c (by omega), factor_zero]

/-- The factor of the up projection is the derivative of the activated product by it. -/
theorem savedUp_eq : savedUp m c = val_main_v21 (F := Ideal) (argX m c) (argWg m c) := by
  funext y
  obtain ⟨r, f, rfl⟩ : ∃ (r : Fin 2176) (f : Fin 2816), y = ix2 r f := ⟨y 0, y 1, eq_ix2 y⟩
  show silu (gate m c r.val f) = _
  pointwise [val_main_v21, val_main_v20, val_main_v5, val_main_v4, val_main_v2_0, val_main_v2_2, val_main_call0_v0, val_main_call0_v1, val_main_call0_v2,
    val_main_call0_v3, val_main_call0_v4, val_main_call0_cst, val_main_call0_cst_0, val_main_v0, val_main_call5_v0, val_main_c_1, val_main_cst, int_zero]
  split
  · rename_i h
    unfold gate
    simp only [below_in _ _ h.1 h.2]
    rfl
  · rename_i h
    rw [gate_zero m c (by omega), silu_zero]

theorem product_eq : product m c = val_main_v23 (F := Ideal) (argX m c) (argWg m c) (argWu m c) := by
  funext y
  obtain ⟨r, f, rfl⟩ : ∃ (r : Fin 2176) (f : Fin 2816), y = ix2 r f := ⟨y 0, y 1, eq_ix2 y⟩
  show silu (gate m c r.val f) * up m c r.val f = _
  pointwise [val_main_v23, val_main_v22, val_main_v3, val_main_v2_0, val_main_v2_2, val_main_call0_v0, val_main_call0_v1, val_main_call0_v2,
    val_main_call0_v3, val_main_call0_v4, val_main_call0_cst, val_main_call0_cst_0, val_main_v0, val_main_v1, val_main_call6_v0, val_main_c_2, int_zero]
  split
  · rename_i h
    unfold gate up
    simp only [below_in _ _ h.1 h.2]
    rfl
  · rename_i h
    rw [gate_zero m c (by omega), silu_zero, zero_mul]

end Cert.Swiglu
end
end
-- ==== Proof.SwigluRun.lean ====
module

public import proofs.«01_k».proof.Defs
public import proofs.«01_k».proof.Proof.SwigluValue
public import proofs.«01_k».proof.Proof.OutFinite
public import proofs.«01_k».proof.Proof.Gen.Pre_finite4

@[expose] public section

noncomputable section

namespace Cert.Swiglu

open Cert.Kernel4Ideal Cert.Kernel4Ideal.Gen Cert.Norm
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (m : (ℓ : Loc nD τ sig) → Buf (Elt Ideal) ℓ) (ρ : Dev nD → PrngReg)

/-! ## The run, with the results it leaves -/

/-- What the first kernel wrote is still there when the second has run. -/
theorem kept (c : Dev nD) (w : Fin cfg0.W)
    (h8 : ∀ v : Fin cfg1.W, Pipeline.arrRef spec1 v = Pipeline.arrRef spec0 w → (cfg1.win v).isOut = false)
    (h7 : Pipeline.arrRef spec0 w ∉ hostOps1_2_W) (h6 : Pipeline.arrRef spec0 w ∉ hostOps1_1_W) (h5 : Pipeline.arrRef spec0 w ∉ hostOps1_W) :
    W8 m ρ c (Proc.devRef .tc (Pipeline.arrRef spec0 w)) = (dat0 (V3 m ρ) c).arrAt w cfg0.N :=
  (W8_of m ρ c _ h8).trans ((W7_of m ρ c _ h7).trans ((W6_of m ρ c _ h6).trans ((W5_of m ρ c _ h5).trans (W4_arr m ρ c w))))

set_option backward.isDefEq.respectTransparency.types false in
/-- Every run ends with the second kernel's output array and the first kernel's three in the results and the arguments as they were. -/
theorem run_result : θ_run defs (onTc (τ := τ) (main (F := Ideal))) ⟨m, fun _ => 0, ρ⟩ (fun r => ∀ c : Dev nD,
      r.2.mem ((c.tc : Thread nD τ).loc main_v10) = (dat1 (V7 m ρ) c).arrAt 4 cfg1.N
      ∧ r.2.mem ((c.tc : Thread nD τ).loc main_v6_0) = (dat0 (V3 m ρ) c).arrAt 3 cfg0.N
      ∧ r.2.mem ((c.tc : Thread nD τ).loc main_v6_1) = (dat0 (V3 m ρ) c).arrAt 4 cfg0.N
      ∧ r.2.mem ((c.tc : Thread nD τ).loc main_v6_2) = (dat0 (V3 m ρ) c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz c =>
      ⟨(h c _ (mem_uc main_v10 (by decide))).trans (W8_arr m ρ c 4),
       (h c _ (mem_uc main_v6_0 (by decide))).trans (kept m ρ c 3 (by decide) (by decide) (by decide) (by decide)),
       (h c _ (mem_uc main_v6_1 (by decide))).trans (kept m ρ c 4 (by decide) (by decide) (by decide) (by decide)),
       (h c _ (mem_uc main_v6_2 (by decide))).trans (kept m ρ c 5 (by decide) (by decide) (by decide) (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c)⟩)

/-! ## What the precondition says of the arguments -/

instance : Subsingleton (Shape.Idx Cert.Pre_finite4.S_) := ⟨fun a b => funext fun i => i.elim0⟩

theorem real_of_finite (h : Cert.Pre_Kernel4Ideal_finite4 (hPre_finite4 := Cert.Pre_finite4.Gen.facts) m) (c : Dev nD) : Real m c := by
  have h' := congrFun (h c) ix0
  unfold Cert.Pre_finite4.fn Cert.Pre_finite4.fn_part1 at h'
  obtain ⟨h', hd⟩ := IntOp.andi_eq_one.1 h'
  obtain ⟨h', hwd⟩ := IntOp.andi_eq_one.1 h'
  obtain ⟨h', hwu⟩ := IntOp.andi_eq_one.1 h'
  obtain ⟨hx, hwg⟩ := IntOp.andi_eq_one.1 h'
  exact ⟨fun a b => Cert.OutProj.real_of_lt _ _ rfl (Host.reduce_andi_all _ _ _ _ _ hx (ix2 a b)),
    fun a b => Cert.OutProj.real_of_lt _ _ rfl (Host.reduce_andi_all _ _ _ _ _ hwg (ix2 a b)),
    fun a b => Cert.OutProj.real_of_lt _ _ rfl (Host.reduce_andi_all _ _ _ _ _ hwu (ix2 a b)),
    fun a b => Cert.OutProj.real_of_lt _ _ rfl (Host.reduce_andi_all _ _ _ _ _ hwd (ix2 a b)),
    fun a b => Cert.OutProj.real_of_lt _ _ rfl (Host.reduce_andi_all _ _ _ _ _ hd (ix2 a b))⟩

end Cert.Swiglu
end
end
-- ==== Proof.FfnBlock.lean ====
module

public import proofs.«01_k».proof.Proof.Padding
public import proofs.«01_k».proof.Proof.Gen.Kernel5Ideal.Value
public import proofs.«01_k».proof.Proof.Gen.Reference5Ideal.Read
public import Idealize.ShloMosaic.Lib.Pipeline.ValueKit
public import Idealize.ShloMosaic.Lib.Pointwise

@[expose] public section

set_option maxRecDepth 16384

noncomputable section

namespace Cert.FfnIn

open Cert.Kernel5Ideal Cert.Kernel5Ideal.Gen Cert.Norm
open Cert.Reference5Ideal.Read
open Idealize.ShloMosaic Idealize.ShloMosaic.TcCoe Idealize.ShloMosaic.Tactic
open Idealize.SL.Sem

variable (m : (ℓ : Loc nD τ sig) → Buf (Elt Ideal) ℓ) (ρ : Dev nD → PrngReg) (c : Dev nD)

/-! ## The arguments -/

abbrev argH : Vec Ideal S2064x1024 .f32 := m ((c : Thread nD τ).loc main_arg0)
abbrev argG : Vec Ideal S1x1024 .f32 := m ((c : Thread nD τ).loc main_arg1)
abbrev argWg : Vec Ideal S1024x2816 .f32 := m ((c : Thread nD τ).loc main_arg2)
abbrev argWu : Vec Ideal S1024x2816 .f32 := m ((c : Thread nD τ).loc main_arg3)
abbrev argDa : Vec Ideal S2064x2816 .f32 := m ((c : Thread nD τ).loc main_arg4)
abbrev argDu : Vec Ideal S2064x2816 .f32 := m ((c : Thread nD τ).loc main_arg5)
abbrev argD : Vec Ideal S2064x1024 .f32 := m ((c : Thread nD τ).loc main_arg6)

/-! ## What the host hands to the kernel -/

/-- One of the two cotangents below zero rows. -/
abbrev padded (x : Vec Ideal S2064x2816 .f32) : FVec Ideal S2176x2816 .f32 :=
  pad S2176x2816 ![112, 0] ![0, 0] ![0, 0] x (sitofp (F := Ideal) .f32 (constantI S_ 32 0#32)) pads_S2064x2816_S2176x2816_11200_000 h_S_

theorem host_dau : V m c main_v5 = truncf .bf16 (concatenate S2x2176x2816 0
    [⟨S1x2176x2816, broadcastInDim S1x2176x2816 ![1, 2] bcast_S2176x2816_S1x2176x2816_1_2 (padded (argDa m c))⟩,
     ⟨S1x2176x2816, broadcastInDim S1x2176x2816 ![1, 2] bcast_S2176x2816_S1x2176x2816_1_2 (padded (argDu m c))⟩]
    concatenates_S1x2176x2816_S1x2176x2816_S2x2176x2816_d0) bitsLt_bf16_f32 := by
  show StableHlo.after _ (fun b => m (c, b)) (Proc.devRef .tc _) = _
  simp only [hostOps0, hostOps0_1, hostOps0_2, hostOps0_3, hostOps0_4, hostOps0_5, hostOps0_6, hostOps0_7, List.flatten_cons, List.flatten_nil, List.append_nil,
    List.cons_append, List.nil_append]
  after_results
  rfl

theorem host_wg : V m c main_v7 = (truncf .bf16 (transpose S2816x1024 [1, 0] (argWg m c : FVec Ideal S1024x2816 .f32) transposes_S1024x2816_S2816x1024_1_0) bitsLt_bf16_f32 : FVec Ideal S2816x1024 .bf16) := by
  show StableHlo.after _ (fun b => m (c, b)) (Proc.devRef .tc _) = _
  simp only [hostOps0, hostOps0_1, hostOps0_2, hostOps0_3, hostOps0_4, hostOps0_5, hostOps0_6, hostOps0_7, List.flatten_cons, List.flatten_nil, List.append_nil,
    List.cons_append, List.nil_append]
  after_results

theorem host_wu : V m c main_v9 = (truncf .bf16 (transpose S2816x1024 [1, 0] (argWu m c : FVec Ideal S1024x2816 .f32) transposes_S1024x2816_S2816x1024_1_0) bitsLt_bf16_f32 : FVec Ideal S2816x1024 .bf16) := by
  show StableHlo.after _ (fun b => m (c, b)) (Proc.devRef .tc _) = _
  simp only [hostOps0, hostOps0_1, hostOps0_2, hostOps0_3, hostOps0_4, hostOps0_5, hostOps0_6, hostOps0_7, List.flatten_cons, List.flatten_nil, List.append_nil,
    List.cons_append, List.nil_append]
  after_results

theorem host_h : V m c main_v10 = pad S2176x1024 ![112, 0] ![0, 0] ![0, 0] (argH m c) (sitofp (F := Ideal) .f32 (constantI S_ 32 0#32))
    pads_S2064x1024_S2176x1024_11200_000 h_S_ := by
  show StableHlo.after _ (fun b => m (c, b)) (Proc.devRef .tc _) = _
  simp only [hostOps0, hostOps0_1, hostOps0_2, hostOps0_3, hostOps0_4, hostOps0_5, hostOps0_6, hostOps0_7, List.flatten_cons, List.flatten_nil, List.append_nil,
    List.cons_append, List.nil_append]
  after_results
  rfl

theorem host_d : V m c main_v11 = pad S2176x1024 ![112, 0] ![0, 0] ![0, 0] (argD m c) (sitofp (F := Ideal) .f32 (constantI S_ 32 0#32))
    pads_S2064x1024_S2176x1024_11200_000 h_S_ := by
  show StableHlo.after _ (fun b => m (c, b)) (Proc.devRef .tc _) = _
  simp only [hostOps0, hostOps0_1, hostOps0_2, hostOps0_3, hostOps0_4, hostOps0_5, hostOps0_6, hostOps0_7, List.flatten_cons, List.flatten_nil, List.append_nil,
    List.cons_append, List.nil_append]
  after_results
  rfl

/-! ## What a grid point reads: a block of 544 rows -/

theorem grid_points : cfg0.N = 4 := rfl

/-- The row of the padded arrays that row `p` of grid point `t` is. -/
def row (t : Fin cfg0.N) (p : Fin 544) : Fin 2176 := ⟨544 * t.val + p.val, by have := t.isLt; have := grid_points; omega⟩

theorem index_0 : ∀ t : Fin cfg0.N, win0_0.index t = ![0, t.val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![0, 0] := (by decide +kernel : ∀ t : Fin grid0.N, _)
theorem index_3 : ∀ t : Fin cfg0.N, win0_3.index t = ![t.val, 0] := (by decide +kernel : ∀ t : Fin grid0.N, _)
theorem index_4 : ∀ t : Fin cfg0.N, win0_4.index t = ![t.val, 0] := (by decide +kernel : ∀ t : Fin grid0.N, _)
theorem index_5 : ∀ t : Fin cfg0.N, win0_5.index t = ![0, 0] := (by decide +kernel : ∀ t : Fin grid0.N, _)
theorem index_6 : ∀ t : Fin cfg0.N, win0_6.index t = ![t.val, 0] := (by decide +kernel : ∀ t : Fin grid0.N, _)

/-- The two planes of a grid point's cotangents. -/
def planeA (t : Fin cfg0.N) : Vec Ideal S1x544x2816 .bf16 :=
  View.ld (iblk m c 0 t) (Rect.unit (s := S2x544x2816) ![0, 0, 0] ![1, 544, 2816] inb_S2x544x2816_S1x544x2816_0_0_0)
def planeU (t : Fin cfg0.N) : Vec Ideal S1x544x2816 .bf16 :=
  View.ld (iblk m c 0 t) (Rect.unit (s := S2x544x2816) ![1, 0, 0] ![1, 544, 2816] inb_S2x544x2816_S1x544x2816_1_0_0)

theorem planeA_apply (t : Fin cfg0.N) (p : Fin 544) (x : Fin 2816) : planeA m c t (ix3 0 p x) = iblk m c 0 t (ix3 0 p x) := by
  refine congrArg (iblk m c 0 t) (funext fun a => Fin.ext ?_)
  match a with
  | ⟨0, _⟩ => rfl
  | ⟨1, _⟩ => show 0 + 1 * p.val = p.val; omega
  | ⟨2, _⟩ => show 0 + 1 * x.val = x.val; omega

theorem planeU_apply (t : Fin cfg0.N) (p : Fin 544) (x : Fin 2816) : planeU m c t (ix3 0 p x) = iblk m c 0 t (ix3 1 p x) := by
  refine congrArg (iblk m c 0 t) (funext fun a => Fin.ext ?_)
  match a with
  | ⟨0, _⟩ => rfl
  | ⟨1, _⟩ => show 0 + 1 * p.val = p.val; omega
  | ⟨2, _⟩ => show 0 + 1 * x.val = x.val; omega

theorem read_da (t : Fin cfg0.N) (p : Fin 544) (x : Fin 2816) :
    (planeA m c t (ix3 0 p x) : EReal) = below 112 (fun a b => argDa m c (ix2 a b)) (row t p).val x := by
  have h : planeA m c t (ix3 0 p x) = V m c main_v5 (ix3 0 (row t p) x) := by
    rw [planeA_apply]
    blk_simp [iblk]
    blk_ext [row, index_0]
  rw [h, host_dau]
  pointwise [int_zero]
  rfl

theorem read_du (t : Fin cfg0.N) (p : Fin 544) (x : Fin 2816) :
    (planeU m c t (ix3 0 p x) : EReal) = below 112 (fun a b => argDu m c (ix2 a b)) (row t p).val x := by
  have h : planeU m c t (ix3 0 p x) = V m c main_v5 (ix3 1 (row t p) x) := by
    rw [planeU_apply]
    blk_simp [iblk]
    blk_ext [row, index_0]
  rw [h, host_dau]
  pointwise [int_zero]
  rfl

theorem read_wg (t : Fin cfg0.N) (x : Fin 2816) (k : Fin 1024) : (iblk m c 1 t (ix2 x k) : EReal) = argWg m c (ix2 k x) := by
  have h : iblk m c 1 t (ix2 x k) = V m c main_v7 (ix2 x k) := by
    blk_simp [iblk]
    blk_ext [index_1]
  rw [h, host_wg]
  pointwise

theorem read_wu (t : Fin cfg0.N) (x : Fin 2816) (k : Fin 1024) : (iblk m c 2 t (ix2 x k) : EReal) = argWu m c (ix2 k x) := by
  have h : iblk m c 2 t (ix2 x k) = V m c main_v9 (ix2 x k) := by
    blk_simp [iblk]
    blk_ext [index_2]
  rw [h, host_wu]
  pointwise

theorem read_h (t : Fin cfg0.N) (p : Fin 544) (k : Fin 1024) :
    (iblk m c 3 t (ix2 p k) : EReal) = below 112 (fun a b => argH m c (ix2 a b)) (row t p).val k := by
  have h : iblk m c 3 t (ix2 p k) = V m c main_v10 (ix2 (row t p) k) := by
    blk_simp [iblk]
    blk_ext [row, index_3]
  rw [h, host_h]
  pointwise [int_zero]
  rfl

theorem read_d (t : Fin cfg0.N) (p : Fin 544) (k : Fin 1024) :
    (iblk m c 4 t (ix2 p k) : EReal) = below 112 (fun a b => argD m c (ix2 a b)) (row t p).val k := by
  have h : iblk m c 4 t (ix2 p k) = V m c main_v11 (ix2 (row t p) k) := by
    blk_simp [iblk]
    blk_ext [row, index_4]
  rw [h, host_d]
  pointwise [int_zero]
  rfl

theorem read_g (t : Fin cfg0.N) (k : Fin 1024) : (iblk m c 5 t (ix2 0 k) : EReal) = argG m c (ix2 0 k) := by
  have h : iblk m c 5 t (ix2 0 k) = V m c main_arg1 (ix2 0 k) := by
    blk_simp [iblk]
    blk_ext [index_5]
  rw [h, V_main_arg1]

/-! ## What the grid points leave in the output buffers -/

theorem after6 (t : Fin cfg0.N) :
    (outsAt0 m c t.val t.isLt).1 = k0_pay1 (k0_pay2 (planeA m c t) (iblk m c 1 t) (planeU m c t) (iblk m c 2 t)) (k0_pay4 (iblk m c 3 t)) (k0_pay5 (iblk m c 3 t)) (iblk m c 4 t) (iblk m c 5 t) := by
  by_cases h0 : t.val % 4 = 0
  · have h1 : ¬1 ≤ t.val := by have := t.isLt; have := grid_points; omega
    rw [outsAt0_A m c t h0 h1]
    frame_out
    unfold planeA planeU
    rfl
  · have h1 : 1 ≤ t.val := by omega
    rw [outsAt0_B m c t h0 h1]
    frame_out
    unfold planeA planeU
    rfl

end Cert.FfnIn
end
end
-- ==== Proof.FfnRows.lean ====
module

public import proofs.«01_k».proof.Proof.FfnBlock

@[expose] public section

set_option maxRecDepth 16384

noncomputable section

namespace Cert.FfnIn

open Cert.Kernel5Ideal Cert.Kernel5Ideal.Gen Cert.Norm
open Cert.Reference5Ideal.Read
open Idealize.ShloMosaic Idealize.ShloMosaic.TcCoe Idealize.ShloMosaic.Tactic
open Idealize.SL.Sem

variable (m : (ℓ : Loc nD τ sig) → Buf (Elt Ideal) ℓ) (ρ : Dev nD → PrngReg) (c : Dev nD)

/-! ## The reference's rows, with zero rows above them -/

/-- The residual stream. -/
def hh (r : ℕ) (k : Fin 1024) : EReal := below 112 (fun a b => argH m c (ix2 a b)) r k

/-- The gradient of the normalized stream, from both products that read it. -/
def dxn (r : ℕ) (k : Fin 1024) : EReal :=
  below 112 (fun a b => val_main_v19 (F := Ideal) (argWg m c) (argWu m c) (argDa m c) (argDu m c) (ix2 a b)) r k

/-- The reciprocal root mean square of a row. -/
def rstd (r : ℕ) : EReal := Ideal.rsqrt (meanSq ((1024 : ℝ) : EReal) (rmsEps : EReal) (hh m c r))

/-! ## What the kernel computes of a row -/

theorem row_dxn (t : Fin cfg0.N) (p : Fin 544) (k : Fin 1024) :
    k0_pay2 (F := Ideal) (planeA m c t) (iblk m c 1 t) (planeU m c t) (iblk m c 2 t) (ix2 p k) = dxn m c (row t p).val k := by
  unfold dxn
  have hr := (row t p).isLt
  pointwise [k0_pay2]
  simp only [read_da, read_du, read_wg, read_wu]
  by_cases h : 112 ≤ (row t p).val
  · have hn : (row t p).val - 112 < 2064 := by omega
    rw [below_in _ _ h hn]
    pointwise [val_main_v19, val_main_v18, val_main_v17]
    rw [add_comm (G := EReal)]
    refine congrArg₂ (· + ·) (Finset.sum_congr rfl fun x _ => ?_) (Finset.sum_congr rfl fun x _ => ?_) <;> rw [below_in _ _ h hn]
  · rw [below_out _ _ (by omega)]
    refine (congrArg₂ (· + ·) (Finset.sum_eq_zero fun x _ => ?_) (Finset.sum_eq_zero fun x _ => ?_)).trans (add_zero (0 : EReal)) <;>
      rw [below_out _ _ (by omega), zero_mul]

theorem row_rstd (t : Fin cfg0.N) (p : Fin 544) : k0_pay4 (F := Ideal) (iblk m c 3 t) (ix2 p 0) = rstd m c (row t p).val := by
  unfold rstd meanSq hh
  pointwise [k0_pay4, k0_pay3]
  simp only [read_h, bits_1024, bits_rmsEps]

theorem row_normed (t : Fin cfg0.N) (p : Fin 544) (k : Fin 1024) :
    k0_pay5 (F := Ideal) (iblk m c 3 t) (ix2 p k) = hh m c (row t p).val k * rstd m c (row t p).val := by
  pointwise [k0_pay5, k0_pay3]
  rw [row_rstd, read_h]
  rfl

theorem ref_meanSq (a : Fin 2064) (r : ℕ) (h : r = a.val + 112) :
    val_main_v6 (F := Ideal) (argH m c) (ix2 a 0) = meanSq ((1024 : ℝ) : EReal) (rmsEps : EReal) (hh m c r) := by
  subst h
  unfold meanSq hh
  pointwise [val_main_v6, val_main_v5, val_main_v4, val_main_v3, val_main_v2, val_main_v1, val_main_v0, val_main_cst, val_main_cst_0, val_main_cst_1]
  simp only [below_in _ _ (Nat.le_add_left 112 a.val) (show a.val + 112 - 112 < 2064 by omega), bits_1024, bits_rmsEps, Ideal.ofBits_zero_f32, zero_add,
    Nat.add_sub_cancel]

theorem ref_rstd (a : Fin 2064) (r : ℕ) (h : r = a.val + 112) : val_main_v7 (F := Ideal) (argH m c) (ix2 a 0) = rstd m c r := by
  unfold rstd
  pointwise [val_main_v7]
  rw [ref_meanSq m c a r h]

theorem div_zero_1024 : Ideal.div 0 ((1024 : ℝ) : EReal) = 0 := by rw [div_real (by norm_num), zero_mul]

/-- The gradient of the residual stream. -/
theorem row_dh1 (t : Fin cfg0.N) (p : Fin 544) (k : Fin 1024) :
    k0_pay1 (F := Ideal) (k0_pay2 (planeA m c t) (iblk m c 1 t) (planeU m c t) (iblk m c 2 t)) (k0_pay4 (iblk m c 3 t)) (k0_pay5 (iblk m c 3 t))
        (iblk m c 4 t) (iblk m c 5 t) (ix2 p k)
      = below 112 (fun a b => val_main_v39 (F := Ideal) (argH m c) (argG m c) (argWg m c) (argWu m c) (argDa m c) (argDu m c) (argD m c) (ix2 a b)) (row t p).val k := by
  have hr := (row t p).isLt
  pointwise [k0_pay1]
  simp only [row_dxn, row_rstd, row_normed, read_d, read_g, bits_1024]
  refine (congrArg (_ + ·) (rms_grad (N := 1024) (by norm_num) rmsEps_pos (hh m c (row t p).val) (fun j => dxn m c (row t p).val j * argG m c (ix2 0 j)) k)).trans ?_
  by_cases h : 112 ≤ (row t p).val
  · have hn : (row t p).val - 112 < 2064 := by omega
    rw [below_in _ _ h hn, below_in _ _ h hn]
    pointwise [val_main_v39, val_main_v38, val_main_v37, val_main_v36, val_main_v35, val_main_v34, val_main_v33, val_main_v32, val_main_v31,
      val_main_v30, val_main_v29, val_main_v28, val_main_v27, val_main_v26, val_main_v25, val_main_v24, val_main_v23, val_main_v10, val_main_v9, val_main_v8,
      val_main_cst_2, val_main_cst_4, val_main_cst_5, val_main_cst_6]
    simp only [Fin.sum_univ_one, Ideal.ofBits_zero_f32, zero_add, bits_1024, bits_neg_half]
    rw [ref_rstd m c _ (row t p).val (by show (row t p).val = (row t p).val - 112 + 112; omega),
      ref_meanSq m c _ (row t p).val (by show (row t p).val = (row t p).val - 112 + 112; omega)]
    have ed (j : Fin 1024) : dxn m c (row t p).val j = val_main_v19 (F := Ideal) (argWg m c) (argWu m c) (argDa m c) (argDu m c) (ix2 ⟨(row t p).val - 112, hn⟩ j) :=
      below_in _ _ h hn
    have ef (j : Fin 1024) : hh m c (row t p).val j = argH m c (ix2 ⟨(row t p).val - 112, hn⟩ j) := below_in _ _ h hn
    simp only [← ed, ← ef]
    rw [add_assoc (G := EReal), add_assoc (G := EReal), add_assoc (G := EReal)]
    rfl
  · rw [below_out _ _ (by omega), below_out _ _ (by omega)]
    have e : ∀ j, dxn m c (row t p).val j = 0 := fun j => below_out _ _ (by omega)
    simp only [e, zero_mul, mul_zero, Finset.sum_const_zero, add_zero, div_zero_1024]

end Cert.FfnIn
end
end
-- ==== Proof.FfnValue.lean ====
module

public import proofs.«01_k».proof.Proof.FfnRows

@[expose] public section

set_option maxRecDepth 16384

noncomputable section

namespace Cert.FfnIn

open Cert.Kernel5Ideal Cert.Kernel5Ideal.Gen Cert.Norm
open Cert.Reference5Ideal.Read
open Idealize.ShloMosaic Idealize.ShloMosaic.TcCoe Idealize.ShloMosaic.Tactic
open Idealize.SL.Sem

variable (m : (ℓ : Loc nD τ sig) → Buf (Elt Ideal) ℓ) (ρ : Dev nD → PrngReg) (c : Dev nD)

/-! ## The gradient of the gain, added up over the grid points -/

/-- The point's own share. -/
theorem share7 (t : Fin cfg0.N) (k : Fin 1024) :
    k0_pay6 (F := Ideal) (planeA m c t) (iblk m c 1 t) (planeU m c t) (iblk m c 2 t) (iblk m c 3 t) (ix2 0 k)
      = ∑ p ∈ Finset.range 544, dxn m c (544 * t.val + p) k * (hh m c (544 * t.val + p) k * rstd m c (544 * t.val + p)) := by
  pointwise [k0_pay6]
  simp only [row_dxn, row_normed]
  exact Fin.sum_univ_eq_sum_range (fun p => dxn m c (544 * t.val + p) k * (hh m c (544 * t.val + p) k * rstd m c (544 * t.val + p))) 544

theorem first7 (t : Fin cfg0.N) (h0 : t.val % 4 = 0) :
    (outsAt0 m c t.val t.isLt).2 = k0_pay6 (planeA m c t) (iblk m c 1 t) (planeU m c t) (iblk m c 2 t) (iblk m c 3 t) := by
  have h1 : ¬1 ≤ t.val := by have := t.isLt; have := grid_points; omega
  rw [outsAt0_A m c t h0 h1]
  frame_out
  unfold planeA planeU
  rfl

theorem next7 (t : Fin cfg0.N) (h0 : ¬t.val % 4 = 0) :
    (outsAt0 m c t.val t.isLt).2 = k0_pay7 (planeA m c t) (iblk m c 1 t) (planeU m c t) (iblk m c 2 t) (iblk m c 3 t)
      (outsAt0 m c (t.val - 1) (Nat.lt_of_le_of_lt (Nat.sub_le t.val 1) t.isLt)).2 := by
  have h1 : 1 ≤ t.val := by omega
  rw [outsAt0_B m c t h0 h1]
  frame_out
  unfold planeA planeU
  rfl

theorem after7 (k : Fin 1024) : ∀ (n : ℕ) (h : n < cfg0.N), ((outsAt0 m c n h).2 (ix2 0 k) : EReal) = ∑ r ∈ Finset.range (544 * (n + 1)), dxn m c r k * (hh m c r k * rstd m c r)
  | 0, h => (congrFun (first7 m c ⟨0, h⟩ rfl) (ix2 0 k)).trans ((share7 m c ⟨0, h⟩ k).trans (by simp only [Nat.mul_zero, Nat.zero_add, Nat.mul_one]))
  | n + 1, h => by
    have hN := grid_points
    refine (congrFun (next7 m c ⟨n + 1, h⟩ (by show ¬(n + 1) % 4 = 0; omega)) (ix2 0 k)).trans ?_
    pointwise [k0_pay7]
    rw [share7, Nat.mul_succ 544 (n + 1), Finset.sum_range_add]
    exact congrArg (· + _) (after7 k n (Nat.lt_of_succ_lt h))

/-! ## The arrays after the run -/

theorem array6 : (dats m 0 c).arrAt 6 cfg0.N = val_main_v40 (F := Ideal) (argH m c) (argG m c) (argWg m c) (argWu m c) (argDa m c) (argDu m c) (argD m c) := by
  refine (dats m 0 c).arrAt_eq_of_covers 6 _ (by decide +kernel) fun t hf y => ?_
  obtain ⟨p, k, rfl⟩ : ∃ (p : Fin 544) (k : Fin 1024), y = ix2 p k := ⟨y 0, y 1, eq_ix2 y⟩
  blk_simp
  rw [after0_6, after6]
  have e : (win0_6.blk t).view.emb (ix2 p k) = ix2 (row t p) k := by
    blk_ext [row, index_6]
  rw [e, row_dh1]
  pointwise [val_main_v40, val_main_call0_v0, val_main_c, int_zero]
  rfl

theorem array7 : (dats m 0 c).arrAt 7 cfg0.N = val_main_v22 (F := Ideal) (argH m c) (argWg m c) (argWu m c) (argDa m c) (argDu m c) := by
  refine (dats m 0 c).arrAt_eq_of_after_last 7 t0_3 (by decide +kernel) _ fun j => ?_
  obtain ⟨k, rfl⟩ : ∃ k : Fin 1024, j = ix2 0 k := ⟨j 1, by blk_ext⟩
  blk_simp
  rw [after0_7]
  refine (after7 m c k 3 (by decide)).trans ?_
  rw [sum_below (n := 2064) 112 (544 * (3 + 1)) (by norm_num) _ fun r hr => by
    rw [show dxn m c r k = 0 from below_out _ _ hr, zero_mul]]
  pointwise [val_main_v22, val_main_v21, val_main_v20, val_main_v12, val_main_v11, val_main_cst_3]
  refine Finset.sum_congr rfl fun x _ => ?_
  rw [ref_rstd m c x _ rfl]
  unfold dxn hh
  rw [below_in _ _ (by omega : 112 ≤ x.val + 112) (by omega : x.val + 112 - 112 < 2064), below_in _ _ (by omega : 112 ≤ x.val + 112) (by omega : x.val + 112 - 112 < 2064)]
  simp only [Nat.add_sub_cancel]
  exact mul_comm (G := EReal) _ _

end Cert.FfnIn
end
end
-- ==== Proof.InBody.lean ====
module

public import proofs.«01_k».proof.Proof.Gen.Kernel6Ideal.Skeleton
public import proofs.«01_k».proof.Proof.Gen.Kernel6Ideal.Frame
public import Idealize.ShloMosaic.Lib.Pipeline.TableIdle
public import Idealize.ShloMosaic.Lib.Tactic

@[expose] public section

set_option maxRecDepth 16384

noncomputable section

namespace Cert.InProj

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The body: at the first grid point it stores all three results, at the later ones it adds to the gain's gradient
    and leaves the meta rows' gradient alone -/

section
variable (c : Dev nD) (i : grid0.Coords)
  (arg1 : Memref sig .tc .vmem S5x544x512 .bf16) (harg1 : arg1.IsWhole) (arg2 : Memref sig .tc .vmem S2560x1024 .bf16) (harg2 : arg2.IsWhole)
  (arg3 : Memref sig .tc .vmem S544x1024 .f32) (harg3 : arg3.IsWhole) (arg4 : Memref sig .tc .vmem S544x1024 .f32) (harg4 : arg4.IsWhole)
  (arg5 : Memref sig .tc .vmem S1x1024 .f32) (harg5 : arg5.IsWhole) (arg6 : Memref sig .tc .vmem S544x1024 .f32) (harg6 : arg6.IsWhole)
  (arg7 : Memref sig .tc .vmem S1x1024 .f32) (harg7 : arg7.IsWhole) (arg8 : Memref sig .tc .vmem S16x1024 .f32) (harg8 : arg8.IsWhole)
  (x0 : Vec F S5x544x512 .bf16) (x1 : Vec F S2560x1024 .bf16) (x2 x3 : Vec F S544x1024 .f32) (x4 : Vec F S1x1024 .f32) (gain : Vec F S1x1024 .f32)

/-- The five inputs' buffers at their contents. -/
def inputs : sProp 𝕄 :=
  iprop(owns (c : Thread nD τ) arg1 fullShare x0 ∗ owns (c : Thread nD τ) arg2 fullShare x1 ∗ owns (c : Thread nD τ) arg3 fullShare x2
    ∗ owns (c : Thread nD τ) arg4 fullShare x3 ∗ owns (c : Thread nD τ) arg5 fullShare x4)

set_option maxHeartbeats 1000000 in
/-- What the first point stores into the three results' buffers, with the proof that the body does so from any contents of them. -/
def firstRun (h1 : k0_cond1 i = 1#1) (h2 : ¬k0_cond2 i = 1#1) (h3 : k0_cond3 i = 1#1) :
    Σ' (L5 : List (View.Piece (Elt F) S544x1024 .f32)) (L6 : List (View.Piece (Elt F) S1x1024 .f32)), { L7 : List (View.Piece (Elt F) S16x1024 .f32) //
      ∀ (E : Set ℕ) (K : PUnit → sProp 𝕄),
        iprop(inputs c arg1 arg2 arg3 arg4 arg5 x0 x1 x2 x3 x4 ∗ (∃ d, owns (c : Thread nD τ) arg6 fullShare d)
            ∗ (∃ d, owns (c : Thread nD τ) arg7 fullShare d) ∗ (∃ d, owns (c : Thread nD τ) arg8 fullShare d)
            ∗ (iprop(inputs c arg1 arg2 arg3 arg4 arg5 x0 x1 x2 x3 x4
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f L7)) -∗ K ⟨⟩))
          ⊢ wp frame (wpE (defs₀ (F := F)) Variants.none c none) E (cc0_bwd_in_proj i arg1 harg1 arg2 harg2 arg3 harg3 arg4 harg4 arg5 harg5 arg6 harg6 arg7 harg7 arg8 harg8) K } := by
  refine ⟨?_, ?_, ?_, fun E K => ?run⟩
  case run =>
    simp only [cc0_bwd_in_proj_eq_skeleton]; unfold cc0_bwd_in_proj_skel
    simp only [k0_part1_eq_skeleton, k0_part2_eq_skeleton]
    unfold inputs owns
    iintro ⟨⟨⟨%f0, %hf0, H0⟩, ⟨%f1, %hf1, H1⟩, ⟨%f2, %hf2, H2⟩, ⟨%f3, %hf3, H3⟩, ⟨%f4, %hf4, H4⟩⟩, ⟨%d5, %f5, -, H5⟩, ⟨%d6, %f6, -, H6⟩, ⟨%d7, %f7, -, H7⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | sl_exact h1 | sl_exact h2 | sl_exact h3)
    sl_step
    iapply Hk
    isplitl [H0 H1 H2 H3 H4]
    · isplitl [H0]
      · iexists _; isplitr
        · ipureintro; exact harg1.read_unread _
        iexact H0
      isplitl [H1]
      · iexists _; isplitr
        · ipureintro; exact harg2.read_unread _
        iexact H1
      isplitl [H2]
      · iexists _; isplitr
        · ipureintro; exact harg3.read_unread _
        iexact H2
      isplitl [H3]
      · iexists _; isplitr
        · ipureintro; exact harg4.read_unread _
        iexact H3
      iexists _; isplitr
      · ipureintro; exact harg5.read_unread _
      iexact H4
    isplitl [H5]; · iexists _; iexact H5
    isplitl [H6]; · iexists _; iexact H6
    iexists _; iexact H7

set_option maxHeartbeats 1000000 in
/-- What a later point stores into the first two results' buffers, the gain's gradient so far being `gain`; it does not touch the third's. -/
def laterRun (h1 : ¬k0_cond1 i = 1#1) (h2 : k0_cond2 i = 1#1) (h3 : ¬k0_cond3 i = 1#1) :
    Σ' (L5 : List (View.Piece (Elt F) S544x1024 .f32)), { L6 : List (View.Piece (Elt F) S1x1024 .f32) //
      ∀ (E : Set ℕ) (K : PUnit → sProp 𝕄),
        iprop(inputs c arg1 arg2 arg3 arg4 arg5 x0 x1 x2 x3 x4 ∗ (∃ d, owns (c : Thread nD τ) arg6 fullShare d) ∗ owns (c : Thread nD τ) arg7 fullShare gain
            ∗ (iprop(inputs c arg1 arg2 arg3 arg4 arg5 x0 x1 x2 x3 x4
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)) -∗ K ⟨⟩))
          ⊢ wp frame (wpE (defs₀ (F := F)) Variants.none c none) E (cc0_bwd_in_proj i arg1 harg1 arg2 harg2 arg3 harg3 arg4 harg4 arg5 harg5 arg6 harg6 arg7 harg7 arg8 harg8) K } := by
  refine ⟨?_, ?_, fun E K => ?run⟩
  case run =>
    simp only [cc0_bwd_in_proj_eq_skeleton]; unfold cc0_bwd_in_proj_skel
    simp only [k0_part1_eq_skeleton, k0_part2_eq_skeleton]
    unfold inputs owns
    iintro ⟨⟨⟨%f0, %hf0, H0⟩, ⟨%f1, %hf1, H1⟩, ⟨%f2, %hf2, H2⟩, ⟨%f3, %hf3, H3⟩, ⟨%f4, %hf4, H4⟩⟩, ⟨%d5, %f5, -, H5⟩, ⟨%f6, %hf6, H6⟩, Hk⟩
    obtain rfl := harg1.eq_unread hf0; obtain rfl := harg2.eq_unread hf1; obtain rfl := harg3.eq_unread hf2
    obtain rfl := harg4.eq_unread hf3; obtain rfl := harg5.eq_unread hf4; obtain rfl := harg7.eq_unread hf6
    sl_exec (disch := first | sl_exact h1 | sl_exact h2 | sl_exact h3)
    sl_step
    iapply Hk
    isplitl [H0 H1 H2 H3 H4]
    · isplitl [H0]
      · iexists _; isplitr
        · ipureintro; exact harg1.read_unread _
        iexact H0
      isplitl [H1]
      · iexists _; isplitr
        · ipureintro; exact harg2.read_unread _
        iexact H1
      isplitl [H2]
      · iexists _; isplitr
        · ipureintro; exact harg3.read_unread _
        iexact H2
      isplitl [H3]
      · iexists _; isplitr
        · ipureintro; exact harg4.read_unread _
        iexact H3
      iexists _; isplitr
      · ipureintro; exact harg5.read_unread _
      iexact H4
    isplitl [H5]; · iexists _; iexact H5
    iexists _; iexact H6

/-! ## The stored pieces cover the buffers, so what the buffers end with does not depend on what they held -/

section
variable (h1 : k0_cond1 i = 1#1) (h2 : ¬k0_cond2 i = 1#1) (h3 : k0_cond3 i = 1#1)

theorem first_covers5 (y : S544x1024.Idx) :
    ∃ pc ∈ (firstRun c i arg1 harg1 arg2 harg2 arg3 harg3 arg4 harg4 arg5 harg5 arg6 harg6 arg7 harg7 arg8 harg8 x0 x1 x2 x3 x4 h1 h2 h3).1, y ∈ pc.1.set :=
  View.cover_of_tiledL (firstRun c i arg1 harg1 arg2 harg2 arg3 harg3 arg4 harg4 arg5 harg5 arg6 harg6 arg7 harg7 arg8 harg8 x0 x1 x2 x3 x4 h1 h2 h3).1 S544x1024.size (by sl_kernel_rfl) y

theorem first_covers6 (y : S1x1024.Idx) :
    ∃ pc ∈ (firstRun c i arg1 harg1 arg2 harg2 arg3 harg3 arg4 harg4 arg5 harg5 arg6 harg6 arg7 harg7 arg8 harg8 x0 x1 x2 x3 x4 h1 h2 h3).2.1, y ∈ pc.1.set :=
  View.cover_of_tiledL (firstRun c i arg1 harg1 arg2 harg2 arg3 harg3 arg4 harg4 arg5 harg5 arg6 harg6 arg7 harg7 arg8 harg8 x0 x1 x2 x3 x4 h1 h2 h3).2.1 S1x1024.size (by sl_kernel_rfl) y

theorem first_covers7 (y : S16x1024.Idx) :
    ∃ pc ∈ (firstRun c i arg1 harg1 arg2 harg2 arg3 harg3 arg4 harg4 arg5 harg5 arg6 harg6 arg7 harg7 arg8 harg8 x0 x1 x2 x3 x4 h1 h2 h3).2.2.1, y ∈ pc.1.set :=
  View.cover_of_tiledL (firstRun c i arg1 harg1 arg2 harg2 arg3 harg3 arg4 harg4 arg5 harg5 arg6 harg6 arg7 harg7 arg8 harg8 x0 x1 x2 x3 x4 h1 h2 h3).2.2.1 S16x1024.size (by sl_kernel_rfl) y

end

section
variable (h1 : ¬k0_cond1 i = 1#1) (h2 : k0_cond2 i = 1#1) (h3 : ¬k0_cond3 i = 1#1)

theorem later_covers5 (y : S544x1024.Idx) :
    ∃ pc ∈ (laterRun c i arg1 harg1 arg2 harg2 arg3 harg3 arg4 harg4 arg5 harg5 arg6 harg6 arg7 harg7 arg8 harg8 x0 x1 x2 x3 x4 gain h1 h2 h3).1, y ∈ pc.1.set :=
  View.cover_of_tiledL (laterRun c i arg1 harg1 arg2 harg2 arg3 harg3 arg4 harg4 arg5 harg5 arg6 harg6 arg7 harg7 arg8 harg8 x0 x1 x2 x3 x4 gain h1 h2 h3).1 S544x1024.size (by sl_kernel_rfl) y

theorem later_covers6 (y : S1x1024.Idx) :
    ∃ pc ∈ (laterRun c i arg1 harg1 arg2 harg2 arg3 harg3 arg4 harg4 arg5 harg5 arg6 harg6 arg7 harg7 arg8 harg8 x0 x1 x2 x3 x4 gain h1 h2 h3).2.1, y ∈ pc.1.set :=
  View.cover_of_tiledL (laterRun c i arg1 harg1 arg2 harg2 arg3 harg3 arg4 harg4 arg5 harg5 arg6 harg6 arg7 harg7 arg8 harg8 x0 x1 x2 x3 x4 gain h1 h2 h3).2.1 S1x1024.size (by sl_kernel_rfl) y

end

end

end Cert.InProj

end
end
-- ==== Proof.InRun.lean ====
module

public import proofs.«01_k».proof.Proof.InBody
public import Idealize.ShloMosaic.Lib.Claim

@[expose] public section

set_option maxRecDepth 16384

noncomputable section

namespace Cert.InProj

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-! ## The branches of a grid point, and the points that leave a result alone -/

theorem grid_points : cfg0.N = 4 := rfl

theorem branch1 : ∀ t : Fin cfg0.N, k0_cond1 (grid0.coords t) = 1#1 ↔ t.val = 0 := (by decide +kernel : ∀ t : Fin grid0.N, _)
theorem branch2 : ∀ t : Fin cfg0.N, k0_cond2 (grid0.coords t) = 1#1 ↔ t.val ≠ 0 := (by decide +kernel : ∀ t : Fin grid0.N, _)
theorem branch3 : ∀ t : Fin cfg0.N, k0_cond3 (grid0.coords t) = 1#1 ↔ t.val = 0 := (by decide +kernel : ∀ t : Fin grid0.N, _)

theorem gain_live : ∀ t : Fin cfg0.N, cfg0.idle 6 (cfg0.grid.coords t) = false := by decide +kernel
theorem meta_live : ∀ t : Fin cfg0.N, t.val = 0 → cfg0.idle 7 (cfg0.grid.coords t) = false := by decide +kernel
theorem meta_idle : ∀ t : Fin cfg0.N, t.val ≠ 0 → cfg0.idle 7 (cfg0.grid.coords t) = true := by decide +kernel
theorem gain_held : ∀ t : Fin cfg0.N, t.val ≠ 0 → cfg0.fresh 6 t.val = false := by decide +kernel
theorem meta_held : ∀ t : Fin cfg0.N, t.val ≠ 0 → cfg0.fresh 7 t.val = false := by decide +kernel

/-! ## What a grid point leaves in the three results' buffers -/

/-- A buffer of each result's shape, through which the contents are read. -/
abbrev buf5 : View sig .tc .vmem S544x1024 .f32 := (Memref.whole cc0_stg5_0 : Memref sig .tc .vmem S544x1024 .f32).view
abbrev buf6 : View sig .tc .vmem S1x1024 .f32 := (Memref.whole cc0_stg6_0 : Memref sig .tc .vmem S1x1024 .f32).view
abbrev buf7 : View sig .tc .vmem S16x1024 .f32 := (Memref.whole cc0_stg7_0 : Memref sig .tc .vmem S16x1024 .f32).view

/-- The body's run at the first point, on the buffers the pipeline passes. -/
def runA (t : Fin cfg0.N) (h : t.val = 0) :=
  firstRun c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (st0_4 t) (hstage0_4 ((cfg0.slots t 4).cast nbuf0_4)) (st0_5 t) (hstage0_5 ((cfg0.slots t 5).cast nbuf0_5))
    (st0_6 t) (hstage0_6 ((cfg0.slots t 6).cast nbuf0_6)) (st0_7 t) (hstage0_7 ((cfg0.slots t 7).cast nbuf0_7))
    (iblk m c 0 t) (iblk m c 1 t) (iblk m c 2 t) (iblk m c 3 t) (iblk m c 4 t)
    ((branch1 t).2 h) (fun h' => (branch2 t).1 h' h) ((branch3 t).2 h)

/-- Its run at a later point. -/
def runB (t : Fin cfg0.N) (h : t.val ≠ 0) (gain : Vec F S1x1024 .f32) :=
  laterRun c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (st0_4 t) (hstage0_4 ((cfg0.slots t 4).cast nbuf0_4)) (st0_5 t) (hstage0_5 ((cfg0.slots t 5).cast nbuf0_5))
    (st0_6 t) (hstage0_6 ((cfg0.slots t 6).cast nbuf0_6)) (st0_7 t) (hstage0_7 ((cfg0.slots t 7).cast nbuf0_7))
    (iblk m c 0 t) (iblk m c 1 t) (iblk m c 2 t) (iblk m c 3 t) (iblk m c 4 t) gain
    (fun h' => h ((branch1 t).1 h')) ((branch2 t).2 h) (fun h' => h ((branch3 t).1 h'))

def firstRows (t : Fin cfg0.N) (h : t.val = 0) : Vec F S544x1024 .f32 := buf5.read (Elt F) (buf5.writes (Elt F) buf5.junk (runA m c t h).1)
def firstGain (t : Fin cfg0.N) (h : t.val = 0) : Vec F S1x1024 .f32 := buf6.read (Elt F) (buf6.writes (Elt F) buf6.junk (runA m c t h).2.1)
def firstMeta (t : Fin cfg0.N) (h : t.val = 0) : Vec F S16x1024 .f32 := buf7.read (Elt F) (buf7.writes (Elt F) buf7.junk (runA m c t h).2.2.1)
def laterRows (t : Fin cfg0.N) (h : t.val ≠ 0) (gain : Vec F S1x1024 .f32) : Vec F S544x1024 .f32 :=
  buf5.read (Elt F) (buf5.writes (Elt F) buf5.junk (runB m c t h gain).1)
def laterGain (t : Fin cfg0.N) (h : t.val ≠ 0) (gain : Vec F S1x1024 .f32) : Vec F S1x1024 .f32 :=
  buf6.read (Elt F) (buf6.writes (Elt F) buf6.junk (runB m c t h gain).2.1)

/-- The gain's gradient after a point. -/
def gainAt : (n : ℕ) → n < cfg0.N → Vec F S1x1024 .f32
  | 0, hn => firstGain m c ⟨0, hn⟩ rfl
  | n + 1, hn => laterGain m c ⟨n + 1, hn⟩ (Nat.succ_ne_zero n) (gainAt n (Nat.lt_of_succ_lt hn))

/-- The gain's gradient before a later point. -/
abbrev gainBefore (t : Fin cfg0.N) : Vec F S1x1024 .f32 := gainAt m c (t.val - 1) (Nat.lt_of_le_of_lt (Nat.sub_le t.val 1) t.isLt)

/-- The rows a point stores. -/
def rowsAt (t : Fin cfg0.N) : Vec F S544x1024 .f32 := if h : t.val = 0 then firstRows m c t h else laterRows m c t h (gainBefore m c t)

/-- The meta rows' gradient, which the first point stores. -/
def metaRows : Vec F S16x1024 .f32 := firstMeta m c ⟨0, by rw [grid_points]; omega⟩ rfl

theorem rowsAt_first (t : Fin cfg0.N) (h : t.val = 0) : rowsAt m c t = firstRows m c t h := dif_pos h
theorem rowsAt_later (t : Fin cfg0.N) (h : t.val ≠ 0) : rowsAt m c t = laterRows m c t h (gainBefore m c t) := dif_neg h

theorem gainAt_first (t : Fin cfg0.N) (h : t.val = 0) : gainAt m c t.val t.isLt = firstGain m c t h := by
  obtain ⟨n, hn⟩ := t
  cases n with
  | zero => rfl
  | succ n => exact absurd h (Nat.succ_ne_zero n)

theorem gainAt_later (t : Fin cfg0.N) (h : t.val ≠ 0) : gainAt m c t.val t.isLt = laterGain m c t h (gainBefore m c t) := by
  obtain ⟨n, hn⟩ := t
  cases n with
  | zero => exact absurd rfl h
  | succ n => rfl

theorem metaRows_first (t : Fin cfg0.N) (h : t.val = 0) : metaRows m c = firstMeta m c t h := by
  obtain ⟨n, hn⟩ := t
  cases n with
  | zero => rfl
  | succ n => exact absurd h (Nat.succ_ne_zero n)

/-! ## The pipeline's data -/

/-- The arrays as the region finds them; after the body each input's buffer at its block and each result's at the above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => rowsAt m c t
    | ⟨6, _⟩ => gainAt m c t.val t.isLt
    | ⟨7, _⟩ => metaRows m c
  Φ _ := Pipeline.ΦA spec0 c
  q _ := fullShare
  owed _ := 0

theorem A_eq (w : Fin cfg0.W) : (dats m 0 c).A w = V m c (Pipeline.arrRef spec0 w) := by dsimp only [dats]

theorem after0_0 (t : Fin cfg0.N) : (dats m 0 c).after 0 t = iblk m c 0 t := by dsimp only [dats]
theorem after0_1 (t : Fin cfg0.N) : (dats m 0 c).after 1 t = iblk m c 1 t := by dsimp only [dats]
theorem after0_2 (t : Fin cfg0.N) : (dats m 0 c).after 2 t = iblk m c 2 t := by dsimp only [dats]
theorem after0_3 (t : Fin cfg0.N) : (dats m 0 c).after 3 t = iblk m c 3 t := by dsimp only [dats]
theorem after0_4 (t : Fin cfg0.N) : (dats m 0 c).after 4 t = iblk m c 4 t := by dsimp only [dats]
theorem after0_5 (t : Fin cfg0.N) : (dats m 0 c).after 5 t = rowsAt m c t := by dsimp only [dats]
theorem after0_6 (t : Fin cfg0.N) : (dats m 0 c).after 6 t = gainAt m c t.val t.isLt := by dsimp only [dats]
theorem after0_7 (t : Fin cfg0.N) : (dats m 0 c).after 7 t = metaRows m c := by dsimp only [dats]

theorem before0_0 (t : Fin cfg0.N) (d) : (dats m 0 c).before 0 t d = iblk m c 0 t :=
  before0_0_of m (dats m 0 c) (A_eq m c 0) (after0_0 m c) t d
theorem before0_1 (t : Fin cfg0.N) (d) : (dats m 0 c).before 1 t d = iblk m c 1 t :=
  before0_1_of m (dats m 0 c) (A_eq m c 1) (after0_1 m c) t d
theorem before0_2 (t : Fin cfg0.N) (d) : (dats m 0 c).before 2 t d = iblk m c 2 t :=
  before0_2_of m (dats m 0 c) (A_eq m c 2) (after0_2 m c) t d
theorem before0_3 (t : Fin cfg0.N) (d) : (dats m 0 c).before 3 t d = iblk m c 3 t :=
  before0_3_of m (dats m 0 c) (A_eq m c 3) (after0_3 m c) t d
theorem before0_4 (t : Fin cfg0.N) (d) : (dats m 0 c).before 4 t d = iblk m c 4 t :=
  before0_4_of m (dats m 0 c) (A_eq m c 4) (after0_4 m c) t d

/-- The gain's gradient so far is what a later point finds, -/
theorem before0_6 (t : Fin cfg0.N) (h : t.val ≠ 0) (d) : (dats m 0 c).before 6 t d = gainBefore m c t := by
  rw [Dat.before_out_traj _ 6 rfl (fun _ _ => rfl) (fun t _ hi _ => by rw [gain_live t] at hi; exact absurd hi Bool.false_ne_true) t.val t rfl d,
    if_neg (by rw [gain_held t h]; exact Bool.false_ne_true)]
  dsimp only [dats]

/-- and the meta rows' gradient. -/
theorem before0_7 (t : Fin cfg0.N) (h : t.val ≠ 0) (d) : (dats m 0 c).before 7 t d = metaRows m c := by
  rw [Dat.before_out_traj _ 7 rfl (fun _ _ => rfl) (fun t _ _ _ => by rw [after0_7, after0_7]) t.val t rfl d,
    if_neg (by rw [meta_held t h]; exact Bool.false_ne_true), after0_7]

/-! ## The body at a point of the grid -/

def bodyPre (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t ∗ (dats m 0 c).leavesExact 7 t)

theorem leaves_live (w : Fin cfg0.W) (t : Fin cfg0.N) (h : cfg0.idle w (cfg0.grid.coords t) = false) :
    ((dats m 0 c).leavesExact w t : sProp 𝕄) = owns (c : Thread nD τ) ((cfg0.win w).stage (cfg0.slots t w)) fullShare ((dats m 0 c).after w t) := by
  unfold Dat.leavesExact; rw [h]

/-- A later point that finds the meta rows' gradient and leaves it alone leaves what the pipeline expects, whether it writes the buffer back or not. -/
theorem leaves_meta (t : Fin cfg0.N) (h : t.val ≠ 0) (d) :
    owns (c : Thread nD τ) (st0_7 t) fullShare ((dats m 0 c).before 7 t d) ⊢ ((dats m 0 c).leavesExact 7 t : sProp 𝕄) := by
  unfold Dat.leavesExact
  rw [meta_idle t h]
  cases hf : (cfg0.win 7).flush t
  · iintro H; iexists d; iexact H
  · rw [before0_7 m c t h, after0_7]

theorem sound_first (t : Fin cfg0.N) (h : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl, show (dats m 0 c).owesAt () t.succ = (dats m 0 c).owesAt () t.castSucc from rfl,
    leaves_live m c 0 t rfl, leaves_live m c 1 t rfl, leaves_live m c 2 t rfl, leaves_live m c 3 t rfl, leaves_live m c 4 t rfl, leaves_live m c 5 t rfl,
    leaves_live m c 6 t (gain_live t), leaves_live m c 7 t (meta_live t h),
    after0_0, after0_1, after0_2, after0_3, after0_4, after0_5, after0_6, after0_7, rowsAt_first m c t h, gainAt_first m c t h, metaRows_first m c t h]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runA m c t h).2.2.2 Set.univ _)
  isplitl [H0 H1 H2 H3 H4]
  · unfold inputs
    isplitl [H0]; · iexact H0
    isplitl [H1]; · iexact H1
    isplitl [H2]; · iexact H2
    isplitl [H3]; · iexact H3
    iexact H4
  isplitl [H5]; · iexists _; iexact H5
  isplitl [H6]; · iexists _; iexact H6
  isplitl [H7]; · iexists _; iexact H7
  unfold inputs
  iintro ⟨⟨H0, H1, H2, H3, H4⟩, ⟨%e5, H5⟩, ⟨%e6, H6⟩, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (first_covers5 c _ _ _ _ _ _ _ _ _ _ _ _ _ _ _ _ _ _ _ _ _ _ _ _ _)
  isplitl [H6]
  · unfold owns; iexists _; isplitr
    swap; · iexact H6
    ipureintro; exact View.read_writes_of_cover _ _ _ _ _ (first_covers6 c _ _ _ _ _ _ _ _ _ _ _ _ _ _ _ _ _ _ _ _ _ _ _ _ _)
  unfold owns; iexists _; isplitr
  swap; · iexact H7
  ipureintro; exact View.read_writes_of_cover _ _ _ _ _ (first_covers7 c _ _ _ _ _ _ _ _ _ _ _ _ _ _ _ _ _ _ _ _ _ _ _ _ _)

theorem sound_later (t : Fin cfg0.N) (h : t.val ≠ 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_6 m c t h]
  rw [show (dats m 0 c).Φ t.succ = (dats m 0 c).Φ t.castSucc from rfl, show (dats m 0 c).owesAt () t.succ = (dats m 0 c).owesAt () t.castSucc from rfl,
    leaves_live m c 0 t rfl, leaves_live m c 1 t rfl, leaves_live m c 2 t rfl, leaves_live m c 3 t rfl, leaves_live m c 4 t rfl, leaves_live m c 5 t rfl,
    leaves_live m c 6 t (gain_live t),
    after0_0, after0_1, after0_2, after0_3, after0_4, after0_5, after0_6, rowsAt_later m c t h, gainAt_later m c t h]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runB m c t h (gainBefore m c t)).2.2 Set.univ _)
  isplitl [H0 H1 H2 H3 H4]
  · unfold inputs
    isplitl [H0]; · iexact H0
    isplitl [H1]; · iexact H1
    isplitl [H2]; · iexact H2
    isplitl [H3]; · iexact H3
    iexact H4
  isplitl [H5]; · iexists _; iexact H5
  isplitl [H6]; · iexact H6
  unfold inputs
  iintro ⟨⟨H0, H1, H2, H3, H4⟩, ⟨%e5, H5⟩, ⟨%e6, H6⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (later_covers5 c _ _ _ _ _ _ _ _ _ _ _ _ _ _ _ _ _ _ _ _ _ _ _ _ _ _)
  isplitl [H6]
  · unfold owns; iexists _; isplitr
    swap; · iexact H6
    ipureintro; exact View.read_writes_of_cover _ _ _ _ _ (later_covers6 c _ _ _ _ _ _ _ _ _ _ _ _ _ _ _ _ _ _ _ _ _ _ _ _ _ _)
  iapply (leaves_meta m c t h d7)
  iexact H7

theorem sound_body (t : Fin cfg0.N) :
    bodyPre m c t ⊢ wp frame (wpE (defs₀ (F := F)) Variants.none c none) Set.univ (bodyAt0 t) (fun _ => bodyPost m c t) := by
  by_cases h : t.val = 0
  · exact sound_first m c t h
  · exact sound_later m c t h

theorem defs₀_row (t : Fin cfg0.N) : defs₀ (F := F) .tc cfg0.body (cfg0.bodyArgs t (cfg0.slots t)) = bodyAt0 t := by
  unfold defs₀; rw [Defs.onTc_tc]

theorem body_obligation : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
theorem run_both : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_both m ρ)

theorem args_kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_both m ρ))

end Cert.InProj

end
end
-- ==== Proof.InBlock.lean ====
module

public import proofs.«01_k».proof.Proof.Padding
public import proofs.«01_k».proof.Proof.InRun
public import proofs.«01_k».proof.Proof.Gen.Reference6Ideal.Read
public import Idealize.ShloMosaic.Lib.Pipeline.ValueKit
public import Idealize.ShloMosaic.Lib.Pointwise

@[expose] public section

set_option maxRecDepth 16384

noncomputable section

namespace Cert.InProj

open Cert.Kernel6Ideal Cert.Kernel6Ideal.Gen Cert.Norm
open Cert.Reference6Ideal.Read
open Idealize.ShloMosaic Idealize.ShloMosaic.TcCoe Idealize.ShloMosaic.Tactic
open Idealize.SL.Sem

variable (m : (ℓ : Loc nD τ sig) → Buf (Elt Ideal) ℓ) (ρ : Dev nD → PrngReg) (c : Dev nD)

/-! ## The arguments -/

abbrev argMeta : Vec Ideal S16x1024 .f32 := m ((c : Thread nD τ).loc main_arg0)
abbrev argX : Vec Ideal S2048x1024 .f32 := m ((c : Thread nD τ).loc main_arg1)
abbrev argG : Vec Ideal S1x1024 .f32 := m ((c : Thread nD τ).loc main_arg2)
abbrev argW : Vec Ideal S1024x2560 .f32 := m ((c : Thread nD τ).loc main_arg3)
abbrev argD : Vec Ideal S2064x2560 .f32 := m ((c : Thread nD τ).loc main_arg4)
abbrev argD1 : Vec Ideal S2064x1024 .f32 := m ((c : Thread nD τ).loc main_arg5)

/-- The residual stream: the meta rows above the tokens' rows. -/
abbrev stream : Vec Ideal S2064x1024 .f32 := val_main_v0 (F := Ideal) (argMeta m c) (argX m c)

/-! ## What the host hands to the kernel -/

theorem host_d : V m c main_v3 = transpose S5x2176x512 [1, 0, 2]
    (shapeCast S2176x5x512 (truncf .bf16 (pad S2176x2560 ![112, 0] ![0, 0] ![0, 0] (argD m c) (sitofp (F := Ideal) .f32 (constantI S_ 32 0#32))
      pads_S2064x2560_S2176x2560_11200_000 h_S_) bitsLt_bf16_f32) shapeCasts_S2176x2560_S2176x5x512 : FVec Ideal S2176x5x512 .bf16)
    transposes_S2176x5x512_S5x2176x512_1_0_2 := by
  show StableHlo.after _ (fun b => m (c, b)) (Proc.devRef .tc _) = _
  simp only [hostOps0, hostOps0_1, hostOps0_2, hostOps0_3, hostOps0_4, hostOps0_5, List.flatten_cons, List.flatten_nil, List.append_nil,
    List.cons_append, List.nil_append]
  after_results
  rfl

theorem host_w : V m c main_v5 = (truncf .bf16 (transpose S2560x1024 [1, 0] (argW m c : FVec Ideal S1024x2560 .f32) transposes_S1024x2560_S2560x1024_1_0) bitsLt_bf16_f32 : FVec Ideal S2560x1024 .bf16) := by
  show StableHlo.after _ (fun b => m (c, b)) (Proc.devRef .tc _) = _
  simp only [hostOps0, hostOps0_1, hostOps0_2, hostOps0_3, hostOps0_4, hostOps0_5, List.flatten_cons, List.flatten_nil, List.append_nil,
    List.cons_append, List.nil_append]
  after_results

theorem host_h : V m c main_v7 = pad S2176x1024 ![112, 0] ![0, 0] ![0, 0] (stream m c) (sitofp (F := Ideal) .f32 (constantI S_ 32 0#32))
    pads_S2064x1024_S2176x1024_11200_000 h_S_ := by
  show StableHlo.after _ (fun b => m (c, b)) (Proc.devRef .tc _) = _
  simp only [hostOps0, hostOps0_1, hostOps0_2, hostOps0_3, hostOps0_4, hostOps0_5, List.flatten_cons, List.flatten_nil, List.append_nil,
    List.cons_append, List.nil_append]
  after_results
  rfl

theorem host_d1 : V m c main_v8 = pad S2176x1024 ![112, 0] ![0, 0] ![0, 0] (argD1 m c) (sitofp (F := Ideal) .f32 (constantI S_ 32 0#32))
    pads_S2064x1024_S2176x1024_11200_000 h_S_ := by
  show StableHlo.after _ (fun b => m (c, b)) (Proc.devRef .tc _) = _
  simp only [hostOps0, hostOps0_1, hostOps0_2, hostOps0_3, hostOps0_4, hostOps0_5, List.flatten_cons, List.flatten_nil, List.append_nil,
    List.cons_append, List.nil_append]
  after_results
  rfl

/-! ## What a grid point reads: a block of 544 rows -/

/-- The row of the padded arrays that row `p` of grid point `t` is. -/
def row (t : Fin cfg0.N) (p : Fin 544) : Fin 2176 := ⟨544 * t.val + p.val, by have := t.isLt; have := grid_points; omega⟩

/-- The column of the cotangent that column `x` of its part `a` is. -/
def col (a : Fin 5) (x : Fin 512) : Fin 2560 := ⟨a.val * 512 + x.val, by have := a.isLt; have := x.isLt; omega⟩

theorem index_0 : ∀ t : Fin cfg0.N, win0_0.index t = ![0, t.val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![t.val, 0] := (by decide +kernel : ∀ t : Fin grid0.N, _)
theorem index_3 : ∀ t : Fin cfg0.N, win0_3.index t = ![t.val, 0] := (by decide +kernel : ∀ t : Fin grid0.N, _)
theorem index_4 : ∀ t : Fin cfg0.N, win0_4.index t = ![0, 0] := (by decide +kernel : ∀ t : Fin grid0.N, _)
theorem index_5 : ∀ t : Fin cfg0.N, win0_5.index t = ![t.val, 0] := (by decide +kernel : ∀ t : Fin grid0.N, _)

/-- Part `a` of a grid point's cotangent, and the part of the weights that it multiplies. -/
def plane (t : Fin cfg0.N) (a : ℕ) (ha : ∀ b, (![a, 0, 0] : Fin 3 → ℕ) b + S1x544x512.size b ≤ S5x544x512.size b) : Vec Ideal S1x544x512 .bf16 :=
  View.ld (iblk m c 0 t) (Rect.unit (s := S5x544x512) ![a, 0, 0] S1x544x512.size ha)
def weights (t : Fin cfg0.N) (o : ℕ) (ho : ∀ b, (![o, 0] : Fin 2 → ℕ) b + S512x1024.size b ≤ S2560x1024.size b) : Vec Ideal S512x1024 .bf16 :=
  View.ld (iblk m c 1 t) (Rect.unit (s := S2560x1024) ![o, 0] S512x1024.size ho)

theorem plane_apply (t : Fin cfg0.N) (a : Fin 5) (ha) (p : Fin 544) (x : Fin 512) : plane m c t a.val ha (ix3 0 p x) = iblk m c 0 t (ix3 a p x) := by
  refine congrArg (iblk m c 0 t) (funext fun b => Fin.ext ?_)
  match b with
  | ⟨0, _⟩ => show a.val + 1 * 0 = a.val; omega
  | ⟨1, _⟩ => show 0 + 1 * p.val = p.val; omega
  | ⟨2, _⟩ => show 0 + 1 * x.val = x.val; omega

theorem weights_apply (t : Fin cfg0.N) (a : Fin 5) (o : ℕ) (h : o = a.val * 512) (ho) (x : Fin 512) (k : Fin 1024) :
    weights m c t o ho (ix2 x k) = iblk m c 1 t (ix2 (col a x) k) := by
  subst h
  refine congrArg (iblk m c 1 t) (funext fun b => Fin.ext ?_)
  match b with
  | ⟨0, _⟩ => show a.val * 512 + 1 * x.val = a.val * 512 + x.val; omega
  | ⟨1, _⟩ => show 0 + 1 * k.val = k.val; omega

theorem read_d (t : Fin cfg0.N) (a : Fin 5) (ha) (p : Fin 544) (x : Fin 512) :
    (plane m c t a.val ha (ix3 0 p x) : EReal) = below 112 (fun r k => argD m c (ix2 r k)) (row t p).val (col a x) := by
  have h : plane m c t a.val ha (ix3 0 p x) = V m c main_v3 (ix3 a (row t p) x) := by
    rw [plane_apply]
    blk_simp [iblk]
    blk_ext [row, index_0]
  rw [h, host_d]
  pointwise [int_zero]
  have hx : a.val * 512 + x.val < 2560 := (col a x).isLt
  simp only [hx, and_true]
  rfl

theorem read_w (t : Fin cfg0.N) (a : Fin 5) (o : ℕ) (ha : o = a.val * 512) (ho) (x : Fin 512) (k : Fin 1024) :
    (weights m c t o ho (ix2 x k) : EReal) = argW m c (ix2 k (col a x)) := by
  have h : weights m c t o ho (ix2 x k) = V m c main_v5 (ix2 (col a x) k) := by
    rw [weights_apply m c t a o ha]
    blk_simp [iblk]
    blk_ext [index_1]
  rw [h, host_w]
  pointwise

theorem read_h (t : Fin cfg0.N) (p : Fin 544) (k : Fin 1024) :
    (iblk m c 2 t (ix2 p k) : EReal) = below 112 (fun a b => stream m c (ix2 a b)) (row t p).val k := by
  have h : iblk m c 2 t (ix2 p k) = V m c main_v7 (ix2 (row t p) k) := by
    blk_simp [iblk]
    blk_ext [row, index_2]
  rw [h, host_h]
  pointwise [int_zero]
  rfl

theorem read_d1 (t : Fin cfg0.N) (p : Fin 544) (k : Fin 1024) :
    (iblk m c 3 t (ix2 p k) : EReal) = below 112 (fun a b => argD1 m c (ix2 a b)) (row t p).val k := by
  have h : iblk m c 3 t (ix2 p k) = V m c main_v8 (ix2 (row t p) k) := by
    blk_simp [iblk]
    blk_ext [row, index_3]
  rw [h, host_d1]
  pointwise [int_zero]
  rfl

theorem read_g (t : Fin cfg0.N) (k : Fin 1024) : (iblk m c 4 t (ix2 0 k) : EReal) = argG m c (ix2 0 k) := by
  have h : iblk m c 4 t (ix2 0 k) = V m c main_arg2 (ix2 0 k) := by
    blk_simp [iblk]
    blk_ext [index_4]
  rw [h, V_main_arg2]

/-! ## What the grid points leave in the output buffers -/

/-- The product of a grid point's cotangent and the weights. -/
def product (t : Fin cfg0.N) : FVec Ideal S544x1024 .f32 :=
  k0_pay2 (plane m c t 0 inb_S5x544x512_S1x544x512_0_0_0) (weights m c t 0 inb_S2560x1024_S512x1024_0_0)
    (plane m c t 1 inb_S5x544x512_S1x544x512_1_0_0) (weights m c t 512 inb_S2560x1024_S512x1024_512_0)
    (plane m c t 2 inb_S5x544x512_S1x544x512_2_0_0) (weights m c t 1024 inb_S2560x1024_S512x1024_1024_0)
    (plane m c t 3 inb_S5x544x512_S1x544x512_3_0_0) (weights m c t 1536 inb_S2560x1024_S512x1024_1536_0)
    (plane m c t 4 inb_S5x544x512_S1x544x512_4_0_0) (weights m c t 2048 inb_S2560x1024_S512x1024_2048_0)

theorem rows_eq (t : Fin cfg0.N) : rowsAt m c t = k0_pay8 (product m c t) (iblk m c 2 t) (iblk m c 3 t) (iblk m c 4 t) := by
  by_cases h : t.val = 0
  · rw [rowsAt_first m c t h]
    unfold firstRows runA
    frame_out
    unfold product plane weights
    rfl
  · rw [rowsAt_later m c t h]
    unfold laterRows runB
    frame_out
    unfold product plane weights
    rfl

theorem gain_first (t : Fin cfg0.N) (h : t.val = 0) : gainAt m c t.val t.isLt = k0_pay6 (product m c t) (iblk m c 2 t) := by
  rw [gainAt_first m c t h]
  unfold firstGain runA
  frame_out
  unfold product plane weights
  rfl

theorem gain_later (t : Fin cfg0.N) (h : t.val ≠ 0) : gainAt m c t.val t.isLt = k0_pay7 (product m c t) (iblk m c 2 t) (gainBefore m c t) := by
  rw [gainAt_later m c t h]
  unfold laterGain runB
  frame_out
  unfold product plane weights
  rfl

/-- Rows 112 to 127 of a buffer into which whole rows were stored are rows 112 to 127 of what was stored. -/
theorem read_back (v : View sig .tc .vmem S544x1024 .f32) (w : Vec Ideal S544x1024 .f32) :
    v.readCov (Val := Elt Ideal) [⟨Rect.unit (s := S544x1024) ![0, 0] S544x1024.size inb_S544x1024_S544x1024_0_0, w⟩]
        (Rect.unit (s := S544x1024) ![112, 0] S16x1024.size inb_S544x1024_S16x1024_112_0).toLoadRect
      = View.ld w (Rect.unit (s := S544x1024) ![112, 0] S16x1024.size inb_S544x1024_S16x1024_112_0) := by
  refine (View.readCov_eq_canon_ld v _ _ (View.cover_of_tiledL _ S544x1024.size (by sl_kernel_rfl))).trans ?_
  rw [View.canon_cons_unit_lit' _ _ _ (by decide)]

/-- The meta rows' gradient is cut out of the rows the first point stores. -/
theorem meta_eq (t : Fin cfg0.N) (h : t.val = 0) (r : Fin 16) (k : Fin 1024) :
    metaRows m c (ix2 r k) = rowsAt m c t (ix2 ⟨112 + r.val, by have := r.isLt; omega⟩ k) := by
  rw [rows_eq, metaRows_first m c t h]
  unfold firstMeta runA
  frame_out
  refine (congrFun (congrArg k0_pay1 (read_back _ _)) (ix2 r k)).trans ?_
  unfold product plane weights
  pointwise [k0_pay1]
  rfl

end Cert.InProj
end
end
-- ==== Proof.InRows.lean ====
module

public import proofs.«01_k».proof.Proof.InBlock

@[expose] public section

set_option maxRecDepth 16384

noncomputable section

namespace Cert.InProj

open Cert.Kernel6Ideal Cert.Kernel6Ideal.Gen Cert.Norm
open Cert.Reference6Ideal.Read
open Idealize.ShloMosaic Idealize.ShloMosaic.TcCoe Idealize.ShloMosaic.Tactic
open Idealize.SL.Sem

variable (m : (ℓ : Loc nD τ sig) → Buf (Elt Ideal) ℓ) (ρ : Dev nD → PrngReg) (c : Dev nD)

/-! ## The reference's rows, with zero rows above them -/

/-- The residual stream. -/
def hh (r : ℕ) (k : Fin 1024) : EReal := below 112 (fun a b => stream m c (ix2 a b)) r k

/-- The gradient of the normalized stream. -/
def dxn (r : ℕ) (k : Fin 1024) : EReal := below 112 (fun a b => val_main_v17 (F := Ideal) (argW m c) (argD m c) (ix2 a b)) r k

/-- The reciprocal root mean square of a row. -/
def rstd (r : ℕ) : EReal := Ideal.rsqrt (meanSq ((1024 : ℝ) : EReal) (rmsEps : EReal) (hh m c r))

/-! ## What the kernel computes of a row -/

/-- A sum over the cotangent's columns is the sum over its five parts of the sums over their columns. -/
theorem sum_parts (f : Fin 2560 → EReal) : ∑ x, f x = ∑ a : Fin 5, ∑ x : Fin 512, f (col a x) := by
  rw [← (finProdFinEquiv (m := 5) (n := 512)).sum_comp f, Fintype.sum_prod_type]
  refine Finset.sum_congr rfl fun a _ => Finset.sum_congr rfl fun x _ => congrArg f (Fin.ext ?_)
  show x.val + 512 * a.val = a.val * 512 + x.val
  omega

theorem row_dxn (t : Fin cfg0.N) (p : Fin 544) (k : Fin 1024) : product m c t (ix2 p k) = dxn m c (row t p).val k := by
  unfold dxn product
  have hr := (row t p).isLt
  have e : ∀ a : Fin 5, ∀ x : Fin 512, ∀ ha o, o = a.val * 512 → ∀ ho,
      (plane m c t a.val ha (ix3 0 p x) : EReal) * (weights m c t o ho (ix2 x k) : EReal)
        = below 112 (fun r b => argD m c (ix2 r b)) (row t p).val (col a x) * argW m c (ix2 k (col a x)) := fun a x ha o h ho => by
    rw [read_d, read_w m c t a o h]
  pointwise [k0_pay2]
  have e0 := fun x => e 0 x inb_S5x544x512_S1x544x512_0_0_0 0 rfl inb_S2560x1024_S512x1024_0_0
  have e1 := fun x => e 1 x inb_S5x544x512_S1x544x512_1_0_0 512 rfl inb_S2560x1024_S512x1024_512_0
  have e2 := fun x => e 2 x inb_S5x544x512_S1x544x512_2_0_0 1024 rfl inb_S2560x1024_S512x1024_1024_0
  have e3 := fun x => e 3 x inb_S5x544x512_S1x544x512_3_0_0 1536 rfl inb_S2560x1024_S512x1024_1536_0
  have e4 := fun x => e 4 x inb_S5x544x512_S1x544x512_4_0_0 2048 rfl inb_S2560x1024_S512x1024_2048_0
  have s : (∑ x, below 112 (fun r b => argD m c (ix2 r b)) (row t p).val x * argW m c (ix2 k x))
      = below 112 (fun a b => val_main_v17 (F := Ideal) (argW m c) (argD m c) (ix2 a b)) (row t p).val k := by
    by_cases h : 112 ≤ (row t p).val
    · have hn : (row t p).val - 112 < 2064 := by omega
      rw [below_in _ _ h hn]
      pointwise [val_main_v17]
      refine Finset.sum_congr rfl fun x _ => ?_
      rw [below_in _ _ h hn]
    · rw [below_out _ _ (by omega)]
      exact Finset.sum_eq_zero fun x _ => by rw [below_out _ _ (by omega), zero_mul]
  rw [← s, sum_parts, Fin.sum_univ_five]
  exact congrArg₂ (· + ·) (congrArg₂ (· + ·) (congrArg₂ (· + ·) (congrArg₂ (· + ·) (Finset.sum_congr rfl fun x _ => e0 x) (Finset.sum_congr rfl fun x _ => e1 x))
    (Finset.sum_congr rfl fun x _ => e2 x)) (Finset.sum_congr rfl fun x _ => e3 x)) (Finset.sum_congr rfl fun x _ => e4 x)

theorem row_rstd (t : Fin cfg0.N) (p : Fin 544) : k0_pay4 (F := Ideal) (iblk m c 2 t) (ix2 p 0) = rstd m c (row t p).val := by
  unfold rstd meanSq hh
  pointwise [k0_pay4, k0_pay3]
  simp only [read_h, bits_1024, bits_rmsEps]

theorem row_normed (t : Fin cfg0.N) (p : Fin 544) (k : Fin 1024) :
    k0_pay5 (F := Ideal) (iblk m c 2 t) (ix2 p k) = hh m c (row t p).val k * rstd m c (row t p).val := by
  pointwise [k0_pay5, k0_pay3]
  rw [row_rstd, read_h]
  rfl

theorem ref_meanSq (a : Fin 2064) (r : ℕ) (h : r = a.val + 112) :
    val_main_v7 (F := Ideal) (argMeta m c) (argX m c) (ix2 a 0) = meanSq ((1024 : ℝ) : EReal) (rmsEps : EReal) (hh m c r) := by
  subst h
  unfold meanSq hh
  pointwise [val_main_v7, val_main_v6, val_main_v5, val_main_v4, val_main_v3, val_main_v2, val_main_v1, val_main_cst, val_main_cst_0, val_main_cst_1]
  simp only [below_in _ _ (Nat.le_add_left 112 a.val) (show a.val + 112 - 112 < 2064 by omega), bits_1024, bits_rmsEps, Ideal.ofBits_zero_f32, zero_add,
    Nat.add_sub_cancel]

theorem ref_rstd (a : Fin 2064) (r : ℕ) (h : r = a.val + 112) : val_main_v8 (F := Ideal) (argMeta m c) (argX m c) (ix2 a 0) = rstd m c r := by
  unfold rstd
  pointwise [val_main_v8]
  rw [ref_meanSq m c a r h]

theorem div_zero_1024 : Ideal.div 0 ((1024 : ℝ) : EReal) = 0 := by rw [div_real (by norm_num), zero_mul]

/-- The gradient of the residual stream. -/
theorem row_dh (t : Fin cfg0.N) (p : Fin 544) (k : Fin 1024) :
    rowsAt m c t (ix2 p k)
      = below 112 (fun a b => val_main_v37 (F := Ideal) (argMeta m c) (argX m c) (argG m c) (argW m c) (argD m c) (argD1 m c) (ix2 a b)) (row t p).val k := by
  rw [rows_eq]
  have hr := (row t p).isLt
  pointwise [k0_pay8]
  simp only [row_dxn, row_rstd, row_normed, read_d1, read_g, bits_1024]
  refine (congrArg (_ + ·) (rms_grad (N := 1024) (by norm_num) rmsEps_pos (hh m c (row t p).val) (fun j => dxn m c (row t p).val j * argG m c (ix2 0 j)) k)).trans ?_
  by_cases h : 112 ≤ (row t p).val
  · have hn : (row t p).val - 112 < 2064 := by omega
    rw [below_in _ _ h hn, below_in _ _ h hn]
    pointwise [val_main_v37, val_main_v36, val_main_v35, val_main_v34, val_main_v33, val_main_v32, val_main_v31, val_main_v30, val_main_v29, val_main_v28,
      val_main_v27, val_main_v26, val_main_v25, val_main_v24, val_main_v23, val_main_v22, val_main_v21, val_main_v11, val_main_v10, val_main_v9,
      val_main_cst_2, val_main_cst_4, val_main_cst_5, val_main_cst_6]
    simp only [Fin.sum_univ_one, Ideal.ofBits_zero_f32, zero_add, bits_1024, bits_neg_half]
    rw [ref_rstd m c _ (row t p).val (by show (row t p).val = (row t p).val - 112 + 112; omega),
      ref_meanSq m c _ (row t p).val (by show (row t p).val = (row t p).val - 112 + 112; omega)]
    have ed (j : Fin 1024) : dxn m c (row t p).val j = val_main_v17 (F := Ideal) (argW m c) (argD m c) (ix2 ⟨(row t p).val - 112, hn⟩ j) :=
      below_in _ _ h hn
    have ef (j : Fin 1024) : hh m c (row t p).val j = stream m c (ix2 ⟨(row t p).val - 112, hn⟩ j) := below_in _ _ h hn
    simp only [← ed, ← ef]
    rw [add_assoc (G := EReal), add_assoc (G := EReal), add_assoc (G := EReal)]
    rfl
  · rw [below_out _ _ (by omega), below_out _ _ (by omega)]
    have e : ∀ j, dxn m c (row t p).val j = 0 := fun j => below_out _ _ (by omega)
    simp only [e, zero_mul, mul_zero, Finset.sum_const_zero, add_zero, div_zero_1024]

/-- The reference's rows cut in two and joined again are its rows. -/
theorem rejoined (a : Fin 2064) (k : Fin 1024) :
    val_main_v40 (F := Ideal) (argMeta m c) (argX m c) (argG m c) (argW m c) (argD m c) (argD1 m c) (ix2 a k)
      = val_main_v37 (F := Ideal) (argMeta m c) (argX m c) (argG m c) (argW m c) (argD m c) (argD1 m c) (ix2 a k) := by
  unfold val_main_v40
  by_cases h : a.val < 16
  · refine (concatenate_pair_apply_left (t := S2064x1024) (s₁ := S16x1024) (s₂ := S2048x1024) 0 _ _ _ (ix2 a k) rfl (ix2 ⟨a.val, h⟩ k) (fun b => ?_)).trans ?_
    · match b with
      | ⟨0, _⟩ => rfl
      | ⟨1, _⟩ => rfl
    · rw [val_main_v38_apply]
      refine congrArg _ ((eq_ix2 _).trans (congrArg₂ ix2 (Fin.ext ?_) (Fin.ext ?_)))
      · rfl
      · rfl
  · refine (concatenate_pair_apply_right (t := S2064x1024) (s₁ := S16x1024) (s₂ := S2048x1024) 0 _ _ _ (ix2 a k) rfl rfl (ix2 ⟨a.val - 16, by omega⟩ k) (fun b hb => ?_) ?_).trans ?_
    · match b with
      | ⟨0, _⟩ => exact absurd rfl hb
      | ⟨1, _⟩ => rfl
    · show a.val - 16 + 16 = a.val
      omega
    · rw [val_main_v39_apply]
      refine congrArg _ ((eq_ix2 _).trans (congrArg₂ ix2 (Fin.ext ?_) (Fin.ext ?_)))
      · show 16 + (a.val - 16) = a.val
        omega
      · rfl

end Cert.InProj
end
end
-- ==== Proof.InValue.lean ====
module

public import proofs.«01_k».proof.Proof.InRows

@[expose] public section

set_option maxRecDepth 16384

noncomputable section

namespace Cert.InProj

open Cert.Kernel6Ideal Cert.Kernel6Ideal.Gen Cert.Norm
open Cert.Reference6Ideal.Read
open Idealize.ShloMosaic Idealize.ShloMosaic.TcCoe Idealize.ShloMosaic.Tactic
open Idealize.SL.Sem

variable (m : (ℓ : Loc nD τ sig) → Buf (Elt Ideal) ℓ) (ρ : Dev nD → PrngReg) (c : Dev nD)

/-! ## The gradient of the gain, added up over the grid points -/

/-- The point's own share. -/
theorem gain_share (t : Fin cfg0.N) (k : Fin 1024) :
    k0_pay6 (F := Ideal) (product m c t) (iblk m c 2 t) (ix2 0 k)
      = ∑ p ∈ Finset.range 544, dxn m c (544 * t.val + p) k * (hh m c (544 * t.val + p) k * rstd m c (544 * t.val + p)) := by
  pointwise [k0_pay6]
  simp only [row_dxn, row_normed]
  exact Fin.sum_univ_eq_sum_range (fun p => dxn m c (544 * t.val + p) k * (hh m c (544 * t.val + p) k * rstd m c (544 * t.val + p))) 544

theorem gain_after (k : Fin 1024) : ∀ (n : ℕ) (h : n < cfg0.N),
    (gainAt m c n h (ix2 0 k) : EReal) = ∑ r ∈ Finset.range (544 * (n + 1)), dxn m c r k * (hh m c r k * rstd m c r)
  | 0, h => (congrFun (gain_first m c ⟨0, h⟩ rfl) (ix2 0 k)).trans ((gain_share m c ⟨0, h⟩ k).trans (by simp only [Nat.mul_zero, Nat.zero_add, Nat.mul_one]))
  | n + 1, h => by
    refine (congrFun (gain_later m c ⟨n + 1, h⟩ (Nat.succ_ne_zero n)) (ix2 0 k)).trans ?_
    pointwise [k0_pay7]
    rw [gain_share, Nat.mul_succ 544 (n + 1), Finset.sum_range_add]
    exact congrArg (· + _) (gain_after k n (Nat.lt_of_succ_lt h))

/-! ## The arrays after the run -/

theorem array5 : (dats m 0 c).arrAt 5 cfg0.N
    = val_main_v41 (F := Ideal) (argMeta m c) (argX m c) (argG m c) (argW m c) (argD m c) (argD1 m c) := by
  refine (dats m 0 c).arrAt_eq_of_covers 5 _ (by decide +kernel) fun t hf y => ?_
  obtain ⟨p, k, rfl⟩ : ∃ (p : Fin 544) (k : Fin 1024), y = ix2 p k := ⟨y 0, y 1, eq_ix2 y⟩
  blk_simp
  rw [after0_5]
  have e : (win0_5.blk t).view.emb (ix2 p k) = ix2 (row t p) k := by
    blk_ext [row, index_5]
  rw [e, row_dh]
  pointwise [val_main_v41, val_main_call0_v0, val_main_c, int_zero]
  simp only [rejoined]
  rfl

theorem array6 : (dats m 0 c).arrAt 6 cfg0.N = val_main_v20 (F := Ideal) (argMeta m c) (argX m c) (argW m c) (argD m c) := by
  refine (dats m 0 c).arrAt_eq_of_after_last 6 t0_3 (by decide +kernel) _ fun j => ?_
  obtain ⟨k, rfl⟩ : ∃ k : Fin 1024, j = ix2 0 k := ⟨j 1, by blk_ext⟩
  blk_simp
  rw [after0_6]
  refine (gain_after m c k 3 (by decide)).trans ?_
  rw [sum_below (n := 2064) 112 (544 * (3 + 1)) (by norm_num) _ fun r hr => by
    rw [show dxn m c r k = 0 from below_out _ _ hr, zero_mul]]
  pointwise [val_main_v20, val_main_v19, val_main_v18, val_main_v13, val_main_v12, val_main_cst_3]
  refine Finset.sum_congr rfl fun x _ => ?_
  rw [ref_rstd m c x _ rfl]
  unfold dxn hh
  rw [below_in _ _ (by omega : 112 ≤ x.val + 112) (by omega : x.val + 112 - 112 < 2064), below_in _ _ (by omega : 112 ≤ x.val + 112) (by omega : x.val + 112 - 112 < 2064)]
  simp only [Nat.add_sub_cancel]
  exact mul_comm (G := EReal) _ _

theorem array7 : (dats m 0 c).arrAt 7 cfg0.N
    = val_main_v38 (F := Ideal) (argMeta m c) (argX m c) (argG m c) (argW m c) (argD m c) (argD1 m c) := by
  refine (dats m 0 c).arrAt_eq_of_after_last 7 t0_3 (by decide +kernel) _ fun j => ?_
  obtain ⟨r, k, rfl⟩ : ∃ (r : Fin 16) (k : Fin 1024), j = ix2 r k := ⟨j 0, j 1, eq_ix2 j⟩
  blk_simp
  rw [after0_7, meta_eq m c ⟨0, by rw [grid_points]; omega⟩ rfl, row_dh, val_main_v38_apply]
  have hr := r.isLt
  rw [below_in _ _ (by show 112 ≤ 544 * 0 + (112 + r.val); omega) (by show 544 * 0 + (112 + r.val) - 112 < 2064; omega)]
  refine congrArg _ (((eq_ix2 _).trans (congrArg₂ ix2 (Fin.ext ?_) (Fin.ext ?_))).symm)
  · show r.val = 544 * 0 + (112 + r.val) - 112
    omega
  · rfl

/-- The launch ends with the reference's three gradients and its arguments as they were. -/
theorem run_values : θ_run defs (onTc (τ := τ) (main (F := Ideal))) ⟨m, fun _ => 0, ρ⟩ (fun r => ∀ c : Dev nD,
      r.2.mem ((c.tc : Thread nD τ).loc main_v9_0) = val_main_v41 (F := Ideal) (argMeta m c) (argX m c) (argG m c) (argW m c) (argD m c) (argD1 m c)
      ∧ r.2.mem ((c.tc : Thread nD τ).loc main_v9_1) = val_main_v20 (F := Ideal) (argMeta m c) (argX m c) (argW m c) (argD m c)
      ∧ r.2.mem ((c.tc : Thread nD τ).loc main_v9_2) = val_main_v38 (F := Ideal) (argMeta m c) (argX m c) (argG m c) (argW m c) (argD m c) (argD1 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨((h.1 c).1 5).trans (array5 m c), ((h.1 c).1 6).trans (array6 m c), ((h.1 c).1 7).trans (array7 m c), h.2.1 c⟩)
    (θ_run_and (run_main m ρ) (args_kept m ρ))

end Cert.InProj
end
end
-- ==== Proof.InFwd.lean ====
module

public import proofs.«01_k».proof.Proof.Norm
public import proofs.«01_k».proof.Proof.Padding
public import proofs.«01_k».proof.Proof.Gen.Kernel7Ideal.Value
public import proofs.«01_k».proof.Proof.Gen.Reference7Ideal.Read
public import Idealize.ShloMosaic.Lib.Pipeline.ValueKit
public import Idealize.ShloMosaic.Lib.Pointwise

@[expose] public section

set_option maxRecDepth 16384

noncomputable section

namespace Cert.InFwd

open Cert.Kernel7Ideal Cert.Kernel7Ideal.Gen Cert.Norm
open Cert.Reference7Ideal.Read
open Idealize.ShloMosaic Idealize.ShloMosaic.TcCoe Idealize.ShloMosaic.Tactic
open Idealize.SL.Sem

variable (m : (ℓ : Loc nD τ sig) → Buf (Elt Ideal) ℓ) (ρ : Dev nD → PrngReg) (c : Dev nD)

/-! ## The arguments -/

abbrev argMeta : Vec Ideal S16x1024 .f32 := m ((c : Thread nD τ).loc main_arg0)
abbrev argX : Vec Ideal S2048x1024 .f32 := m ((c : Thread nD τ).loc main_arg1)
abbrev argG : Vec Ideal S1x1024 .f32 := m ((c : Thread nD τ).loc main_arg2)
abbrev argW : Vec Ideal S1024x2560 .f32 := m ((c : Thread nD τ).loc main_arg3)

/-- The residual stream: the meta rows above the tokens' rows. -/
abbrev stream : Vec Ideal S2064x1024 .f32 := val_main_v0 (F := Ideal) (argMeta m c) (argX m c)

/-! ## What the host hands to the kernel -/

theorem host_h : V m c main_v1 = pad S2176x1024 ![112, 0] ![0, 0] ![0, 0] (stream m c) (sitofp (F := Ideal) .f32 (constantI S_ 32 0#32))
    pads_S2064x1024_S2176x1024_11200_000 h_S_ := by
  show StableHlo.after _ (fun b => m (c, b)) (Proc.devRef .tc _) = _
  simp only [hostOps0, hostOps0_1, hostOps0_2, List.flatten_cons, List.flatten_nil, List.append_nil, List.cons_append, List.nil_append]
  after_results
  rfl

theorem host_w : V m c main_v3 = (truncf .bf16 (transpose S2560x1024 [1, 0] (argW m c : FVec Ideal S1024x2560 .f32) transposes_S1024x2560_S2560x1024_1_0) bitsLt_bf16_f32 : FVec Ideal S2560x1024 .bf16) := by
  show StableHlo.after _ (fun b => m (c, b)) (Proc.devRef .tc _) = _
  simp only [hostOps0, hostOps0_1, hostOps0_2, List.flatten_cons, List.flatten_nil, List.append_nil, List.cons_append, List.nil_append]
  after_results

/-! ## What a grid point reads: a block of 544 rows -/

theorem grid_points : cfg0.N = 4 := rfl

/-- The row of the padded arrays that row `p` of grid point `t` is. -/
def row (t : Fin cfg0.N) (p : Fin 544) : Fin 2176 := ⟨544 * t.val + p.val, by have := t.isLt; have := grid_points; omega⟩

theorem index_0 : ∀ t : Fin cfg0.N, win0_0.index t = ![t.val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![0, 0] := (by decide +kernel : ∀ t : Fin grid0.N, _)
theorem index_3 : ∀ t : Fin cfg0.N, win0_3.index t = ![t.val, 0] := (by decide +kernel : ∀ t : Fin grid0.N, _)
theorem index_4 : ∀ t : Fin cfg0.N, win0_4.index t = ![t.val, 0] := (by decide +kernel : ∀ t : Fin grid0.N, _)

theorem read_h (t : Fin cfg0.N) (p : Fin 544) (k : Fin 1024) :
    (iblk m c 0 t (ix2 p k) : EReal) = below 112 (fun a b => stream m c (ix2 a b)) (row t p).val k := by
  have h : iblk m c 0 t (ix2 p k) = V m c main_v1 (ix2 (row t p) k) := by
    blk_simp [iblk]
    blk_ext [row, index_0]
  rw [h, host_h]
  pointwise [int_zero]
  rfl

theorem read_g (t : Fin cfg0.N) (k : Fin 1024) : (iblk m c 1 t (ix2 0 k) : EReal) = argG m c (ix2 0 k) := by
  have h : iblk m c 1 t (ix2 0 k) = V m c main_arg2 (ix2 0 k) := by
    blk_simp [iblk]
    blk_ext [index_1]
  rw [h, V_main_arg2]

theorem read_w (t : Fin cfg0.N) (x : Fin 2560) (k : Fin 1024) : (iblk m c 2 t (ix2 x k) : EReal) = argW m c (ix2 k x) := by
  have h : iblk m c 2 t (ix2 x k) = V m c main_v3 (ix2 x k) := by
    blk_simp [iblk]
    blk_ext [index_2]
  rw [h, host_w]
  pointwise

/-! ## What a grid point leaves in the output buffers -/

section Blocks

variable (h : Vec Ideal S544x1024 .f32) (g : Vec Ideal S1x1024 .f32) (w : Vec Ideal S2560x1024 .bf16)

/-- A row of the block, normalized and scaled. -/
def normed (p : Fin 544) (k : Fin 1024) : EReal :=
  (h (ix2 p k) : EReal) * Ideal.rsqrt (meanSq ((1024 : ℝ) : EReal) (rmsEps : EReal) fun j => (h (ix2 p j) : EReal)) * (g (ix2 0 k) : EReal)

theorem pay3_apply (p : Fin 544) (k : Fin 1024) : k0_pay3 (F := Ideal) h g (ix2 p k) = normed h g p k := by
  unfold normed meanSq
  pointwise [k0_pay3]
  simp only [bits_1024, bits_rmsEps]

theorem out_3 (p : Fin 544) (k : Fin 1024) : out0_3 (F := Ideal) h g w (ix2 p k) = normed h g p k := by
  frame_out
  exact pay3_apply h g p k

/-- A piece of columns agrees with a table when its columns are the table's from the piece's first one. -/
theorem columns_agree {o n : ℕ} (inb : ∀ a, (![0, o] : Fin 2 → ℕ) a + (![544, n] : Fin 2 → ℕ) a ≤ S544x2560.size a)
    (w : (Rect.unit (s := S544x2560) ![0, o] ![544, n] inb).shape.Idx → EReal) (G : Fin 544 → Fin 2560 → EReal)
    (h : ∀ (p : Fin 544) (f : Fin n) (hf : o + f.val < 2560), w (ix2 p f) = G p ⟨o + f.val, hf⟩) (y : (Rect.unit (s := S544x2560) ![0, o] ![544, n] inb).shape.Idx) :
    w y = G ((Rect.unit (s := S544x2560) ![0, o] ![544, n] inb).emb y 0) ((Rect.unit (s := S544x2560) ![0, o] ![544, n] inb).emb y 1) := by
  obtain ⟨p, f, rfl⟩ : ∃ (p : Fin 544) (f : Fin n), y = ix2 p f := ⟨y 0, y 1, eq_ix2 y⟩
  have hb : o + n ≤ 2560 := inb 1
  have hf : o + f.val < 2560 := by have := f.isLt; omega
  rw [h p f hf]
  refine congrArg₂ G (Fin.ext ?_) (Fin.ext ?_)
  · show p.val = 0 + 1 * p.val
    omega
  · show o + f.val = o + 1 * f.val
    omega

theorem out_4 (p : Fin 544) (f : Fin 2560) :
    out0_4 (F := Ideal) h g w (ix2 p f) = ∑ k : Fin 1024, normed h g p k * (w (ix2 f k) : EReal) := by
  unfold out0_4
  refine View.canon_apply_of_pieces (Val := Elt Ideal) (fun y => ∑ k : Fin 1024, normed h g (y 0) k * (w (ix2 (y 1) k) : EReal)) _ ?_ _ (cover0_4 _ _ _ _ _ _)
  iterate 5 (refine List.forall_mem_cons.2 ⟨fun y => columns_agree ?_ _ (fun p f => ∑ k : Fin 1024, normed h g p k * (w (ix2 f k) : EReal)) (fun p f hf => ?_) y, ?_⟩; pick_goal 3)
  all_goals first | exact List.forall_mem_nil _ | decide | skip
  all_goals
    try unfold k0_pay7
    frame_out
    pointwise [k0_pay1, k0_pay2, k0_pay4, k0_pay5, k0_pay6]
    refine Finset.sum_congr rfl fun k _ => congrArg₂ (· * ·) (pay3_apply h g p k) ?_
    blk_simp
    blk_ext

end Blocks

/-! ## The rows of the two results -/

/-- The normalized stream with zero rows above it. -/
def xn (r : ℕ) (k : Fin 1024) : EReal := below 112 (fun a b => val_main_v12 (F := Ideal) (argMeta m c) (argX m c) (argG m c) (ix2 a b)) r k

theorem row_normed (t : Fin cfg0.N) (p : Fin 544) (k : Fin 1024) : normed (iblk m c 0 t) (iblk m c 1 t) p k = xn m c (row t p).val k := by
  unfold normed xn
  have hr := (row t p).isLt
  simp only [read_h, read_g]
  by_cases h : 112 ≤ (row t p).val
  · have hn : (row t p).val - 112 < 2064 := by omega
    simp only [below_in _ _ h hn]
    unfold meanSq
    pointwise [val_main_v12, val_main_v11, val_main_v10, val_main_v9, val_main_v8, val_main_v7, val_main_v6, val_main_v5, val_main_v4, val_main_v3,
      val_main_v2, val_main_v1, val_main_cst, val_main_cst_0, val_main_cst_1]
    simp only [bits_1024, bits_rmsEps, Ideal.ofBits_zero_f32, zero_add]
  · rw [below_out _ _ (by omega), below_out _ _ (by omega), zero_mul, zero_mul]

theorem array3 : (dats m 0 c).arrAt 3 cfg0.N = val_main_v14 (F := Ideal) (argMeta m c) (argX m c) (argG m c) := by
  refine (dats m 0 c).arrAt_eq_of_covers 3 _ (by decide +kernel) fun t hf y => ?_
  obtain ⟨p, k, rfl⟩ : ∃ (p : Fin 544) (k : Fin 1024), y = ix2 p k := ⟨y 0, y 1, eq_ix2 y⟩
  blk_simp
  rw [after0_3]
  refine ((out_3 _ _ _ p k).trans (row_normed m c t p k)).trans ?_
  have e : (win0_3.blk t).view.emb (ix2 p k) = ix2 (row t p) k := by
    blk_ext [row, index_3]
  rw [e]
  unfold xn
  pointwise [val_main_v14, val_main_v13, val_main_call0_v0, val_main_c, int_zero]
  rfl

theorem array4 : (dats m 0 c).arrAt 4 cfg0.N = val_main_v16 (F := Ideal) (argMeta m c) (argX m c) (argG m c) (argW m c) := by
  refine (dats m 0 c).arrAt_eq_of_covers 4 _ (by decide +kernel) fun t hf y => ?_
  obtain ⟨p, f, rfl⟩ : ∃ (p : Fin 544) (f : Fin 2560), y = ix2 p f := ⟨y 0, y 1, eq_ix2 y⟩
  blk_simp
  rw [after0_4]
  refine (out_4 _ _ _ p f).trans ?_
  have e : (win0_4.blk t).view.emb (ix2 p f) = ix2 (row t p) f := by
    blk_ext [row, index_4]
  rw [e]
  simp only [row_normed, read_w]
  have hr := (row t p).isLt
  pointwise [val_main_v16, val_main_v15, val_main_call1_v0, val_main_c_2, int_zero]
  split
  · rename_i h
    exact Finset.sum_congr rfl fun k _ => congrArg (· * _) (below_in _ _ h.1 h.2)
  · rename_i h
    exact Finset.sum_eq_zero fun k _ => by rw [show xn m c (row t p).val k = 0 from below_out _ _ (by omega), zero_mul]

end Cert.InFwd
end
end
-- ==== Proof.OutFwd.lean ====
module

public import proofs.«01_k».proof.Proof.LayerNorm
public import proofs.«01_k».proof.Proof.Padding
public import proofs.«01_k».proof.Proof.Gen.Kernel8Ideal.Value
public import proofs.«01_k».proof.Proof.Gen.Reference8Ideal.Read
public import Idealize.ShloMosaic.Lib.Pipeline.ValueKit
public import Idealize.ShloMosaic.Lib.Pointwise

@[expose] public section

set_option maxRecDepth 16384

noncomputable section

namespace Cert.OutFwd

open Cert.Kernel8Ideal Cert.Kernel8Ideal.Gen Cert.Norm
open Cert.Reference8Ideal.Read
open Idealize.ShloMosaic Idealize.ShloMosaic.TcCoe Idealize.ShloMosaic.Tactic
open Idealize.SL.Sem

variable (m : (ℓ : Loc nD τ sig) → Buf (Elt Ideal) ℓ) (ρ : Dev nD → PrngReg) (c : Dev nD)

/-! ## The arguments -/

abbrev argYa : Vec Ideal S2064x512 .f32 := m ((c : Thread nD τ).loc main_arg0)
abbrev argZ : Vec Ideal S2064x512 .f32 := m ((c : Thread nD τ).loc main_arg1)
abbrev argLg : Vec Ideal S1x512 .f32 := m ((c : Thread nD τ).loc main_arg2)
abbrev argLb : Vec Ideal S1x512 .f32 := m ((c : Thread nD τ).loc main_arg3)
abbrev argW : Vec Ideal S1024x1024 .f32 := m ((c : Thread nD τ).loc main_arg4)
abbrev argH : Vec Ideal S2064x1024 .f32 := m ((c : Thread nD τ).loc main_arg5)
abbrev argG2 : Vec Ideal S1x1024 .f32 := m ((c : Thread nD τ).loc main_arg6)
abbrev argG3 : Vec Ideal S1x1024 .f32 := m ((c : Thread nD τ).loc main_arg7)

/-! ## What the host hands to the kernel -/

theorem host_ya : V m c main_v1 = (truncf .bf16
    (pad S2176x512 ![112, 0] ![0, 0] ![0, 0] (argYa m c) (sitofp (F := Ideal) .f32 (constantI S_ 32 0#32)) pads_S2064x512_S2176x512_11200_000 h_S_) bitsLt_bf16_f32 : FVec Ideal S2176x512 .bf16) := by
  show StableHlo.after _ (fun b => m (c, b)) (Proc.devRef .tc _) = _
  simp only [hostOps0, hostOps0_1, hostOps0_2, hostOps0_3, hostOps0_4, hostOps0_5, List.flatten_cons, List.flatten_nil, List.append_nil, List.cons_append, List.nil_append]
  after_results
  rfl

theorem host_z : V m c main_v2 =
    pad S2176x512 ![112, 0] ![0, 0] ![0, 0] (argZ m c) (sitofp (F := Ideal) .f32 (constantI S_ 32 0#32)) pads_S2064x512_S2176x512_11200_000 h_S_ := by
  show StableHlo.after _ (fun b => m (c, b)) (Proc.devRef .tc _) = _
  simp only [hostOps0, hostOps0_1, hostOps0_2, hostOps0_3, hostOps0_4, hostOps0_5, List.flatten_cons, List.flatten_nil, List.append_nil, List.cons_append, List.nil_append]
  after_results
  rfl

theorem host_w : V m c main_v3 = (truncf .bf16 (argW m c : FVec Ideal S1024x1024 .f32) bitsLt_bf16_f32 : FVec Ideal S1024x1024 .bf16) := by
  show StableHlo.after _ (fun b => m (c, b)) (Proc.devRef .tc _) = _
  simp only [hostOps0, hostOps0_1, hostOps0_2, hostOps0_3, hostOps0_4, hostOps0_5, List.flatten_cons, List.flatten_nil, List.append_nil, List.cons_append, List.nil_append]
  after_results

theorem host_h : V m c main_v4 =
    pad S2176x1024 ![112, 0] ![0, 0] ![0, 0] (argH m c) (sitofp (F := Ideal) .f32 (constantI S_ 32 0#32)) pads_S2064x1024_S2176x1024_11200_000 h_S_ := by
  show StableHlo.after _ (fun b => m (c, b)) (Proc.devRef .tc _) = _
  simp only [hostOps0, hostOps0_1, hostOps0_2, hostOps0_3, hostOps0_4, hostOps0_5, List.flatten_cons, List.flatten_nil, List.append_nil, List.cons_append, List.nil_append]
  after_results
  rfl

/-! ## What a grid point reads: a block of 1088 rows -/

theorem grid_points : cfg0.N = 2 := rfl

/-- The row of the padded arrays that row `p` of grid point `t` is. -/
def row (t : Fin cfg0.N) (p : Fin 1088) : Fin 2176 := ⟨1088 * t.val + p.val, by have := t.isLt; have := grid_points; omega⟩

theorem index_0 : ∀ t : Fin cfg0.N, win0_0.index t = ![t.val, 0] := (by decide +kernel : ∀ t : Fin grid0.N, _)
theorem index_1 : ∀ t : Fin cfg0.N, win0_1.index t = ![t.val, 0] := (by decide +kernel : ∀ t : Fin grid0.N, _)
theorem index_2 : ∀ t : Fin cfg0.N, win0_2.index t = ![0, 0] := (by decide +kernel : ∀ t : Fin grid0.N, _)
theorem index_3 : ∀ t : Fin cfg0.N, win0_3.index t = ![0, 0] := (by decide +kernel : ∀ t : Fin grid0.N, _)
theorem index_4 : ∀ t : Fin cfg0.N, win0_4.index t = ![0, 0] := (by decide +kernel : ∀ t : Fin grid0.N, _)
theorem index_5 : ∀ t : Fin cfg0.N, win0_5.index t = ![t.val, 0] := (by decide +kernel : ∀ t : Fin grid0.N, _)
theorem index_6 : ∀ t : Fin cfg0.N, win0_6.index t = ![0, 0] := (by decide +kernel : ∀ t : Fin grid0.N, _)
theorem index_7 : ∀ t : Fin cfg0.N, win0_7.index t = ![0, 0] := (by decide +kernel : ∀ t : Fin grid0.N, _)
theorem index_8 : ∀ t : Fin cfg0.N, win0_8.index t = ![t.val, 0] := (by decide +kernel : ∀ t : Fin grid0.N, _)
theorem index_9 : ∀ t : Fin cfg0.N, win0_9.index t = ![t.val, 0] := (by decide +kernel : ∀ t : Fin grid0.N, _)
theorem index_10 : ∀ t : Fin cfg0.N, win0_10.index t = ![t.val, 0] := (by decide +kernel : ∀ t : Fin grid0.N, _)
theorem index_11 : ∀ t : Fin cfg0.N, win0_11.index t = ![t.val, 0] := (by decide +kernel : ∀ t : Fin grid0.N, _)

theorem read_ya (t : Fin cfg0.N) (p : Fin 1088) (k : Fin 512) :
    (iblk m c 0 t (ix2 p k) : EReal) = below 112 (fun a b => argYa m c (ix2 a b)) (row t p).val k := by
  have h : iblk m c 0 t (ix2 p k) = V m c main_v1 (ix2 (row t p) k) := by
    blk_simp [iblk]
    blk_ext [row, index_0]
  rw [h, host_ya]
  pointwise [int_zero]
  rfl

theorem read_z (t : Fin cfg0.N) (p : Fin 1088) (k : Fin 512) :
    (iblk m c 1 t (ix2 p k) : EReal) = below 112 (fun a b => argZ m c (ix2 a b)) (row t p).val k := by
  have h : iblk m c 1 t (ix2 p k) = V m c main_v2 (ix2 (row t p) k) := by
    blk_simp [iblk]
    blk_ext [row, index_1]
  rw [h, host_z]
  pointwise [int_zero]
  rfl

theorem read_lg (t : Fin cfg0.N) (k : Fin 512) : (iblk m c 2 t (ix2 0 k) : EReal) = argLg m c (ix2 0 k) := by
  have h : iblk m c 2 t (ix2 0 k) = V m c main_arg2 (ix2 0 k) := by
    blk_simp [iblk]
    blk_ext [index_2]
  rw [h, V_main_arg2]

theorem read_lb (t : Fin cfg0.N) (k : Fin 512) : (iblk m c 3 t (ix2 0 k) : EReal) = argLb m c (ix2 0 k) := by
  have h : iblk m c 3 t (ix2 0 k) = V m c main_arg3 (ix2 0 k) := by
    blk_simp [iblk]
    blk_ext [index_3]
  rw [h, V_main_arg3]

theorem read_w (t : Fin cfg0.N) (j k : Fin 1024) : (iblk m c 4 t (ix2 j k) : EReal) = argW m c (ix2 j k) := by
  have h : iblk m c 4 t (ix2 j k) = V m c main_v3 (ix2 j k) := by
    blk_simp [iblk]
    blk_ext [index_4]
  rw [h, host_w]
  rfl

theorem read_h (t : Fin cfg0.N) (p : Fin 1088) (k : Fin 1024) :
    (iblk m c 5 t (ix2 p k) : EReal) = below 112 (fun a b => argH m c (ix2 a b)) (row t p).val k := by
  have h : iblk m c 5 t (ix2 p k) = V m c main_v4 (ix2 (row t p) k) := by
    blk_simp [iblk]
    blk_ext [row, index_5]
  rw [h, host_h]
  pointwise [int_zero]
  rfl

theorem read_g2 (t : Fin cfg0.N) (k : Fin 1024) : (iblk m c 6 t (ix2 0 k) : EReal) = argG2 m c (ix2 0 k) := by
  have h : iblk m c 6 t (ix2 0 k) = V m c main_arg6 (ix2 0 k) := by
    blk_simp [iblk]
    blk_ext [index_6]
  rw [h, V_main_arg6]

theorem read_g3 (t : Fin cfg0.N) (k : Fin 1024) : (iblk m c 7 t (ix2 0 k) : EReal) = argG3 m c (ix2 0 k) := by
  have h : iblk m c 7 t (ix2 0 k) = V m c main_arg7 (ix2 0 k) := by
    blk_simp [iblk]
    blk_ext [index_7]
  rw [h, V_main_arg7]

/-! ## The two halves of the projected rows, stored and read back -/

/-- Two halves side by side. -/
def joined (a b : Vec Ideal S1088x512 .bf16) : Vec Ideal S1088x1024 .bf16 :=
  fun y => if h : (y 1).val < 512 then a (ix2 (y 0) ⟨(y 1).val, h⟩) else b (ix2 (y 0) ⟨(y 1).val - 512, by have : (y 1).val < 1024 := (y 1).isLt; omega⟩)

/-- The pieces the two halves are stored as. -/
abbrev halves (a b : Vec Ideal S1088x512 .bf16) : List (View.Piece (Elt Ideal) S1088x1024 .bf16) :=
  [⟨Rect.unit (s := S1088x1024) ![0, 512] S1088x512.size inb_S1088x1024_S1088x512_0_512, b⟩,
    ⟨Rect.unit (s := S1088x1024) ![0, 0] S1088x512.size inb_S1088x1024_S1088x512_0_0, a⟩]

theorem halves_agree (a b : Vec Ideal S1088x512 .bf16) : ∀ pc ∈ halves a b, ∀ y, pc.2 y = joined a b (pc.1.emb y) := by
  refine List.forall_mem_cons.2 ⟨fun y => ?_, List.forall_mem_cons.2 ⟨fun y => ?_, List.forall_mem_nil _⟩⟩
  all_goals
    obtain ⟨p, k, rfl⟩ : ∃ (p : Fin 1088) (k : Fin 512), y = ix2 p k := ⟨y 0, y 1, eq_ix2 y⟩
    have hk := k.isLt
  · refine Eq.trans ?_ (dif_neg (show ¬ 512 + 1 * k.val < 512 by omega)).symm
    refine congrArg₂ (fun i j => b (ix2 i j)) (Fin.ext ?_) (Fin.ext ?_)
    · show p.val = 0 + 1 * p.val
      omega
    · show k.val = 512 + 1 * k.val - 512
      omega
  · refine Eq.trans ?_ (dif_pos (show 0 + 1 * k.val < 512 by omega)).symm
    refine congrArg₂ (fun i j => a (ix2 i j)) (Fin.ext ?_) (Fin.ext ?_)
    · show p.val = 0 + 1 * p.val
      omega
    · show k.val = 0 + 1 * k.val
      omega

theorem read_back (v : View sig .tc .vmem S1088x1024 .bf16) (a b : Vec Ideal S1088x512 .bf16) :
    v.readCov (Val := Elt Ideal) (halves a b) (Rect.unit (s := S1088x1024) ![0, 0] S1088x1024.size inb_S1088x1024_S1088x1024_0_0).toLoadRect = joined a b := by
  have cover := View.cover_of_tiledL (halves a b) S1088x512.size (by sl_kernel_rfl)
  refine (View.readCov_eq_canon_ld v _ _ cover).trans ?_
  rw [View.ld_unit_lit' _ _ (by decide)]
  exact funext fun y => View.canon_apply_of_pieces (Val := Elt Ideal) (joined a b) _ (halves_agree a b) y (cover y)

/-! ## What a grid point leaves in the output buffers -/

/-- The rows that go into the projection: the gathered halves and the convolution's, normalized and gated. -/
abbrev yBlock (t : Fin cfg0.N) : Vec Ideal S1088x1024 .bf16 := joined (k0_pay4 (iblk m c 0 t)) (k0_pay5 (iblk m c 1 t) (iblk m c 2 t) (iblk m c 3 t))

theorem after8 (t : Fin cfg0.N) (p : Fin 1088) (k : Fin 1024) : (outsAt0 m c t).1 (ix2 p k) = yBlock m c t (ix2 p k) := by
  simp only [outsAt0]
  unfold out0_A_8
  refine View.read_writes_apply_of_pieces (Val := Elt Ideal) VO0_8 _ (yBlock m c t) _ ?_ _
    (cover0_A_8 c _ _ _ _ _ _ _ _ _ _ _ _ _ _ _ _ _ _ _ _ _ _ _ _ _ _ _ _ _ _ _ _ _ _)
  frame_out
  exact halves_agree _ _

/-! ## A normalized row -/

/-- A row divided by the root of its mean square, and scaled. -/
def rmsRow (x g : Fin 1024 → EReal) (k : Fin 1024) : EReal :=
  x k * Ideal.rsqrt (meanSq ((1024 : ℝ) : EReal) (rmsEps : EReal) x) * g k

/-- A row without its mean, divided by the root of its mean square, scaled and shifted. -/
def lnRow (z g b : Fin 512 → EReal) (k : Fin 512) : EReal :=
  centred ((512 : ℝ) : EReal) z k * Ideal.rsqrt (meanSq ((512 : ℝ) : EReal) (lnEps : EReal) (centred ((512 : ℝ) : EReal) z)) * g k + b k

section Blocks

variable (y : FVec Ideal S1088x1024 .bf16) (w : FVec Ideal S1024x1024 .bf16) (h : Vec Ideal S1088x1024 .f32) (g g' : Vec Ideal S1x1024 .f32)
  (z : Vec Ideal S1088x512 .f32) (lg lb : Vec Ideal S1x512 .f32)

/-- The zero rows the projection starts from. -/
abbrev zeroRows : FVec Ideal S1088x1024 .f32 := constant S1088x1024 .f32 0x00000000#32

theorem pay6_eq : k0_pay6 (F := Ideal) y = y := by
  funext i
  obtain ⟨p, k, rfl⟩ : ∃ (p : Fin 1088) (k : Fin 1024), i = ix2 p k := ⟨i 0, i 1, eq_ix2 i⟩
  pointwise [k0_pay6]

theorem pay7_eq : k0_pay7 (F := Ideal) w = w := by
  funext i
  obtain ⟨p, k, rfl⟩ : ∃ (p k : Fin 1024), i = ix2 p k := ⟨i 0, i 1, eq_ix2 i⟩
  pointwise [k0_pay7]

theorem pay1_apply (p : Fin 1088) (k : Fin 1024) :
    k0_pay1 (F := Ideal) y w zeroRows (ix2 p k) = ∑ j : Fin 1024, (y (ix2 p j) : EReal) * (w (ix2 j k) : EReal) := by
  pointwise [k0_pay1]

theorem pay2_apply (p : Fin 1088) (k : Fin 1024) :
    k0_pay2 (F := Ideal) y w zeroRows h g (ix2 p k)
      = (h (ix2 p k) : EReal) + rmsRow (fun j => k0_pay1 (F := Ideal) y w zeroRows (ix2 p j)) (fun j => g (ix2 0 j)) k := by
  unfold rmsRow meanSq k0_pay2
  generalize k0_pay1 (F := Ideal) y w zeroRows = x
  pointwise
  simp only [bits_1024, bits_rmsEps]

theorem pay3_apply (p : Fin 1088) (k : Fin 1024) :
    k0_pay3 (F := Ideal) y w zeroRows h g g' (ix2 p k)
      = rmsRow (fun j => k0_pay2 (F := Ideal) y w zeroRows h g (ix2 p j)) (fun j => g' (ix2 0 j)) k := by
  unfold rmsRow meanSq k0_pay3
  generalize k0_pay2 (F := Ideal) y w zeroRows h g = x
  pointwise
  simp only [bits_1024, bits_rmsEps]

theorem pay5_apply (p : Fin 1088) (k : Fin 512) :
    k0_pay5 (F := Ideal) z lg lb (ix2 p k)
      = lnRow (fun j => z (ix2 p j)) (fun j => lg (ix2 0 j)) (fun j => lb (ix2 0 j)) k
        * Ideal.logistic (lnRow (fun j => z (ix2 p j)) (fun j => lg (ix2 0 j)) (fun j => lb (ix2 0 j)) k) := by
  unfold lnRow meanSq centred
  pointwise [k0_pay5]
  simp only [bits_512, bits_lnEps]

end Blocks

theorem after9 (t : Fin cfg0.N) (p : Fin 1088) (k : Fin 1024) :
    (outsAt0 m c t).2.1 (ix2 p k) = k0_pay1 (F := Ideal) (yBlock m c t) (iblk m c 4 t) zeroRows (ix2 p k) := by
  simp only [outsAt0]
  unfold out0_A_9
  frame_out
  rw [read_back, pay6_eq, pay7_eq]

theorem after10 (t : Fin cfg0.N) (p : Fin 1088) (k : Fin 1024) :
    (outsAt0 m c t).2.2.1 (ix2 p k) = k0_pay2 (F := Ideal) (yBlock m c t) (iblk m c 4 t) zeroRows (iblk m c 5 t) (iblk m c 6 t) (ix2 p k) := by
  simp only [outsAt0]
  unfold out0_A_10
  frame_out
  rw [read_back, pay6_eq, pay7_eq]

theorem after11 (t : Fin cfg0.N) (p : Fin 1088) (k : Fin 1024) :
    (outsAt0 m c t).2.2.2 (ix2 p k) = k0_pay3 (F := Ideal) (yBlock m c t) (iblk m c 4 t) zeroRows (iblk m c 5 t) (iblk m c 6 t) (iblk m c 7 t) (ix2 p k) := by
  simp only [outsAt0]
  unfold out0_A_11
  frame_out
  rw [read_back, pay6_eq, pay7_eq]

/-! ## The reference's rows -/

section Rows

variable (x0 x1 : Vec Ideal S2064x512 .f32) (x2 x3 : Vec Ideal S1x512 .f32) (x4 : Vec Ideal S1024x1024 .f32) (x5 : Vec Ideal S2064x1024 .f32)
  (x6 x7 : Vec Ideal S1x1024 .f32)

theorem zeros_above (r : Fin 2176) (k : Fin 512) :
    (val_main_v1 (F := Ideal) x0 (ix2 r k) : EReal) = below 112 (fun a b => x0 (ix2 a b)) r.val k := by
  unfold val_main_v1
  by_cases h : r.val < 112
  · refine (concatenate_pair_apply_left (t := S2176x512) (s₁ := Cert.Reference8Ideal.S112x512) (s₂ := S2064x512) 0 _ _ _ (ix2 r k) rfl (ix2 ⟨r.val, h⟩ k) (fun b => ?_)).trans ?_
    · match b with
      | ⟨0, _⟩ => rfl
      | ⟨1, _⟩ => rfl
    · rw [below_out _ _ h, val_main_v0_apply, val_main_cst_apply]
      exact Ideal.ofBits_zero_f32
  · have hr := r.isLt
    refine (concatenate_pair_apply_right (t := S2176x512) (s₁ := Cert.Reference8Ideal.S112x512) (s₂ := S2064x512) 0 _ _ _ (ix2 r k) rfl rfl (ix2 ⟨r.val - 112, by omega⟩ k) (fun b hb => ?_) ?_).trans ?_
    · match b with
      | ⟨0, _⟩ => exact absurd rfl hb
      | ⟨1, _⟩ => rfl
    · show r.val - 112 + 112 = r.val
      omega
    · exact (below_in (fun a b => x0 (ix2 a b)) k (by omega) (by omega)).symm

theorem zeros_above_z (r : Fin 2176) (k : Fin 512) :
    (val_main_v3 (F := Ideal) x1 (ix2 r k) : EReal) = below 112 (fun a b => x1 (ix2 a b)) r.val k := zeros_above x1 r k

theorem zeros_above_h (r : Fin 2176) (k : Fin 1024) :
    (val_main_v5 (F := Ideal) x5 (ix2 r k) : EReal) = below 112 (fun a b => x5 (ix2 a b)) r.val k := by
  unfold val_main_v5
  by_cases h : r.val < 112
  · refine (concatenate_pair_apply_left (t := S2176x1024) (s₁ := Cert.Reference8Ideal.S112x1024) (s₂ := S2064x1024) 0 _ _ _ (ix2 r k) rfl (ix2 ⟨r.val, h⟩ k) (fun b => ?_)).trans ?_
    · match b with
      | ⟨0, _⟩ => rfl
      | ⟨1, _⟩ => rfl
    · rw [below_out _ _ h, val_main_v4_apply, val_main_cst_1_apply]
      exact Ideal.ofBits_zero_f32
  · have hr := r.isLt
    refine (concatenate_pair_apply_right (t := S2176x1024) (s₁ := Cert.Reference8Ideal.S112x1024) (s₂ := S2064x1024) 0 _ _ _ (ix2 r k) rfl rfl (ix2 ⟨r.val - 112, by omega⟩ k) (fun b hb => ?_) ?_).trans ?_
    · match b with
      | ⟨0, _⟩ => exact absurd rfl hb
      | ⟨1, _⟩ => rfl
    · show r.val - 112 + 112 = r.val
      omega
    · exact (below_in (fun a b => x5 (ix2 a b)) k (by omega) (by omega)).symm

theorem ref_centred (r : Fin 2176) (k : Fin 512) :
    val_main_v11 (F := Ideal) x1 (ix2 r k) = centred ((512 : ℝ) : EReal) (fun j => val_main_v3 (F := Ideal) x1 (ix2 r j)) k := by
  unfold centred
  pointwise [val_main_v11, val_main_v10, val_main_v9, val_main_v8, val_main_v7, val_main_v6, val_main_cst_2, val_main_cst_3]
  simp only [Ideal.ofBits_zero_f32, zero_add, bits_512]

theorem ref_centred' (r : Fin 2176) (k : Fin 512) :
    val_main_v18 (F := Ideal) x1 (ix2 r k) = centred ((512 : ℝ) : EReal) (fun j => val_main_v3 (F := Ideal) x1 (ix2 r j)) k := by
  rw [← ref_centred x1 r k]
  pointwise [val_main_v18, val_main_v17, val_main_v11, val_main_v10]

theorem ref_lnRow (r : Fin 2176) (k : Fin 512) :
    val_main_v27 (F := Ideal) x1 x2 x3 (ix2 r k)
      = lnRow (fun j => val_main_v3 (F := Ideal) x1 (ix2 r j)) (fun j => x2 (ix2 0 j)) (fun j => x3 (ix2 0 j)) k := by
  unfold lnRow meanSq
  pointwise [val_main_v27, val_main_v26, val_main_v25, val_main_v24, val_main_v23, val_main_v22, val_main_v21, val_main_v20, val_main_v19, val_main_v16,
    val_main_v15, val_main_v14, val_main_v13, val_main_v12, val_main_cst_4, val_main_cst_5, val_main_cst_6]
  simp only [ref_centred, ref_centred', Ideal.ofBits_zero_f32, zero_add, bits_512, bits_lnEps]

theorem ref_swish (r : Fin 2176) (k : Fin 512) :
    val_main_v28 (F := Ideal) x1 x2 x3 (ix2 r k)
      = lnRow (fun j => val_main_v3 (F := Ideal) x1 (ix2 r j)) (fun j => x2 (ix2 0 j)) (fun j => x3 (ix2 0 j)) k
        * Ideal.logistic (lnRow (fun j => val_main_v3 (F := Ideal) x1 (ix2 r j)) (fun j => x2 (ix2 0 j)) (fun j => x3 (ix2 0 j)) k) := by
  unfold Ideal.logistic
  pointwise [val_main_v28, val_main_call0_v0, val_main_call0_v1, val_main_call0_v2, val_main_call0_v3, val_main_call0_v4, val_main_call0_v5, val_main_call0_cst,
    val_main_call0_cst_0]
  rw [ref_lnRow]

theorem ref_product (r : Fin 2176) (k : Fin 1024) :
    val_main_v30 (F := Ideal) x0 x1 x2 x3 x4 (ix2 r k) = ∑ j : Fin 1024, (val_main_v29 (F := Ideal) x0 x1 x2 x3 (ix2 r j) : EReal) * (x4 (ix2 j k) : EReal) := by
  pointwise [val_main_v30]

theorem ref_residual (r : Fin 2176) (k : Fin 1024) :
    val_main_v43 (F := Ideal) x0 x1 x2 x3 x4 x5 x6 (ix2 r k)
      = (val_main_v5 (F := Ideal) x5 (ix2 r k) : EReal) + rmsRow (fun j => val_main_v30 (F := Ideal) x0 x1 x2 x3 x4 (ix2 r j)) (fun j => x6 (ix2 0 j)) k := by
  unfold rmsRow meanSq
  pointwise [val_main_v43, val_main_v42, val_main_v41, val_main_v40, val_main_v39, val_main_v38, val_main_v37, val_main_v36, val_main_v35, val_main_v34,
    val_main_v33, val_main_v32, val_main_v31, val_main_cst_7, val_main_cst_8, val_main_cst_9]
  simp only [bits_1024, bits_rmsEps, Ideal.ofBits_zero_f32, zero_add]

theorem ref_normed (r : Fin 2176) (k : Fin 1024) :
    val_main_v57 (F := Ideal) x0 x1 x2 x3 x4 x5 x6 x7 (ix2 r k)
      = rmsRow (fun j => val_main_v43 (F := Ideal) x0 x1 x2 x3 x4 x5 x6 (ix2 r j)) (fun j => x7 (ix2 0 j)) k := by
  unfold rmsRow meanSq
  pointwise [val_main_v57, val_main_v56, val_main_v55, val_main_v54, val_main_v53, val_main_v52, val_main_v51, val_main_v50, val_main_v49, val_main_v48,
    val_main_v47, val_main_v46, val_main_v45, val_main_cst_10, val_main_cst_11, val_main_cst_12]
  simp only [bits_1024, bits_rmsEps, Ideal.ofBits_zero_f32, zero_add]

end Rows

/-! ## The rows of the two programs agree -/

theorem row_swish (t : Fin cfg0.N) (p : Fin 1088) (k : Fin 512) :
    k0_pay5 (F := Ideal) (iblk m c 1 t) (iblk m c 2 t) (iblk m c 3 t) (ix2 p k) = val_main_v28 (F := Ideal) (argZ m c) (argLg m c) (argLb m c) (ix2 (row t p) k) := by
  rw [pay5_apply, ref_swish]
  simp only [zeros_above_z, read_z, read_lg, read_lb]

theorem row_y (t : Fin cfg0.N) (p : Fin 1088) (k : Fin 1024) :
    (yBlock m c t (ix2 p k) : EReal) = val_main_v29 (F := Ideal) (argYa m c) (argZ m c) (argLg m c) (argLb m c) (ix2 (row t p) k) := by
  have hk := k.isLt
  unfold val_main_v29
  by_cases h : k.val < 512
  · refine (dif_pos h).trans ?_
    refine Eq.trans ?_ (concatenate_pair_apply_left (t := S2176x1024) (s₁ := S2176x512) (s₂ := S2176x512) 1 _ _ _ (ix2 (row t p) k) rfl (ix2 (row t p) ⟨k.val, h⟩) (fun b => ?_)).symm
    · rw [zeros_above, ← read_ya]
      pointwise [k0_pay4]
    · match b with
      | ⟨0, _⟩ => rfl
      | ⟨1, _⟩ => rfl
  · refine (dif_neg h).trans ?_
    refine Eq.trans ?_ (concatenate_pair_apply_right (t := S2176x1024) (s₁ := S2176x512) (s₂ := S2176x512) 1 _ _ _ (ix2 (row t p) k) rfl rfl (ix2 (row t p) ⟨k.val - 512, by omega⟩) (fun b hb => ?_) ?_).symm
    · exact row_swish m c t p ⟨k.val - 512, by omega⟩
    · match b with
      | ⟨0, _⟩ => rfl
      | ⟨1, _⟩ => exact absurd rfl hb
    · show k.val - 512 + 512 = k.val
      omega

theorem row_product (t : Fin cfg0.N) (p : Fin 1088) (k : Fin 1024) :
    k0_pay1 (F := Ideal) (yBlock m c t) (iblk m c 4 t) zeroRows (ix2 p k)
      = val_main_v30 (F := Ideal) (argYa m c) (argZ m c) (argLg m c) (argLb m c) (argW m c) (ix2 (row t p) k) := by
  rw [pay1_apply, ref_product]
  exact Finset.sum_congr rfl fun j _ => congrArg₂ (· * ·) (row_y m c t p j) (read_w m c t j k)

theorem row_residual (t : Fin cfg0.N) (p : Fin 1088) (k : Fin 1024) :
    k0_pay2 (F := Ideal) (yBlock m c t) (iblk m c 4 t) zeroRows (iblk m c 5 t) (iblk m c 6 t) (ix2 p k)
      = val_main_v43 (F := Ideal) (argYa m c) (argZ m c) (argLg m c) (argLb m c) (argW m c) (argH m c) (argG2 m c) (ix2 (row t p) k) := by
  rw [pay2_apply, ref_residual]
  simp only [row_product, read_h, read_g2, zeros_above_h]

theorem row_normed (t : Fin cfg0.N) (p : Fin 1088) (k : Fin 1024) :
    k0_pay3 (F := Ideal) (yBlock m c t) (iblk m c 4 t) zeroRows (iblk m c 5 t) (iblk m c 6 t) (iblk m c 7 t) (ix2 p k)
      = val_main_v57 (F := Ideal) (argYa m c) (argZ m c) (argLg m c) (argLb m c) (argW m c) (argH m c) (argG2 m c) (argG3 m c) (ix2 (row t p) k) := by
  rw [pay3_apply, ref_normed]
  simp only [row_residual, read_g3]

/-! ## The four results -/

theorem array8 : (dats m 0 c).arrAt 8 cfg0.N = val_main_v44 (F := Ideal) (argYa m c) (argZ m c) (argLg m c) (argLb m c) := by
  refine (dats m 0 c).arrAt_eq_of_covers 8 _ (by decide +kernel) fun t hf y => ?_
  obtain ⟨p, k, rfl⟩ : ∃ (p : Fin 1088) (k : Fin 1024), y = ix2 p k := ⟨y 0, y 1, eq_ix2 y⟩
  blk_simp
  rw [after0_8]
  refine ((after8 m c t p k).trans (row_y m c t p k)).trans ?_
  have e : (win0_8.blk t).view.emb (ix2 p k) = ix2 (row t p) k := by
    blk_ext [row, index_8]
  rw [e]
  rfl

theorem array9 : (dats m 0 c).arrAt 9 cfg0.N = val_main_v30 (F := Ideal) (argYa m c) (argZ m c) (argLg m c) (argLb m c) (argW m c) := by
  refine (dats m 0 c).arrAt_eq_of_covers 9 _ (by decide +kernel) fun t hf y => ?_
  obtain ⟨p, k, rfl⟩ : ∃ (p : Fin 1088) (k : Fin 1024), y = ix2 p k := ⟨y 0, y 1, eq_ix2 y⟩
  blk_simp
  rw [after0_9]
  refine ((after9 m c t p k).trans (row_product m c t p k)).trans ?_
  have e : (win0_9.blk t).view.emb (ix2 p k) = ix2 (row t p) k := by
    blk_ext [row, index_9]
  rw [e]

theorem array10 : (dats m 0 c).arrAt 10 cfg0.N = val_main_v43 (F := Ideal) (argYa m c) (argZ m c) (argLg m c) (argLb m c) (argW m c) (argH m c) (argG2 m c) := by
  refine (dats m 0 c).arrAt_eq_of_covers 10 _ (by decide +kernel) fun t hf y => ?_
  obtain ⟨p, k, rfl⟩ : ∃ (p : Fin 1088) (k : Fin 1024), y = ix2 p k := ⟨y 0, y 1, eq_ix2 y⟩
  blk_simp
  rw [after0_10]
  refine ((after10 m c t p k).trans (row_residual m c t p k)).trans ?_
  have e : (win0_10.blk t).view.emb (ix2 p k) = ix2 (row t p) k := by
    blk_ext [row, index_10]
  rw [e]

theorem array11 : (dats m 0 c).arrAt 11 cfg0.N
    = val_main_v57 (F := Ideal) (argYa m c) (argZ m c) (argLg m c) (argLb m c) (argW m c) (argH m c) (argG2 m c) (argG3 m c) := by
  refine (dats m 0 c).arrAt_eq_of_covers 11 _ (by decide +kernel) fun t hf y => ?_
  obtain ⟨p, k, rfl⟩ : ∃ (p : Fin 1088) (k : Fin 1024), y = ix2 p k := ⟨y 0, y 1, eq_ix2 y⟩
  blk_simp
  rw [after0_11]
  refine ((after11 m c t p k).trans (row_normed m c t p k)).trans ?_
  have e : (win0_11.blk t).view.emb (ix2 p k) = ix2 (row t p) k := by
    blk_ext [row, index_11]
  rw [e]

end Cert.OutFwd
end
end
-- ==== Proof.MixReads.lean ====
module

public import proofs.«01_k».proof.Proof.Gen.Kernel9Ideal.Loops
public import proofs.«01_k».proof.Proof.Holds
public import Idealize.ShloMosaic.Lib.Tactic
public import Idealize.ShloMosaic.Lib.Pipeline.Kit

@[expose] public section

set_option maxRecDepth 16384

noncomputable section

namespace Cert.MixFwd

open Cert.Kernel9Ideal Cert.Kernel9Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.ConvBwd (Rows behind inp prod sig1 tapRows tapFold)

variable {F : FTy → Type} [FloatOps F]

local notation "𝕄" => MT nD τ sig Unit (Elt F) ℕ (UR sig nD τ) ℕ

/-- The view's contents, row by row. -/
def Reads {e : EltTy} {n : ℕ} (v : View sig .tc .vmem (⟨2, ![n, 128]⟩ : Shape) e) (f : BufTy.Contents (Elt F) v.ty) (U : ℕ → Fin 128 → Elt F e) : Prop :=
  ∀ (r : Fin n) (l : Fin 128), v.read (Elt F) f (ix2 r l) = U r.val l

/-- Shifted copies: slice `g` of the view holds the rows of `U` from row `g` on, for the slices in `P`. -/
def Shifted (P : ℕ → Prop) {n : ℕ} (v : View sig .tc .vmem (⟨3, ![8, n, 128]⟩ : Shape) .f32) (f : BufTy.Contents (Elt F) v.ty) (U : Rows F) : Prop :=
  ∀ (g : Fin 8) (r : Fin n) (l : Fin 128), P g.val → v.read (Elt F) f (ix3 g r l) = U (g.val + r.val) l

/-- The whole buffer, with contents that satisfy `P`. -/
def Holds (c : Dev nD) {s : Shape} {e : EltTy} (m : Memref sig .tc .vmem s e) (P : BufTy.Contents (Elt F) m.view.ty → Prop) : sProp 𝕄 :=
  iprop(∃ f, ⌜P f⌝ ∗ (m.view.loc (c : Thread nD τ) ↦[m.view.set]{fullShare} f))

/-- A load of `m` whole rows from row `b` on. -/
theorem load_rows {n m : ℕ} (v : View sig .tc .vmem (⟨2, ![n, 128]⟩ : Shape) .f32) (f : BufTy.Contents (Elt F) v.ty) (U : Rows F) (hU : Reads v f U)
    {off : Fin 2 → ℕ} {b : ℕ} (inb : ∀ a, off a + (![m, 128] : Fin 2 → ℕ) a ≤ (⟨2, ![n, 128]⟩ : Shape).size a) (h : off = ![b, 0]) (r : Fin m) (l : Fin 128) :
    v.readAt (Elt F) (Rect.unit (s := ⟨2, ![n, 128]⟩) off ![m, 128] inb).toLoadRect f (ix2 r l) = U (b + r.val) l := by
  subst h
  have hb : b + m ≤ n := inb 0
  have := hU ⟨b + r.val, by omega⟩ l
  rw [← this]
  refine congrArg (v.read (Elt F) f) (funext fun a => Fin.ext ?_)
  match a with
  | ⟨0, _⟩ => show b + 1 * r.val = b + r.val; omega
  | ⟨1, _⟩ => show 0 + 1 * l.val = l.val; omega

/-- A load of `m` rows of one slice of the shifted copies. -/
theorem load_shifted {P : ℕ → Prop} {n m : ℕ} (v : View sig .tc .vmem (⟨3, ![8, n, 128]⟩ : Shape) .f32) (f : BufTy.Contents (Elt F) v.ty) (U : Rows F)
    (hU : Shifted P v f U) {off : Fin 3 → ℕ} {g b : ℕ} (inb : ∀ a, off a + (![1, m, 128] : Fin 3 → ℕ) a ≤ (⟨3, ![8, n, 128]⟩ : Shape).size a)
    (h : off = ![g, b, 0]) (hg : P g) (u : Fin 1) (r : Fin m) (l : Fin 128) :
    v.readAt (Elt F) (Rect.unit (s := ⟨3, ![8, n, 128]⟩) off ![1, m, 128] inb).toLoadRect f (ix3 u r l) = U (g + (b + r.val)) l := by
  subst h
  have hg8 : g + 1 ≤ 8 := inb 0
  have hb : b + m ≤ n := inb 1
  have hu := u.isLt
  have := hU ⟨g, by omega⟩ ⟨b + r.val, by omega⟩ l hg
  rw [← this]
  refine congrArg (v.read (Elt F) f) (funext fun a => Fin.ext ?_)
  match a with
  | ⟨0, _⟩ => show g + 1 * u.val = g; omega
  | ⟨1, _⟩ => show b + 1 * r.val = b + r.val; omega
  | ⟨2, _⟩ => show 0 + 1 * l.val = l.val; omega

/-- Storing rows over rows: the newest rows read the payload, the others what was there. -/
theorem reads_cons {e : EltTy} {n m : ℕ} (v : View sig .tc .vmem (⟨2, ![n, 128]⟩ : Shape) e) (f : BufTy.Contents (Elt F) v.ty)
    {off : Fin 2 → ℕ} {b : ℕ} (inb : ∀ a, off a + (![m, 128] : Fin 2 → ℕ) a ≤ (⟨2, ![n, 128]⟩ : Shape).size a)
    (w : (Rect.unit (s := ⟨2, ![n, 128]⟩) off ![m, 128] inb).shape.Idx → Elt F e) (L : List (View.Piece (Elt F) (⟨2, ![n, 128]⟩ : Shape) e))
    (h : off = ![b, 0]) (U : ℕ → Fin 128 → Elt F e)
    (hw : ∀ (r : Fin m) (l : Fin 128), w (ix2 r l) = U (b + r.val) l) (r : Fin n) (l : Fin 128)
    (hL : r.val < b ∨ b + m ≤ r.val → v.read (Elt F) (v.writes (Elt F) f L) (ix2 r l) = U r.val l) :
    v.read (Elt F) (v.writes (Elt F) f (⟨Rect.unit off ![m, 128] inb, w⟩ :: L)) (ix2 r l) = U r.val l := by
  by_cases hr : r.val < b ∨ b + m ≤ r.val
  · rw [View.read_writes_cons_rows_of_not_mem (o := b) (W := m) v f inb w L (ix2 r l) h rfl hr]
    exact hL hr
  · rw [View.read_writes_cons_rows_of_mem (o := b) v f inb w L (ix2 r l) (ix2 (⟨r.val - b, by omega⟩ : Fin m) l) h
      (show r.val = b + (r.val - b) by omega) rfl]
    rw [hw]
    exact congrArg (U · l) (show b + (r.val - b) = r.val by omega)

/-- Storing one slice of the shifted copies: it holds the rows from its number on, the others what was there. -/
theorem shifted_cons {n : ℕ} (v : View sig .tc .vmem (⟨3, ![8, n, 128]⟩ : Shape) .f32) (f : BufTy.Contents (Elt F) v.ty)
    {off : Fin 3 → ℕ} {g : ℕ} (inb : ∀ a, off a + (![1, n, 128] : Fin 3 → ℕ) a ≤ (⟨3, ![8, n, 128]⟩ : Shape).size a)
    (w : (Rect.unit (s := ⟨3, ![8, n, 128]⟩) off ![1, n, 128] inb).shape.Idx → F .f32) (L : List (View.Piece (Elt F) (⟨3, ![8, n, 128]⟩ : Shape) .f32))
    (h : off = ![g, 0, 0]) (U : Rows F)
    (hw : ∀ (u : Fin 1) (r : Fin n) (l : Fin 128), w (ix3 u r l) = U (g + r.val) l) (a : Fin 8) (r : Fin n) (l : Fin 128)
    (hL : a.val ≠ g → v.read (Elt F) (v.writes (Elt F) f L) (ix3 a r l) = U (a.val + r.val) l) :
    v.read (Elt F) (v.writes (Elt F) f (⟨Rect.unit off ![1, n, 128] inb, w⟩ :: L)) (ix3 a r l) = U (a.val + r.val) l := by
  by_cases ha : a.val = g
  · rw [View.read_writes_cons_unit_of_mem v f inb w L (ix3 a r l) (ix3 (0 : Fin 1) r l) h (fun x => by
      match x with
      | ⟨0, _⟩ => show a.val = g + 0; omega
      | ⟨1, _⟩ => show r.val = 0 + r.val; omega
      | ⟨2, _⟩ => show l.val = 0 + l.val; omega), hw, ha]
  · refine Eq.trans ?_ (hL ha)
    exact View.read_writes_cons_unit_of_not_mem v f inb w L (ix3 a r l) h 0 (by
        show a.val < g ∨ g + 1 ≤ a.val; omega)

/-- The 31 taps in the order in which they are added, each with the distance of its row behind the 32 rows of zeros. -/
def taps : List (ℕ × ℕ) :=
  [0, 1, 2, 3, 4, 5, 6, 7, 8, 9, 10, 11, 12, 13, 14, 15, 16, 17, 18, 19, 20, 21, 22, 23, 24, 25, 26, 27, 28, 29, 30].map fun k => (k, k + 2)

/-- The gated result of the three-tap convolution. -/
def gatedRows (V1 V6 U : Rows F) : ℕ → Fin 128 → F .bf16 := fun r l =>
  FloatOps.truncf .bf16 bitsLt_bf16_f32 (FloatOps.mulf (V1 r l)
    (FloatOps.addf (FloatOps.addf (FloatOps.mulf (V6 0 l) (U (r + 30) l)) (FloatOps.mulf (V6 1 l) (U (r + 31) l))) (FloatOps.mulf (V6 2 l) (U (r + 32) l))))

/-- The result of the 31-tap convolution with its bias. -/
def convRows (V7 V8 U : Rows F) : Rows F := fun r l => FloatOps.addf (tapRows V7 U taps r l) (V8 0 l)

theorem rows_at2 {k b s : ℕ} : 64 * k + b + s = 64 * k + (s + b) := by omega
theorem rows_at3 {k b s g : ℕ} : g + (64 * k + (s + b)) = 64 * k + (s + (b + g)) := by omega

/-- A word that counts eights from `a` on, below 128. -/
theorem ofNat8 (w : BitVec 32) (a n : ℕ) (hn : a + 8 * n ≤ 128) (h : ∃ r : Fin n, w = BitVec.ofNat 32 (a + 8 * r.val)) :
    ∃ r : Fin n, w = BitVec.ofNat 32 (a + 8 * r.val) ∧ a + 8 * r.val = w.toNat := by
  obtain ⟨r, rfl⟩ := h
  exact ⟨r, rfl, by rw [BitVec.toNat_ofNat]; omega⟩

section Offsets
variable (k : Fin k0_t4_loop.trips) (w : BitVec 32)

theorem off9 (h : ∃ r : Fin 4, w = BitVec.ofNat 32 (8 * r.val)) : k0_off9 k w = ![2, 64 * k.val + w.toNat, 0] := by
  obtain ⟨r, rfl, e⟩ := ofNat8 w 0 4 (by omega) (by simpa only [Nat.zero_add] using h)
  rw [Nat.zero_add] at e ⊢
  rw [k0_off9_eq k r, ← e]

theorem off10 (h : ∃ r : Fin 4, w = BitVec.ofNat 32 (8 * r.val)) : k0_off10 k w = ![3, 64 * k.val + w.toNat, 0] := by
  obtain ⟨r, rfl, e⟩ := ofNat8 w 0 4 (by omega) (by simpa only [Nat.zero_add] using h)
  rw [Nat.zero_add] at e ⊢
  rw [k0_off10_eq k r, ← e]

theorem off11 (h : ∃ r : Fin 4, w = BitVec.ofNat 32 (8 * r.val)) : k0_off11 k w = ![4, 64 * k.val + w.toNat, 0] := by
  obtain ⟨r, rfl, e⟩ := ofNat8 w 0 4 (by omega) (by simpa only [Nat.zero_add] using h)
  rw [Nat.zero_add] at e ⊢
  rw [k0_off11_eq k r, ← e]

theorem off12 (h : ∃ r : Fin 4, w = BitVec.ofNat 32 (8 * r.val)) : k0_off12 k w = ![5, 64 * k.val + w.toNat, 0] := by
  obtain ⟨r, rfl, e⟩ := ofNat8 w 0 4 (by omega) (by simpa only [Nat.zero_add] using h)
  rw [Nat.zero_add] at e ⊢
  rw [k0_off12_eq k r, ← e]

theorem off13 (h : ∃ r : Fin 4, w = BitVec.ofNat 32 (8 * r.val)) : k0_off13 k w = ![6, 64 * k.val + w.toNat, 0] := by
  obtain ⟨r, rfl, e⟩ := ofNat8 w 0 4 (by omega) (by simpa only [Nat.zero_add] using h)
  rw [Nat.zero_add] at e ⊢
  rw [k0_off13_eq k r, ← e]

theorem off14 (h : ∃ r : Fin 4, w = BitVec.ofNat 32 (8 * r.val)) : k0_off14 k w = ![7, 64 * k.val + w.toNat, 0] := by
  obtain ⟨r, rfl, e⟩ := ofNat8 w 0 4 (by omega) (by simpa only [Nat.zero_add] using h)
  rw [Nat.zero_add] at e ⊢
  rw [k0_off14_eq k r, ← e]

theorem off15 (h : ∃ r : Fin 4, w = BitVec.ofNat 32 (8 + 8 * r.val)) : k0_off15 k w = ![64 * k.val + w.toNat, 0] := by
  obtain ⟨r, rfl, e⟩ := ofNat8 w 8 4 (by omega) h
  rw [k0_off15_eq k r, ← e, show 64 * k.val + 8 * r.val + 8 = 64 * k.val + (8 + 8 * r.val) by omega]

theorem off16 (h : ∃ r : Fin 3, w = BitVec.ofNat 32 (8 + 8 * r.val)) : k0_off16 k w = ![1, 64 * k.val + w.toNat, 0] := by
  obtain ⟨r, rfl, e⟩ := ofNat8 w 8 3 (by omega) h
  rw [k0_off16_eq k r, ← e, show 64 * k.val + 8 * r.val + 8 = 64 * k.val + (8 + 8 * r.val) by omega]

end Offsets

end Cert.MixFwd

end

end
-- ==== Proof.MixLoops.lean ====
module

public import proofs.«01_k».proof.Proof.MixReads

@[expose] public section

set_option maxRecDepth 16384

noncomputable section

namespace Cert.MixFwd

open Cert.Kernel9Ideal Cert.Kernel9Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.ConvBwd (Rows behind inp prod sig1 tapRows tapFold)

open Idealize.ShloMosaic.ValueIdx (shapeCast_1ab_ab_apply shapeCast_ab_1ab_apply)

variable {F : FTy → Type} [FloatOps F]

/-! The four loops: two fills, the three-tap convolution and the 31-tap convolution. -/

variable (c : Dev nD) (i : grid0.Coords)
variable (arg1 : Memref sig .tc .vmem S2176x128 .f32) (harg1 : arg1.IsWhole)
  (arg2 : Memref sig .tc .vmem S2176x128 .f32) (harg2 : arg2.IsWhole)
  (arg3 : Memref sig .tc .vmem S2176x128 .f32) (harg3 : arg3.IsWhole)
  (arg4 : Memref sig .tc .vmem S2176x128 .f32) (harg4 : arg4.IsWhole)
  (arg5 : Memref sig .tc .vmem S2176x128 .f32) (harg5 : arg5.IsWhole)
  (arg6 : Memref sig .tc .vmem S3x128 .f32) (harg6 : arg6.IsWhole)
  (arg7 : Memref sig .tc .vmem S31x128 .f32) (harg7 : arg7.IsWhole)
  (arg8 : Memref sig .tc .vmem S1x128 .f32) (harg8 : arg8.IsWhole)
  (arg9 : Memref sig .tc .vmem S2176x128 .bf16) (harg9 : arg9.IsWhole)
  (arg10 : Memref sig .tc .vmem S2176x128 .f32) (harg10 : arg10.IsWhole)
  (arg11 : Memref sig .tc .vmem S2216x128 .f32) (harg11 : arg11.IsWhole)
  (arg12 : Memref sig .tc .vmem S8x2208x128 .f32) (harg12 : arg12.IsWhole)
variable (V1 V2 V3 V4 V5 V6 V7 V8 U : Rows F)

/-- The first fill: the products behind the 32 rows of zeros. -/
theorem t1_fill (X2 : BufTy.Contents (Elt F) arg2.view.ty) (X3 : BufTy.Contents (Elt F) arg3.view.ty) (h2 : Reads arg2.view X2 V2) (h3 : Reads arg3.view X3 V3)
    (f : BufTy.Contents (Elt F) arg11.view.ty) (L : List (View.Piece (Elt F) S2216x128 .f32)) (r : Fin 2216) (l : Fin 128) (n : ℕ) (hn : n ≤ k0_t1_loop.trips)
    (hL : ¬ (32 ≤ r.val ∧ r.val < 64 * n + 32) → arg11.view.read (Elt F) (arg11.view.writes (Elt F) f L) (ix2 r l) = behind (prod V2 V3) r.val l) :
    arg11.view.read (Elt F) (arg11.view.writes (Elt F) f (pb_k0_t1 (F := F) Variants.none c none i arg1 harg1 arg2 harg2 arg3 harg3 arg4 harg4 arg5 harg5 arg6 harg6 arg7 harg7 arg8 harg8 arg9 harg9 arg10 harg10 arg11 harg11 arg12 harg12 X2 X3 n ++ L)) (ix2 r l) = behind (prod V2 V3) r.val l := by
  induction n with
  | zero => exact hL (by omega)
  | succ n ih =>
    have e := pb_k0_t1_succ (F := F) Variants.none c none i arg1 harg1 arg2 harg2 arg3 harg3 arg4 harg4 arg5 harg5 arg6 harg6 arg7 harg7 arg8 harg8 arg9 harg9 arg10 harg10 arg11 harg11 arg12 harg12 X2 X3 ⟨n, hn⟩
    have h34 : k0_t1_loop.trips ≤ 34 := k0_t1_abs.2.1
    generalize hk : (⟨n, hn⟩ : Fin k0_t1_loop.trips) = k at e
    have hkn : k.val = n := by rw [← hk]
    rw [hkn] at e
    rw [e]
    unfold tripL_k0_t1 trip_k0_t1
    dsimp only
    sl_unfold_run_names
    simp only [List.cons_append, List.nil_append]
    refine reads_cons (m := 64) (b := 64 * k.val + 32) _ _ _ _ _ (k0_off2_eq k) _ ?_ r l fun h => ih (by omega) fun h' => hL (by omega)
    intro s l
    have A2 := fun inb => load_rows (m := 64) _ _ _ h2 inb (k0_off1_eq k)
    have A3 := fun inb => load_rows (m := 64) _ _ _ h3 inb (k0_off1_eq k)
    unfold_payloads
    simp only [pointwise, A2, A3]
    unfold behind prod
    rw [if_pos (by omega), show 64 * k.val + 32 + s.val - 32 = 64 * k.val + s.val by omega]

/-- The second fill: the gated values behind the 32 rows of zeros. -/
theorem t3_fill (X4 : BufTy.Contents (Elt F) arg4.view.ty) (X5 : BufTy.Contents (Elt F) arg5.view.ty) (h4 : Reads arg4.view X4 V4) (h5 : Reads arg5.view X5 V5)
    (f : BufTy.Contents (Elt F) arg11.view.ty) (L : List (View.Piece (Elt F) S2216x128 .f32)) (r : Fin 2216) (l : Fin 128) (n : ℕ) (hn : n ≤ k0_t3_loop.trips)
    (hL : ¬ (32 ≤ r.val ∧ r.val < 64 * n + 32) → arg11.view.read (Elt F) (arg11.view.writes (Elt F) f L) (ix2 r l) = behind (prod V4 (sig1 V5)) r.val l) :
    arg11.view.read (Elt F) (arg11.view.writes (Elt F) f (pb_k0_t3 (F := F) Variants.none c none i arg1 harg1 arg2 harg2 arg3 harg3 arg4 harg4 arg5 harg5 arg6 harg6 arg7 harg7 arg8 harg8 arg9 harg9 arg10 harg10 arg11 harg11 arg12 harg12 X4 X5 n ++ L)) (ix2 r l) = behind (prod V4 (sig1 V5)) r.val l := by
  induction n with
  | zero => exact hL (by omega)
  | succ n ih =>
    have e := pb_k0_t3_succ (F := F) Variants.none c none i arg1 harg1 arg2 harg2 arg3 harg3 arg4 harg4 arg5 harg5 arg6 harg6 arg7 harg7 arg8 harg8 arg9 harg9 arg10 harg10 arg11 harg11 arg12 harg12 X4 X5 ⟨n, hn⟩
    have h34 : k0_t3_loop.trips ≤ 34 := k0_t3_abs.2.1
    generalize hk : (⟨n, hn⟩ : Fin k0_t3_loop.trips) = k at e
    have hkn : k.val = n := by rw [← hk]
    rw [hkn] at e
    rw [e]
    unfold tripL_k0_t3 trip_k0_t3
    dsimp only
    sl_unfold_run_names
    simp only [List.cons_append, List.nil_append]
    refine reads_cons (m := 64) (b := 64 * k.val + 32) _ _ _ _ _ (k0_off8_eq k) _ ?_ r l fun h => ih (by omega) fun h' => hL (by omega)
    intro s l
    have A4 := fun inb => load_rows (m := 64) _ _ _ h4 inb (k0_off7_eq k)
    have A5 := fun inb => load_rows (m := 64) _ _ _ h5 inb (k0_off7_eq k)
    unfold_payloads
    simp only [pointwise, A4, A5]
    unfold behind prod sig1
    rw [if_pos (by omega), show 64 * k.val + 32 + s.val - 32 = 64 * k.val + s.val by omega]

/-- The rows the three-tap convolution's loop stores. -/
theorem t2_out (X1 : BufTy.Contents (Elt F) arg1.view.ty) (X6 : BufTy.Contents (Elt F) arg6.view.ty) (X11 : BufTy.Contents (Elt F) arg11.view.ty) (X12 : BufTy.Contents (Elt F) arg12.view.ty)
    (h1 : Reads arg1.view X1 V1) (h6 : Reads arg6.view X6 V6) (h11 : Reads arg11.view X11 U) (h12 : Shifted (6 ≤ ·) arg12.view X12 U)
    (f : BufTy.Contents (Elt F) arg9.view.ty) (r : Fin 2176) (l : Fin 128) (n : ℕ) (hn : n ≤ k0_t2_loop.trips)
    (hr : r.val < 64 * n) :
    arg9.view.read (Elt F) (arg9.view.writes (Elt F) f (pb_k0_t2 (F := F) Variants.none c none i arg1 harg1 arg2 harg2 arg3 harg3 arg4 harg4 arg5 harg5 arg6 harg6 arg7 harg7 arg8 harg8 arg9 harg9 arg10 harg10 arg11 harg11 arg12 harg12 X1 X6 X11 X12 n)) (ix2 r l) = gatedRows V1 V6 U r.val l := by
  induction n with
  | zero => omega
  | succ n ih =>
    have e := pb_k0_t2_succ (F := F) Variants.none c none i arg1 harg1 arg2 harg2 arg3 harg3 arg4 harg4 arg5 harg5 arg6 harg6 arg7 harg7 arg8 harg8 arg9 harg9 arg10 harg10 arg11 harg11 arg12 harg12 X1 X6 X11 X12 ⟨n, hn⟩
    have h34 : k0_t2_loop.trips ≤ 34 := k0_t2_abs.2.1
    generalize hk : (⟨n, hn⟩ : Fin k0_t2_loop.trips) = k at e
    have hkn : k.val = n := by rw [← hk]
    rw [hkn] at e
    rw [e]
    unfold tripL_k0_t2 trip_k0_t2
    dsimp only
    sl_unfold_run_names
    simp only [List.cons_append, List.nil_append]
    refine reads_cons (m := 64) (b := 64 * k.val) _ _ _ _ _ (k0_off3_eq k) _ ?_ r l fun h => ih (by omega) (by omega)
    intro s l
    have A1 := fun inb => load_rows (m := 64) _ _ _ h1 inb (k0_off3_eq k)
    have A11 := fun inb => load_rows (m := 64) _ _ _ h11 inb (k0_off6_eq k)
    have W0 := fun inb => load_rows (m := 1) _ _ _ h6 (off := ![0, 0]) inb rfl
    have W1 := fun inb => load_rows (m := 1) _ _ _ h6 (off := ![1, 0]) inb rfl
    have W2 := fun inb => load_rows (m := 1) _ _ _ h6 (off := ![2, 0]) inb rfl
    have S6 := fun inb => load_shifted (m := 64) _ _ _ h12 inb (k0_off4_eq k) (by decide)
    have S7 := fun inb => load_shifted (m := 64) _ _ _ h12 inb (k0_off5_eq k) (by decide)
    have e30 : 64 * k.val + s.val + 30 = 6 + (64 * k.val + 24 + s.val) := by omega
    have e31 : 64 * k.val + s.val + 31 = 7 + (64 * k.val + 24 + s.val) := by omega
    have e32 : 64 * k.val + s.val + 32 = 64 * k.val + 32 + s.val := by omega
    unfold gatedRows
    unfold_payloads
    simp only [pointwise, shapeCast_ab_1ab_apply, shapeCast_1ab_ab_apply, A1, A11, W0, W1, W2, S6, S7, e30, e31, e32, ↓reduceDIte, Nat.reduceEqDiff, OfNat.ofNat_ne_one, Fin.val_zero, Nat.add_zero]

set_option maxHeartbeats 4000000 in
/-- The rows a trip of the 31-tap convolution's loop stores. -/
theorem t4_trip (X7 : BufTy.Contents (Elt F) arg7.view.ty) (X8 : BufTy.Contents (Elt F) arg8.view.ty) (X11 : BufTy.Contents (Elt F) arg11.view.ty) (X12 : BufTy.Contents (Elt F) arg12.view.ty)
    (h7 : Reads arg7.view X7 V7) (h8 : Reads arg8.view X8 V8) (h11 : Reads arg11.view X11 U) (h12 : Shifted (1 ≤ ·) arg12.view X12 U)
    (f : BufTy.Contents (Elt F) arg10.view.ty) (L : List (View.Piece (Elt F) S2176x128 .f32)) (r : Fin 2176) (l : Fin 128) (k : Fin k0_t4_loop.trips)
    (hr : r.val < 64 * (k.val + 1))
    (hL : r.val < 64 * k.val → arg10.view.read (Elt F) (arg10.view.writes (Elt F) f L) (ix2 r l) = convRows V7 V8 U r.val l) :
    arg10.view.read (Elt F) (arg10.view.writes (Elt F) f (tripL_k0_t4 (F := F) Variants.none c none i arg1 harg1 arg2 harg2 arg3 harg3 arg4 harg4 arg5 harg5 arg6 harg6 arg7 harg7 arg8 harg8 arg9 harg9 arg10 harg10 arg11 harg11 arg12 harg12 X7 X8 X11 X12 k ++ L)) (ix2 r l) = convRows V7 V8 U r.val l := by
  unfold tripL_k0_t4 trip_k0_t4
  have A := fun w (hw : ∃ r : Fin 4, w = BitVec.ofNat 32 (8 + 8 * r.val)) inb => load_rows (m := 64) _ _ _ h11 inb (off15 k w hw)
  have S1 := fun w (hw : ∃ r : Fin 3, w = BitVec.ofNat 32 (8 + 8 * r.val)) inb => load_shifted (m := 64) _ _ _ h12 inb (off16 k w hw) (by decide)
  have S2 := fun w (hw : ∃ r : Fin 4, w = BitVec.ofNat 32 (8 * r.val)) inb => load_shifted (m := 64) _ _ _ h12 inb (off9 k w hw) (by decide)
  have S3 := fun w (hw : ∃ r : Fin 4, w = BitVec.ofNat 32 (8 * r.val)) inb => load_shifted (m := 64) _ _ _ h12 inb (off10 k w hw) (by decide)
  have S4 := fun w (hw : ∃ r : Fin 4, w = BitVec.ofNat 32 (8 * r.val)) inb => load_shifted (m := 64) _ _ _ h12 inb (off11 k w hw) (by decide)
  have S5 := fun w (hw : ∃ r : Fin 4, w = BitVec.ofNat 32 (8 * r.val)) inb => load_shifted (m := 64) _ _ _ h12 inb (off12 k w hw) (by decide)
  have S6 := fun w (hw : ∃ r : Fin 4, w = BitVec.ofNat 32 (8 * r.val)) inb => load_shifted (m := 64) _ _ _ h12 inb (off13 k w hw) (by decide)
  have S7 := fun w (hw : ∃ r : Fin 4, w = BitVec.ofNat 32 (8 * r.val)) inb => load_shifted (m := 64) _ _ _ h12 inb (off14 k w hw) (by decide)
  have W := fun b inb => load_rows (m := 1) _ _ _ h7 (off := ![b, 0]) (b := b) inb rfl
  have B := fun inb => load_rows (m := 1) _ _ _ h8 (off := ![0, 0]) inb rfl
  simp only [rows_at2, rows_at3] at A S1 S2 S3 S4 S5 S6 S7
  dsimp only
  sl_unfold_run_names
  simp only [List.cons_append, List.nil_append]
  refine reads_cons (m := 64) (b := 64 * k.val) _ _ _ _ _ (k0_off17_eq k) _ ?_ r l fun h => hL (by omega)
  intro s l
  unfold convRows
  unfold_payloads
  simp (disch := decide) only [pointwise, shapeCast_1ab_ab_apply, A, S1, S2, S3, S4, S5, S6, S7, W, B, BitVec.reduceToNat, Nat.reduceAdd,
    taps, List.map, tapRows, tapFold, Nat.add_assoc, ↓reduceDIte, Nat.reduceEqDiff, OfNat.ofNat_ne_one, Fin.val_zero, Nat.add_zero]

/-- The rows the 31-tap convolution's loop stores. -/
theorem t4_out (X7 : BufTy.Contents (Elt F) arg7.view.ty) (X8 : BufTy.Contents (Elt F) arg8.view.ty) (X11 : BufTy.Contents (Elt F) arg11.view.ty) (X12 : BufTy.Contents (Elt F) arg12.view.ty)
    (h7 : Reads arg7.view X7 V7) (h8 : Reads arg8.view X8 V8) (h11 : Reads arg11.view X11 U) (h12 : Shifted (1 ≤ ·) arg12.view X12 U)
    (f : BufTy.Contents (Elt F) arg10.view.ty) (r : Fin 2176) (l : Fin 128) (n : ℕ) (hn : n ≤ k0_t4_loop.trips)
    (hr : r.val < 64 * n) :
    arg10.view.read (Elt F) (arg10.view.writes (Elt F) f (pb_k0_t4 (F := F) Variants.none c none i arg1 harg1 arg2 harg2 arg3 harg3 arg4 harg4 arg5 harg5 arg6 harg6 arg7 harg7 arg8 harg8 arg9 harg9 arg10 harg10 arg11 harg11 arg12 harg12 X7 X8 X11 X12 n)) (ix2 r l) = convRows V7 V8 U r.val l := by
  induction n with
  | zero => omega
  | succ n ih =>
    have e := pb_k0_t4_succ (F := F) Variants.none c none i arg1 harg1 arg2 harg2 arg3 harg3 arg4 harg4 arg5 harg5 arg6 harg6 arg7 harg7 arg8 harg8 arg9 harg9 arg10 harg10 arg11 harg11 arg12 harg12 X7 X8 X11 X12 ⟨n, hn⟩
    dsimp only at e
    rw [e]
    exact t4_trip c i arg1 harg1 arg2 harg2 arg3 harg3 arg4 harg4 arg5 harg5 arg6 harg6 arg7 harg7 arg8 harg8 arg9 harg9 arg10 harg10 arg11 harg11 arg12 harg12 V7 V8 U X7 X8 X11 X12 h7 h8 h11 h12 f _ r l ⟨n, hn⟩ hr fun h => ih (by omega) h

end Cert.MixFwd

end

end
-- ==== Proof.MixBody.lean ====
module

public import proofs.«01_k».proof.Proof.MixLoops

@[expose] public section

set_option maxRecDepth 16384

noncomputable section

namespace Cert.MixFwd

open Cert.Kernel9Ideal Cert.Kernel9Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.ConvBwd (Rows behind inp prod sig1 tapRows tapFold)

open Idealize.ShloMosaic.ValueIdx (shapeCast_1ab_ab_apply shapeCast_ab_1ab_apply)

variable {F : FTy → Type} [FloatOps F]

local notation "𝕄" => MT nD τ sig Unit (Elt F) ℕ (UR sig nD τ) ℕ

variable (c : Dev nD) (E : Set ℕ) (i : grid0.Coords)
variable (arg1 : Memref sig .tc .vmem S2176x128 .f32) (harg1 : arg1.IsWhole)
  (arg2 : Memref sig .tc .vmem S2176x128 .f32) (harg2 : arg2.IsWhole)
  (arg3 : Memref sig .tc .vmem S2176x128 .f32) (harg3 : arg3.IsWhole)
  (arg4 : Memref sig .tc .vmem S2176x128 .f32) (harg4 : arg4.IsWhole)
  (arg5 : Memref sig .tc .vmem S2176x128 .f32) (harg5 : arg5.IsWhole)
  (arg6 : Memref sig .tc .vmem S3x128 .f32) (harg6 : arg6.IsWhole)
  (arg7 : Memref sig .tc .vmem S31x128 .f32) (harg7 : arg7.IsWhole)
  (arg8 : Memref sig .tc .vmem S1x128 .f32) (harg8 : arg8.IsWhole)
  (arg9 : Memref sig .tc .vmem S2176x128 .bf16) (harg9 : arg9.IsWhole)
  (arg10 : Memref sig .tc .vmem S2176x128 .f32) (harg10 : arg10.IsWhole)
  (arg11 : Memref sig .tc .vmem S2216x128 .f32) (harg11 : arg11.IsWhole)
  (arg12 : Memref sig .tc .vmem S8x2208x128 .f32) (harg12 : arg12.IsWhole)
variable (V1 V2 V3 V4 V5 V6 V7 V8 : Rows F)

/-- The first part: the gated three-tap convolution, and the second branch's gated values behind the zeros. -/
theorem stage7 (rest : FVec F S2208x128 .f32 → Prog (TpuEff nD τ sig (Elt F) Λ₀ .tc) PUnit) (Q : PUnit → sProp 𝕄) :
    iprop((Holds c arg1 (Reads arg1.view · V1) ∗ Holds c arg2 (Reads arg2.view · V2) ∗ Holds c arg3 (Reads arg3.view · V3) ∗ Holds c arg4 (Reads arg4.view · V4) ∗ Holds c arg5 (Reads arg5.view · V5) ∗ Holds c arg6 (Reads arg6.view · V6) ∗ Holds c arg9 (fun _ => True) ∗ Holds c arg11 (fun _ => True) ∗ Holds c arg12 (fun _ => True))
      ∗ (∀ v19, ⌜∀ (r : Fin 2208) (l : Fin 128), v19 (ix2 r l) = behind (prod V4 (sig1 V5)) (1 + r.val) l⌝ -∗ (Holds c arg1 (Reads arg1.view · V1) ∗ Holds c arg2 (Reads arg2.view · V2) ∗ Holds c arg3 (Reads arg3.view · V3) ∗ Holds c arg4 (Reads arg4.view · V4) ∗ Holds c arg5 (Reads arg5.view · V5) ∗ Holds c arg6 (Reads arg6.view · V6) ∗ Holds c arg9 (Reads arg9.view · (gatedRows V1 V6 (behind (prod V2 V3)))) ∗ Holds c arg11 (Reads arg11.view · (behind (prod V4 (sig1 V5)))) ∗ Holds c arg12 (fun _ => True)) -∗ wp frame (wpE (defs₀ (F := F)) Variants.none c none) E (rest v19) Q))
     ⊢ wp frame (wpE (defs₀ (F := F)) Variants.none c none) E (k0_part7 i arg1 harg1 arg2 harg2 arg3 harg3 arg4 harg4 arg5 harg5 arg6 harg6 arg7 harg7 arg8 harg8 arg9 harg9 arg10 harg10 arg11 harg11 arg12 harg12 >>= rest) Q := by
  simp only [k0_part7_eq_skeleton]
  unfold k0_part7_skel Holds
  iintro ⟨⟨⟨%f1, %h1, H1⟩, ⟨%f2, %h2, H2⟩, ⟨%f3, %h3, H3⟩, ⟨%f4, %h4, H4⟩, ⟨%f5, %h5, H5⟩, ⟨%f6, %h6, H6⟩, ⟨%f9, %h9, H9⟩, ⟨%f11, %h11, H11⟩, ⟨%f12, %h12, H12⟩⟩, Hk⟩
  simp only [bind_assoc]
  have t34 : k0_t1_loop.trips = 34 := by decide
  have u34 : k0_t2_loop.trips = 34 := by decide
  have w34 : k0_t3_loop.trips = 34 := by decide
  have k11 : Reads arg11.view (arg11.view.writes (Elt F) f11 (pb_k0_t1 (F := F) Variants.none c none i arg1 harg1 arg2 harg2 arg3 harg3 arg4 harg4 arg5 harg5 arg6 harg6 arg7 harg7 arg8 harg8 arg9 harg9 arg10 harg10 arg11 harg11 arg12 harg12 f2 f3 k0_t1_loop.trips ++
      [⟨Rect.unit (s := S2216x128) ![2208, 0] S8x128.size inb_S2216x128_S8x128_2208_0, k0_pay12 (F := F)⟩,
        ⟨Rect.unit (s := S2216x128) ![0, 0] S32x128.size inb_S2216x128_S32x128_0_0, k0_pay11 (F := F)⟩])) (behind (prod V2 V3)) := by
    intro r l
    refine t1_fill c i arg1 harg1 arg2 harg2 arg3 harg3 arg4 harg4 arg5 harg5 arg6 harg6 arg7 harg7 arg8 harg8 arg9 harg9 arg10 harg10 arg11 harg11 arg12 harg12 V2 V3 f2 f3 h2 h3 f11 _ r l _ le_rfl fun h => ?_
    refine reads_cons (m := 8) (b := 2208) _ _ _ _ _ rfl _ ?_ r l fun h' => reads_cons (m := 32) (b := 0) _ _ _ _ _ rfl _ ?_ r l fun h'' => ?_
    · intro s l; unfold behind; rw [if_neg (by omega)]; unfold_payloads; simp only [pointwise]
    · intro s l; unfold behind; rw [if_neg (by omega)]; unfold_payloads; simp only [pointwise]
    · omega
  have refill (L : List (View.Piece (Elt F) S2216x128 .f32)) (hL : Reads arg11.view (arg11.view.writes (Elt F) f11 L) (behind (prod V2 V3))) :
      Reads arg11.view (arg11.view.writes (Elt F) f11 (pb_k0_t3 (F := F) Variants.none c none i _ harg1 _ harg2 _ harg3 _ harg4 _ harg5 _ harg6
        _ harg7 _ harg8 _ harg9 _ harg10 _ harg11 _ harg12 f4 f5 k0_t3_loop.trips ++ L)) (behind (prod V4 (sig1 V5))) := by
    intro r l
    refine t3_fill c i _ _ _ _ _ _ _ _ _ _ _ _ _ _ _ _ _ _ _ _ _ _ _ _ V4 V5 f4 f5 h4 h5 f11 _ r l _ le_rfl fun h => (hL r l).trans ?_
    unfold behind; rw [if_neg (by omega), if_neg (by omega)]
  sl_exec
  sl_unfold_run_names
  iapply Hk
  · ipureintro
    intro r l
    exact load_rows (m := 2208) _ _ _ (refill _ k11) _ rfl r l
  isplitl [H1]; · iexists _; isplitr [H1]; rotate_left; · iexact H1
                  ipureintro; exact h1
  isplitl [H2]; · iexists _; isplitr [H2]; rotate_left; · iexact H2
                  ipureintro; exact h2
  isplitl [H3]; · iexists _; isplitr [H3]; rotate_left; · iexact H3
                  ipureintro; exact h3
  isplitl [H4]; · iexists _; isplitr [H4]; rotate_left; · iexact H4
                  ipureintro; exact h4
  isplitl [H5]; · iexists _; isplitr [H5]; rotate_left; · iexact H5
                  ipureintro; exact h5
  isplitl [H6]; · iexists _; isplitr [H6]; rotate_left; · iexact H6
                  ipureintro; exact h6
  isplitl [H9]; · iexists _; isplitr [H9]; rotate_left; · iexact H9
                  ipureintro; intro r l
                  refine t2_out c i _ _ _ _ _ _ _ _ _ _ _ _ _ _ _ _ _ _ _ _ _ _ _ _ V1 V6 (behind (prod V2 V3)) f1 f6 _ _ h1 h6 k11 ?_ f9 r l k0_t2_loop.trips le_rfl (by omega)
                  intro g r l hg
                  refine shifted_cons (n := 2208) (g := 7) _ _ _ _ _ rfl _ ?_ g r l fun h => ?_
                  · intro u s l
                    unfold_payloads
                    simp only [pointwise, shapeCast_ab_1ab_apply]
                    exact load_rows (m := 2208) _ _ _ k11 _ rfl s l
                  refine shifted_cons (n := 2208) (g := 6) _ _ _ _ _ rfl _ ?_ g r l fun h' => ?_
                  · intro u s l
                    unfold_payloads
                    simp only [pointwise, shapeCast_ab_1ab_apply]
                    exact load_rows (m := 2208) _ _ _ k11 _ rfl s l
                  omega
  isplitl [H11]; · iexists _; isplitr [H11]; rotate_left; · iexact H11
                   ipureintro; exact refill _ k11
  iexists _; isplitr [H12]; rotate_left; · iexact H12
  ipureintro; trivial

/-- The body of the forward convolution: from its inputs it leaves the gated three-tap convolution and the 31-tap convolution. -/
theorem body (Q : PUnit → sProp 𝕄) :
    iprop((Holds c arg1 (Reads arg1.view · V1) ∗ Holds c arg2 (Reads arg2.view · V2) ∗ Holds c arg3 (Reads arg3.view · V3) ∗ Holds c arg4 (Reads arg4.view · V4) ∗ Holds c arg5 (Reads arg5.view · V5) ∗ Holds c arg6 (Reads arg6.view · V6) ∗ Holds c arg7 (Reads arg7.view · V7) ∗ Holds c arg8 (Reads arg8.view · V8) ∗ Holds c arg9 (fun _ => True) ∗ Holds c arg10 (fun _ => True) ∗ Holds c arg11 (fun _ => True) ∗ Holds c arg12 (fun _ => True)) ∗ ((Holds c arg1 (Reads arg1.view · V1) ∗ Holds c arg2 (Reads arg2.view · V2) ∗ Holds c arg3 (Reads arg3.view · V3) ∗ Holds c arg4 (Reads arg4.view · V4) ∗ Holds c arg5 (Reads arg5.view · V5) ∗ Holds c arg6 (Reads arg6.view · V6) ∗ Holds c arg7 (Reads arg7.view · V7) ∗ Holds c arg8 (Reads arg8.view · V8) ∗ Holds c arg9 (Reads arg9.view · (gatedRows V1 V6 (behind (prod V2 V3)))) ∗ Holds c arg10 (Reads arg10.view · (convRows V7 V8 (behind (prod V4 (sig1 V5))))) ∗ Holds c arg11 (fun _ => True) ∗ Holds c arg12 (fun _ => True)) -∗ Q ⟨⟩))
     ⊢ wp frame (wpE (defs₀ (F := F)) Variants.none c none) E (cc0_mix_conv_fwd i _ harg1 _ harg2 _ harg3 _ harg4 _ harg5 _ harg6
        _ harg7 _ harg8 _ harg9 _ harg10 _ harg11 _ harg12) Q := by
  rw [cc0_mix_conv_fwd_eq_skeleton]
  unfold cc0_mix_conv_fwd_skel
  iintro ⟨⟨H1, H2, H3, H4, H5, H6, H7, H8, H9, H10, H11, H12⟩, Hk⟩
  iapply stage7 (V1 := V1) (V2 := V2) (V3 := V3) (V4 := V4) (V5 := V5) (V6 := V6)
  isplitl [H1 H2 H3 H4 H5 H6 H9 H11 H12]
  · isplitl [H1]; · iexact H1
    isplitl [H2]; · iexact H2
    isplitl [H3]; · iexact H3
    isplitl [H4]; · iexact H4
    isplitl [H5]; · iexact H5
    isplitl [H6]; · iexact H6
    isplitl [H9]; · iexact H9
    isplitl [H11]; · iexact H11
    iexact H12
  iintro %v19 %hv19 ⟨H1, H2, H3, H4, H5, H6, H9, H11, H12⟩
  simp only [k0_part8_eq_skeleton]
  unfold k0_part8_skel Holds
  icases H7 with ⟨%f7, %h7, H7⟩
  icases H8 with ⟨%f8, %h8, H8⟩
  icases H10 with ⟨%f10, %h10, H10⟩
  icases H11 with ⟨%f11, %h11, H11⟩
  icases H12 with ⟨%f12, %h12, H12⟩
  simp only [bind_assoc]
  have t34 : k0_t4_loop.trips = 34 := by decide
  sl_exec
  sl_unfold_run_names
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexists _; isplitr [H7]; rotate_left; · iexact H7
                  ipureintro; exact h7
  isplitl [H8]; · iexists _; isplitr [H8]; rotate_left; · iexact H8
                  ipureintro; exact h8
  isplitl [H9]; · iexact H9
  isplitl [H10]; · iexists _; isplitr [H10]; rotate_left; · iexact H10
                   ipureintro; intro r l
                   refine t4_out c i _ _ _ _ _ _ _ _ _ _ _ _ _ _ _ _ _ _ _ _ _ _ _ _ V7 V8 (behind (prod V4 (sig1 V5))) f7 f8 _ _ h7 h8 h11 ?_ f10 r l k0_t4_loop.trips le_rfl (by omega)
                   intro g r l hg
                   have hg : 1 ≤ g.val := hg
                   refine shifted_cons (n := 2208) (g := 7) _ _ _ _ _ rfl _ ?_ g r l fun g7 => ?_
                   rotate_left
                   refine shifted_cons (n := 2208) (g := 6) _ _ _ _ _ rfl _ ?_ g r l fun g6 => ?_
                   rotate_left
                   refine shifted_cons (n := 2208) (g := 5) _ _ _ _ _ rfl _ ?_ g r l fun g5 => ?_
                   rotate_left
                   refine shifted_cons (n := 2208) (g := 4) _ _ _ _ _ rfl _ ?_ g r l fun g4 => ?_
                   rotate_left
                   refine shifted_cons (n := 2208) (g := 3) _ _ _ _ _ rfl _ ?_ g r l fun g3 => ?_
                   rotate_left
                   refine shifted_cons (n := 2208) (g := 2) _ _ _ _ _ rfl _ ?_ g r l fun g2 => ?_
                   rotate_left
                   refine shifted_cons (n := 2208) (g := 1) _ _ _ _ _ rfl _ ?_ g r l fun g1 => ?_
                   rotate_left
                   · omega
                   all_goals
                     intro u s l
                     unfold_payloads
                     simp only [pointwise, shapeCast_ab_1ab_apply]
                     first | exact hv19 s l | exact load_rows (m := 2208) _ _ _ h11 _ rfl s l
  isplitl [H11]; · iexists _; isplitr [H11]; rotate_left; · iexact H11
                   ipureintro; trivial
  iexists _; isplitr [H12]; rotate_left; · iexact H12
  ipureintro; trivial

end Cert.MixFwd

end

end
-- ==== Proof.MixRun.lean ====
module

public import proofs.«01_k».proof.Proof.MixBody
public import proofs.«01_k».proof.Proof.Gen.Kernel9Ideal.Frame
public import Idealize.ShloMosaic.Lib.Claim

@[expose] public section

set_option maxRecDepth 16384

noncomputable section

namespace Cert.MixFwd

open Cert.Kernel9Ideal Cert.Kernel9Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.ConvBwd (Rows behind inp prod sig1 tapRows tapFold)
open Idealize.ShloMosaic.Pipeline (Dat Cfg Window BodyObligation cellOf)

variable {F : FTy → Type} [FloatOps F]

local notation "𝕄" => MT nD τ sig Unit (Elt F) ℕ (UR sig nD τ) ℕ

/-! ## Owned buffers and what they read -/

section
variable (c : Dev nD)

theorem inp_at {n : ℕ} (x : Vec F (⟨2, ![n, 128]⟩ : Shape) .f32) (r : Fin n) (l : Fin 128) : inp x r.val l = x (ix2 r l) := by
  unfold inp; rw [dif_pos r.isLt]

theorem holds_of_owns {n : ℕ} (m : Memref sig .tc .vmem (⟨2, ![n, 128]⟩ : Shape) .f32) (x : Vec F (⟨2, ![n, 128]⟩ : Shape) .f32) :
    (owns (c : Thread nD τ) m fullShare x : sProp 𝕄) ⊢ Holds c m (Reads m.view · (inp x)) := by
  unfold owns Holds
  iintro ⟨%f, %h, H⟩
  iexists f; isplitr; · ipureintro; exact h ▸ fun r l => (inp_at _ r l).symm
  iexact H

theorem owns_of_holds {e : EltTy} {n : ℕ} (m : Memref sig .tc .vmem (⟨2, ![n, 128]⟩ : Shape) e) (x : Vec F (⟨2, ![n, 128]⟩ : Shape) e) (U : ℕ → Fin 128 → Elt F e)
    (hx : ∀ (r : Fin n) (l : Fin 128), U r.val l = x (ix2 r l)) :
    (Holds c m (Reads m.view · U) : sProp 𝕄) ⊢ owns (c : Thread nD τ) m fullShare x := by
  unfold owns Holds
  iintro ⟨%f, %h, H⟩
  iexists f; isplitr
  · ipureintro
    funext y
    obtain ⟨r, l, rfl⟩ : ∃ r l, y = ix2 r l := ⟨_, _, eq_ix2 y⟩
    exact (h r l).trans (hx r l)
  iexact H

theorem holds_any {s : Shape} {e : EltTy} (m : Memref sig .tc .vmem s e) (x : s.Idx → Elt F e) :
    (owns (c : Thread nD τ) m fullShare x : sProp 𝕄) ⊢ Holds c m (fun _ => True) := by
  unfold owns Holds
  iintro ⟨%f, %h, H⟩
  iexists f; isplitr; · ipureintro; trivial
  iexact H

theorem whole_holds {s : Shape} {e : EltTy} (m : Memref sig .tc .vmem s e) (h : m.view.set = Finset.univ) :
    (iprop(∃ f : Buf (Elt F) (m.view.loc (c : Thread nD τ)), (m.view.loc (c : Thread nD τ)) ↦{fullShare} f) : sProp 𝕄) ⊢ Holds c m (fun _ => True) := by
  unfold Holds; rw [h]
  iintro ⟨%f, H⟩
  iexists f; isplitr; · ipureintro; trivial
  iexact H

theorem holds_whole {s : Shape} {e : EltTy} (m : Memref sig .tc .vmem s e) (h : m.view.set = Finset.univ) :
    (Holds c m (fun _ => True) : sProp 𝕄) ⊢ iprop(∃ f : Buf (Elt F) (m.view.loc (c : Thread nD τ)), (m.view.loc (c : Thread nD τ)) ↦{fullShare} f) := by
  unfold Holds; rw [h]
  iintro ⟨%f, -, H⟩
  iexists f
  iexact H

end

/-! ## The pipeline's data -/

section
variable (m : (ℓ : Loc nD τ sig) → Buf (Elt F) ℓ) (ρ : Dev nD → PrngReg)

/-- The block of gated rows that the body leaves at a point. -/
def gated (c : Dev nD) (t : Fin cfg0.N) : Vec F S2176x128 .bf16 := fun y =>
  gatedRows (inp (iblk m c 0 t)) (inp (iblk m c 5 t)) (behind (prod (inp (iblk m c 1 t)) (inp (iblk m c 2 t)))) (y 0).val (y 1)

/-- The block of convolved rows that the body leaves at a point. -/
def convolved (c : Dev nD) (t : Fin cfg0.N) : Vec F S2176x128 .f32 := fun y =>
  convRows (inp (iblk m c 6 t)) (inp (iblk m c 7 t)) (behind (prod (inp (iblk m c 3 t)) (sig1 (inp (iblk m c 4 t))))) (y 0).val (y 1)

/-- The arrays as the region finds them; after the body each input's buffer at its block and each result's at the block above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => gated m c t
    | ⟨9, _⟩ => convolved m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

variable (c : Dev nD) (t : Fin cfg0.N)

theorem after0_0 (t : Fin cfg0.N) : (dats m 0 c).after 0 t = iblk m c 0 t := by dsimp only [dats]
theorem after0_1 (t : Fin cfg0.N) : (dats m 0 c).after 1 t = iblk m c 1 t := by dsimp only [dats]
theorem after0_2 (t : Fin cfg0.N) : (dats m 0 c).after 2 t = iblk m c 2 t := by dsimp only [dats]
theorem after0_3 (t : Fin cfg0.N) : (dats m 0 c).after 3 t = iblk m c 3 t := by dsimp only [dats]
theorem after0_4 (t : Fin cfg0.N) : (dats m 0 c).after 4 t = iblk m c 4 t := by dsimp only [dats]
theorem after0_5 (t : Fin cfg0.N) : (dats m 0 c).after 5 t = iblk m c 5 t := by dsimp only [dats]
theorem after0_6 (t : Fin cfg0.N) : (dats m 0 c).after 6 t = iblk m c 6 t := by dsimp only [dats]
theorem after0_7 (t : Fin cfg0.N) : (dats m 0 c).after 7 t = iblk m c 7 t := by dsimp only [dats]
theorem after0_8 (t : Fin cfg0.N) : (dats m 0 c).after 8 t = gated m c t := by dsimp only [dats]
theorem after0_9 (t : Fin cfg0.N) : (dats m 0 c).after 9 t = convolved m c t := by dsimp only [dats]

theorem before0_0 (d) : (dats m 0 c).before 0 t d = iblk m c 0 t := before0_0_of m (dats m 0 c) (A_eq m c 0) (after0_0 m c) t d
theorem before0_1 (d) : (dats m 0 c).before 1 t d = iblk m c 1 t := before0_1_of m (dats m 0 c) (A_eq m c 1) (after0_1 m c) t d
theorem before0_2 (d) : (dats m 0 c).before 2 t d = iblk m c 2 t := before0_2_of m (dats m 0 c) (A_eq m c 2) (after0_2 m c) t d
theorem before0_3 (d) : (dats m 0 c).before 3 t d = iblk m c 3 t := before0_3_of m (dats m 0 c) (A_eq m c 3) (after0_3 m c) t d
theorem before0_4 (d) : (dats m 0 c).before 4 t d = iblk m c 4 t := before0_4_of m (dats m 0 c) (A_eq m c 4) (after0_4 m c) t d
theorem before0_5 (d) : (dats m 0 c).before 5 t d = iblk m c 5 t := before0_5_of m (dats m 0 c) (A_eq m c 5) (after0_5 m c) t d
theorem before0_6 (d) : (dats m 0 c).before 6 t d = iblk m c 6 t := before0_6_of m (dats m 0 c) (A_eq m c 6) (after0_6 m c) t d
theorem before0_7 (d) : (dats m 0 c).before 7 t d = iblk m c 7 t := before0_7_of m (dats m 0 c) (A_eq m c 7) (after0_7 m c) t d

/-! ## The body at a point of the grid -/

def bodyPre : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

def bodyPost : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 4000000 in
theorem sound_body : bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6, after0_7, after0_8, after0_9]
  unfold Pipeline.ΦA
  rw [scopedRest0_eq]
  iintro ⟨⟨⟨S0, S1⟩, G⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body c Set.univ (grid0.coords t) _ _ _ _ _ _ _ _ _ _ _ _ _ _ _ _ _ _ _ _ _ _ _ _ (inp (iblk m c 0 t)) (inp (iblk m c 1 t))
    (inp (iblk m c 2 t)) (inp (iblk m c 3 t)) (inp (iblk m c 4 t)) (inp (iblk m c 5 t)) (inp (iblk m c 6 t)) (inp (iblk m c 7 t)))
  isplitl [H0 H1 H2 H3 H4 H5 H6 H7 H8 H9 S0 S1]
  · isplitl [H0]; · iapply (holds_of_owns c _ _); iexact H0
    isplitl [H1]; · iapply (holds_of_owns c _ _); iexact H1
    isplitl [H2]; · iapply (holds_of_owns c _ _); iexact H2
    isplitl [H3]; · iapply (holds_of_owns c _ _); iexact H3
    isplitl [H4]; · iapply (holds_of_owns c _ _); iexact H4
    isplitl [H5]; · iapply (holds_of_owns c _ _); iexact H5
    isplitl [H6]; · iapply (holds_of_owns c _ _); iexact H6
    isplitl [H7]; · iapply (holds_of_owns c _ _); iexact H7
    isplitl [H8]; · iapply (holds_any c _ _); iexact H8
    isplitl [H9]; · iapply (holds_any c _ _); iexact H9
    isplitl [S0]; · iapply (whole_holds c (Memref.whole cc0_scratch0) (View.set_whole _)); iexact S0
    iapply (whole_holds c (Memref.whole cc0_scratch1) (View.set_whole _)); iexact S1
  iintro ⟨H0, H1, H2, H3, H4, H5, H6, H7, H8, H9, S0, S1⟩
  isplitl [S0 S1 G]
  · isplitl [S0 S1]
    · isplitl [S0]; · iapply (holds_whole c (Memref.whole cc0_scratch0) (View.set_whole _)); iexact S0
      iapply (holds_whole c (Memref.whole cc0_scratch1) (View.set_whole _)); iexact S1
    iexact G
  isplitl [Ho]; · iexact Ho
  isplitl [H0]; · iapply (owns_of_holds c _ (iblk m c 0 t) _ (fun r l => inp_at _ r l)); iexact H0
  isplitl [H1]; · iapply (owns_of_holds c _ (iblk m c 1 t) _ (fun r l => inp_at _ r l)); iexact H1
  isplitl [H2]; · iapply (owns_of_holds c _ (iblk m c 2 t) _ (fun r l => inp_at _ r l)); iexact H2
  isplitl [H3]; · iapply (owns_of_holds c _ (iblk m c 3 t) _ (fun r l => inp_at _ r l)); iexact H3
  isplitl [H4]; · iapply (owns_of_holds c _ (iblk m c 4 t) _ (fun r l => inp_at _ r l)); iexact H4
  isplitl [H5]; · iapply (owns_of_holds c _ (iblk m c 5 t) _ (fun r l => inp_at _ r l)); iexact H5
  isplitl [H6]; · iapply (owns_of_holds c _ (iblk m c 6 t) _ (fun r l => inp_at _ r l)); iexact H6
  isplitl [H7]; · iapply (owns_of_holds c _ (iblk m c 7 t) _ (fun r l => inp_at _ r l)); iexact H7
  isplitl [H8]; · iapply (owns_of_holds c _ (gated m c t) _ (fun _ _ => rfl)); iexact H8
  iapply (owns_of_holds c _ (convolved m c t) _ (fun _ _ => rfl)); iexact H9

theorem defs₀_row : defs₀ (F := F) .tc cfg0.body (cfg0.bodyArgs t (cfg0.slots t)) = bodyAt0 t := by
  unfold defs₀; rw [Defs.onTc_tc]

theorem body_obligation : BodyObligation (dats (F := F) m 0 c) (defs₀ (F := F)) Variants.none () Set.univ := fun t => by
  rw [bigSep_W0, bigSep_W0, defs₀_row]
  exact triple_restated (sound_body m c t) rfl .rfl fun _ => .rfl

end

/-! ## The run and the frame -/

variable (m : (ℓ : Loc nD τ sig) → Buf (Elt F) ℓ) (ρ : Dev nD → PrngReg)

theorem run_both : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_both m ρ)

theorem args_kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_both m ρ))

end Cert.MixFwd

end

end
-- ==== Proof.MixReference.lean ====
module

public import proofs.«01_k».proof.Proof.Gen.Reference9Ideal.Read
public import proofs.«01_k».proof.Proof.MixReads
public import proofs.«01_k».proof.Proof.Sums
public import Idealize.ShloMosaic.Lib.WordCmp
public import Idealize.ShloMosaic.Lib.KernelVsHost

@[expose] public section

set_option maxRecDepth 16384

noncomputable section

namespace Cert.MixFwd

open Cert.Reference9Ideal Cert.Reference9Ideal.Gen Cert.Reference9Ideal.Read
open Idealize.ShloMosaic Idealize.ShloMosaic.TcCoe
open Cert.ConvBwd (Rows behind inp prod sig1 tapRows tapFold tapFold_eq)

/-! ## The reference's values, entry by entry

The reference convolves by a product with a 0/1 matrix `M k t s = 1 ↔ s + n = t + k`: a sum against one of its rows picks
an entry, or nothing above the first row. -/

/-- The condition of the reference's 0/1 matrix, computed on 32-bit words, is the equation on the numbers. -/
theorem matrix_entry {α : Type} (n k s t : ℕ) (hn : n ≤ 30) (hk : k ≤ 30) (hs : s < 2176) (ht : t < 2176) (a b : α) :
    Scalar.select (IntOp.cmpi .eq (BitVec.ofNat 32 s) (IntOp.addi (IntOp.subi (BitVec.ofNat 32 t) (BitVec.ofNat 32 n)) (BitVec.ofNat 32 k))) a b
      = if s + n = t + k then a else b := by
  have e : (IntOp.cmpi .eq (BitVec.ofNat 32 s) (IntOp.addi (IntOp.subi (BitVec.ofNat 32 t) (BitVec.ofNat 32 n)) (BitVec.ofNat 32 k)) = 1)
      ↔ s + n = t + k := by
    rw [show (1 : BitVec 1) = 1#1 from rfl, IntOp.cmpi_eq]
    unfold IntOp.addi IntOp.subi
    rw [← BitVec.toNat_inj]
    simp only [BitVec.toNat_add, BitVec.toNat_sub, BitVec.toNat_ofNat]
    omega
  unfold Scalar.select
  by_cases h : s + n = t + k
  · rw [if_pos (e.mpr h), if_pos h]
  · rw [if_neg (fun h' => h (e.mp h')), if_neg h]

theorem one_bits : (FloatOps.ofBits (F := Ideal) .f32 0x3F800000#32 : EReal) = 1 := Ideal.ofBits_one_f32

theorem zero_bits : (FloatOps.ofBits (F := Ideal) .f32 0x00000000#32 : EReal) = 0 := Ideal.ofBits_zero_f32

/-- A row of the 0/1 matrix times a column of data picks the entry `n - k` rows above, zero where there is none. -/
theorem pick_row (n k : ℕ) (hk : k ≤ n) (hn : n ≤ 32) (U : Rows Ideal) (t : ℕ) (ht : t < 2176) (l : Fin 128) :
    ∑ s : Fin 2176, (if s.val + n = t + k then (1 : EReal) else 0) * U s.val l = behind U (t + (k + (32 - n))) l := by
  unfold behind
  by_cases h : n ≤ t + k
  · rw [if_pos ⟨by omega, by omega⟩, Finset.sum_eq_single (⟨t + k - n, by omega⟩ : Fin 2176)]
    · rw [if_pos (show t + k - n + n = t + k by omega), one_mul]
      exact congrArg (fun r => U r l) (show t + k - n = t + (k + (32 - n)) - 32 by omega)
    · intro s _ hs
      rw [if_neg (fun e => hs (Fin.ext (show s.val = t + k - n by omega))), zero_mul]
    · exact fun h => absurd (Finset.mem_univ _) h
  · rw [if_neg (by omega)]
    refine Eq.trans (Finset.sum_eq_zero fun s _ => ?_) zero_bits.symm
    rw [if_neg (by omega), zero_mul]

/-- The weighted sum over the taps. -/
theorem tapRows_taps (W U : Rows Ideal) (r : ℕ) (l : Fin 128) :
    tapRows W U taps r l = ∑ k : Fin 31, (W k.val l * U (r + (k.val + 2)) l : EReal) := by
  rw [Fin.sum_univ_eq_sum_range (fun k => (W k l * U (r + (k + 2)) l : EReal)) 31]
  exact tapFold_eq W U r l _ _

/-- The 3-tap 0/1 matrix. -/
theorem matrix3 (k : Fin 3) (t s : Fin 2176) :
    val_main_v16 (F := Ideal) (ix3 k t s) = if s.val + 2 = t.val + k.val then (1 : EReal) else 0 := by
  rw [val_main_v16_apply, val_main_v15_apply, val_main_v14_apply, val_main_v10_apply, val_main_v13_apply, val_main_v12_apply,
    val_main_v9_apply, val_main_v11_apply, val_main_v8_apply, val_main_c_apply, val_main_call0_v0_apply, val_main_call0_v1_apply,
    val_main_cst_0_apply, val_main_cst_1_apply, one_bits, zero_bits]
  exact matrix_entry 2 k.val s.val t.val (by omega) (by have := k.isLt; omega) s.isLt t.isLt _ _

/-- The 31-tap 0/1 matrix. -/
theorem matrix31 (k : Fin 31) (t s : Fin 2176) :
    val_main_v39 (F := Ideal) (ix3 k t s) = if s.val + 30 = t.val + k.val then (1 : EReal) else 0 := by
  rw [val_main_v39_apply, val_main_v38_apply, val_main_v37_apply, val_main_v33_apply, val_main_v36_apply, val_main_v35_apply,
    val_main_v32_apply, val_main_v34_apply, val_main_v31_apply, val_main_c_5_apply, val_main_call1_v0_apply, val_main_call1_v1_apply,
    val_main_cst_6_apply, val_main_cst_7_apply, one_bits, zero_bits]
  exact matrix_entry 30 k.val s.val t.val (by omega) (by have := k.isLt; omega) s.isLt t.isLt _ _

/-- The rows `V` hold 128 columns of `x`, one column `q l` per lane. -/
def Column (V : Rows Ideal) (x : Vec Ideal (⟨2, ![2176, 512]⟩ : Shape) .f32) (q : Fin 128 → Fin 512) : Prop :=
  ∀ (t : Fin 2176) (l : Fin 128), V t.val l = x (ix2 t (q l))

section Block
variable {q : Fin 128 → Fin 512} {x0 : Vec Ideal (⟨2, ![2064, 2560]⟩ : Shape) .f32}
  {x1 : Vec Ideal (⟨2, ![3, 512]⟩ : Shape) .f32} {x2 : Vec Ideal (⟨2, ![31, 512]⟩ : Shape) .f32} {x3 : Vec Ideal (⟨2, ![1, 512]⟩ : Shape) .f32}
  {V1 V2 V3 V4 V5 V6 V7 V8 U W : Rows Ideal}

theorem column_short (h2 : Column V2 (val_main_v3 (F := Ideal) x0) q) (h3 : Column V3 (val_main_v4 (F := Ideal) x0) q) :
    Column (prod V2 V3) (val_main_v7 (F := Ideal) x0) q := fun t l => by
  rw [val_main_v7_apply, ← h2, ← h3]; rfl

theorem gate_entry (t : Fin 2176) (p : Fin 512) :
    val_main_v28 (F := Ideal) x0 (ix2 t p) = Ideal.logistic (val_main_v6 (F := Ideal) x0 (ix2 t p)) := by
  rw [val_main_v28_apply, val_main_v27_apply, val_main_cst_4_apply, val_main_v26_apply, val_main_v25_apply, val_main_cst_3_apply,
    val_main_v24_apply, val_main_v23_apply, one_bits]
  rfl

theorem column_long (h4 : Column V4 (val_main_v5 (F := Ideal) x0) q) (h5 : Column V5 (val_main_v6 (F := Ideal) x0) q) :
    Column (prod V4 (sig1 V5)) (val_main_v29 (F := Ideal) x0) q := fun t l => by
  rw [val_main_v29_apply, gate_entry, ← h4, ← h5]; rfl

/-- The reference's 3-tap convolution. -/
theorem conv3 (h : Column U (val_main_v7 (F := Ideal) x0) q) (hw : ∀ (k : Fin 3) (l : Fin 128), W k.val l = x1 (ix2 k (q l))) (t : Fin 2176) (l : Fin 128) :
    val_main_v21 (F := Ideal) x0 x1 (ix2 t (q l)) = ∑ k : Fin 3, (W k.val l * behind U (t.val + (k.val + 30)) l : EReal) := by
  rw [val_main_v21_apply, val_main_cst_2_apply, zero_bits, zero_add]
  refine Finset.sum_congr rfl fun k _ => ?_
  rw [val_main_v20_apply, val_main_v19_apply, val_main_v17_apply, val_main_v18_apply]
  refine congrArg₂ (fun a b : EReal => a * b) ((congrArg x1 (eq_ix2 _)).trans (hw k l).symm) ?_
  refine Eq.trans (Finset.sum_congr rfl fun s _ => ?_) (pick_row 2 k.val (by have := k.isLt; omega) (by omega) U t.val t.isLt l)
  refine congrArg₂ (fun a b : EReal => a * b) ?_ ?_
  · exact (congrArg (val_main_v16 (F := Ideal)) (eq_ix3 _)).trans (matrix3 k t s)
  · exact (congrArg (val_main_v7 (F := Ideal) x0) (eq_ix2 _)).trans (h s l).symm

/-- The reference's 31-tap convolution. -/
theorem conv31 (h : Column U (val_main_v29 (F := Ideal) x0) q) (hw : ∀ (k : Fin 31) (l : Fin 128), W k.val l = x2 (ix2 k (q l))) (t : Fin 2176) (l : Fin 128) :
    val_main_v44 (F := Ideal) x0 x2 (ix2 t (q l)) = ∑ k : Fin 31, (W k.val l * behind U (t.val + (k.val + 2)) l : EReal) := by
  rw [val_main_v44_apply, val_main_cst_8_apply, zero_bits, zero_add]
  refine Finset.sum_congr rfl fun k _ => ?_
  rw [val_main_v43_apply, val_main_v42_apply, val_main_v40_apply, val_main_v41_apply]
  refine congrArg₂ (fun a b : EReal => a * b) ((congrArg x2 (eq_ix2 _)).trans (hw k l).symm) ?_
  refine Eq.trans (Finset.sum_congr rfl fun s _ => ?_) (pick_row 30 k.val (by have := k.isLt; omega) (by omega) U t.val t.isLt l)
  refine congrArg₂ (fun a b : EReal => a * b) ?_ ?_
  · exact (congrArg (val_main_v39 (F := Ideal)) (eq_ix3 _)).trans (matrix31 k t s)
  · exact (congrArg (val_main_v29 (F := Ideal) x0) (eq_ix2 _)).trans (h s l).symm

/-- The gated three-tap convolution on a block of columns. -/
theorem agree_gated (h1 : Column V1 (val_main_v2 (F := Ideal) x0) q) (h2 : Column V2 (val_main_v3 (F := Ideal) x0) q)
    (h3 : Column V3 (val_main_v4 (F := Ideal) x0) q) (h6 : ∀ (k : Fin 3) (l : Fin 128), V6 k.val l = x1 (ix2 k (q l))) (t : Fin 2176) (l : Fin 128) :
    gatedRows V1 V6 (behind (prod V2 V3)) t.val l = val_main_v30 (F := Ideal) x0 x1 (ix2 t (q l)) := by
  rw [val_main_v30_apply, val_main_v22_apply, conv3 (column_short h2 h3) h6, Fin.sum_univ_three, ← h1]
  rfl

/-- The 31-tap convolution with its bias on a block of columns. -/
theorem agree_conv (h4 : Column V4 (val_main_v5 (F := Ideal) x0) q) (h5 : Column V5 (val_main_v6 (F := Ideal) x0) q)
    (h7 : ∀ (k : Fin 31) (l : Fin 128), V7 k.val l = x2 (ix2 k (q l))) (h8 : ∀ l : Fin 128, V8 0 l = x3 (ix2 (0 : Fin 1) (q l))) (t : Fin 2176) (l : Fin 128) :
    convRows V7 V8 (behind (prod V4 (sig1 V5))) t.val l = val_main_v46 (F := Ideal) x0 x2 x3 (ix2 t (q l)) := by
  rw [val_main_v46_apply, val_main_v45_apply, conv31 (column_long h4 h5) h7]
  unfold convRows
  rw [tapRows_taps]
  exact congrArg (fun z : EReal => _ + z) ((h8 l).trans (congrArg x3 (eq_ix2 (idx_main_v45 (ix2 t (q l)))).symm))

end Block

end Cert.MixFwd

end

end
-- ==== Proof.MixValue.lean ====
module

public import proofs.«01_k».proof.Proof.MixRun
public import proofs.«01_k».proof.Proof.MixReference
public import Idealize.ShloMosaic.Lib.Pipeline.ValueKit.Geometry

@[expose] public section

set_option maxRecDepth 16384

noncomputable section

namespace Cert.MixFwd

open Cert.Kernel9Ideal Cert.Kernel9Ideal.Gen
open Idealize.ShloMosaic Idealize.ShloMosaic.TcCoe Idealize.ShloMosaic.Tactic
open Idealize.SL.Sem
open Cert.ConvBwd (Rows behind inp prod sig1 tapRows tapFold)
open Cert.Reference9Ideal.Read (val_main_v1 val_main_v2 val_main_v3 val_main_v4 val_main_v5 val_main_v6 val_main_v30 val_main_v46)

variable (m : (ℓ : Loc nD τ sig) → Buf (Elt Ideal) ℓ) (ρ : Dev nD → PrngReg)

/-! ## What each grid point reads -/

/-- The column of a 512-column array that lane `l` of grid point `t` works on. -/
def lane (t : Fin cfg0.N) (l : Fin 128) : Fin 512 := ⟨128 * t.val + l.val, by have := t.isLt; have h : cfg0.N = 4 := rfl; omega⟩

/-- The mixer's input below its 112 rows of zeros, as both programs form it. -/
theorem widened (c : Dev nD) : V m c main_v1 = val_main_v1 (F := Ideal) (m ((c : Thread nD τ).loc main_arg0)) := by
  show StableHlo.after hostOps0 _ (Proc.devRef .tc _) = _
  after_results
  rfl

theorem index0_0 : ∀ t : Fin cfg0.N, win0_0.index t = ![0, 0 + t.val] := (by decide +kernel : ∀ t : Fin grid0.N, _)
theorem index0_1 : ∀ t : Fin cfg0.N, win0_1.index t = ![0, 4 + t.val] := (by decide +kernel : ∀ t : Fin grid0.N, _)
theorem index0_2 : ∀ t : Fin cfg0.N, win0_2.index t = ![0, 8 + t.val] := (by decide +kernel : ∀ t : Fin grid0.N, _)
theorem index0_3 : ∀ t : Fin cfg0.N, win0_3.index t = ![0, 12 + t.val] := (by decide +kernel : ∀ t : Fin grid0.N, _)
theorem index0_4 : ∀ t : Fin cfg0.N, win0_4.index t = ![0, 16 + t.val] := (by decide +kernel : ∀ t : Fin grid0.N, _)
theorem index0_5 : ∀ t : Fin cfg0.N, win0_5.index t = ![0, t.val] := (by decide +kernel : ∀ t : Fin grid0.N, _)
theorem index0_6 : ∀ t : Fin cfg0.N, win0_6.index t = ![0, t.val] := (by decide +kernel : ∀ t : Fin grid0.N, _)
theorem index0_7 : ∀ t : Fin cfg0.N, win0_7.index t = ![0, t.val] := (by decide +kernel : ∀ t : Fin grid0.N, _)
theorem index0_8 : ∀ t : Fin cfg0.N, win0_8.index t = ![0, t.val] := (by decide +kernel : ∀ t : Fin grid0.N, _)
theorem index0_9 : ∀ t : Fin cfg0.N, win0_9.index t = ![0, t.val] := (by decide +kernel : ∀ t : Fin grid0.N, _)

/-- A block of columns of the widened input, as the rows the body reads. -/
theorem column_of (c : Dev nD) (p : Fin 128 → Fin 2560) (q : Fin 128 → Fin 512) (B : Vec Ideal (⟨2, ![2176, 128]⟩ : Shape) .f32)
    (Y : Vec Ideal (⟨2, ![2176, 512]⟩ : Shape) .f32) (hB : ∀ r l, B (ix2 r l) = (V m c main_v1 : Vec Ideal S2176x2560 .f32) (ix2 r (p l)))
    (hY : ∀ r l, Y (ix2 r (q l)) = val_main_v1 (F := Ideal) (m ((c : Thread nD τ).loc main_arg0)) (ix2 r (p l))) : Column (inp B) Y q := fun r l => by
  rw [inp_at, hB, hY, widened]

theorem column0 (c : Dev nD) (t : Fin cfg0.N) :
    Column (inp (iblk m c 0 t)) (val_main_v2 (F := Ideal) (m ((c : Thread nD τ).loc main_arg0))) (lane t) :=
  column_of m c (fun l => ⟨0 + (lane t l).val, by omega⟩) (lane t) _ _ (fun r l => by
    blk_simp [iblk]
    blk_ext [lane, index0_0]) (fun r l => by
    rw [Cert.Reference9Ideal.Read.val_main_v2_apply]
    blk_ext)

theorem column1 (c : Dev nD) (t : Fin cfg0.N) :
    Column (inp (iblk m c 1 t)) (val_main_v3 (F := Ideal) (m ((c : Thread nD τ).loc main_arg0))) (lane t) :=
  column_of m c (fun l => ⟨512 + (lane t l).val, by omega⟩) (lane t) _ _ (fun r l => by
    blk_simp [iblk]
    blk_ext [lane, index0_1]) (fun r l => by
    rw [Cert.Reference9Ideal.Read.val_main_v3_apply]
    blk_ext)

theorem column2 (c : Dev nD) (t : Fin cfg0.N) :
    Column (inp (iblk m c 2 t)) (val_main_v4 (F := Ideal) (m ((c : Thread nD τ).loc main_arg0))) (lane t) :=
  column_of m c (fun l => ⟨1024 + (lane t l).val, by omega⟩) (lane t) _ _ (fun r l => by
    blk_simp [iblk]
    blk_ext [lane, index0_2]) (fun r l => by
    rw [Cert.Reference9Ideal.Read.val_main_v4_apply]
    blk_ext)

theorem column3 (c : Dev nD) (t : Fin cfg0.N) :
    Column (inp (iblk m c 3 t)) (val_main_v5 (F := Ideal) (m ((c : Thread nD τ).loc main_arg0))) (lane t) :=
  column_of m c (fun l => ⟨1536 + (lane t l).val, by omega⟩) (lane t) _ _ (fun r l => by
    blk_simp [iblk]
    blk_ext [lane, index0_3]) (fun r l => by
    rw [Cert.Reference9Ideal.Read.val_main_v5_apply]
    blk_ext)

theorem column4 (c : Dev nD) (t : Fin cfg0.N) :
    Column (inp (iblk m c 4 t)) (val_main_v6 (F := Ideal) (m ((c : Thread nD τ).loc main_arg0))) (lane t) :=
  column_of m c (fun l => ⟨2048 + (lane t l).val, by omega⟩) (lane t) _ _ (fun r l => by
    blk_simp [iblk]
    blk_ext [lane, index0_4]) (fun r l => by
    rw [Cert.Reference9Ideal.Read.val_main_v6_apply]
    blk_ext)

theorem taps5 (c : Dev nD) (t : Fin cfg0.N) (k : Fin 3) (l : Fin 128) :
    inp (iblk m c 5 t) k.val l = (m ((c : Thread nD τ).loc main_arg1) : Vec Ideal S3x512 .f32) (ix2 k (lane t l)) := by
  rw [← V_main_arg1 m c]
  refine (inp_at (iblk m c 5 t) k l).trans ?_
  blk_simp [iblk]
  blk_ext [lane, index0_5]

theorem taps6 (c : Dev nD) (t : Fin cfg0.N) (k : Fin 31) (l : Fin 128) :
    inp (iblk m c 6 t) k.val l = (m ((c : Thread nD τ).loc main_arg2) : Vec Ideal S31x512 .f32) (ix2 k (lane t l)) := by
  rw [← V_main_arg2 m c]
  refine (inp_at (iblk m c 6 t) k l).trans ?_
  blk_simp [iblk]
  blk_ext [lane, index0_6]

theorem bias7 (c : Dev nD) (t : Fin cfg0.N) (l : Fin 128) :
    inp (iblk m c 7 t) 0 l = (m ((c : Thread nD τ).loc main_arg3) : Vec Ideal S1x512 .f32) (ix2 (0 : Fin 1) (lane t l)) := by
  rw [← V_main_arg3 m c]
  refine (inp_at (iblk m c 7 t) (0 : Fin 1) l).trans ?_
  blk_simp [iblk]
  blk_ext [lane, index0_7]

/-! ## The two results -/

/-- The gated three-tap convolution, as the launch leaves it. -/
theorem array8 (c : Dev nD) : (dats m 0 c).arrAt 8 cfg0.N
    = val_main_v30 (F := Ideal) (m ((c : Thread nD τ).loc main_arg0)) (m ((c : Thread nD τ).loc main_arg1)) := by
  refine (dats m 0 c).arrAt_eq_of_covers 8 _ (by decide +kernel) fun t hf y => ?_
  blk_simp
  rw [after0_8]
  refine (agree_gated (column0 m c t) (column1 m c t) (column2 m c t) (taps5 m c t) (y 0) (y 1)).trans ?_
  blk_ext [lane, index0_8]

/-- The 31-tap convolution with its bias, as the launch leaves it. -/
theorem array9 (c : Dev nD) : (dats m 0 c).arrAt 9 cfg0.N
    = val_main_v46 (F := Ideal) (m ((c : Thread nD τ).loc main_arg0)) (m ((c : Thread nD τ).loc main_arg2)) (m ((c : Thread nD τ).loc main_arg3)) := by
  refine (dats m 0 c).arrAt_eq_of_covers 9 _ (by decide +kernel) fun t hf y => ?_
  blk_simp
  rw [after0_9]
  refine (agree_conv (column3 m c t) (column4 m c t) (taps6 m c t) (bias7 m c t) (y 0) (y 1)).trans ?_
  blk_ext [lane, index0_9]

/-- The launch ends with the reference's two convolutions and its arguments as they were. -/
theorem run_values : θ_run defs (onTc (τ := τ) (main (F := Ideal))) ⟨m, fun _ => 0, ρ⟩ (fun r => ∀ c : Dev nD,
      r.2.mem ((c.tc : Thread nD τ).loc main_v2_0)
        = val_main_v30 (F := Ideal) (m ((c : Thread nD τ).loc main_arg0)) (m ((c : Thread nD τ).loc main_arg1))
      ∧ r.2.mem ((c.tc : Thread nD τ).loc main_v2_1)
        = val_main_v46 (F := Ideal) (m ((c : Thread nD τ).loc main_arg0)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.1 c).1 8).trans (array8 m c), ((h.1 c).1 9).trans (array9 m c), h.2.1 c⟩)
    (θ_run_and (run_main m ρ) (args_kept m ρ))

end Cert.MixFwd

end

end
-- ==== Proof.lean ====
module

public import proofs.«01_k».proof.Defs
public import proofs.«01_k».proof.Proof.Run
public import proofs.«01_k».proof.Proof.Value
public import proofs.«01_k».proof.Proof.Gen.Kernel
public import proofs.«01_k».proof.Proof.Gen.ReferenceIdeal
public import proofs.«01_k».proof.Proof.Gen.ReferenceIdeal.Run
public import proofs.«01_k».proof.Proof.Gen.ReferenceIdeal.Read
public import proofs.«01_k».proof.Proof.DownValue
public import proofs.«01_k».proof.Proof.Gen.Kernel2
public import proofs.«01_k».proof.Proof.Gen.Kernel2Ideal.Value
public import proofs.«01_k».proof.Proof.Gen.Reference2Ideal
public import proofs.«01_k».proof.Proof.Gen.Reference2Ideal.Read
public import proofs.«01_k».proof.Proof.Gen.Reference2Ideal.Run
public import proofs.«01_k».proof.Proof.OutFinite
public import proofs.«01_k».proof.Proof.OutValue
public import proofs.«01_k».proof.Proof.Gen.Kernel3
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_finite
public import proofs.«01_k».proof.Proof.SwigluRun
public import proofs.«01_k».proof.Proof.FfnValue
public import proofs.«01_k».proof.Proof.InValue
public import proofs.«01_k».proof.Proof.InFwd
public import proofs.«01_k».proof.Proof.OutFwd
public import proofs.«01_k».proof.Proof.MixValue
public import proofs.«01_k».proof.Proof.Gen.Kernel4
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Pre_finite4
public import proofs.«01_k».proof.Proof.Gen.Kernel7
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel9
public import proofs.«01_k».proof.Proof.Gen.Kernel8Ideal.Value
public import proofs.«01_k».proof.Proof.Gen.Kernel9Ideal.Frame
public import proofs.«01_k».proof.Proof.Gen.Reference8Ideal
public import proofs.«01_k».proof.Proof.Gen.Reference9Ideal
public import proofs.«01_k».proof.Proof.Gen.Reference8Ideal.Run
public import proofs.«01_k».proof.Proof.Gen.Reference9Ideal.Run
public import proofs.«01_k».proof.Proof.Gen.Reference8Ideal.Read
public import proofs.«01_k».proof.Proof.Gen.Reference9Ideal.Read
public import Idealize.ShloMosaic.Adequacy
public import Idealize.ShloMosaic.Init

@[expose] public section

noncomputable section

namespace Cert.Proof

open Idealize.ShloMosaic Idealize.SL.Sem Cert.Kernel

/-- The idealized program leaves its arguments as they were, over bit patterns. -/
def KeptOverBits : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

/-- The two printed programs have the same text, so the one run serves both. -/
theorem frame_kernel : Cert.quiescent_Kernel :=
  cast (show KeptOverBits = Cert.quiescent_Kernel by sl_kernel_rfl) fun m g _ => Cert.ConvBwd.args_kept (F := Bits) m g

theorem frame_ideal : Cert.quiescent_KernelIdeal :=
  fun m ρ _ => Cert.ConvBwd.args_kept m ρ

/-- The reference leaves its arguments as they were; it declares no semaphore. -/
theorem frame_reference : Cert.quiescent_ReferenceIdeal :=
  fun m ρ _ => (θ_run Cert.ReferenceIdeal.defs _ _).mono
    (fun r h => ⟨fun c => (h c).2.2.2, sem_eq_zero_of_no_sems (by decide) r.2⟩) (Cert.ReferenceIdeal.Value.run (F := Ideal) m ρ)

/-- From the same arguments the two programs end with the same three gradients. -/
theorem same_gradients : Cert.algebraic_KernelIdeal_ReferenceIdeal := fun m g m' g' _ heq => by
  refine ⟨_, _, _, Cert.ConvBwd.run_values m g, (θ_run Cert.ReferenceIdeal.defs _ _).mono (fun r h c => ?_)
    (Cert.ReferenceIdeal.Value.run (F := Ideal) m' g')⟩
  obtain ⟨e0, e1, e2, e3, e4⟩ := heq c
  obtain ⟨h73, h74, h75, hargs⟩ := h c
  refine ⟨(h73.trans (Cert.ReferenceIdeal.Read.val_main_v73_eq m' c)).trans ?_, (h74.trans (Cert.ReferenceIdeal.Read.val_main_v74_eq _ _)).trans ?_,
    (h75.trans (Cert.ReferenceIdeal.Read.val_main_v75_eq _ _)).trans ?_, hargs⟩
  · rw [e0, e1, e2, e3, e4]
  · rw [e0, e1]
  · rw [e0, e2]

/-! ## The loss and its gradient -/

/-- The idealized second program leaves its arguments as they were, over bit patterns. -/
def KeptOverBits2 : Prop :=
  ∀ (m : (ℓ : Loc Cert.Kernel2Ideal.nD Cert.Kernel2Ideal.τ Cert.Kernel2Ideal.sig) → Buf (Elt Bits) ℓ) (g : Dev Cert.Kernel2Ideal.nD → PrngReg), True →
    θ_run (Cert.Kernel2Ideal.defs (F := Bits)) (onTc (τ := Cert.Kernel2Ideal.τ) (Cert.Kernel2Ideal.main (F := Bits))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

theorem frame_kernel2 : Cert.quiescent_Kernel2 :=
  cast (show KeptOverBits2 = Cert.quiescent_Kernel2 by sl_kernel_rfl) fun m g _ => Cert.Kernel2Ideal.Gen.frame (F := Bits) m g

theorem frame_ideal2 : Cert.quiescent_Kernel2Ideal :=
  fun m ρ _ => Cert.Kernel2Ideal.Gen.frame m ρ

theorem frame_reference2 : Cert.quiescent_Reference2Ideal :=
  fun m ρ _ => (θ_run Cert.Reference2Ideal.defs _ _).mono
    (fun r h => ⟨fun c => (h c).2.2.2.2, sem_eq_zero_of_no_sems (by decide) r.2⟩) (Cert.Reference2Ideal.Value.run (F := Ideal) m ρ)

/-- From the same arguments the two programs end with the same two gradients, gain gradient and sums of squared errors. -/
theorem same_loss_gradients : Cert.algebraic_Kernel2Ideal_Reference2Ideal := fun m g m' g' _ heq => by
  refine ⟨_, _, _, _, Cert.Kernel2Ideal.Value.run_blocks m g, (θ_run Cert.Reference2Ideal.defs _ _).mono (fun r h c => ?_)
    (Cert.Reference2Ideal.Value.run (F := Ideal) m' g')⟩
  obtain ⟨e0, e1, e2, e3, e4⟩ := heq c
  obtain ⟨h53, h55, h36, h57, hargs⟩ := h c
  refine ⟨(h53.trans (Cert.Reference2Ideal.Read.val_main_v53_eq _ _ _ _ _)).trans (Eq.trans ?_ (Cert.DownLoss.array5 m c).symm),
    (h55.trans (Cert.Reference2Ideal.Read.val_main_v55_eq m' c)).trans (Eq.trans ?_ (Cert.DownLoss.array6 m c).symm),
    (h36.trans (Cert.Reference2Ideal.Read.val_main_v36_eq _ _ _ _ _)).trans (Eq.trans ?_ (Cert.DownLoss.array7 m c).symm),
    (h57.trans (Cert.Reference2Ideal.Read.val_main_v57_eq _ _ _ _ _)).trans (Eq.trans ?_ (Cert.DownLoss.array8 m c).symm), hargs⟩ <;>
  · rw [e0, e1, e2, e3, e4]

/-! ## Back through the output projection -/

/-- The idealized third program leaves its arguments as they were, over bit patterns. -/
def KeptOverBits3 : Prop :=
  ∀ (m : (ℓ : Loc Cert.Kernel3Ideal.nD Cert.Kernel3Ideal.τ Cert.Kernel3Ideal.sig) → Buf (Elt Bits) ℓ) (g : Dev Cert.Kernel3Ideal.nD → PrngReg), True →
    θ_run (Cert.Kernel3Ideal.defs (F := Bits)) (onTc (τ := Cert.Kernel3Ideal.τ) (Cert.Kernel3Ideal.main (F := Bits))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

theorem frame_kernel3 : Cert.quiescent_Kernel3 :=
  cast (show KeptOverBits3 = Cert.quiescent_Kernel3 by sl_kernel_rfl) fun m g _ => Cert.Kernel3Ideal.Gen.frame (F := Bits) m g

theorem frame_ideal3 : Cert.quiescent_Kernel3Ideal :=
  fun m ρ _ => Cert.Kernel3Ideal.Gen.frame m ρ

theorem frame_reference3 : Cert.quiescent_Reference3Ideal :=
  fun m ρ _ => (θ_run Cert.Reference3Ideal.defs _ _).mono
    (fun r h => ⟨fun c => (h c).2.2.2.2.2.2.2, sem_eq_zero_of_no_sems (by decide) r.2⟩) (Cert.Reference3Ideal.Value.run (F := Ideal) m ρ)

/-- From the same arguments, four of them finite, the two programs end with the same seven gradients. -/
theorem same_projection_gradients : Cert.algebraic_Kernel3Ideal_Reference3Ideal_pre_finite (hPre_finite := Cert.Pre_finite.Gen.facts) :=
  fun m g m' g' hpre heq => by
  refine ⟨_, _, _, _, _, _, _, Cert.Kernel3Ideal.Value.run_blocks m g, (θ_run Cert.Reference3Ideal.defs _ _).mono (fun r h c => ?_)
    (Cert.Reference3Ideal.Value.run (F := Ideal) m' g')⟩
  obtain ⟨e0, e1, e2, e3, e4, e5, e6, e7⟩ := heq c
  obtain ⟨h104, h105, h106, h49, h74, h71, h102, hargs⟩ := h c
  have a0 : StableHlo.launchContents m' c (Proc.devRef .tc Cert.Reference3Ideal.main_arg0) = Cert.OutProj.argA m c := e0
  have a1 : StableHlo.launchContents m' c (Proc.devRef .tc Cert.Reference3Ideal.main_arg1) = Cert.OutProj.argB m c := e1
  have a2 : StableHlo.launchContents m' c (Proc.devRef .tc Cert.Reference3Ideal.main_arg2) = Cert.OutProj.argBias m c := e2
  have a3 : StableHlo.launchContents m' c (Proc.devRef .tc Cert.Reference3Ideal.main_arg3) = Cert.OutProj.argLg m c := e3
  have a4 : StableHlo.launchContents m' c (Proc.devRef .tc Cert.Reference3Ideal.main_arg4) = Cert.OutProj.argLb m c := e4
  have a5 : StableHlo.launchContents m' c (Proc.devRef .tc Cert.Reference3Ideal.main_arg5) = Cert.OutProj.argW m c := e5
  have a6 : StableHlo.launchContents m' c (Proc.devRef .tc Cert.Reference3Ideal.main_arg6) = Cert.OutProj.argG m c := e6
  have a7 : StableHlo.launchContents m' c (Proc.devRef .tc Cert.Reference3Ideal.main_arg7) = Cert.OutProj.argD m c := e7
  have H : Cert.OutProj.Real m c := Cert.OutProj.real_of_finite m hpre c
  refine ⟨(h104.trans (Cert.Reference3Ideal.Read.val_main_v104_eq (StableHlo.launchContents m' c))).trans (Eq.trans ?_ (Cert.OutProj.array7 m c).symm),
    (h105.trans (Cert.Reference3Ideal.Read.val_main_v105_eq (StableHlo.launchContents m' c))).trans (Eq.trans ?_ (Cert.OutProj.array8 m c).symm),
    (h106.trans (Cert.Reference3Ideal.Read.val_main_v106_eq (StableHlo.launchContents m' c))).trans (Eq.trans ?_ (Cert.OutProj.array9 m c H).symm),
    (h49.trans (Cert.Reference3Ideal.Read.val_main_v49_eq (StableHlo.launchContents m' c))).trans (Eq.trans ?_ (Cert.OutProj.array10 m c).symm),
    (h74.trans (Cert.Reference3Ideal.Read.val_main_v74_eq (StableHlo.launchContents m' c))).trans (Eq.trans ?_ (Cert.OutProj.array11 m c H).symm),
    (h71.trans (Cert.Reference3Ideal.Read.val_main_v71_eq (StableHlo.launchContents m' c))).trans (Eq.trans ?_ (Cert.OutProj.array12 m c H).symm),
    (h102.trans (Cert.Reference3Ideal.Read.val_main_v102_eq (StableHlo.launchContents m' c))).trans (Eq.trans ?_ (Cert.OutProj.array13 m c H).symm), hargs⟩ <;>
  · simp only [a0, a1, a2, a3, a4, a5, a6, a7]

/-! ## Back through the down projection and the activation -/

/-- The idealized fourth program leaves its arguments as they were, over bit patterns. -/
def KeptOverBits4 : Prop :=
  ∀ (m : (ℓ : Loc Cert.Kernel4Ideal.nD Cert.Kernel4Ideal.τ Cert.Kernel4Ideal.sig) → Buf (Elt Bits) ℓ) (g : Dev Cert.Kernel4Ideal.nD → PrngReg), True →
    θ_run (Cert.Kernel4Ideal.defs (F := Bits)) (onTc (τ := Cert.Kernel4Ideal.τ) (Cert.Kernel4Ideal.main (F := Bits))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

theorem frame_kernel4 : Cert.quiescent_Kernel4 :=
  cast (show KeptOverBits4 = Cert.quiescent_Kernel4 by sl_kernel_rfl) fun m g _ => Cert.Kernel4Ideal.Gen.frame (F := Bits) m g

theorem frame_ideal4 : Cert.quiescent_Kernel4Ideal :=
  fun m ρ _ => Cert.Kernel4Ideal.Gen.frame m ρ

theorem frame_reference4 : Cert.quiescent_Reference4Ideal :=
  fun m ρ _ => (θ_run Cert.Reference4Ideal.defs _ _).mono
    (fun r h => ⟨fun c => (h c).2.2.2.2, sem_eq_zero_of_no_sems (by decide) r.2⟩) (Cert.Reference4Ideal.Value.run (F := Ideal) m ρ)

/-- From the same finite arguments the two programs end with the same two planes of gradients, the same two factors saved for them, and the
    same activated rows. -/
theorem same_activation_gradients : Cert.algebraic_Kernel4Ideal_Reference4Ideal_pre_finite4 (hPre_finite4 := Cert.Pre_finite4.Gen.facts) :=
  fun m g m' g' hpre heq => by
  refine ⟨_, _, _, _, Cert.Swiglu.run_result m g, (θ_run Cert.Reference4Ideal.defs _ _).mono (fun r h c => ?_) (Cert.Reference4Ideal.Value.run (F := Ideal) m' g')⟩
  obtain ⟨e0, e1, e2, e3, e4⟩ := heq c
  obtain ⟨h17, h19, h21, h23, hargs⟩ := h c
  have hr := Cert.Swiglu.real_of_finite m hpre c
  refine ⟨(h17.trans (Cert.Reference4Ideal.Read.val_main_v17_eq _ _ _ _ _)).trans (Eq.trans ?_ (Cert.Swiglu.array5 m g c hr).symm),
    (h19.trans (Cert.Reference4Ideal.Read.val_main_v19_eq _ _ _)).trans (Eq.trans ?_ ((Cert.Swiglu.array3 m g c).trans (Cert.Swiglu.savedGate_eq m c hr)).symm),
    (h21.trans (Cert.Reference4Ideal.Read.val_main_v21_eq _ _)).trans (Eq.trans ?_ ((Cert.Swiglu.array4 m g c).trans (Cert.Swiglu.savedUp_eq m c)).symm),
    (h23.trans (Cert.Reference4Ideal.Read.val_main_v23_eq _ _ _)).trans (Eq.trans ?_ ((Cert.Swiglu.array_product m g c).trans (Cert.Swiglu.product_eq m c)).symm), hargs⟩
  · rw [e0, e1, e2, e3, e4]
  · rw [e0, e1, e2]
  · rw [e0, e1]
  · rw [e0, e1, e2]

/-! ## Back through the gate and up projections -/

/-- The idealized fifth program leaves its arguments as they were, over bit patterns. -/
def KeptOverBits5 : Prop :=
  ∀ (m : (ℓ : Loc Cert.Kernel5Ideal.nD Cert.Kernel5Ideal.τ Cert.Kernel5Ideal.sig) → Buf (Elt Bits) ℓ) (g : Dev Cert.Kernel5Ideal.nD → PrngReg), True →
    θ_run (Cert.Kernel5Ideal.defs (F := Bits)) (onTc (τ := Cert.Kernel5Ideal.τ) (Cert.Kernel5Ideal.main (F := Bits))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

theorem frame_kernel5 : Cert.quiescent_Kernel5 :=
  cast (show KeptOverBits5 = Cert.quiescent_Kernel5 by sl_kernel_rfl) fun m g _ => Cert.Kernel5Ideal.Gen.frame (F := Bits) m g

theorem frame_ideal5 : Cert.quiescent_Kernel5Ideal :=
  fun m ρ _ => Cert.Kernel5Ideal.Gen.frame m ρ

theorem frame_reference5 : Cert.quiescent_Reference5Ideal :=
  fun m ρ _ => (θ_run Cert.Reference5Ideal.defs _ _).mono
    (fun r h => ⟨fun c => (h c).2.2, sem_eq_zero_of_no_sems (by decide) r.2⟩) (Cert.Reference5Ideal.Value.run (F := Ideal) m ρ)

/-- From the same arguments the two programs end with the same gradient of the rows and of the gain. -/
theorem same_ffn_gradients : Cert.algebraic_Kernel5Ideal_Reference5Ideal := fun m g m' g' _ heq => by
  refine ⟨_, _, Cert.Kernel5Ideal.Value.run_blocks m g, (θ_run Cert.Reference5Ideal.defs _ _).mono (fun r h c => ?_)
    (Cert.Reference5Ideal.Value.run (F := Ideal) m' g')⟩
  obtain ⟨e0, e1, e2, e3, e4, e5, e6⟩ := heq c
  obtain ⟨h40, h22, hargs⟩ := h c
  refine ⟨(h40.trans (Cert.Reference5Ideal.Read.val_main_v40_eq m' c)).trans (Eq.trans ?_ (Cert.FfnIn.array6 m c).symm),
    (h22.trans (Cert.Reference5Ideal.Read.val_main_v22_eq _ _ _ _ _)).trans (Eq.trans ?_ (Cert.FfnIn.array7 m c).symm), hargs⟩
  · rw [e0, e1, e2, e3, e4, e5, e6]
  · rw [e0, e2, e3, e4, e5]

/-! ## Back through the input projection -/

/-- The idealized sixth program leaves its arguments as they were, over bit patterns. -/
def KeptOverBits6 : Prop :=
  ∀ (m : (ℓ : Loc Cert.Kernel6Ideal.nD Cert.Kernel6Ideal.τ Cert.Kernel6Ideal.sig) → Buf (Elt Bits) ℓ) (g : Dev Cert.Kernel6Ideal.nD → PrngReg), True →
    θ_run (Cert.Kernel6Ideal.defs (F := Bits)) (onTc (τ := Cert.Kernel6Ideal.τ) (Cert.Kernel6Ideal.main (F := Bits))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

theorem frame_kernel6 : Cert.quiescent_Kernel6 :=
  cast (show KeptOverBits6 = Cert.quiescent_Kernel6 by sl_kernel_rfl) fun m g _ => Cert.InProj.args_kept (F := Bits) m g

theorem frame_ideal6 : Cert.quiescent_Kernel6Ideal :=
  fun m ρ _ => Cert.InProj.args_kept m ρ

theorem frame_reference6 : Cert.quiescent_Reference6Ideal :=
  fun m ρ _ => (θ_run Cert.Reference6Ideal.defs _ _).mono
    (fun r h => ⟨fun c => (h c).2.2.2, sem_eq_zero_of_no_sems (by decide) r.2⟩) (Cert.Reference6Ideal.Value.run (F := Ideal) m ρ)

/-- From the same arguments the two programs end with the same gradients of the rows, of the gain and of the meta rows. -/
theorem same_input_gradients : Cert.algebraic_Kernel6Ideal_Reference6Ideal := fun m g m' g' _ heq => by
  refine ⟨_, _, _, Cert.InProj.run_values m g, (θ_run Cert.Reference6Ideal.defs _ _).mono (fun r h c => ?_)
    (Cert.Reference6Ideal.Value.run (F := Ideal) m' g')⟩
  obtain ⟨e0, e1, e2, e3, e4, e5⟩ := heq c
  obtain ⟨h41, h20, h38, hargs⟩ := h c
  refine ⟨(h41.trans (Cert.Reference6Ideal.Read.val_main_v41_eq m' c)).trans ?_, (h20.trans (Cert.Reference6Ideal.Read.val_main_v20_eq _ _ _ _)).trans ?_,
    (h38.trans (Cert.Reference6Ideal.Read.val_main_v38_eq m' c)).trans ?_, hargs⟩
  · rw [e0, e1, e2, e3, e4, e5]
  · rw [e0, e1, e3, e4]
  · rw [e0, e1, e2, e3, e4, e5]

/-! ## Forward through the input projection -/

/-- The idealized seventh program leaves its arguments as they were, over bit patterns. -/
def KeptOverBits7 : Prop :=
  ∀ (m : (ℓ : Loc Cert.Kernel7Ideal.nD Cert.Kernel7Ideal.τ Cert.Kernel7Ideal.sig) → Buf (Elt Bits) ℓ) (g : Dev Cert.Kernel7Ideal.nD → PrngReg), True →
    θ_run (Cert.Kernel7Ideal.defs (F := Bits)) (onTc (τ := Cert.Kernel7Ideal.τ) (Cert.Kernel7Ideal.main (F := Bits))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

theorem frame_kernel7 : Cert.quiescent_Kernel7 :=
  cast (show KeptOverBits7 = Cert.quiescent_Kernel7 by sl_kernel_rfl) fun m g _ => Cert.Kernel7Ideal.Gen.frame (F := Bits) m g

theorem frame_ideal7 : Cert.quiescent_Kernel7Ideal :=
  fun m ρ _ => Cert.Kernel7Ideal.Gen.frame m ρ

theorem frame_reference7 : Cert.quiescent_Reference7Ideal :=
  fun m ρ _ => (θ_run Cert.Reference7Ideal.defs _ _).mono
    (fun r h => ⟨fun c => (h c).2.2, sem_eq_zero_of_no_sems (by decide) r.2⟩) (Cert.Reference7Ideal.Value.run (F := Ideal) m ρ)

/-- From the same arguments the two programs end with the same normalized rows and the same projection of them. -/
theorem same_projected_rows : Cert.algebraic_Kernel7Ideal_Reference7Ideal := fun m g m' g' _ heq => by
  refine ⟨_, _, Cert.Kernel7Ideal.Value.run_blocks m g, (θ_run Cert.Reference7Ideal.defs _ _).mono (fun r h c => ?_)
    (Cert.Reference7Ideal.Value.run (F := Ideal) m' g')⟩
  obtain ⟨e0, e1, e2, e3⟩ := heq c
  obtain ⟨h14, h16, hargs⟩ := h c
  refine ⟨(h14.trans (Cert.Reference7Ideal.Read.val_main_v14_eq _ _ _)).trans (Eq.trans ?_ (Cert.InFwd.array3 m c).symm),
    (h16.trans (Cert.Reference7Ideal.Read.val_main_v16_eq _ _ _ _)).trans (Eq.trans ?_ (Cert.InFwd.array4 m c).symm), hargs⟩
  · rw [e0, e1, e2]
  · rw [e0, e1, e2, e3]

/-! ## Forward through the output projection -/

/-- The idealized eighth program leaves its arguments as they were, over bit patterns. -/
def KeptOverBits8 : Prop :=
  ∀ (m : (ℓ : Loc Cert.Kernel8Ideal.nD Cert.Kernel8Ideal.τ Cert.Kernel8Ideal.sig) → Buf (Elt Bits) ℓ) (g : Dev Cert.Kernel8Ideal.nD → PrngReg), True →
    θ_run (Cert.Kernel8Ideal.defs (F := Bits)) (onTc (τ := Cert.Kernel8Ideal.τ) (Cert.Kernel8Ideal.main (F := Bits))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ r.2.sem = fun _ => 0)

theorem frame_kernel8 : Cert.quiescent_Kernel8 :=
  cast (show KeptOverBits8 = Cert.quiescent_Kernel8 by sl_kernel_rfl) fun m g _ => Cert.Kernel8Ideal.Gen.frame (F := Bits) m g

theorem frame_ideal8 : Cert.quiescent_Kernel8Ideal :=
  fun m ρ _ => Cert.Kernel8Ideal.Gen.frame m ρ

theorem frame_reference8 : Cert.quiescent_Reference8Ideal :=
  fun m ρ _ => (θ_run Cert.Reference8Ideal.defs _ _).mono
    (fun r h => ⟨fun c => (h c).2.2.2.2, sem_eq_zero_of_no_sems (by decide) r.2⟩) (Cert.Reference8Ideal.Value.run (F := Ideal) m ρ)

/-- From the same arguments the two programs end with the same gated rows, the same projection of them, the same residual stream and
    the same normalized rows of it. -/
theorem same_mixed_rows : Cert.algebraic_Kernel8Ideal_Reference8Ideal := fun m g m' g' _ heq => by
  refine ⟨_, _, _, _, Cert.Kernel8Ideal.Value.run_blocks m g, (θ_run Cert.Reference8Ideal.defs _ _).mono (fun r h c => ?_)
    (Cert.Reference8Ideal.Value.run (F := Ideal) m' g')⟩
  obtain ⟨e0, e1, e2, e3, e4, e5, e6, e7⟩ := heq c
  obtain ⟨h44, h30, h43, h57, hargs⟩ := h c
  refine ⟨(h44.trans (Cert.Reference8Ideal.Read.val_main_v44_eq m' c)).trans (Eq.trans ?_ (Cert.OutFwd.array8 m c).symm),
    (h30.trans (Cert.Reference8Ideal.Read.val_main_v30_eq m' c)).trans (Eq.trans ?_ (Cert.OutFwd.array9 m c).symm),
    (h43.trans (Cert.Reference8Ideal.Read.val_main_v43_eq m' c)).trans (Eq.trans ?_ (Cert.OutFwd.array10 m c).symm),
    (h57.trans (Cert.Reference8Ideal.Read.val_main_v57_eq m' c)).trans (Eq.trans ?_ (Cert.OutFwd.array11 m c).symm), hargs⟩
  · rw [e0, e1, e2, e3]
  · rw [e0, e1, e2, e3, e4]
  · rw [e0, e1, e2, e3, e4, e5, e6]
  · rw [e0, e1, e2, e3, e4, e5, e6, e7]

/-! ## Forward through the two convolutions -/

/-- The idealized ninth program leaves its arguments as they were, over bit patterns. -/
def KeptOverBits9 : Prop :=
  ∀ (m : (ℓ : Loc Cert.Kernel9Ideal.nD Cert.Kernel9Ideal.τ Cert.Kernel9Ideal.sig) → Buf (Elt Bits) ℓ) (g : Dev Cert.Kernel9Ideal.nD → PrngReg), True →
    θ_run (Cert.Kernel9Ideal.defs (F := Bits)) (onTc (τ := Cert.Kernel9Ideal.τ) (Cert.Kernel9Ideal.main (F := Bits))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

theorem frame_kernel9 : Cert.quiescent_Kernel9 :=
  cast (show KeptOverBits9 = Cert.quiescent_Kernel9 by sl_kernel_rfl) fun m g _ => Cert.MixFwd.args_kept (F := Bits) m g

theorem frame_ideal9 : Cert.quiescent_Kernel9Ideal :=
  fun m ρ _ => Cert.MixFwd.args_kept m ρ

theorem frame_reference9 : Cert.quiescent_Reference9Ideal :=
  fun m ρ _ => (θ_run Cert.Reference9Ideal.defs _ _).mono
    (fun r h => ⟨fun c => (h c).2.2, sem_eq_zero_of_no_sems (by decide) r.2⟩) (Cert.Reference9Ideal.Value.run (F := Ideal) m ρ)

/-- From the same arguments the two programs end with the same gated three-tap convolution and the same 31-tap convolution. -/
theorem same_convolutions : Cert.algebraic_Kernel9Ideal_Reference9Ideal := fun m g m' g' _ heq => by
  refine ⟨_, _, Cert.MixFwd.run_values m g, (θ_run Cert.Reference9Ideal.defs _ _).mono (fun r h c => ?_)
    (Cert.Reference9Ideal.Value.run (F := Ideal) m' g')⟩
  obtain ⟨e0, e1, e2, e3⟩ := heq c
  obtain ⟨h30, h46, hargs⟩ := h c
  refine ⟨(h30.trans (Cert.Reference9Ideal.Read.val_main_v30_eq _ _)).trans ?_, (h46.trans (Cert.Reference9Ideal.Read.val_main_v46_eq _ _ _)).trans ?_, hargs⟩
  · rw [e0, e1]
  · rw [e0, e2, e3]

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts, Cert.Pre_finite.Gen.facts, Cert.Pre_finite4.Gen.facts,
  frame_kernel, frame_ideal, frame_reference, frame_kernel2, frame_ideal2, frame_reference2,
  frame_kernel3, frame_ideal3, fun m g _ => frame_ideal3 m g trivial, frame_reference3, fun m g _ => frame_reference3 m g trivial,
  frame_kernel4, frame_ideal4, fun m g _ => frame_ideal4 m g trivial, frame_reference4, fun m g _ => frame_reference4 m g trivial,
  frame_kernel5, frame_ideal5, frame_reference5, frame_kernel6, frame_ideal6, frame_reference6,
  frame_kernel7, frame_ideal7, frame_reference7, frame_kernel8, frame_ideal8, frame_reference8,
  frame_kernel9, frame_ideal9, frame_reference9,
  trivial, same_gradients, trivial, same_loss_gradients, trivial, same_projection_gradients,
  trivial, same_activation_gradients, trivial, same_ffn_gradients, trivial, same_input_gradients,
  trivial, same_projected_rows, trivial, same_mixed_rows, trivial, same_convolutions⟩

end Cert.Proof

end
